-- ==== Defs.lean ====
def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_Ff2B (m : (ℓ : Loc Cert.Ff2B.nD Cert.Ff2B.τ Cert.Ff2B.sig) → Buf (Elt Bits) ℓ) : Prop :=
  True

def Pre_Ff2BIdeal (m : (ℓ : Loc Cert.Ff2BIdeal.nD Cert.Ff2BIdeal.τ Cert.Ff2BIdeal.sig) → Buf (Elt Ideal) ℓ) : Prop :=
  True

def Pre_Ff2BRefIdeal (m : (ℓ : Loc Cert.Ff2BRefIdeal.nD Cert.Ff2BRefIdeal.τ Cert.Ff2BRefIdeal.sig) → Buf (Elt Ideal) ℓ) : Prop :=
  True

def Pre_Ff2W (m : (ℓ : Loc Cert.Ff2W.nD Cert.Ff2W.τ Cert.Ff2W.sig) → Buf (Elt Bits) ℓ) : Prop :=
  True

def Pre_Ff2WIdeal (m : (ℓ : Loc Cert.Ff2WIdeal.nD Cert.Ff2WIdeal.τ Cert.Ff2WIdeal.sig) → Buf (Elt Ideal) ℓ) : Prop :=
  True

def Pre_Ff2WRefIdeal (m : (ℓ : Loc Cert.Ff2WRefIdeal.nD Cert.Ff2WRefIdeal.τ Cert.Ff2WRefIdeal.sig) → Buf (Elt Ideal) ℓ) : Prop :=
  True

def Pre_Ff1B (m : (ℓ : Loc Cert.Ff1B.nD Cert.Ff1B.τ Cert.Ff1B.sig) → Buf (Elt Bits) ℓ) : Prop :=
  True

def Pre_Ff1BIdeal (m : (ℓ : Loc Cert.Ff1BIdeal.nD Cert.Ff1BIdeal.τ Cert.Ff1BIdeal.sig) → Buf (Elt Ideal) ℓ) : Prop :=
  True

def Pre_Ff1BRefIdeal (m : (ℓ : Loc Cert.Ff1BRefIdeal.nD Cert.Ff1BRefIdeal.τ Cert.Ff1BRefIdeal.sig) → Buf (Elt Ideal) ℓ) : Prop :=
  True

def Pre_Ff1W (m : (ℓ : Loc Cert.Ff1W.nD Cert.Ff1W.τ Cert.Ff1W.sig) → Buf (Elt Bits) ℓ) : Prop :=
  True

def Pre_Ff1WIdeal (m : (ℓ : Loc Cert.Ff1WIdeal.nD Cert.Ff1WIdeal.τ Cert.Ff1WIdeal.sig) → Buf (Elt Ideal) ℓ) : Prop :=
  True

def Pre_Ff1WRefIdeal (m : (ℓ : Loc Cert.Ff1WRefIdeal.nD Cert.Ff1WRefIdeal.τ Cert.Ff1WRefIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def Pre_GmlpB (m : (ℓ : Loc Cert.GmlpB.nD Cert.GmlpB.τ Cert.GmlpB.sig) → Buf (Elt Bits) ℓ) : Prop :=
  True

def Pre_GmlpBIdeal (m : (ℓ : Loc Cert.GmlpBIdeal.nD Cert.GmlpBIdeal.τ Cert.GmlpBIdeal.sig) → Buf (Elt Ideal) ℓ) : Prop :=
  True

def Pre_GmlpBRefIdeal (m : (ℓ : Loc Cert.GmlpBRefIdeal.nD Cert.GmlpBRefIdeal.τ Cert.GmlpBRefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_BranchBRefIdeal (m : (ℓ : Loc Cert.BranchBRefIdeal.nD Cert.BranchBRefIdeal.τ Cert.BranchBRefIdeal.sig) → Buf (Elt Ideal) ℓ) : Prop :=
  True

def Pre_BranchW (m : (ℓ : Loc Cert.BranchW.nD Cert.BranchW.τ Cert.BranchW.sig) → Buf (Elt Bits) ℓ) : Prop :=
  True

def Pre_BranchWIdeal (m : (ℓ : Loc Cert.BranchWIdeal.nD Cert.BranchWIdeal.τ Cert.BranchWIdeal.sig) → Buf (Elt Ideal) ℓ) : Prop :=
  True

def Pre_BranchWRefIdeal (m : (ℓ : Loc Cert.BranchWRefIdeal.nD Cert.BranchWRefIdeal.τ Cert.BranchWRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_ConvLnB (m : (ℓ : Loc Cert.ConvLnB.nD Cert.ConvLnB.τ Cert.ConvLnB.sig) → Buf (Elt Bits) ℓ) : Prop :=
  True

def Pre_ConvLnBIdeal (m : (ℓ : Loc Cert.ConvLnBIdeal.nD Cert.ConvLnBIdeal.τ Cert.ConvLnBIdeal.sig) → Buf (Elt Ideal) ℓ) : Prop :=
  True

def Pre_ConvLnBRefIdeal (m : (ℓ : Loc Cert.ConvLnBRefIdeal.nD Cert.ConvLnBRefIdeal.τ Cert.ConvLnBRefIdeal.sig) → Buf (Elt Ideal) ℓ) : Prop :=
  True

def Pre_S5GluB (m : (ℓ : Loc Cert.S5GluB.nD Cert.S5GluB.τ Cert.S5GluB.sig) → Buf (Elt Bits) ℓ) : Prop :=
  True

def Pre_S5GluBIdeal (m : (ℓ : Loc Cert.S5GluBIdeal.nD Cert.S5GluBIdeal.τ Cert.S5GluBIdeal.sig) → Buf (Elt Ideal) ℓ) : Prop :=
  True

def Pre_S5GluBRefIdeal (m : (ℓ : Loc Cert.S5GluBRefIdeal.nD Cert.S5GluBRefIdeal.τ Cert.S5GluBRefIdeal.sig) → Buf (Elt Ideal) ℓ) : Prop :=
  True

def Pre_S5ActB (m : (ℓ : Loc Cert.S5ActB.nD Cert.S5ActB.τ Cert.S5ActB.sig) → Buf (Elt Bits) ℓ) : Prop :=
  True

def Pre_S5ActBIdeal (m : (ℓ : Loc Cert.S5ActBIdeal.nD Cert.S5ActBIdeal.τ Cert.S5ActBIdeal.sig) → Buf (Elt Ideal) ℓ) : Prop :=
  True

def Pre_S5ActBRefIdeal (m : (ℓ : Loc Cert.S5ActBRefIdeal.nD Cert.S5ActBRefIdeal.τ Cert.S5ActBRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_GateP (m : (ℓ : Loc Cert.GateP.nD Cert.GateP.τ Cert.GateP.sig) → Buf (Elt Bits) ℓ) : Prop :=
  True

def Pre_GatePIdeal (m : (ℓ : Loc Cert.GatePIdeal.nD Cert.GatePIdeal.τ Cert.GatePIdeal.sig) → Buf (Elt Ideal) ℓ) : Prop :=
  True

def Pre_GatePRefIdeal (m : (ℓ : Loc Cert.GatePRefIdeal.nD Cert.GatePRefIdeal.τ Cert.GatePRefIdeal.sig) → Buf (Elt Ideal) ℓ) : Prop :=
  True

def Pre_BranchP (m : (ℓ : Loc Cert.BranchP.nD Cert.BranchP.τ Cert.BranchP.sig) → Buf (Elt Bits) ℓ) : Prop :=
  True

def Pre_BranchPIdeal (m : (ℓ : Loc Cert.BranchPIdeal.nD Cert.BranchPIdeal.τ Cert.BranchPIdeal.sig) → Buf (Elt Ideal) ℓ) : Prop :=
  True

def Pre_BranchPRefIdeal (m : (ℓ : Loc Cert.BranchPRefIdeal.nD Cert.BranchPRefIdeal.τ Cert.BranchPRefIdeal.sig) → Buf (Elt Ideal) ℓ) : Prop :=
  True

def Pre_OutP (m : (ℓ : Loc Cert.OutP.nD Cert.OutP.τ Cert.OutP.sig) → Buf (Elt Bits) ℓ) : Prop :=
  True

def Pre_OutPIdeal (m : (ℓ : Loc Cert.OutPIdeal.nD Cert.OutPIdeal.τ Cert.OutPIdeal.sig) → Buf (Elt Ideal) ℓ) : Prop :=
  True

def Pre_OutPRefIdeal (m : (ℓ : Loc Cert.OutPRefIdeal.nD Cert.OutPRefIdeal.τ Cert.OutPRefIdeal.sig) → Buf (Elt Ideal) ℓ) : Prop :=
  True

def Pre_Ff1P (m : (ℓ : Loc Cert.Ff1P.nD Cert.Ff1P.τ Cert.Ff1P.sig) → Buf (Elt Bits) ℓ) : Prop :=
  True

def Pre_Ff1PIdeal (m : (ℓ : Loc Cert.Ff1PIdeal.nD Cert.Ff1PIdeal.τ Cert.Ff1PIdeal.sig) → Buf (Elt Ideal) ℓ) : Prop :=
  True

def Pre_Ff1PRefIdeal (m : (ℓ : Loc Cert.Ff1PRefIdeal.nD Cert.Ff1PRefIdeal.τ Cert.Ff1PRefIdeal.sig) → Buf (Elt Ideal) ℓ) : Prop :=
  True

def Pre_Ff2P (m : (ℓ : Loc Cert.Ff2P.nD Cert.Ff2P.τ Cert.Ff2P.sig) → Buf (Elt Bits) ℓ) : Prop :=
  True

def Pre_Ff2PIdeal (m : (ℓ : Loc Cert.Ff2PIdeal.nD Cert.Ff2PIdeal.τ Cert.Ff2PIdeal.sig) → Buf (Elt Ideal) ℓ) : Prop :=
  True

def Pre_Ff2PRefIdeal (m : (ℓ : Loc Cert.Ff2PRefIdeal.nD Cert.Ff2PRefIdeal.τ Cert.Ff2PRefIdeal.sig) → Buf (Elt Ideal) ℓ) : Prop :=
  True

def Pre_GluP (m : (ℓ : Loc Cert.GluP.nD Cert.GluP.τ Cert.GluP.sig) → Buf (Elt Bits) ℓ) : Prop :=
  True

def Pre_GluPIdeal (m : (ℓ : Loc Cert.GluPIdeal.nD Cert.GluPIdeal.τ Cert.GluPIdeal.sig) → Buf (Elt Ideal) ℓ) : Prop :=
  True

def Pre_GluPRefIdeal (m : (ℓ : Loc Cert.GluPRefIdeal.nD Cert.GluPRefIdeal.τ Cert.GluPRefIdeal.sig) → Buf (Elt Ideal) ℓ) : Prop :=
  True

def Pre_GluPB (m : (ℓ : Loc Cert.GluPB.nD Cert.GluPB.τ Cert.GluPB.sig) → Buf (Elt Bits) ℓ) : Prop :=
  True

def Pre_GluPBIdeal (m : (ℓ : Loc Cert.GluPBIdeal.nD Cert.GluPBIdeal.τ Cert.GluPBIdeal.sig) → Buf (Elt Ideal) ℓ) : Prop :=
  True

def Pre_GluPBRefIdeal (m : (ℓ : Loc Cert.GluPBRefIdeal.nD Cert.GluPBRefIdeal.τ Cert.GluPBRefIdeal.sig) → Buf (Elt Ideal) ℓ) : Prop :=
  True

def Pre_GluPW (m : (ℓ : Loc Cert.GluPW.nD Cert.GluPW.τ Cert.GluPW.sig) → Buf (Elt Bits) ℓ) : Prop :=
  True

def Pre_GluPWIdeal (m : (ℓ : Loc Cert.GluPWIdeal.nD Cert.GluPWIdeal.τ Cert.GluPWIdeal.sig) → Buf (Elt Ideal) ℓ) : Prop :=
  True

def Pre_GluPWRefIdeal (m : (ℓ : Loc Cert.GluPWRefIdeal.nD Cert.GluPWRefIdeal.τ Cert.GluPWRefIdeal.sig) → Buf (Elt Ideal) ℓ) : Prop :=
  True

def Pre_MergeP (m : (ℓ : Loc Cert.MergeP.nD Cert.MergeP.τ Cert.MergeP.sig) → Buf (Elt Bits) ℓ) : Prop :=
  True

def Pre_MergePIdeal (m : (ℓ : Loc Cert.MergePIdeal.nD Cert.MergePIdeal.τ Cert.MergePIdeal.sig) → Buf (Elt Ideal) ℓ) : Prop :=
  True

def Pre_MergePRefIdeal (m : (ℓ : Loc Cert.MergePRefIdeal.nD Cert.MergePRefIdeal.τ Cert.MergePRefIdeal.sig) → Buf (Elt Ideal) ℓ) : Prop :=
  True

def Pre_S5ActP (m : (ℓ : Loc Cert.S5ActP.nD Cert.S5ActP.τ Cert.S5ActP.sig) → Buf (Elt Bits) ℓ) : Prop :=
  True

def Pre_S5ActPIdeal (m : (ℓ : Loc Cert.S5ActPIdeal.nD Cert.S5ActPIdeal.τ Cert.S5ActPIdeal.sig) → Buf (Elt Ideal) ℓ) : Prop :=
  True

def Pre_S5ActPRefIdeal (m : (ℓ : Loc Cert.S5ActPRefIdeal.nD Cert.S5ActPRefIdeal.τ Cert.S5ActPRefIdeal.sig) → Buf (Elt Ideal) ℓ) : Prop :=
  True

def Pre_S5GluP (m : (ℓ : Loc Cert.S5GluP.nD Cert.S5GluP.τ Cert.S5GluP.sig) → Buf (Elt Bits) ℓ) : Prop :=
  True

def Pre_S5GluPIdeal (m : (ℓ : Loc Cert.S5GluPIdeal.nD Cert.S5GluPIdeal.τ Cert.S5GluPIdeal.sig) → Buf (Elt Ideal) ℓ) : Prop :=
  True

def Pre_S5GluPRefIdeal (m : (ℓ : Loc Cert.S5GluPRefIdeal.nD Cert.S5GluPRefIdeal.τ Cert.S5GluPRefIdeal.sig) → Buf (Elt Ideal) ℓ) : Prop :=
  True

def Pre_Norm1P (m : (ℓ : Loc Cert.Norm1P.nD Cert.Norm1P.τ Cert.Norm1P.sig) → Buf (Elt Bits) ℓ) : Prop :=
  True

def Pre_Norm1PIdeal (m : (ℓ : Loc Cert.Norm1PIdeal.nD Cert.Norm1PIdeal.τ Cert.Norm1PIdeal.sig) → Buf (Elt Ideal) ℓ) : Prop :=
  True

def Pre_Norm1PRefIdeal (m : (ℓ : Loc Cert.Norm1PRefIdeal.nD Cert.Norm1PRefIdeal.τ Cert.Norm1PRefIdeal.sig) → Buf (Elt Ideal) ℓ) : Prop :=
  True

def Pre_ResidP (m : (ℓ : Loc Cert.ResidP.nD Cert.ResidP.τ Cert.ResidP.sig) → Buf (Elt Bits) ℓ) : Prop :=
  True

def Pre_ResidPIdeal (m : (ℓ : Loc Cert.ResidPIdeal.nD Cert.ResidPIdeal.τ Cert.ResidPIdeal.sig) → Buf (Elt Ideal) ℓ) : Prop :=
  True

def Pre_ResidPRefIdeal (m : (ℓ : Loc Cert.ResidPRefIdeal.nD Cert.ResidPRefIdeal.τ Cert.ResidPRefIdeal.sig) → Buf (Elt Ideal) ℓ) : Prop :=
  True

def Pre_GmlpP (m : (ℓ : Loc Cert.GmlpP.nD Cert.GmlpP.τ Cert.GmlpP.sig) → Buf (Elt Bits) ℓ) : Prop :=
  True

def Pre_GmlpPIdeal (m : (ℓ : Loc Cert.GmlpPIdeal.nD Cert.GmlpPIdeal.τ Cert.GmlpPIdeal.sig) → Buf (Elt Ideal) ℓ) : Prop :=
  True

def Pre_GmlpPRefIdeal (m : (ℓ : Loc Cert.GmlpPRefIdeal.nD Cert.GmlpPRefIdeal.τ Cert.GmlpPRefIdeal.sig) → Buf (Elt Ideal) ℓ) : Prop :=
  True

def Pre_S5InP (m : (ℓ : Loc Cert.S5InP.nD Cert.S5InP.τ Cert.S5InP.sig) → Buf (Elt Bits) ℓ) : Prop :=
  True

def Pre_S5InPIdeal (m : (ℓ : Loc Cert.S5InPIdeal.nD Cert.S5InPIdeal.τ Cert.S5InPIdeal.sig) → Buf (Elt Ideal) ℓ) : Prop :=
  True

def Pre_S5InPRefIdeal (m : (ℓ : Loc Cert.S5InPRefIdeal.nD Cert.S5InPRefIdeal.τ Cert.S5InPRefIdeal.sig) → Buf (Elt Ideal) ℓ) : Prop :=
  True

def Pre_S5OutP (m : (ℓ : Loc Cert.S5OutP.nD Cert.S5OutP.τ Cert.S5OutP.sig) → Buf (Elt Bits) ℓ) : Prop :=
  True

def Pre_S5OutPIdeal (m : (ℓ : Loc Cert.S5OutPIdeal.nD Cert.S5OutPIdeal.τ Cert.S5OutPIdeal.sig) → Buf (Elt Ideal) ℓ) : Prop :=
  True

def Pre_S5OutPRefIdeal (m : (ℓ : Loc Cert.S5OutPRefIdeal.nD Cert.S5OutPRefIdeal.τ Cert.S5OutPRefIdeal.sig) → Buf (Elt Ideal) ℓ) : Prop :=
  True

def Pre_S5OutA (m : (ℓ : Loc Cert.S5OutA.nD Cert.S5OutA.τ Cert.S5OutA.sig) → Buf (Elt Bits) ℓ) : Prop :=
  True

def Pre_S5OutAIdeal (m : (ℓ : Loc Cert.S5OutAIdeal.nD Cert.S5OutAIdeal.τ Cert.S5OutAIdeal.sig) → Buf (Elt Ideal) ℓ) : Prop :=
  True

def Pre_S5OutARefIdeal (m : (ℓ : Loc Cert.S5OutARefIdeal.nD Cert.S5OutARefIdeal.τ Cert.S5OutARefIdeal.sig) → Buf (Elt Ideal) ℓ) : Prop :=
  True

def Pre_S5OutB (m : (ℓ : Loc Cert.S5OutB.nD Cert.S5OutB.τ Cert.S5OutB.sig) → Buf (Elt Bits) ℓ) : Prop :=
  True

def Pre_S5OutBIdeal (m : (ℓ : Loc Cert.S5OutBIdeal.nD Cert.S5OutBIdeal.τ Cert.S5OutBIdeal.sig) → Buf (Elt Ideal) ℓ) : Prop :=
  True

def Pre_S5OutBRefIdeal (m : (ℓ : Loc Cert.S5OutBRefIdeal.nD Cert.S5OutBRefIdeal.τ Cert.S5OutBRefIdeal.sig) → Buf (Elt Ideal) ℓ) : Prop :=
  True

def Pre_S5OutW (m : (ℓ : Loc Cert.S5OutW.nD Cert.S5OutW.τ Cert.S5OutW.sig) → Buf (Elt Bits) ℓ) : Prop :=
  True

def Pre_S5OutWIdeal (m : (ℓ : Loc Cert.S5OutWIdeal.nD Cert.S5OutWIdeal.τ Cert.S5OutWIdeal.sig) → Buf (Elt Ideal) ℓ) : Prop :=
  True

def Pre_S5OutWRefIdeal (m : (ℓ : Loc Cert.S5OutWRefIdeal.nD Cert.S5OutWRefIdeal.τ Cert.S5OutWRefIdeal.sig) → Buf (Elt Ideal) ℓ) : Prop :=
  True

def Pre_S5InB (m : (ℓ : Loc Cert.S5InB.nD Cert.S5InB.τ Cert.S5InB.sig) → Buf (Elt Bits) ℓ) : Prop :=
  True

def Pre_S5InBIdeal (m : (ℓ : Loc Cert.S5InBIdeal.nD Cert.S5InBIdeal.τ Cert.S5InBIdeal.sig) → Buf (Elt Ideal) ℓ) : Prop :=
  True

def Pre_S5InBRefIdeal (m : (ℓ : Loc Cert.S5InBRefIdeal.nD Cert.S5InBRefIdeal.τ Cert.S5InBRefIdeal.sig) → Buf (Elt Ideal) ℓ) : Prop :=
  True

def Pre_S5InW (m : (ℓ : Loc Cert.S5InW.nD Cert.S5InW.τ Cert.S5InW.sig) → Buf (Elt Bits) ℓ) : Prop :=
  True

def Pre_S5InWIdeal (m : (ℓ : Loc Cert.S5InWIdeal.nD Cert.S5InWIdeal.τ Cert.S5InWIdeal.sig) → Buf (Elt Ideal) ℓ) : Prop :=
  True

def Pre_S5InWRefIdeal (m : (ℓ : Loc Cert.S5InWRefIdeal.nD Cert.S5InWRefIdeal.τ Cert.S5InWRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_SiluP (m : (ℓ : Loc Cert.SiluP.nD Cert.SiluP.τ Cert.SiluP.sig) → Buf (Elt Bits) ℓ) : Prop :=
  True

def Pre_SiluPIdeal (m : (ℓ : Loc Cert.SiluPIdeal.nD Cert.SiluPIdeal.τ Cert.SiluPIdeal.sig) → Buf (Elt Ideal) ℓ) : Prop :=
  True

def Pre_SiluPRefIdeal (m : (ℓ : Loc Cert.SiluPRefIdeal.nD Cert.SiluPRefIdeal.τ Cert.SiluPRefIdeal.sig) → Buf (Elt Ideal) ℓ) : Prop :=
  True

def Pre_ModP (m : (ℓ : Loc Cert.ModP.nD Cert.ModP.τ Cert.ModP.sig) → Buf (Elt Bits) ℓ) : Prop :=
  True

def Pre_ModPIdeal (m : (ℓ : Loc Cert.ModPIdeal.nD Cert.ModPIdeal.τ Cert.ModPIdeal.sig) → Buf (Elt Ideal) ℓ) : Prop :=
  True

def Pre_ModPRefIdeal (m : (ℓ : Loc Cert.ModPRefIdeal.nD Cert.ModPRefIdeal.τ Cert.ModPRefIdeal.sig) → Buf (Elt Ideal) ℓ) : Prop :=
  True

def Pre_ModW (m : (ℓ : Loc Cert.ModW.nD Cert.ModW.τ Cert.ModW.sig) → Buf (Elt Bits) ℓ) : Prop :=
  True

def Pre_ModWIdeal (m : (ℓ : Loc Cert.ModWIdeal.nD Cert.ModWIdeal.τ Cert.ModWIdeal.sig) → Buf (Elt Ideal) ℓ) : Prop :=
  True

def Pre_ModWRefIdeal (m : (ℓ : Loc Cert.ModWRefIdeal.nD Cert.ModWRefIdeal.τ Cert.ModWRefIdeal.sig) → Buf (Elt Ideal) ℓ) : Prop :=
  True

def Pre_ModBG (m : (ℓ : Loc Cert.ModBG.nD Cert.ModBG.τ Cert.ModBG.sig) → Buf (Elt Bits) ℓ) : Prop :=
  True

def Pre_ModBGIdeal (m : (ℓ : Loc Cert.ModBGIdeal.nD Cert.ModBGIdeal.τ Cert.ModBGIdeal.sig) → Buf (Elt Ideal) ℓ) : Prop :=
  True

def Pre_ModBGRefIdeal (m : (ℓ : Loc Cert.ModBGRefIdeal.nD Cert.ModBGRefIdeal.τ Cert.ModBGRefIdeal.sig) → Buf (Elt Ideal) ℓ) : Prop :=
  True

def Pre_ModB (m : (ℓ : Loc Cert.ModB.nD Cert.ModB.τ Cert.ModB.sig) → Buf (Elt Bits) ℓ) : Prop :=
  True

def Pre_ModBIdeal (m : (ℓ : Loc Cert.ModBIdeal.nD Cert.ModBIdeal.τ Cert.ModBIdeal.sig) → Buf (Elt Ideal) ℓ) : Prop :=
  True

def Pre_ModBRefIdeal (m : (ℓ : Loc Cert.ModBRefIdeal.nD Cert.ModBRefIdeal.τ Cert.ModBRefIdeal.sig) → Buf (Elt Ideal) ℓ) : Prop :=
  True

def Pre_ModBA (m : (ℓ : Loc Cert.ModBA.nD Cert.ModBA.τ Cert.ModBA.sig) → Buf (Elt Bits) ℓ) : Prop :=
  True

def Pre_ModBAIdeal (m : (ℓ : Loc Cert.ModBAIdeal.nD Cert.ModBAIdeal.τ Cert.ModBAIdeal.sig) → Buf (Elt Ideal) ℓ) : Prop :=
  True

def Pre_ModBARefIdeal (m : (ℓ : Loc Cert.ModBARefIdeal.nD Cert.ModBARefIdeal.τ Cert.ModBARefIdeal.sig) → Buf (Elt Ideal) ℓ) : Prop :=
  True

def Pre_SiluB (m : (ℓ : Loc Cert.SiluB.nD Cert.SiluB.τ Cert.SiluB.sig) → Buf (Elt Bits) ℓ) : Prop :=
  True

def Pre_SiluBIdeal (m : (ℓ : Loc Cert.SiluBIdeal.nD Cert.SiluBIdeal.τ Cert.SiluBIdeal.sig) → Buf (Elt Ideal) ℓ) : Prop :=
  True

def Pre_SiluBRefIdeal (m : (ℓ : Loc Cert.SiluBRefIdeal.nD Cert.SiluBRefIdeal.τ Cert.SiluBRefIdeal.sig) → Buf (Elt Ideal) ℓ) : Prop :=
  True

def Pre_AdMod (m : (ℓ : Loc Cert.AdMod.nD Cert.AdMod.τ Cert.AdMod.sig) → Buf (Elt Bits) ℓ) : Prop :=
  True

def Pre_AdModIdeal (m : (ℓ : Loc Cert.AdModIdeal.nD Cert.AdModIdeal.τ Cert.AdModIdeal.sig) → Buf (Elt Ideal) ℓ) : Prop :=
  True

def Pre_AdModRefIdeal (m : (ℓ : Loc Cert.AdModRefIdeal.nD Cert.AdModRefIdeal.τ Cert.AdModRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdGlu (m : (ℓ : Loc Cert.AdGlu.nD Cert.AdGlu.τ Cert.AdGlu.sig) → Buf (Elt Bits) ℓ) : Prop :=
  True

def Pre_AdGluIdeal (m : (ℓ : Loc Cert.AdGluIdeal.nD Cert.AdGluIdeal.τ Cert.AdGluIdeal.sig) → Buf (Elt Ideal) ℓ) : Prop :=
  True

def Pre_AdGluRefIdeal (m : (ℓ : Loc Cert.AdGluRefIdeal.nD Cert.AdGluRefIdeal.τ Cert.AdGluRefIdeal.sig) → Buf (Elt Ideal) ℓ) : Prop :=
  True

def Pre_AdBr (m : (ℓ : Loc Cert.AdBr.nD Cert.AdBr.τ Cert.AdBr.sig) → Buf (Elt Bits) ℓ) : Prop :=
  True

def Pre_AdBrIdeal (m : (ℓ : Loc Cert.AdBrIdeal.nD Cert.AdBrIdeal.τ Cert.AdBrIdeal.sig) → Buf (Elt Ideal) ℓ) : Prop :=
  True

def Pre_AdBrRefIdeal (m : (ℓ : Loc Cert.AdBrRefIdeal.nD Cert.AdBrRefIdeal.τ Cert.AdBrRefIdeal.sig) → Buf (Elt Ideal) ℓ) : Prop :=
  True

def Pre_AdFf (m : (ℓ : Loc Cert.AdFf.nD Cert.AdFf.τ Cert.AdFf.sig) → Buf (Elt Bits) ℓ) : Prop :=
  True

def Pre_AdFfIdeal (m : (ℓ : Loc Cert.AdFfIdeal.nD Cert.AdFfIdeal.τ Cert.AdFfIdeal.sig) → Buf (Elt Ideal) ℓ) : Prop :=
  True

def Pre_AdFfRefIdeal (m : (ℓ : Loc Cert.AdFfRefIdeal.nD Cert.AdFfRefIdeal.τ Cert.AdFfRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3)
      ∧ r.2.mem ((c.tc : Thread Cert.MergeB.nD Cert.MergeB.τ).loc Cert.MergeB.main_arg4) = m ((c.tc : Thread Cert.MergeB.nD Cert.MergeB.τ).loc Cert.MergeB.main_arg4)
      ∧ r.2.mem ((c.tc : Thread Cert.MergeB.nD Cert.MergeB.τ).loc Cert.MergeB.main_arg5) = m ((c.tc : Thread Cert.MergeB.nD Cert.MergeB.τ).loc Cert.MergeB.main_arg5)
      ∧ r.2.mem ((c.tc : Thread Cert.MergeB.nD Cert.MergeB.τ).loc Cert.MergeB.main_arg6) = m ((c.tc : Thread Cert.MergeB.nD Cert.MergeB.τ).loc Cert.MergeB.main_arg6))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
      ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
      ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5)
      ∧ r.2.mem ((c.tc : Thread Cert.MergeBIdeal.nD Cert.MergeBIdeal.τ).loc Cert.MergeBIdeal.main_arg6) = m ((c.tc : Thread Cert.MergeBIdeal.nD Cert.MergeBIdeal.τ).loc Cert.MergeBIdeal.main_arg6))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3)
      ∧ r.2.mem ((c.tc : Thread Cert.MergeBRefIdeal.nD Cert.MergeBRefIdeal.τ).loc Cert.MergeBRefIdeal.main_arg4) = m ((c.tc : Thread Cert.MergeBRefIdeal.nD Cert.MergeBRefIdeal.τ).loc Cert.MergeBRefIdeal.main_arg4)
      ∧ r.2.mem ((c.tc : Thread Cert.MergeBRefIdeal.nD Cert.MergeBRefIdeal.τ).loc Cert.MergeBRefIdeal.main_arg5) = m ((c.tc : Thread Cert.MergeBRefIdeal.nD Cert.MergeBRefIdeal.τ).loc Cert.MergeBRefIdeal.main_arg5)
      ∧ r.2.mem ((c.tc : Thread Cert.MergeBRefIdeal.nD Cert.MergeBRefIdeal.τ).loc Cert.MergeBRefIdeal.main_arg6) = m ((c.tc : Thread Cert.MergeBRefIdeal.nD Cert.MergeBRefIdeal.τ).loc Cert.MergeBRefIdeal.main_arg6))
      ∧ r.2.sem = fun _ => 0)

def quiescent_Ff2B [hFf2B : Cert.Ff2B.Facts] : Prop :=
  ∀ (m : (ℓ : Loc Cert.Ff2B.nD Cert.Ff2B.τ Cert.Ff2B.sig) → Buf (Elt Bits) ℓ) (g : Dev Cert.Ff2B.nD → PrngReg), Pre_Ff2B m →
    θ_run (Cert.Ff2B.defs (F := Bits)) (onTc (τ := Cert.Ff2B.τ) (Cert.Ff2B.main (F := Bits))) ⟨m, fun _ => 0, g⟩ (fun r => (∀ c : Dev Cert.Ff2B.nD,
      r.2.mem ((c.tc : Thread Cert.Ff2B.nD Cert.Ff2B.τ).loc Cert.Ff2B.main_arg0) = m ((c.tc : Thread Cert.Ff2B.nD Cert.Ff2B.τ).loc Cert.Ff2B.main_arg0)
      ∧ r.2.mem ((c.tc : Thread Cert.Ff2B.nD Cert.Ff2B.τ).loc Cert.Ff2B.main_arg1) = m ((c.tc : Thread Cert.Ff2B.nD Cert.Ff2B.τ).loc Cert.Ff2B.main_arg1)
      ∧ r.2.mem ((c.tc : Thread Cert.Ff2B.nD Cert.Ff2B.τ).loc Cert.Ff2B.main_arg2) = m ((c.tc : Thread Cert.Ff2B.nD Cert.Ff2B.τ).loc Cert.Ff2B.main_arg2))
      ∧ r.2.sem = fun _ => 0)

def quiescent_Ff2BIdeal [hFf2BIdeal : Cert.Ff2BIdeal.Facts] : Prop :=
  ∀ (m : (ℓ : Loc Cert.Ff2BIdeal.nD Cert.Ff2BIdeal.τ Cert.Ff2BIdeal.sig) → Buf (Elt Ideal) ℓ) (g : Dev Cert.Ff2BIdeal.nD → PrngReg), Pre_Ff2BIdeal m →
    θ_run (Cert.Ff2BIdeal.defs (F := Ideal)) (onTc (τ := Cert.Ff2BIdeal.τ) (Cert.Ff2BIdeal.main (F := Ideal))) ⟨m, fun _ => 0, g⟩ (fun r => (∀ c : Dev Cert.Ff2BIdeal.nD,
      r.2.mem ((c.tc : Thread Cert.Ff2BIdeal.nD Cert.Ff2BIdeal.τ).loc Cert.Ff2BIdeal.main_arg0) = m ((c.tc : Thread Cert.Ff2BIdeal.nD Cert.Ff2BIdeal.τ).loc Cert.Ff2BIdeal.main_arg0)
      ∧ r.2.mem ((c.tc : Thread Cert.Ff2BIdeal.nD Cert.Ff2BIdeal.τ).loc Cert.Ff2BIdeal.main_arg1) = m ((c.tc : Thread Cert.Ff2BIdeal.nD Cert.Ff2BIdeal.τ).loc Cert.Ff2BIdeal.main_arg1)
      ∧ r.2.mem ((c.tc : Thread Cert.Ff2BIdeal.nD Cert.Ff2BIdeal.τ).loc Cert.Ff2BIdeal.main_arg2) = m ((c.tc : Thread Cert.Ff2BIdeal.nD Cert.Ff2BIdeal.τ).loc Cert.Ff2BIdeal.main_arg2))
      ∧ r.2.sem = fun _ => 0)

def quiescent_Ff2BRefIdeal [hFf2BRefIdeal : Cert.Ff2BRefIdeal.Facts] : Prop :=
  ∀ (m : (ℓ : Loc Cert.Ff2BRefIdeal.nD Cert.Ff2BRefIdeal.τ Cert.Ff2BRefIdeal.sig) → Buf (Elt Ideal) ℓ) (g : Dev Cert.Ff2BRefIdeal.nD → PrngReg), Pre_Ff2BRefIdeal m →
    θ_run (Cert.Ff2BRefIdeal.defs (F := Ideal)) (onTc (τ := Cert.Ff2BRefIdeal.τ) (Cert.Ff2BRefIdeal.main (F := Ideal))) ⟨m, fun _ => 0, g⟩ (fun r => (∀ c : Dev Cert.Ff2BRefIdeal.nD,
      r.2.mem ((c.tc : Thread Cert.Ff2BRefIdeal.nD Cert.Ff2BRefIdeal.τ).loc Cert.Ff2BRefIdeal.main_arg0) = m ((c.tc : Thread Cert.Ff2BRefIdeal.nD Cert.Ff2BRefIdeal.τ).loc Cert.Ff2BRefIdeal.main_arg0)
      ∧ r.2.mem ((c.tc : Thread Cert.Ff2BRefIdeal.nD Cert.Ff2BRefIdeal.τ).loc Cert.Ff2BRefIdeal.main_arg1) = m ((c.tc : Thread Cert.Ff2BRefIdeal.nD Cert.Ff2BRefIdeal.τ).loc Cert.Ff2BRefIdeal.main_arg1)
      ∧ r.2.mem ((c.tc : Thread Cert.Ff2BRefIdeal.nD Cert.Ff2BRefIdeal.τ).loc Cert.Ff2BRefIdeal.main_arg2) = m ((c.tc : Thread Cert.Ff2BRefIdeal.nD Cert.Ff2BRefIdeal.τ).loc Cert.Ff2BRefIdeal.main_arg2))
      ∧ r.2.sem = fun _ => 0)

def quiescent_Ff2W [hFf2W : Cert.Ff2W.Facts] : Prop :=
  ∀ (m : (ℓ : Loc Cert.Ff2W.nD Cert.Ff2W.τ Cert.Ff2W.sig) → Buf (Elt Bits) ℓ) (g : Dev Cert.Ff2W.nD → PrngReg), Pre_Ff2W m →
    θ_run (Cert.Ff2W.defs (F := Bits)) (onTc (τ := Cert.Ff2W.τ) (Cert.Ff2W.main (F := Bits))) ⟨m, fun _ => 0, g⟩ (fun r => (∀ c : Dev Cert.Ff2W.nD,
      r.2.mem ((c.tc : Thread Cert.Ff2W.nD Cert.Ff2W.τ).loc Cert.Ff2W.main_arg0) = m ((c.tc : Thread Cert.Ff2W.nD Cert.Ff2W.τ).loc Cert.Ff2W.main_arg0)
      ∧ r.2.mem ((c.tc : Thread Cert.Ff2W.nD Cert.Ff2W.τ).loc Cert.Ff2W.main_arg1) = m ((c.tc : Thread Cert.Ff2W.nD Cert.Ff2W.τ).loc Cert.Ff2W.main_arg1))
      ∧ r.2.sem = fun _ => 0)

def quiescent_Ff2WIdeal [hFf2WIdeal : Cert.Ff2WIdeal.Facts] : Prop :=
  ∀ (m : (ℓ : Loc Cert.Ff2WIdeal.nD Cert.Ff2WIdeal.τ Cert.Ff2WIdeal.sig) → Buf (Elt Ideal) ℓ) (g : Dev Cert.Ff2WIdeal.nD → PrngReg), Pre_Ff2WIdeal m →
    θ_run (Cert.Ff2WIdeal.defs (F := Ideal)) (onTc (τ := Cert.Ff2WIdeal.τ) (Cert.Ff2WIdeal.main (F := Ideal))) ⟨m, fun _ => 0, g⟩ (fun r => (∀ c : Dev Cert.Ff2WIdeal.nD,
      r.2.mem ((c.tc : Thread Cert.Ff2WIdeal.nD Cert.Ff2WIdeal.τ).loc Cert.Ff2WIdeal.main_arg0) = m ((c.tc : Thread Cert.Ff2WIdeal.nD Cert.Ff2WIdeal.τ).loc Cert.Ff2WIdeal.main_arg0)
      ∧ r.2.mem ((c.tc : Thread Cert.Ff2WIdeal.nD Cert.Ff2WIdeal.τ).loc Cert.Ff2WIdeal.main_arg1) = m ((c.tc : Thread Cert.Ff2WIdeal.nD Cert.Ff2WIdeal.τ).loc Cert.Ff2WIdeal.main_arg1))
      ∧ r.2.sem = fun _ => 0)

def quiescent_Ff2WRefIdeal [hFf2WRefIdeal : Cert.Ff2WRefIdeal.Facts] : Prop :=
  ∀ (m : (ℓ : Loc Cert.Ff2WRefIdeal.nD Cert.Ff2WRefIdeal.τ Cert.Ff2WRefIdeal.sig) → Buf (Elt Ideal) ℓ) (g : Dev Cert.Ff2WRefIdeal.nD → PrngReg), Pre_Ff2WRefIdeal m →
    θ_run (Cert.Ff2WRefIdeal.defs (F := Ideal)) (onTc (τ := Cert.Ff2WRefIdeal.τ) (Cert.Ff2WRefIdeal.main (F := Ideal))) ⟨m, fun _ => 0, g⟩ (fun r => (∀ c : Dev Cert.Ff2WRefIdeal.nD,
      r.2.mem ((c.tc : Thread Cert.Ff2WRefIdeal.nD Cert.Ff2WRefIdeal.τ).loc Cert.Ff2WRefIdeal.main_arg0) = m ((c.tc : Thread Cert.Ff2WRefIdeal.nD Cert.Ff2WRefIdeal.τ).loc Cert.Ff2WRefIdeal.main_arg0)
      ∧ r.2.mem ((c.tc : Thread Cert.Ff2WRefIdeal.nD Cert.Ff2WRefIdeal.τ).loc Cert.Ff2WRefIdeal.main_arg1) = m ((c.tc : Thread Cert.Ff2WRefIdeal.nD Cert.Ff2WRefIdeal.τ).loc Cert.Ff2WRefIdeal.main_arg1))
      ∧ r.2.sem = fun _ => 0)

def quiescent_Ff1B [hFf1B : Cert.Ff1B.Facts] : Prop :=
  ∀ (m : (ℓ : Loc Cert.Ff1B.nD Cert.Ff1B.τ Cert.Ff1B.sig) → Buf (Elt Bits) ℓ) (g : Dev Cert.Ff1B.nD → PrngReg), Pre_Ff1B m →
    θ_run (Cert.Ff1B.defs (F := Bits)) (onTc (τ := Cert.Ff1B.τ) (Cert.Ff1B.main (F := Bits))) ⟨m, fun _ => 0, g⟩ (fun r => (∀ c : Dev Cert.Ff1B.nD,
      r.2.mem ((c.tc : Thread Cert.Ff1B.nD Cert.Ff1B.τ).loc Cert.Ff1B.main_arg0) = m ((c.tc : Thread Cert.Ff1B.nD Cert.Ff1B.τ).loc Cert.Ff1B.main_arg0)
      ∧ r.2.mem ((c.tc : Thread Cert.Ff1B.nD Cert.Ff1B.τ).loc Cert.Ff1B.main_arg1) = m ((c.tc : Thread Cert.Ff1B.nD Cert.Ff1B.τ).loc Cert.Ff1B.main_arg1))
      ∧ r.2.sem = fun _ => 0)

def quiescent_Ff1BIdeal [hFf1BIdeal : Cert.Ff1BIdeal.Facts] : Prop :=
  ∀ (m : (ℓ : Loc Cert.Ff1BIdeal.nD Cert.Ff1BIdeal.τ Cert.Ff1BIdeal.sig) → Buf (Elt Ideal) ℓ) (g : Dev Cert.Ff1BIdeal.nD → PrngReg), Pre_Ff1BIdeal m →
    θ_run (Cert.Ff1BIdeal.defs (F := Ideal)) (onTc (τ := Cert.Ff1BIdeal.τ) (Cert.Ff1BIdeal.main (F := Ideal))) ⟨m, fun _ => 0, g⟩ (fun r => (∀ c : Dev Cert.Ff1BIdeal.nD,
      r.2.mem ((c.tc : Thread Cert.Ff1BIdeal.nD Cert.Ff1BIdeal.τ).loc Cert.Ff1BIdeal.main_arg0) = m ((c.tc : Thread Cert.Ff1BIdeal.nD Cert.Ff1BIdeal.τ).loc Cert.Ff1BIdeal.main_arg0)
      ∧ r.2.mem ((c.tc : Thread Cert.Ff1BIdeal.nD Cert.Ff1BIdeal.τ).loc Cert.Ff1BIdeal.main_arg1) = m ((c.tc : Thread Cert.Ff1BIdeal.nD Cert.Ff1BIdeal.τ).loc Cert.Ff1BIdeal.main_arg1))
      ∧ r.2.sem = fun _ => 0)

def quiescent_Ff1BRefIdeal [hFf1BRefIdeal : Cert.Ff1BRefIdeal.Facts] : Prop :=
  ∀ (m : (ℓ : Loc Cert.Ff1BRefIdeal.nD Cert.Ff1BRefIdeal.τ Cert.Ff1BRefIdeal.sig) → Buf (Elt Ideal) ℓ) (g : Dev Cert.Ff1BRefIdeal.nD → PrngReg), Pre_Ff1BRefIdeal m →
    θ_run (Cert.Ff1BRefIdeal.defs (F := Ideal)) (onTc (τ := Cert.Ff1BRefIdeal.τ) (Cert.Ff1BRefIdeal.main (F := Ideal))) ⟨m, fun _ => 0, g⟩ (fun r => (∀ c : Dev Cert.Ff1BRefIdeal.nD,
      r.2.mem ((c.tc : Thread Cert.Ff1BRefIdeal.nD Cert.Ff1BRefIdeal.τ).loc Cert.Ff1BRefIdeal.main_arg0) = m ((c.tc : Thread Cert.Ff1BRefIdeal.nD Cert.Ff1BRefIdeal.τ).loc Cert.Ff1BRefIdeal.main_arg0)
      ∧ r.2.mem ((c.tc : Thread Cert.Ff1BRefIdeal.nD Cert.Ff1BRefIdeal.τ).loc Cert.Ff1BRefIdeal.main_arg1) = m ((c.tc : Thread Cert.Ff1BRefIdeal.nD Cert.Ff1BRefIdeal.τ).loc Cert.Ff1BRefIdeal.main_arg1))
      ∧ r.2.sem = fun _ => 0)

def quiescent_Ff1W [hFf1W : Cert.Ff1W.Facts] : Prop :=
  ∀ (m : (ℓ : Loc Cert.Ff1W.nD Cert.Ff1W.τ Cert.Ff1W.sig) → Buf (Elt Bits) ℓ) (g : Dev Cert.Ff1W.nD → PrngReg), Pre_Ff1W m →
    θ_run (Cert.Ff1W.defs (F := Bits)) (onTc (τ := Cert.Ff1W.τ) (Cert.Ff1W.main (F := Bits))) ⟨m, fun _ => 0, g⟩ (fun r => (∀ c : Dev Cert.Ff1W.nD,
      r.2.mem ((c.tc : Thread Cert.Ff1W.nD Cert.Ff1W.τ).loc Cert.Ff1W.main_arg0) = m ((c.tc : Thread Cert.Ff1W.nD Cert.Ff1W.τ).loc Cert.Ff1W.main_arg0)
      ∧ r.2.mem ((c.tc : Thread Cert.Ff1W.nD Cert.Ff1W.τ).loc Cert.Ff1W.main_arg1) = m ((c.tc : Thread Cert.Ff1W.nD Cert.Ff1W.τ).loc Cert.Ff1W.main_arg1))
      ∧ r.2.sem = fun _ => 0)

def quiescent_Ff1WIdeal [hFf1WIdeal : Cert.Ff1WIdeal.Facts] : Prop :=
  ∀ (m : (ℓ : Loc Cert.Ff1WIdeal.nD Cert.Ff1WIdeal.τ Cert.Ff1WIdeal.sig) → Buf (Elt Ideal) ℓ) (g : Dev Cert.Ff1WIdeal.nD → PrngReg), Pre_Ff1WIdeal m →
    θ_run (Cert.Ff1WIdeal.defs (F := Ideal)) (onTc (τ := Cert.Ff1WIdeal.τ) (Cert.Ff1WIdeal.main (F := Ideal))) ⟨m, fun _ => 0, g⟩ (fun r => (∀ c : Dev Cert.Ff1WIdeal.nD,
      r.2.mem ((c.tc : Thread Cert.Ff1WIdeal.nD Cert.Ff1WIdeal.τ).loc Cert.Ff1WIdeal.main_arg0) = m ((c.tc : Thread Cert.Ff1WIdeal.nD Cert.Ff1WIdeal.τ).loc Cert.Ff1WIdeal.main_arg0)
      ∧ r.2.mem ((c.tc : Thread Cert.Ff1WIdeal.nD Cert.Ff1WIdeal.τ).loc Cert.Ff1WIdeal.main_arg1) = m ((c.tc : Thread Cert.Ff1WIdeal.nD Cert.Ff1WIdeal.τ).loc Cert.Ff1WIdeal.main_arg1))
      ∧ r.2.sem = fun _ => 0)

def quiescent_Ff1WRefIdeal [hFf1WRefIdeal : Cert.Ff1WRefIdeal.Facts] : Prop :=
  ∀ (m : (ℓ : Loc Cert.Ff1WRefIdeal.nD Cert.Ff1WRefIdeal.τ Cert.Ff1WRefIdeal.sig) → Buf (Elt Ideal) ℓ) (g : Dev Cert.Ff1WRefIdeal.nD → PrngReg), Pre_Ff1WRefIdeal m →
    θ_run (Cert.Ff1WRefIdeal.defs (F := Ideal)) (onTc (τ := Cert.Ff1WRefIdeal.τ) (Cert.Ff1WRefIdeal.main (F := Ideal))) ⟨m, fun _ => 0, g⟩ (fun r => (∀ c : Dev Cert.Ff1WRefIdeal.nD,
      r.2.mem ((c.tc : Thread Cert.Ff1WRefIdeal.nD Cert.Ff1WRefIdeal.τ).loc Cert.Ff1WRefIdeal.main_arg0) = m ((c.tc : Thread Cert.Ff1WRefIdeal.nD Cert.Ff1WRefIdeal.τ).loc Cert.Ff1WRefIdeal.main_arg0)
      ∧ r.2.mem ((c.tc : Thread Cert.Ff1WRefIdeal.nD Cert.Ff1WRefIdeal.τ).loc Cert.Ff1WRefIdeal.main_arg1) = m ((c.tc : Thread Cert.Ff1WRefIdeal.nD Cert.Ff1WRefIdeal.τ).loc Cert.Ff1WRefIdeal.main_arg1))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1))
      ∧ r.2.sem = fun _ => 0)

def quiescent_GmlpB [hGmlpB : Cert.GmlpB.Facts] : Prop :=
  ∀ (m : (ℓ : Loc Cert.GmlpB.nD Cert.GmlpB.τ Cert.GmlpB.sig) → Buf (Elt Bits) ℓ) (g : Dev Cert.GmlpB.nD → PrngReg), Pre_GmlpB m →
    θ_run (Cert.GmlpB.defs (F := Bits)) (onTc (τ := Cert.GmlpB.τ) (Cert.GmlpB.main (F := Bits))) ⟨m, fun _ => 0, g⟩ (fun r => (∀ c : Dev Cert.GmlpB.nD,
      r.2.mem ((c.tc : Thread Cert.GmlpB.nD Cert.GmlpB.τ).loc Cert.GmlpB.main_arg0) = m ((c.tc : Thread Cert.GmlpB.nD Cert.GmlpB.τ).loc Cert.GmlpB.main_arg0)
      ∧ r.2.mem ((c.tc : Thread Cert.GmlpB.nD Cert.GmlpB.τ).loc Cert.GmlpB.main_arg1) = m ((c.tc : Thread Cert.GmlpB.nD Cert.GmlpB.τ).loc Cert.GmlpB.main_arg1)
      ∧ r.2.mem ((c.tc : Thread Cert.GmlpB.nD Cert.GmlpB.τ).loc Cert.GmlpB.main_arg2) = m ((c.tc : Thread Cert.GmlpB.nD Cert.GmlpB.τ).loc Cert.GmlpB.main_arg2)
      ∧ r.2.mem ((c.tc : Thread Cert.GmlpB.nD Cert.GmlpB.τ).loc Cert.GmlpB.main_arg3) = m ((c.tc : Thread Cert.GmlpB.nD Cert.GmlpB.τ).loc Cert.GmlpB.main_arg3)
      ∧ r.2.mem ((c.tc : Thread Cert.GmlpB.nD Cert.GmlpB.τ).loc Cert.GmlpB.main_arg4) = m ((c.tc : Thread Cert.GmlpB.nD Cert.GmlpB.τ).loc Cert.GmlpB.main_arg4)
      ∧ r.2.mem ((c.tc : Thread Cert.GmlpB.nD Cert.GmlpB.τ).loc Cert.GmlpB.main_arg5) = m ((c.tc : Thread Cert.GmlpB.nD Cert.GmlpB.τ).loc Cert.GmlpB.main_arg5))
      ∧ r.2.sem = fun _ => 0)

def quiescent_GmlpBIdeal [hGmlpBIdeal : Cert.GmlpBIdeal.Facts] : Prop :=
  ∀ (m : (ℓ : Loc Cert.GmlpBIdeal.nD Cert.GmlpBIdeal.τ Cert.GmlpBIdeal.sig) → Buf (Elt Ideal) ℓ) (g : Dev Cert.GmlpBIdeal.nD → PrngReg), Pre_GmlpBIdeal m →
    θ_run (Cert.GmlpBIdeal.defs (F := Ideal)) (onTc (τ := Cert.GmlpBIdeal.τ) (Cert.GmlpBIdeal.main (F := Ideal))) ⟨m, fun _ => 0, g⟩ (fun r => (∀ c : Dev Cert.GmlpBIdeal.nD,
      r.2.mem ((c.tc : Thread Cert.GmlpBIdeal.nD Cert.GmlpBIdeal.τ).loc Cert.GmlpBIdeal.main_arg0) = m ((c.tc : Thread Cert.GmlpBIdeal.nD Cert.GmlpBIdeal.τ).loc Cert.GmlpBIdeal.main_arg0)
      ∧ r.2.mem ((c.tc : Thread Cert.GmlpBIdeal.nD Cert.GmlpBIdeal.τ).loc Cert.GmlpBIdeal.main_arg1) = m ((c.tc : Thread Cert.GmlpBIdeal.nD Cert.GmlpBIdeal.τ).loc Cert.GmlpBIdeal.main_arg1)
      ∧ r.2.mem ((c.tc : Thread Cert.GmlpBIdeal.nD Cert.GmlpBIdeal.τ).loc Cert.GmlpBIdeal.main_arg2) = m ((c.tc : Thread Cert.GmlpBIdeal.nD Cert.GmlpBIdeal.τ).loc Cert.GmlpBIdeal.main_arg2)
      ∧ r.2.mem ((c.tc : Thread Cert.GmlpBIdeal.nD Cert.GmlpBIdeal.τ).loc Cert.GmlpBIdeal.main_arg3) = m ((c.tc : Thread Cert.GmlpBIdeal.nD Cert.GmlpBIdeal.τ).loc Cert.GmlpBIdeal.main_arg3)
      ∧ r.2.mem ((c.tc : Thread Cert.GmlpBIdeal.nD Cert.GmlpBIdeal.τ).loc Cert.GmlpBIdeal.main_arg4) = m ((c.tc : Thread Cert.GmlpBIdeal.nD Cert.GmlpBIdeal.τ).loc Cert.GmlpBIdeal.main_arg4)
      ∧ r.2.mem ((c.tc : Thread Cert.GmlpBIdeal.nD Cert.GmlpBIdeal.τ).loc Cert.GmlpBIdeal.main_arg5) = m ((c.tc : Thread Cert.GmlpBIdeal.nD Cert.GmlpBIdeal.τ).loc Cert.GmlpBIdeal.main_arg5))
      ∧ r.2.sem = fun _ => 0)

def quiescent_GmlpBRefIdeal [hGmlpBRefIdeal : Cert.GmlpBRefIdeal.Facts] : Prop :=
  ∀ (m : (ℓ : Loc Cert.GmlpBRefIdeal.nD Cert.GmlpBRefIdeal.τ Cert.GmlpBRefIdeal.sig) → Buf (Elt Ideal) ℓ) (g : Dev Cert.GmlpBRefIdeal.nD → PrngReg), Pre_GmlpBRefIdeal m →
    θ_run (Cert.GmlpBRefIdeal.defs (F := Ideal)) (onTc (τ := Cert.GmlpBRefIdeal.τ) (Cert.GmlpBRefIdeal.main (F := Ideal))) ⟨m, fun _ => 0, g⟩ (fun r => (∀ c : Dev Cert.GmlpBRefIdeal.nD,
      r.2.mem ((c.tc : Thread Cert.GmlpBRefIdeal.nD Cert.GmlpBRefIdeal.τ).loc Cert.GmlpBRefIdeal.main_arg0) = m ((c.tc : Thread Cert.GmlpBRefIdeal.nD Cert.GmlpBRefIdeal.τ).loc Cert.GmlpBRefIdeal.main_arg0)
      ∧ r.2.mem ((c.tc : Thread Cert.GmlpBRefIdeal.nD Cert.GmlpBRefIdeal.τ).loc Cert.GmlpBRefIdeal.main_arg1) = m ((c.tc : Thread Cert.GmlpBRefIdeal.nD Cert.GmlpBRefIdeal.τ).loc Cert.GmlpBRefIdeal.main_arg1)
      ∧ r.2.mem ((c.tc : Thread Cert.GmlpBRefIdeal.nD Cert.GmlpBRefIdeal.τ).loc Cert.GmlpBRefIdeal.main_arg2) = m ((c.tc : Thread Cert.GmlpBRefIdeal.nD Cert.GmlpBRefIdeal.τ).loc Cert.GmlpBRefIdeal.main_arg2)
      ∧ r.2.mem ((c.tc : Thread Cert.GmlpBRefIdeal.nD Cert.GmlpBRefIdeal.τ).loc Cert.GmlpBRefIdeal.main_arg3) = m ((c.tc : Thread Cert.GmlpBRefIdeal.nD Cert.GmlpBRefIdeal.τ).loc Cert.GmlpBRefIdeal.main_arg3)
      ∧ r.2.mem ((c.tc : Thread Cert.GmlpBRefIdeal.nD Cert.GmlpBRefIdeal.τ).loc Cert.GmlpBRefIdeal.main_arg4) = m ((c.tc : Thread Cert.GmlpBRefIdeal.nD Cert.GmlpBRefIdeal.τ).loc Cert.GmlpBRefIdeal.main_arg4)
      ∧ r.2.mem ((c.tc : Thread Cert.GmlpBRefIdeal.nD Cert.GmlpBRefIdeal.τ).loc Cert.GmlpBRefIdeal.main_arg5) = m ((c.tc : Thread Cert.GmlpBRefIdeal.nD Cert.GmlpBRefIdeal.τ).loc Cert.GmlpBRefIdeal.main_arg5))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ r.2.sem = fun _ => 0)

def quiescent_BranchBRefIdeal [hBranchBRefIdeal : Cert.BranchBRefIdeal.Facts] : Prop :=
  ∀ (m : (ℓ : Loc Cert.BranchBRefIdeal.nD Cert.BranchBRefIdeal.τ Cert.BranchBRefIdeal.sig) → Buf (Elt Ideal) ℓ) (g : Dev Cert.BranchBRefIdeal.nD → PrngReg), Pre_BranchBRefIdeal m →
    θ_run (Cert.BranchBRefIdeal.defs (F := Ideal)) (onTc (τ := Cert.BranchBRefIdeal.τ) (Cert.BranchBRefIdeal.main (F := Ideal))) ⟨m, fun _ => 0, g⟩ (fun r => (∀ c : Dev Cert.BranchBRefIdeal.nD,
      r.2.mem ((c.tc : Thread Cert.BranchBRefIdeal.nD Cert.BranchBRefIdeal.τ).loc Cert.BranchBRefIdeal.main_arg0) = m ((c.tc : Thread Cert.BranchBRefIdeal.nD Cert.BranchBRefIdeal.τ).loc Cert.BranchBRefIdeal.main_arg0)
      ∧ r.2.mem ((c.tc : Thread Cert.BranchBRefIdeal.nD Cert.BranchBRefIdeal.τ).loc Cert.BranchBRefIdeal.main_arg1) = m ((c.tc : Thread Cert.BranchBRefIdeal.nD Cert.BranchBRefIdeal.τ).loc Cert.BranchBRefIdeal.main_arg1))
      ∧ r.2.sem = fun _ => 0)

def quiescent_BranchW [hBranchW : Cert.BranchW.Facts] : Prop :=
  ∀ (m : (ℓ : Loc Cert.BranchW.nD Cert.BranchW.τ Cert.BranchW.sig) → Buf (Elt Bits) ℓ) (g : Dev Cert.BranchW.nD → PrngReg), Pre_BranchW m →
    θ_run (Cert.BranchW.defs (F := Bits)) (onTc (τ := Cert.BranchW.τ) (Cert.BranchW.main (F := Bits))) ⟨m, fun _ => 0, g⟩ (fun r => (∀ c : Dev Cert.BranchW.nD,
      r.2.mem ((c.tc : Thread Cert.BranchW.nD Cert.BranchW.τ).loc Cert.BranchW.main_arg0) = m ((c.tc : Thread Cert.BranchW.nD Cert.BranchW.τ).loc Cert.BranchW.main_arg0)
      ∧ r.2.mem ((c.tc : Thread Cert.BranchW.nD Cert.BranchW.τ).loc Cert.BranchW.main_arg1) = m ((c.tc : Thread Cert.BranchW.nD Cert.BranchW.τ).loc Cert.BranchW.main_arg1))
      ∧ r.2.sem = fun _ => 0)

def quiescent_BranchWIdeal [hBranchWIdeal : Cert.BranchWIdeal.Facts] : Prop :=
  ∀ (m : (ℓ : Loc Cert.BranchWIdeal.nD Cert.BranchWIdeal.τ Cert.BranchWIdeal.sig) → Buf (Elt Ideal) ℓ) (g : Dev Cert.BranchWIdeal.nD → PrngReg), Pre_BranchWIdeal m →
    θ_run (Cert.BranchWIdeal.defs (F := Ideal)) (onTc (τ := Cert.BranchWIdeal.τ) (Cert.BranchWIdeal.main (F := Ideal))) ⟨m, fun _ => 0, g⟩ (fun r => (∀ c : Dev Cert.BranchWIdeal.nD,
      r.2.mem ((c.tc : Thread Cert.BranchWIdeal.nD Cert.BranchWIdeal.τ).loc Cert.BranchWIdeal.main_arg0) = m ((c.tc : Thread Cert.BranchWIdeal.nD Cert.BranchWIdeal.τ).loc Cert.BranchWIdeal.main_arg0)
      ∧ r.2.mem ((c.tc : Thread Cert.BranchWIdeal.nD Cert.BranchWIdeal.τ).loc Cert.BranchWIdeal.main_arg1) = m ((c.tc : Thread Cert.BranchWIdeal.nD Cert.BranchWIdeal.τ).loc Cert.BranchWIdeal.main_arg1))
      ∧ r.2.sem = fun _ => 0)

def quiescent_BranchWRefIdeal [hBranchWRefIdeal : Cert.BranchWRefIdeal.Facts] : Prop :=
  ∀ (m : (ℓ : Loc Cert.BranchWRefIdeal.nD Cert.BranchWRefIdeal.τ Cert.BranchWRefIdeal.sig) → Buf (Elt Ideal) ℓ) (g : Dev Cert.BranchWRefIdeal.nD → PrngReg), Pre_BranchWRefIdeal m →
    θ_run (Cert.BranchWRefIdeal.defs (F := Ideal)) (onTc (τ := Cert.BranchWRefIdeal.τ) (Cert.BranchWRefIdeal.main (F := Ideal))) ⟨m, fun _ => 0, g⟩ (fun r => (∀ c : Dev Cert.BranchWRefIdeal.nD,
      r.2.mem ((c.tc : Thread Cert.BranchWRefIdeal.nD Cert.BranchWRefIdeal.τ).loc Cert.BranchWRefIdeal.main_arg0) = m ((c.tc : Thread Cert.BranchWRefIdeal.nD Cert.BranchWRefIdeal.τ).loc Cert.BranchWRefIdeal.main_arg0)
      ∧ r.2.mem ((c.tc : Thread Cert.BranchWRefIdeal.nD Cert.BranchWRefIdeal.τ).loc Cert.BranchWRefIdeal.main_arg1) = m ((c.tc : Thread Cert.BranchWRefIdeal.nD Cert.BranchWRefIdeal.τ).loc Cert.BranchWRefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_ConvLnB [hConvLnB : Cert.ConvLnB.Facts] : Prop :=
  ∀ (m : (ℓ : Loc Cert.ConvLnB.nD Cert.ConvLnB.τ Cert.ConvLnB.sig) → Buf (Elt Bits) ℓ) (g : Dev Cert.ConvLnB.nD → PrngReg), Pre_ConvLnB m →
    θ_run (Cert.ConvLnB.defs (F := Bits)) (onTc (τ := Cert.ConvLnB.τ) (Cert.ConvLnB.main (F := Bits))) ⟨m, fun _ => 0, g⟩ (fun r => (∀ c : Dev Cert.ConvLnB.nD,
      r.2.mem ((c.tc : Thread Cert.ConvLnB.nD Cert.ConvLnB.τ).loc Cert.ConvLnB.main_arg0) = m ((c.tc : Thread Cert.ConvLnB.nD Cert.ConvLnB.τ).loc Cert.ConvLnB.main_arg0)
      ∧ r.2.mem ((c.tc : Thread Cert.ConvLnB.nD Cert.ConvLnB.τ).loc Cert.ConvLnB.main_arg1) = m ((c.tc : Thread Cert.ConvLnB.nD Cert.ConvLnB.τ).loc Cert.ConvLnB.main_arg1)
      ∧ r.2.mem ((c.tc : Thread Cert.ConvLnB.nD Cert.ConvLnB.τ).loc Cert.ConvLnB.main_arg2) = m ((c.tc : Thread Cert.ConvLnB.nD Cert.ConvLnB.τ).loc Cert.ConvLnB.main_arg2)
      ∧ r.2.mem ((c.tc : Thread Cert.ConvLnB.nD Cert.ConvLnB.τ).loc Cert.ConvLnB.main_arg3) = m ((c.tc : Thread Cert.ConvLnB.nD Cert.ConvLnB.τ).loc Cert.ConvLnB.main_arg3))
      ∧ r.2.sem = fun _ => 0)

def quiescent_ConvLnBIdeal [hConvLnBIdeal : Cert.ConvLnBIdeal.Facts] : Prop :=
  ∀ (m : (ℓ : Loc Cert.ConvLnBIdeal.nD Cert.ConvLnBIdeal.τ Cert.ConvLnBIdeal.sig) → Buf (Elt Ideal) ℓ) (g : Dev Cert.ConvLnBIdeal.nD → PrngReg), Pre_ConvLnBIdeal m →
    θ_run (Cert.ConvLnBIdeal.defs (F := Ideal)) (onTc (τ := Cert.ConvLnBIdeal.τ) (Cert.ConvLnBIdeal.main (F := Ideal))) ⟨m, fun _ => 0, g⟩ (fun r => (∀ c : Dev Cert.ConvLnBIdeal.nD,
      r.2.mem ((c.tc : Thread Cert.ConvLnBIdeal.nD Cert.ConvLnBIdeal.τ).loc Cert.ConvLnBIdeal.main_arg0) = m ((c.tc : Thread Cert.ConvLnBIdeal.nD Cert.ConvLnBIdeal.τ).loc Cert.ConvLnBIdeal.main_arg0)
      ∧ r.2.mem ((c.tc : Thread Cert.ConvLnBIdeal.nD Cert.ConvLnBIdeal.τ).loc Cert.ConvLnBIdeal.main_arg1) = m ((c.tc : Thread Cert.ConvLnBIdeal.nD Cert.ConvLnBIdeal.τ).loc Cert.ConvLnBIdeal.main_arg1)
      ∧ r.2.mem ((c.tc : Thread Cert.ConvLnBIdeal.nD Cert.ConvLnBIdeal.τ).loc Cert.ConvLnBIdeal.main_arg2) = m ((c.tc : Thread Cert.ConvLnBIdeal.nD Cert.ConvLnBIdeal.τ).loc Cert.ConvLnBIdeal.main_arg2)
      ∧ r.2.mem ((c.tc : Thread Cert.ConvLnBIdeal.nD Cert.ConvLnBIdeal.τ).loc Cert.ConvLnBIdeal.main_arg3) = m ((c.tc : Thread Cert.ConvLnBIdeal.nD Cert.ConvLnBIdeal.τ).loc Cert.ConvLnBIdeal.main_arg3))
      ∧ r.2.sem = fun _ => 0)

def quiescent_ConvLnBRefIdeal [hConvLnBRefIdeal : Cert.ConvLnBRefIdeal.Facts] : Prop :=
  ∀ (m : (ℓ : Loc Cert.ConvLnBRefIdeal.nD Cert.ConvLnBRefIdeal.τ Cert.ConvLnBRefIdeal.sig) → Buf (Elt Ideal) ℓ) (g : Dev Cert.ConvLnBRefIdeal.nD → PrngReg), Pre_ConvLnBRefIdeal m →
    θ_run (Cert.ConvLnBRefIdeal.defs (F := Ideal)) (onTc (τ := Cert.ConvLnBRefIdeal.τ) (Cert.ConvLnBRefIdeal.main (F := Ideal))) ⟨m, fun _ => 0, g⟩ (fun r => (∀ c : Dev Cert.ConvLnBRefIdeal.nD,
      r.2.mem ((c.tc : Thread Cert.ConvLnBRefIdeal.nD Cert.ConvLnBRefIdeal.τ).loc Cert.ConvLnBRefIdeal.main_arg0) = m ((c.tc : Thread Cert.ConvLnBRefIdeal.nD Cert.ConvLnBRefIdeal.τ).loc Cert.ConvLnBRefIdeal.main_arg0)
      ∧ r.2.mem ((c.tc : Thread Cert.ConvLnBRefIdeal.nD Cert.ConvLnBRefIdeal.τ).loc Cert.ConvLnBRefIdeal.main_arg1) = m ((c.tc : Thread Cert.ConvLnBRefIdeal.nD Cert.ConvLnBRefIdeal.τ).loc Cert.ConvLnBRefIdeal.main_arg1)
      ∧ r.2.mem ((c.tc : Thread Cert.ConvLnBRefIdeal.nD Cert.ConvLnBRefIdeal.τ).loc Cert.ConvLnBRefIdeal.main_arg2) = m ((c.tc : Thread Cert.ConvLnBRefIdeal.nD Cert.ConvLnBRefIdeal.τ).loc Cert.ConvLnBRefIdeal.main_arg2)
      ∧ r.2.mem ((c.tc : Thread Cert.ConvLnBRefIdeal.nD Cert.ConvLnBRefIdeal.τ).loc Cert.ConvLnBRefIdeal.main_arg3) = m ((c.tc : Thread Cert.ConvLnBRefIdeal.nD Cert.ConvLnBRefIdeal.τ).loc Cert.ConvLnBRefIdeal.main_arg3))
      ∧ r.2.sem = fun _ => 0)

def quiescent_S5GluB [hS5GluB : Cert.S5GluB.Facts] : Prop :=
  ∀ (m : (ℓ : Loc Cert.S5GluB.nD Cert.S5GluB.τ Cert.S5GluB.sig) → Buf (Elt Bits) ℓ) (g : Dev Cert.S5GluB.nD → PrngReg), Pre_S5GluB m →
    θ_run (Cert.S5GluB.defs (F := Bits)) (onTc (τ := Cert.S5GluB.τ) (Cert.S5GluB.main (F := Bits))) ⟨m, fun _ => 0, g⟩ (fun r => (∀ c : Dev Cert.S5GluB.nD,
      r.2.mem ((c.tc : Thread Cert.S5GluB.nD Cert.S5GluB.τ).loc Cert.S5GluB.main_arg0) = m ((c.tc : Thread Cert.S5GluB.nD Cert.S5GluB.τ).loc Cert.S5GluB.main_arg0)
      ∧ r.2.mem ((c.tc : Thread Cert.S5GluB.nD Cert.S5GluB.τ).loc Cert.S5GluB.main_arg1) = m ((c.tc : Thread Cert.S5GluB.nD Cert.S5GluB.τ).loc Cert.S5GluB.main_arg1))
      ∧ r.2.sem = fun _ => 0)

def quiescent_S5GluBIdeal [hS5GluBIdeal : Cert.S5GluBIdeal.Facts] : Prop :=
  ∀ (m : (ℓ : Loc Cert.S5GluBIdeal.nD Cert.S5GluBIdeal.τ Cert.S5GluBIdeal.sig) → Buf (Elt Ideal) ℓ) (g : Dev Cert.S5GluBIdeal.nD → PrngReg), Pre_S5GluBIdeal m →
    θ_run (Cert.S5GluBIdeal.defs (F := Ideal)) (onTc (τ := Cert.S5GluBIdeal.τ) (Cert.S5GluBIdeal.main (F := Ideal))) ⟨m, fun _ => 0, g⟩ (fun r => (∀ c : Dev Cert.S5GluBIdeal.nD,
      r.2.mem ((c.tc : Thread Cert.S5GluBIdeal.nD Cert.S5GluBIdeal.τ).loc Cert.S5GluBIdeal.main_arg0) = m ((c.tc : Thread Cert.S5GluBIdeal.nD Cert.S5GluBIdeal.τ).loc Cert.S5GluBIdeal.main_arg0)
      ∧ r.2.mem ((c.tc : Thread Cert.S5GluBIdeal.nD Cert.S5GluBIdeal.τ).loc Cert.S5GluBIdeal.main_arg1) = m ((c.tc : Thread Cert.S5GluBIdeal.nD Cert.S5GluBIdeal.τ).loc Cert.S5GluBIdeal.main_arg1))
      ∧ r.2.sem = fun _ => 0)

def quiescent_S5GluBRefIdeal [hS5GluBRefIdeal : Cert.S5GluBRefIdeal.Facts] : Prop :=
  ∀ (m : (ℓ : Loc Cert.S5GluBRefIdeal.nD Cert.S5GluBRefIdeal.τ Cert.S5GluBRefIdeal.sig) → Buf (Elt Ideal) ℓ) (g : Dev Cert.S5GluBRefIdeal.nD → PrngReg), Pre_S5GluBRefIdeal m →
    θ_run (Cert.S5GluBRefIdeal.defs (F := Ideal)) (onTc (τ := Cert.S5GluBRefIdeal.τ) (Cert.S5GluBRefIdeal.main (F := Ideal))) ⟨m, fun _ => 0, g⟩ (fun r => (∀ c : Dev Cert.S5GluBRefIdeal.nD,
      r.2.mem ((c.tc : Thread Cert.S5GluBRefIdeal.nD Cert.S5GluBRefIdeal.τ).loc Cert.S5GluBRefIdeal.main_arg0) = m ((c.tc : Thread Cert.S5GluBRefIdeal.nD Cert.S5GluBRefIdeal.τ).loc Cert.S5GluBRefIdeal.main_arg0)
      ∧ r.2.mem ((c.tc : Thread Cert.S5GluBRefIdeal.nD Cert.S5GluBRefIdeal.τ).loc Cert.S5GluBRefIdeal.main_arg1) = m ((c.tc : Thread Cert.S5GluBRefIdeal.nD Cert.S5GluBRefIdeal.τ).loc Cert.S5GluBRefIdeal.main_arg1))
      ∧ r.2.sem = fun _ => 0)

def quiescent_S5ActB [hS5ActB : Cert.S5ActB.Facts] : Prop :=
  ∀ (m : (ℓ : Loc Cert.S5ActB.nD Cert.S5ActB.τ Cert.S5ActB.sig) → Buf (Elt Bits) ℓ) (g : Dev Cert.S5ActB.nD → PrngReg), Pre_S5ActB m →
    θ_run (Cert.S5ActB.defs (F := Bits)) (onTc (τ := Cert.S5ActB.τ) (Cert.S5ActB.main (F := Bits))) ⟨m, fun _ => 0, g⟩ (fun r => (∀ c : Dev Cert.S5ActB.nD,
      r.2.mem ((c.tc : Thread Cert.S5ActB.nD Cert.S5ActB.τ).loc Cert.S5ActB.main_arg0) = m ((c.tc : Thread Cert.S5ActB.nD Cert.S5ActB.τ).loc Cert.S5ActB.main_arg0)
      ∧ r.2.mem ((c.tc : Thread Cert.S5ActB.nD Cert.S5ActB.τ).loc Cert.S5ActB.main_arg1) = m ((c.tc : Thread Cert.S5ActB.nD Cert.S5ActB.τ).loc Cert.S5ActB.main_arg1)
      ∧ r.2.mem ((c.tc : Thread Cert.S5ActB.nD Cert.S5ActB.τ).loc Cert.S5ActB.main_arg2) = m ((c.tc : Thread Cert.S5ActB.nD Cert.S5ActB.τ).loc Cert.S5ActB.main_arg2)
      ∧ r.2.mem ((c.tc : Thread Cert.S5ActB.nD Cert.S5ActB.τ).loc Cert.S5ActB.main_arg3) = m ((c.tc : Thread Cert.S5ActB.nD Cert.S5ActB.τ).loc Cert.S5ActB.main_arg3))
      ∧ r.2.sem = fun _ => 0)

def quiescent_S5ActBIdeal [hS5ActBIdeal : Cert.S5ActBIdeal.Facts] : Prop :=
  ∀ (m : (ℓ : Loc Cert.S5ActBIdeal.nD Cert.S5ActBIdeal.τ Cert.S5ActBIdeal.sig) → Buf (Elt Ideal) ℓ) (g : Dev Cert.S5ActBIdeal.nD → PrngReg), Pre_S5ActBIdeal m →
    θ_run (Cert.S5ActBIdeal.defs (F := Ideal)) (onTc (τ := Cert.S5ActBIdeal.τ) (Cert.S5ActBIdeal.main (F := Ideal))) ⟨m, fun _ => 0, g⟩ (fun r => (∀ c : Dev Cert.S5ActBIdeal.nD,
      r.2.mem ((c.tc : Thread Cert.S5ActBIdeal.nD Cert.S5ActBIdeal.τ).loc Cert.S5ActBIdeal.main_arg0) = m ((c.tc : Thread Cert.S5ActBIdeal.nD Cert.S5ActBIdeal.τ).loc Cert.S5ActBIdeal.main_arg0)
      ∧ r.2.mem ((c.tc : Thread Cert.S5ActBIdeal.nD Cert.S5ActBIdeal.τ).loc Cert.S5ActBIdeal.main_arg1) = m ((c.tc : Thread Cert.S5ActBIdeal.nD Cert.S5ActBIdeal.τ).loc Cert.S5ActBIdeal.main_arg1)
      ∧ r.2.mem ((c.tc : Thread Cert.S5ActBIdeal.nD Cert.S5ActBIdeal.τ).loc Cert.S5ActBIdeal.main_arg2) = m ((c.tc : Thread Cert.S5ActBIdeal.nD Cert.S5ActBIdeal.τ).loc Cert.S5ActBIdeal.main_arg2)
      ∧ r.2.mem ((c.tc : Thread Cert.S5ActBIdeal.nD Cert.S5ActBIdeal.τ).loc Cert.S5ActBIdeal.main_arg3) = m ((c.tc : Thread Cert.S5ActBIdeal.nD Cert.S5ActBIdeal.τ).loc Cert.S5ActBIdeal.main_arg3))
      ∧ r.2.sem = fun _ => 0)

def quiescent_S5ActBRefIdeal [hS5ActBRefIdeal : Cert.S5ActBRefIdeal.Facts] : Prop :=
  ∀ (m : (ℓ : Loc Cert.S5ActBRefIdeal.nD Cert.S5ActBRefIdeal.τ Cert.S5ActBRefIdeal.sig) → Buf (Elt Ideal) ℓ) (g : Dev Cert.S5ActBRefIdeal.nD → PrngReg), Pre_S5ActBRefIdeal m →
    θ_run (Cert.S5ActBRefIdeal.defs (F := Ideal)) (onTc (τ := Cert.S5ActBRefIdeal.τ) (Cert.S5ActBRefIdeal.main (F := Ideal))) ⟨m, fun _ => 0, g⟩ (fun r => (∀ c : Dev Cert.S5ActBRefIdeal.nD,
      r.2.mem ((c.tc : Thread Cert.S5ActBRefIdeal.nD Cert.S5ActBRefIdeal.τ).loc Cert.S5ActBRefIdeal.main_arg0) = m ((c.tc : Thread Cert.S5ActBRefIdeal.nD Cert.S5ActBRefIdeal.τ).loc Cert.S5ActBRefIdeal.main_arg0)
      ∧ r.2.mem ((c.tc : Thread Cert.S5ActBRefIdeal.nD Cert.S5ActBRefIdeal.τ).loc Cert.S5ActBRefIdeal.main_arg1) = m ((c.tc : Thread Cert.S5ActBRefIdeal.nD Cert.S5ActBRefIdeal.τ).loc Cert.S5ActBRefIdeal.main_arg1)
      ∧ r.2.mem ((c.tc : Thread Cert.S5ActBRefIdeal.nD Cert.S5ActBRefIdeal.τ).loc Cert.S5ActBRefIdeal.main_arg2) = m ((c.tc : Thread Cert.S5ActBRefIdeal.nD Cert.S5ActBRefIdeal.τ).loc Cert.S5ActBRefIdeal.main_arg2)
      ∧ r.2.mem ((c.tc : Thread Cert.S5ActBRefIdeal.nD Cert.S5ActBRefIdeal.τ).loc Cert.S5ActBRefIdeal.main_arg3) = m ((c.tc : Thread Cert.S5ActBRefIdeal.nD Cert.S5ActBRefIdeal.τ).loc Cert.S5ActBRefIdeal.main_arg3))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1))
      ∧ r.2.sem = fun _ => 0)

def quiescent_GateP [hGateP : Cert.GateP.Facts] : Prop :=
  ∀ (m : (ℓ : Loc Cert.GateP.nD Cert.GateP.τ Cert.GateP.sig) → Buf (Elt Bits) ℓ) (g : Dev Cert.GateP.nD → PrngReg), Pre_GateP m →
    θ_run (Cert.GateP.defs (F := Bits)) (onTc (τ := Cert.GateP.τ) (Cert.GateP.main (F := Bits))) ⟨m, fun _ => 0, g⟩ (fun r => (∀ c : Dev Cert.GateP.nD,
      r.2.mem ((c.tc : Thread Cert.GateP.nD Cert.GateP.τ).loc Cert.GateP.main_arg0) = m ((c.tc : Thread Cert.GateP.nD Cert.GateP.τ).loc Cert.GateP.main_arg0)
      ∧ r.2.mem ((c.tc : Thread Cert.GateP.nD Cert.GateP.τ).loc Cert.GateP.main_arg1) = m ((c.tc : Thread Cert.GateP.nD Cert.GateP.τ).loc Cert.GateP.main_arg1))
      ∧ r.2.sem = fun _ => 0)

def quiescent_GatePIdeal [hGatePIdeal : Cert.GatePIdeal.Facts] : Prop :=
  ∀ (m : (ℓ : Loc Cert.GatePIdeal.nD Cert.GatePIdeal.τ Cert.GatePIdeal.sig) → Buf (Elt Ideal) ℓ) (g : Dev Cert.GatePIdeal.nD → PrngReg), Pre_GatePIdeal m →
    θ_run (Cert.GatePIdeal.defs (F := Ideal)) (onTc (τ := Cert.GatePIdeal.τ) (Cert.GatePIdeal.main (F := Ideal))) ⟨m, fun _ => 0, g⟩ (fun r => (∀ c : Dev Cert.GatePIdeal.nD,
      r.2.mem ((c.tc : Thread Cert.GatePIdeal.nD Cert.GatePIdeal.τ).loc Cert.GatePIdeal.main_arg0) = m ((c.tc : Thread Cert.GatePIdeal.nD Cert.GatePIdeal.τ).loc Cert.GatePIdeal.main_arg0)
      ∧ r.2.mem ((c.tc : Thread Cert.GatePIdeal.nD Cert.GatePIdeal.τ).loc Cert.GatePIdeal.main_arg1) = m ((c.tc : Thread Cert.GatePIdeal.nD Cert.GatePIdeal.τ).loc Cert.GatePIdeal.main_arg1))
      ∧ r.2.sem = fun _ => 0)

def quiescent_GatePRefIdeal [hGatePRefIdeal : Cert.GatePRefIdeal.Facts] : Prop :=
  ∀ (m : (ℓ : Loc Cert.GatePRefIdeal.nD Cert.GatePRefIdeal.τ Cert.GatePRefIdeal.sig) → Buf (Elt Ideal) ℓ) (g : Dev Cert.GatePRefIdeal.nD → PrngReg), Pre_GatePRefIdeal m →
    θ_run (Cert.GatePRefIdeal.defs (F := Ideal)) (onTc (τ := Cert.GatePRefIdeal.τ) (Cert.GatePRefIdeal.main (F := Ideal))) ⟨m, fun _ => 0, g⟩ (fun r => (∀ c : Dev Cert.GatePRefIdeal.nD,
      r.2.mem ((c.tc : Thread Cert.GatePRefIdeal.nD Cert.GatePRefIdeal.τ).loc Cert.GatePRefIdeal.main_arg0) = m ((c.tc : Thread Cert.GatePRefIdeal.nD Cert.GatePRefIdeal.τ).loc Cert.GatePRefIdeal.main_arg0)
      ∧ r.2.mem ((c.tc : Thread Cert.GatePRefIdeal.nD Cert.GatePRefIdeal.τ).loc Cert.GatePRefIdeal.main_arg1) = m ((c.tc : Thread Cert.GatePRefIdeal.nD Cert.GatePRefIdeal.τ).loc Cert.GatePRefIdeal.main_arg1))
      ∧ r.2.sem = fun _ => 0)

def quiescent_BranchP [hBranchP : Cert.BranchP.Facts] : Prop :=
  ∀ (m : (ℓ : Loc Cert.BranchP.nD Cert.BranchP.τ Cert.BranchP.sig) → Buf (Elt Bits) ℓ) (g : Dev Cert.BranchP.nD → PrngReg), Pre_BranchP m →
    θ_run (Cert.BranchP.defs (F := Bits)) (onTc (τ := Cert.BranchP.τ) (Cert.BranchP.main (F := Bits))) ⟨m, fun _ => 0, g⟩ (fun r => (∀ c : Dev Cert.BranchP.nD,
      r.2.mem ((c.tc : Thread Cert.BranchP.nD Cert.BranchP.τ).loc Cert.BranchP.main_arg0) = m ((c.tc : Thread Cert.BranchP.nD Cert.BranchP.τ).loc Cert.BranchP.main_arg0)
      ∧ r.2.mem ((c.tc : Thread Cert.BranchP.nD Cert.BranchP.τ).loc Cert.BranchP.main_arg1) = m ((c.tc : Thread Cert.BranchP.nD Cert.BranchP.τ).loc Cert.BranchP.main_arg1))
      ∧ r.2.sem = fun _ => 0)

def quiescent_BranchPIdeal [hBranchPIdeal : Cert.BranchPIdeal.Facts] : Prop :=
  ∀ (m : (ℓ : Loc Cert.BranchPIdeal.nD Cert.BranchPIdeal.τ Cert.BranchPIdeal.sig) → Buf (Elt Ideal) ℓ) (g : Dev Cert.BranchPIdeal.nD → PrngReg), Pre_BranchPIdeal m →
    θ_run (Cert.BranchPIdeal.defs (F := Ideal)) (onTc (τ := Cert.BranchPIdeal.τ) (Cert.BranchPIdeal.main (F := Ideal))) ⟨m, fun _ => 0, g⟩ (fun r => (∀ c : Dev Cert.BranchPIdeal.nD,
      r.2.mem ((c.tc : Thread Cert.BranchPIdeal.nD Cert.BranchPIdeal.τ).loc Cert.BranchPIdeal.main_arg0) = m ((c.tc : Thread Cert.BranchPIdeal.nD Cert.BranchPIdeal.τ).loc Cert.BranchPIdeal.main_arg0)
      ∧ r.2.mem ((c.tc : Thread Cert.BranchPIdeal.nD Cert.BranchPIdeal.τ).loc Cert.BranchPIdeal.main_arg1) = m ((c.tc : Thread Cert.BranchPIdeal.nD Cert.BranchPIdeal.τ).loc Cert.BranchPIdeal.main_arg1))
      ∧ r.2.sem = fun _ => 0)

def quiescent_BranchPRefIdeal [hBranchPRefIdeal : Cert.BranchPRefIdeal.Facts] : Prop :=
  ∀ (m : (ℓ : Loc Cert.BranchPRefIdeal.nD Cert.BranchPRefIdeal.τ Cert.BranchPRefIdeal.sig) → Buf (Elt Ideal) ℓ) (g : Dev Cert.BranchPRefIdeal.nD → PrngReg), Pre_BranchPRefIdeal m →
    θ_run (Cert.BranchPRefIdeal.defs (F := Ideal)) (onTc (τ := Cert.BranchPRefIdeal.τ) (Cert.BranchPRefIdeal.main (F := Ideal))) ⟨m, fun _ => 0, g⟩ (fun r => (∀ c : Dev Cert.BranchPRefIdeal.nD,
      r.2.mem ((c.tc : Thread Cert.BranchPRefIdeal.nD Cert.BranchPRefIdeal.τ).loc Cert.BranchPRefIdeal.main_arg0) = m ((c.tc : Thread Cert.BranchPRefIdeal.nD Cert.BranchPRefIdeal.τ).loc Cert.BranchPRefIdeal.main_arg0)
      ∧ r.2.mem ((c.tc : Thread Cert.BranchPRefIdeal.nD Cert.BranchPRefIdeal.τ).loc Cert.BranchPRefIdeal.main_arg1) = m ((c.tc : Thread Cert.BranchPRefIdeal.nD Cert.BranchPRefIdeal.τ).loc Cert.BranchPRefIdeal.main_arg1))
      ∧ r.2.sem = fun _ => 0)

def quiescent_OutP [hOutP : Cert.OutP.Facts] : Prop :=
  ∀ (m : (ℓ : Loc Cert.OutP.nD Cert.OutP.τ Cert.OutP.sig) → Buf (Elt Bits) ℓ) (g : Dev Cert.OutP.nD → PrngReg), Pre_OutP m →
    θ_run (Cert.OutP.defs (F := Bits)) (onTc (τ := Cert.OutP.τ) (Cert.OutP.main (F := Bits))) ⟨m, fun _ => 0, g⟩ (fun r => (∀ c : Dev Cert.OutP.nD,
      r.2.mem ((c.tc : Thread Cert.OutP.nD Cert.OutP.τ).loc Cert.OutP.main_arg0) = m ((c.tc : Thread Cert.OutP.nD Cert.OutP.τ).loc Cert.OutP.main_arg0)
      ∧ r.2.mem ((c.tc : Thread Cert.OutP.nD Cert.OutP.τ).loc Cert.OutP.main_arg1) = m ((c.tc : Thread Cert.OutP.nD Cert.OutP.τ).loc Cert.OutP.main_arg1))
      ∧ r.2.sem = fun _ => 0)

def quiescent_OutPIdeal [hOutPIdeal : Cert.OutPIdeal.Facts] : Prop :=
  ∀ (m : (ℓ : Loc Cert.OutPIdeal.nD Cert.OutPIdeal.τ Cert.OutPIdeal.sig) → Buf (Elt Ideal) ℓ) (g : Dev Cert.OutPIdeal.nD → PrngReg), Pre_OutPIdeal m →
    θ_run (Cert.OutPIdeal.defs (F := Ideal)) (onTc (τ := Cert.OutPIdeal.τ) (Cert.OutPIdeal.main (F := Ideal))) ⟨m, fun _ => 0, g⟩ (fun r => (∀ c : Dev Cert.OutPIdeal.nD,
      r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
      ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1))
      ∧ r.2.sem = fun _ => 0)

def quiescent_OutPRefIdeal [hOutPRefIdeal : Cert.OutPRefIdeal.Facts] : Prop :=
  ∀ (m : (ℓ : Loc Cert.OutPRefIdeal.nD Cert.OutPRefIdeal.τ Cert.OutPRefIdeal.sig) → Buf (Elt Ideal) ℓ) (g : Dev Cert.OutPRefIdeal.nD → PrngReg), Pre_OutPRefIdeal m →
    θ_run (Cert.OutPRefIdeal.defs (F := Ideal)) (onTc (τ := Cert.OutPRefIdeal.τ) (Cert.OutPRefIdeal.main (F := Ideal))) ⟨m, fun _ => 0, g⟩ (fun r => (∀ c : Dev Cert.OutPRefIdeal.nD,
      r.2.mem ((c.tc : Thread Cert.OutPRefIdeal.nD Cert.OutPRefIdeal.τ).loc Cert.OutPRefIdeal.main_arg0) = m ((c.tc : Thread Cert.OutPRefIdeal.nD Cert.OutPRefIdeal.τ).loc Cert.OutPRefIdeal.main_arg0)
      ∧ r.2.mem ((c.tc : Thread Cert.OutPRefIdeal.nD Cert.OutPRefIdeal.τ).loc Cert.OutPRefIdeal.main_arg1) = m ((c.tc : Thread Cert.OutPRefIdeal.nD Cert.OutPRefIdeal.τ).loc Cert.OutPRefIdeal.main_arg1))
      ∧ r.2.sem = fun _ => 0)

def quiescent_Ff1P [hFf1P : Cert.Ff1P.Facts] : Prop :=
  ∀ (m : (ℓ : Loc Cert.Ff1P.nD Cert.Ff1P.τ Cert.Ff1P.sig) → Buf (Elt Bits) ℓ) (g : Dev Cert.Ff1P.nD → PrngReg), Pre_Ff1P m →
    θ_run (Cert.Ff1P.defs (F := Bits)) (onTc (τ := Cert.Ff1P.τ) (Cert.Ff1P.main (F := Bits))) ⟨m, fun _ => 0, g⟩ (fun r => (∀ c : Dev Cert.Ff1P.nD,
      r.2.mem ((c.tc : Thread Cert.Ff1P.nD Cert.Ff1P.τ).loc Cert.Ff1P.main_arg0) = m ((c.tc : Thread Cert.Ff1P.nD Cert.Ff1P.τ).loc Cert.Ff1P.main_arg0)
      ∧ r.2.mem ((c.tc : Thread Cert.Ff1P.nD Cert.Ff1P.τ).loc Cert.Ff1P.main_arg1) = m ((c.tc : Thread Cert.Ff1P.nD Cert.Ff1P.τ).loc Cert.Ff1P.main_arg1))
      ∧ r.2.sem = fun _ => 0)

def quiescent_Ff1PIdeal [hFf1PIdeal : Cert.Ff1PIdeal.Facts] : Prop :=
  ∀ (m : (ℓ : Loc Cert.Ff1PIdeal.nD Cert.Ff1PIdeal.τ Cert.Ff1PIdeal.sig) → Buf (Elt Ideal) ℓ) (g : Dev Cert.Ff1PIdeal.nD → PrngReg), Pre_Ff1PIdeal m →
    θ_run (Cert.Ff1PIdeal.defs (F := Ideal)) (onTc (τ := Cert.Ff1PIdeal.τ) (Cert.Ff1PIdeal.main (F := Ideal))) ⟨m, fun _ => 0, g⟩ (fun r => (∀ c : Dev Cert.Ff1PIdeal.nD,
      r.2.mem ((c.tc : Thread Cert.Ff1PIdeal.nD Cert.Ff1PIdeal.τ).loc Cert.Ff1PIdeal.main_arg0) = m ((c.tc : Thread Cert.Ff1PIdeal.nD Cert.Ff1PIdeal.τ).loc Cert.Ff1PIdeal.main_arg0)
      ∧ r.2.mem ((c.tc : Thread Cert.Ff1PIdeal.nD Cert.Ff1PIdeal.τ).loc Cert.Ff1PIdeal.main_arg1) = m ((c.tc : Thread Cert.Ff1PIdeal.nD Cert.Ff1PIdeal.τ).loc Cert.Ff1PIdeal.main_arg1))
      ∧ r.2.sem = fun _ => 0)

def quiescent_Ff1PRefIdeal [hFf1PRefIdeal : Cert.Ff1PRefIdeal.Facts] : Prop :=
  ∀ (m : (ℓ : Loc Cert.Ff1PRefIdeal.nD Cert.Ff1PRefIdeal.τ Cert.Ff1PRefIdeal.sig) → Buf (Elt Ideal) ℓ) (g : Dev Cert.Ff1PRefIdeal.nD → PrngReg), Pre_Ff1PRefIdeal m →
    θ_run (Cert.Ff1PRefIdeal.defs (F := Ideal)) (onTc (τ := Cert.Ff1PRefIdeal.τ) (Cert.Ff1PRefIdeal.main (F := Ideal))) ⟨m, fun _ => 0, g⟩ (fun r => (∀ c : Dev Cert.Ff1PRefIdeal.nD,
      r.2.mem ((c.tc : Thread Cert.Ff1PRefIdeal.nD Cert.Ff1PRefIdeal.τ).loc Cert.Ff1PRefIdeal.main_arg0) = m ((c.tc : Thread Cert.Ff1PRefIdeal.nD Cert.Ff1PRefIdeal.τ).loc Cert.Ff1PRefIdeal.main_arg0)
      ∧ r.2.mem ((c.tc : Thread Cert.Ff1PRefIdeal.nD Cert.Ff1PRefIdeal.τ).loc Cert.Ff1PRefIdeal.main_arg1) = m ((c.tc : Thread Cert.Ff1PRefIdeal.nD Cert.Ff1PRefIdeal.τ).loc Cert.Ff1PRefIdeal.main_arg1))
      ∧ r.2.sem = fun _ => 0)

def quiescent_Ff2P [hFf2P : Cert.Ff2P.Facts] : Prop :=
  ∀ (m : (ℓ : Loc Cert.Ff2P.nD Cert.Ff2P.τ Cert.Ff2P.sig) → Buf (Elt Bits) ℓ) (g : Dev Cert.Ff2P.nD → PrngReg), Pre_Ff2P m →
    θ_run (Cert.Ff2P.defs (F := Bits)) (onTc (τ := Cert.Ff2P.τ) (Cert.Ff2P.main (F := Bits))) ⟨m, fun _ => 0, g⟩ (fun r => (∀ c : Dev Cert.Ff2P.nD,
      r.2.mem ((c.tc : Thread Cert.Ff2P.nD Cert.Ff2P.τ).loc Cert.Ff2P.main_arg0) = m ((c.tc : Thread Cert.Ff2P.nD Cert.Ff2P.τ).loc Cert.Ff2P.main_arg0)
      ∧ r.2.mem ((c.tc : Thread Cert.Ff2P.nD Cert.Ff2P.τ).loc Cert.Ff2P.main_arg1) = m ((c.tc : Thread Cert.Ff2P.nD Cert.Ff2P.τ).loc Cert.Ff2P.main_arg1))
      ∧ r.2.sem = fun _ => 0)

def quiescent_Ff2PIdeal [hFf2PIdeal : Cert.Ff2PIdeal.Facts] : Prop :=
  ∀ (m : (ℓ : Loc Cert.Ff2PIdeal.nD Cert.Ff2PIdeal.τ Cert.Ff2PIdeal.sig) → Buf (Elt Ideal) ℓ) (g : Dev Cert.Ff2PIdeal.nD → PrngReg), Pre_Ff2PIdeal m →
    θ_run (Cert.Ff2PIdeal.defs (F := Ideal)) (onTc (τ := Cert.Ff2PIdeal.τ) (Cert.Ff2PIdeal.main (F := Ideal))) ⟨m, fun _ => 0, g⟩ (fun r => (∀ c : Dev Cert.Ff2PIdeal.nD,
      r.2.mem ((c.tc : Thread Cert.Ff2PIdeal.nD Cert.Ff2PIdeal.τ).loc Cert.Ff2PIdeal.main_arg0) = m ((c.tc : Thread Cert.Ff2PIdeal.nD Cert.Ff2PIdeal.τ).loc Cert.Ff2PIdeal.main_arg0)
      ∧ r.2.mem ((c.tc : Thread Cert.Ff2PIdeal.nD Cert.Ff2PIdeal.τ).loc Cert.Ff2PIdeal.main_arg1) = m ((c.tc : Thread Cert.Ff2PIdeal.nD Cert.Ff2PIdeal.τ).loc Cert.Ff2PIdeal.main_arg1))
      ∧ r.2.sem = fun _ => 0)

def quiescent_Ff2PRefIdeal [hFf2PRefIdeal : Cert.Ff2PRefIdeal.Facts] : Prop :=
  ∀ (m : (ℓ : Loc Cert.Ff2PRefIdeal.nD Cert.Ff2PRefIdeal.τ Cert.Ff2PRefIdeal.sig) → Buf (Elt Ideal) ℓ) (g : Dev Cert.Ff2PRefIdeal.nD → PrngReg), Pre_Ff2PRefIdeal m →
    θ_run (Cert.Ff2PRefIdeal.defs (F := Ideal)) (onTc (τ := Cert.Ff2PRefIdeal.τ) (Cert.Ff2PRefIdeal.main (F := Ideal))) ⟨m, fun _ => 0, g⟩ (fun r => (∀ c : Dev Cert.Ff2PRefIdeal.nD,
      r.2.mem ((c.tc : Thread Cert.Ff2PRefIdeal.nD Cert.Ff2PRefIdeal.τ).loc Cert.Ff2PRefIdeal.main_arg0) = m ((c.tc : Thread Cert.Ff2PRefIdeal.nD Cert.Ff2PRefIdeal.τ).loc Cert.Ff2PRefIdeal.main_arg0)
      ∧ r.2.mem ((c.tc : Thread Cert.Ff2PRefIdeal.nD Cert.Ff2PRefIdeal.τ).loc Cert.Ff2PRefIdeal.main_arg1) = m ((c.tc : Thread Cert.Ff2PRefIdeal.nD Cert.Ff2PRefIdeal.τ).loc Cert.Ff2PRefIdeal.main_arg1))
      ∧ r.2.sem = fun _ => 0)

def quiescent_GluP [hGluP : Cert.GluP.Facts] : Prop :=
  ∀ (m : (ℓ : Loc Cert.GluP.nD Cert.GluP.τ Cert.GluP.sig) → Buf (Elt Bits) ℓ) (g : Dev Cert.GluP.nD → PrngReg), Pre_GluP m →
    θ_run (Cert.GluP.defs (F := Bits)) (onTc (τ := Cert.GluP.τ) (Cert.GluP.main (F := Bits))) ⟨m, fun _ => 0, g⟩ (fun r => (∀ c : Dev Cert.GluP.nD,
      r.2.mem ((c.tc : Thread Cert.GluP.nD Cert.GluP.τ).loc Cert.GluP.main_arg0) = m ((c.tc : Thread Cert.GluP.nD Cert.GluP.τ).loc Cert.GluP.main_arg0)
      ∧ r.2.mem ((c.tc : Thread Cert.GluP.nD Cert.GluP.τ).loc Cert.GluP.main_arg1) = m ((c.tc : Thread Cert.GluP.nD Cert.GluP.τ).loc Cert.GluP.main_arg1))
      ∧ r.2.sem = fun _ => 0)

def quiescent_GluPIdeal [hGluPIdeal : Cert.GluPIdeal.Facts] : Prop :=
  ∀ (m : (ℓ : Loc Cert.GluPIdeal.nD Cert.GluPIdeal.τ Cert.GluPIdeal.sig) → Buf (Elt Ideal) ℓ) (g : Dev Cert.GluPIdeal.nD → PrngReg), Pre_GluPIdeal m →
    θ_run (Cert.GluPIdeal.defs (F := Ideal)) (onTc (τ := Cert.GluPIdeal.τ) (Cert.GluPIdeal.main (F := Ideal))) ⟨m, fun _ => 0, g⟩ (fun r => (∀ c : Dev Cert.GluPIdeal.nD,
      r.2.mem ((c.tc : Thread Cert.GluPIdeal.nD Cert.GluPIdeal.τ).loc Cert.GluPIdeal.main_arg0) = m ((c.tc : Thread Cert.GluPIdeal.nD Cert.GluPIdeal.τ).loc Cert.GluPIdeal.main_arg0)
      ∧ r.2.mem ((c.tc : Thread Cert.GluPIdeal.nD Cert.GluPIdeal.τ).loc Cert.GluPIdeal.main_arg1) = m ((c.tc : Thread Cert.GluPIdeal.nD Cert.GluPIdeal.τ).loc Cert.GluPIdeal.main_arg1))
      ∧ r.2.sem = fun _ => 0)

def quiescent_GluPRefIdeal [hGluPRefIdeal : Cert.GluPRefIdeal.Facts] : Prop :=
  ∀ (m : (ℓ : Loc Cert.GluPRefIdeal.nD Cert.GluPRefIdeal.τ Cert.GluPRefIdeal.sig) → Buf (Elt Ideal) ℓ) (g : Dev Cert.GluPRefIdeal.nD → PrngReg), Pre_GluPRefIdeal m →
    θ_run (Cert.GluPRefIdeal.defs (F := Ideal)) (onTc (τ := Cert.GluPRefIdeal.τ) (Cert.GluPRefIdeal.main (F := Ideal))) ⟨m, fun _ => 0, g⟩ (fun r => (∀ c : Dev Cert.GluPRefIdeal.nD,
      r.2.mem ((c.tc : Thread Cert.GluPRefIdeal.nD Cert.GluPRefIdeal.τ).loc Cert.GluPRefIdeal.main_arg0) = m ((c.tc : Thread Cert.GluPRefIdeal.nD Cert.GluPRefIdeal.τ).loc Cert.GluPRefIdeal.main_arg0)
      ∧ r.2.mem ((c.tc : Thread Cert.GluPRefIdeal.nD Cert.GluPRefIdeal.τ).loc Cert.GluPRefIdeal.main_arg1) = m ((c.tc : Thread Cert.GluPRefIdeal.nD Cert.GluPRefIdeal.τ).loc Cert.GluPRefIdeal.main_arg1))
      ∧ r.2.sem = fun _ => 0)

def quiescent_GluPB [hGluPB : Cert.GluPB.Facts] : Prop :=
  ∀ (m : (ℓ : Loc Cert.GluPB.nD Cert.GluPB.τ Cert.GluPB.sig) → Buf (Elt Bits) ℓ) (g : Dev Cert.GluPB.nD → PrngReg), Pre_GluPB m →
    θ_run (Cert.GluPB.defs (F := Bits)) (onTc (τ := Cert.GluPB.τ) (Cert.GluPB.main (F := Bits))) ⟨m, fun _ => 0, g⟩ (fun r => (∀ c : Dev Cert.GluPB.nD,
      r.2.mem ((c.tc : Thread Cert.GluPB.nD Cert.GluPB.τ).loc Cert.GluPB.main_arg0) = m ((c.tc : Thread Cert.GluPB.nD Cert.GluPB.τ).loc Cert.GluPB.main_arg0)
      ∧ r.2.mem ((c.tc : Thread Cert.GluPB.nD Cert.GluPB.τ).loc Cert.GluPB.main_arg1) = m ((c.tc : Thread Cert.GluPB.nD Cert.GluPB.τ).loc Cert.GluPB.main_arg1))
      ∧ r.2.sem = fun _ => 0)

def quiescent_GluPBIdeal [hGluPBIdeal : Cert.GluPBIdeal.Facts] : Prop :=
  ∀ (m : (ℓ : Loc Cert.GluPBIdeal.nD Cert.GluPBIdeal.τ Cert.GluPBIdeal.sig) → Buf (Elt Ideal) ℓ) (g : Dev Cert.GluPBIdeal.nD → PrngReg), Pre_GluPBIdeal m →
    θ_run (Cert.GluPBIdeal.defs (F := Ideal)) (onTc (τ := Cert.GluPBIdeal.τ) (Cert.GluPBIdeal.main (F := Ideal))) ⟨m, fun _ => 0, g⟩ (fun r => (∀ c : Dev Cert.GluPBIdeal.nD,
      r.2.mem ((c.tc : Thread Cert.GluPBIdeal.nD Cert.GluPBIdeal.τ).loc Cert.GluPBIdeal.main_arg0) = m ((c.tc : Thread Cert.GluPBIdeal.nD Cert.GluPBIdeal.τ).loc Cert.GluPBIdeal.main_arg0)
      ∧ r.2.mem ((c.tc : Thread Cert.GluPBIdeal.nD Cert.GluPBIdeal.τ).loc Cert.GluPBIdeal.main_arg1) = m ((c.tc : Thread Cert.GluPBIdeal.nD Cert.GluPBIdeal.τ).loc Cert.GluPBIdeal.main_arg1))
      ∧ r.2.sem = fun _ => 0)

def quiescent_GluPBRefIdeal [hGluPBRefIdeal : Cert.GluPBRefIdeal.Facts] : Prop :=
  ∀ (m : (ℓ : Loc Cert.GluPBRefIdeal.nD Cert.GluPBRefIdeal.τ Cert.GluPBRefIdeal.sig) → Buf (Elt Ideal) ℓ) (g : Dev Cert.GluPBRefIdeal.nD → PrngReg), Pre_GluPBRefIdeal m →
    θ_run (Cert.GluPBRefIdeal.defs (F := Ideal)) (onTc (τ := Cert.GluPBRefIdeal.τ) (Cert.GluPBRefIdeal.main (F := Ideal))) ⟨m, fun _ => 0, g⟩ (fun r => (∀ c : Dev Cert.GluPBRefIdeal.nD,
      r.2.mem ((c.tc : Thread Cert.GluPBRefIdeal.nD Cert.GluPBRefIdeal.τ).loc Cert.GluPBRefIdeal.main_arg0) = m ((c.tc : Thread Cert.GluPBRefIdeal.nD Cert.GluPBRefIdeal.τ).loc Cert.GluPBRefIdeal.main_arg0)
      ∧ r.2.mem ((c.tc : Thread Cert.GluPBRefIdeal.nD Cert.GluPBRefIdeal.τ).loc Cert.GluPBRefIdeal.main_arg1) = m ((c.tc : Thread Cert.GluPBRefIdeal.nD Cert.GluPBRefIdeal.τ).loc Cert.GluPBRefIdeal.main_arg1))
      ∧ r.2.sem = fun _ => 0)

def quiescent_GluPW [hGluPW : Cert.GluPW.Facts] : Prop :=
  ∀ (m : (ℓ : Loc Cert.GluPW.nD Cert.GluPW.τ Cert.GluPW.sig) → Buf (Elt Bits) ℓ) (g : Dev Cert.GluPW.nD → PrngReg), Pre_GluPW m →
    θ_run (Cert.GluPW.defs (F := Bits)) (onTc (τ := Cert.GluPW.τ) (Cert.GluPW.main (F := Bits))) ⟨m, fun _ => 0, g⟩ (fun r => (∀ c : Dev Cert.GluPW.nD,
      r.2.mem ((c.tc : Thread Cert.GluPW.nD Cert.GluPW.τ).loc Cert.GluPW.main_arg0) = m ((c.tc : Thread Cert.GluPW.nD Cert.GluPW.τ).loc Cert.GluPW.main_arg0)
      ∧ r.2.mem ((c.tc : Thread Cert.GluPW.nD Cert.GluPW.τ).loc Cert.GluPW.main_arg1) = m ((c.tc : Thread Cert.GluPW.nD Cert.GluPW.τ).loc Cert.GluPW.main_arg1))
      ∧ r.2.sem = fun _ => 0)

def quiescent_GluPWIdeal [hGluPWIdeal : Cert.GluPWIdeal.Facts] : Prop :=
  ∀ (m : (ℓ : Loc Cert.GluPWIdeal.nD Cert.GluPWIdeal.τ Cert.GluPWIdeal.sig) → Buf (Elt Ideal) ℓ) (g : Dev Cert.GluPWIdeal.nD → PrngReg), Pre_GluPWIdeal m →
    θ_run (Cert.GluPWIdeal.defs (F := Ideal)) (onTc (τ := Cert.GluPWIdeal.τ) (Cert.GluPWIdeal.main (F := Ideal))) ⟨m, fun _ => 0, g⟩ (fun r => (∀ c : Dev Cert.GluPWIdeal.nD,
      r.2.mem ((c.tc : Thread Cert.GluPWIdeal.nD Cert.GluPWIdeal.τ).loc Cert.GluPWIdeal.main_arg0) = m ((c.tc : Thread Cert.GluPWIdeal.nD Cert.GluPWIdeal.τ).loc Cert.GluPWIdeal.main_arg0)
      ∧ r.2.mem ((c.tc : Thread Cert.GluPWIdeal.nD Cert.GluPWIdeal.τ).loc Cert.GluPWIdeal.main_arg1) = m ((c.tc : Thread Cert.GluPWIdeal.nD Cert.GluPWIdeal.τ).loc Cert.GluPWIdeal.main_arg1))
      ∧ r.2.sem = fun _ => 0)

def quiescent_GluPWRefIdeal [hGluPWRefIdeal : Cert.GluPWRefIdeal.Facts] : Prop :=
  ∀ (m : (ℓ : Loc Cert.GluPWRefIdeal.nD Cert.GluPWRefIdeal.τ Cert.GluPWRefIdeal.sig) → Buf (Elt Ideal) ℓ) (g : Dev Cert.GluPWRefIdeal.nD → PrngReg), Pre_GluPWRefIdeal m →
    θ_run (Cert.GluPWRefIdeal.defs (F := Ideal)) (onTc (τ := Cert.GluPWRefIdeal.τ) (Cert.GluPWRefIdeal.main (F := Ideal))) ⟨m, fun _ => 0, g⟩ (fun r => (∀ c : Dev Cert.GluPWRefIdeal.nD,
      r.2.mem ((c.tc : Thread Cert.GluPWRefIdeal.nD Cert.GluPWRefIdeal.τ).loc Cert.GluPWRefIdeal.main_arg0) = m ((c.tc : Thread Cert.GluPWRefIdeal.nD Cert.GluPWRefIdeal.τ).loc Cert.GluPWRefIdeal.main_arg0)
      ∧ r.2.mem ((c.tc : Thread Cert.GluPWRefIdeal.nD Cert.GluPWRefIdeal.τ).loc Cert.GluPWRefIdeal.main_arg1) = m ((c.tc : Thread Cert.GluPWRefIdeal.nD Cert.GluPWRefIdeal.τ).loc Cert.GluPWRefIdeal.main_arg1))
      ∧ r.2.sem = fun _ => 0)

def quiescent_MergeP [hMergeP : Cert.MergeP.Facts] : Prop :=
  ∀ (m : (ℓ : Loc Cert.MergeP.nD Cert.MergeP.τ Cert.MergeP.sig) → Buf (Elt Bits) ℓ) (g : Dev Cert.MergeP.nD → PrngReg), Pre_MergeP m →
    θ_run (Cert.MergeP.defs (F := Bits)) (onTc (τ := Cert.MergeP.τ) (Cert.MergeP.main (F := Bits))) ⟨m, fun _ => 0, g⟩ (fun r => (∀ c : Dev Cert.MergeP.nD,
      r.2.mem ((c.tc : Thread Cert.MergeP.nD Cert.MergeP.τ).loc Cert.MergeP.main_arg0) = m ((c.tc : Thread Cert.MergeP.nD Cert.MergeP.τ).loc Cert.MergeP.main_arg0)
      ∧ r.2.mem ((c.tc : Thread Cert.MergeP.nD Cert.MergeP.τ).loc Cert.MergeP.main_arg1) = m ((c.tc : Thread Cert.MergeP.nD Cert.MergeP.τ).loc Cert.MergeP.main_arg1)
      ∧ r.2.mem ((c.tc : Thread Cert.MergeP.nD Cert.MergeP.τ).loc Cert.MergeP.main_arg2) = m ((c.tc : Thread Cert.MergeP.nD Cert.MergeP.τ).loc Cert.MergeP.main_arg2)
      ∧ r.2.mem ((c.tc : Thread Cert.MergeP.nD Cert.MergeP.τ).loc Cert.MergeP.main_arg3) = m ((c.tc : Thread Cert.MergeP.nD Cert.MergeP.τ).loc Cert.MergeP.main_arg3)
      ∧ r.2.mem ((c.tc : Thread Cert.MergeP.nD Cert.MergeP.τ).loc Cert.MergeP.main_arg4) = m ((c.tc : Thread Cert.MergeP.nD Cert.MergeP.τ).loc Cert.MergeP.main_arg4)
      ∧ r.2.mem ((c.tc : Thread Cert.MergeP.nD Cert.MergeP.τ).loc Cert.MergeP.main_arg5) = m ((c.tc : Thread Cert.MergeP.nD Cert.MergeP.τ).loc Cert.MergeP.main_arg5))
      ∧ r.2.sem = fun _ => 0)

def quiescent_MergePIdeal [hMergePIdeal : Cert.MergePIdeal.Facts] : Prop :=
  ∀ (m : (ℓ : Loc Cert.MergePIdeal.nD Cert.MergePIdeal.τ Cert.MergePIdeal.sig) → Buf (Elt Ideal) ℓ) (g : Dev Cert.MergePIdeal.nD → PrngReg), Pre_MergePIdeal m →
    θ_run (Cert.MergePIdeal.defs (F := Ideal)) (onTc (τ := Cert.MergePIdeal.τ) (Cert.MergePIdeal.main (F := Ideal))) ⟨m, fun _ => 0, g⟩ (fun r => (∀ c : Dev Cert.MergePIdeal.nD,
      r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
      ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
      ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
      ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
      ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
      ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5))
      ∧ r.2.sem = fun _ => 0)

def quiescent_MergePRefIdeal [hMergePRefIdeal : Cert.MergePRefIdeal.Facts] : Prop :=
  ∀ (m : (ℓ : Loc Cert.MergePRefIdeal.nD Cert.MergePRefIdeal.τ Cert.MergePRefIdeal.sig) → Buf (Elt Ideal) ℓ) (g : Dev Cert.MergePRefIdeal.nD → PrngReg), Pre_MergePRefIdeal m →
    θ_run (Cert.MergePRefIdeal.defs (F := Ideal)) (onTc (τ := Cert.MergePRefIdeal.τ) (Cert.MergePRefIdeal.main (F := Ideal))) ⟨m, fun _ => 0, g⟩ (fun r => (∀ c : Dev Cert.MergePRefIdeal.nD,
      r.2.mem ((c.tc : Thread Cert.MergePRefIdeal.nD Cert.MergePRefIdeal.τ).loc Cert.MergePRefIdeal.main_arg0) = m ((c.tc : Thread Cert.MergePRefIdeal.nD Cert.MergePRefIdeal.τ).loc Cert.MergePRefIdeal.main_arg0)
      ∧ r.2.mem ((c.tc : Thread Cert.MergePRefIdeal.nD Cert.MergePRefIdeal.τ).loc Cert.MergePRefIdeal.main_arg1) = m ((c.tc : Thread Cert.MergePRefIdeal.nD Cert.MergePRefIdeal.τ).loc Cert.MergePRefIdeal.main_arg1)
      ∧ r.2.mem ((c.tc : Thread Cert.MergePRefIdeal.nD Cert.MergePRefIdeal.τ).loc Cert.MergePRefIdeal.main_arg2) = m ((c.tc : Thread Cert.MergePRefIdeal.nD Cert.MergePRefIdeal.τ).loc Cert.MergePRefIdeal.main_arg2)
      ∧ r.2.mem ((c.tc : Thread Cert.MergePRefIdeal.nD Cert.MergePRefIdeal.τ).loc Cert.MergePRefIdeal.main_arg3) = m ((c.tc : Thread Cert.MergePRefIdeal.nD Cert.MergePRefIdeal.τ).loc Cert.MergePRefIdeal.main_arg3)
      ∧ r.2.mem ((c.tc : Thread Cert.MergePRefIdeal.nD Cert.MergePRefIdeal.τ).loc Cert.MergePRefIdeal.main_arg4) = m ((c.tc : Thread Cert.MergePRefIdeal.nD Cert.MergePRefIdeal.τ).loc Cert.MergePRefIdeal.main_arg4)
      ∧ r.2.mem ((c.tc : Thread Cert.MergePRefIdeal.nD Cert.MergePRefIdeal.τ).loc Cert.MergePRefIdeal.main_arg5) = m ((c.tc : Thread Cert.MergePRefIdeal.nD Cert.MergePRefIdeal.τ).loc Cert.MergePRefIdeal.main_arg5))
      ∧ r.2.sem = fun _ => 0)

def quiescent_S5ActP [hS5ActP : Cert.S5ActP.Facts] : Prop :=
  ∀ (m : (ℓ : Loc Cert.S5ActP.nD Cert.S5ActP.τ Cert.S5ActP.sig) → Buf (Elt Bits) ℓ) (g : Dev Cert.S5ActP.nD → PrngReg), Pre_S5ActP m →
    θ_run (Cert.S5ActP.defs (F := Bits)) (onTc (τ := Cert.S5ActP.τ) (Cert.S5ActP.main (F := Bits))) ⟨m, fun _ => 0, g⟩ (fun r => (∀ c : Dev Cert.S5ActP.nD,
      r.2.mem ((c.tc : Thread Cert.S5ActP.nD Cert.S5ActP.τ).loc Cert.S5ActP.main_arg0) = m ((c.tc : Thread Cert.S5ActP.nD Cert.S5ActP.τ).loc Cert.S5ActP.main_arg0)
      ∧ r.2.mem ((c.tc : Thread Cert.S5ActP.nD Cert.S5ActP.τ).loc Cert.S5ActP.main_arg1) = m ((c.tc : Thread Cert.S5ActP.nD Cert.S5ActP.τ).loc Cert.S5ActP.main_arg1)
      ∧ r.2.mem ((c.tc : Thread Cert.S5ActP.nD Cert.S5ActP.τ).loc Cert.S5ActP.main_arg2) = m ((c.tc : Thread Cert.S5ActP.nD Cert.S5ActP.τ).loc Cert.S5ActP.main_arg2))
      ∧ r.2.sem = fun _ => 0)

def quiescent_S5ActPIdeal [hS5ActPIdeal : Cert.S5ActPIdeal.Facts] : Prop :=
  ∀ (m : (ℓ : Loc Cert.S5ActPIdeal.nD Cert.S5ActPIdeal.τ Cert.S5ActPIdeal.sig) → Buf (Elt Ideal) ℓ) (g : Dev Cert.S5ActPIdeal.nD → PrngReg), Pre_S5ActPIdeal m →
    θ_run (Cert.S5ActPIdeal.defs (F := Ideal)) (onTc (τ := Cert.S5ActPIdeal.τ) (Cert.S5ActPIdeal.main (F := Ideal))) ⟨m, fun _ => 0, g⟩ (fun r => (∀ c : Dev Cert.S5ActPIdeal.nD,
      r.2.mem ((c.tc : Thread Cert.S5ActPIdeal.nD Cert.S5ActPIdeal.τ).loc Cert.S5ActPIdeal.main_arg0) = m ((c.tc : Thread Cert.S5ActPIdeal.nD Cert.S5ActPIdeal.τ).loc Cert.S5ActPIdeal.main_arg0)
      ∧ r.2.mem ((c.tc : Thread Cert.S5ActPIdeal.nD Cert.S5ActPIdeal.τ).loc Cert.S5ActPIdeal.main_arg1) = m ((c.tc : Thread Cert.S5ActPIdeal.nD Cert.S5ActPIdeal.τ).loc Cert.S5ActPIdeal.main_arg1)
      ∧ r.2.mem ((c.tc : Thread Cert.S5ActPIdeal.nD Cert.S5ActPIdeal.τ).loc Cert.S5ActPIdeal.main_arg2) = m ((c.tc : Thread Cert.S5ActPIdeal.nD Cert.S5ActPIdeal.τ).loc Cert.S5ActPIdeal.main_arg2))
      ∧ r.2.sem = fun _ => 0)

def quiescent_S5ActPRefIdeal [hS5ActPRefIdeal : Cert.S5ActPRefIdeal.Facts] : Prop :=
  ∀ (m : (ℓ : Loc Cert.S5ActPRefIdeal.nD Cert.S5ActPRefIdeal.τ Cert.S5ActPRefIdeal.sig) → Buf (Elt Ideal) ℓ) (g : Dev Cert.S5ActPRefIdeal.nD → PrngReg), Pre_S5ActPRefIdeal m →
    θ_run (Cert.S5ActPRefIdeal.defs (F := Ideal)) (onTc (τ := Cert.S5ActPRefIdeal.τ) (Cert.S5ActPRefIdeal.main (F := Ideal))) ⟨m, fun _ => 0, g⟩ (fun r => (∀ c : Dev Cert.S5ActPRefIdeal.nD,
      r.2.mem ((c.tc : Thread Cert.S5ActPRefIdeal.nD Cert.S5ActPRefIdeal.τ).loc Cert.S5ActPRefIdeal.main_arg0) = m ((c.tc : Thread Cert.S5ActPRefIdeal.nD Cert.S5ActPRefIdeal.τ).loc Cert.S5ActPRefIdeal.main_arg0)
      ∧ r.2.mem ((c.tc : Thread Cert.S5ActPRefIdeal.nD Cert.S5ActPRefIdeal.τ).loc Cert.S5ActPRefIdeal.main_arg1) = m ((c.tc : Thread Cert.S5ActPRefIdeal.nD Cert.S5ActPRefIdeal.τ).loc Cert.S5ActPRefIdeal.main_arg1)
      ∧ r.2.mem ((c.tc : Thread Cert.S5ActPRefIdeal.nD Cert.S5ActPRefIdeal.τ).loc Cert.S5ActPRefIdeal.main_arg2) = m ((c.tc : Thread Cert.S5ActPRefIdeal.nD Cert.S5ActPRefIdeal.τ).loc Cert.S5ActPRefIdeal.main_arg2))
      ∧ r.2.sem = fun _ => 0)

def quiescent_S5GluP [hS5GluP : Cert.S5GluP.Facts] : Prop :=
  ∀ (m : (ℓ : Loc Cert.S5GluP.nD Cert.S5GluP.τ Cert.S5GluP.sig) → Buf (Elt Bits) ℓ) (g : Dev Cert.S5GluP.nD → PrngReg), Pre_S5GluP m →
    θ_run (Cert.S5GluP.defs (F := Bits)) (onTc (τ := Cert.S5GluP.τ) (Cert.S5GluP.main (F := Bits))) ⟨m, fun _ => 0, g⟩ (fun r => (∀ c : Dev Cert.S5GluP.nD,
      r.2.mem ((c.tc : Thread Cert.S5GluP.nD Cert.S5GluP.τ).loc Cert.S5GluP.main_arg0) = m ((c.tc : Thread Cert.S5GluP.nD Cert.S5GluP.τ).loc Cert.S5GluP.main_arg0))
      ∧ r.2.sem = fun _ => 0)

def quiescent_S5GluPIdeal [hS5GluPIdeal : Cert.S5GluPIdeal.Facts] : Prop :=
  ∀ (m : (ℓ : Loc Cert.S5GluPIdeal.nD Cert.S5GluPIdeal.τ Cert.S5GluPIdeal.sig) → Buf (Elt Ideal) ℓ) (g : Dev Cert.S5GluPIdeal.nD → PrngReg), Pre_S5GluPIdeal m →
    θ_run (Cert.S5GluPIdeal.defs (F := Ideal)) (onTc (τ := Cert.S5GluPIdeal.τ) (Cert.S5GluPIdeal.main (F := Ideal))) ⟨m, fun _ => 0, g⟩ (fun r => (∀ c : Dev Cert.S5GluPIdeal.nD,
      r.2.mem ((c.tc : Thread Cert.S5GluPIdeal.nD Cert.S5GluPIdeal.τ).loc Cert.S5GluPIdeal.main_arg0) = m ((c.tc : Thread Cert.S5GluPIdeal.nD Cert.S5GluPIdeal.τ).loc Cert.S5GluPIdeal.main_arg0))
      ∧ r.2.sem = fun _ => 0)

def quiescent_S5GluPRefIdeal [hS5GluPRefIdeal : Cert.S5GluPRefIdeal.Facts] : Prop :=
  ∀ (m : (ℓ : Loc Cert.S5GluPRefIdeal.nD Cert.S5GluPRefIdeal.τ Cert.S5GluPRefIdeal.sig) → Buf (Elt Ideal) ℓ) (g : Dev Cert.S5GluPRefIdeal.nD → PrngReg), Pre_S5GluPRefIdeal m →
    θ_run (Cert.S5GluPRefIdeal.defs (F := Ideal)) (onTc (τ := Cert.S5GluPRefIdeal.τ) (Cert.S5GluPRefIdeal.main (F := Ideal))) ⟨m, fun _ => 0, g⟩ (fun r => (∀ c : Dev Cert.S5GluPRefIdeal.nD,
      r.2.mem ((c.tc : Thread Cert.S5GluPRefIdeal.nD Cert.S5GluPRefIdeal.τ).loc Cert.S5GluPRefIdeal.main_arg0) = m ((c.tc : Thread Cert.S5GluPRefIdeal.nD Cert.S5GluPRefIdeal.τ).loc Cert.S5GluPRefIdeal.main_arg0))
      ∧ r.2.sem = fun _ => 0)

def quiescent_Norm1P [hNorm1P : Cert.Norm1P.Facts] : Prop :=
  ∀ (m : (ℓ : Loc Cert.Norm1P.nD Cert.Norm1P.τ Cert.Norm1P.sig) → Buf (Elt Bits) ℓ) (g : Dev Cert.Norm1P.nD → PrngReg), Pre_Norm1P m →
    θ_run (Cert.Norm1P.defs (F := Bits)) (onTc (τ := Cert.Norm1P.τ) (Cert.Norm1P.main (F := Bits))) ⟨m, fun _ => 0, g⟩ (fun r => (∀ c : Dev Cert.Norm1P.nD,
      r.2.mem ((c.tc : Thread Cert.Norm1P.nD Cert.Norm1P.τ).loc Cert.Norm1P.main_arg0) = m ((c.tc : Thread Cert.Norm1P.nD Cert.Norm1P.τ).loc Cert.Norm1P.main_arg0)
      ∧ r.2.mem ((c.tc : Thread Cert.Norm1P.nD Cert.Norm1P.τ).loc Cert.Norm1P.main_arg1) = m ((c.tc : Thread Cert.Norm1P.nD Cert.Norm1P.τ).loc Cert.Norm1P.main_arg1)
      ∧ r.2.mem ((c.tc : Thread Cert.Norm1P.nD Cert.Norm1P.τ).loc Cert.Norm1P.main_arg2) = m ((c.tc : Thread Cert.Norm1P.nD Cert.Norm1P.τ).loc Cert.Norm1P.main_arg2)
      ∧ r.2.mem ((c.tc : Thread Cert.Norm1P.nD Cert.Norm1P.τ).loc Cert.Norm1P.main_arg3) = m ((c.tc : Thread Cert.Norm1P.nD Cert.Norm1P.τ).loc Cert.Norm1P.main_arg3))
      ∧ r.2.sem = fun _ => 0)

def quiescent_Norm1PIdeal [hNorm1PIdeal : Cert.Norm1PIdeal.Facts] : Prop :=
  ∀ (m : (ℓ : Loc Cert.Norm1PIdeal.nD Cert.Norm1PIdeal.τ Cert.Norm1PIdeal.sig) → Buf (Elt Ideal) ℓ) (g : Dev Cert.Norm1PIdeal.nD → PrngReg), Pre_Norm1PIdeal m →
    θ_run (Cert.Norm1PIdeal.defs (F := Ideal)) (onTc (τ := Cert.Norm1PIdeal.τ) (Cert.Norm1PIdeal.main (F := Ideal))) ⟨m, fun _ => 0, g⟩ (fun r => (∀ c : Dev Cert.Norm1PIdeal.nD,
      r.2.mem ((c.tc : Thread Cert.Norm1PIdeal.nD Cert.Norm1PIdeal.τ).loc Cert.Norm1PIdeal.main_arg0) = m ((c.tc : Thread Cert.Norm1PIdeal.nD Cert.Norm1PIdeal.τ).loc Cert.Norm1PIdeal.main_arg0)
      ∧ r.2.mem ((c.tc : Thread Cert.Norm1PIdeal.nD Cert.Norm1PIdeal.τ).loc Cert.Norm1PIdeal.main_arg1) = m ((c.tc : Thread Cert.Norm1PIdeal.nD Cert.Norm1PIdeal.τ).loc Cert.Norm1PIdeal.main_arg1)
      ∧ r.2.mem ((c.tc : Thread Cert.Norm1PIdeal.nD Cert.Norm1PIdeal.τ).loc Cert.Norm1PIdeal.main_arg2) = m ((c.tc : Thread Cert.Norm1PIdeal.nD Cert.Norm1PIdeal.τ).loc Cert.Norm1PIdeal.main_arg2)
      ∧ r.2.mem ((c.tc : Thread Cert.Norm1PIdeal.nD Cert.Norm1PIdeal.τ).loc Cert.Norm1PIdeal.main_arg3) = m ((c.tc : Thread Cert.Norm1PIdeal.nD Cert.Norm1PIdeal.τ).loc Cert.Norm1PIdeal.main_arg3))
      ∧ r.2.sem = fun _ => 0)

def quiescent_Norm1PRefIdeal [hNorm1PRefIdeal : Cert.Norm1PRefIdeal.Facts] : Prop :=
  ∀ (m : (ℓ : Loc Cert.Norm1PRefIdeal.nD Cert.Norm1PRefIdeal.τ Cert.Norm1PRefIdeal.sig) → Buf (Elt Ideal) ℓ) (g : Dev Cert.Norm1PRefIdeal.nD → PrngReg), Pre_Norm1PRefIdeal m →
    θ_run (Cert.Norm1PRefIdeal.defs (F := Ideal)) (onTc (τ := Cert.Norm1PRefIdeal.τ) (Cert.Norm1PRefIdeal.main (F := Ideal))) ⟨m, fun _ => 0, g⟩ (fun r => (∀ c : Dev Cert.Norm1PRefIdeal.nD,
      r.2.mem ((c.tc : Thread Cert.Norm1PRefIdeal.nD Cert.Norm1PRefIdeal.τ).loc Cert.Norm1PRefIdeal.main_arg0) = m ((c.tc : Thread Cert.Norm1PRefIdeal.nD Cert.Norm1PRefIdeal.τ).loc Cert.Norm1PRefIdeal.main_arg0)
      ∧ r.2.mem ((c.tc : Thread Cert.Norm1PRefIdeal.nD Cert.Norm1PRefIdeal.τ).loc Cert.Norm1PRefIdeal.main_arg1) = m ((c.tc : Thread Cert.Norm1PRefIdeal.nD Cert.Norm1PRefIdeal.τ).loc Cert.Norm1PRefIdeal.main_arg1)
      ∧ r.2.mem ((c.tc : Thread Cert.Norm1PRefIdeal.nD Cert.Norm1PRefIdeal.τ).loc Cert.Norm1PRefIdeal.main_arg2) = m ((c.tc : Thread Cert.Norm1PRefIdeal.nD Cert.Norm1PRefIdeal.τ).loc Cert.Norm1PRefIdeal.main_arg2)
      ∧ r.2.mem ((c.tc : Thread Cert.Norm1PRefIdeal.nD Cert.Norm1PRefIdeal.τ).loc Cert.Norm1PRefIdeal.main_arg3) = m ((c.tc : Thread Cert.Norm1PRefIdeal.nD Cert.Norm1PRefIdeal.τ).loc Cert.Norm1PRefIdeal.main_arg3))
      ∧ r.2.sem = fun _ => 0)

def quiescent_ResidP [hResidP : Cert.ResidP.Facts] : Prop :=
  ∀ (m : (ℓ : Loc Cert.ResidP.nD Cert.ResidP.τ Cert.ResidP.sig) → Buf (Elt Bits) ℓ) (g : Dev Cert.ResidP.nD → PrngReg), Pre_ResidP m →
    θ_run (Cert.ResidP.defs (F := Bits)) (onTc (τ := Cert.ResidP.τ) (Cert.ResidP.main (F := Bits))) ⟨m, fun _ => 0, g⟩ (fun r => (∀ c : Dev Cert.ResidP.nD,
      r.2.mem ((c.tc : Thread Cert.ResidP.nD Cert.ResidP.τ).loc Cert.ResidP.main_arg0) = m ((c.tc : Thread Cert.ResidP.nD Cert.ResidP.τ).loc Cert.ResidP.main_arg0)
      ∧ r.2.mem ((c.tc : Thread Cert.ResidP.nD Cert.ResidP.τ).loc Cert.ResidP.main_arg1) = m ((c.tc : Thread Cert.ResidP.nD Cert.ResidP.τ).loc Cert.ResidP.main_arg1)
      ∧ r.2.mem ((c.tc : Thread Cert.ResidP.nD Cert.ResidP.τ).loc Cert.ResidP.main_arg2) = m ((c.tc : Thread Cert.ResidP.nD Cert.ResidP.τ).loc Cert.ResidP.main_arg2))
      ∧ r.2.sem = fun _ => 0)

def quiescent_ResidPIdeal [hResidPIdeal : Cert.ResidPIdeal.Facts] : Prop :=
  ∀ (m : (ℓ : Loc Cert.ResidPIdeal.nD Cert.ResidPIdeal.τ Cert.ResidPIdeal.sig) → Buf (Elt Ideal) ℓ) (g : Dev Cert.ResidPIdeal.nD → PrngReg), Pre_ResidPIdeal m →
    θ_run (Cert.ResidPIdeal.defs (F := Ideal)) (onTc (τ := Cert.ResidPIdeal.τ) (Cert.ResidPIdeal.main (F := Ideal))) ⟨m, fun _ => 0, g⟩ (fun r => (∀ c : Dev Cert.ResidPIdeal.nD,
      r.2.mem ((c.tc : Thread Cert.ResidPIdeal.nD Cert.ResidPIdeal.τ).loc Cert.ResidPIdeal.main_arg0) = m ((c.tc : Thread Cert.ResidPIdeal.nD Cert.ResidPIdeal.τ).loc Cert.ResidPIdeal.main_arg0)
      ∧ r.2.mem ((c.tc : Thread Cert.ResidPIdeal.nD Cert.ResidPIdeal.τ).loc Cert.ResidPIdeal.main_arg1) = m ((c.tc : Thread Cert.ResidPIdeal.nD Cert.ResidPIdeal.τ).loc Cert.ResidPIdeal.main_arg1)
      ∧ r.2.mem ((c.tc : Thread Cert.ResidPIdeal.nD Cert.ResidPIdeal.τ).loc Cert.ResidPIdeal.main_arg2) = m ((c.tc : Thread Cert.ResidPIdeal.nD Cert.ResidPIdeal.τ).loc Cert.ResidPIdeal.main_arg2))
      ∧ r.2.sem = fun _ => 0)

def quiescent_ResidPRefIdeal [hResidPRefIdeal : Cert.ResidPRefIdeal.Facts] : Prop :=
  ∀ (m : (ℓ : Loc Cert.ResidPRefIdeal.nD Cert.ResidPRefIdeal.τ Cert.ResidPRefIdeal.sig) → Buf (Elt Ideal) ℓ) (g : Dev Cert.ResidPRefIdeal.nD → PrngReg), Pre_ResidPRefIdeal m →
    θ_run (Cert.ResidPRefIdeal.defs (F := Ideal)) (onTc (τ := Cert.ResidPRefIdeal.τ) (Cert.ResidPRefIdeal.main (F := Ideal))) ⟨m, fun _ => 0, g⟩ (fun r => (∀ c : Dev Cert.ResidPRefIdeal.nD,
      r.2.mem ((c.tc : Thread Cert.ResidPRefIdeal.nD Cert.ResidPRefIdeal.τ).loc Cert.ResidPRefIdeal.main_arg0) = m ((c.tc : Thread Cert.ResidPRefIdeal.nD Cert.ResidPRefIdeal.τ).loc Cert.ResidPRefIdeal.main_arg0)
      ∧ r.2.mem ((c.tc : Thread Cert.ResidPRefIdeal.nD Cert.ResidPRefIdeal.τ).loc Cert.ResidPRefIdeal.main_arg1) = m ((c.tc : Thread Cert.ResidPRefIdeal.nD Cert.ResidPRefIdeal.τ).loc Cert.ResidPRefIdeal.main_arg1)
      ∧ r.2.mem ((c.tc : Thread Cert.ResidPRefIdeal.nD Cert.ResidPRefIdeal.τ).loc Cert.ResidPRefIdeal.main_arg2) = m ((c.tc : Thread Cert.ResidPRefIdeal.nD Cert.ResidPRefIdeal.τ).loc Cert.ResidPRefIdeal.main_arg2))
      ∧ r.2.sem = fun _ => 0)

def quiescent_GmlpP [hGmlpP : Cert.GmlpP.Facts] : Prop :=
  ∀ (m : (ℓ : Loc Cert.GmlpP.nD Cert.GmlpP.τ Cert.GmlpP.sig) → Buf (Elt Bits) ℓ) (g : Dev Cert.GmlpP.nD → PrngReg), Pre_GmlpP m →
    θ_run (Cert.GmlpP.defs (F := Bits)) (onTc (τ := Cert.GmlpP.τ) (Cert.GmlpP.main (F := Bits))) ⟨m, fun _ => 0, g⟩ (fun r => (∀ c : Dev Cert.GmlpP.nD,
      r.2.mem ((c.tc : Thread Cert.GmlpP.nD Cert.GmlpP.τ).loc Cert.GmlpP.main_arg0) = m ((c.tc : Thread Cert.GmlpP.nD Cert.GmlpP.τ).loc Cert.GmlpP.main_arg0)
      ∧ r.2.mem ((c.tc : Thread Cert.GmlpP.nD Cert.GmlpP.τ).loc Cert.GmlpP.main_arg1) = m ((c.tc : Thread Cert.GmlpP.nD Cert.GmlpP.τ).loc Cert.GmlpP.main_arg1)
      ∧ r.2.mem ((c.tc : Thread Cert.GmlpP.nD Cert.GmlpP.τ).loc Cert.GmlpP.main_arg2) = m ((c.tc : Thread Cert.GmlpP.nD Cert.GmlpP.τ).loc Cert.GmlpP.main_arg2)
      ∧ r.2.mem ((c.tc : Thread Cert.GmlpP.nD Cert.GmlpP.τ).loc Cert.GmlpP.main_arg3) = m ((c.tc : Thread Cert.GmlpP.nD Cert.GmlpP.τ).loc Cert.GmlpP.main_arg3)
      ∧ r.2.mem ((c.tc : Thread Cert.GmlpP.nD Cert.GmlpP.τ).loc Cert.GmlpP.main_arg4) = m ((c.tc : Thread Cert.GmlpP.nD Cert.GmlpP.τ).loc Cert.GmlpP.main_arg4))
      ∧ r.2.sem = fun _ => 0)

def quiescent_GmlpPIdeal [hGmlpPIdeal : Cert.GmlpPIdeal.Facts] : Prop :=
  ∀ (m : (ℓ : Loc Cert.GmlpPIdeal.nD Cert.GmlpPIdeal.τ Cert.GmlpPIdeal.sig) → Buf (Elt Ideal) ℓ) (g : Dev Cert.GmlpPIdeal.nD → PrngReg), Pre_GmlpPIdeal m →
    θ_run (Cert.GmlpPIdeal.defs (F := Ideal)) (onTc (τ := Cert.GmlpPIdeal.τ) (Cert.GmlpPIdeal.main (F := Ideal))) ⟨m, fun _ => 0, g⟩ (fun r => (∀ c : Dev Cert.GmlpPIdeal.nD,
      r.2.mem ((c.tc : Thread Cert.GmlpPIdeal.nD Cert.GmlpPIdeal.τ).loc Cert.GmlpPIdeal.main_arg0) = m ((c.tc : Thread Cert.GmlpPIdeal.nD Cert.GmlpPIdeal.τ).loc Cert.GmlpPIdeal.main_arg0)
      ∧ r.2.mem ((c.tc : Thread Cert.GmlpPIdeal.nD Cert.GmlpPIdeal.τ).loc Cert.GmlpPIdeal.main_arg1) = m ((c.tc : Thread Cert.GmlpPIdeal.nD Cert.GmlpPIdeal.τ).loc Cert.GmlpPIdeal.main_arg1)
      ∧ r.2.mem ((c.tc : Thread Cert.GmlpPIdeal.nD Cert.GmlpPIdeal.τ).loc Cert.GmlpPIdeal.main_arg2) = m ((c.tc : Thread Cert.GmlpPIdeal.nD Cert.GmlpPIdeal.τ).loc Cert.GmlpPIdeal.main_arg2)
      ∧ r.2.mem ((c.tc : Thread Cert.GmlpPIdeal.nD Cert.GmlpPIdeal.τ).loc Cert.GmlpPIdeal.main_arg3) = m ((c.tc : Thread Cert.GmlpPIdeal.nD Cert.GmlpPIdeal.τ).loc Cert.GmlpPIdeal.main_arg3)
      ∧ r.2.mem ((c.tc : Thread Cert.GmlpPIdeal.nD Cert.GmlpPIdeal.τ).loc Cert.GmlpPIdeal.main_arg4) = m ((c.tc : Thread Cert.GmlpPIdeal.nD Cert.GmlpPIdeal.τ).loc Cert.GmlpPIdeal.main_arg4))
      ∧ r.2.sem = fun _ => 0)

def quiescent_GmlpPRefIdeal [hGmlpPRefIdeal : Cert.GmlpPRefIdeal.Facts] : Prop :=
  ∀ (m : (ℓ : Loc Cert.GmlpPRefIdeal.nD Cert.GmlpPRefIdeal.τ Cert.GmlpPRefIdeal.sig) → Buf (Elt Ideal) ℓ) (g : Dev Cert.GmlpPRefIdeal.nD → PrngReg), Pre_GmlpPRefIdeal m →
    θ_run (Cert.GmlpPRefIdeal.defs (F := Ideal)) (onTc (τ := Cert.GmlpPRefIdeal.τ) (Cert.GmlpPRefIdeal.main (F := Ideal))) ⟨m, fun _ => 0, g⟩ (fun r => (∀ c : Dev Cert.GmlpPRefIdeal.nD,
      r.2.mem ((c.tc : Thread Cert.GmlpPRefIdeal.nD Cert.GmlpPRefIdeal.τ).loc Cert.GmlpPRefIdeal.main_arg0) = m ((c.tc : Thread Cert.GmlpPRefIdeal.nD Cert.GmlpPRefIdeal.τ).loc Cert.GmlpPRefIdeal.main_arg0)
      ∧ r.2.mem ((c.tc : Thread Cert.GmlpPRefIdeal.nD Cert.GmlpPRefIdeal.τ).loc Cert.GmlpPRefIdeal.main_arg1) = m ((c.tc : Thread Cert.GmlpPRefIdeal.nD Cert.GmlpPRefIdeal.τ).loc Cert.GmlpPRefIdeal.main_arg1)
      ∧ r.2.mem ((c.tc : Thread Cert.GmlpPRefIdeal.nD Cert.GmlpPRefIdeal.τ).loc Cert.GmlpPRefIdeal.main_arg2) = m ((c.tc : Thread Cert.GmlpPRefIdeal.nD Cert.GmlpPRefIdeal.τ).loc Cert.GmlpPRefIdeal.main_arg2)
      ∧ r.2.mem ((c.tc : Thread Cert.GmlpPRefIdeal.nD Cert.GmlpPRefIdeal.τ).loc Cert.GmlpPRefIdeal.main_arg3) = m ((c.tc : Thread Cert.GmlpPRefIdeal.nD Cert.GmlpPRefIdeal.τ).loc Cert.GmlpPRefIdeal.main_arg3)
      ∧ r.2.mem ((c.tc : Thread Cert.GmlpPRefIdeal.nD Cert.GmlpPRefIdeal.τ).loc Cert.GmlpPRefIdeal.main_arg4) = m ((c.tc : Thread Cert.GmlpPRefIdeal.nD Cert.GmlpPRefIdeal.τ).loc Cert.GmlpPRefIdeal.main_arg4))
      ∧ r.2.sem = fun _ => 0)

def quiescent_S5InP [hS5InP : Cert.S5InP.Facts] : Prop :=
  ∀ (m : (ℓ : Loc Cert.S5InP.nD Cert.S5InP.τ Cert.S5InP.sig) → Buf (Elt Bits) ℓ) (g : Dev Cert.S5InP.nD → PrngReg), Pre_S5InP m →
    θ_run (Cert.S5InP.defs (F := Bits)) (onTc (τ := Cert.S5InP.τ) (Cert.S5InP.main (F := Bits))) ⟨m, fun _ => 0, g⟩ (fun r => (∀ c : Dev Cert.S5InP.nD,
      r.2.mem ((c.tc : Thread Cert.S5InP.nD Cert.S5InP.τ).loc Cert.S5InP.main_arg0) = m ((c.tc : Thread Cert.S5InP.nD Cert.S5InP.τ).loc Cert.S5InP.main_arg0)
      ∧ r.2.mem ((c.tc : Thread Cert.S5InP.nD Cert.S5InP.τ).loc Cert.S5InP.main_arg1) = m ((c.tc : Thread Cert.S5InP.nD Cert.S5InP.τ).loc Cert.S5InP.main_arg1))
      ∧ r.2.sem = fun _ => 0)

def quiescent_S5InPIdeal [hS5InPIdeal : Cert.S5InPIdeal.Facts] : Prop :=
  ∀ (m : (ℓ : Loc Cert.S5InPIdeal.nD Cert.S5InPIdeal.τ Cert.S5InPIdeal.sig) → Buf (Elt Ideal) ℓ) (g : Dev Cert.S5InPIdeal.nD → PrngReg), Pre_S5InPIdeal m →
    θ_run (Cert.S5InPIdeal.defs (F := Ideal)) (onTc (τ := Cert.S5InPIdeal.τ) (Cert.S5InPIdeal.main (F := Ideal))) ⟨m, fun _ => 0, g⟩ (fun r => (∀ c : Dev Cert.S5InPIdeal.nD,
      r.2.mem ((c.tc : Thread Cert.S5InPIdeal.nD Cert.S5InPIdeal.τ).loc Cert.S5InPIdeal.main_arg0) = m ((c.tc : Thread Cert.S5InPIdeal.nD Cert.S5InPIdeal.τ).loc Cert.S5InPIdeal.main_arg0)
      ∧ r.2.mem ((c.tc : Thread Cert.S5InPIdeal.nD Cert.S5InPIdeal.τ).loc Cert.S5InPIdeal.main_arg1) = m ((c.tc : Thread Cert.S5InPIdeal.nD Cert.S5InPIdeal.τ).loc Cert.S5InPIdeal.main_arg1))
      ∧ r.2.sem = fun _ => 0)

def quiescent_S5InPRefIdeal [hS5InPRefIdeal : Cert.S5InPRefIdeal.Facts] : Prop :=
  ∀ (m : (ℓ : Loc Cert.S5InPRefIdeal.nD Cert.S5InPRefIdeal.τ Cert.S5InPRefIdeal.sig) → Buf (Elt Ideal) ℓ) (g : Dev Cert.S5InPRefIdeal.nD → PrngReg), Pre_S5InPRefIdeal m →
    θ_run (Cert.S5InPRefIdeal.defs (F := Ideal)) (onTc (τ := Cert.S5InPRefIdeal.τ) (Cert.S5InPRefIdeal.main (F := Ideal))) ⟨m, fun _ => 0, g⟩ (fun r => (∀ c : Dev Cert.S5InPRefIdeal.nD,
      r.2.mem ((c.tc : Thread Cert.S5InPRefIdeal.nD Cert.S5InPRefIdeal.τ).loc Cert.S5InPRefIdeal.main_arg0) = m ((c.tc : Thread Cert.S5InPRefIdeal.nD Cert.S5InPRefIdeal.τ).loc Cert.S5InPRefIdeal.main_arg0)
      ∧ r.2.mem ((c.tc : Thread Cert.S5InPRefIdeal.nD Cert.S5InPRefIdeal.τ).loc Cert.S5InPRefIdeal.main_arg1) = m ((c.tc : Thread Cert.S5InPRefIdeal.nD Cert.S5InPRefIdeal.τ).loc Cert.S5InPRefIdeal.main_arg1))
      ∧ r.2.sem = fun _ => 0)

def quiescent_S5OutP [hS5OutP : Cert.S5OutP.Facts] : Prop :=
  ∀ (m : (ℓ : Loc Cert.S5OutP.nD Cert.S5OutP.τ Cert.S5OutP.sig) → Buf (Elt Bits) ℓ) (g : Dev Cert.S5OutP.nD → PrngReg), Pre_S5OutP m →
    θ_run (Cert.S5OutP.defs (F := Bits)) (onTc (τ := Cert.S5OutP.τ) (Cert.S5OutP.main (F := Bits))) ⟨m, fun _ => 0, g⟩ (fun r => (∀ c : Dev Cert.S5OutP.nD,
      r.2.mem ((c.tc : Thread Cert.S5OutP.nD Cert.S5OutP.τ).loc Cert.S5OutP.main_arg0) = m ((c.tc : Thread Cert.S5OutP.nD Cert.S5OutP.τ).loc Cert.S5OutP.main_arg0)
      ∧ r.2.mem ((c.tc : Thread Cert.S5OutP.nD Cert.S5OutP.τ).loc Cert.S5OutP.main_arg1) = m ((c.tc : Thread Cert.S5OutP.nD Cert.S5OutP.τ).loc Cert.S5OutP.main_arg1))
      ∧ r.2.sem = fun _ => 0)

def quiescent_S5OutPIdeal [hS5OutPIdeal : Cert.S5OutPIdeal.Facts] : Prop :=
  ∀ (m : (ℓ : Loc Cert.S5OutPIdeal.nD Cert.S5OutPIdeal.τ Cert.S5OutPIdeal.sig) → Buf (Elt Ideal) ℓ) (g : Dev Cert.S5OutPIdeal.nD → PrngReg), Pre_S5OutPIdeal m →
    θ_run (Cert.S5OutPIdeal.defs (F := Ideal)) (onTc (τ := Cert.S5OutPIdeal.τ) (Cert.S5OutPIdeal.main (F := Ideal))) ⟨m, fun _ => 0, g⟩ (fun r => (∀ c : Dev Cert.S5OutPIdeal.nD,
      r.2.mem ((c.tc : Thread Cert.S5OutPIdeal.nD Cert.S5OutPIdeal.τ).loc Cert.S5OutPIdeal.main_arg0) = m ((c.tc : Thread Cert.S5OutPIdeal.nD Cert.S5OutPIdeal.τ).loc Cert.S5OutPIdeal.main_arg0)
      ∧ r.2.mem ((c.tc : Thread Cert.S5OutPIdeal.nD Cert.S5OutPIdeal.τ).loc Cert.S5OutPIdeal.main_arg1) = m ((c.tc : Thread Cert.S5OutPIdeal.nD Cert.S5OutPIdeal.τ).loc Cert.S5OutPIdeal.main_arg1))
      ∧ r.2.sem = fun _ => 0)

def quiescent_S5OutPRefIdeal [hS5OutPRefIdeal : Cert.S5OutPRefIdeal.Facts] : Prop :=
  ∀ (m : (ℓ : Loc Cert.S5OutPRefIdeal.nD Cert.S5OutPRefIdeal.τ Cert.S5OutPRefIdeal.sig) → Buf (Elt Ideal) ℓ) (g : Dev Cert.S5OutPRefIdeal.nD → PrngReg), Pre_S5OutPRefIdeal m →
    θ_run (Cert.S5OutPRefIdeal.defs (F := Ideal)) (onTc (τ := Cert.S5OutPRefIdeal.τ) (Cert.S5OutPRefIdeal.main (F := Ideal))) ⟨m, fun _ => 0, g⟩ (fun r => (∀ c : Dev Cert.S5OutPRefIdeal.nD,
      r.2.mem ((c.tc : Thread Cert.S5OutPRefIdeal.nD Cert.S5OutPRefIdeal.τ).loc Cert.S5OutPRefIdeal.main_arg0) = m ((c.tc : Thread Cert.S5OutPRefIdeal.nD Cert.S5OutPRefIdeal.τ).loc Cert.S5OutPRefIdeal.main_arg0)
      ∧ r.2.mem ((c.tc : Thread Cert.S5OutPRefIdeal.nD Cert.S5OutPRefIdeal.τ).loc Cert.S5OutPRefIdeal.main_arg1) = m ((c.tc : Thread Cert.S5OutPRefIdeal.nD Cert.S5OutPRefIdeal.τ).loc Cert.S5OutPRefIdeal.main_arg1))
      ∧ r.2.sem = fun _ => 0)

def quiescent_S5OutA [hS5OutA : Cert.S5OutA.Facts] : Prop :=
  ∀ (m : (ℓ : Loc Cert.S5OutA.nD Cert.S5OutA.τ Cert.S5OutA.sig) → Buf (Elt Bits) ℓ) (g : Dev Cert.S5OutA.nD → PrngReg), Pre_S5OutA m →
    θ_run (Cert.S5OutA.defs (F := Bits)) (onTc (τ := Cert.S5OutA.τ) (Cert.S5OutA.main (F := Bits))) ⟨m, fun _ => 0, g⟩ (fun r => (∀ c : Dev Cert.S5OutA.nD,
      r.2.mem ((c.tc : Thread Cert.S5OutA.nD Cert.S5OutA.τ).loc Cert.S5OutA.main_arg0) = m ((c.tc : Thread Cert.S5OutA.nD Cert.S5OutA.τ).loc Cert.S5OutA.main_arg0)
      ∧ r.2.mem ((c.tc : Thread Cert.S5OutA.nD Cert.S5OutA.τ).loc Cert.S5OutA.main_arg1) = m ((c.tc : Thread Cert.S5OutA.nD Cert.S5OutA.τ).loc Cert.S5OutA.main_arg1)
      ∧ r.2.mem ((c.tc : Thread Cert.S5OutA.nD Cert.S5OutA.τ).loc Cert.S5OutA.main_arg2) = m ((c.tc : Thread Cert.S5OutA.nD Cert.S5OutA.τ).loc Cert.S5OutA.main_arg2))
      ∧ r.2.sem = fun _ => 0)

def quiescent_S5OutAIdeal [hS5OutAIdeal : Cert.S5OutAIdeal.Facts] : Prop :=
  ∀ (m : (ℓ : Loc Cert.S5OutAIdeal.nD Cert.S5OutAIdeal.τ Cert.S5OutAIdeal.sig) → Buf (Elt Ideal) ℓ) (g : Dev Cert.S5OutAIdeal.nD → PrngReg), Pre_S5OutAIdeal m →
    θ_run (Cert.S5OutAIdeal.defs (F := Ideal)) (onTc (τ := Cert.S5OutAIdeal.τ) (Cert.S5OutAIdeal.main (F := Ideal))) ⟨m, fun _ => 0, g⟩ (fun r => (∀ c : Dev Cert.S5OutAIdeal.nD,
      r.2.mem ((c.tc : Thread Cert.S5OutAIdeal.nD Cert.S5OutAIdeal.τ).loc Cert.S5OutAIdeal.main_arg0) = m ((c.tc : Thread Cert.S5OutAIdeal.nD Cert.S5OutAIdeal.τ).loc Cert.S5OutAIdeal.main_arg0)
      ∧ r.2.mem ((c.tc : Thread Cert.S5OutAIdeal.nD Cert.S5OutAIdeal.τ).loc Cert.S5OutAIdeal.main_arg1) = m ((c.tc : Thread Cert.S5OutAIdeal.nD Cert.S5OutAIdeal.τ).loc Cert.S5OutAIdeal.main_arg1)
      ∧ r.2.mem ((c.tc : Thread Cert.S5OutAIdeal.nD Cert.S5OutAIdeal.τ).loc Cert.S5OutAIdeal.main_arg2) = m ((c.tc : Thread Cert.S5OutAIdeal.nD Cert.S5OutAIdeal.τ).loc Cert.S5OutAIdeal.main_arg2))
      ∧ r.2.sem = fun _ => 0)

def quiescent_S5OutARefIdeal [hS5OutARefIdeal : Cert.S5OutARefIdeal.Facts] : Prop :=
  ∀ (m : (ℓ : Loc Cert.S5OutARefIdeal.nD Cert.S5OutARefIdeal.τ Cert.S5OutARefIdeal.sig) → Buf (Elt Ideal) ℓ) (g : Dev Cert.S5OutARefIdeal.nD → PrngReg), Pre_S5OutARefIdeal m →
    θ_run (Cert.S5OutARefIdeal.defs (F := Ideal)) (onTc (τ := Cert.S5OutARefIdeal.τ) (Cert.S5OutARefIdeal.main (F := Ideal))) ⟨m, fun _ => 0, g⟩ (fun r => (∀ c : Dev Cert.S5OutARefIdeal.nD,
      r.2.mem ((c.tc : Thread Cert.S5OutARefIdeal.nD Cert.S5OutARefIdeal.τ).loc Cert.S5OutARefIdeal.main_arg0) = m ((c.tc : Thread Cert.S5OutARefIdeal.nD Cert.S5OutARefIdeal.τ).loc Cert.S5OutARefIdeal.main_arg0)
      ∧ r.2.mem ((c.tc : Thread Cert.S5OutARefIdeal.nD Cert.S5OutARefIdeal.τ).loc Cert.S5OutARefIdeal.main_arg1) = m ((c.tc : Thread Cert.S5OutARefIdeal.nD Cert.S5OutARefIdeal.τ).loc Cert.S5OutARefIdeal.main_arg1)
      ∧ r.2.mem ((c.tc : Thread Cert.S5OutARefIdeal.nD Cert.S5OutARefIdeal.τ).loc Cert.S5OutARefIdeal.main_arg2) = m ((c.tc : Thread Cert.S5OutARefIdeal.nD Cert.S5OutARefIdeal.τ).loc Cert.S5OutARefIdeal.main_arg2))
      ∧ r.2.sem = fun _ => 0)

def quiescent_S5OutB [hS5OutB : Cert.S5OutB.Facts] : Prop :=
  ∀ (m : (ℓ : Loc Cert.S5OutB.nD Cert.S5OutB.τ Cert.S5OutB.sig) → Buf (Elt Bits) ℓ) (g : Dev Cert.S5OutB.nD → PrngReg), Pre_S5OutB m →
    θ_run (Cert.S5OutB.defs (F := Bits)) (onTc (τ := Cert.S5OutB.τ) (Cert.S5OutB.main (F := Bits))) ⟨m, fun _ => 0, g⟩ (fun r => (∀ c : Dev Cert.S5OutB.nD,
      r.2.mem ((c.tc : Thread Cert.S5OutB.nD Cert.S5OutB.τ).loc Cert.S5OutB.main_arg0) = m ((c.tc : Thread Cert.S5OutB.nD Cert.S5OutB.τ).loc Cert.S5OutB.main_arg0)
      ∧ r.2.mem ((c.tc : Thread Cert.S5OutB.nD Cert.S5OutB.τ).loc Cert.S5OutB.main_arg1) = m ((c.tc : Thread Cert.S5OutB.nD Cert.S5OutB.τ).loc Cert.S5OutB.main_arg1))
      ∧ r.2.sem = fun _ => 0)

def quiescent_S5OutBIdeal [hS5OutBIdeal : Cert.S5OutBIdeal.Facts] : Prop :=
  ∀ (m : (ℓ : Loc Cert.S5OutBIdeal.nD Cert.S5OutBIdeal.τ Cert.S5OutBIdeal.sig) → Buf (Elt Ideal) ℓ) (g : Dev Cert.S5OutBIdeal.nD → PrngReg), Pre_S5OutBIdeal m →
    θ_run (Cert.S5OutBIdeal.defs (F := Ideal)) (onTc (τ := Cert.S5OutBIdeal.τ) (Cert.S5OutBIdeal.main (F := Ideal))) ⟨m, fun _ => 0, g⟩ (fun r => (∀ c : Dev Cert.S5OutBIdeal.nD,
      r.2.mem ((c.tc : Thread Cert.S5OutBIdeal.nD Cert.S5OutBIdeal.τ).loc Cert.S5OutBIdeal.main_arg0) = m ((c.tc : Thread Cert.S5OutBIdeal.nD Cert.S5OutBIdeal.τ).loc Cert.S5OutBIdeal.main_arg0)
      ∧ r.2.mem ((c.tc : Thread Cert.S5OutBIdeal.nD Cert.S5OutBIdeal.τ).loc Cert.S5OutBIdeal.main_arg1) = m ((c.tc : Thread Cert.S5OutBIdeal.nD Cert.S5OutBIdeal.τ).loc Cert.S5OutBIdeal.main_arg1))
      ∧ r.2.sem = fun _ => 0)

def quiescent_S5OutBRefIdeal [hS5OutBRefIdeal : Cert.S5OutBRefIdeal.Facts] : Prop :=
  ∀ (m : (ℓ : Loc Cert.S5OutBRefIdeal.nD Cert.S5OutBRefIdeal.τ Cert.S5OutBRefIdeal.sig) → Buf (Elt Ideal) ℓ) (g : Dev Cert.S5OutBRefIdeal.nD → PrngReg), Pre_S5OutBRefIdeal m →
    θ_run (Cert.S5OutBRefIdeal.defs (F := Ideal)) (onTc (τ := Cert.S5OutBRefIdeal.τ) (Cert.S5OutBRefIdeal.main (F := Ideal))) ⟨m, fun _ => 0, g⟩ (fun r => (∀ c : Dev Cert.S5OutBRefIdeal.nD,
      r.2.mem ((c.tc : Thread Cert.S5OutBRefIdeal.nD Cert.S5OutBRefIdeal.τ).loc Cert.S5OutBRefIdeal.main_arg0) = m ((c.tc : Thread Cert.S5OutBRefIdeal.nD Cert.S5OutBRefIdeal.τ).loc Cert.S5OutBRefIdeal.main_arg0)
      ∧ r.2.mem ((c.tc : Thread Cert.S5OutBRefIdeal.nD Cert.S5OutBRefIdeal.τ).loc Cert.S5OutBRefIdeal.main_arg1) = m ((c.tc : Thread Cert.S5OutBRefIdeal.nD Cert.S5OutBRefIdeal.τ).loc Cert.S5OutBRefIdeal.main_arg1))
      ∧ r.2.sem = fun _ => 0)

def quiescent_S5OutW [hS5OutW : Cert.S5OutW.Facts] : Prop :=
  ∀ (m : (ℓ : Loc Cert.S5OutW.nD Cert.S5OutW.τ Cert.S5OutW.sig) → Buf (Elt Bits) ℓ) (g : Dev Cert.S5OutW.nD → PrngReg), Pre_S5OutW m →
    θ_run (Cert.S5OutW.defs (F := Bits)) (onTc (τ := Cert.S5OutW.τ) (Cert.S5OutW.main (F := Bits))) ⟨m, fun _ => 0, g⟩ (fun r => (∀ c : Dev Cert.S5OutW.nD,
      r.2.mem ((c.tc : Thread Cert.S5OutW.nD Cert.S5OutW.τ).loc Cert.S5OutW.main_arg0) = m ((c.tc : Thread Cert.S5OutW.nD Cert.S5OutW.τ).loc Cert.S5OutW.main_arg0)
      ∧ r.2.mem ((c.tc : Thread Cert.S5OutW.nD Cert.S5OutW.τ).loc Cert.S5OutW.main_arg1) = m ((c.tc : Thread Cert.S5OutW.nD Cert.S5OutW.τ).loc Cert.S5OutW.main_arg1))
      ∧ r.2.sem = fun _ => 0)

def quiescent_S5OutWIdeal [hS5OutWIdeal : Cert.S5OutWIdeal.Facts] : Prop :=
  ∀ (m : (ℓ : Loc Cert.S5OutWIdeal.nD Cert.S5OutWIdeal.τ Cert.S5OutWIdeal.sig) → Buf (Elt Ideal) ℓ) (g : Dev Cert.S5OutWIdeal.nD → PrngReg), Pre_S5OutWIdeal m →
    θ_run (Cert.S5OutWIdeal.defs (F := Ideal)) (onTc (τ := Cert.S5OutWIdeal.τ) (Cert.S5OutWIdeal.main (F := Ideal))) ⟨m, fun _ => 0, g⟩ (fun r => (∀ c : Dev Cert.S5OutWIdeal.nD,
      r.2.mem ((c.tc : Thread Cert.S5OutWIdeal.nD Cert.S5OutWIdeal.τ).loc Cert.S5OutWIdeal.main_arg0) = m ((c.tc : Thread Cert.S5OutWIdeal.nD Cert.S5OutWIdeal.τ).loc Cert.S5OutWIdeal.main_arg0)
      ∧ r.2.mem ((c.tc : Thread Cert.S5OutWIdeal.nD Cert.S5OutWIdeal.τ).loc Cert.S5OutWIdeal.main_arg1) = m ((c.tc : Thread Cert.S5OutWIdeal.nD Cert.S5OutWIdeal.τ).loc Cert.S5OutWIdeal.main_arg1))
      ∧ r.2.sem = fun _ => 0)

def quiescent_S5OutWRefIdeal [hS5OutWRefIdeal : Cert.S5OutWRefIdeal.Facts] : Prop :=
  ∀ (m : (ℓ : Loc Cert.S5OutWRefIdeal.nD Cert.S5OutWRefIdeal.τ Cert.S5OutWRefIdeal.sig) → Buf (Elt Ideal) ℓ) (g : Dev Cert.S5OutWRefIdeal.nD → PrngReg), Pre_S5OutWRefIdeal m →
    θ_run (Cert.S5OutWRefIdeal.defs (F := Ideal)) (onTc (τ := Cert.S5OutWRefIdeal.τ) (Cert.S5OutWRefIdeal.main (F := Ideal))) ⟨m, fun _ => 0, g⟩ (fun r => (∀ c : Dev Cert.S5OutWRefIdeal.nD,
      r.2.mem ((c.tc : Thread Cert.S5OutWRefIdeal.nD Cert.S5OutWRefIdeal.τ).loc Cert.S5OutWRefIdeal.main_arg0) = m ((c.tc : Thread Cert.S5OutWRefIdeal.nD Cert.S5OutWRefIdeal.τ).loc Cert.S5OutWRefIdeal.main_arg0)
      ∧ r.2.mem ((c.tc : Thread Cert.S5OutWRefIdeal.nD Cert.S5OutWRefIdeal.τ).loc Cert.S5OutWRefIdeal.main_arg1) = m ((c.tc : Thread Cert.S5OutWRefIdeal.nD Cert.S5OutWRefIdeal.τ).loc Cert.S5OutWRefIdeal.main_arg1))
      ∧ r.2.sem = fun _ => 0)

def quiescent_S5InB [hS5InB : Cert.S5InB.Facts] : Prop :=
  ∀ (m : (ℓ : Loc Cert.S5InB.nD Cert.S5InB.τ Cert.S5InB.sig) → Buf (Elt Bits) ℓ) (g : Dev Cert.S5InB.nD → PrngReg), Pre_S5InB m →
    θ_run (Cert.S5InB.defs (F := Bits)) (onTc (τ := Cert.S5InB.τ) (Cert.S5InB.main (F := Bits))) ⟨m, fun _ => 0, g⟩ (fun r => (∀ c : Dev Cert.S5InB.nD,
      r.2.mem ((c.tc : Thread Cert.S5InB.nD Cert.S5InB.τ).loc Cert.S5InB.main_arg0) = m ((c.tc : Thread Cert.S5InB.nD Cert.S5InB.τ).loc Cert.S5InB.main_arg0)
      ∧ r.2.mem ((c.tc : Thread Cert.S5InB.nD Cert.S5InB.τ).loc Cert.S5InB.main_arg1) = m ((c.tc : Thread Cert.S5InB.nD Cert.S5InB.τ).loc Cert.S5InB.main_arg1)
      ∧ r.2.mem ((c.tc : Thread Cert.S5InB.nD Cert.S5InB.τ).loc Cert.S5InB.main_arg2) = m ((c.tc : Thread Cert.S5InB.nD Cert.S5InB.τ).loc Cert.S5InB.main_arg2))
      ∧ r.2.sem = fun _ => 0)

def quiescent_S5InBIdeal [hS5InBIdeal : Cert.S5InBIdeal.Facts] : Prop :=
  ∀ (m : (ℓ : Loc Cert.S5InBIdeal.nD Cert.S5InBIdeal.τ Cert.S5InBIdeal.sig) → Buf (Elt Ideal) ℓ) (g : Dev Cert.S5InBIdeal.nD → PrngReg), Pre_S5InBIdeal m →
    θ_run (Cert.S5InBIdeal.defs (F := Ideal)) (onTc (τ := Cert.S5InBIdeal.τ) (Cert.S5InBIdeal.main (F := Ideal))) ⟨m, fun _ => 0, g⟩ (fun r => (∀ c : Dev Cert.S5InBIdeal.nD,
      r.2.mem ((c.tc : Thread Cert.S5InBIdeal.nD Cert.S5InBIdeal.τ).loc Cert.S5InBIdeal.main_arg0) = m ((c.tc : Thread Cert.S5InBIdeal.nD Cert.S5InBIdeal.τ).loc Cert.S5InBIdeal.main_arg0)
      ∧ r.2.mem ((c.tc : Thread Cert.S5InBIdeal.nD Cert.S5InBIdeal.τ).loc Cert.S5InBIdeal.main_arg1) = m ((c.tc : Thread Cert.S5InBIdeal.nD Cert.S5InBIdeal.τ).loc Cert.S5InBIdeal.main_arg1)
      ∧ r.2.mem ((c.tc : Thread Cert.S5InBIdeal.nD Cert.S5InBIdeal.τ).loc Cert.S5InBIdeal.main_arg2) = m ((c.tc : Thread Cert.S5InBIdeal.nD Cert.S5InBIdeal.τ).loc Cert.S5InBIdeal.main_arg2))
      ∧ r.2.sem = fun _ => 0)

def quiescent_S5InBRefIdeal [hS5InBRefIdeal : Cert.S5InBRefIdeal.Facts] : Prop :=
  ∀ (m : (ℓ : Loc Cert.S5InBRefIdeal.nD Cert.S5InBRefIdeal.τ Cert.S5InBRefIdeal.sig) → Buf (Elt Ideal) ℓ) (g : Dev Cert.S5InBRefIdeal.nD → PrngReg), Pre_S5InBRefIdeal m →
    θ_run (Cert.S5InBRefIdeal.defs (F := Ideal)) (onTc (τ := Cert.S5InBRefIdeal.τ) (Cert.S5InBRefIdeal.main (F := Ideal))) ⟨m, fun _ => 0, g⟩ (fun r => (∀ c : Dev Cert.S5InBRefIdeal.nD,
      r.2.mem ((c.tc : Thread Cert.S5InBRefIdeal.nD Cert.S5InBRefIdeal.τ).loc Cert.S5InBRefIdeal.main_arg0) = m ((c.tc : Thread Cert.S5InBRefIdeal.nD Cert.S5InBRefIdeal.τ).loc Cert.S5InBRefIdeal.main_arg0)
      ∧ r.2.mem ((c.tc : Thread Cert.S5InBRefIdeal.nD Cert.S5InBRefIdeal.τ).loc Cert.S5InBRefIdeal.main_arg1) = m ((c.tc : Thread Cert.S5InBRefIdeal.nD Cert.S5InBRefIdeal.τ).loc Cert.S5InBRefIdeal.main_arg1)
      ∧ r.2.mem ((c.tc : Thread Cert.S5InBRefIdeal.nD Cert.S5InBRefIdeal.τ).loc Cert.S5InBRefIdeal.main_arg2) = m ((c.tc : Thread Cert.S5InBRefIdeal.nD Cert.S5InBRefIdeal.τ).loc Cert.S5InBRefIdeal.main_arg2))
      ∧ r.2.sem = fun _ => 0)

def quiescent_S5InW [hS5InW : Cert.S5InW.Facts] : Prop :=
  ∀ (m : (ℓ : Loc Cert.S5InW.nD Cert.S5InW.τ Cert.S5InW.sig) → Buf (Elt Bits) ℓ) (g : Dev Cert.S5InW.nD → PrngReg), Pre_S5InW m →
    θ_run (Cert.S5InW.defs (F := Bits)) (onTc (τ := Cert.S5InW.τ) (Cert.S5InW.main (F := Bits))) ⟨m, fun _ => 0, g⟩ (fun r => (∀ c : Dev Cert.S5InW.nD,
      r.2.mem ((c.tc : Thread Cert.S5InW.nD Cert.S5InW.τ).loc Cert.S5InW.main_arg0) = m ((c.tc : Thread Cert.S5InW.nD Cert.S5InW.τ).loc Cert.S5InW.main_arg0)
      ∧ r.2.mem ((c.tc : Thread Cert.S5InW.nD Cert.S5InW.τ).loc Cert.S5InW.main_arg1) = m ((c.tc : Thread Cert.S5InW.nD Cert.S5InW.τ).loc Cert.S5InW.main_arg1))
      ∧ r.2.sem = fun _ => 0)

def quiescent_S5InWIdeal [hS5InWIdeal : Cert.S5InWIdeal.Facts] : Prop :=
  ∀ (m : (ℓ : Loc Cert.S5InWIdeal.nD Cert.S5InWIdeal.τ Cert.S5InWIdeal.sig) → Buf (Elt Ideal) ℓ) (g : Dev Cert.S5InWIdeal.nD → PrngReg), Pre_S5InWIdeal m →
    θ_run (Cert.S5InWIdeal.defs (F := Ideal)) (onTc (τ := Cert.S5InWIdeal.τ) (Cert.S5InWIdeal.main (F := Ideal))) ⟨m, fun _ => 0, g⟩ (fun r => (∀ c : Dev Cert.S5InWIdeal.nD,
      r.2.mem ((c.tc : Thread Cert.S5InWIdeal.nD Cert.S5InWIdeal.τ).loc Cert.S5InWIdeal.main_arg0) = m ((c.tc : Thread Cert.S5InWIdeal.nD Cert.S5InWIdeal.τ).loc Cert.S5InWIdeal.main_arg0)
      ∧ r.2.mem ((c.tc : Thread Cert.S5InWIdeal.nD Cert.S5InWIdeal.τ).loc Cert.S5InWIdeal.main_arg1) = m ((c.tc : Thread Cert.S5InWIdeal.nD Cert.S5InWIdeal.τ).loc Cert.S5InWIdeal.main_arg1))
      ∧ r.2.sem = fun _ => 0)

def quiescent_S5InWRefIdeal [hS5InWRefIdeal : Cert.S5InWRefIdeal.Facts] : Prop :=
  ∀ (m : (ℓ : Loc Cert.S5InWRefIdeal.nD Cert.S5InWRefIdeal.τ Cert.S5InWRefIdeal.sig) → Buf (Elt Ideal) ℓ) (g : Dev Cert.S5InWRefIdeal.nD → PrngReg), Pre_S5InWRefIdeal m →
    θ_run (Cert.S5InWRefIdeal.defs (F := Ideal)) (onTc (τ := Cert.S5InWRefIdeal.τ) (Cert.S5InWRefIdeal.main (F := Ideal))) ⟨m, fun _ => 0, g⟩ (fun r => (∀ c : Dev Cert.S5InWRefIdeal.nD,
      r.2.mem ((c.tc : Thread Cert.S5InWRefIdeal.nD Cert.S5InWRefIdeal.τ).loc Cert.S5InWRefIdeal.main_arg0) = m ((c.tc : Thread Cert.S5InWRefIdeal.nD Cert.S5InWRefIdeal.τ).loc Cert.S5InWRefIdeal.main_arg0)
      ∧ r.2.mem ((c.tc : Thread Cert.S5InWRefIdeal.nD Cert.S5InWRefIdeal.τ).loc Cert.S5InWRefIdeal.main_arg1) = m ((c.tc : Thread Cert.S5InWRefIdeal.nD Cert.S5InWRefIdeal.τ).loc Cert.S5InWRefIdeal.main_arg1))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2)
      ∧ r.2.mem ((c.tc : Thread Cert.ConvF.nD Cert.ConvF.τ).loc Cert.ConvF.main_arg3) = m ((c.tc : Thread Cert.ConvF.nD Cert.ConvF.τ).loc Cert.ConvF.main_arg3)
      ∧ r.2.mem ((c.tc : Thread Cert.ConvF.nD Cert.ConvF.τ).loc Cert.ConvF.main_arg4) = m ((c.tc : Thread Cert.ConvF.nD Cert.ConvF.τ).loc Cert.ConvF.main_arg4))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
      ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3)
      ∧ r.2.mem ((c.tc : Thread Cert.ConvFIdeal.nD Cert.ConvFIdeal.τ).loc Cert.ConvFIdeal.main_arg4) = m ((c.tc : Thread Cert.ConvFIdeal.nD Cert.ConvFIdeal.τ).loc Cert.ConvFIdeal.main_arg4))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2)
      ∧ r.2.mem ((c.tc : Thread Cert.ConvFRefIdeal.nD Cert.ConvFRefIdeal.τ).loc Cert.ConvFRefIdeal.main_arg3) = m ((c.tc : Thread Cert.ConvFRefIdeal.nD Cert.ConvFRefIdeal.τ).loc Cert.ConvFRefIdeal.main_arg3)
      ∧ r.2.mem ((c.tc : Thread Cert.ConvFRefIdeal.nD Cert.ConvFRefIdeal.τ).loc Cert.ConvFRefIdeal.main_arg4) = m ((c.tc : Thread Cert.ConvFRefIdeal.nD Cert.ConvFRefIdeal.τ).loc Cert.ConvFRefIdeal.main_arg4))
      ∧ r.2.sem = fun _ => 0)

def quiescent_SiluP [hSiluP : Cert.SiluP.Facts] : Prop :=
  ∀ (m : (ℓ : Loc Cert.SiluP.nD Cert.SiluP.τ Cert.SiluP.sig) → Buf (Elt Bits) ℓ) (g : Dev Cert.SiluP.nD → PrngReg), Pre_SiluP m →
    θ_run (Cert.SiluP.defs (F := Bits)) (onTc (τ := Cert.SiluP.τ) (Cert.SiluP.main (F := Bits))) ⟨m, fun _ => 0, g⟩ (fun r => (∀ c : Dev Cert.SiluP.nD,
      r.2.mem ((c.tc : Thread Cert.SiluP.nD Cert.SiluP.τ).loc Cert.SiluP.main_arg0) = m ((c.tc : Thread Cert.SiluP.nD Cert.SiluP.τ).loc Cert.SiluP.main_arg0))
      ∧ r.2.sem = fun _ => 0)

def quiescent_SiluPIdeal [hSiluPIdeal : Cert.SiluPIdeal.Facts] : Prop :=
  ∀ (m : (ℓ : Loc Cert.SiluPIdeal.nD Cert.SiluPIdeal.τ Cert.SiluPIdeal.sig) → Buf (Elt Ideal) ℓ) (g : Dev Cert.SiluPIdeal.nD → PrngReg), Pre_SiluPIdeal m →
    θ_run (Cert.SiluPIdeal.defs (F := Ideal)) (onTc (τ := Cert.SiluPIdeal.τ) (Cert.SiluPIdeal.main (F := Ideal))) ⟨m, fun _ => 0, g⟩ (fun r => (∀ c : Dev Cert.SiluPIdeal.nD,
      r.2.mem ((c.tc : Thread Cert.SiluPIdeal.nD Cert.SiluPIdeal.τ).loc Cert.SiluPIdeal.main_arg0) = m ((c.tc : Thread Cert.SiluPIdeal.nD Cert.SiluPIdeal.τ).loc Cert.SiluPIdeal.main_arg0))
      ∧ r.2.sem = fun _ => 0)

def quiescent_SiluPRefIdeal [hSiluPRefIdeal : Cert.SiluPRefIdeal.Facts] : Prop :=
  ∀ (m : (ℓ : Loc Cert.SiluPRefIdeal.nD Cert.SiluPRefIdeal.τ Cert.SiluPRefIdeal.sig) → Buf (Elt Ideal) ℓ) (g : Dev Cert.SiluPRefIdeal.nD → PrngReg), Pre_SiluPRefIdeal m →
    θ_run (Cert.SiluPRefIdeal.defs (F := Ideal)) (onTc (τ := Cert.SiluPRefIdeal.τ) (Cert.SiluPRefIdeal.main (F := Ideal))) ⟨m, fun _ => 0, g⟩ (fun r => (∀ c : Dev Cert.SiluPRefIdeal.nD,
      r.2.mem ((c.tc : Thread Cert.SiluPRefIdeal.nD Cert.SiluPRefIdeal.τ).loc Cert.SiluPRefIdeal.main_arg0) = m ((c.tc : Thread Cert.SiluPRefIdeal.nD Cert.SiluPRefIdeal.τ).loc Cert.SiluPRefIdeal.main_arg0))
      ∧ r.2.sem = fun _ => 0)

def quiescent_ModP [hModP : Cert.ModP.Facts] : Prop :=
  ∀ (m : (ℓ : Loc Cert.ModP.nD Cert.ModP.τ Cert.ModP.sig) → Buf (Elt Bits) ℓ) (g : Dev Cert.ModP.nD → PrngReg), Pre_ModP m →
    θ_run (Cert.ModP.defs (F := Bits)) (onTc (τ := Cert.ModP.τ) (Cert.ModP.main (F := Bits))) ⟨m, fun _ => 0, g⟩ (fun r => (∀ c : Dev Cert.ModP.nD,
      r.2.mem ((c.tc : Thread Cert.ModP.nD Cert.ModP.τ).loc Cert.ModP.main_arg0) = m ((c.tc : Thread Cert.ModP.nD Cert.ModP.τ).loc Cert.ModP.main_arg0)
      ∧ r.2.mem ((c.tc : Thread Cert.ModP.nD Cert.ModP.τ).loc Cert.ModP.main_arg1) = m ((c.tc : Thread Cert.ModP.nD Cert.ModP.τ).loc Cert.ModP.main_arg1)
      ∧ r.2.mem ((c.tc : Thread Cert.ModP.nD Cert.ModP.τ).loc Cert.ModP.main_arg2) = m ((c.tc : Thread Cert.ModP.nD Cert.ModP.τ).loc Cert.ModP.main_arg2))
      ∧ r.2.sem = fun _ => 0)

def quiescent_ModPIdeal [hModPIdeal : Cert.ModPIdeal.Facts] : Prop :=
  ∀ (m : (ℓ : Loc Cert.ModPIdeal.nD Cert.ModPIdeal.τ Cert.ModPIdeal.sig) → Buf (Elt Ideal) ℓ) (g : Dev Cert.ModPIdeal.nD → PrngReg), Pre_ModPIdeal m →
    θ_run (Cert.ModPIdeal.defs (F := Ideal)) (onTc (τ := Cert.ModPIdeal.τ) (Cert.ModPIdeal.main (F := Ideal))) ⟨m, fun _ => 0, g⟩ (fun r => (∀ c : Dev Cert.ModPIdeal.nD,
      r.2.mem ((c.tc : Thread Cert.ModPIdeal.nD Cert.ModPIdeal.τ).loc Cert.ModPIdeal.main_arg0) = m ((c.tc : Thread Cert.ModPIdeal.nD Cert.ModPIdeal.τ).loc Cert.ModPIdeal.main_arg0)
      ∧ r.2.mem ((c.tc : Thread Cert.ModPIdeal.nD Cert.ModPIdeal.τ).loc Cert.ModPIdeal.main_arg1) = m ((c.tc : Thread Cert.ModPIdeal.nD Cert.ModPIdeal.τ).loc Cert.ModPIdeal.main_arg1)
      ∧ r.2.mem ((c.tc : Thread Cert.ModPIdeal.nD Cert.ModPIdeal.τ).loc Cert.ModPIdeal.main_arg2) = m ((c.tc : Thread Cert.ModPIdeal.nD Cert.ModPIdeal.τ).loc Cert.ModPIdeal.main_arg2))
      ∧ r.2.sem = fun _ => 0)

def quiescent_ModPRefIdeal [hModPRefIdeal : Cert.ModPRefIdeal.Facts] : Prop :=
  ∀ (m : (ℓ : Loc Cert.ModPRefIdeal.nD Cert.ModPRefIdeal.τ Cert.ModPRefIdeal.sig) → Buf (Elt Ideal) ℓ) (g : Dev Cert.ModPRefIdeal.nD → PrngReg), Pre_ModPRefIdeal m →
    θ_run (Cert.ModPRefIdeal.defs (F := Ideal)) (onTc (τ := Cert.ModPRefIdeal.τ) (Cert.ModPRefIdeal.main (F := Ideal))) ⟨m, fun _ => 0, g⟩ (fun r => (∀ c : Dev Cert.ModPRefIdeal.nD,
      r.2.mem ((c.tc : Thread Cert.ModPRefIdeal.nD Cert.ModPRefIdeal.τ).loc Cert.ModPRefIdeal.main_arg0) = m ((c.tc : Thread Cert.ModPRefIdeal.nD Cert.ModPRefIdeal.τ).loc Cert.ModPRefIdeal.main_arg0)
      ∧ r.2.mem ((c.tc : Thread Cert.ModPRefIdeal.nD Cert.ModPRefIdeal.τ).loc Cert.ModPRefIdeal.main_arg1) = m ((c.tc : Thread Cert.ModPRefIdeal.nD Cert.ModPRefIdeal.τ).loc Cert.ModPRefIdeal.main_arg1)
      ∧ r.2.mem ((c.tc : Thread Cert.ModPRefIdeal.nD Cert.ModPRefIdeal.τ).loc Cert.ModPRefIdeal.main_arg2) = m ((c.tc : Thread Cert.ModPRefIdeal.nD Cert.ModPRefIdeal.τ).loc Cert.ModPRefIdeal.main_arg2))
      ∧ r.2.sem = fun _ => 0)

def quiescent_ModW [hModW : Cert.ModW.Facts] : Prop :=
  ∀ (m : (ℓ : Loc Cert.ModW.nD Cert.ModW.τ Cert.ModW.sig) → Buf (Elt Bits) ℓ) (g : Dev Cert.ModW.nD → PrngReg), Pre_ModW m →
    θ_run (Cert.ModW.defs (F := Bits)) (onTc (τ := Cert.ModW.τ) (Cert.ModW.main (F := Bits))) ⟨m, fun _ => 0, g⟩ (fun r => (∀ c : Dev Cert.ModW.nD,
      r.2.mem ((c.tc : Thread Cert.ModW.nD Cert.ModW.τ).loc Cert.ModW.main_arg0) = m ((c.tc : Thread Cert.ModW.nD Cert.ModW.τ).loc Cert.ModW.main_arg0)
      ∧ r.2.mem ((c.tc : Thread Cert.ModW.nD Cert.ModW.τ).loc Cert.ModW.main_arg1) = m ((c.tc : Thread Cert.ModW.nD Cert.ModW.τ).loc Cert.ModW.main_arg1))
      ∧ r.2.sem = fun _ => 0)

def quiescent_ModWIdeal [hModWIdeal : Cert.ModWIdeal.Facts] : Prop :=
  ∀ (m : (ℓ : Loc Cert.ModWIdeal.nD Cert.ModWIdeal.τ Cert.ModWIdeal.sig) → Buf (Elt Ideal) ℓ) (g : Dev Cert.ModWIdeal.nD → PrngReg), Pre_ModWIdeal m →
    θ_run (Cert.ModWIdeal.defs (F := Ideal)) (onTc (τ := Cert.ModWIdeal.τ) (Cert.ModWIdeal.main (F := Ideal))) ⟨m, fun _ => 0, g⟩ (fun r => (∀ c : Dev Cert.ModWIdeal.nD,
      r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
      ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1))
      ∧ r.2.sem = fun _ => 0)

def quiescent_ModWRefIdeal [hModWRefIdeal : Cert.ModWRefIdeal.Facts] : Prop :=
  ∀ (m : (ℓ : Loc Cert.ModWRefIdeal.nD Cert.ModWRefIdeal.τ Cert.ModWRefIdeal.sig) → Buf (Elt Ideal) ℓ) (g : Dev Cert.ModWRefIdeal.nD → PrngReg), Pre_ModWRefIdeal m →
    θ_run (Cert.ModWRefIdeal.defs (F := Ideal)) (onTc (τ := Cert.ModWRefIdeal.τ) (Cert.ModWRefIdeal.main (F := Ideal))) ⟨m, fun _ => 0, g⟩ (fun r => (∀ c : Dev Cert.ModWRefIdeal.nD,
      r.2.mem ((c.tc : Thread Cert.ModWRefIdeal.nD Cert.ModWRefIdeal.τ).loc Cert.ModWRefIdeal.main_arg0) = m ((c.tc : Thread Cert.ModWRefIdeal.nD Cert.ModWRefIdeal.τ).loc Cert.ModWRefIdeal.main_arg0)
      ∧ r.2.mem ((c.tc : Thread Cert.ModWRefIdeal.nD Cert.ModWRefIdeal.τ).loc Cert.ModWRefIdeal.main_arg1) = m ((c.tc : Thread Cert.ModWRefIdeal.nD Cert.ModWRefIdeal.τ).loc Cert.ModWRefIdeal.main_arg1))
      ∧ r.2.sem = fun _ => 0)

def quiescent_ModBG [hModBG : Cert.ModBG.Facts] : Prop :=
  ∀ (m : (ℓ : Loc Cert.ModBG.nD Cert.ModBG.τ Cert.ModBG.sig) → Buf (Elt Bits) ℓ) (g : Dev Cert.ModBG.nD → PrngReg), Pre_ModBG m →
    θ_run (Cert.ModBG.defs (F := Bits)) (onTc (τ := Cert.ModBG.τ) (Cert.ModBG.main (F := Bits))) ⟨m, fun _ => 0, g⟩ (fun r => (∀ c : Dev Cert.ModBG.nD,
      r.2.mem ((c.tc : Thread Cert.ModBG.nD Cert.ModBG.τ).loc Cert.ModBG.main_arg0) = m ((c.tc : Thread Cert.ModBG.nD Cert.ModBG.τ).loc Cert.ModBG.main_arg0))
      ∧ r.2.sem = fun _ => 0)

def quiescent_ModBGIdeal [hModBGIdeal : Cert.ModBGIdeal.Facts] : Prop :=
  ∀ (m : (ℓ : Loc Cert.ModBGIdeal.nD Cert.ModBGIdeal.τ Cert.ModBGIdeal.sig) → Buf (Elt Ideal) ℓ) (g : Dev Cert.ModBGIdeal.nD → PrngReg), Pre_ModBGIdeal m →
    θ_run (Cert.ModBGIdeal.defs (F := Ideal)) (onTc (τ := Cert.ModBGIdeal.τ) (Cert.ModBGIdeal.main (F := Ideal))) ⟨m, fun _ => 0, g⟩ (fun r => (∀ c : Dev Cert.ModBGIdeal.nD,
      r.2.mem ((c.tc : Thread Cert.ModBGIdeal.nD Cert.ModBGIdeal.τ).loc Cert.ModBGIdeal.main_arg0) = m ((c.tc : Thread Cert.ModBGIdeal.nD Cert.ModBGIdeal.τ).loc Cert.ModBGIdeal.main_arg0))
      ∧ r.2.sem = fun _ => 0)

def quiescent_ModBGRefIdeal [hModBGRefIdeal : Cert.ModBGRefIdeal.Facts] : Prop :=
  ∀ (m : (ℓ : Loc Cert.ModBGRefIdeal.nD Cert.ModBGRefIdeal.τ Cert.ModBGRefIdeal.sig) → Buf (Elt Ideal) ℓ) (g : Dev Cert.ModBGRefIdeal.nD → PrngReg), Pre_ModBGRefIdeal m →
    θ_run (Cert.ModBGRefIdeal.defs (F := Ideal)) (onTc (τ := Cert.ModBGRefIdeal.τ) (Cert.ModBGRefIdeal.main (F := Ideal))) ⟨m, fun _ => 0, g⟩ (fun r => (∀ c : Dev Cert.ModBGRefIdeal.nD,
      r.2.mem ((c.tc : Thread Cert.ModBGRefIdeal.nD Cert.ModBGRefIdeal.τ).loc Cert.ModBGRefIdeal.main_arg0) = m ((c.tc : Thread Cert.ModBGRefIdeal.nD Cert.ModBGRefIdeal.τ).loc Cert.ModBGRefIdeal.main_arg0))
      ∧ r.2.sem = fun _ => 0)

def quiescent_ModB [hModB : Cert.ModB.Facts] : Prop :=
  ∀ (m : (ℓ : Loc Cert.ModB.nD Cert.ModB.τ Cert.ModB.sig) → Buf (Elt Bits) ℓ) (g : Dev Cert.ModB.nD → PrngReg), Pre_ModB m →
    θ_run (Cert.ModB.defs (F := Bits)) (onTc (τ := Cert.ModB.τ) (Cert.ModB.main (F := Bits))) ⟨m, fun _ => 0, g⟩ (fun r => (∀ c : Dev Cert.ModB.nD,
      r.2.mem ((c.tc : Thread Cert.ModB.nD Cert.ModB.τ).loc Cert.ModB.main_arg0) = m ((c.tc : Thread Cert.ModB.nD Cert.ModB.τ).loc Cert.ModB.main_arg0)
      ∧ r.2.mem ((c.tc : Thread Cert.ModB.nD Cert.ModB.τ).loc Cert.ModB.main_arg1) = m ((c.tc : Thread Cert.ModB.nD Cert.ModB.τ).loc Cert.ModB.main_arg1))
      ∧ r.2.sem = fun _ => 0)

def quiescent_ModBIdeal [hModBIdeal : Cert.ModBIdeal.Facts] : Prop :=
  ∀ (m : (ℓ : Loc Cert.ModBIdeal.nD Cert.ModBIdeal.τ Cert.ModBIdeal.sig) → Buf (Elt Ideal) ℓ) (g : Dev Cert.ModBIdeal.nD → PrngReg), Pre_ModBIdeal m →
    θ_run (Cert.ModBIdeal.defs (F := Ideal)) (onTc (τ := Cert.ModBIdeal.τ) (Cert.ModBIdeal.main (F := Ideal))) ⟨m, fun _ => 0, g⟩ (fun r => (∀ c : Dev Cert.ModBIdeal.nD,
      r.2.mem ((c.tc : Thread Cert.ModBIdeal.nD Cert.ModBIdeal.τ).loc Cert.ModBIdeal.main_arg0) = m ((c.tc : Thread Cert.ModBIdeal.nD Cert.ModBIdeal.τ).loc Cert.ModBIdeal.main_arg0)
      ∧ r.2.mem ((c.tc : Thread Cert.ModBIdeal.nD Cert.ModBIdeal.τ).loc Cert.ModBIdeal.main_arg1) = m ((c.tc : Thread Cert.ModBIdeal.nD Cert.ModBIdeal.τ).loc Cert.ModBIdeal.main_arg1))
      ∧ r.2.sem = fun _ => 0)

def quiescent_ModBRefIdeal [hModBRefIdeal : Cert.ModBRefIdeal.Facts] : Prop :=
  ∀ (m : (ℓ : Loc Cert.ModBRefIdeal.nD Cert.ModBRefIdeal.τ Cert.ModBRefIdeal.sig) → Buf (Elt Ideal) ℓ) (g : Dev Cert.ModBRefIdeal.nD → PrngReg), Pre_ModBRefIdeal m →
    θ_run (Cert.ModBRefIdeal.defs (F := Ideal)) (onTc (τ := Cert.ModBRefIdeal.τ) (Cert.ModBRefIdeal.main (F := Ideal))) ⟨m, fun _ => 0, g⟩ (fun r => (∀ c : Dev Cert.ModBRefIdeal.nD,
      r.2.mem ((c.tc : Thread Cert.ModBRefIdeal.nD Cert.ModBRefIdeal.τ).loc Cert.ModBRefIdeal.main_arg0) = m ((c.tc : Thread Cert.ModBRefIdeal.nD Cert.ModBRefIdeal.τ).loc Cert.ModBRefIdeal.main_arg0)
      ∧ r.2.mem ((c.tc : Thread Cert.ModBRefIdeal.nD Cert.ModBRefIdeal.τ).loc Cert.ModBRefIdeal.main_arg1) = m ((c.tc : Thread Cert.ModBRefIdeal.nD Cert.ModBRefIdeal.τ).loc Cert.ModBRefIdeal.main_arg1))
      ∧ r.2.sem = fun _ => 0)

def quiescent_ModBA [hModBA : Cert.ModBA.Facts] : Prop :=
  ∀ (m : (ℓ : Loc Cert.ModBA.nD Cert.ModBA.τ Cert.ModBA.sig) → Buf (Elt Bits) ℓ) (g : Dev Cert.ModBA.nD → PrngReg), Pre_ModBA m →
    θ_run (Cert.ModBA.defs (F := Bits)) (onTc (τ := Cert.ModBA.τ) (Cert.ModBA.main (F := Bits))) ⟨m, fun _ => 0, g⟩ (fun r => (∀ c : Dev Cert.ModBA.nD,
      r.2.mem ((c.tc : Thread Cert.ModBA.nD Cert.ModBA.τ).loc Cert.ModBA.main_arg0) = m ((c.tc : Thread Cert.ModBA.nD Cert.ModBA.τ).loc Cert.ModBA.main_arg0)
      ∧ r.2.mem ((c.tc : Thread Cert.ModBA.nD Cert.ModBA.τ).loc Cert.ModBA.main_arg1) = m ((c.tc : Thread Cert.ModBA.nD Cert.ModBA.τ).loc Cert.ModBA.main_arg1)
      ∧ r.2.mem ((c.tc : Thread Cert.ModBA.nD Cert.ModBA.τ).loc Cert.ModBA.main_arg2) = m ((c.tc : Thread Cert.ModBA.nD Cert.ModBA.τ).loc Cert.ModBA.main_arg2))
      ∧ r.2.sem = fun _ => 0)

def quiescent_ModBAIdeal [hModBAIdeal : Cert.ModBAIdeal.Facts] : Prop :=
  ∀ (m : (ℓ : Loc Cert.ModBAIdeal.nD Cert.ModBAIdeal.τ Cert.ModBAIdeal.sig) → Buf (Elt Ideal) ℓ) (g : Dev Cert.ModBAIdeal.nD → PrngReg), Pre_ModBAIdeal m →
    θ_run (Cert.ModBAIdeal.defs (F := Ideal)) (onTc (τ := Cert.ModBAIdeal.τ) (Cert.ModBAIdeal.main (F := Ideal))) ⟨m, fun _ => 0, g⟩ (fun r => (∀ c : Dev Cert.ModBAIdeal.nD,
      r.2.mem ((c.tc : Thread Cert.ModBAIdeal.nD Cert.ModBAIdeal.τ).loc Cert.ModBAIdeal.main_arg0) = m ((c.tc : Thread Cert.ModBAIdeal.nD Cert.ModBAIdeal.τ).loc Cert.ModBAIdeal.main_arg0)
      ∧ r.2.mem ((c.tc : Thread Cert.ModBAIdeal.nD Cert.ModBAIdeal.τ).loc Cert.ModBAIdeal.main_arg1) = m ((c.tc : Thread Cert.ModBAIdeal.nD Cert.ModBAIdeal.τ).loc Cert.ModBAIdeal.main_arg1)
      ∧ r.2.mem ((c.tc : Thread Cert.ModBAIdeal.nD Cert.ModBAIdeal.τ).loc Cert.ModBAIdeal.main_arg2) = m ((c.tc : Thread Cert.ModBAIdeal.nD Cert.ModBAIdeal.τ).loc Cert.ModBAIdeal.main_arg2))
      ∧ r.2.sem = fun _ => 0)

def quiescent_ModBARefIdeal [hModBARefIdeal : Cert.ModBARefIdeal.Facts] : Prop :=
  ∀ (m : (ℓ : Loc Cert.ModBARefIdeal.nD Cert.ModBARefIdeal.τ Cert.ModBARefIdeal.sig) → Buf (Elt Ideal) ℓ) (g : Dev Cert.ModBARefIdeal.nD → PrngReg), Pre_ModBARefIdeal m →
    θ_run (Cert.ModBARefIdeal.defs (F := Ideal)) (onTc (τ := Cert.ModBARefIdeal.τ) (Cert.ModBARefIdeal.main (F := Ideal))) ⟨m, fun _ => 0, g⟩ (fun r => (∀ c : Dev Cert.ModBARefIdeal.nD,
      r.2.mem ((c.tc : Thread Cert.ModBARefIdeal.nD Cert.ModBARefIdeal.τ).loc Cert.ModBARefIdeal.main_arg0) = m ((c.tc : Thread Cert.ModBARefIdeal.nD Cert.ModBARefIdeal.τ).loc Cert.ModBARefIdeal.main_arg0)
      ∧ r.2.mem ((c.tc : Thread Cert.ModBARefIdeal.nD Cert.ModBARefIdeal.τ).loc Cert.ModBARefIdeal.main_arg1) = m ((c.tc : Thread Cert.ModBARefIdeal.nD Cert.ModBARefIdeal.τ).loc Cert.ModBARefIdeal.main_arg1)
      ∧ r.2.mem ((c.tc : Thread Cert.ModBARefIdeal.nD Cert.ModBARefIdeal.τ).loc Cert.ModBARefIdeal.main_arg2) = m ((c.tc : Thread Cert.ModBARefIdeal.nD Cert.ModBARefIdeal.τ).loc Cert.ModBARefIdeal.main_arg2))
      ∧ r.2.sem = fun _ => 0)

def quiescent_SiluB [hSiluB : Cert.SiluB.Facts] : Prop :=
  ∀ (m : (ℓ : Loc Cert.SiluB.nD Cert.SiluB.τ Cert.SiluB.sig) → Buf (Elt Bits) ℓ) (g : Dev Cert.SiluB.nD → PrngReg), Pre_SiluB m →
    θ_run (Cert.SiluB.defs (F := Bits)) (onTc (τ := Cert.SiluB.τ) (Cert.SiluB.main (F := Bits))) ⟨m, fun _ => 0, g⟩ (fun r => (∀ c : Dev Cert.SiluB.nD,
      r.2.mem ((c.tc : Thread Cert.SiluB.nD Cert.SiluB.τ).loc Cert.SiluB.main_arg0) = m ((c.tc : Thread Cert.SiluB.nD Cert.SiluB.τ).loc Cert.SiluB.main_arg0)
      ∧ r.2.mem ((c.tc : Thread Cert.SiluB.nD Cert.SiluB.τ).loc Cert.SiluB.main_arg1) = m ((c.tc : Thread Cert.SiluB.nD Cert.SiluB.τ).loc Cert.SiluB.main_arg1))
      ∧ r.2.sem = fun _ => 0)

def quiescent_SiluBIdeal [hSiluBIdeal : Cert.SiluBIdeal.Facts] : Prop :=
  ∀ (m : (ℓ : Loc Cert.SiluBIdeal.nD Cert.SiluBIdeal.τ Cert.SiluBIdeal.sig) → Buf (Elt Ideal) ℓ) (g : Dev Cert.SiluBIdeal.nD → PrngReg), Pre_SiluBIdeal m →
    θ_run (Cert.SiluBIdeal.defs (F := Ideal)) (onTc (τ := Cert.SiluBIdeal.τ) (Cert.SiluBIdeal.main (F := Ideal))) ⟨m, fun _ => 0, g⟩ (fun r => (∀ c : Dev Cert.SiluBIdeal.nD,
      r.2.mem ((c.tc : Thread Cert.SiluBIdeal.nD Cert.SiluBIdeal.τ).loc Cert.SiluBIdeal.main_arg0) = m ((c.tc : Thread Cert.SiluBIdeal.nD Cert.SiluBIdeal.τ).loc Cert.SiluBIdeal.main_arg0)
      ∧ r.2.mem ((c.tc : Thread Cert.SiluBIdeal.nD Cert.SiluBIdeal.τ).loc Cert.SiluBIdeal.main_arg1) = m ((c.tc : Thread Cert.SiluBIdeal.nD Cert.SiluBIdeal.τ).loc Cert.SiluBIdeal.main_arg1))
      ∧ r.2.sem = fun _ => 0)

def quiescent_SiluBRefIdeal [hSiluBRefIdeal : Cert.SiluBRefIdeal.Facts] : Prop :=
  ∀ (m : (ℓ : Loc Cert.SiluBRefIdeal.nD Cert.SiluBRefIdeal.τ Cert.SiluBRefIdeal.sig) → Buf (Elt Ideal) ℓ) (g : Dev Cert.SiluBRefIdeal.nD → PrngReg), Pre_SiluBRefIdeal m →
    θ_run (Cert.SiluBRefIdeal.defs (F := Ideal)) (onTc (τ := Cert.SiluBRefIdeal.τ) (Cert.SiluBRefIdeal.main (F := Ideal))) ⟨m, fun _ => 0, g⟩ (fun r => (∀ c : Dev Cert.SiluBRefIdeal.nD,
      r.2.mem ((c.tc : Thread Cert.SiluBRefIdeal.nD Cert.SiluBRefIdeal.τ).loc Cert.SiluBRefIdeal.main_arg0) = m ((c.tc : Thread Cert.SiluBRefIdeal.nD Cert.SiluBRefIdeal.τ).loc Cert.SiluBRefIdeal.main_arg0)
      ∧ r.2.mem ((c.tc : Thread Cert.SiluBRefIdeal.nD Cert.SiluBRefIdeal.τ).loc Cert.SiluBRefIdeal.main_arg1) = m ((c.tc : Thread Cert.SiluBRefIdeal.nD Cert.SiluBRefIdeal.τ).loc Cert.SiluBRefIdeal.main_arg1))
      ∧ r.2.sem = fun _ => 0)

def quiescent_AdMod [hAdMod : Cert.AdMod.Facts] : Prop :=
  ∀ (m : (ℓ : Loc Cert.AdMod.nD Cert.AdMod.τ Cert.AdMod.sig) → Buf (Elt Bits) ℓ) (g : Dev Cert.AdMod.nD → PrngReg), Pre_AdMod m →
    θ_run (Cert.AdMod.defs (F := Bits)) (onTc (τ := Cert.AdMod.τ) (Cert.AdMod.main (F := Bits))) ⟨m, fun _ => 0, g⟩ (fun r => (∀ c : Dev Cert.AdMod.nD,
      r.2.mem ((c.tc : Thread Cert.AdMod.nD Cert.AdMod.τ).loc Cert.AdMod.main_arg0) = m ((c.tc : Thread Cert.AdMod.nD Cert.AdMod.τ).loc Cert.AdMod.main_arg0)
      ∧ r.2.mem ((c.tc : Thread Cert.AdMod.nD Cert.AdMod.τ).loc Cert.AdMod.main_arg1) = m ((c.tc : Thread Cert.AdMod.nD Cert.AdMod.τ).loc Cert.AdMod.main_arg1)
      ∧ r.2.mem ((c.tc : Thread Cert.AdMod.nD Cert.AdMod.τ).loc Cert.AdMod.main_arg2) = m ((c.tc : Thread Cert.AdMod.nD Cert.AdMod.τ).loc Cert.AdMod.main_arg2)
      ∧ r.2.mem ((c.tc : Thread Cert.AdMod.nD Cert.AdMod.τ).loc Cert.AdMod.main_arg3) = m ((c.tc : Thread Cert.AdMod.nD Cert.AdMod.τ).loc Cert.AdMod.main_arg3))
      ∧ r.2.sem = fun _ => 0)

def quiescent_AdModIdeal [hAdModIdeal : Cert.AdModIdeal.Facts] : Prop :=
  ∀ (m : (ℓ : Loc Cert.AdModIdeal.nD Cert.AdModIdeal.τ Cert.AdModIdeal.sig) → Buf (Elt Ideal) ℓ) (g : Dev Cert.AdModIdeal.nD → PrngReg), Pre_AdModIdeal m →
    θ_run (Cert.AdModIdeal.defs (F := Ideal)) (onTc (τ := Cert.AdModIdeal.τ) (Cert.AdModIdeal.main (F := Ideal))) ⟨m, fun _ => 0, g⟩ (fun r => (∀ c : Dev Cert.AdModIdeal.nD,
      r.2.mem ((c.tc : Thread Cert.AdModIdeal.nD Cert.AdModIdeal.τ).loc Cert.AdModIdeal.main_arg0) = m ((c.tc : Thread Cert.AdModIdeal.nD Cert.AdModIdeal.τ).loc Cert.AdModIdeal.main_arg0)
      ∧ r.2.mem ((c.tc : Thread Cert.AdModIdeal.nD Cert.AdModIdeal.τ).loc Cert.AdModIdeal.main_arg1) = m ((c.tc : Thread Cert.AdModIdeal.nD Cert.AdModIdeal.τ).loc Cert.AdModIdeal.main_arg1)
      ∧ r.2.mem ((c.tc : Thread Cert.AdModIdeal.nD Cert.AdModIdeal.τ).loc Cert.AdModIdeal.main_arg2) = m ((c.tc : Thread Cert.AdModIdeal.nD Cert.AdModIdeal.τ).loc Cert.AdModIdeal.main_arg2)
      ∧ r.2.mem ((c.tc : Thread Cert.AdModIdeal.nD Cert.AdModIdeal.τ).loc Cert.AdModIdeal.main_arg3) = m ((c.tc : Thread Cert.AdModIdeal.nD Cert.AdModIdeal.τ).loc Cert.AdModIdeal.main_arg3))
      ∧ r.2.sem = fun _ => 0)

def quiescent_AdModRefIdeal [hAdModRefIdeal : Cert.AdModRefIdeal.Facts] : Prop :=
  ∀ (m : (ℓ : Loc Cert.AdModRefIdeal.nD Cert.AdModRefIdeal.τ Cert.AdModRefIdeal.sig) → Buf (Elt Ideal) ℓ) (g : Dev Cert.AdModRefIdeal.nD → PrngReg), Pre_AdModRefIdeal m →
    θ_run (Cert.AdModRefIdeal.defs (F := Ideal)) (onTc (τ := Cert.AdModRefIdeal.τ) (Cert.AdModRefIdeal.main (F := Ideal))) ⟨m, fun _ => 0, g⟩ (fun r => (∀ c : Dev Cert.AdModRefIdeal.nD,
      r.2.mem ((c.tc : Thread Cert.AdModRefIdeal.nD Cert.AdModRefIdeal.τ).loc Cert.AdModRefIdeal.main_arg0) = m ((c.tc : Thread Cert.AdModRefIdeal.nD Cert.AdModRefIdeal.τ).loc Cert.AdModRefIdeal.main_arg0)
      ∧ r.2.mem ((c.tc : Thread Cert.AdModRefIdeal.nD Cert.AdModRefIdeal.τ).loc Cert.AdModRefIdeal.main_arg1) = m ((c.tc : Thread Cert.AdModRefIdeal.nD Cert.AdModRefIdeal.τ).loc Cert.AdModRefIdeal.main_arg1)
      ∧ r.2.mem ((c.tc : Thread Cert.AdModRefIdeal.nD Cert.AdModRefIdeal.τ).loc Cert.AdModRefIdeal.main_arg2) = m ((c.tc : Thread Cert.AdModRefIdeal.nD Cert.AdModRefIdeal.τ).loc Cert.AdModRefIdeal.main_arg2)
      ∧ r.2.mem ((c.tc : Thread Cert.AdModRefIdeal.nD Cert.AdModRefIdeal.τ).loc Cert.AdModRefIdeal.main_arg3) = m ((c.tc : Thread Cert.AdModRefIdeal.nD Cert.AdModRefIdeal.τ).loc Cert.AdModRefIdeal.main_arg3))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdGlu [hAdGlu : Cert.AdGlu.Facts] : Prop :=
  ∀ (m : (ℓ : Loc Cert.AdGlu.nD Cert.AdGlu.τ Cert.AdGlu.sig) → Buf (Elt Bits) ℓ) (g : Dev Cert.AdGlu.nD → PrngReg), Pre_AdGlu m →
    θ_run (Cert.AdGlu.defs (F := Bits)) (onTc (τ := Cert.AdGlu.τ) (Cert.AdGlu.main (F := Bits))) ⟨m, fun _ => 0, g⟩ (fun r => (∀ c : Dev Cert.AdGlu.nD,
      r.2.mem ((c.tc : Thread Cert.AdGlu.nD Cert.AdGlu.τ).loc Cert.AdGlu.main_arg0) = m ((c.tc : Thread Cert.AdGlu.nD Cert.AdGlu.τ).loc Cert.AdGlu.main_arg0)
      ∧ r.2.mem ((c.tc : Thread Cert.AdGlu.nD Cert.AdGlu.τ).loc Cert.AdGlu.main_arg1) = m ((c.tc : Thread Cert.AdGlu.nD Cert.AdGlu.τ).loc Cert.AdGlu.main_arg1)
      ∧ r.2.mem ((c.tc : Thread Cert.AdGlu.nD Cert.AdGlu.τ).loc Cert.AdGlu.main_arg2) = m ((c.tc : Thread Cert.AdGlu.nD Cert.AdGlu.τ).loc Cert.AdGlu.main_arg2)
      ∧ r.2.mem ((c.tc : Thread Cert.AdGlu.nD Cert.AdGlu.τ).loc Cert.AdGlu.main_arg3) = m ((c.tc : Thread Cert.AdGlu.nD Cert.AdGlu.τ).loc Cert.AdGlu.main_arg3))
      ∧ r.2.sem = fun _ => 0)

def quiescent_AdGluIdeal [hAdGluIdeal : Cert.AdGluIdeal.Facts] : Prop :=
  ∀ (m : (ℓ : Loc Cert.AdGluIdeal.nD Cert.AdGluIdeal.τ Cert.AdGluIdeal.sig) → Buf (Elt Ideal) ℓ) (g : Dev Cert.AdGluIdeal.nD → PrngReg), Pre_AdGluIdeal m →
    θ_run (Cert.AdGluIdeal.defs (F := Ideal)) (onTc (τ := Cert.AdGluIdeal.τ) (Cert.AdGluIdeal.main (F := Ideal))) ⟨m, fun _ => 0, g⟩ (fun r => (∀ c : Dev Cert.AdGluIdeal.nD,
      r.2.mem ((c.tc : Thread Cert.AdGluIdeal.nD Cert.AdGluIdeal.τ).loc Cert.AdGluIdeal.main_arg0) = m ((c.tc : Thread Cert.AdGluIdeal.nD Cert.AdGluIdeal.τ).loc Cert.AdGluIdeal.main_arg0)
      ∧ r.2.mem ((c.tc : Thread Cert.AdGluIdeal.nD Cert.AdGluIdeal.τ).loc Cert.AdGluIdeal.main_arg1) = m ((c.tc : Thread Cert.AdGluIdeal.nD Cert.AdGluIdeal.τ).loc Cert.AdGluIdeal.main_arg1)
      ∧ r.2.mem ((c.tc : Thread Cert.AdGluIdeal.nD Cert.AdGluIdeal.τ).loc Cert.AdGluIdeal.main_arg2) = m ((c.tc : Thread Cert.AdGluIdeal.nD Cert.AdGluIdeal.τ).loc Cert.AdGluIdeal.main_arg2)
      ∧ r.2.mem ((c.tc : Thread Cert.AdGluIdeal.nD Cert.AdGluIdeal.τ).loc Cert.AdGluIdeal.main_arg3) = m ((c.tc : Thread Cert.AdGluIdeal.nD Cert.AdGluIdeal.τ).loc Cert.AdGluIdeal.main_arg3))
      ∧ r.2.sem = fun _ => 0)

def quiescent_AdGluRefIdeal [hAdGluRefIdeal : Cert.AdGluRefIdeal.Facts] : Prop :=
  ∀ (m : (ℓ : Loc Cert.AdGluRefIdeal.nD Cert.AdGluRefIdeal.τ Cert.AdGluRefIdeal.sig) → Buf (Elt Ideal) ℓ) (g : Dev Cert.AdGluRefIdeal.nD → PrngReg), Pre_AdGluRefIdeal m →
    θ_run (Cert.AdGluRefIdeal.defs (F := Ideal)) (onTc (τ := Cert.AdGluRefIdeal.τ) (Cert.AdGluRefIdeal.main (F := Ideal))) ⟨m, fun _ => 0, g⟩ (fun r => (∀ c : Dev Cert.AdGluRefIdeal.nD,
      r.2.mem ((c.tc : Thread Cert.AdGluRefIdeal.nD Cert.AdGluRefIdeal.τ).loc Cert.AdGluRefIdeal.main_arg0) = m ((c.tc : Thread Cert.AdGluRefIdeal.nD Cert.AdGluRefIdeal.τ).loc Cert.AdGluRefIdeal.main_arg0)
      ∧ r.2.mem ((c.tc : Thread Cert.AdGluRefIdeal.nD Cert.AdGluRefIdeal.τ).loc Cert.AdGluRefIdeal.main_arg1) = m ((c.tc : Thread Cert.AdGluRefIdeal.nD Cert.AdGluRefIdeal.τ).loc Cert.AdGluRefIdeal.main_arg1)
      ∧ r.2.mem ((c.tc : Thread Cert.AdGluRefIdeal.nD Cert.AdGluRefIdeal.τ).loc Cert.AdGluRefIdeal.main_arg2) = m ((c.tc : Thread Cert.AdGluRefIdeal.nD Cert.AdGluRefIdeal.τ).loc Cert.AdGluRefIdeal.main_arg2)
      ∧ r.2.mem ((c.tc : Thread Cert.AdGluRefIdeal.nD Cert.AdGluRefIdeal.τ).loc Cert.AdGluRefIdeal.main_arg3) = m ((c.tc : Thread Cert.AdGluRefIdeal.nD Cert.AdGluRefIdeal.τ).loc Cert.AdGluRefIdeal.main_arg3))
      ∧ r.2.sem = fun _ => 0)

def quiescent_AdBr [hAdBr : Cert.AdBr.Facts] : Prop :=
  ∀ (m : (ℓ : Loc Cert.AdBr.nD Cert.AdBr.τ Cert.AdBr.sig) → Buf (Elt Bits) ℓ) (g : Dev Cert.AdBr.nD → PrngReg), Pre_AdBr m →
    θ_run (Cert.AdBr.defs (F := Bits)) (onTc (τ := Cert.AdBr.τ) (Cert.AdBr.main (F := Bits))) ⟨m, fun _ => 0, g⟩ (fun r => (∀ c : Dev Cert.AdBr.nD,
      r.2.mem ((c.tc : Thread Cert.AdBr.nD Cert.AdBr.τ).loc Cert.AdBr.main_arg0) = m ((c.tc : Thread Cert.AdBr.nD Cert.AdBr.τ).loc Cert.AdBr.main_arg0)
      ∧ r.2.mem ((c.tc : Thread Cert.AdBr.nD Cert.AdBr.τ).loc Cert.AdBr.main_arg1) = m ((c.tc : Thread Cert.AdBr.nD Cert.AdBr.τ).loc Cert.AdBr.main_arg1)
      ∧ r.2.mem ((c.tc : Thread Cert.AdBr.nD Cert.AdBr.τ).loc Cert.AdBr.main_arg2) = m ((c.tc : Thread Cert.AdBr.nD Cert.AdBr.τ).loc Cert.AdBr.main_arg2)
      ∧ r.2.mem ((c.tc : Thread Cert.AdBr.nD Cert.AdBr.τ).loc Cert.AdBr.main_arg3) = m ((c.tc : Thread Cert.AdBr.nD Cert.AdBr.τ).loc Cert.AdBr.main_arg3))
      ∧ r.2.sem = fun _ => 0)

def quiescent_AdBrIdeal [hAdBrIdeal : Cert.AdBrIdeal.Facts] : Prop :=
  ∀ (m : (ℓ : Loc Cert.AdBrIdeal.nD Cert.AdBrIdeal.τ Cert.AdBrIdeal.sig) → Buf (Elt Ideal) ℓ) (g : Dev Cert.AdBrIdeal.nD → PrngReg), Pre_AdBrIdeal m →
    θ_run (Cert.AdBrIdeal.defs (F := Ideal)) (onTc (τ := Cert.AdBrIdeal.τ) (Cert.AdBrIdeal.main (F := Ideal))) ⟨m, fun _ => 0, g⟩ (fun r => (∀ c : Dev Cert.AdBrIdeal.nD,
      r.2.mem ((c.tc : Thread Cert.AdBrIdeal.nD Cert.AdBrIdeal.τ).loc Cert.AdBrIdeal.main_arg0) = m ((c.tc : Thread Cert.AdBrIdeal.nD Cert.AdBrIdeal.τ).loc Cert.AdBrIdeal.main_arg0)
      ∧ r.2.mem ((c.tc : Thread Cert.AdBrIdeal.nD Cert.AdBrIdeal.τ).loc Cert.AdBrIdeal.main_arg1) = m ((c.tc : Thread Cert.AdBrIdeal.nD Cert.AdBrIdeal.τ).loc Cert.AdBrIdeal.main_arg1)
      ∧ r.2.mem ((c.tc : Thread Cert.AdBrIdeal.nD Cert.AdBrIdeal.τ).loc Cert.AdBrIdeal.main_arg2) = m ((c.tc : Thread Cert.AdBrIdeal.nD Cert.AdBrIdeal.τ).loc Cert.AdBrIdeal.main_arg2)
      ∧ r.2.mem ((c.tc : Thread Cert.AdBrIdeal.nD Cert.AdBrIdeal.τ).loc Cert.AdBrIdeal.main_arg3) = m ((c.tc : Thread Cert.AdBrIdeal.nD Cert.AdBrIdeal.τ).loc Cert.AdBrIdeal.main_arg3))
      ∧ r.2.sem = fun _ => 0)

def quiescent_AdBrRefIdeal [hAdBrRefIdeal : Cert.AdBrRefIdeal.Facts] : Prop :=
  ∀ (m : (ℓ : Loc Cert.AdBrRefIdeal.nD Cert.AdBrRefIdeal.τ Cert.AdBrRefIdeal.sig) → Buf (Elt Ideal) ℓ) (g : Dev Cert.AdBrRefIdeal.nD → PrngReg), Pre_AdBrRefIdeal m →
    θ_run (Cert.AdBrRefIdeal.defs (F := Ideal)) (onTc (τ := Cert.AdBrRefIdeal.τ) (Cert.AdBrRefIdeal.main (F := Ideal))) ⟨m, fun _ => 0, g⟩ (fun r => (∀ c : Dev Cert.AdBrRefIdeal.nD,
      r.2.mem ((c.tc : Thread Cert.AdBrRefIdeal.nD Cert.AdBrRefIdeal.τ).loc Cert.AdBrRefIdeal.main_arg0) = m ((c.tc : Thread Cert.AdBrRefIdeal.nD Cert.AdBrRefIdeal.τ).loc Cert.AdBrRefIdeal.main_arg0)
      ∧ r.2.mem ((c.tc : Thread Cert.AdBrRefIdeal.nD Cert.AdBrRefIdeal.τ).loc Cert.AdBrRefIdeal.main_arg1) = m ((c.tc : Thread Cert.AdBrRefIdeal.nD Cert.AdBrRefIdeal.τ).loc Cert.AdBrRefIdeal.main_arg1)
      ∧ r.2.mem ((c.tc : Thread Cert.AdBrRefIdeal.nD Cert.AdBrRefIdeal.τ).loc Cert.AdBrRefIdeal.main_arg2) = m ((c.tc : Thread Cert.AdBrRefIdeal.nD Cert.AdBrRefIdeal.τ).loc Cert.AdBrRefIdeal.main_arg2)
      ∧ r.2.mem ((c.tc : Thread Cert.AdBrRefIdeal.nD Cert.AdBrRefIdeal.τ).loc Cert.AdBrRefIdeal.main_arg3) = m ((c.tc : Thread Cert.AdBrRefIdeal.nD Cert.AdBrRefIdeal.τ).loc Cert.AdBrRefIdeal.main_arg3))
      ∧ r.2.sem = fun _ => 0)

def quiescent_AdFf [hAdFf : Cert.AdFf.Facts] : Prop :=
  ∀ (m : (ℓ : Loc Cert.AdFf.nD Cert.AdFf.τ Cert.AdFf.sig) → Buf (Elt Bits) ℓ) (g : Dev Cert.AdFf.nD → PrngReg), Pre_AdFf m →
    θ_run (Cert.AdFf.defs (F := Bits)) (onTc (τ := Cert.AdFf.τ) (Cert.AdFf.main (F := Bits))) ⟨m, fun _ => 0, g⟩ (fun r => (∀ c : Dev Cert.AdFf.nD,
      r.2.mem ((c.tc : Thread Cert.AdFf.nD Cert.AdFf.τ).loc Cert.AdFf.main_arg0) = m ((c.tc : Thread Cert.AdFf.nD Cert.AdFf.τ).loc Cert.AdFf.main_arg0)
      ∧ r.2.mem ((c.tc : Thread Cert.AdFf.nD Cert.AdFf.τ).loc Cert.AdFf.main_arg1) = m ((c.tc : Thread Cert.AdFf.nD Cert.AdFf.τ).loc Cert.AdFf.main_arg1)
      ∧ r.2.mem ((c.tc : Thread Cert.AdFf.nD Cert.AdFf.τ).loc Cert.AdFf.main_arg2) = m ((c.tc : Thread Cert.AdFf.nD Cert.AdFf.τ).loc Cert.AdFf.main_arg2)
      ∧ r.2.mem ((c.tc : Thread Cert.AdFf.nD Cert.AdFf.τ).loc Cert.AdFf.main_arg3) = m ((c.tc : Thread Cert.AdFf.nD Cert.AdFf.τ).loc Cert.AdFf.main_arg3))
      ∧ r.2.sem = fun _ => 0)

def quiescent_AdFfIdeal [hAdFfIdeal : Cert.AdFfIdeal.Facts] : Prop :=
  ∀ (m : (ℓ : Loc Cert.AdFfIdeal.nD Cert.AdFfIdeal.τ Cert.AdFfIdeal.sig) → Buf (Elt Ideal) ℓ) (g : Dev Cert.AdFfIdeal.nD → PrngReg), Pre_AdFfIdeal m →
    θ_run (Cert.AdFfIdeal.defs (F := Ideal)) (onTc (τ := Cert.AdFfIdeal.τ) (Cert.AdFfIdeal.main (F := Ideal))) ⟨m, fun _ => 0, g⟩ (fun r => (∀ c : Dev Cert.AdFfIdeal.nD,
      r.2.mem ((c.tc : Thread Cert.AdFfIdeal.nD Cert.AdFfIdeal.τ).loc Cert.AdFfIdeal.main_arg0) = m ((c.tc : Thread Cert.AdFfIdeal.nD Cert.AdFfIdeal.τ).loc Cert.AdFfIdeal.main_arg0)
      ∧ r.2.mem ((c.tc : Thread Cert.AdFfIdeal.nD Cert.AdFfIdeal.τ).loc Cert.AdFfIdeal.main_arg1) = m ((c.tc : Thread Cert.AdFfIdeal.nD Cert.AdFfIdeal.τ).loc Cert.AdFfIdeal.main_arg1)
      ∧ r.2.mem ((c.tc : Thread Cert.AdFfIdeal.nD Cert.AdFfIdeal.τ).loc Cert.AdFfIdeal.main_arg2) = m ((c.tc : Thread Cert.AdFfIdeal.nD Cert.AdFfIdeal.τ).loc Cert.AdFfIdeal.main_arg2)
      ∧ r.2.mem ((c.tc : Thread Cert.AdFfIdeal.nD Cert.AdFfIdeal.τ).loc Cert.AdFfIdeal.main_arg3) = m ((c.tc : Thread Cert.AdFfIdeal.nD Cert.AdFfIdeal.τ).loc Cert.AdFfIdeal.main_arg3))
      ∧ r.2.sem = fun _ => 0)

def quiescent_AdFfRefIdeal [hAdFfRefIdeal : Cert.AdFfRefIdeal.Facts] : Prop :=
  ∀ (m : (ℓ : Loc Cert.AdFfRefIdeal.nD Cert.AdFfRefIdeal.τ Cert.AdFfRefIdeal.sig) → Buf (Elt Ideal) ℓ) (g : Dev Cert.AdFfRefIdeal.nD → PrngReg), Pre_AdFfRefIdeal m →
    θ_run (Cert.AdFfRefIdeal.defs (F := Ideal)) (onTc (τ := Cert.AdFfRefIdeal.τ) (Cert.AdFfRefIdeal.main (F := Ideal))) ⟨m, fun _ => 0, g⟩ (fun r => (∀ c : Dev Cert.AdFfRefIdeal.nD,
      r.2.mem ((c.tc : Thread Cert.AdFfRefIdeal.nD Cert.AdFfRefIdeal.τ).loc Cert.AdFfRefIdeal.main_arg0) = m ((c.tc : Thread Cert.AdFfRefIdeal.nD Cert.AdFfRefIdeal.τ).loc Cert.AdFfRefIdeal.main_arg0)
      ∧ r.2.mem ((c.tc : Thread Cert.AdFfRefIdeal.nD Cert.AdFfRefIdeal.τ).loc Cert.AdFfRefIdeal.main_arg1) = m ((c.tc : Thread Cert.AdFfRefIdeal.nD Cert.AdFfRefIdeal.τ).loc Cert.AdFfRefIdeal.main_arg1)
      ∧ r.2.mem ((c.tc : Thread Cert.AdFfRefIdeal.nD Cert.AdFfRefIdeal.τ).loc Cert.AdFfRefIdeal.main_arg2) = m ((c.tc : Thread Cert.AdFfRefIdeal.nD Cert.AdFfRefIdeal.τ).loc Cert.AdFfRefIdeal.main_arg2)
      ∧ r.2.mem ((c.tc : Thread Cert.AdFfRefIdeal.nD Cert.AdFfRefIdeal.τ).loc Cert.AdFfRefIdeal.main_arg3) = m ((c.tc : Thread Cert.AdFfRefIdeal.nD Cert.AdFfRefIdeal.τ).loc Cert.AdFfRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)
      ∧ m' ((c.tc : Thread Cert.MergeBRefIdeal.nD Cert.MergeBRefIdeal.τ).loc Cert.MergeBRefIdeal.main_arg4) = m ((c.tc : Thread Cert.MergeBIdeal.nD Cert.MergeBIdeal.τ).loc Cert.MergeBIdeal.main_arg4)
      ∧ m' ((c.tc : Thread Cert.MergeBRefIdeal.nD Cert.MergeBRefIdeal.τ).loc Cert.MergeBRefIdeal.main_arg5) = m ((c.tc : Thread Cert.MergeBIdeal.nD Cert.MergeBIdeal.τ).loc Cert.MergeBIdeal.main_arg5)
      ∧ m' ((c.tc : Thread Cert.MergeBRefIdeal.nD Cert.MergeBRefIdeal.τ).loc Cert.MergeBRefIdeal.main_arg6) = m ((c.tc : Thread Cert.MergeBIdeal.nD Cert.MergeBIdeal.τ).loc Cert.MergeBIdeal.main_arg6)) →
    ∃ (v0 : (c : Dev Cert.MergeBIdeal.nD) → Buf (Elt Ideal) ((c.tc : Thread Cert.MergeBIdeal.nD Cert.MergeBIdeal.τ).loc Cert.MergeBIdeal.main_v0_0)) (v1 : (c : Dev Cert.MergeBIdeal.nD) → Buf (Elt Ideal) ((c.tc : Thread Cert.MergeBIdeal.nD Cert.MergeBIdeal.τ).loc Cert.MergeBIdeal.main_v0_1)) (v2 : (c : Dev Cert.MergeBIdeal.nD) → Buf (Elt Ideal) ((c.tc : Thread Cert.MergeBIdeal.nD Cert.MergeBIdeal.τ).loc Cert.MergeBIdeal.main_v0_2)) (v3 : (c : Dev Cert.MergeBIdeal.nD) → Buf (Elt Ideal) ((c.tc : Thread Cert.MergeBIdeal.nD Cert.MergeBIdeal.τ).loc Cert.MergeBIdeal.main_v0_3)) (v4 : (c : Dev Cert.MergeBIdeal.nD) → Buf (Elt Ideal) ((c.tc : Thread Cert.MergeBIdeal.nD Cert.MergeBIdeal.τ).loc Cert.MergeBIdeal.main_v0_4)) (v5 : (c : Dev Cert.MergeBIdeal.nD) → Buf (Elt Ideal) ((c.tc : Thread Cert.MergeBIdeal.nD Cert.MergeBIdeal.τ).loc Cert.MergeBIdeal.main_v0_5)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v0_0) = v0 c
          ∧ r.2.mem ((c.tc : Thread Cert.MergeBIdeal.nD Cert.MergeBIdeal.τ).loc Cert.MergeBIdeal.main_v0_1) = v1 c
          ∧ r.2.mem ((c.tc : Thread Cert.MergeBIdeal.nD Cert.MergeBIdeal.τ).loc Cert.MergeBIdeal.main_v0_2) = v2 c
          ∧ r.2.mem ((c.tc : Thread Cert.MergeBIdeal.nD Cert.MergeBIdeal.τ).loc Cert.MergeBIdeal.main_v0_3) = v3 c
          ∧ r.2.mem ((c.tc : Thread Cert.MergeBIdeal.nD Cert.MergeBIdeal.τ).loc Cert.MergeBIdeal.main_v0_4) = v4 c
          ∧ r.2.mem ((c.tc : Thread Cert.MergeBIdeal.nD Cert.MergeBIdeal.τ).loc Cert.MergeBIdeal.main_v0_5) = v5 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
          ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
          ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5)
          ∧ r.2.mem ((c.tc : Thread Cert.MergeBIdeal.nD Cert.MergeBIdeal.τ).loc Cert.MergeBIdeal.main_arg6) = m ((c.tc : Thread Cert.MergeBIdeal.nD Cert.MergeBIdeal.τ).loc Cert.MergeBIdeal.main_arg6))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v34) = v0 c
          ∧ r.2.mem ((c.tc : Thread Cert.MergeBRefIdeal.nD Cert.MergeBRefIdeal.τ).loc Cert.MergeBRefIdeal.main_v35) = v1 c
          ∧ r.2.mem ((c.tc : Thread Cert.MergeBRefIdeal.nD Cert.MergeBRefIdeal.τ).loc Cert.MergeBRefIdeal.main_v36) = v2 c
          ∧ r.2.mem ((c.tc : Thread Cert.MergeBRefIdeal.nD Cert.MergeBRefIdeal.τ).loc Cert.MergeBRefIdeal.main_v37) = v3 c
          ∧ r.2.mem ((c.tc : Thread Cert.MergeBRefIdeal.nD Cert.MergeBRefIdeal.τ).loc Cert.MergeBRefIdeal.main_v38) = v4 c
          ∧ r.2.mem ((c.tc : Thread Cert.MergeBRefIdeal.nD Cert.MergeBRefIdeal.τ).loc Cert.MergeBRefIdeal.main_v33) = v5 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3)
          ∧ r.2.mem ((c.tc : Thread Cert.MergeBRefIdeal.nD Cert.MergeBRefIdeal.τ).loc Cert.MergeBRefIdeal.main_arg4) = m' ((c.tc : Thread Cert.MergeBRefIdeal.nD Cert.MergeBRefIdeal.τ).loc Cert.MergeBRefIdeal.main_arg4)
          ∧ r.2.mem ((c.tc : Thread Cert.MergeBRefIdeal.nD Cert.MergeBRefIdeal.τ).loc Cert.MergeBRefIdeal.main_arg5) = m' ((c.tc : Thread Cert.MergeBRefIdeal.nD Cert.MergeBRefIdeal.τ).loc Cert.MergeBRefIdeal.main_arg5)
          ∧ r.2.mem ((c.tc : Thread Cert.MergeBRefIdeal.nD Cert.MergeBRefIdeal.τ).loc Cert.MergeBRefIdeal.main_arg6) = m' ((c.tc : Thread Cert.MergeBRefIdeal.nD Cert.MergeBRefIdeal.τ).loc Cert.MergeBRefIdeal.main_arg6))

def preserves_Ff2B_Ff2BIdeal : Prop :=
  True

def algebraic_Ff2BIdeal_Ff2BRefIdeal [hFf2BIdeal : Cert.Ff2BIdeal.Facts] [hFf2BRefIdeal : Cert.Ff2BRefIdeal.Facts] : Prop :=
  ∀ (m : (ℓ : Loc Cert.Ff2BIdeal.nD Cert.Ff2BIdeal.τ Cert.Ff2BIdeal.sig) → Buf (Elt Ideal) ℓ) (g : Dev Cert.Ff2BIdeal.nD → PrngReg)
    (m' : (ℓ : Loc Cert.Ff2BRefIdeal.nD Cert.Ff2BRefIdeal.τ Cert.Ff2BRefIdeal.sig) → Buf (Elt Ideal) ℓ) (g' : Dev Cert.Ff2BRefIdeal.nD → PrngReg), Pre_Ff2BIdeal m →
    (∀ c : Dev Cert.Ff2BIdeal.nD,
      m' ((c.tc : Thread Cert.Ff2BRefIdeal.nD Cert.Ff2BRefIdeal.τ).loc Cert.Ff2BRefIdeal.main_arg0) = m ((c.tc : Thread Cert.Ff2BIdeal.nD Cert.Ff2BIdeal.τ).loc Cert.Ff2BIdeal.main_arg0)
      ∧ m' ((c.tc : Thread Cert.Ff2BRefIdeal.nD Cert.Ff2BRefIdeal.τ).loc Cert.Ff2BRefIdeal.main_arg1) = m ((c.tc : Thread Cert.Ff2BIdeal.nD Cert.Ff2BIdeal.τ).loc Cert.Ff2BIdeal.main_arg1)
      ∧ m' ((c.tc : Thread Cert.Ff2BRefIdeal.nD Cert.Ff2BRefIdeal.τ).loc Cert.Ff2BRefIdeal.main_arg2) = m ((c.tc : Thread Cert.Ff2BIdeal.nD Cert.Ff2BIdeal.τ).loc Cert.Ff2BIdeal.main_arg2)) →
    ∃ (v0 : (c : Dev Cert.Ff2BIdeal.nD) → Buf (Elt Ideal) ((c.tc : Thread Cert.Ff2BIdeal.nD Cert.Ff2BIdeal.τ).loc Cert.Ff2BIdeal.main_v0)),
      θ_run (Cert.Ff2BIdeal.defs (F := Ideal)) (onTc (τ := Cert.Ff2BIdeal.τ) (Cert.Ff2BIdeal.main (F := Ideal))) ⟨m, fun _ => 0, g⟩ (fun r => ∀ c : Dev Cert.Ff2BIdeal.nD,
          r.2.mem ((c.tc : Thread Cert.Ff2BIdeal.nD Cert.Ff2BIdeal.τ).loc Cert.Ff2BIdeal.main_v0) = v0 c
          ∧ r.2.mem ((c.tc : Thread Cert.Ff2BIdeal.nD Cert.Ff2BIdeal.τ).loc Cert.Ff2BIdeal.main_arg0) = m ((c.tc : Thread Cert.Ff2BIdeal.nD Cert.Ff2BIdeal.τ).loc Cert.Ff2BIdeal.main_arg0)
          ∧ r.2.mem ((c.tc : Thread Cert.Ff2BIdeal.nD Cert.Ff2BIdeal.τ).loc Cert.Ff2BIdeal.main_arg1) = m ((c.tc : Thread Cert.Ff2BIdeal.nD Cert.Ff2BIdeal.τ).loc Cert.Ff2BIdeal.main_arg1)
          ∧ r.2.mem ((c.tc : Thread Cert.Ff2BIdeal.nD Cert.Ff2BIdeal.τ).loc Cert.Ff2BIdeal.main_arg2) = m ((c.tc : Thread Cert.Ff2BIdeal.nD Cert.Ff2BIdeal.τ).loc Cert.Ff2BIdeal.main_arg2))
      ∧ θ_run (Cert.Ff2BRefIdeal.defs (F := Ideal)) (onTc (τ := Cert.Ff2BRefIdeal.τ) (Cert.Ff2BRefIdeal.main (F := Ideal))) ⟨m', fun _ => 0, g'⟩ (fun r => ∀ c : Dev Cert.Ff2BRefIdeal.nD,
          r.2.mem ((c.tc : Thread Cert.Ff2BRefIdeal.nD Cert.Ff2BRefIdeal.τ).loc Cert.Ff2BRefIdeal.main_v14) = v0 c
          ∧ r.2.mem ((c.tc : Thread Cert.Ff2BRefIdeal.nD Cert.Ff2BRefIdeal.τ).loc Cert.Ff2BRefIdeal.main_arg0) = m' ((c.tc : Thread Cert.Ff2BRefIdeal.nD Cert.Ff2BRefIdeal.τ).loc Cert.Ff2BRefIdeal.main_arg0)
          ∧ r.2.mem ((c.tc : Thread Cert.Ff2BRefIdeal.nD Cert.Ff2BRefIdeal.τ).loc Cert.Ff2BRefIdeal.main_arg1) = m' ((c.tc : Thread Cert.Ff2BRefIdeal.nD Cert.Ff2BRefIdeal.τ).loc Cert.Ff2BRefIdeal.main_arg1)
          ∧ r.2.mem ((c.tc : Thread Cert.Ff2BRefIdeal.nD Cert.Ff2BRefIdeal.τ).loc Cert.Ff2BRefIdeal.main_arg2) = m' ((c.tc : Thread Cert.Ff2BRefIdeal.nD Cert.Ff2BRefIdeal.τ).loc Cert.Ff2BRefIdeal.main_arg2))

def preserves_Ff2W_Ff2WIdeal : Prop :=
  True

def algebraic_Ff2WIdeal_Ff2WRefIdeal [hFf2WIdeal : Cert.Ff2WIdeal.Facts] [hFf2WRefIdeal : Cert.Ff2WRefIdeal.Facts] : Prop :=
  ∀ (m : (ℓ : Loc Cert.Ff2WIdeal.nD Cert.Ff2WIdeal.τ Cert.Ff2WIdeal.sig) → Buf (Elt Ideal) ℓ) (g : Dev Cert.Ff2WIdeal.nD → PrngReg)
    (m' : (ℓ : Loc Cert.Ff2WRefIdeal.nD Cert.Ff2WRefIdeal.τ Cert.Ff2WRefIdeal.sig) → Buf (Elt Ideal) ℓ) (g' : Dev Cert.Ff2WRefIdeal.nD → PrngReg), Pre_Ff2WIdeal m →
    (∀ c : Dev Cert.Ff2WIdeal.nD,
      m' ((c.tc : Thread Cert.Ff2WRefIdeal.nD Cert.Ff2WRefIdeal.τ).loc Cert.Ff2WRefIdeal.main_arg0) = m ((c.tc : Thread Cert.Ff2WIdeal.nD Cert.Ff2WIdeal.τ).loc Cert.Ff2WIdeal.main_arg0)
      ∧ m' ((c.tc : Thread Cert.Ff2WRefIdeal.nD Cert.Ff2WRefIdeal.τ).loc Cert.Ff2WRefIdeal.main_arg1) = m ((c.tc : Thread Cert.Ff2WIdeal.nD Cert.Ff2WIdeal.τ).loc Cert.Ff2WIdeal.main_arg1)) →
    ∃ (v0 : (c : Dev Cert.Ff2WIdeal.nD) → Buf (Elt Ideal) ((c.tc : Thread Cert.Ff2WIdeal.nD Cert.Ff2WIdeal.τ).loc Cert.Ff2WIdeal.main_v0)),
      θ_run (Cert.Ff2WIdeal.defs (F := Ideal)) (onTc (τ := Cert.Ff2WIdeal.τ) (Cert.Ff2WIdeal.main (F := Ideal))) ⟨m, fun _ => 0, g⟩ (fun r => ∀ c : Dev Cert.Ff2WIdeal.nD,
          r.2.mem ((c.tc : Thread Cert.Ff2WIdeal.nD Cert.Ff2WIdeal.τ).loc Cert.Ff2WIdeal.main_v0) = v0 c
          ∧ r.2.mem ((c.tc : Thread Cert.Ff2WIdeal.nD Cert.Ff2WIdeal.τ).loc Cert.Ff2WIdeal.main_arg0) = m ((c.tc : Thread Cert.Ff2WIdeal.nD Cert.Ff2WIdeal.τ).loc Cert.Ff2WIdeal.main_arg0)
          ∧ r.2.mem ((c.tc : Thread Cert.Ff2WIdeal.nD Cert.Ff2WIdeal.τ).loc Cert.Ff2WIdeal.main_arg1) = m ((c.tc : Thread Cert.Ff2WIdeal.nD Cert.Ff2WIdeal.τ).loc Cert.Ff2WIdeal.main_arg1))
      ∧ θ_run (Cert.Ff2WRefIdeal.defs (F := Ideal)) (onTc (τ := Cert.Ff2WRefIdeal.τ) (Cert.Ff2WRefIdeal.main (F := Ideal))) ⟨m', fun _ => 0, g'⟩ (fun r => ∀ c : Dev Cert.Ff2WRefIdeal.nD,
          r.2.mem ((c.tc : Thread Cert.Ff2WRefIdeal.nD Cert.Ff2WRefIdeal.τ).loc Cert.Ff2WRefIdeal.main_v5) = v0 c
          ∧ r.2.mem ((c.tc : Thread Cert.Ff2WRefIdeal.nD Cert.Ff2WRefIdeal.τ).loc Cert.Ff2WRefIdeal.main_arg0) = m' ((c.tc : Thread Cert.Ff2WRefIdeal.nD Cert.Ff2WRefIdeal.τ).loc Cert.Ff2WRefIdeal.main_arg0)
          ∧ r.2.mem ((c.tc : Thread Cert.Ff2WRefIdeal.nD Cert.Ff2WRefIdeal.τ).loc Cert.Ff2WRefIdeal.main_arg1) = m' ((c.tc : Thread Cert.Ff2WRefIdeal.nD Cert.Ff2WRefIdeal.τ).loc Cert.Ff2WRefIdeal.main_arg1))

def preserves_Ff1B_Ff1BIdeal : Prop :=
  True

def algebraic_Ff1BIdeal_Ff1BRefIdeal [hFf1BIdeal : Cert.Ff1BIdeal.Facts] [hFf1BRefIdeal : Cert.Ff1BRefIdeal.Facts] : Prop :=
  ∀ (m : (ℓ : Loc Cert.Ff1BIdeal.nD Cert.Ff1BIdeal.τ Cert.Ff1BIdeal.sig) → Buf (Elt Ideal) ℓ) (g : Dev Cert.Ff1BIdeal.nD → PrngReg)
    (m' : (ℓ : Loc Cert.Ff1BRefIdeal.nD Cert.Ff1BRefIdeal.τ Cert.Ff1BRefIdeal.sig) → Buf (Elt Ideal) ℓ) (g' : Dev Cert.Ff1BRefIdeal.nD → PrngReg), Pre_Ff1BIdeal m →
    (∀ c : Dev Cert.Ff1BIdeal.nD,
      m' ((c.tc : Thread Cert.Ff1BRefIdeal.nD Cert.Ff1BRefIdeal.τ).loc Cert.Ff1BRefIdeal.main_arg0) = m ((c.tc : Thread Cert.Ff1BIdeal.nD Cert.Ff1BIdeal.τ).loc Cert.Ff1BIdeal.main_arg0)
      ∧ m' ((c.tc : Thread Cert.Ff1BRefIdeal.nD Cert.Ff1BRefIdeal.τ).loc Cert.Ff1BRefIdeal.main_arg1) = m ((c.tc : Thread Cert.Ff1BIdeal.nD Cert.Ff1BIdeal.τ).loc Cert.Ff1BIdeal.main_arg1)) →
    ∃ (v0 : (c : Dev Cert.Ff1BIdeal.nD) → Buf (Elt Ideal) ((c.tc : Thread Cert.Ff1BIdeal.nD Cert.Ff1BIdeal.τ).loc Cert.Ff1BIdeal.main_v0)),
      θ_run (Cert.Ff1BIdeal.defs (F := Ideal)) (onTc (τ := Cert.Ff1BIdeal.τ) (Cert.Ff1BIdeal.main (F := Ideal))) ⟨m, fun _ => 0, g⟩ (fun r => ∀ c : Dev Cert.Ff1BIdeal.nD,
          r.2.mem ((c.tc : Thread Cert.Ff1BIdeal.nD Cert.Ff1BIdeal.τ).loc Cert.Ff1BIdeal.main_v0) = v0 c
          ∧ r.2.mem ((c.tc : Thread Cert.Ff1BIdeal.nD Cert.Ff1BIdeal.τ).loc Cert.Ff1BIdeal.main_arg0) = m ((c.tc : Thread Cert.Ff1BIdeal.nD Cert.Ff1BIdeal.τ).loc Cert.Ff1BIdeal.main_arg0)
          ∧ r.2.mem ((c.tc : Thread Cert.Ff1BIdeal.nD Cert.Ff1BIdeal.τ).loc Cert.Ff1BIdeal.main_arg1) = m ((c.tc : Thread Cert.Ff1BIdeal.nD Cert.Ff1BIdeal.τ).loc Cert.Ff1BIdeal.main_arg1))
      ∧ θ_run (Cert.Ff1BRefIdeal.defs (F := Ideal)) (onTc (τ := Cert.Ff1BRefIdeal.τ) (Cert.Ff1BRefIdeal.main (F := Ideal))) ⟨m', fun _ => 0, g'⟩ (fun r => ∀ c : Dev Cert.Ff1BRefIdeal.nD,
          r.2.mem ((c.tc : Thread Cert.Ff1BRefIdeal.nD Cert.Ff1BRefIdeal.τ).loc Cert.Ff1BRefIdeal.main_v6) = v0 c
          ∧ r.2.mem ((c.tc : Thread Cert.Ff1BRefIdeal.nD Cert.Ff1BRefIdeal.τ).loc Cert.Ff1BRefIdeal.main_arg0) = m' ((c.tc : Thread Cert.Ff1BRefIdeal.nD Cert.Ff1BRefIdeal.τ).loc Cert.Ff1BRefIdeal.main_arg0)
          ∧ r.2.mem ((c.tc : Thread Cert.Ff1BRefIdeal.nD Cert.Ff1BRefIdeal.τ).loc Cert.Ff1BRefIdeal.main_arg1) = m' ((c.tc : Thread Cert.Ff1BRefIdeal.nD Cert.Ff1BRefIdeal.τ).loc Cert.Ff1BRefIdeal.main_arg1))

def preserves_Ff1W_Ff1WIdeal : Prop :=
  True

def algebraic_Ff1WIdeal_Ff1WRefIdeal [hFf1WIdeal : Cert.Ff1WIdeal.Facts] [hFf1WRefIdeal : Cert.Ff1WRefIdeal.Facts] : Prop :=
  ∀ (m : (ℓ : Loc Cert.Ff1WIdeal.nD Cert.Ff1WIdeal.τ Cert.Ff1WIdeal.sig) → Buf (Elt Ideal) ℓ) (g : Dev Cert.Ff1WIdeal.nD → PrngReg)
    (m' : (ℓ : Loc Cert.Ff1WRefIdeal.nD Cert.Ff1WRefIdeal.τ Cert.Ff1WRefIdeal.sig) → Buf (Elt Ideal) ℓ) (g' : Dev Cert.Ff1WRefIdeal.nD → PrngReg), Pre_Ff1WIdeal m →
    (∀ c : Dev Cert.Ff1WIdeal.nD,
      m' ((c.tc : Thread Cert.Ff1WRefIdeal.nD Cert.Ff1WRefIdeal.τ).loc Cert.Ff1WRefIdeal.main_arg0) = m ((c.tc : Thread Cert.Ff1WIdeal.nD Cert.Ff1WIdeal.τ).loc Cert.Ff1WIdeal.main_arg0)
      ∧ m' ((c.tc : Thread Cert.Ff1WRefIdeal.nD Cert.Ff1WRefIdeal.τ).loc Cert.Ff1WRefIdeal.main_arg1) = m ((c.tc : Thread Cert.Ff1WIdeal.nD Cert.Ff1WIdeal.τ).loc Cert.Ff1WIdeal.main_arg1)) →
    ∃ (v0 : (c : Dev Cert.Ff1WIdeal.nD) → Buf (Elt Ideal) ((c.tc : Thread Cert.Ff1WIdeal.nD Cert.Ff1WIdeal.τ).loc Cert.Ff1WIdeal.main_v0)),
      θ_run (Cert.Ff1WIdeal.defs (F := Ideal)) (onTc (τ := Cert.Ff1WIdeal.τ) (Cert.Ff1WIdeal.main (F := Ideal))) ⟨m, fun _ => 0, g⟩ (fun r => ∀ c : Dev Cert.Ff1WIdeal.nD,
          r.2.mem ((c.tc : Thread Cert.Ff1WIdeal.nD Cert.Ff1WIdeal.τ).loc Cert.Ff1WIdeal.main_v0) = v0 c
          ∧ r.2.mem ((c.tc : Thread Cert.Ff1WIdeal.nD Cert.Ff1WIdeal.τ).loc Cert.Ff1WIdeal.main_arg0) = m ((c.tc : Thread Cert.Ff1WIdeal.nD Cert.Ff1WIdeal.τ).loc Cert.Ff1WIdeal.main_arg0)
          ∧ r.2.mem ((c.tc : Thread Cert.Ff1WIdeal.nD Cert.Ff1WIdeal.τ).loc Cert.Ff1WIdeal.main_arg1) = m ((c.tc : Thread Cert.Ff1WIdeal.nD Cert.Ff1WIdeal.τ).loc Cert.Ff1WIdeal.main_arg1))
      ∧ θ_run (Cert.Ff1WRefIdeal.defs (F := Ideal)) (onTc (τ := Cert.Ff1WRefIdeal.τ) (Cert.Ff1WRefIdeal.main (F := Ideal))) ⟨m', fun _ => 0, g'⟩ (fun r => ∀ c : Dev Cert.Ff1WRefIdeal.nD,
          r.2.mem ((c.tc : Thread Cert.Ff1WRefIdeal.nD Cert.Ff1WRefIdeal.τ).loc Cert.Ff1WRefIdeal.main_v9) = v0 c
          ∧ r.2.mem ((c.tc : Thread Cert.Ff1WRefIdeal.nD Cert.Ff1WRefIdeal.τ).loc Cert.Ff1WRefIdeal.main_arg0) = m' ((c.tc : Thread Cert.Ff1WRefIdeal.nD Cert.Ff1WRefIdeal.τ).loc Cert.Ff1WRefIdeal.main_arg0)
          ∧ r.2.mem ((c.tc : Thread Cert.Ff1WRefIdeal.nD Cert.Ff1WRefIdeal.τ).loc Cert.Ff1WRefIdeal.main_arg1) = m' ((c.tc : Thread Cert.Ff1WRefIdeal.nD Cert.Ff1WRefIdeal.τ).loc Cert.Ff1WRefIdeal.main_arg1))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v0)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v0) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v9) = v0 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)) →
    ∃ (v0 : (c : Dev Cert.GateBIdeal.nD) → Buf (Elt Ideal) ((c.tc : Thread Cert.GateBIdeal.nD Cert.GateBIdeal.τ).loc Cert.GateBIdeal.main_v0)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0) = v0 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v6) = v0 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1))

def preserves_GmlpB_GmlpBIdeal : Prop :=
  True

def algebraic_GmlpBIdeal_GmlpBRefIdeal [hGmlpBIdeal : Cert.GmlpBIdeal.Facts] [hGmlpBRefIdeal : Cert.GmlpBRefIdeal.Facts] : Prop :=
  ∀ (m : (ℓ : Loc Cert.GmlpBIdeal.nD Cert.GmlpBIdeal.τ Cert.GmlpBIdeal.sig) → Buf (Elt Ideal) ℓ) (g : Dev Cert.GmlpBIdeal.nD → PrngReg)
    (m' : (ℓ : Loc Cert.GmlpBRefIdeal.nD Cert.GmlpBRefIdeal.τ Cert.GmlpBRefIdeal.sig) → Buf (Elt Ideal) ℓ) (g' : Dev Cert.GmlpBRefIdeal.nD → PrngReg), Pre_GmlpBIdeal m →
    (∀ c : Dev Cert.GmlpBIdeal.nD,
      m' ((c.tc : Thread Cert.GmlpBRefIdeal.nD Cert.GmlpBRefIdeal.τ).loc Cert.GmlpBRefIdeal.main_arg0) = m ((c.tc : Thread Cert.GmlpBIdeal.nD Cert.GmlpBIdeal.τ).loc Cert.GmlpBIdeal.main_arg0)
      ∧ m' ((c.tc : Thread Cert.GmlpBRefIdeal.nD Cert.GmlpBRefIdeal.τ).loc Cert.GmlpBRefIdeal.main_arg1) = m ((c.tc : Thread Cert.GmlpBIdeal.nD Cert.GmlpBIdeal.τ).loc Cert.GmlpBIdeal.main_arg1)
      ∧ m' ((c.tc : Thread Cert.GmlpBRefIdeal.nD Cert.GmlpBRefIdeal.τ).loc Cert.GmlpBRefIdeal.main_arg2) = m ((c.tc : Thread Cert.GmlpBIdeal.nD Cert.GmlpBIdeal.τ).loc Cert.GmlpBIdeal.main_arg2)
      ∧ m' ((c.tc : Thread Cert.GmlpBRefIdeal.nD Cert.GmlpBRefIdeal.τ).loc Cert.GmlpBRefIdeal.main_arg3) = m ((c.tc : Thread Cert.GmlpBIdeal.nD Cert.GmlpBIdeal.τ).loc Cert.GmlpBIdeal.main_arg3)
      ∧ m' ((c.tc : Thread Cert.GmlpBRefIdeal.nD Cert.GmlpBRefIdeal.τ).loc Cert.GmlpBRefIdeal.main_arg4) = m ((c.tc : Thread Cert.GmlpBIdeal.nD Cert.GmlpBIdeal.τ).loc Cert.GmlpBIdeal.main_arg4)
      ∧ m' ((c.tc : Thread Cert.GmlpBRefIdeal.nD Cert.GmlpBRefIdeal.τ).loc Cert.GmlpBRefIdeal.main_arg5) = m ((c.tc : Thread Cert.GmlpBIdeal.nD Cert.GmlpBIdeal.τ).loc Cert.GmlpBIdeal.main_arg5)) →
    ∃ (v0 : (c : Dev Cert.GmlpBIdeal.nD) → Buf (Elt Ideal) ((c.tc : Thread Cert.GmlpBIdeal.nD Cert.GmlpBIdeal.τ).loc Cert.GmlpBIdeal.main_v0_0)) (v1 : (c : Dev Cert.GmlpBIdeal.nD) → Buf (Elt Ideal) ((c.tc : Thread Cert.GmlpBIdeal.nD Cert.GmlpBIdeal.τ).loc Cert.GmlpBIdeal.main_v0_1)) (v2 : (c : Dev Cert.GmlpBIdeal.nD) → Buf (Elt Ideal) ((c.tc : Thread Cert.GmlpBIdeal.nD Cert.GmlpBIdeal.τ).loc Cert.GmlpBIdeal.main_v0_2)) (v3 : (c : Dev Cert.GmlpBIdeal.nD) → Buf (Elt Ideal) ((c.tc : Thread Cert.GmlpBIdeal.nD Cert.GmlpBIdeal.τ).loc Cert.GmlpBIdeal.main_v0_3)) (v4 : (c : Dev Cert.GmlpBIdeal.nD) → Buf (Elt Ideal) ((c.tc : Thread Cert.GmlpBIdeal.nD Cert.GmlpBIdeal.τ).loc Cert.GmlpBIdeal.main_v0_4)),
      θ_run (Cert.GmlpBIdeal.defs (F := Ideal)) (onTc (τ := Cert.GmlpBIdeal.τ) (Cert.GmlpBIdeal.main (F := Ideal))) ⟨m, fun _ => 0, g⟩ (fun r => ∀ c : Dev Cert.GmlpBIdeal.nD,
          r.2.mem ((c.tc : Thread Cert.GmlpBIdeal.nD Cert.GmlpBIdeal.τ).loc Cert.GmlpBIdeal.main_v0_0) = v0 c
          ∧ r.2.mem ((c.tc : Thread Cert.GmlpBIdeal.nD Cert.GmlpBIdeal.τ).loc Cert.GmlpBIdeal.main_v0_1) = v1 c
          ∧ r.2.mem ((c.tc : Thread Cert.GmlpBIdeal.nD Cert.GmlpBIdeal.τ).loc Cert.GmlpBIdeal.main_v0_2) = v2 c
          ∧ r.2.mem ((c.tc : Thread Cert.GmlpBIdeal.nD Cert.GmlpBIdeal.τ).loc Cert.GmlpBIdeal.main_v0_3) = v3 c
          ∧ r.2.mem ((c.tc : Thread Cert.GmlpBIdeal.nD Cert.GmlpBIdeal.τ).loc Cert.GmlpBIdeal.main_v0_4) = v4 c
          ∧ r.2.mem ((c.tc : Thread Cert.GmlpBIdeal.nD Cert.GmlpBIdeal.τ).loc Cert.GmlpBIdeal.main_arg0) = m ((c.tc : Thread Cert.GmlpBIdeal.nD Cert.GmlpBIdeal.τ).loc Cert.GmlpBIdeal.main_arg0)
          ∧ r.2.mem ((c.tc : Thread Cert.GmlpBIdeal.nD Cert.GmlpBIdeal.τ).loc Cert.GmlpBIdeal.main_arg1) = m ((c.tc : Thread Cert.GmlpBIdeal.nD Cert.GmlpBIdeal.τ).loc Cert.GmlpBIdeal.main_arg1)
          ∧ r.2.mem ((c.tc : Thread Cert.GmlpBIdeal.nD Cert.GmlpBIdeal.τ).loc Cert.GmlpBIdeal.main_arg2) = m ((c.tc : Thread Cert.GmlpBIdeal.nD Cert.GmlpBIdeal.τ).loc Cert.GmlpBIdeal.main_arg2)
          ∧ r.2.mem ((c.tc : Thread Cert.GmlpBIdeal.nD Cert.GmlpBIdeal.τ).loc Cert.GmlpBIdeal.main_arg3) = m ((c.tc : Thread Cert.GmlpBIdeal.nD Cert.GmlpBIdeal.τ).loc Cert.GmlpBIdeal.main_arg3)
          ∧ r.2.mem ((c.tc : Thread Cert.GmlpBIdeal.nD Cert.GmlpBIdeal.τ).loc Cert.GmlpBIdeal.main_arg4) = m ((c.tc : Thread Cert.GmlpBIdeal.nD Cert.GmlpBIdeal.τ).loc Cert.GmlpBIdeal.main_arg4)
          ∧ r.2.mem ((c.tc : Thread Cert.GmlpBIdeal.nD Cert.GmlpBIdeal.τ).loc Cert.GmlpBIdeal.main_arg5) = m ((c.tc : Thread Cert.GmlpBIdeal.nD Cert.GmlpBIdeal.τ).loc Cert.GmlpBIdeal.main_arg5))
      ∧ θ_run (Cert.GmlpBRefIdeal.defs (F := Ideal)) (onTc (τ := Cert.GmlpBRefIdeal.τ) (Cert.GmlpBRefIdeal.main (F := Ideal))) ⟨m', fun _ => 0, g'⟩ (fun r => ∀ c : Dev Cert.GmlpBRefIdeal.nD,
          r.2.mem ((c.tc : Thread Cert.GmlpBRefIdeal.nD Cert.GmlpBRefIdeal.τ).loc Cert.GmlpBRefIdeal.main_v108) = v0 c
          ∧ r.2.mem ((c.tc : Thread Cert.GmlpBRefIdeal.nD Cert.GmlpBRefIdeal.τ).loc Cert.GmlpBRefIdeal.main_v71) = v1 c
          ∧ r.2.mem ((c.tc : Thread Cert.GmlpBRefIdeal.nD Cert.GmlpBRefIdeal.τ).loc Cert.GmlpBRefIdeal.main_v68) = v2 c
          ∧ r.2.mem ((c.tc : Thread Cert.GmlpBRefIdeal.nD Cert.GmlpBRefIdeal.τ).loc Cert.GmlpBRefIdeal.main_v63) = v3 c
          ∧ r.2.mem ((c.tc : Thread Cert.GmlpBRefIdeal.nD Cert.GmlpBRefIdeal.τ).loc Cert.GmlpBRefIdeal.main_v60) = v4 c
          ∧ r.2.mem ((c.tc : Thread Cert.GmlpBRefIdeal.nD Cert.GmlpBRefIdeal.τ).loc Cert.GmlpBRefIdeal.main_arg0) = m' ((c.tc : Thread Cert.GmlpBRefIdeal.nD Cert.GmlpBRefIdeal.τ).loc Cert.GmlpBRefIdeal.main_arg0)
          ∧ r.2.mem ((c.tc : Thread Cert.GmlpBRefIdeal.nD Cert.GmlpBRefIdeal.τ).loc Cert.GmlpBRefIdeal.main_arg1) = m' ((c.tc : Thread Cert.GmlpBRefIdeal.nD Cert.GmlpBRefIdeal.τ).loc Cert.GmlpBRefIdeal.main_arg1)
          ∧ r.2.mem ((c.tc : Thread Cert.GmlpBRefIdeal.nD Cert.GmlpBRefIdeal.τ).loc Cert.GmlpBRefIdeal.main_arg2) = m' ((c.tc : Thread Cert.GmlpBRefIdeal.nD Cert.GmlpBRefIdeal.τ).loc Cert.GmlpBRefIdeal.main_arg2)
          ∧ r.2.mem ((c.tc : Thread Cert.GmlpBRefIdeal.nD Cert.GmlpBRefIdeal.τ).loc Cert.GmlpBRefIdeal.main_arg3) = m' ((c.tc : Thread Cert.GmlpBRefIdeal.nD Cert.GmlpBRefIdeal.τ).loc Cert.GmlpBRefIdeal.main_arg3)
          ∧ r.2.mem ((c.tc : Thread Cert.GmlpBRefIdeal.nD Cert.GmlpBRefIdeal.τ).loc Cert.GmlpBRefIdeal.main_arg4) = m' ((c.tc : Thread Cert.GmlpBRefIdeal.nD Cert.GmlpBRefIdeal.τ).loc Cert.GmlpBRefIdeal.main_arg4)
          ∧ r.2.mem ((c.tc : Thread Cert.GmlpBRefIdeal.nD Cert.GmlpBRefIdeal.τ).loc Cert.GmlpBRefIdeal.main_arg5) = m' ((c.tc : Thread Cert.GmlpBRefIdeal.nD Cert.GmlpBRefIdeal.τ).loc Cert.GmlpBRefIdeal.main_arg5))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)) →
    ∃ (v0 : (c : Dev Cert.OutBIdeal.nD) → Buf (Elt Ideal) ((c.tc : Thread Cert.OutBIdeal.nD Cert.OutBIdeal.τ).loc Cert.OutBIdeal.main_v0)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v4) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v5) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_BranchB_BranchBIdeal : Prop :=
  True

def algebraic_BranchBIdeal_BranchBRefIdeal [hBranchBIdeal : Cert.BranchBIdeal.Facts] [hBranchBRefIdeal : Cert.BranchBRefIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.BranchBRefIdeal.nD Cert.BranchBRefIdeal.τ Cert.BranchBRefIdeal.sig) → Buf (Elt Ideal) ℓ) (g' : Dev Cert.BranchBRefIdeal.nD → PrngReg), Pre_BranchBIdeal m →
    (∀ c : Dev Cert.BranchBIdeal.nD,
      m' ((c.tc : Thread Cert.BranchBRefIdeal.nD Cert.BranchBRefIdeal.τ).loc Cert.BranchBRefIdeal.main_arg0) = m ((c.tc : Thread Cert.BranchBIdeal.nD Cert.BranchBIdeal.τ).loc Cert.BranchBIdeal.main_arg0)
      ∧ m' ((c.tc : Thread Cert.BranchBRefIdeal.nD Cert.BranchBRefIdeal.τ).loc Cert.BranchBRefIdeal.main_arg1) = m ((c.tc : Thread Cert.BranchBIdeal.nD Cert.BranchBIdeal.τ).loc Cert.BranchBIdeal.main_arg1)) →
    ∃ (v0 : (c : Dev Cert.BranchBIdeal.nD) → Buf (Elt Ideal) ((c.tc : Thread Cert.BranchBIdeal.nD Cert.BranchBIdeal.τ).loc Cert.BranchBIdeal.main_v0)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v0) = v0 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ θ_run (Cert.BranchBRefIdeal.defs (F := Ideal)) (onTc (τ := Cert.BranchBRefIdeal.τ) (Cert.BranchBRefIdeal.main (F := Ideal))) ⟨m', fun _ => 0, g'⟩ (fun r => ∀ c : Dev Cert.BranchBRefIdeal.nD,
          r.2.mem ((c.tc : Thread Cert.BranchBRefIdeal.nD Cert.BranchBRefIdeal.τ).loc Cert.BranchBRefIdeal.main_v4) = v0 c
          ∧ r.2.mem ((c.tc : Thread Cert.BranchBRefIdeal.nD Cert.BranchBRefIdeal.τ).loc Cert.BranchBRefIdeal.main_arg0) = m' ((c.tc : Thread Cert.BranchBRefIdeal.nD Cert.BranchBRefIdeal.τ).loc Cert.BranchBRefIdeal.main_arg0)
          ∧ r.2.mem ((c.tc : Thread Cert.BranchBRefIdeal.nD Cert.BranchBRefIdeal.τ).loc Cert.BranchBRefIdeal.main_arg1) = m' ((c.tc : Thread Cert.BranchBRefIdeal.nD Cert.BranchBRefIdeal.τ).loc Cert.BranchBRefIdeal.main_arg1))

def preserves_BranchW_BranchWIdeal : Prop :=
  True

def algebraic_BranchWIdeal_BranchWRefIdeal [hBranchWIdeal : Cert.BranchWIdeal.Facts] [hBranchWRefIdeal : Cert.BranchWRefIdeal.Facts] : Prop :=
  ∀ (m : (ℓ : Loc Cert.BranchWIdeal.nD Cert.BranchWIdeal.τ Cert.BranchWIdeal.sig) → Buf (Elt Ideal) ℓ) (g : Dev Cert.BranchWIdeal.nD → PrngReg)
    (m' : (ℓ : Loc Cert.BranchWRefIdeal.nD Cert.BranchWRefIdeal.τ Cert.BranchWRefIdeal.sig) → Buf (Elt Ideal) ℓ) (g' : Dev Cert.BranchWRefIdeal.nD → PrngReg), Pre_BranchWIdeal m →
    (∀ c : Dev Cert.BranchWIdeal.nD,
      m' ((c.tc : Thread Cert.BranchWRefIdeal.nD Cert.BranchWRefIdeal.τ).loc Cert.BranchWRefIdeal.main_arg0) = m ((c.tc : Thread Cert.BranchWIdeal.nD Cert.BranchWIdeal.τ).loc Cert.BranchWIdeal.main_arg0)
      ∧ m' ((c.tc : Thread Cert.BranchWRefIdeal.nD Cert.BranchWRefIdeal.τ).loc Cert.BranchWRefIdeal.main_arg1) = m ((c.tc : Thread Cert.BranchWIdeal.nD Cert.BranchWIdeal.τ).loc Cert.BranchWIdeal.main_arg1)) →
    ∃ (v0 : (c : Dev Cert.BranchWIdeal.nD) → Buf (Elt Ideal) ((c.tc : Thread Cert.BranchWIdeal.nD Cert.BranchWIdeal.τ).loc Cert.BranchWIdeal.main_v0)),
      θ_run (Cert.BranchWIdeal.defs (F := Ideal)) (onTc (τ := Cert.BranchWIdeal.τ) (Cert.BranchWIdeal.main (F := Ideal))) ⟨m, fun _ => 0, g⟩ (fun r => ∀ c : Dev Cert.BranchWIdeal.nD,
          r.2.mem ((c.tc : Thread Cert.BranchWIdeal.nD Cert.BranchWIdeal.τ).loc Cert.BranchWIdeal.main_v0) = v0 c
          ∧ r.2.mem ((c.tc : Thread Cert.BranchWIdeal.nD Cert.BranchWIdeal.τ).loc Cert.BranchWIdeal.main_arg0) = m ((c.tc : Thread Cert.BranchWIdeal.nD Cert.BranchWIdeal.τ).loc Cert.BranchWIdeal.main_arg0)
          ∧ r.2.mem ((c.tc : Thread Cert.BranchWIdeal.nD Cert.BranchWIdeal.τ).loc Cert.BranchWIdeal.main_arg1) = m ((c.tc : Thread Cert.BranchWIdeal.nD Cert.BranchWIdeal.τ).loc Cert.BranchWIdeal.main_arg1))
      ∧ θ_run (Cert.BranchWRefIdeal.defs (F := Ideal)) (onTc (τ := Cert.BranchWRefIdeal.τ) (Cert.BranchWRefIdeal.main (F := Ideal))) ⟨m', fun _ => 0, g'⟩ (fun r => ∀ c : Dev Cert.BranchWRefIdeal.nD,
          r.2.mem ((c.tc : Thread Cert.BranchWRefIdeal.nD Cert.BranchWRefIdeal.τ).loc Cert.BranchWRefIdeal.main_v5) = v0 c
          ∧ r.2.mem ((c.tc : Thread Cert.BranchWRefIdeal.nD Cert.BranchWRefIdeal.τ).loc Cert.BranchWRefIdeal.main_arg0) = m' ((c.tc : Thread Cert.BranchWRefIdeal.nD Cert.BranchWRefIdeal.τ).loc Cert.BranchWRefIdeal.main_arg0)
          ∧ r.2.mem ((c.tc : Thread Cert.BranchWRefIdeal.nD Cert.BranchWRefIdeal.τ).loc Cert.BranchWRefIdeal.main_arg1) = m' ((c.tc : Thread Cert.BranchWRefIdeal.nD Cert.BranchWRefIdeal.τ).loc Cert.BranchWRefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v5) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v5) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_ConvLnB_ConvLnBIdeal : Prop :=
  True

def algebraic_ConvLnBIdeal_ConvLnBRefIdeal [hConvLnBIdeal : Cert.ConvLnBIdeal.Facts] [hConvLnBRefIdeal : Cert.ConvLnBRefIdeal.Facts] : Prop :=
  ∀ (m : (ℓ : Loc Cert.ConvLnBIdeal.nD Cert.ConvLnBIdeal.τ Cert.ConvLnBIdeal.sig) → Buf (Elt Ideal) ℓ) (g : Dev Cert.ConvLnBIdeal.nD → PrngReg)
    (m' : (ℓ : Loc Cert.ConvLnBRefIdeal.nD Cert.ConvLnBRefIdeal.τ Cert.ConvLnBRefIdeal.sig) → Buf (Elt Ideal) ℓ) (g' : Dev Cert.ConvLnBRefIdeal.nD → PrngReg), Pre_ConvLnBIdeal m →
    (∀ c : Dev Cert.ConvLnBIdeal.nD,
      m' ((c.tc : Thread Cert.ConvLnBRefIdeal.nD Cert.ConvLnBRefIdeal.τ).loc Cert.ConvLnBRefIdeal.main_arg0) = m ((c.tc : Thread Cert.ConvLnBIdeal.nD Cert.ConvLnBIdeal.τ).loc Cert.ConvLnBIdeal.main_arg0)
      ∧ m' ((c.tc : Thread Cert.ConvLnBRefIdeal.nD Cert.ConvLnBRefIdeal.τ).loc Cert.ConvLnBRefIdeal.main_arg1) = m ((c.tc : Thread Cert.ConvLnBIdeal.nD Cert.ConvLnBIdeal.τ).loc Cert.ConvLnBIdeal.main_arg1)
      ∧ m' ((c.tc : Thread Cert.ConvLnBRefIdeal.nD Cert.ConvLnBRefIdeal.τ).loc Cert.ConvLnBRefIdeal.main_arg2) = m ((c.tc : Thread Cert.ConvLnBIdeal.nD Cert.ConvLnBIdeal.τ).loc Cert.ConvLnBIdeal.main_arg2)
      ∧ m' ((c.tc : Thread Cert.ConvLnBRefIdeal.nD Cert.ConvLnBRefIdeal.τ).loc Cert.ConvLnBRefIdeal.main_arg3) = m ((c.tc : Thread Cert.ConvLnBIdeal.nD Cert.ConvLnBIdeal.τ).loc Cert.ConvLnBIdeal.main_arg3)) →
    ∃ (v0 : (c : Dev Cert.ConvLnBIdeal.nD) → Buf (Elt Ideal) ((c.tc : Thread Cert.ConvLnBIdeal.nD Cert.ConvLnBIdeal.τ).loc Cert.ConvLnBIdeal.main_v0_0)) (v1 : (c : Dev Cert.ConvLnBIdeal.nD) → Buf (Elt Ideal) ((c.tc : Thread Cert.ConvLnBIdeal.nD Cert.ConvLnBIdeal.τ).loc Cert.ConvLnBIdeal.main_v0_1)) (v2 : (c : Dev Cert.ConvLnBIdeal.nD) → Buf (Elt Ideal) ((c.tc : Thread Cert.ConvLnBIdeal.nD Cert.ConvLnBIdeal.τ).loc Cert.ConvLnBIdeal.main_v0_2)),
      θ_run (Cert.ConvLnBIdeal.defs (F := Ideal)) (onTc (τ := Cert.ConvLnBIdeal.τ) (Cert.ConvLnBIdeal.main (F := Ideal))) ⟨m, fun _ => 0, g⟩ (fun r => ∀ c : Dev Cert.ConvLnBIdeal.nD,
          r.2.mem ((c.tc : Thread Cert.ConvLnBIdeal.nD Cert.ConvLnBIdeal.τ).loc Cert.ConvLnBIdeal.main_v0_0) = v0 c
          ∧ r.2.mem ((c.tc : Thread Cert.ConvLnBIdeal.nD Cert.ConvLnBIdeal.τ).loc Cert.ConvLnBIdeal.main_v0_1) = v1 c
          ∧ r.2.mem ((c.tc : Thread Cert.ConvLnBIdeal.nD Cert.ConvLnBIdeal.τ).loc Cert.ConvLnBIdeal.main_v0_2) = v2 c
          ∧ r.2.mem ((c.tc : Thread Cert.ConvLnBIdeal.nD Cert.ConvLnBIdeal.τ).loc Cert.ConvLnBIdeal.main_arg0) = m ((c.tc : Thread Cert.ConvLnBIdeal.nD Cert.ConvLnBIdeal.τ).loc Cert.ConvLnBIdeal.main_arg0)
          ∧ r.2.mem ((c.tc : Thread Cert.ConvLnBIdeal.nD Cert.ConvLnBIdeal.τ).loc Cert.ConvLnBIdeal.main_arg1) = m ((c.tc : Thread Cert.ConvLnBIdeal.nD Cert.ConvLnBIdeal.τ).loc Cert.ConvLnBIdeal.main_arg1)
          ∧ r.2.mem ((c.tc : Thread Cert.ConvLnBIdeal.nD Cert.ConvLnBIdeal.τ).loc Cert.ConvLnBIdeal.main_arg2) = m ((c.tc : Thread Cert.ConvLnBIdeal.nD Cert.ConvLnBIdeal.τ).loc Cert.ConvLnBIdeal.main_arg2)
          ∧ r.2.mem ((c.tc : Thread Cert.ConvLnBIdeal.nD Cert.ConvLnBIdeal.τ).loc Cert.ConvLnBIdeal.main_arg3) = m ((c.tc : Thread Cert.ConvLnBIdeal.nD Cert.ConvLnBIdeal.τ).loc Cert.ConvLnBIdeal.main_arg3))
      ∧ θ_run (Cert.ConvLnBRefIdeal.defs (F := Ideal)) (onTc (τ := Cert.ConvLnBRefIdeal.τ) (Cert.ConvLnBRefIdeal.main (F := Ideal))) ⟨m', fun _ => 0, g'⟩ (fun r => ∀ c : Dev Cert.ConvLnBRefIdeal.nD,
          r.2.mem ((c.tc : Thread Cert.ConvLnBRefIdeal.nD Cert.ConvLnBRefIdeal.τ).loc Cert.ConvLnBRefIdeal.main_v53) = v0 c
          ∧ r.2.mem ((c.tc : Thread Cert.ConvLnBRefIdeal.nD Cert.ConvLnBRefIdeal.τ).loc Cert.ConvLnBRefIdeal.main_v29) = v1 c
          ∧ r.2.mem ((c.tc : Thread Cert.ConvLnBRefIdeal.nD Cert.ConvLnBRefIdeal.τ).loc Cert.ConvLnBRefIdeal.main_v26) = v2 c
          ∧ r.2.mem ((c.tc : Thread Cert.ConvLnBRefIdeal.nD Cert.ConvLnBRefIdeal.τ).loc Cert.ConvLnBRefIdeal.main_arg0) = m' ((c.tc : Thread Cert.ConvLnBRefIdeal.nD Cert.ConvLnBRefIdeal.τ).loc Cert.ConvLnBRefIdeal.main_arg0)
          ∧ r.2.mem ((c.tc : Thread Cert.ConvLnBRefIdeal.nD Cert.ConvLnBRefIdeal.τ).loc Cert.ConvLnBRefIdeal.main_arg1) = m' ((c.tc : Thread Cert.ConvLnBRefIdeal.nD Cert.ConvLnBRefIdeal.τ).loc Cert.ConvLnBRefIdeal.main_arg1)
          ∧ r.2.mem ((c.tc : Thread Cert.ConvLnBRefIdeal.nD Cert.ConvLnBRefIdeal.τ).loc Cert.ConvLnBRefIdeal.main_arg2) = m' ((c.tc : Thread Cert.ConvLnBRefIdeal.nD Cert.ConvLnBRefIdeal.τ).loc Cert.ConvLnBRefIdeal.main_arg2)
          ∧ r.2.mem ((c.tc : Thread Cert.ConvLnBRefIdeal.nD Cert.ConvLnBRefIdeal.τ).loc Cert.ConvLnBRefIdeal.main_arg3) = m' ((c.tc : Thread Cert.ConvLnBRefIdeal.nD Cert.ConvLnBRefIdeal.τ).loc Cert.ConvLnBRefIdeal.main_arg3))

def preserves_S5GluB_S5GluBIdeal : Prop :=
  True

def algebraic_S5GluBIdeal_S5GluBRefIdeal [hS5GluBIdeal : Cert.S5GluBIdeal.Facts] [hS5GluBRefIdeal : Cert.S5GluBRefIdeal.Facts] : Prop :=
  ∀ (m : (ℓ : Loc Cert.S5GluBIdeal.nD Cert.S5GluBIdeal.τ Cert.S5GluBIdeal.sig) → Buf (Elt Ideal) ℓ) (g : Dev Cert.S5GluBIdeal.nD → PrngReg)
    (m' : (ℓ : Loc Cert.S5GluBRefIdeal.nD Cert.S5GluBRefIdeal.τ Cert.S5GluBRefIdeal.sig) → Buf (Elt Ideal) ℓ) (g' : Dev Cert.S5GluBRefIdeal.nD → PrngReg), Pre_S5GluBIdeal m →
    (∀ c : Dev Cert.S5GluBIdeal.nD,
      m' ((c.tc : Thread Cert.S5GluBRefIdeal.nD Cert.S5GluBRefIdeal.τ).loc Cert.S5GluBRefIdeal.main_arg0) = m ((c.tc : Thread Cert.S5GluBIdeal.nD Cert.S5GluBIdeal.τ).loc Cert.S5GluBIdeal.main_arg0)
      ∧ m' ((c.tc : Thread Cert.S5GluBRefIdeal.nD Cert.S5GluBRefIdeal.τ).loc Cert.S5GluBRefIdeal.main_arg1) = m ((c.tc : Thread Cert.S5GluBIdeal.nD Cert.S5GluBIdeal.τ).loc Cert.S5GluBIdeal.main_arg1)) →
    ∃ (v0 : (c : Dev Cert.S5GluBIdeal.nD) → Buf (Elt Ideal) ((c.tc : Thread Cert.S5GluBIdeal.nD Cert.S5GluBIdeal.τ).loc Cert.S5GluBIdeal.main_v0)),
      θ_run (Cert.S5GluBIdeal.defs (F := Ideal)) (onTc (τ := Cert.S5GluBIdeal.τ) (Cert.S5GluBIdeal.main (F := Ideal))) ⟨m, fun _ => 0, g⟩ (fun r => ∀ c : Dev Cert.S5GluBIdeal.nD,
          r.2.mem ((c.tc : Thread Cert.S5GluBIdeal.nD Cert.S5GluBIdeal.τ).loc Cert.S5GluBIdeal.main_v0) = v0 c
          ∧ r.2.mem ((c.tc : Thread Cert.S5GluBIdeal.nD Cert.S5GluBIdeal.τ).loc Cert.S5GluBIdeal.main_arg0) = m ((c.tc : Thread Cert.S5GluBIdeal.nD Cert.S5GluBIdeal.τ).loc Cert.S5GluBIdeal.main_arg0)
          ∧ r.2.mem ((c.tc : Thread Cert.S5GluBIdeal.nD Cert.S5GluBIdeal.τ).loc Cert.S5GluBIdeal.main_arg1) = m ((c.tc : Thread Cert.S5GluBIdeal.nD Cert.S5GluBIdeal.τ).loc Cert.S5GluBIdeal.main_arg1))
      ∧ θ_run (Cert.S5GluBRefIdeal.defs (F := Ideal)) (onTc (τ := Cert.S5GluBRefIdeal.τ) (Cert.S5GluBRefIdeal.main (F := Ideal))) ⟨m', fun _ => 0, g'⟩ (fun r => ∀ c : Dev Cert.S5GluBRefIdeal.nD,
          r.2.mem ((c.tc : Thread Cert.S5GluBRefIdeal.nD Cert.S5GluBRefIdeal.τ).loc Cert.S5GluBRefIdeal.main_v16) = v0 c
          ∧ r.2.mem ((c.tc : Thread Cert.S5GluBRefIdeal.nD Cert.S5GluBRefIdeal.τ).loc Cert.S5GluBRefIdeal.main_arg0) = m' ((c.tc : Thread Cert.S5GluBRefIdeal.nD Cert.S5GluBRefIdeal.τ).loc Cert.S5GluBRefIdeal.main_arg0)
          ∧ r.2.mem ((c.tc : Thread Cert.S5GluBRefIdeal.nD Cert.S5GluBRefIdeal.τ).loc Cert.S5GluBRefIdeal.main_arg1) = m' ((c.tc : Thread Cert.S5GluBRefIdeal.nD Cert.S5GluBRefIdeal.τ).loc Cert.S5GluBRefIdeal.main_arg1))

def preserves_S5ActB_S5ActBIdeal : Prop :=
  True

def algebraic_S5ActBIdeal_S5ActBRefIdeal [hS5ActBIdeal : Cert.S5ActBIdeal.Facts] [hS5ActBRefIdeal : Cert.S5ActBRefIdeal.Facts] : Prop :=
  ∀ (m : (ℓ : Loc Cert.S5ActBIdeal.nD Cert.S5ActBIdeal.τ Cert.S5ActBIdeal.sig) → Buf (Elt Ideal) ℓ) (g : Dev Cert.S5ActBIdeal.nD → PrngReg)
    (m' : (ℓ : Loc Cert.S5ActBRefIdeal.nD Cert.S5ActBRefIdeal.τ Cert.S5ActBRefIdeal.sig) → Buf (Elt Ideal) ℓ) (g' : Dev Cert.S5ActBRefIdeal.nD → PrngReg), Pre_S5ActBIdeal m →
    (∀ c : Dev Cert.S5ActBIdeal.nD,
      m' ((c.tc : Thread Cert.S5ActBRefIdeal.nD Cert.S5ActBRefIdeal.τ).loc Cert.S5ActBRefIdeal.main_arg0) = m ((c.tc : Thread Cert.S5ActBIdeal.nD Cert.S5ActBIdeal.τ).loc Cert.S5ActBIdeal.main_arg0)
      ∧ m' ((c.tc : Thread Cert.S5ActBRefIdeal.nD Cert.S5ActBRefIdeal.τ).loc Cert.S5ActBRefIdeal.main_arg1) = m ((c.tc : Thread Cert.S5ActBIdeal.nD Cert.S5ActBIdeal.τ).loc Cert.S5ActBIdeal.main_arg1)
      ∧ m' ((c.tc : Thread Cert.S5ActBRefIdeal.nD Cert.S5ActBRefIdeal.τ).loc Cert.S5ActBRefIdeal.main_arg2) = m ((c.tc : Thread Cert.S5ActBIdeal.nD Cert.S5ActBIdeal.τ).loc Cert.S5ActBIdeal.main_arg2)
      ∧ m' ((c.tc : Thread Cert.S5ActBRefIdeal.nD Cert.S5ActBRefIdeal.τ).loc Cert.S5ActBRefIdeal.main_arg3) = m ((c.tc : Thread Cert.S5ActBIdeal.nD Cert.S5ActBIdeal.τ).loc Cert.S5ActBIdeal.main_arg3)) →
    ∃ (v0 : (c : Dev Cert.S5ActBIdeal.nD) → Buf (Elt Ideal) ((c.tc : Thread Cert.S5ActBIdeal.nD Cert.S5ActBIdeal.τ).loc Cert.S5ActBIdeal.main_v0_0)) (v1 : (c : Dev Cert.S5ActBIdeal.nD) → Buf (Elt Ideal) ((c.tc : Thread Cert.S5ActBIdeal.nD Cert.S5ActBIdeal.τ).loc Cert.S5ActBIdeal.main_v0_1)) (v2 : (c : Dev Cert.S5ActBIdeal.nD) → Buf (Elt Ideal) ((c.tc : Thread Cert.S5ActBIdeal.nD Cert.S5ActBIdeal.τ).loc Cert.S5ActBIdeal.main_v0_2)),
      θ_run (Cert.S5ActBIdeal.defs (F := Ideal)) (onTc (τ := Cert.S5ActBIdeal.τ) (Cert.S5ActBIdeal.main (F := Ideal))) ⟨m, fun _ => 0, g⟩ (fun r => ∀ c : Dev Cert.S5ActBIdeal.nD,
          r.2.mem ((c.tc : Thread Cert.S5ActBIdeal.nD Cert.S5ActBIdeal.τ).loc Cert.S5ActBIdeal.main_v0_0) = v0 c
          ∧ r.2.mem ((c.tc : Thread Cert.S5ActBIdeal.nD Cert.S5ActBIdeal.τ).loc Cert.S5ActBIdeal.main_v0_1) = v1 c
          ∧ r.2.mem ((c.tc : Thread Cert.S5ActBIdeal.nD Cert.S5ActBIdeal.τ).loc Cert.S5ActBIdeal.main_v0_2) = v2 c
          ∧ r.2.mem ((c.tc : Thread Cert.S5ActBIdeal.nD Cert.S5ActBIdeal.τ).loc Cert.S5ActBIdeal.main_arg0) = m ((c.tc : Thread Cert.S5ActBIdeal.nD Cert.S5ActBIdeal.τ).loc Cert.S5ActBIdeal.main_arg0)
          ∧ r.2.mem ((c.tc : Thread Cert.S5ActBIdeal.nD Cert.S5ActBIdeal.τ).loc Cert.S5ActBIdeal.main_arg1) = m ((c.tc : Thread Cert.S5ActBIdeal.nD Cert.S5ActBIdeal.τ).loc Cert.S5ActBIdeal.main_arg1)
          ∧ r.2.mem ((c.tc : Thread Cert.S5ActBIdeal.nD Cert.S5ActBIdeal.τ).loc Cert.S5ActBIdeal.main_arg2) = m ((c.tc : Thread Cert.S5ActBIdeal.nD Cert.S5ActBIdeal.τ).loc Cert.S5ActBIdeal.main_arg2)
          ∧ r.2.mem ((c.tc : Thread Cert.S5ActBIdeal.nD Cert.S5ActBIdeal.τ).loc Cert.S5ActBIdeal.main_arg3) = m ((c.tc : Thread Cert.S5ActBIdeal.nD Cert.S5ActBIdeal.τ).loc Cert.S5ActBIdeal.main_arg3))
      ∧ θ_run (Cert.S5ActBRefIdeal.defs (F := Ideal)) (onTc (τ := Cert.S5ActBRefIdeal.τ) (Cert.S5ActBRefIdeal.main (F := Ideal))) ⟨m', fun _ => 0, g'⟩ (fun r => ∀ c : Dev Cert.S5ActBRefIdeal.nD,
          r.2.mem ((c.tc : Thread Cert.S5ActBRefIdeal.nD Cert.S5ActBRefIdeal.τ).loc Cert.S5ActBRefIdeal.main_v41) = v0 c
          ∧ r.2.mem ((c.tc : Thread Cert.S5ActBRefIdeal.nD Cert.S5ActBRefIdeal.τ).loc Cert.S5ActBRefIdeal.main_v37) = v1 c
          ∧ r.2.mem ((c.tc : Thread Cert.S5ActBRefIdeal.nD Cert.S5ActBRefIdeal.τ).loc Cert.S5ActBRefIdeal.main_v40) = v2 c
          ∧ r.2.mem ((c.tc : Thread Cert.S5ActBRefIdeal.nD Cert.S5ActBRefIdeal.τ).loc Cert.S5ActBRefIdeal.main_arg0) = m' ((c.tc : Thread Cert.S5ActBRefIdeal.nD Cert.S5ActBRefIdeal.τ).loc Cert.S5ActBRefIdeal.main_arg0)
          ∧ r.2.mem ((c.tc : Thread Cert.S5ActBRefIdeal.nD Cert.S5ActBRefIdeal.τ).loc Cert.S5ActBRefIdeal.main_arg1) = m' ((c.tc : Thread Cert.S5ActBRefIdeal.nD Cert.S5ActBRefIdeal.τ).loc Cert.S5ActBRefIdeal.main_arg1)
          ∧ r.2.mem ((c.tc : Thread Cert.S5ActBRefIdeal.nD Cert.S5ActBRefIdeal.τ).loc Cert.S5ActBRefIdeal.main_arg2) = m' ((c.tc : Thread Cert.S5ActBRefIdeal.nD Cert.S5ActBRefIdeal.τ).loc Cert.S5ActBRefIdeal.main_arg2)
          ∧ r.2.mem ((c.tc : Thread Cert.S5ActBRefIdeal.nD Cert.S5ActBRefIdeal.τ).loc Cert.S5ActBRefIdeal.main_arg3) = m' ((c.tc : Thread Cert.S5ActBRefIdeal.nD Cert.S5ActBRefIdeal.τ).loc Cert.S5ActBRefIdeal.main_arg3))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)) →
    ∃ (v0 : (c : Dev Cert.InPIdeal.nD) → Buf (Elt Ideal) ((c.tc : Thread Cert.InPIdeal.nD Cert.InPIdeal.τ).loc Cert.InPIdeal.main_v0)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v0) = v0 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v2) = v0 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1))

def preserves_GateP_GatePIdeal : Prop :=
  True

def algebraic_GatePIdeal_GatePRefIdeal [hGatePIdeal : Cert.GatePIdeal.Facts] [hGatePRefIdeal : Cert.GatePRefIdeal.Facts] : Prop :=
  ∀ (m : (ℓ : Loc Cert.GatePIdeal.nD Cert.GatePIdeal.τ Cert.GatePIdeal.sig) → Buf (Elt Ideal) ℓ) (g : Dev Cert.GatePIdeal.nD → PrngReg)
    (m' : (ℓ : Loc Cert.GatePRefIdeal.nD Cert.GatePRefIdeal.τ Cert.GatePRefIdeal.sig) → Buf (Elt Ideal) ℓ) (g' : Dev Cert.GatePRefIdeal.nD → PrngReg), Pre_GatePIdeal m →
    (∀ c : Dev Cert.GatePIdeal.nD,
      m' ((c.tc : Thread Cert.GatePRefIdeal.nD Cert.GatePRefIdeal.τ).loc Cert.GatePRefIdeal.main_arg0) = m ((c.tc : Thread Cert.GatePIdeal.nD Cert.GatePIdeal.τ).loc Cert.GatePIdeal.main_arg0)
      ∧ m' ((c.tc : Thread Cert.GatePRefIdeal.nD Cert.GatePRefIdeal.τ).loc Cert.GatePRefIdeal.main_arg1) = m ((c.tc : Thread Cert.GatePIdeal.nD Cert.GatePIdeal.τ).loc Cert.GatePIdeal.main_arg1)) →
    ∃ (v0 : (c : Dev Cert.GatePIdeal.nD) → Buf (Elt Ideal) ((c.tc : Thread Cert.GatePIdeal.nD Cert.GatePIdeal.τ).loc Cert.GatePIdeal.main_v0)),
      θ_run (Cert.GatePIdeal.defs (F := Ideal)) (onTc (τ := Cert.GatePIdeal.τ) (Cert.GatePIdeal.main (F := Ideal))) ⟨m, fun _ => 0, g⟩ (fun r => ∀ c : Dev Cert.GatePIdeal.nD,
          r.2.mem ((c.tc : Thread Cert.GatePIdeal.nD Cert.GatePIdeal.τ).loc Cert.GatePIdeal.main_v0) = v0 c
          ∧ r.2.mem ((c.tc : Thread Cert.GatePIdeal.nD Cert.GatePIdeal.τ).loc Cert.GatePIdeal.main_arg0) = m ((c.tc : Thread Cert.GatePIdeal.nD Cert.GatePIdeal.τ).loc Cert.GatePIdeal.main_arg0)
          ∧ r.2.mem ((c.tc : Thread Cert.GatePIdeal.nD Cert.GatePIdeal.τ).loc Cert.GatePIdeal.main_arg1) = m ((c.tc : Thread Cert.GatePIdeal.nD Cert.GatePIdeal.τ).loc Cert.GatePIdeal.main_arg1))
      ∧ θ_run (Cert.GatePRefIdeal.defs (F := Ideal)) (onTc (τ := Cert.GatePRefIdeal.τ) (Cert.GatePRefIdeal.main (F := Ideal))) ⟨m', fun _ => 0, g'⟩ (fun r => ∀ c : Dev Cert.GatePRefIdeal.nD,
          r.2.mem ((c.tc : Thread Cert.GatePRefIdeal.nD Cert.GatePRefIdeal.τ).loc Cert.GatePRefIdeal.main_v4) = v0 c
          ∧ r.2.mem ((c.tc : Thread Cert.GatePRefIdeal.nD Cert.GatePRefIdeal.τ).loc Cert.GatePRefIdeal.main_arg0) = m' ((c.tc : Thread Cert.GatePRefIdeal.nD Cert.GatePRefIdeal.τ).loc Cert.GatePRefIdeal.main_arg0)
          ∧ r.2.mem ((c.tc : Thread Cert.GatePRefIdeal.nD Cert.GatePRefIdeal.τ).loc Cert.GatePRefIdeal.main_arg1) = m' ((c.tc : Thread Cert.GatePRefIdeal.nD Cert.GatePRefIdeal.τ).loc Cert.GatePRefIdeal.main_arg1))

def preserves_BranchP_BranchPIdeal : Prop :=
  True

def algebraic_BranchPIdeal_BranchPRefIdeal [hBranchPIdeal : Cert.BranchPIdeal.Facts] [hBranchPRefIdeal : Cert.BranchPRefIdeal.Facts] : Prop :=
  ∀ (m : (ℓ : Loc Cert.BranchPIdeal.nD Cert.BranchPIdeal.τ Cert.BranchPIdeal.sig) → Buf (Elt Ideal) ℓ) (g : Dev Cert.BranchPIdeal.nD → PrngReg)
    (m' : (ℓ : Loc Cert.BranchPRefIdeal.nD Cert.BranchPRefIdeal.τ Cert.BranchPRefIdeal.sig) → Buf (Elt Ideal) ℓ) (g' : Dev Cert.BranchPRefIdeal.nD → PrngReg), Pre_BranchPIdeal m →
    (∀ c : Dev Cert.BranchPIdeal.nD,
      m' ((c.tc : Thread Cert.BranchPRefIdeal.nD Cert.BranchPRefIdeal.τ).loc Cert.BranchPRefIdeal.main_arg0) = m ((c.tc : Thread Cert.BranchPIdeal.nD Cert.BranchPIdeal.τ).loc Cert.BranchPIdeal.main_arg0)
      ∧ m' ((c.tc : Thread Cert.BranchPRefIdeal.nD Cert.BranchPRefIdeal.τ).loc Cert.BranchPRefIdeal.main_arg1) = m ((c.tc : Thread Cert.BranchPIdeal.nD Cert.BranchPIdeal.τ).loc Cert.BranchPIdeal.main_arg1)) →
    ∃ (v0 : (c : Dev Cert.BranchPIdeal.nD) → Buf (Elt Ideal) ((c.tc : Thread Cert.BranchPIdeal.nD Cert.BranchPIdeal.τ).loc Cert.BranchPIdeal.main_v0)),
      θ_run (Cert.BranchPIdeal.defs (F := Ideal)) (onTc (τ := Cert.BranchPIdeal.τ) (Cert.BranchPIdeal.main (F := Ideal))) ⟨m, fun _ => 0, g⟩ (fun r => ∀ c : Dev Cert.BranchPIdeal.nD,
          r.2.mem ((c.tc : Thread Cert.BranchPIdeal.nD Cert.BranchPIdeal.τ).loc Cert.BranchPIdeal.main_v0) = v0 c
          ∧ r.2.mem ((c.tc : Thread Cert.BranchPIdeal.nD Cert.BranchPIdeal.τ).loc Cert.BranchPIdeal.main_arg0) = m ((c.tc : Thread Cert.BranchPIdeal.nD Cert.BranchPIdeal.τ).loc Cert.BranchPIdeal.main_arg0)
          ∧ r.2.mem ((c.tc : Thread Cert.BranchPIdeal.nD Cert.BranchPIdeal.τ).loc Cert.BranchPIdeal.main_arg1) = m ((c.tc : Thread Cert.BranchPIdeal.nD Cert.BranchPIdeal.τ).loc Cert.BranchPIdeal.main_arg1))
      ∧ θ_run (Cert.BranchPRefIdeal.defs (F := Ideal)) (onTc (τ := Cert.BranchPRefIdeal.τ) (Cert.BranchPRefIdeal.main (F := Ideal))) ⟨m', fun _ => 0, g'⟩ (fun r => ∀ c : Dev Cert.BranchPRefIdeal.nD,
          r.2.mem ((c.tc : Thread Cert.BranchPRefIdeal.nD Cert.BranchPRefIdeal.τ).loc Cert.BranchPRefIdeal.main_v2) = v0 c
          ∧ r.2.mem ((c.tc : Thread Cert.BranchPRefIdeal.nD Cert.BranchPRefIdeal.τ).loc Cert.BranchPRefIdeal.main_arg0) = m' ((c.tc : Thread Cert.BranchPRefIdeal.nD Cert.BranchPRefIdeal.τ).loc Cert.BranchPRefIdeal.main_arg0)
          ∧ r.2.mem ((c.tc : Thread Cert.BranchPRefIdeal.nD Cert.BranchPRefIdeal.τ).loc Cert.BranchPRefIdeal.main_arg1) = m' ((c.tc : Thread Cert.BranchPRefIdeal.nD Cert.BranchPRefIdeal.τ).loc Cert.BranchPRefIdeal.main_arg1))

def preserves_OutP_OutPIdeal : Prop :=
  True

def algebraic_OutPIdeal_OutPRefIdeal [hOutPIdeal : Cert.OutPIdeal.Facts] [hOutPRefIdeal : Cert.OutPRefIdeal.Facts] : Prop :=
  ∀ (m : (ℓ : Loc Cert.OutPIdeal.nD Cert.OutPIdeal.τ Cert.OutPIdeal.sig) → Buf (Elt Ideal) ℓ) (g : Dev Cert.OutPIdeal.nD → PrngReg)
    (m' : (ℓ : Loc Cert.OutPRefIdeal.nD Cert.OutPRefIdeal.τ Cert.OutPRefIdeal.sig) → Buf (Elt Ideal) ℓ) (g' : Dev Cert.OutPRefIdeal.nD → PrngReg), Pre_OutPIdeal m →
    (∀ c : Dev Cert.OutPIdeal.nD,
      m' ((c.tc : Thread Cert.OutPRefIdeal.nD Cert.OutPRefIdeal.τ).loc Cert.OutPRefIdeal.main_arg0) = m ((c.tc : Thread Cert.OutPIdeal.nD Cert.OutPIdeal.τ).loc Cert.OutPIdeal.main_arg0)
      ∧ m' ((c.tc : Thread Cert.OutPRefIdeal.nD Cert.OutPRefIdeal.τ).loc Cert.OutPRefIdeal.main_arg1) = m ((c.tc : Thread Cert.OutPIdeal.nD Cert.OutPIdeal.τ).loc Cert.OutPIdeal.main_arg1)) →
    ∃ (v0 : (c : Dev Cert.OutPIdeal.nD) → Buf (Elt Ideal) ((c.tc : Thread Cert.OutPIdeal.nD Cert.OutPIdeal.τ).loc Cert.OutPIdeal.main_v0)),
      θ_run (Cert.OutPIdeal.defs (F := Ideal)) (onTc (τ := Cert.OutPIdeal.τ) (Cert.OutPIdeal.main (F := Ideal))) ⟨m, fun _ => 0, g⟩ (fun r => ∀ c : Dev Cert.OutPIdeal.nD,
          r.2.mem ((c.tc : Thread Cert.OutPIdeal.nD Cert.OutPIdeal.τ).loc Cert.OutPIdeal.main_v0) = v0 c
          ∧ r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
          ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1))
      ∧ θ_run (Cert.OutPRefIdeal.defs (F := Ideal)) (onTc (τ := Cert.OutPRefIdeal.τ) (Cert.OutPRefIdeal.main (F := Ideal))) ⟨m', fun _ => 0, g'⟩ (fun r => ∀ c : Dev Cert.OutPRefIdeal.nD,
          r.2.mem ((c.tc : Thread Cert.OutPRefIdeal.nD Cert.OutPRefIdeal.τ).loc Cert.OutPRefIdeal.main_v2) = v0 c
          ∧ r.2.mem ((c.tc : Thread Cert.OutPRefIdeal.nD Cert.OutPRefIdeal.τ).loc Cert.OutPRefIdeal.main_arg0) = m' ((c.tc : Thread Cert.OutPRefIdeal.nD Cert.OutPRefIdeal.τ).loc Cert.OutPRefIdeal.main_arg0)
          ∧ r.2.mem ((c.tc : Thread Cert.OutPRefIdeal.nD Cert.OutPRefIdeal.τ).loc Cert.OutPRefIdeal.main_arg1) = m' ((c.tc : Thread Cert.OutPRefIdeal.nD Cert.OutPRefIdeal.τ).loc Cert.OutPRefIdeal.main_arg1))

def preserves_Ff1P_Ff1PIdeal : Prop :=
  True

def algebraic_Ff1PIdeal_Ff1PRefIdeal [hFf1PIdeal : Cert.Ff1PIdeal.Facts] [hFf1PRefIdeal : Cert.Ff1PRefIdeal.Facts] : Prop :=
  ∀ (m : (ℓ : Loc Cert.Ff1PIdeal.nD Cert.Ff1PIdeal.τ Cert.Ff1PIdeal.sig) → Buf (Elt Ideal) ℓ) (g : Dev Cert.Ff1PIdeal.nD → PrngReg)
    (m' : (ℓ : Loc Cert.Ff1PRefIdeal.nD Cert.Ff1PRefIdeal.τ Cert.Ff1PRefIdeal.sig) → Buf (Elt Ideal) ℓ) (g' : Dev Cert.Ff1PRefIdeal.nD → PrngReg), Pre_Ff1PIdeal m →
    (∀ c : Dev Cert.Ff1PIdeal.nD,
      m' ((c.tc : Thread Cert.Ff1PRefIdeal.nD Cert.Ff1PRefIdeal.τ).loc Cert.Ff1PRefIdeal.main_arg0) = m ((c.tc : Thread Cert.Ff1PIdeal.nD Cert.Ff1PIdeal.τ).loc Cert.Ff1PIdeal.main_arg0)
      ∧ m' ((c.tc : Thread Cert.Ff1PRefIdeal.nD Cert.Ff1PRefIdeal.τ).loc Cert.Ff1PRefIdeal.main_arg1) = m ((c.tc : Thread Cert.Ff1PIdeal.nD Cert.Ff1PIdeal.τ).loc Cert.Ff1PIdeal.main_arg1)) →
    ∃ (v0 : (c : Dev Cert.Ff1PIdeal.nD) → Buf (Elt Ideal) ((c.tc : Thread Cert.Ff1PIdeal.nD Cert.Ff1PIdeal.τ).loc Cert.Ff1PIdeal.main_v0_0)) (v1 : (c : Dev Cert.Ff1PIdeal.nD) → Buf (Elt Ideal) ((c.tc : Thread Cert.Ff1PIdeal.nD Cert.Ff1PIdeal.τ).loc Cert.Ff1PIdeal.main_v0_1)),
      θ_run (Cert.Ff1PIdeal.defs (F := Ideal)) (onTc (τ := Cert.Ff1PIdeal.τ) (Cert.Ff1PIdeal.main (F := Ideal))) ⟨m, fun _ => 0, g⟩ (fun r => ∀ c : Dev Cert.Ff1PIdeal.nD,
          r.2.mem ((c.tc : Thread Cert.Ff1PIdeal.nD Cert.Ff1PIdeal.τ).loc Cert.Ff1PIdeal.main_v0_0) = v0 c
          ∧ r.2.mem ((c.tc : Thread Cert.Ff1PIdeal.nD Cert.Ff1PIdeal.τ).loc Cert.Ff1PIdeal.main_v0_1) = v1 c
          ∧ r.2.mem ((c.tc : Thread Cert.Ff1PIdeal.nD Cert.Ff1PIdeal.τ).loc Cert.Ff1PIdeal.main_arg0) = m ((c.tc : Thread Cert.Ff1PIdeal.nD Cert.Ff1PIdeal.τ).loc Cert.Ff1PIdeal.main_arg0)
          ∧ r.2.mem ((c.tc : Thread Cert.Ff1PIdeal.nD Cert.Ff1PIdeal.τ).loc Cert.Ff1PIdeal.main_arg1) = m ((c.tc : Thread Cert.Ff1PIdeal.nD Cert.Ff1PIdeal.τ).loc Cert.Ff1PIdeal.main_arg1))
      ∧ θ_run (Cert.Ff1PRefIdeal.defs (F := Ideal)) (onTc (τ := Cert.Ff1PRefIdeal.τ) (Cert.Ff1PRefIdeal.main (F := Ideal))) ⟨m', fun _ => 0, g'⟩ (fun r => ∀ c : Dev Cert.Ff1PRefIdeal.nD,
          r.2.mem ((c.tc : Thread Cert.Ff1PRefIdeal.nD Cert.Ff1PRefIdeal.τ).loc Cert.Ff1PRefIdeal.main_v4) = v0 c
          ∧ r.2.mem ((c.tc : Thread Cert.Ff1PRefIdeal.nD Cert.Ff1PRefIdeal.τ).loc Cert.Ff1PRefIdeal.main_v7) = v1 c
          ∧ r.2.mem ((c.tc : Thread Cert.Ff1PRefIdeal.nD Cert.Ff1PRefIdeal.τ).loc Cert.Ff1PRefIdeal.main_arg0) = m' ((c.tc : Thread Cert.Ff1PRefIdeal.nD Cert.Ff1PRefIdeal.τ).loc Cert.Ff1PRefIdeal.main_arg0)
          ∧ r.2.mem ((c.tc : Thread Cert.Ff1PRefIdeal.nD Cert.Ff1PRefIdeal.τ).loc Cert.Ff1PRefIdeal.main_arg1) = m' ((c.tc : Thread Cert.Ff1PRefIdeal.nD Cert.Ff1PRefIdeal.τ).loc Cert.Ff1PRefIdeal.main_arg1))

def preserves_Ff2P_Ff2PIdeal : Prop :=
  True

def algebraic_Ff2PIdeal_Ff2PRefIdeal [hFf2PIdeal : Cert.Ff2PIdeal.Facts] [hFf2PRefIdeal : Cert.Ff2PRefIdeal.Facts] : Prop :=
  ∀ (m : (ℓ : Loc Cert.Ff2PIdeal.nD Cert.Ff2PIdeal.τ Cert.Ff2PIdeal.sig) → Buf (Elt Ideal) ℓ) (g : Dev Cert.Ff2PIdeal.nD → PrngReg)
    (m' : (ℓ : Loc Cert.Ff2PRefIdeal.nD Cert.Ff2PRefIdeal.τ Cert.Ff2PRefIdeal.sig) → Buf (Elt Ideal) ℓ) (g' : Dev Cert.Ff2PRefIdeal.nD → PrngReg), Pre_Ff2PIdeal m →
    (∀ c : Dev Cert.Ff2PIdeal.nD,
      m' ((c.tc : Thread Cert.Ff2PRefIdeal.nD Cert.Ff2PRefIdeal.τ).loc Cert.Ff2PRefIdeal.main_arg0) = m ((c.tc : Thread Cert.Ff2PIdeal.nD Cert.Ff2PIdeal.τ).loc Cert.Ff2PIdeal.main_arg0)
      ∧ m' ((c.tc : Thread Cert.Ff2PRefIdeal.nD Cert.Ff2PRefIdeal.τ).loc Cert.Ff2PRefIdeal.main_arg1) = m ((c.tc : Thread Cert.Ff2PIdeal.nD Cert.Ff2PIdeal.τ).loc Cert.Ff2PIdeal.main_arg1)) →
    ∃ (v0 : (c : Dev Cert.Ff2PIdeal.nD) → Buf (Elt Ideal) ((c.tc : Thread Cert.Ff2PIdeal.nD Cert.Ff2PIdeal.τ).loc Cert.Ff2PIdeal.main_v0)),
      θ_run (Cert.Ff2PIdeal.defs (F := Ideal)) (onTc (τ := Cert.Ff2PIdeal.τ) (Cert.Ff2PIdeal.main (F := Ideal))) ⟨m, fun _ => 0, g⟩ (fun r => ∀ c : Dev Cert.Ff2PIdeal.nD,
          r.2.mem ((c.tc : Thread Cert.Ff2PIdeal.nD Cert.Ff2PIdeal.τ).loc Cert.Ff2PIdeal.main_v0) = v0 c
          ∧ r.2.mem ((c.tc : Thread Cert.Ff2PIdeal.nD Cert.Ff2PIdeal.τ).loc Cert.Ff2PIdeal.main_arg0) = m ((c.tc : Thread Cert.Ff2PIdeal.nD Cert.Ff2PIdeal.τ).loc Cert.Ff2PIdeal.main_arg0)
          ∧ r.2.mem ((c.tc : Thread Cert.Ff2PIdeal.nD Cert.Ff2PIdeal.τ).loc Cert.Ff2PIdeal.main_arg1) = m ((c.tc : Thread Cert.Ff2PIdeal.nD Cert.Ff2PIdeal.τ).loc Cert.Ff2PIdeal.main_arg1))
      ∧ θ_run (Cert.Ff2PRefIdeal.defs (F := Ideal)) (onTc (τ := Cert.Ff2PRefIdeal.τ) (Cert.Ff2PRefIdeal.main (F := Ideal))) ⟨m', fun _ => 0, g'⟩ (fun r => ∀ c : Dev Cert.Ff2PRefIdeal.nD,
          r.2.mem ((c.tc : Thread Cert.Ff2PRefIdeal.nD Cert.Ff2PRefIdeal.τ).loc Cert.Ff2PRefIdeal.main_v2) = v0 c
          ∧ r.2.mem ((c.tc : Thread Cert.Ff2PRefIdeal.nD Cert.Ff2PRefIdeal.τ).loc Cert.Ff2PRefIdeal.main_arg0) = m' ((c.tc : Thread Cert.Ff2PRefIdeal.nD Cert.Ff2PRefIdeal.τ).loc Cert.Ff2PRefIdeal.main_arg0)
          ∧ r.2.mem ((c.tc : Thread Cert.Ff2PRefIdeal.nD Cert.Ff2PRefIdeal.τ).loc Cert.Ff2PRefIdeal.main_arg1) = m' ((c.tc : Thread Cert.Ff2PRefIdeal.nD Cert.Ff2PRefIdeal.τ).loc Cert.Ff2PRefIdeal.main_arg1))

def preserves_GluP_GluPIdeal : Prop :=
  True

def algebraic_GluPIdeal_GluPRefIdeal [hGluPIdeal : Cert.GluPIdeal.Facts] [hGluPRefIdeal : Cert.GluPRefIdeal.Facts] : Prop :=
  ∀ (m : (ℓ : Loc Cert.GluPIdeal.nD Cert.GluPIdeal.τ Cert.GluPIdeal.sig) → Buf (Elt Ideal) ℓ) (g : Dev Cert.GluPIdeal.nD → PrngReg)
    (m' : (ℓ : Loc Cert.GluPRefIdeal.nD Cert.GluPRefIdeal.τ Cert.GluPRefIdeal.sig) → Buf (Elt Ideal) ℓ) (g' : Dev Cert.GluPRefIdeal.nD → PrngReg), Pre_GluPIdeal m →
    (∀ c : Dev Cert.GluPIdeal.nD,
      m' ((c.tc : Thread Cert.GluPRefIdeal.nD Cert.GluPRefIdeal.τ).loc Cert.GluPRefIdeal.main_arg0) = m ((c.tc : Thread Cert.GluPIdeal.nD Cert.GluPIdeal.τ).loc Cert.GluPIdeal.main_arg0)
      ∧ m' ((c.tc : Thread Cert.GluPRefIdeal.nD Cert.GluPRefIdeal.τ).loc Cert.GluPRefIdeal.main_arg1) = m ((c.tc : Thread Cert.GluPIdeal.nD Cert.GluPIdeal.τ).loc Cert.GluPIdeal.main_arg1)) →
    ∃ (v0 : (c : Dev Cert.GluPIdeal.nD) → Buf (Elt Ideal) ((c.tc : Thread Cert.GluPIdeal.nD Cert.GluPIdeal.τ).loc Cert.GluPIdeal.main_v0)),
      θ_run (Cert.GluPIdeal.defs (F := Ideal)) (onTc (τ := Cert.GluPIdeal.τ) (Cert.GluPIdeal.main (F := Ideal))) ⟨m, fun _ => 0, g⟩ (fun r => ∀ c : Dev Cert.GluPIdeal.nD,
          r.2.mem ((c.tc : Thread Cert.GluPIdeal.nD Cert.GluPIdeal.τ).loc Cert.GluPIdeal.main_v0) = v0 c
          ∧ r.2.mem ((c.tc : Thread Cert.GluPIdeal.nD Cert.GluPIdeal.τ).loc Cert.GluPIdeal.main_arg0) = m ((c.tc : Thread Cert.GluPIdeal.nD Cert.GluPIdeal.τ).loc Cert.GluPIdeal.main_arg0)
          ∧ r.2.mem ((c.tc : Thread Cert.GluPIdeal.nD Cert.GluPIdeal.τ).loc Cert.GluPIdeal.main_arg1) = m ((c.tc : Thread Cert.GluPIdeal.nD Cert.GluPIdeal.τ).loc Cert.GluPIdeal.main_arg1))
      ∧ θ_run (Cert.GluPRefIdeal.defs (F := Ideal)) (onTc (τ := Cert.GluPRefIdeal.τ) (Cert.GluPRefIdeal.main (F := Ideal))) ⟨m', fun _ => 0, g'⟩ (fun r => ∀ c : Dev Cert.GluPRefIdeal.nD,
          r.2.mem ((c.tc : Thread Cert.GluPRefIdeal.nD Cert.GluPRefIdeal.τ).loc Cert.GluPRefIdeal.main_v2) = v0 c
          ∧ r.2.mem ((c.tc : Thread Cert.GluPRefIdeal.nD Cert.GluPRefIdeal.τ).loc Cert.GluPRefIdeal.main_arg0) = m' ((c.tc : Thread Cert.GluPRefIdeal.nD Cert.GluPRefIdeal.τ).loc Cert.GluPRefIdeal.main_arg0)
          ∧ r.2.mem ((c.tc : Thread Cert.GluPRefIdeal.nD Cert.GluPRefIdeal.τ).loc Cert.GluPRefIdeal.main_arg1) = m' ((c.tc : Thread Cert.GluPRefIdeal.nD Cert.GluPRefIdeal.τ).loc Cert.GluPRefIdeal.main_arg1))

def preserves_GluPB_GluPBIdeal : Prop :=
  True

def algebraic_GluPBIdeal_GluPBRefIdeal [hGluPBIdeal : Cert.GluPBIdeal.Facts] [hGluPBRefIdeal : Cert.GluPBRefIdeal.Facts] : Prop :=
  ∀ (m : (ℓ : Loc Cert.GluPBIdeal.nD Cert.GluPBIdeal.τ Cert.GluPBIdeal.sig) → Buf (Elt Ideal) ℓ) (g : Dev Cert.GluPBIdeal.nD → PrngReg)
    (m' : (ℓ : Loc Cert.GluPBRefIdeal.nD Cert.GluPBRefIdeal.τ Cert.GluPBRefIdeal.sig) → Buf (Elt Ideal) ℓ) (g' : Dev Cert.GluPBRefIdeal.nD → PrngReg), Pre_GluPBIdeal m →
    (∀ c : Dev Cert.GluPBIdeal.nD,
      m' ((c.tc : Thread Cert.GluPBRefIdeal.nD Cert.GluPBRefIdeal.τ).loc Cert.GluPBRefIdeal.main_arg0) = m ((c.tc : Thread Cert.GluPBIdeal.nD Cert.GluPBIdeal.τ).loc Cert.GluPBIdeal.main_arg0)
      ∧ m' ((c.tc : Thread Cert.GluPBRefIdeal.nD Cert.GluPBRefIdeal.τ).loc Cert.GluPBRefIdeal.main_arg1) = m ((c.tc : Thread Cert.GluPBIdeal.nD Cert.GluPBIdeal.τ).loc Cert.GluPBIdeal.main_arg1)) →
    ∃ (v0 : (c : Dev Cert.GluPBIdeal.nD) → Buf (Elt Ideal) ((c.tc : Thread Cert.GluPBIdeal.nD Cert.GluPBIdeal.τ).loc Cert.GluPBIdeal.main_v0)),
      θ_run (Cert.GluPBIdeal.defs (F := Ideal)) (onTc (τ := Cert.GluPBIdeal.τ) (Cert.GluPBIdeal.main (F := Ideal))) ⟨m, fun _ => 0, g⟩ (fun r => ∀ c : Dev Cert.GluPBIdeal.nD,
          r.2.mem ((c.tc : Thread Cert.GluPBIdeal.nD Cert.GluPBIdeal.τ).loc Cert.GluPBIdeal.main_v0) = v0 c
          ∧ r.2.mem ((c.tc : Thread Cert.GluPBIdeal.nD Cert.GluPBIdeal.τ).loc Cert.GluPBIdeal.main_arg0) = m ((c.tc : Thread Cert.GluPBIdeal.nD Cert.GluPBIdeal.τ).loc Cert.GluPBIdeal.main_arg0)
          ∧ r.2.mem ((c.tc : Thread Cert.GluPBIdeal.nD Cert.GluPBIdeal.τ).loc Cert.GluPBIdeal.main_arg1) = m ((c.tc : Thread Cert.GluPBIdeal.nD Cert.GluPBIdeal.τ).loc Cert.GluPBIdeal.main_arg1))
      ∧ θ_run (Cert.GluPBRefIdeal.defs (F := Ideal)) (onTc (τ := Cert.GluPBRefIdeal.τ) (Cert.GluPBRefIdeal.main (F := Ideal))) ⟨m', fun _ => 0, g'⟩ (fun r => ∀ c : Dev Cert.GluPBRefIdeal.nD,
          r.2.mem ((c.tc : Thread Cert.GluPBRefIdeal.nD Cert.GluPBRefIdeal.τ).loc Cert.GluPBRefIdeal.main_v4) = v0 c
          ∧ r.2.mem ((c.tc : Thread Cert.GluPBRefIdeal.nD Cert.GluPBRefIdeal.τ).loc Cert.GluPBRefIdeal.main_arg0) = m' ((c.tc : Thread Cert.GluPBRefIdeal.nD Cert.GluPBRefIdeal.τ).loc Cert.GluPBRefIdeal.main_arg0)
          ∧ r.2.mem ((c.tc : Thread Cert.GluPBRefIdeal.nD Cert.GluPBRefIdeal.τ).loc Cert.GluPBRefIdeal.main_arg1) = m' ((c.tc : Thread Cert.GluPBRefIdeal.nD Cert.GluPBRefIdeal.τ).loc Cert.GluPBRefIdeal.main_arg1))

def preserves_GluPW_GluPWIdeal : Prop :=
  True

def algebraic_GluPWIdeal_GluPWRefIdeal [hGluPWIdeal : Cert.GluPWIdeal.Facts] [hGluPWRefIdeal : Cert.GluPWRefIdeal.Facts] : Prop :=
  ∀ (m : (ℓ : Loc Cert.GluPWIdeal.nD Cert.GluPWIdeal.τ Cert.GluPWIdeal.sig) → Buf (Elt Ideal) ℓ) (g : Dev Cert.GluPWIdeal.nD → PrngReg)
    (m' : (ℓ : Loc Cert.GluPWRefIdeal.nD Cert.GluPWRefIdeal.τ Cert.GluPWRefIdeal.sig) → Buf (Elt Ideal) ℓ) (g' : Dev Cert.GluPWRefIdeal.nD → PrngReg), Pre_GluPWIdeal m →
    (∀ c : Dev Cert.GluPWIdeal.nD,
      m' ((c.tc : Thread Cert.GluPWRefIdeal.nD Cert.GluPWRefIdeal.τ).loc Cert.GluPWRefIdeal.main_arg0) = m ((c.tc : Thread Cert.GluPWIdeal.nD Cert.GluPWIdeal.τ).loc Cert.GluPWIdeal.main_arg0)
      ∧ m' ((c.tc : Thread Cert.GluPWRefIdeal.nD Cert.GluPWRefIdeal.τ).loc Cert.GluPWRefIdeal.main_arg1) = m ((c.tc : Thread Cert.GluPWIdeal.nD Cert.GluPWIdeal.τ).loc Cert.GluPWIdeal.main_arg1)) →
    ∃ (v0 : (c : Dev Cert.GluPWIdeal.nD) → Buf (Elt Ideal) ((c.tc : Thread Cert.GluPWIdeal.nD Cert.GluPWIdeal.τ).loc Cert.GluPWIdeal.main_v0)),
      θ_run (Cert.GluPWIdeal.defs (F := Ideal)) (onTc (τ := Cert.GluPWIdeal.τ) (Cert.GluPWIdeal.main (F := Ideal))) ⟨m, fun _ => 0, g⟩ (fun r => ∀ c : Dev Cert.GluPWIdeal.nD,
          r.2.mem ((c.tc : Thread Cert.GluPWIdeal.nD Cert.GluPWIdeal.τ).loc Cert.GluPWIdeal.main_v0) = v0 c
          ∧ r.2.mem ((c.tc : Thread Cert.GluPWIdeal.nD Cert.GluPWIdeal.τ).loc Cert.GluPWIdeal.main_arg0) = m ((c.tc : Thread Cert.GluPWIdeal.nD Cert.GluPWIdeal.τ).loc Cert.GluPWIdeal.main_arg0)
          ∧ r.2.mem ((c.tc : Thread Cert.GluPWIdeal.nD Cert.GluPWIdeal.τ).loc Cert.GluPWIdeal.main_arg1) = m ((c.tc : Thread Cert.GluPWIdeal.nD Cert.GluPWIdeal.τ).loc Cert.GluPWIdeal.main_arg1))
      ∧ θ_run (Cert.GluPWRefIdeal.defs (F := Ideal)) (onTc (τ := Cert.GluPWRefIdeal.τ) (Cert.GluPWRefIdeal.main (F := Ideal))) ⟨m', fun _ => 0, g'⟩ (fun r => ∀ c : Dev Cert.GluPWRefIdeal.nD,
          r.2.mem ((c.tc : Thread Cert.GluPWRefIdeal.nD Cert.GluPWRefIdeal.τ).loc Cert.GluPWRefIdeal.main_v5) = v0 c
          ∧ r.2.mem ((c.tc : Thread Cert.GluPWRefIdeal.nD Cert.GluPWRefIdeal.τ).loc Cert.GluPWRefIdeal.main_arg0) = m' ((c.tc : Thread Cert.GluPWRefIdeal.nD Cert.GluPWRefIdeal.τ).loc Cert.GluPWRefIdeal.main_arg0)
          ∧ r.2.mem ((c.tc : Thread Cert.GluPWRefIdeal.nD Cert.GluPWRefIdeal.τ).loc Cert.GluPWRefIdeal.main_arg1) = m' ((c.tc : Thread Cert.GluPWRefIdeal.nD Cert.GluPWRefIdeal.τ).loc Cert.GluPWRefIdeal.main_arg1))

def preserves_MergeP_MergePIdeal : Prop :=
  True

def algebraic_MergePIdeal_MergePRefIdeal [hMergePIdeal : Cert.MergePIdeal.Facts] [hMergePRefIdeal : Cert.MergePRefIdeal.Facts] : Prop :=
  ∀ (m : (ℓ : Loc Cert.MergePIdeal.nD Cert.MergePIdeal.τ Cert.MergePIdeal.sig) → Buf (Elt Ideal) ℓ) (g : Dev Cert.MergePIdeal.nD → PrngReg)
    (m' : (ℓ : Loc Cert.MergePRefIdeal.nD Cert.MergePRefIdeal.τ Cert.MergePRefIdeal.sig) → Buf (Elt Ideal) ℓ) (g' : Dev Cert.MergePRefIdeal.nD → PrngReg), Pre_MergePIdeal m →
    (∀ c : Dev Cert.MergePIdeal.nD,
      m' ((c.tc : Thread Cert.MergePRefIdeal.nD Cert.MergePRefIdeal.τ).loc Cert.MergePRefIdeal.main_arg0) = m ((c.tc : Thread Cert.MergePIdeal.nD Cert.MergePIdeal.τ).loc Cert.MergePIdeal.main_arg0)
      ∧ m' ((c.tc : Thread Cert.MergePRefIdeal.nD Cert.MergePRefIdeal.τ).loc Cert.MergePRefIdeal.main_arg1) = m ((c.tc : Thread Cert.MergePIdeal.nD Cert.MergePIdeal.τ).loc Cert.MergePIdeal.main_arg1)
      ∧ m' ((c.tc : Thread Cert.MergePRefIdeal.nD Cert.MergePRefIdeal.τ).loc Cert.MergePRefIdeal.main_arg2) = m ((c.tc : Thread Cert.MergePIdeal.nD Cert.MergePIdeal.τ).loc Cert.MergePIdeal.main_arg2)
      ∧ m' ((c.tc : Thread Cert.MergePRefIdeal.nD Cert.MergePRefIdeal.τ).loc Cert.MergePRefIdeal.main_arg3) = m ((c.tc : Thread Cert.MergePIdeal.nD Cert.MergePIdeal.τ).loc Cert.MergePIdeal.main_arg3)
      ∧ m' ((c.tc : Thread Cert.MergePRefIdeal.nD Cert.MergePRefIdeal.τ).loc Cert.MergePRefIdeal.main_arg4) = m ((c.tc : Thread Cert.MergePIdeal.nD Cert.MergePIdeal.τ).loc Cert.MergePIdeal.main_arg4)
      ∧ m' ((c.tc : Thread Cert.MergePRefIdeal.nD Cert.MergePRefIdeal.τ).loc Cert.MergePRefIdeal.main_arg5) = m ((c.tc : Thread Cert.MergePIdeal.nD Cert.MergePIdeal.τ).loc Cert.MergePIdeal.main_arg5)) →
    ∃ (v0 : (c : Dev Cert.MergePIdeal.nD) → Buf (Elt Ideal) ((c.tc : Thread Cert.MergePIdeal.nD Cert.MergePIdeal.τ).loc Cert.MergePIdeal.main_v0)),
      θ_run (Cert.MergePIdeal.defs (F := Ideal)) (onTc (τ := Cert.MergePIdeal.τ) (Cert.MergePIdeal.main (F := Ideal))) ⟨m, fun _ => 0, g⟩ (fun r => ∀ c : Dev Cert.MergePIdeal.nD,
          r.2.mem ((c.tc : Thread Cert.MergePIdeal.nD Cert.MergePIdeal.τ).loc Cert.MergePIdeal.main_v0) = v0 c
          ∧ r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
          ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
          ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
          ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
          ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
          ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5))
      ∧ θ_run (Cert.MergePRefIdeal.defs (F := Ideal)) (onTc (τ := Cert.MergePRefIdeal.τ) (Cert.MergePRefIdeal.main (F := Ideal))) ⟨m', fun _ => 0, g'⟩ (fun r => ∀ c : Dev Cert.MergePRefIdeal.nD,
          r.2.mem ((c.tc : Thread Cert.MergePRefIdeal.nD Cert.MergePRefIdeal.τ).loc Cert.MergePRefIdeal.main_v16) = v0 c
          ∧ r.2.mem ((c.tc : Thread Cert.MergePRefIdeal.nD Cert.MergePRefIdeal.τ).loc Cert.MergePRefIdeal.main_arg0) = m' ((c.tc : Thread Cert.MergePRefIdeal.nD Cert.MergePRefIdeal.τ).loc Cert.MergePRefIdeal.main_arg0)
          ∧ r.2.mem ((c.tc : Thread Cert.MergePRefIdeal.nD Cert.MergePRefIdeal.τ).loc Cert.MergePRefIdeal.main_arg1) = m' ((c.tc : Thread Cert.MergePRefIdeal.nD Cert.MergePRefIdeal.τ).loc Cert.MergePRefIdeal.main_arg1)
          ∧ r.2.mem ((c.tc : Thread Cert.MergePRefIdeal.nD Cert.MergePRefIdeal.τ).loc Cert.MergePRefIdeal.main_arg2) = m' ((c.tc : Thread Cert.MergePRefIdeal.nD Cert.MergePRefIdeal.τ).loc Cert.MergePRefIdeal.main_arg2)
          ∧ r.2.mem ((c.tc : Thread Cert.MergePRefIdeal.nD Cert.MergePRefIdeal.τ).loc Cert.MergePRefIdeal.main_arg3) = m' ((c.tc : Thread Cert.MergePRefIdeal.nD Cert.MergePRefIdeal.τ).loc Cert.MergePRefIdeal.main_arg3)
          ∧ r.2.mem ((c.tc : Thread Cert.MergePRefIdeal.nD Cert.MergePRefIdeal.τ).loc Cert.MergePRefIdeal.main_arg4) = m' ((c.tc : Thread Cert.MergePRefIdeal.nD Cert.MergePRefIdeal.τ).loc Cert.MergePRefIdeal.main_arg4)
          ∧ r.2.mem ((c.tc : Thread Cert.MergePRefIdeal.nD Cert.MergePRefIdeal.τ).loc Cert.MergePRefIdeal.main_arg5) = m' ((c.tc : Thread Cert.MergePRefIdeal.nD Cert.MergePRefIdeal.τ).loc Cert.MergePRefIdeal.main_arg5))

def preserves_S5ActP_S5ActPIdeal : Prop :=
  True

def algebraic_S5ActPIdeal_S5ActPRefIdeal [hS5ActPIdeal : Cert.S5ActPIdeal.Facts] [hS5ActPRefIdeal : Cert.S5ActPRefIdeal.Facts] : Prop :=
  ∀ (m : (ℓ : Loc Cert.S5ActPIdeal.nD Cert.S5ActPIdeal.τ Cert.S5ActPIdeal.sig) → Buf (Elt Ideal) ℓ) (g : Dev Cert.S5ActPIdeal.nD → PrngReg)
    (m' : (ℓ : Loc Cert.S5ActPRefIdeal.nD Cert.S5ActPRefIdeal.τ Cert.S5ActPRefIdeal.sig) → Buf (Elt Ideal) ℓ) (g' : Dev Cert.S5ActPRefIdeal.nD → PrngReg), Pre_S5ActPIdeal m →
    (∀ c : Dev Cert.S5ActPIdeal.nD,
      m' ((c.tc : Thread Cert.S5ActPRefIdeal.nD Cert.S5ActPRefIdeal.τ).loc Cert.S5ActPRefIdeal.main_arg0) = m ((c.tc : Thread Cert.S5ActPIdeal.nD Cert.S5ActPIdeal.τ).loc Cert.S5ActPIdeal.main_arg0)
      ∧ m' ((c.tc : Thread Cert.S5ActPRefIdeal.nD Cert.S5ActPRefIdeal.τ).loc Cert.S5ActPRefIdeal.main_arg1) = m ((c.tc : Thread Cert.S5ActPIdeal.nD Cert.S5ActPIdeal.τ).loc Cert.S5ActPIdeal.main_arg1)
      ∧ m' ((c.tc : Thread Cert.S5ActPRefIdeal.nD Cert.S5ActPRefIdeal.τ).loc Cert.S5ActPRefIdeal.main_arg2) = m ((c.tc : Thread Cert.S5ActPIdeal.nD Cert.S5ActPIdeal.τ).loc Cert.S5ActPIdeal.main_arg2)) →
    ∃ (v0 : (c : Dev Cert.S5ActPIdeal.nD) → Buf (Elt Ideal) ((c.tc : Thread Cert.S5ActPIdeal.nD Cert.S5ActPIdeal.τ).loc Cert.S5ActPIdeal.main_v0)),
      θ_run (Cert.S5ActPIdeal.defs (F := Ideal)) (onTc (τ := Cert.S5ActPIdeal.τ) (Cert.S5ActPIdeal.main (F := Ideal))) ⟨m, fun _ => 0, g⟩ (fun r => ∀ c : Dev Cert.S5ActPIdeal.nD,
          r.2.mem ((c.tc : Thread Cert.S5ActPIdeal.nD Cert.S5ActPIdeal.τ).loc Cert.S5ActPIdeal.main_v0) = v0 c
          ∧ r.2.mem ((c.tc : Thread Cert.S5ActPIdeal.nD Cert.S5ActPIdeal.τ).loc Cert.S5ActPIdeal.main_arg0) = m ((c.tc : Thread Cert.S5ActPIdeal.nD Cert.S5ActPIdeal.τ).loc Cert.S5ActPIdeal.main_arg0)
          ∧ r.2.mem ((c.tc : Thread Cert.S5ActPIdeal.nD Cert.S5ActPIdeal.τ).loc Cert.S5ActPIdeal.main_arg1) = m ((c.tc : Thread Cert.S5ActPIdeal.nD Cert.S5ActPIdeal.τ).loc Cert.S5ActPIdeal.main_arg1)
          ∧ r.2.mem ((c.tc : Thread Cert.S5ActPIdeal.nD Cert.S5ActPIdeal.τ).loc Cert.S5ActPIdeal.main_arg2) = m ((c.tc : Thread Cert.S5ActPIdeal.nD Cert.S5ActPIdeal.τ).loc Cert.S5ActPIdeal.main_arg2))
      ∧ θ_run (Cert.S5ActPRefIdeal.defs (F := Ideal)) (onTc (τ := Cert.S5ActPRefIdeal.τ) (Cert.S5ActPRefIdeal.main (F := Ideal))) ⟨m', fun _ => 0, g'⟩ (fun r => ∀ c : Dev Cert.S5ActPRefIdeal.nD,
          r.2.mem ((c.tc : Thread Cert.S5ActPRefIdeal.nD Cert.S5ActPRefIdeal.τ).loc Cert.S5ActPRefIdeal.main_v16) = v0 c
          ∧ r.2.mem ((c.tc : Thread Cert.S5ActPRefIdeal.nD Cert.S5ActPRefIdeal.τ).loc Cert.S5ActPRefIdeal.main_arg0) = m' ((c.tc : Thread Cert.S5ActPRefIdeal.nD Cert.S5ActPRefIdeal.τ).loc Cert.S5ActPRefIdeal.main_arg0)
          ∧ r.2.mem ((c.tc : Thread Cert.S5ActPRefIdeal.nD Cert.S5ActPRefIdeal.τ).loc Cert.S5ActPRefIdeal.main_arg1) = m' ((c.tc : Thread Cert.S5ActPRefIdeal.nD Cert.S5ActPRefIdeal.τ).loc Cert.S5ActPRefIdeal.main_arg1)
          ∧ r.2.mem ((c.tc : Thread Cert.S5ActPRefIdeal.nD Cert.S5ActPRefIdeal.τ).loc Cert.S5ActPRefIdeal.main_arg2) = m' ((c.tc : Thread Cert.S5ActPRefIdeal.nD Cert.S5ActPRefIdeal.τ).loc Cert.S5ActPRefIdeal.main_arg2))

def preserves_S5GluP_S5GluPIdeal : Prop :=
  True

def algebraic_S5GluPIdeal_S5GluPRefIdeal [hS5GluPIdeal : Cert.S5GluPIdeal.Facts] [hS5GluPRefIdeal : Cert.S5GluPRefIdeal.Facts] : Prop :=
  ∀ (m : (ℓ : Loc Cert.S5GluPIdeal.nD Cert.S5GluPIdeal.τ Cert.S5GluPIdeal.sig) → Buf (Elt Ideal) ℓ) (g : Dev Cert.S5GluPIdeal.nD → PrngReg)
    (m' : (ℓ : Loc Cert.S5GluPRefIdeal.nD Cert.S5GluPRefIdeal.τ Cert.S5GluPRefIdeal.sig) → Buf (Elt Ideal) ℓ) (g' : Dev Cert.S5GluPRefIdeal.nD → PrngReg), Pre_S5GluPIdeal m →
    (∀ c : Dev Cert.S5GluPIdeal.nD,
      m' ((c.tc : Thread Cert.S5GluPRefIdeal.nD Cert.S5GluPRefIdeal.τ).loc Cert.S5GluPRefIdeal.main_arg0) = m ((c.tc : Thread Cert.S5GluPIdeal.nD Cert.S5GluPIdeal.τ).loc Cert.S5GluPIdeal.main_arg0)) →
    ∃ (v0 : (c : Dev Cert.S5GluPIdeal.nD) → Buf (Elt Ideal) ((c.tc : Thread Cert.S5GluPIdeal.nD Cert.S5GluPIdeal.τ).loc Cert.S5GluPIdeal.main_v0)),
      θ_run (Cert.S5GluPIdeal.defs (F := Ideal)) (onTc (τ := Cert.S5GluPIdeal.τ) (Cert.S5GluPIdeal.main (F := Ideal))) ⟨m, fun _ => 0, g⟩ (fun r => ∀ c : Dev Cert.S5GluPIdeal.nD,
          r.2.mem ((c.tc : Thread Cert.S5GluPIdeal.nD Cert.S5GluPIdeal.τ).loc Cert.S5GluPIdeal.main_v0) = v0 c
          ∧ r.2.mem ((c.tc : Thread Cert.S5GluPIdeal.nD Cert.S5GluPIdeal.τ).loc Cert.S5GluPIdeal.main_arg0) = m ((c.tc : Thread Cert.S5GluPIdeal.nD Cert.S5GluPIdeal.τ).loc Cert.S5GluPIdeal.main_arg0))
      ∧ θ_run (Cert.S5GluPRefIdeal.defs (F := Ideal)) (onTc (τ := Cert.S5GluPRefIdeal.τ) (Cert.S5GluPRefIdeal.main (F := Ideal))) ⟨m', fun _ => 0, g'⟩ (fun r => ∀ c : Dev Cert.S5GluPRefIdeal.nD,
          r.2.mem ((c.tc : Thread Cert.S5GluPRefIdeal.nD Cert.S5GluPRefIdeal.τ).loc Cert.S5GluPRefIdeal.main_v9) = v0 c
          ∧ r.2.mem ((c.tc : Thread Cert.S5GluPRefIdeal.nD Cert.S5GluPRefIdeal.τ).loc Cert.S5GluPRefIdeal.main_arg0) = m' ((c.tc : Thread Cert.S5GluPRefIdeal.nD Cert.S5GluPRefIdeal.τ).loc Cert.S5GluPRefIdeal.main_arg0))

def preserves_Norm1P_Norm1PIdeal : Prop :=
  True

def algebraic_Norm1PIdeal_Norm1PRefIdeal [hNorm1PIdeal : Cert.Norm1PIdeal.Facts] [hNorm1PRefIdeal : Cert.Norm1PRefIdeal.Facts] : Prop :=
  ∀ (m : (ℓ : Loc Cert.Norm1PIdeal.nD Cert.Norm1PIdeal.τ Cert.Norm1PIdeal.sig) → Buf (Elt Ideal) ℓ) (g : Dev Cert.Norm1PIdeal.nD → PrngReg)
    (m' : (ℓ : Loc Cert.Norm1PRefIdeal.nD Cert.Norm1PRefIdeal.τ Cert.Norm1PRefIdeal.sig) → Buf (Elt Ideal) ℓ) (g' : Dev Cert.Norm1PRefIdeal.nD → PrngReg), Pre_Norm1PIdeal m →
    (∀ c : Dev Cert.Norm1PIdeal.nD,
      m' ((c.tc : Thread Cert.Norm1PRefIdeal.nD Cert.Norm1PRefIdeal.τ).loc Cert.Norm1PRefIdeal.main_arg0) = m ((c.tc : Thread Cert.Norm1PIdeal.nD Cert.Norm1PIdeal.τ).loc Cert.Norm1PIdeal.main_arg0)
      ∧ m' ((c.tc : Thread Cert.Norm1PRefIdeal.nD Cert.Norm1PRefIdeal.τ).loc Cert.Norm1PRefIdeal.main_arg1) = m ((c.tc : Thread Cert.Norm1PIdeal.nD Cert.Norm1PIdeal.τ).loc Cert.Norm1PIdeal.main_arg1)
      ∧ m' ((c.tc : Thread Cert.Norm1PRefIdeal.nD Cert.Norm1PRefIdeal.τ).loc Cert.Norm1PRefIdeal.main_arg2) = m ((c.tc : Thread Cert.Norm1PIdeal.nD Cert.Norm1PIdeal.τ).loc Cert.Norm1PIdeal.main_arg2)
      ∧ m' ((c.tc : Thread Cert.Norm1PRefIdeal.nD Cert.Norm1PRefIdeal.τ).loc Cert.Norm1PRefIdeal.main_arg3) = m ((c.tc : Thread Cert.Norm1PIdeal.nD Cert.Norm1PIdeal.τ).loc Cert.Norm1PIdeal.main_arg3)) →
    ∃ (v0 : (c : Dev Cert.Norm1PIdeal.nD) → Buf (Elt Ideal) ((c.tc : Thread Cert.Norm1PIdeal.nD Cert.Norm1PIdeal.τ).loc Cert.Norm1PIdeal.main_v0)),
      θ_run (Cert.Norm1PIdeal.defs (F := Ideal)) (onTc (τ := Cert.Norm1PIdeal.τ) (Cert.Norm1PIdeal.main (F := Ideal))) ⟨m, fun _ => 0, g⟩ (fun r => ∀ c : Dev Cert.Norm1PIdeal.nD,
          r.2.mem ((c.tc : Thread Cert.Norm1PIdeal.nD Cert.Norm1PIdeal.τ).loc Cert.Norm1PIdeal.main_v0) = v0 c
          ∧ r.2.mem ((c.tc : Thread Cert.Norm1PIdeal.nD Cert.Norm1PIdeal.τ).loc Cert.Norm1PIdeal.main_arg0) = m ((c.tc : Thread Cert.Norm1PIdeal.nD Cert.Norm1PIdeal.τ).loc Cert.Norm1PIdeal.main_arg0)
          ∧ r.2.mem ((c.tc : Thread Cert.Norm1PIdeal.nD Cert.Norm1PIdeal.τ).loc Cert.Norm1PIdeal.main_arg1) = m ((c.tc : Thread Cert.Norm1PIdeal.nD Cert.Norm1PIdeal.τ).loc Cert.Norm1PIdeal.main_arg1)
          ∧ r.2.mem ((c.tc : Thread Cert.Norm1PIdeal.nD Cert.Norm1PIdeal.τ).loc Cert.Norm1PIdeal.main_arg2) = m ((c.tc : Thread Cert.Norm1PIdeal.nD Cert.Norm1PIdeal.τ).loc Cert.Norm1PIdeal.main_arg2)
          ∧ r.2.mem ((c.tc : Thread Cert.Norm1PIdeal.nD Cert.Norm1PIdeal.τ).loc Cert.Norm1PIdeal.main_arg3) = m ((c.tc : Thread Cert.Norm1PIdeal.nD Cert.Norm1PIdeal.τ).loc Cert.Norm1PIdeal.main_arg3))
      ∧ θ_run (Cert.Norm1PRefIdeal.defs (F := Ideal)) (onTc (τ := Cert.Norm1PRefIdeal.τ) (Cert.Norm1PRefIdeal.main (F := Ideal))) ⟨m', fun _ => 0, g'⟩ (fun r => ∀ c : Dev Cert.Norm1PRefIdeal.nD,
          r.2.mem ((c.tc : Thread Cert.Norm1PRefIdeal.nD Cert.Norm1PRefIdeal.τ).loc Cert.Norm1PRefIdeal.main_v35) = v0 c
          ∧ r.2.mem ((c.tc : Thread Cert.Norm1PRefIdeal.nD Cert.Norm1PRefIdeal.τ).loc Cert.Norm1PRefIdeal.main_arg0) = m' ((c.tc : Thread Cert.Norm1PRefIdeal.nD Cert.Norm1PRefIdeal.τ).loc Cert.Norm1PRefIdeal.main_arg0)
          ∧ r.2.mem ((c.tc : Thread Cert.Norm1PRefIdeal.nD Cert.Norm1PRefIdeal.τ).loc Cert.Norm1PRefIdeal.main_arg1) = m' ((c.tc : Thread Cert.Norm1PRefIdeal.nD Cert.Norm1PRefIdeal.τ).loc Cert.Norm1PRefIdeal.main_arg1)
          ∧ r.2.mem ((c.tc : Thread Cert.Norm1PRefIdeal.nD Cert.Norm1PRefIdeal.τ).loc Cert.Norm1PRefIdeal.main_arg2) = m' ((c.tc : Thread Cert.Norm1PRefIdeal.nD Cert.Norm1PRefIdeal.τ).loc Cert.Norm1PRefIdeal.main_arg2)
          ∧ r.2.mem ((c.tc : Thread Cert.Norm1PRefIdeal.nD Cert.Norm1PRefIdeal.τ).loc Cert.Norm1PRefIdeal.main_arg3) = m' ((c.tc : Thread Cert.Norm1PRefIdeal.nD Cert.Norm1PRefIdeal.τ).loc Cert.Norm1PRefIdeal.main_arg3))

def preserves_ResidP_ResidPIdeal : Prop :=
  True

def algebraic_ResidPIdeal_ResidPRefIdeal [hResidPIdeal : Cert.ResidPIdeal.Facts] [hResidPRefIdeal : Cert.ResidPRefIdeal.Facts] : Prop :=
  ∀ (m : (ℓ : Loc Cert.ResidPIdeal.nD Cert.ResidPIdeal.τ Cert.ResidPIdeal.sig) → Buf (Elt Ideal) ℓ) (g : Dev Cert.ResidPIdeal.nD → PrngReg)
    (m' : (ℓ : Loc Cert.ResidPRefIdeal.nD Cert.ResidPRefIdeal.τ Cert.ResidPRefIdeal.sig) → Buf (Elt Ideal) ℓ) (g' : Dev Cert.ResidPRefIdeal.nD → PrngReg), Pre_ResidPIdeal m →
    (∀ c : Dev Cert.ResidPIdeal.nD,
      m' ((c.tc : Thread Cert.ResidPRefIdeal.nD Cert.ResidPRefIdeal.τ).loc Cert.ResidPRefIdeal.main_arg0) = m ((c.tc : Thread Cert.ResidPIdeal.nD Cert.ResidPIdeal.τ).loc Cert.ResidPIdeal.main_arg0)
      ∧ m' ((c.tc : Thread Cert.ResidPRefIdeal.nD Cert.ResidPRefIdeal.τ).loc Cert.ResidPRefIdeal.main_arg1) = m ((c.tc : Thread Cert.ResidPIdeal.nD Cert.ResidPIdeal.τ).loc Cert.ResidPIdeal.main_arg1)
      ∧ m' ((c.tc : Thread Cert.ResidPRefIdeal.nD Cert.ResidPRefIdeal.τ).loc Cert.ResidPRefIdeal.main_arg2) = m ((c.tc : Thread Cert.ResidPIdeal.nD Cert.ResidPIdeal.τ).loc Cert.ResidPIdeal.main_arg2)) →
    ∃ (v0 : (c : Dev Cert.ResidPIdeal.nD) → Buf (Elt Ideal) ((c.tc : Thread Cert.ResidPIdeal.nD Cert.ResidPIdeal.τ).loc Cert.ResidPIdeal.main_v0)),
      θ_run (Cert.ResidPIdeal.defs (F := Ideal)) (onTc (τ := Cert.ResidPIdeal.τ) (Cert.ResidPIdeal.main (F := Ideal))) ⟨m, fun _ => 0, g⟩ (fun r => ∀ c : Dev Cert.ResidPIdeal.nD,
          r.2.mem ((c.tc : Thread Cert.ResidPIdeal.nD Cert.ResidPIdeal.τ).loc Cert.ResidPIdeal.main_v0) = v0 c
          ∧ r.2.mem ((c.tc : Thread Cert.ResidPIdeal.nD Cert.ResidPIdeal.τ).loc Cert.ResidPIdeal.main_arg0) = m ((c.tc : Thread Cert.ResidPIdeal.nD Cert.ResidPIdeal.τ).loc Cert.ResidPIdeal.main_arg0)
          ∧ r.2.mem ((c.tc : Thread Cert.ResidPIdeal.nD Cert.ResidPIdeal.τ).loc Cert.ResidPIdeal.main_arg1) = m ((c.tc : Thread Cert.ResidPIdeal.nD Cert.ResidPIdeal.τ).loc Cert.ResidPIdeal.main_arg1)
          ∧ r.2.mem ((c.tc : Thread Cert.ResidPIdeal.nD Cert.ResidPIdeal.τ).loc Cert.ResidPIdeal.main_arg2) = m ((c.tc : Thread Cert.ResidPIdeal.nD Cert.ResidPIdeal.τ).loc Cert.ResidPIdeal.main_arg2))
      ∧ θ_run (Cert.ResidPRefIdeal.defs (F := Ideal)) (onTc (τ := Cert.ResidPRefIdeal.τ) (Cert.ResidPRefIdeal.main (F := Ideal))) ⟨m', fun _ => 0, g'⟩ (fun r => ∀ c : Dev Cert.ResidPRefIdeal.nD,
          r.2.mem ((c.tc : Thread Cert.ResidPRefIdeal.nD Cert.ResidPRefIdeal.τ).loc Cert.ResidPRefIdeal.main_v14) = v0 c
          ∧ r.2.mem ((c.tc : Thread Cert.ResidPRefIdeal.nD Cert.ResidPRefIdeal.τ).loc Cert.ResidPRefIdeal.main_arg0) = m' ((c.tc : Thread Cert.ResidPRefIdeal.nD Cert.ResidPRefIdeal.τ).loc Cert.ResidPRefIdeal.main_arg0)
          ∧ r.2.mem ((c.tc : Thread Cert.ResidPRefIdeal.nD Cert.ResidPRefIdeal.τ).loc Cert.ResidPRefIdeal.main_arg1) = m' ((c.tc : Thread Cert.ResidPRefIdeal.nD Cert.ResidPRefIdeal.τ).loc Cert.ResidPRefIdeal.main_arg1)
          ∧ r.2.mem ((c.tc : Thread Cert.ResidPRefIdeal.nD Cert.ResidPRefIdeal.τ).loc Cert.ResidPRefIdeal.main_arg2) = m' ((c.tc : Thread Cert.ResidPRefIdeal.nD Cert.ResidPRefIdeal.τ).loc Cert.ResidPRefIdeal.main_arg2))

def preserves_GmlpP_GmlpPIdeal : Prop :=
  True

def algebraic_GmlpPIdeal_GmlpPRefIdeal [hGmlpPIdeal : Cert.GmlpPIdeal.Facts] [hGmlpPRefIdeal : Cert.GmlpPRefIdeal.Facts] : Prop :=
  ∀ (m : (ℓ : Loc Cert.GmlpPIdeal.nD Cert.GmlpPIdeal.τ Cert.GmlpPIdeal.sig) → Buf (Elt Ideal) ℓ) (g : Dev Cert.GmlpPIdeal.nD → PrngReg)
    (m' : (ℓ : Loc Cert.GmlpPRefIdeal.nD Cert.GmlpPRefIdeal.τ Cert.GmlpPRefIdeal.sig) → Buf (Elt Ideal) ℓ) (g' : Dev Cert.GmlpPRefIdeal.nD → PrngReg), Pre_GmlpPIdeal m →
    (∀ c : Dev Cert.GmlpPIdeal.nD,
      m' ((c.tc : Thread Cert.GmlpPRefIdeal.nD Cert.GmlpPRefIdeal.τ).loc Cert.GmlpPRefIdeal.main_arg0) = m ((c.tc : Thread Cert.GmlpPIdeal.nD Cert.GmlpPIdeal.τ).loc Cert.GmlpPIdeal.main_arg0)
      ∧ m' ((c.tc : Thread Cert.GmlpPRefIdeal.nD Cert.GmlpPRefIdeal.τ).loc Cert.GmlpPRefIdeal.main_arg1) = m ((c.tc : Thread Cert.GmlpPIdeal.nD Cert.GmlpPIdeal.τ).loc Cert.GmlpPIdeal.main_arg1)
      ∧ m' ((c.tc : Thread Cert.GmlpPRefIdeal.nD Cert.GmlpPRefIdeal.τ).loc Cert.GmlpPRefIdeal.main_arg2) = m ((c.tc : Thread Cert.GmlpPIdeal.nD Cert.GmlpPIdeal.τ).loc Cert.GmlpPIdeal.main_arg2)
      ∧ m' ((c.tc : Thread Cert.GmlpPRefIdeal.nD Cert.GmlpPRefIdeal.τ).loc Cert.GmlpPRefIdeal.main_arg3) = m ((c.tc : Thread Cert.GmlpPIdeal.nD Cert.GmlpPIdeal.τ).loc Cert.GmlpPIdeal.main_arg3)
      ∧ m' ((c.tc : Thread Cert.GmlpPRefIdeal.nD Cert.GmlpPRefIdeal.τ).loc Cert.GmlpPRefIdeal.main_arg4) = m ((c.tc : Thread Cert.GmlpPIdeal.nD Cert.GmlpPIdeal.τ).loc Cert.GmlpPIdeal.main_arg4)) →
    ∃ (v0 : (c : Dev Cert.GmlpPIdeal.nD) → Buf (Elt Ideal) ((c.tc : Thread Cert.GmlpPIdeal.nD Cert.GmlpPIdeal.τ).loc Cert.GmlpPIdeal.main_v0)),
      θ_run (Cert.GmlpPIdeal.defs (F := Ideal)) (onTc (τ := Cert.GmlpPIdeal.τ) (Cert.GmlpPIdeal.main (F := Ideal))) ⟨m, fun _ => 0, g⟩ (fun r => ∀ c : Dev Cert.GmlpPIdeal.nD,
          r.2.mem ((c.tc : Thread Cert.GmlpPIdeal.nD Cert.GmlpPIdeal.τ).loc Cert.GmlpPIdeal.main_v0) = v0 c
          ∧ r.2.mem ((c.tc : Thread Cert.GmlpPIdeal.nD Cert.GmlpPIdeal.τ).loc Cert.GmlpPIdeal.main_arg0) = m ((c.tc : Thread Cert.GmlpPIdeal.nD Cert.GmlpPIdeal.τ).loc Cert.GmlpPIdeal.main_arg0)
          ∧ r.2.mem ((c.tc : Thread Cert.GmlpPIdeal.nD Cert.GmlpPIdeal.τ).loc Cert.GmlpPIdeal.main_arg1) = m ((c.tc : Thread Cert.GmlpPIdeal.nD Cert.GmlpPIdeal.τ).loc Cert.GmlpPIdeal.main_arg1)
          ∧ r.2.mem ((c.tc : Thread Cert.GmlpPIdeal.nD Cert.GmlpPIdeal.τ).loc Cert.GmlpPIdeal.main_arg2) = m ((c.tc : Thread Cert.GmlpPIdeal.nD Cert.GmlpPIdeal.τ).loc Cert.GmlpPIdeal.main_arg2)
          ∧ r.2.mem ((c.tc : Thread Cert.GmlpPIdeal.nD Cert.GmlpPIdeal.τ).loc Cert.GmlpPIdeal.main_arg3) = m ((c.tc : Thread Cert.GmlpPIdeal.nD Cert.GmlpPIdeal.τ).loc Cert.GmlpPIdeal.main_arg3)
          ∧ r.2.mem ((c.tc : Thread Cert.GmlpPIdeal.nD Cert.GmlpPIdeal.τ).loc Cert.GmlpPIdeal.main_arg4) = m ((c.tc : Thread Cert.GmlpPIdeal.nD Cert.GmlpPIdeal.τ).loc Cert.GmlpPIdeal.main_arg4))
      ∧ θ_run (Cert.GmlpPRefIdeal.defs (F := Ideal)) (onTc (τ := Cert.GmlpPRefIdeal.τ) (Cert.GmlpPRefIdeal.main (F := Ideal))) ⟨m', fun _ => 0, g'⟩ (fun r => ∀ c : Dev Cert.GmlpPRefIdeal.nD,
          r.2.mem ((c.tc : Thread Cert.GmlpPRefIdeal.nD Cert.GmlpPRefIdeal.τ).loc Cert.GmlpPRefIdeal.main_v44) = v0 c
          ∧ r.2.mem ((c.tc : Thread Cert.GmlpPRefIdeal.nD Cert.GmlpPRefIdeal.τ).loc Cert.GmlpPRefIdeal.main_arg0) = m' ((c.tc : Thread Cert.GmlpPRefIdeal.nD Cert.GmlpPRefIdeal.τ).loc Cert.GmlpPRefIdeal.main_arg0)
          ∧ r.2.mem ((c.tc : Thread Cert.GmlpPRefIdeal.nD Cert.GmlpPRefIdeal.τ).loc Cert.GmlpPRefIdeal.main_arg1) = m' ((c.tc : Thread Cert.GmlpPRefIdeal.nD Cert.GmlpPRefIdeal.τ).loc Cert.GmlpPRefIdeal.main_arg1)
          ∧ r.2.mem ((c.tc : Thread Cert.GmlpPRefIdeal.nD Cert.GmlpPRefIdeal.τ).loc Cert.GmlpPRefIdeal.main_arg2) = m' ((c.tc : Thread Cert.GmlpPRefIdeal.nD Cert.GmlpPRefIdeal.τ).loc Cert.GmlpPRefIdeal.main_arg2)
          ∧ r.2.mem ((c.tc : Thread Cert.GmlpPRefIdeal.nD Cert.GmlpPRefIdeal.τ).loc Cert.GmlpPRefIdeal.main_arg3) = m' ((c.tc : Thread Cert.GmlpPRefIdeal.nD Cert.GmlpPRefIdeal.τ).loc Cert.GmlpPRefIdeal.main_arg3)
          ∧ r.2.mem ((c.tc : Thread Cert.GmlpPRefIdeal.nD Cert.GmlpPRefIdeal.τ).loc Cert.GmlpPRefIdeal.main_arg4) = m' ((c.tc : Thread Cert.GmlpPRefIdeal.nD Cert.GmlpPRefIdeal.τ).loc Cert.GmlpPRefIdeal.main_arg4))

def preserves_S5InP_S5InPIdeal : Prop :=
  True

def algebraic_S5InPIdeal_S5InPRefIdeal [hS5InPIdeal : Cert.S5InPIdeal.Facts] [hS5InPRefIdeal : Cert.S5InPRefIdeal.Facts] : Prop :=
  ∀ (m : (ℓ : Loc Cert.S5InPIdeal.nD Cert.S5InPIdeal.τ Cert.S5InPIdeal.sig) → Buf (Elt Ideal) ℓ) (g : Dev Cert.S5InPIdeal.nD → PrngReg)
    (m' : (ℓ : Loc Cert.S5InPRefIdeal.nD Cert.S5InPRefIdeal.τ Cert.S5InPRefIdeal.sig) → Buf (Elt Ideal) ℓ) (g' : Dev Cert.S5InPRefIdeal.nD → PrngReg), Pre_S5InPIdeal m →
    (∀ c : Dev Cert.S5InPIdeal.nD,
      m' ((c.tc : Thread Cert.S5InPRefIdeal.nD Cert.S5InPRefIdeal.τ).loc Cert.S5InPRefIdeal.main_arg0) = m ((c.tc : Thread Cert.S5InPIdeal.nD Cert.S5InPIdeal.τ).loc Cert.S5InPIdeal.main_arg0)
      ∧ m' ((c.tc : Thread Cert.S5InPRefIdeal.nD Cert.S5InPRefIdeal.τ).loc Cert.S5InPRefIdeal.main_arg1) = m ((c.tc : Thread Cert.S5InPIdeal.nD Cert.S5InPIdeal.τ).loc Cert.S5InPIdeal.main_arg1)) →
    ∃ (v0 : (c : Dev Cert.S5InPIdeal.nD) → Buf (Elt Ideal) ((c.tc : Thread Cert.S5InPIdeal.nD Cert.S5InPIdeal.τ).loc Cert.S5InPIdeal.main_v0)),
      θ_run (Cert.S5InPIdeal.defs (F := Ideal)) (onTc (τ := Cert.S5InPIdeal.τ) (Cert.S5InPIdeal.main (F := Ideal))) ⟨m, fun _ => 0, g⟩ (fun r => ∀ c : Dev Cert.S5InPIdeal.nD,
          r.2.mem ((c.tc : Thread Cert.S5InPIdeal.nD Cert.S5InPIdeal.τ).loc Cert.S5InPIdeal.main_v0) = v0 c
          ∧ r.2.mem ((c.tc : Thread Cert.S5InPIdeal.nD Cert.S5InPIdeal.τ).loc Cert.S5InPIdeal.main_arg0) = m ((c.tc : Thread Cert.S5InPIdeal.nD Cert.S5InPIdeal.τ).loc Cert.S5InPIdeal.main_arg0)
          ∧ r.2.mem ((c.tc : Thread Cert.S5InPIdeal.nD Cert.S5InPIdeal.τ).loc Cert.S5InPIdeal.main_arg1) = m ((c.tc : Thread Cert.S5InPIdeal.nD Cert.S5InPIdeal.τ).loc Cert.S5InPIdeal.main_arg1))
      ∧ θ_run (Cert.S5InPRefIdeal.defs (F := Ideal)) (onTc (τ := Cert.S5InPRefIdeal.τ) (Cert.S5InPRefIdeal.main (F := Ideal))) ⟨m', fun _ => 0, g'⟩ (fun r => ∀ c : Dev Cert.S5InPRefIdeal.nD,
          r.2.mem ((c.tc : Thread Cert.S5InPRefIdeal.nD Cert.S5InPRefIdeal.τ).loc Cert.S5InPRefIdeal.main_v1) = v0 c
          ∧ r.2.mem ((c.tc : Thread Cert.S5InPRefIdeal.nD Cert.S5InPRefIdeal.τ).loc Cert.S5InPRefIdeal.main_arg0) = m' ((c.tc : Thread Cert.S5InPRefIdeal.nD Cert.S5InPRefIdeal.τ).loc Cert.S5InPRefIdeal.main_arg0)
          ∧ r.2.mem ((c.tc : Thread Cert.S5InPRefIdeal.nD Cert.S5InPRefIdeal.τ).loc Cert.S5InPRefIdeal.main_arg1) = m' ((c.tc : Thread Cert.S5InPRefIdeal.nD Cert.S5InPRefIdeal.τ).loc Cert.S5InPRefIdeal.main_arg1))

def preserves_S5OutP_S5OutPIdeal : Prop :=
  True

def algebraic_S5OutPIdeal_S5OutPRefIdeal [hS5OutPIdeal : Cert.S5OutPIdeal.Facts] [hS5OutPRefIdeal : Cert.S5OutPRefIdeal.Facts] : Prop :=
  ∀ (m : (ℓ : Loc Cert.S5OutPIdeal.nD Cert.S5OutPIdeal.τ Cert.S5OutPIdeal.sig) → Buf (Elt Ideal) ℓ) (g : Dev Cert.S5OutPIdeal.nD → PrngReg)
    (m' : (ℓ : Loc Cert.S5OutPRefIdeal.nD Cert.S5OutPRefIdeal.τ Cert.S5OutPRefIdeal.sig) → Buf (Elt Ideal) ℓ) (g' : Dev Cert.S5OutPRefIdeal.nD → PrngReg), Pre_S5OutPIdeal m →
    (∀ c : Dev Cert.S5OutPIdeal.nD,
      m' ((c.tc : Thread Cert.S5OutPRefIdeal.nD Cert.S5OutPRefIdeal.τ).loc Cert.S5OutPRefIdeal.main_arg0) = m ((c.tc : Thread Cert.S5OutPIdeal.nD Cert.S5OutPIdeal.τ).loc Cert.S5OutPIdeal.main_arg0)
      ∧ m' ((c.tc : Thread Cert.S5OutPRefIdeal.nD Cert.S5OutPRefIdeal.τ).loc Cert.S5OutPRefIdeal.main_arg1) = m ((c.tc : Thread Cert.S5OutPIdeal.nD Cert.S5OutPIdeal.τ).loc Cert.S5OutPIdeal.main_arg1)) →
    ∃ (v0 : (c : Dev Cert.S5OutPIdeal.nD) → Buf (Elt Ideal) ((c.tc : Thread Cert.S5OutPIdeal.nD Cert.S5OutPIdeal.τ).loc Cert.S5OutPIdeal.main_v0)),
      θ_run (Cert.S5OutPIdeal.defs (F := Ideal)) (onTc (τ := Cert.S5OutPIdeal.τ) (Cert.S5OutPIdeal.main (F := Ideal))) ⟨m, fun _ => 0, g⟩ (fun r => ∀ c : Dev Cert.S5OutPIdeal.nD,
          r.2.mem ((c.tc : Thread Cert.S5OutPIdeal.nD Cert.S5OutPIdeal.τ).loc Cert.S5OutPIdeal.main_v0) = v0 c
          ∧ r.2.mem ((c.tc : Thread Cert.S5OutPIdeal.nD Cert.S5OutPIdeal.τ).loc Cert.S5OutPIdeal.main_arg0) = m ((c.tc : Thread Cert.S5OutPIdeal.nD Cert.S5OutPIdeal.τ).loc Cert.S5OutPIdeal.main_arg0)
          ∧ r.2.mem ((c.tc : Thread Cert.S5OutPIdeal.nD Cert.S5OutPIdeal.τ).loc Cert.S5OutPIdeal.main_arg1) = m ((c.tc : Thread Cert.S5OutPIdeal.nD Cert.S5OutPIdeal.τ).loc Cert.S5OutPIdeal.main_arg1))
      ∧ θ_run (Cert.S5OutPRefIdeal.defs (F := Ideal)) (onTc (τ := Cert.S5OutPRefIdeal.τ) (Cert.S5OutPRefIdeal.main (F := Ideal))) ⟨m', fun _ => 0, g'⟩ (fun r => ∀ c : Dev Cert.S5OutPRefIdeal.nD,
          r.2.mem ((c.tc : Thread Cert.S5OutPRefIdeal.nD Cert.S5OutPRefIdeal.τ).loc Cert.S5OutPRefIdeal.main_v1) = v0 c
          ∧ r.2.mem ((c.tc : Thread Cert.S5OutPRefIdeal.nD Cert.S5OutPRefIdeal.τ).loc Cert.S5OutPRefIdeal.main_arg0) = m' ((c.tc : Thread Cert.S5OutPRefIdeal.nD Cert.S5OutPRefIdeal.τ).loc Cert.S5OutPRefIdeal.main_arg0)
          ∧ r.2.mem ((c.tc : Thread Cert.S5OutPRefIdeal.nD Cert.S5OutPRefIdeal.τ).loc Cert.S5OutPRefIdeal.main_arg1) = m' ((c.tc : Thread Cert.S5OutPRefIdeal.nD Cert.S5OutPRefIdeal.τ).loc Cert.S5OutPRefIdeal.main_arg1))

def preserves_S5OutA_S5OutAIdeal : Prop :=
  True

def algebraic_S5OutAIdeal_S5OutARefIdeal [hS5OutAIdeal : Cert.S5OutAIdeal.Facts] [hS5OutARefIdeal : Cert.S5OutARefIdeal.Facts] : Prop :=
  ∀ (m : (ℓ : Loc Cert.S5OutAIdeal.nD Cert.S5OutAIdeal.τ Cert.S5OutAIdeal.sig) → Buf (Elt Ideal) ℓ) (g : Dev Cert.S5OutAIdeal.nD → PrngReg)
    (m' : (ℓ : Loc Cert.S5OutARefIdeal.nD Cert.S5OutARefIdeal.τ Cert.S5OutARefIdeal.sig) → Buf (Elt Ideal) ℓ) (g' : Dev Cert.S5OutARefIdeal.nD → PrngReg), Pre_S5OutAIdeal m →
    (∀ c : Dev Cert.S5OutAIdeal.nD,
      m' ((c.tc : Thread Cert.S5OutARefIdeal.nD Cert.S5OutARefIdeal.τ).loc Cert.S5OutARefIdeal.main_arg0) = m ((c.tc : Thread Cert.S5OutAIdeal.nD Cert.S5OutAIdeal.τ).loc Cert.S5OutAIdeal.main_arg0)
      ∧ m' ((c.tc : Thread Cert.S5OutARefIdeal.nD Cert.S5OutARefIdeal.τ).loc Cert.S5OutARefIdeal.main_arg1) = m ((c.tc : Thread Cert.S5OutAIdeal.nD Cert.S5OutAIdeal.τ).loc Cert.S5OutAIdeal.main_arg1)
      ∧ m' ((c.tc : Thread Cert.S5OutARefIdeal.nD Cert.S5OutARefIdeal.τ).loc Cert.S5OutARefIdeal.main_arg2) = m ((c.tc : Thread Cert.S5OutAIdeal.nD Cert.S5OutAIdeal.τ).loc Cert.S5OutAIdeal.main_arg2)) →
    ∃ (v0 : (c : Dev Cert.S5OutAIdeal.nD) → Buf (Elt Ideal) ((c.tc : Thread Cert.S5OutAIdeal.nD Cert.S5OutAIdeal.τ).loc Cert.S5OutAIdeal.main_v0)),
      θ_run (Cert.S5OutAIdeal.defs (F := Ideal)) (onTc (τ := Cert.S5OutAIdeal.τ) (Cert.S5OutAIdeal.main (F := Ideal))) ⟨m, fun _ => 0, g⟩ (fun r => ∀ c : Dev Cert.S5OutAIdeal.nD,
          r.2.mem ((c.tc : Thread Cert.S5OutAIdeal.nD Cert.S5OutAIdeal.τ).loc Cert.S5OutAIdeal.main_v0) = v0 c
          ∧ r.2.mem ((c.tc : Thread Cert.S5OutAIdeal.nD Cert.S5OutAIdeal.τ).loc Cert.S5OutAIdeal.main_arg0) = m ((c.tc : Thread Cert.S5OutAIdeal.nD Cert.S5OutAIdeal.τ).loc Cert.S5OutAIdeal.main_arg0)
          ∧ r.2.mem ((c.tc : Thread Cert.S5OutAIdeal.nD Cert.S5OutAIdeal.τ).loc Cert.S5OutAIdeal.main_arg1) = m ((c.tc : Thread Cert.S5OutAIdeal.nD Cert.S5OutAIdeal.τ).loc Cert.S5OutAIdeal.main_arg1)
          ∧ r.2.mem ((c.tc : Thread Cert.S5OutAIdeal.nD Cert.S5OutAIdeal.τ).loc Cert.S5OutAIdeal.main_arg2) = m ((c.tc : Thread Cert.S5OutAIdeal.nD Cert.S5OutAIdeal.τ).loc Cert.S5OutAIdeal.main_arg2))
      ∧ θ_run (Cert.S5OutARefIdeal.defs (F := Ideal)) (onTc (τ := Cert.S5OutARefIdeal.τ) (Cert.S5OutARefIdeal.main (F := Ideal))) ⟨m', fun _ => 0, g'⟩ (fun r => ∀ c : Dev Cert.S5OutARefIdeal.nD,
          r.2.mem ((c.tc : Thread Cert.S5OutARefIdeal.nD Cert.S5OutARefIdeal.τ).loc Cert.S5OutARefIdeal.main_v2) = v0 c
          ∧ r.2.mem ((c.tc : Thread Cert.S5OutARefIdeal.nD Cert.S5OutARefIdeal.τ).loc Cert.S5OutARefIdeal.main_arg0) = m' ((c.tc : Thread Cert.S5OutARefIdeal.nD Cert.S5OutARefIdeal.τ).loc Cert.S5OutARefIdeal.main_arg0)
          ∧ r.2.mem ((c.tc : Thread Cert.S5OutARefIdeal.nD Cert.S5OutARefIdeal.τ).loc Cert.S5OutARefIdeal.main_arg1) = m' ((c.tc : Thread Cert.S5OutARefIdeal.nD Cert.S5OutARefIdeal.τ).loc Cert.S5OutARefIdeal.main_arg1)
          ∧ r.2.mem ((c.tc : Thread Cert.S5OutARefIdeal.nD Cert.S5OutARefIdeal.τ).loc Cert.S5OutARefIdeal.main_arg2) = m' ((c.tc : Thread Cert.S5OutARefIdeal.nD Cert.S5OutARefIdeal.τ).loc Cert.S5OutARefIdeal.main_arg2))

def preserves_S5OutB_S5OutBIdeal : Prop :=
  True

def algebraic_S5OutBIdeal_S5OutBRefIdeal [hS5OutBIdeal : Cert.S5OutBIdeal.Facts] [hS5OutBRefIdeal : Cert.S5OutBRefIdeal.Facts] : Prop :=
  ∀ (m : (ℓ : Loc Cert.S5OutBIdeal.nD Cert.S5OutBIdeal.τ Cert.S5OutBIdeal.sig) → Buf (Elt Ideal) ℓ) (g : Dev Cert.S5OutBIdeal.nD → PrngReg)
    (m' : (ℓ : Loc Cert.S5OutBRefIdeal.nD Cert.S5OutBRefIdeal.τ Cert.S5OutBRefIdeal.sig) → Buf (Elt Ideal) ℓ) (g' : Dev Cert.S5OutBRefIdeal.nD → PrngReg), Pre_S5OutBIdeal m →
    (∀ c : Dev Cert.S5OutBIdeal.nD,
      m' ((c.tc : Thread Cert.S5OutBRefIdeal.nD Cert.S5OutBRefIdeal.τ).loc Cert.S5OutBRefIdeal.main_arg0) = m ((c.tc : Thread Cert.S5OutBIdeal.nD Cert.S5OutBIdeal.τ).loc Cert.S5OutBIdeal.main_arg0)
      ∧ m' ((c.tc : Thread Cert.S5OutBRefIdeal.nD Cert.S5OutBRefIdeal.τ).loc Cert.S5OutBRefIdeal.main_arg1) = m ((c.tc : Thread Cert.S5OutBIdeal.nD Cert.S5OutBIdeal.τ).loc Cert.S5OutBIdeal.main_arg1)) →
    ∃ (v0 : (c : Dev Cert.S5OutBIdeal.nD) → Buf (Elt Ideal) ((c.tc : Thread Cert.S5OutBIdeal.nD Cert.S5OutBIdeal.τ).loc Cert.S5OutBIdeal.main_v0)),
      θ_run (Cert.S5OutBIdeal.defs (F := Ideal)) (onTc (τ := Cert.S5OutBIdeal.τ) (Cert.S5OutBIdeal.main (F := Ideal))) ⟨m, fun _ => 0, g⟩ (fun r => ∀ c : Dev Cert.S5OutBIdeal.nD,
          r.2.mem ((c.tc : Thread Cert.S5OutBIdeal.nD Cert.S5OutBIdeal.τ).loc Cert.S5OutBIdeal.main_v0) = v0 c
          ∧ r.2.mem ((c.tc : Thread Cert.S5OutBIdeal.nD Cert.S5OutBIdeal.τ).loc Cert.S5OutBIdeal.main_arg0) = m ((c.tc : Thread Cert.S5OutBIdeal.nD Cert.S5OutBIdeal.τ).loc Cert.S5OutBIdeal.main_arg0)
          ∧ r.2.mem ((c.tc : Thread Cert.S5OutBIdeal.nD Cert.S5OutBIdeal.τ).loc Cert.S5OutBIdeal.main_arg1) = m ((c.tc : Thread Cert.S5OutBIdeal.nD Cert.S5OutBIdeal.τ).loc Cert.S5OutBIdeal.main_arg1))
      ∧ θ_run (Cert.S5OutBRefIdeal.defs (F := Ideal)) (onTc (τ := Cert.S5OutBRefIdeal.τ) (Cert.S5OutBRefIdeal.main (F := Ideal))) ⟨m', fun _ => 0, g'⟩ (fun r => ∀ c : Dev Cert.S5OutBRefIdeal.nD,
          r.2.mem ((c.tc : Thread Cert.S5OutBRefIdeal.nD Cert.S5OutBRefIdeal.τ).loc Cert.S5OutBRefIdeal.main_v4) = v0 c
          ∧ r.2.mem ((c.tc : Thread Cert.S5OutBRefIdeal.nD Cert.S5OutBRefIdeal.τ).loc Cert.S5OutBRefIdeal.main_arg0) = m' ((c.tc : Thread Cert.S5OutBRefIdeal.nD Cert.S5OutBRefIdeal.τ).loc Cert.S5OutBRefIdeal.main_arg0)
          ∧ r.2.mem ((c.tc : Thread Cert.S5OutBRefIdeal.nD Cert.S5OutBRefIdeal.τ).loc Cert.S5OutBRefIdeal.main_arg1) = m' ((c.tc : Thread Cert.S5OutBRefIdeal.nD Cert.S5OutBRefIdeal.τ).loc Cert.S5OutBRefIdeal.main_arg1))

def preserves_S5OutW_S5OutWIdeal : Prop :=
  True

def algebraic_S5OutWIdeal_S5OutWRefIdeal [hS5OutWIdeal : Cert.S5OutWIdeal.Facts] [hS5OutWRefIdeal : Cert.S5OutWRefIdeal.Facts] : Prop :=
  ∀ (m : (ℓ : Loc Cert.S5OutWIdeal.nD Cert.S5OutWIdeal.τ Cert.S5OutWIdeal.sig) → Buf (Elt Ideal) ℓ) (g : Dev Cert.S5OutWIdeal.nD → PrngReg)
    (m' : (ℓ : Loc Cert.S5OutWRefIdeal.nD Cert.S5OutWRefIdeal.τ Cert.S5OutWRefIdeal.sig) → Buf (Elt Ideal) ℓ) (g' : Dev Cert.S5OutWRefIdeal.nD → PrngReg), Pre_S5OutWIdeal m →
    (∀ c : Dev Cert.S5OutWIdeal.nD,
      m' ((c.tc : Thread Cert.S5OutWRefIdeal.nD Cert.S5OutWRefIdeal.τ).loc Cert.S5OutWRefIdeal.main_arg0) = m ((c.tc : Thread Cert.S5OutWIdeal.nD Cert.S5OutWIdeal.τ).loc Cert.S5OutWIdeal.main_arg0)
      ∧ m' ((c.tc : Thread Cert.S5OutWRefIdeal.nD Cert.S5OutWRefIdeal.τ).loc Cert.S5OutWRefIdeal.main_arg1) = m ((c.tc : Thread Cert.S5OutWIdeal.nD Cert.S5OutWIdeal.τ).loc Cert.S5OutWIdeal.main_arg1)) →
    ∃ (v0 : (c : Dev Cert.S5OutWIdeal.nD) → Buf (Elt Ideal) ((c.tc : Thread Cert.S5OutWIdeal.nD Cert.S5OutWIdeal.τ).loc Cert.S5OutWIdeal.main_v0)),
      θ_run (Cert.S5OutWIdeal.defs (F := Ideal)) (onTc (τ := Cert.S5OutWIdeal.τ) (Cert.S5OutWIdeal.main (F := Ideal))) ⟨m, fun _ => 0, g⟩ (fun r => ∀ c : Dev Cert.S5OutWIdeal.nD,
          r.2.mem ((c.tc : Thread Cert.S5OutWIdeal.nD Cert.S5OutWIdeal.τ).loc Cert.S5OutWIdeal.main_v0) = v0 c
          ∧ r.2.mem ((c.tc : Thread Cert.S5OutWIdeal.nD Cert.S5OutWIdeal.τ).loc Cert.S5OutWIdeal.main_arg0) = m ((c.tc : Thread Cert.S5OutWIdeal.nD Cert.S5OutWIdeal.τ).loc Cert.S5OutWIdeal.main_arg0)
          ∧ r.2.mem ((c.tc : Thread Cert.S5OutWIdeal.nD Cert.S5OutWIdeal.τ).loc Cert.S5OutWIdeal.main_arg1) = m ((c.tc : Thread Cert.S5OutWIdeal.nD Cert.S5OutWIdeal.τ).loc Cert.S5OutWIdeal.main_arg1))
      ∧ θ_run (Cert.S5OutWRefIdeal.defs (F := Ideal)) (onTc (τ := Cert.S5OutWRefIdeal.τ) (Cert.S5OutWRefIdeal.main (F := Ideal))) ⟨m', fun _ => 0, g'⟩ (fun r => ∀ c : Dev Cert.S5OutWRefIdeal.nD,
          r.2.mem ((c.tc : Thread Cert.S5OutWRefIdeal.nD Cert.S5OutWRefIdeal.τ).loc Cert.S5OutWRefIdeal.main_v4) = v0 c
          ∧ r.2.mem ((c.tc : Thread Cert.S5OutWRefIdeal.nD Cert.S5OutWRefIdeal.τ).loc Cert.S5OutWRefIdeal.main_arg0) = m' ((c.tc : Thread Cert.S5OutWRefIdeal.nD Cert.S5OutWRefIdeal.τ).loc Cert.S5OutWRefIdeal.main_arg0)
          ∧ r.2.mem ((c.tc : Thread Cert.S5OutWRefIdeal.nD Cert.S5OutWRefIdeal.τ).loc Cert.S5OutWRefIdeal.main_arg1) = m' ((c.tc : Thread Cert.S5OutWRefIdeal.nD Cert.S5OutWRefIdeal.τ).loc Cert.S5OutWRefIdeal.main_arg1))

def preserves_S5InB_S5InBIdeal : Prop :=
  True

def algebraic_S5InBIdeal_S5InBRefIdeal [hS5InBIdeal : Cert.S5InBIdeal.Facts] [hS5InBRefIdeal : Cert.S5InBRefIdeal.Facts] : Prop :=
  ∀ (m : (ℓ : Loc Cert.S5InBIdeal.nD Cert.S5InBIdeal.τ Cert.S5InBIdeal.sig) → Buf (Elt Ideal) ℓ) (g : Dev Cert.S5InBIdeal.nD → PrngReg)
    (m' : (ℓ : Loc Cert.S5InBRefIdeal.nD Cert.S5InBRefIdeal.τ Cert.S5InBRefIdeal.sig) → Buf (Elt Ideal) ℓ) (g' : Dev Cert.S5InBRefIdeal.nD → PrngReg), Pre_S5InBIdeal m →
    (∀ c : Dev Cert.S5InBIdeal.nD,
      m' ((c.tc : Thread Cert.S5InBRefIdeal.nD Cert.S5InBRefIdeal.τ).loc Cert.S5InBRefIdeal.main_arg0) = m ((c.tc : Thread Cert.S5InBIdeal.nD Cert.S5InBIdeal.τ).loc Cert.S5InBIdeal.main_arg0)
      ∧ m' ((c.tc : Thread Cert.S5InBRefIdeal.nD Cert.S5InBRefIdeal.τ).loc Cert.S5InBRefIdeal.main_arg1) = m ((c.tc : Thread Cert.S5InBIdeal.nD Cert.S5InBIdeal.τ).loc Cert.S5InBIdeal.main_arg1)
      ∧ m' ((c.tc : Thread Cert.S5InBRefIdeal.nD Cert.S5InBRefIdeal.τ).loc Cert.S5InBRefIdeal.main_arg2) = m ((c.tc : Thread Cert.S5InBIdeal.nD Cert.S5InBIdeal.τ).loc Cert.S5InBIdeal.main_arg2)) →
    ∃ (v0 : (c : Dev Cert.S5InBIdeal.nD) → Buf (Elt Ideal) ((c.tc : Thread Cert.S5InBIdeal.nD Cert.S5InBIdeal.τ).loc Cert.S5InBIdeal.main_v0)),
      θ_run (Cert.S5InBIdeal.defs (F := Ideal)) (onTc (τ := Cert.S5InBIdeal.τ) (Cert.S5InBIdeal.main (F := Ideal))) ⟨m, fun _ => 0, g⟩ (fun r => ∀ c : Dev Cert.S5InBIdeal.nD,
          r.2.mem ((c.tc : Thread Cert.S5InBIdeal.nD Cert.S5InBIdeal.τ).loc Cert.S5InBIdeal.main_v0) = v0 c
          ∧ r.2.mem ((c.tc : Thread Cert.S5InBIdeal.nD Cert.S5InBIdeal.τ).loc Cert.S5InBIdeal.main_arg0) = m ((c.tc : Thread Cert.S5InBIdeal.nD Cert.S5InBIdeal.τ).loc Cert.S5InBIdeal.main_arg0)
          ∧ r.2.mem ((c.tc : Thread Cert.S5InBIdeal.nD Cert.S5InBIdeal.τ).loc Cert.S5InBIdeal.main_arg1) = m ((c.tc : Thread Cert.S5InBIdeal.nD Cert.S5InBIdeal.τ).loc Cert.S5InBIdeal.main_arg1)
          ∧ r.2.mem ((c.tc : Thread Cert.S5InBIdeal.nD Cert.S5InBIdeal.τ).loc Cert.S5InBIdeal.main_arg2) = m ((c.tc : Thread Cert.S5InBIdeal.nD Cert.S5InBIdeal.τ).loc Cert.S5InBIdeal.main_arg2))
      ∧ θ_run (Cert.S5InBRefIdeal.defs (F := Ideal)) (onTc (τ := Cert.S5InBRefIdeal.τ) (Cert.S5InBRefIdeal.main (F := Ideal))) ⟨m', fun _ => 0, g'⟩ (fun r => ∀ c : Dev Cert.S5InBRefIdeal.nD,
          r.2.mem ((c.tc : Thread Cert.S5InBRefIdeal.nD Cert.S5InBRefIdeal.τ).loc Cert.S5InBRefIdeal.main_v4) = v0 c
          ∧ r.2.mem ((c.tc : Thread Cert.S5InBRefIdeal.nD Cert.S5InBRefIdeal.τ).loc Cert.S5InBRefIdeal.main_arg0) = m' ((c.tc : Thread Cert.S5InBRefIdeal.nD Cert.S5InBRefIdeal.τ).loc Cert.S5InBRefIdeal.main_arg0)
          ∧ r.2.mem ((c.tc : Thread Cert.S5InBRefIdeal.nD Cert.S5InBRefIdeal.τ).loc Cert.S5InBRefIdeal.main_arg1) = m' ((c.tc : Thread Cert.S5InBRefIdeal.nD Cert.S5InBRefIdeal.τ).loc Cert.S5InBRefIdeal.main_arg1)
          ∧ r.2.mem ((c.tc : Thread Cert.S5InBRefIdeal.nD Cert.S5InBRefIdeal.τ).loc Cert.S5InBRefIdeal.main_arg2) = m' ((c.tc : Thread Cert.S5InBRefIdeal.nD Cert.S5InBRefIdeal.τ).loc Cert.S5InBRefIdeal.main_arg2))

def preserves_S5InW_S5InWIdeal : Prop :=
  True

def algebraic_S5InWIdeal_S5InWRefIdeal [hS5InWIdeal : Cert.S5InWIdeal.Facts] [hS5InWRefIdeal : Cert.S5InWRefIdeal.Facts] : Prop :=
  ∀ (m : (ℓ : Loc Cert.S5InWIdeal.nD Cert.S5InWIdeal.τ Cert.S5InWIdeal.sig) → Buf (Elt Ideal) ℓ) (g : Dev Cert.S5InWIdeal.nD → PrngReg)
    (m' : (ℓ : Loc Cert.S5InWRefIdeal.nD Cert.S5InWRefIdeal.τ Cert.S5InWRefIdeal.sig) → Buf (Elt Ideal) ℓ) (g' : Dev Cert.S5InWRefIdeal.nD → PrngReg), Pre_S5InWIdeal m →
    (∀ c : Dev Cert.S5InWIdeal.nD,
      m' ((c.tc : Thread Cert.S5InWRefIdeal.nD Cert.S5InWRefIdeal.τ).loc Cert.S5InWRefIdeal.main_arg0) = m ((c.tc : Thread Cert.S5InWIdeal.nD Cert.S5InWIdeal.τ).loc Cert.S5InWIdeal.main_arg0)
      ∧ m' ((c.tc : Thread Cert.S5InWRefIdeal.nD Cert.S5InWRefIdeal.τ).loc Cert.S5InWRefIdeal.main_arg1) = m ((c.tc : Thread Cert.S5InWIdeal.nD Cert.S5InWIdeal.τ).loc Cert.S5InWIdeal.main_arg1)) →
    ∃ (v0 : (c : Dev Cert.S5InWIdeal.nD) → Buf (Elt Ideal) ((c.tc : Thread Cert.S5InWIdeal.nD Cert.S5InWIdeal.τ).loc Cert.S5InWIdeal.main_v0)),
      θ_run (Cert.S5InWIdeal.defs (F := Ideal)) (onTc (τ := Cert.S5InWIdeal.τ) (Cert.S5InWIdeal.main (F := Ideal))) ⟨m, fun _ => 0, g⟩ (fun r => ∀ c : Dev Cert.S5InWIdeal.nD,
          r.2.mem ((c.tc : Thread Cert.S5InWIdeal.nD Cert.S5InWIdeal.τ).loc Cert.S5InWIdeal.main_v0) = v0 c
          ∧ r.2.mem ((c.tc : Thread Cert.S5InWIdeal.nD Cert.S5InWIdeal.τ).loc Cert.S5InWIdeal.main_arg0) = m ((c.tc : Thread Cert.S5InWIdeal.nD Cert.S5InWIdeal.τ).loc Cert.S5InWIdeal.main_arg0)
          ∧ r.2.mem ((c.tc : Thread Cert.S5InWIdeal.nD Cert.S5InWIdeal.τ).loc Cert.S5InWIdeal.main_arg1) = m ((c.tc : Thread Cert.S5InWIdeal.nD Cert.S5InWIdeal.τ).loc Cert.S5InWIdeal.main_arg1))
      ∧ θ_run (Cert.S5InWRefIdeal.defs (F := Ideal)) (onTc (τ := Cert.S5InWRefIdeal.τ) (Cert.S5InWRefIdeal.main (F := Ideal))) ⟨m', fun _ => 0, g'⟩ (fun r => ∀ c : Dev Cert.S5InWRefIdeal.nD,
          r.2.mem ((c.tc : Thread Cert.S5InWRefIdeal.nD Cert.S5InWRefIdeal.τ).loc Cert.S5InWRefIdeal.main_v3) = v0 c
          ∧ r.2.mem ((c.tc : Thread Cert.S5InWRefIdeal.nD Cert.S5InWRefIdeal.τ).loc Cert.S5InWRefIdeal.main_arg0) = m' ((c.tc : Thread Cert.S5InWRefIdeal.nD Cert.S5InWRefIdeal.τ).loc Cert.S5InWRefIdeal.main_arg0)
          ∧ r.2.mem ((c.tc : Thread Cert.S5InWRefIdeal.nD Cert.S5InWRefIdeal.τ).loc Cert.S5InWRefIdeal.main_arg1) = m' ((c.tc : Thread Cert.S5InWRefIdeal.nD Cert.S5InWRefIdeal.τ).loc Cert.S5InWRefIdeal.main_arg1))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)
      ∧ m' ((c.tc : Thread Cert.ConvFRefIdeal.nD Cert.ConvFRefIdeal.τ).loc Cert.ConvFRefIdeal.main_arg3) = m ((c.tc : Thread Cert.ConvFIdeal.nD Cert.ConvFIdeal.τ).loc Cert.ConvFIdeal.main_arg3)
      ∧ m' ((c.tc : Thread Cert.ConvFRefIdeal.nD Cert.ConvFRefIdeal.τ).loc Cert.ConvFRefIdeal.main_arg4) = m ((c.tc : Thread Cert.ConvFIdeal.nD Cert.ConvFIdeal.τ).loc Cert.ConvFIdeal.main_arg4)) →
    ∃ (v0 : (c : Dev Cert.ConvFIdeal.nD) → Buf (Elt Ideal) ((c.tc : Thread Cert.ConvFIdeal.nD Cert.ConvFIdeal.τ).loc Cert.ConvFIdeal.main_v0_0)) (v1 : (c : Dev Cert.ConvFIdeal.nD) → Buf (Elt Ideal) ((c.tc : Thread Cert.ConvFIdeal.nD Cert.ConvFIdeal.τ).loc Cert.ConvFIdeal.main_v0_1)) (v2 : (c : Dev Cert.ConvFIdeal.nD) → Buf (Elt Ideal) ((c.tc : Thread Cert.ConvFIdeal.nD Cert.ConvFIdeal.τ).loc Cert.ConvFIdeal.main_v0_2)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0_0) = v0 c
          ∧ r.2.mem ((c.tc : Thread Cert.ConvFIdeal.nD Cert.ConvFIdeal.τ).loc Cert.ConvFIdeal.main_v0_1) = v1 c
          ∧ r.2.mem ((c.tc : Thread Cert.ConvFIdeal.nD Cert.ConvFIdeal.τ).loc Cert.ConvFIdeal.main_v0_2) = v2 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2)
          ∧ r.2.mem ((c.tc : Thread Cert.ConvFIdeal.nD Cert.ConvFIdeal.τ).loc Cert.ConvFIdeal.main_arg3) = m ((c.tc : Thread Cert.ConvFIdeal.nD Cert.ConvFIdeal.τ).loc Cert.ConvFIdeal.main_arg3)
          ∧ r.2.mem ((c.tc : Thread Cert.ConvFIdeal.nD Cert.ConvFIdeal.τ).loc Cert.ConvFIdeal.main_arg4) = m ((c.tc : Thread Cert.ConvFIdeal.nD Cert.ConvFIdeal.τ).loc Cert.ConvFIdeal.main_arg4))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v266) = v0 c
          ∧ r.2.mem ((c.tc : Thread Cert.ConvFRefIdeal.nD Cert.ConvFRefIdeal.τ).loc Cert.ConvFRefIdeal.main_v8) = v1 c
          ∧ r.2.mem ((c.tc : Thread Cert.ConvFRefIdeal.nD Cert.ConvFRefIdeal.τ).loc Cert.ConvFRefIdeal.main_v244) = v2 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2)
          ∧ r.2.mem ((c.tc : Thread Cert.ConvFRefIdeal.nD Cert.ConvFRefIdeal.τ).loc Cert.ConvFRefIdeal.main_arg3) = m' ((c.tc : Thread Cert.ConvFRefIdeal.nD Cert.ConvFRefIdeal.τ).loc Cert.ConvFRefIdeal.main_arg3)
          ∧ r.2.mem ((c.tc : Thread Cert.ConvFRefIdeal.nD Cert.ConvFRefIdeal.τ).loc Cert.ConvFRefIdeal.main_arg4) = m' ((c.tc : Thread Cert.ConvFRefIdeal.nD Cert.ConvFRefIdeal.τ).loc Cert.ConvFRefIdeal.main_arg4))

def preserves_SiluP_SiluPIdeal : Prop :=
  True

def algebraic_SiluPIdeal_SiluPRefIdeal [hSiluPIdeal : Cert.SiluPIdeal.Facts] [hSiluPRefIdeal : Cert.SiluPRefIdeal.Facts] : Prop :=
  ∀ (m : (ℓ : Loc Cert.SiluPIdeal.nD Cert.SiluPIdeal.τ Cert.SiluPIdeal.sig) → Buf (Elt Ideal) ℓ) (g : Dev Cert.SiluPIdeal.nD → PrngReg)
    (m' : (ℓ : Loc Cert.SiluPRefIdeal.nD Cert.SiluPRefIdeal.τ Cert.SiluPRefIdeal.sig) → Buf (Elt Ideal) ℓ) (g' : Dev Cert.SiluPRefIdeal.nD → PrngReg), Pre_SiluPIdeal m →
    (∀ c : Dev Cert.SiluPIdeal.nD,
      m' ((c.tc : Thread Cert.SiluPRefIdeal.nD Cert.SiluPRefIdeal.τ).loc Cert.SiluPRefIdeal.main_arg0) = m ((c.tc : Thread Cert.SiluPIdeal.nD Cert.SiluPIdeal.τ).loc Cert.SiluPIdeal.main_arg0)) →
    ∃ (v0 : (c : Dev Cert.SiluPIdeal.nD) → Buf (Elt Ideal) ((c.tc : Thread Cert.SiluPIdeal.nD Cert.SiluPIdeal.τ).loc Cert.SiluPIdeal.main_v0)),
      θ_run (Cert.SiluPIdeal.defs (F := Ideal)) (onTc (τ := Cert.SiluPIdeal.τ) (Cert.SiluPIdeal.main (F := Ideal))) ⟨m, fun _ => 0, g⟩ (fun r => ∀ c : Dev Cert.SiluPIdeal.nD,
          r.2.mem ((c.tc : Thread Cert.SiluPIdeal.nD Cert.SiluPIdeal.τ).loc Cert.SiluPIdeal.main_v0) = v0 c
          ∧ r.2.mem ((c.tc : Thread Cert.SiluPIdeal.nD Cert.SiluPIdeal.τ).loc Cert.SiluPIdeal.main_arg0) = m ((c.tc : Thread Cert.SiluPIdeal.nD Cert.SiluPIdeal.τ).loc Cert.SiluPIdeal.main_arg0))
      ∧ θ_run (Cert.SiluPRefIdeal.defs (F := Ideal)) (onTc (τ := Cert.SiluPRefIdeal.τ) (Cert.SiluPRefIdeal.main (F := Ideal))) ⟨m', fun _ => 0, g'⟩ (fun r => ∀ c : Dev Cert.SiluPRefIdeal.nD,
          r.2.mem ((c.tc : Thread Cert.SiluPRefIdeal.nD Cert.SiluPRefIdeal.τ).loc Cert.SiluPRefIdeal.main_v0) = v0 c
          ∧ r.2.mem ((c.tc : Thread Cert.SiluPRefIdeal.nD Cert.SiluPRefIdeal.τ).loc Cert.SiluPRefIdeal.main_arg0) = m' ((c.tc : Thread Cert.SiluPRefIdeal.nD Cert.SiluPRefIdeal.τ).loc Cert.SiluPRefIdeal.main_arg0))

def preserves_ModP_ModPIdeal : Prop :=
  True

def algebraic_ModPIdeal_ModPRefIdeal [hModPIdeal : Cert.ModPIdeal.Facts] [hModPRefIdeal : Cert.ModPRefIdeal.Facts] : Prop :=
  ∀ (m : (ℓ : Loc Cert.ModPIdeal.nD Cert.ModPIdeal.τ Cert.ModPIdeal.sig) → Buf (Elt Ideal) ℓ) (g : Dev Cert.ModPIdeal.nD → PrngReg)
    (m' : (ℓ : Loc Cert.ModPRefIdeal.nD Cert.ModPRefIdeal.τ Cert.ModPRefIdeal.sig) → Buf (Elt Ideal) ℓ) (g' : Dev Cert.ModPRefIdeal.nD → PrngReg), Pre_ModPIdeal m →
    (∀ c : Dev Cert.ModPIdeal.nD,
      m' ((c.tc : Thread Cert.ModPRefIdeal.nD Cert.ModPRefIdeal.τ).loc Cert.ModPRefIdeal.main_arg0) = m ((c.tc : Thread Cert.ModPIdeal.nD Cert.ModPIdeal.τ).loc Cert.ModPIdeal.main_arg0)
      ∧ m' ((c.tc : Thread Cert.ModPRefIdeal.nD Cert.ModPRefIdeal.τ).loc Cert.ModPRefIdeal.main_arg1) = m ((c.tc : Thread Cert.ModPIdeal.nD Cert.ModPIdeal.τ).loc Cert.ModPIdeal.main_arg1)
      ∧ m' ((c.tc : Thread Cert.ModPRefIdeal.nD Cert.ModPRefIdeal.τ).loc Cert.ModPRefIdeal.main_arg2) = m ((c.tc : Thread Cert.ModPIdeal.nD Cert.ModPIdeal.τ).loc Cert.ModPIdeal.main_arg2)) →
    ∃ (v0 : (c : Dev Cert.ModPIdeal.nD) → Buf (Elt Ideal) ((c.tc : Thread Cert.ModPIdeal.nD Cert.ModPIdeal.τ).loc Cert.ModPIdeal.main_v0)),
      θ_run (Cert.ModPIdeal.defs (F := Ideal)) (onTc (τ := Cert.ModPIdeal.τ) (Cert.ModPIdeal.main (F := Ideal))) ⟨m, fun _ => 0, g⟩ (fun r => ∀ c : Dev Cert.ModPIdeal.nD,
          r.2.mem ((c.tc : Thread Cert.ModPIdeal.nD Cert.ModPIdeal.τ).loc Cert.ModPIdeal.main_v0) = v0 c
          ∧ r.2.mem ((c.tc : Thread Cert.ModPIdeal.nD Cert.ModPIdeal.τ).loc Cert.ModPIdeal.main_arg0) = m ((c.tc : Thread Cert.ModPIdeal.nD Cert.ModPIdeal.τ).loc Cert.ModPIdeal.main_arg0)
          ∧ r.2.mem ((c.tc : Thread Cert.ModPIdeal.nD Cert.ModPIdeal.τ).loc Cert.ModPIdeal.main_arg1) = m ((c.tc : Thread Cert.ModPIdeal.nD Cert.ModPIdeal.τ).loc Cert.ModPIdeal.main_arg1)
          ∧ r.2.mem ((c.tc : Thread Cert.ModPIdeal.nD Cert.ModPIdeal.τ).loc Cert.ModPIdeal.main_arg2) = m ((c.tc : Thread Cert.ModPIdeal.nD Cert.ModPIdeal.τ).loc Cert.ModPIdeal.main_arg2))
      ∧ θ_run (Cert.ModPRefIdeal.defs (F := Ideal)) (onTc (τ := Cert.ModPRefIdeal.τ) (Cert.ModPRefIdeal.main (F := Ideal))) ⟨m', fun _ => 0, g'⟩ (fun r => ∀ c : Dev Cert.ModPRefIdeal.nD,
          r.2.mem ((c.tc : Thread Cert.ModPRefIdeal.nD Cert.ModPRefIdeal.τ).loc Cert.ModPRefIdeal.main_v2) = v0 c
          ∧ r.2.mem ((c.tc : Thread Cert.ModPRefIdeal.nD Cert.ModPRefIdeal.τ).loc Cert.ModPRefIdeal.main_arg0) = m' ((c.tc : Thread Cert.ModPRefIdeal.nD Cert.ModPRefIdeal.τ).loc Cert.ModPRefIdeal.main_arg0)
          ∧ r.2.mem ((c.tc : Thread Cert.ModPRefIdeal.nD Cert.ModPRefIdeal.τ).loc Cert.ModPRefIdeal.main_arg1) = m' ((c.tc : Thread Cert.ModPRefIdeal.nD Cert.ModPRefIdeal.τ).loc Cert.ModPRefIdeal.main_arg1)
          ∧ r.2.mem ((c.tc : Thread Cert.ModPRefIdeal.nD Cert.ModPRefIdeal.τ).loc Cert.ModPRefIdeal.main_arg2) = m' ((c.tc : Thread Cert.ModPRefIdeal.nD Cert.ModPRefIdeal.τ).loc Cert.ModPRefIdeal.main_arg2))

def preserves_ModW_ModWIdeal : Prop :=
  True

def algebraic_ModWIdeal_ModWRefIdeal [hModWIdeal : Cert.ModWIdeal.Facts] [hModWRefIdeal : Cert.ModWRefIdeal.Facts] : Prop :=
  ∀ (m : (ℓ : Loc Cert.ModWIdeal.nD Cert.ModWIdeal.τ Cert.ModWIdeal.sig) → Buf (Elt Ideal) ℓ) (g : Dev Cert.ModWIdeal.nD → PrngReg)
    (m' : (ℓ : Loc Cert.ModWRefIdeal.nD Cert.ModWRefIdeal.τ Cert.ModWRefIdeal.sig) → Buf (Elt Ideal) ℓ) (g' : Dev Cert.ModWRefIdeal.nD → PrngReg), Pre_ModWIdeal m →
    (∀ c : Dev Cert.ModWIdeal.nD,
      m' ((c.tc : Thread Cert.ModWRefIdeal.nD Cert.ModWRefIdeal.τ).loc Cert.ModWRefIdeal.main_arg0) = m ((c.tc : Thread Cert.ModWIdeal.nD Cert.ModWIdeal.τ).loc Cert.ModWIdeal.main_arg0)
      ∧ m' ((c.tc : Thread Cert.ModWRefIdeal.nD Cert.ModWRefIdeal.τ).loc Cert.ModWRefIdeal.main_arg1) = m ((c.tc : Thread Cert.ModWIdeal.nD Cert.ModWIdeal.τ).loc Cert.ModWIdeal.main_arg1)) →
    ∃ (v0 : (c : Dev Cert.ModWIdeal.nD) → Buf (Elt Ideal) ((c.tc : Thread Cert.ModWIdeal.nD Cert.ModWIdeal.τ).loc Cert.ModWIdeal.main_v0)),
      θ_run (Cert.ModWIdeal.defs (F := Ideal)) (onTc (τ := Cert.ModWIdeal.τ) (Cert.ModWIdeal.main (F := Ideal))) ⟨m, fun _ => 0, g⟩ (fun r => ∀ c : Dev Cert.ModWIdeal.nD,
          r.2.mem ((c.tc : Thread Cert.ModWIdeal.nD Cert.ModWIdeal.τ).loc Cert.ModWIdeal.main_v0) = v0 c
          ∧ r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
          ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1))
      ∧ θ_run (Cert.ModWRefIdeal.defs (F := Ideal)) (onTc (τ := Cert.ModWRefIdeal.τ) (Cert.ModWRefIdeal.main (F := Ideal))) ⟨m', fun _ => 0, g'⟩ (fun r => ∀ c : Dev Cert.ModWRefIdeal.nD,
          r.2.mem ((c.tc : Thread Cert.ModWRefIdeal.nD Cert.ModWRefIdeal.τ).loc Cert.ModWRefIdeal.main_v3) = v0 c
          ∧ r.2.mem ((c.tc : Thread Cert.ModWRefIdeal.nD Cert.ModWRefIdeal.τ).loc Cert.ModWRefIdeal.main_arg0) = m' ((c.tc : Thread Cert.ModWRefIdeal.nD Cert.ModWRefIdeal.τ).loc Cert.ModWRefIdeal.main_arg0)
          ∧ r.2.mem ((c.tc : Thread Cert.ModWRefIdeal.nD Cert.ModWRefIdeal.τ).loc Cert.ModWRefIdeal.main_arg1) = m' ((c.tc : Thread Cert.ModWRefIdeal.nD Cert.ModWRefIdeal.τ).loc Cert.ModWRefIdeal.main_arg1))

def preserves_ModBG_ModBGIdeal : Prop :=
  True

def algebraic_ModBGIdeal_ModBGRefIdeal [hModBGIdeal : Cert.ModBGIdeal.Facts] [hModBGRefIdeal : Cert.ModBGRefIdeal.Facts] : Prop :=
  ∀ (m : (ℓ : Loc Cert.ModBGIdeal.nD Cert.ModBGIdeal.τ Cert.ModBGIdeal.sig) → Buf (Elt Ideal) ℓ) (g : Dev Cert.ModBGIdeal.nD → PrngReg)
    (m' : (ℓ : Loc Cert.ModBGRefIdeal.nD Cert.ModBGRefIdeal.τ Cert.ModBGRefIdeal.sig) → Buf (Elt Ideal) ℓ) (g' : Dev Cert.ModBGRefIdeal.nD → PrngReg), Pre_ModBGIdeal m →
    (∀ c : Dev Cert.ModBGIdeal.nD,
      m' ((c.tc : Thread Cert.ModBGRefIdeal.nD Cert.ModBGRefIdeal.τ).loc Cert.ModBGRefIdeal.main_arg0) = m ((c.tc : Thread Cert.ModBGIdeal.nD Cert.ModBGIdeal.τ).loc Cert.ModBGIdeal.main_arg0)) →
    ∃ (v0 : (c : Dev Cert.ModBGIdeal.nD) → Buf (Elt Ideal) ((c.tc : Thread Cert.ModBGIdeal.nD Cert.ModBGIdeal.τ).loc Cert.ModBGIdeal.main_v0)),
      θ_run (Cert.ModBGIdeal.defs (F := Ideal)) (onTc (τ := Cert.ModBGIdeal.τ) (Cert.ModBGIdeal.main (F := Ideal))) ⟨m, fun _ => 0, g⟩ (fun r => ∀ c : Dev Cert.ModBGIdeal.nD,
          r.2.mem ((c.tc : Thread Cert.ModBGIdeal.nD Cert.ModBGIdeal.τ).loc Cert.ModBGIdeal.main_v0) = v0 c
          ∧ r.2.mem ((c.tc : Thread Cert.ModBGIdeal.nD Cert.ModBGIdeal.τ).loc Cert.ModBGIdeal.main_arg0) = m ((c.tc : Thread Cert.ModBGIdeal.nD Cert.ModBGIdeal.τ).loc Cert.ModBGIdeal.main_arg0))
      ∧ θ_run (Cert.ModBGRefIdeal.defs (F := Ideal)) (onTc (τ := Cert.ModBGRefIdeal.τ) (Cert.ModBGRefIdeal.main (F := Ideal))) ⟨m', fun _ => 0, g'⟩ (fun r => ∀ c : Dev Cert.ModBGRefIdeal.nD,
          r.2.mem ((c.tc : Thread Cert.ModBGRefIdeal.nD Cert.ModBGRefIdeal.τ).loc Cert.ModBGRefIdeal.main_v3) = v0 c
          ∧ r.2.mem ((c.tc : Thread Cert.ModBGRefIdeal.nD Cert.ModBGRefIdeal.τ).loc Cert.ModBGRefIdeal.main_arg0) = m' ((c.tc : Thread Cert.ModBGRefIdeal.nD Cert.ModBGRefIdeal.τ).loc Cert.ModBGRefIdeal.main_arg0))

def preserves_ModB_ModBIdeal : Prop :=
  True

def algebraic_ModBIdeal_ModBRefIdeal [hModBIdeal : Cert.ModBIdeal.Facts] [hModBRefIdeal : Cert.ModBRefIdeal.Facts] : Prop :=
  ∀ (m : (ℓ : Loc Cert.ModBIdeal.nD Cert.ModBIdeal.τ Cert.ModBIdeal.sig) → Buf (Elt Ideal) ℓ) (g : Dev Cert.ModBIdeal.nD → PrngReg)
    (m' : (ℓ : Loc Cert.ModBRefIdeal.nD Cert.ModBRefIdeal.τ Cert.ModBRefIdeal.sig) → Buf (Elt Ideal) ℓ) (g' : Dev Cert.ModBRefIdeal.nD → PrngReg), Pre_ModBIdeal m →
    (∀ c : Dev Cert.ModBIdeal.nD,
      m' ((c.tc : Thread Cert.ModBRefIdeal.nD Cert.ModBRefIdeal.τ).loc Cert.ModBRefIdeal.main_arg0) = m ((c.tc : Thread Cert.ModBIdeal.nD Cert.ModBIdeal.τ).loc Cert.ModBIdeal.main_arg0)
      ∧ m' ((c.tc : Thread Cert.ModBRefIdeal.nD Cert.ModBRefIdeal.τ).loc Cert.ModBRefIdeal.main_arg1) = m ((c.tc : Thread Cert.ModBIdeal.nD Cert.ModBIdeal.τ).loc Cert.ModBIdeal.main_arg1)) →
    ∃ (v0 : (c : Dev Cert.ModBIdeal.nD) → Buf (Elt Ideal) ((c.tc : Thread Cert.ModBIdeal.nD Cert.ModBIdeal.τ).loc Cert.ModBIdeal.main_v0)),
      θ_run (Cert.ModBIdeal.defs (F := Ideal)) (onTc (τ := Cert.ModBIdeal.τ) (Cert.ModBIdeal.main (F := Ideal))) ⟨m, fun _ => 0, g⟩ (fun r => ∀ c : Dev Cert.ModBIdeal.nD,
          r.2.mem ((c.tc : Thread Cert.ModBIdeal.nD Cert.ModBIdeal.τ).loc Cert.ModBIdeal.main_v0) = v0 c
          ∧ r.2.mem ((c.tc : Thread Cert.ModBIdeal.nD Cert.ModBIdeal.τ).loc Cert.ModBIdeal.main_arg0) = m ((c.tc : Thread Cert.ModBIdeal.nD Cert.ModBIdeal.τ).loc Cert.ModBIdeal.main_arg0)
          ∧ r.2.mem ((c.tc : Thread Cert.ModBIdeal.nD Cert.ModBIdeal.τ).loc Cert.ModBIdeal.main_arg1) = m ((c.tc : Thread Cert.ModBIdeal.nD Cert.ModBIdeal.τ).loc Cert.ModBIdeal.main_arg1))
      ∧ θ_run (Cert.ModBRefIdeal.defs (F := Ideal)) (onTc (τ := Cert.ModBRefIdeal.τ) (Cert.ModBRefIdeal.main (F := Ideal))) ⟨m', fun _ => 0, g'⟩ (fun r => ∀ c : Dev Cert.ModBRefIdeal.nD,
          r.2.mem ((c.tc : Thread Cert.ModBRefIdeal.nD Cert.ModBRefIdeal.τ).loc Cert.ModBRefIdeal.main_v2) = v0 c
          ∧ r.2.mem ((c.tc : Thread Cert.ModBRefIdeal.nD Cert.ModBRefIdeal.τ).loc Cert.ModBRefIdeal.main_arg0) = m' ((c.tc : Thread Cert.ModBRefIdeal.nD Cert.ModBRefIdeal.τ).loc Cert.ModBRefIdeal.main_arg0)
          ∧ r.2.mem ((c.tc : Thread Cert.ModBRefIdeal.nD Cert.ModBRefIdeal.τ).loc Cert.ModBRefIdeal.main_arg1) = m' ((c.tc : Thread Cert.ModBRefIdeal.nD Cert.ModBRefIdeal.τ).loc Cert.ModBRefIdeal.main_arg1))

def preserves_ModBA_ModBAIdeal : Prop :=
  True

def algebraic_ModBAIdeal_ModBARefIdeal [hModBAIdeal : Cert.ModBAIdeal.Facts] [hModBARefIdeal : Cert.ModBARefIdeal.Facts] : Prop :=
  ∀ (m : (ℓ : Loc Cert.ModBAIdeal.nD Cert.ModBAIdeal.τ Cert.ModBAIdeal.sig) → Buf (Elt Ideal) ℓ) (g : Dev Cert.ModBAIdeal.nD → PrngReg)
    (m' : (ℓ : Loc Cert.ModBARefIdeal.nD Cert.ModBARefIdeal.τ Cert.ModBARefIdeal.sig) → Buf (Elt Ideal) ℓ) (g' : Dev Cert.ModBARefIdeal.nD → PrngReg), Pre_ModBAIdeal m →
    (∀ c : Dev Cert.ModBAIdeal.nD,
      m' ((c.tc : Thread Cert.ModBARefIdeal.nD Cert.ModBARefIdeal.τ).loc Cert.ModBARefIdeal.main_arg0) = m ((c.tc : Thread Cert.ModBAIdeal.nD Cert.ModBAIdeal.τ).loc Cert.ModBAIdeal.main_arg0)
      ∧ m' ((c.tc : Thread Cert.ModBARefIdeal.nD Cert.ModBARefIdeal.τ).loc Cert.ModBARefIdeal.main_arg1) = m ((c.tc : Thread Cert.ModBAIdeal.nD Cert.ModBAIdeal.τ).loc Cert.ModBAIdeal.main_arg1)
      ∧ m' ((c.tc : Thread Cert.ModBARefIdeal.nD Cert.ModBARefIdeal.τ).loc Cert.ModBARefIdeal.main_arg2) = m ((c.tc : Thread Cert.ModBAIdeal.nD Cert.ModBAIdeal.τ).loc Cert.ModBAIdeal.main_arg2)) →
    ∃ (v0 : (c : Dev Cert.ModBAIdeal.nD) → Buf (Elt Ideal) ((c.tc : Thread Cert.ModBAIdeal.nD Cert.ModBAIdeal.τ).loc Cert.ModBAIdeal.main_v0)),
      θ_run (Cert.ModBAIdeal.defs (F := Ideal)) (onTc (τ := Cert.ModBAIdeal.τ) (Cert.ModBAIdeal.main (F := Ideal))) ⟨m, fun _ => 0, g⟩ (fun r => ∀ c : Dev Cert.ModBAIdeal.nD,
          r.2.mem ((c.tc : Thread Cert.ModBAIdeal.nD Cert.ModBAIdeal.τ).loc Cert.ModBAIdeal.main_v0) = v0 c
          ∧ r.2.mem ((c.tc : Thread Cert.ModBAIdeal.nD Cert.ModBAIdeal.τ).loc Cert.ModBAIdeal.main_arg0) = m ((c.tc : Thread Cert.ModBAIdeal.nD Cert.ModBAIdeal.τ).loc Cert.ModBAIdeal.main_arg0)
          ∧ r.2.mem ((c.tc : Thread Cert.ModBAIdeal.nD Cert.ModBAIdeal.τ).loc Cert.ModBAIdeal.main_arg1) = m ((c.tc : Thread Cert.ModBAIdeal.nD Cert.ModBAIdeal.τ).loc Cert.ModBAIdeal.main_arg1)
          ∧ r.2.mem ((c.tc : Thread Cert.ModBAIdeal.nD Cert.ModBAIdeal.τ).loc Cert.ModBAIdeal.main_arg2) = m ((c.tc : Thread Cert.ModBAIdeal.nD Cert.ModBAIdeal.τ).loc Cert.ModBAIdeal.main_arg2))
      ∧ θ_run (Cert.ModBARefIdeal.defs (F := Ideal)) (onTc (τ := Cert.ModBARefIdeal.τ) (Cert.ModBARefIdeal.main (F := Ideal))) ⟨m', fun _ => 0, g'⟩ (fun r => ∀ c : Dev Cert.ModBARefIdeal.nD,
          r.2.mem ((c.tc : Thread Cert.ModBARefIdeal.nD Cert.ModBARefIdeal.τ).loc Cert.ModBARefIdeal.main_v3) = v0 c
          ∧ r.2.mem ((c.tc : Thread Cert.ModBARefIdeal.nD Cert.ModBARefIdeal.τ).loc Cert.ModBARefIdeal.main_arg0) = m' ((c.tc : Thread Cert.ModBARefIdeal.nD Cert.ModBARefIdeal.τ).loc Cert.ModBARefIdeal.main_arg0)
          ∧ r.2.mem ((c.tc : Thread Cert.ModBARefIdeal.nD Cert.ModBARefIdeal.τ).loc Cert.ModBARefIdeal.main_arg1) = m' ((c.tc : Thread Cert.ModBARefIdeal.nD Cert.ModBARefIdeal.τ).loc Cert.ModBARefIdeal.main_arg1)
          ∧ r.2.mem ((c.tc : Thread Cert.ModBARefIdeal.nD Cert.ModBARefIdeal.τ).loc Cert.ModBARefIdeal.main_arg2) = m' ((c.tc : Thread Cert.ModBARefIdeal.nD Cert.ModBARefIdeal.τ).loc Cert.ModBARefIdeal.main_arg2))

def preserves_SiluB_SiluBIdeal : Prop :=
  True

def algebraic_SiluBIdeal_SiluBRefIdeal [hSiluBIdeal : Cert.SiluBIdeal.Facts] [hSiluBRefIdeal : Cert.SiluBRefIdeal.Facts] : Prop :=
  ∀ (m : (ℓ : Loc Cert.SiluBIdeal.nD Cert.SiluBIdeal.τ Cert.SiluBIdeal.sig) → Buf (Elt Ideal) ℓ) (g : Dev Cert.SiluBIdeal.nD → PrngReg)
    (m' : (ℓ : Loc Cert.SiluBRefIdeal.nD Cert.SiluBRefIdeal.τ Cert.SiluBRefIdeal.sig) → Buf (Elt Ideal) ℓ) (g' : Dev Cert.SiluBRefIdeal.nD → PrngReg), Pre_SiluBIdeal m →
    (∀ c : Dev Cert.SiluBIdeal.nD,
      m' ((c.tc : Thread Cert.SiluBRefIdeal.nD Cert.SiluBRefIdeal.τ).loc Cert.SiluBRefIdeal.main_arg0) = m ((c.tc : Thread Cert.SiluBIdeal.nD Cert.SiluBIdeal.τ).loc Cert.SiluBIdeal.main_arg0)
      ∧ m' ((c.tc : Thread Cert.SiluBRefIdeal.nD Cert.SiluBRefIdeal.τ).loc Cert.SiluBRefIdeal.main_arg1) = m ((c.tc : Thread Cert.SiluBIdeal.nD Cert.SiluBIdeal.τ).loc Cert.SiluBIdeal.main_arg1)) →
    ∃ (v0 : (c : Dev Cert.SiluBIdeal.nD) → Buf (Elt Ideal) ((c.tc : Thread Cert.SiluBIdeal.nD Cert.SiluBIdeal.τ).loc Cert.SiluBIdeal.main_v0)),
      θ_run (Cert.SiluBIdeal.defs (F := Ideal)) (onTc (τ := Cert.SiluBIdeal.τ) (Cert.SiluBIdeal.main (F := Ideal))) ⟨m, fun _ => 0, g⟩ (fun r => ∀ c : Dev Cert.SiluBIdeal.nD,
          r.2.mem ((c.tc : Thread Cert.SiluBIdeal.nD Cert.SiluBIdeal.τ).loc Cert.SiluBIdeal.main_v0) = v0 c
          ∧ r.2.mem ((c.tc : Thread Cert.SiluBIdeal.nD Cert.SiluBIdeal.τ).loc Cert.SiluBIdeal.main_arg0) = m ((c.tc : Thread Cert.SiluBIdeal.nD Cert.SiluBIdeal.τ).loc Cert.SiluBIdeal.main_arg0)
          ∧ r.2.mem ((c.tc : Thread Cert.SiluBIdeal.nD Cert.SiluBIdeal.τ).loc Cert.SiluBIdeal.main_arg1) = m ((c.tc : Thread Cert.SiluBIdeal.nD Cert.SiluBIdeal.τ).loc Cert.SiluBIdeal.main_arg1))
      ∧ θ_run (Cert.SiluBRefIdeal.defs (F := Ideal)) (onTc (τ := Cert.SiluBRefIdeal.τ) (Cert.SiluBRefIdeal.main (F := Ideal))) ⟨m', fun _ => 0, g'⟩ (fun r => ∀ c : Dev Cert.SiluBRefIdeal.nD,
          r.2.mem ((c.tc : Thread Cert.SiluBRefIdeal.nD Cert.SiluBRefIdeal.τ).loc Cert.SiluBRefIdeal.main_v1) = v0 c
          ∧ r.2.mem ((c.tc : Thread Cert.SiluBRefIdeal.nD Cert.SiluBRefIdeal.τ).loc Cert.SiluBRefIdeal.main_arg0) = m' ((c.tc : Thread Cert.SiluBRefIdeal.nD Cert.SiluBRefIdeal.τ).loc Cert.SiluBRefIdeal.main_arg0)
          ∧ r.2.mem ((c.tc : Thread Cert.SiluBRefIdeal.nD Cert.SiluBRefIdeal.τ).loc Cert.SiluBRefIdeal.main_arg1) = m' ((c.tc : Thread Cert.SiluBRefIdeal.nD Cert.SiluBRefIdeal.τ).loc Cert.SiluBRefIdeal.main_arg1))

def preserves_AdMod_AdModIdeal : Prop :=
  True

def algebraic_AdModIdeal_AdModRefIdeal [hAdModIdeal : Cert.AdModIdeal.Facts] [hAdModRefIdeal : Cert.AdModRefIdeal.Facts] : Prop :=
  ∀ (m : (ℓ : Loc Cert.AdModIdeal.nD Cert.AdModIdeal.τ Cert.AdModIdeal.sig) → Buf (Elt Ideal) ℓ) (g : Dev Cert.AdModIdeal.nD → PrngReg)
    (m' : (ℓ : Loc Cert.AdModRefIdeal.nD Cert.AdModRefIdeal.τ Cert.AdModRefIdeal.sig) → Buf (Elt Ideal) ℓ) (g' : Dev Cert.AdModRefIdeal.nD → PrngReg), Pre_AdModIdeal m →
    (∀ c : Dev Cert.AdModIdeal.nD,
      m' ((c.tc : Thread Cert.AdModRefIdeal.nD Cert.AdModRefIdeal.τ).loc Cert.AdModRefIdeal.main_arg0) = m ((c.tc : Thread Cert.AdModIdeal.nD Cert.AdModIdeal.τ).loc Cert.AdModIdeal.main_arg0)
      ∧ m' ((c.tc : Thread Cert.AdModRefIdeal.nD Cert.AdModRefIdeal.τ).loc Cert.AdModRefIdeal.main_arg1) = m ((c.tc : Thread Cert.AdModIdeal.nD Cert.AdModIdeal.τ).loc Cert.AdModIdeal.main_arg1)
      ∧ m' ((c.tc : Thread Cert.AdModRefIdeal.nD Cert.AdModRefIdeal.τ).loc Cert.AdModRefIdeal.main_arg2) = m ((c.tc : Thread Cert.AdModIdeal.nD Cert.AdModIdeal.τ).loc Cert.AdModIdeal.main_arg2)
      ∧ m' ((c.tc : Thread Cert.AdModRefIdeal.nD Cert.AdModRefIdeal.τ).loc Cert.AdModRefIdeal.main_arg3) = m ((c.tc : Thread Cert.AdModIdeal.nD Cert.AdModIdeal.τ).loc Cert.AdModIdeal.main_arg3)) →
    ∃ (v0 : (c : Dev Cert.AdModIdeal.nD) → Buf (Elt Ideal) ((c.tc : Thread Cert.AdModIdeal.nD Cert.AdModIdeal.τ).loc Cert.AdModIdeal.main_v0_0)) (v1 : (c : Dev Cert.AdModIdeal.nD) → Buf (Elt Ideal) ((c.tc : Thread Cert.AdModIdeal.nD Cert.AdModIdeal.τ).loc Cert.AdModIdeal.main_v0_1)) (v2 : (c : Dev Cert.AdModIdeal.nD) → Buf (Elt Ideal) ((c.tc : Thread Cert.AdModIdeal.nD Cert.AdModIdeal.τ).loc Cert.AdModIdeal.main_v0_2)),
      θ_run (Cert.AdModIdeal.defs (F := Ideal)) (onTc (τ := Cert.AdModIdeal.τ) (Cert.AdModIdeal.main (F := Ideal))) ⟨m, fun _ => 0, g⟩ (fun r => ∀ c : Dev Cert.AdModIdeal.nD,
          r.2.mem ((c.tc : Thread Cert.AdModIdeal.nD Cert.AdModIdeal.τ).loc Cert.AdModIdeal.main_v0_0) = v0 c
          ∧ r.2.mem ((c.tc : Thread Cert.AdModIdeal.nD Cert.AdModIdeal.τ).loc Cert.AdModIdeal.main_v0_1) = v1 c
          ∧ r.2.mem ((c.tc : Thread Cert.AdModIdeal.nD Cert.AdModIdeal.τ).loc Cert.AdModIdeal.main_v0_2) = v2 c
          ∧ r.2.mem ((c.tc : Thread Cert.AdModIdeal.nD Cert.AdModIdeal.τ).loc Cert.AdModIdeal.main_arg0) = m ((c.tc : Thread Cert.AdModIdeal.nD Cert.AdModIdeal.τ).loc Cert.AdModIdeal.main_arg0)
          ∧ r.2.mem ((c.tc : Thread Cert.AdModIdeal.nD Cert.AdModIdeal.τ).loc Cert.AdModIdeal.main_arg1) = m ((c.tc : Thread Cert.AdModIdeal.nD Cert.AdModIdeal.τ).loc Cert.AdModIdeal.main_arg1)
          ∧ r.2.mem ((c.tc : Thread Cert.AdModIdeal.nD Cert.AdModIdeal.τ).loc Cert.AdModIdeal.main_arg2) = m ((c.tc : Thread Cert.AdModIdeal.nD Cert.AdModIdeal.τ).loc Cert.AdModIdeal.main_arg2)
          ∧ r.2.mem ((c.tc : Thread Cert.AdModIdeal.nD Cert.AdModIdeal.τ).loc Cert.AdModIdeal.main_arg3) = m ((c.tc : Thread Cert.AdModIdeal.nD Cert.AdModIdeal.τ).loc Cert.AdModIdeal.main_arg3))
      ∧ θ_run (Cert.AdModRefIdeal.defs (F := Ideal)) (onTc (τ := Cert.AdModRefIdeal.τ) (Cert.AdModRefIdeal.main (F := Ideal))) ⟨m', fun _ => 0, g'⟩ (fun r => ∀ c : Dev Cert.AdModRefIdeal.nD,
          r.2.mem ((c.tc : Thread Cert.AdModRefIdeal.nD Cert.AdModRefIdeal.τ).loc Cert.AdModRefIdeal.main_v23) = v0 c
          ∧ r.2.mem ((c.tc : Thread Cert.AdModRefIdeal.nD Cert.AdModRefIdeal.τ).loc Cert.AdModRefIdeal.main_v4) = v1 c
          ∧ r.2.mem ((c.tc : Thread Cert.AdModRefIdeal.nD Cert.AdModRefIdeal.τ).loc Cert.AdModRefIdeal.main_v10) = v2 c
          ∧ r.2.mem ((c.tc : Thread Cert.AdModRefIdeal.nD Cert.AdModRefIdeal.τ).loc Cert.AdModRefIdeal.main_arg0) = m' ((c.tc : Thread Cert.AdModRefIdeal.nD Cert.AdModRefIdeal.τ).loc Cert.AdModRefIdeal.main_arg0)
          ∧ r.2.mem ((c.tc : Thread Cert.AdModRefIdeal.nD Cert.AdModRefIdeal.τ).loc Cert.AdModRefIdeal.main_arg1) = m' ((c.tc : Thread Cert.AdModRefIdeal.nD Cert.AdModRefIdeal.τ).loc Cert.AdModRefIdeal.main_arg1)
          ∧ r.2.mem ((c.tc : Thread Cert.AdModRefIdeal.nD Cert.AdModRefIdeal.τ).loc Cert.AdModRefIdeal.main_arg2) = m' ((c.tc : Thread Cert.AdModRefIdeal.nD Cert.AdModRefIdeal.τ).loc Cert.AdModRefIdeal.main_arg2)
          ∧ r.2.mem ((c.tc : Thread Cert.AdModRefIdeal.nD Cert.AdModRefIdeal.τ).loc Cert.AdModRefIdeal.main_arg3) = m' ((c.tc : Thread Cert.AdModRefIdeal.nD Cert.AdModRefIdeal.τ).loc Cert.AdModRefIdeal.main_arg3))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v23) = v0 c
          ∧ r.2.mem ((c.tc : Thread Cert.AdInRefIdeal.nD Cert.AdInRefIdeal.τ).loc Cert.AdInRefIdeal.main_v4) = v1 c
          ∧ r.2.mem ((c.tc : Thread Cert.AdInRefIdeal.nD Cert.AdInRefIdeal.τ).loc Cert.AdInRefIdeal.main_v10) = v2 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdGlu_AdGluIdeal : Prop :=
  True

def algebraic_AdGluIdeal_AdGluRefIdeal [hAdGluIdeal : Cert.AdGluIdeal.Facts] [hAdGluRefIdeal : Cert.AdGluRefIdeal.Facts] : Prop :=
  ∀ (m : (ℓ : Loc Cert.AdGluIdeal.nD Cert.AdGluIdeal.τ Cert.AdGluIdeal.sig) → Buf (Elt Ideal) ℓ) (g : Dev Cert.AdGluIdeal.nD → PrngReg)
    (m' : (ℓ : Loc Cert.AdGluRefIdeal.nD Cert.AdGluRefIdeal.τ Cert.AdGluRefIdeal.sig) → Buf (Elt Ideal) ℓ) (g' : Dev Cert.AdGluRefIdeal.nD → PrngReg), Pre_AdGluIdeal m →
    (∀ c : Dev Cert.AdGluIdeal.nD,
      m' ((c.tc : Thread Cert.AdGluRefIdeal.nD Cert.AdGluRefIdeal.τ).loc Cert.AdGluRefIdeal.main_arg0) = m ((c.tc : Thread Cert.AdGluIdeal.nD Cert.AdGluIdeal.τ).loc Cert.AdGluIdeal.main_arg0)
      ∧ m' ((c.tc : Thread Cert.AdGluRefIdeal.nD Cert.AdGluRefIdeal.τ).loc Cert.AdGluRefIdeal.main_arg1) = m ((c.tc : Thread Cert.AdGluIdeal.nD Cert.AdGluIdeal.τ).loc Cert.AdGluIdeal.main_arg1)
      ∧ m' ((c.tc : Thread Cert.AdGluRefIdeal.nD Cert.AdGluRefIdeal.τ).loc Cert.AdGluRefIdeal.main_arg2) = m ((c.tc : Thread Cert.AdGluIdeal.nD Cert.AdGluIdeal.τ).loc Cert.AdGluIdeal.main_arg2)
      ∧ m' ((c.tc : Thread Cert.AdGluRefIdeal.nD Cert.AdGluRefIdeal.τ).loc Cert.AdGluRefIdeal.main_arg3) = m ((c.tc : Thread Cert.AdGluIdeal.nD Cert.AdGluIdeal.τ).loc Cert.AdGluIdeal.main_arg3)) →
    ∃ (v0 : (c : Dev Cert.AdGluIdeal.nD) → Buf (Elt Ideal) ((c.tc : Thread Cert.AdGluIdeal.nD Cert.AdGluIdeal.τ).loc Cert.AdGluIdeal.main_v0_0)) (v1 : (c : Dev Cert.AdGluIdeal.nD) → Buf (Elt Ideal) ((c.tc : Thread Cert.AdGluIdeal.nD Cert.AdGluIdeal.τ).loc Cert.AdGluIdeal.main_v0_1)) (v2 : (c : Dev Cert.AdGluIdeal.nD) → Buf (Elt Ideal) ((c.tc : Thread Cert.AdGluIdeal.nD Cert.AdGluIdeal.τ).loc Cert.AdGluIdeal.main_v0_2)),
      θ_run (Cert.AdGluIdeal.defs (F := Ideal)) (onTc (τ := Cert.AdGluIdeal.τ) (Cert.AdGluIdeal.main (F := Ideal))) ⟨m, fun _ => 0, g⟩ (fun r => ∀ c : Dev Cert.AdGluIdeal.nD,
          r.2.mem ((c.tc : Thread Cert.AdGluIdeal.nD Cert.AdGluIdeal.τ).loc Cert.AdGluIdeal.main_v0_0) = v0 c
          ∧ r.2.mem ((c.tc : Thread Cert.AdGluIdeal.nD Cert.AdGluIdeal.τ).loc Cert.AdGluIdeal.main_v0_1) = v1 c
          ∧ r.2.mem ((c.tc : Thread Cert.AdGluIdeal.nD Cert.AdGluIdeal.τ).loc Cert.AdGluIdeal.main_v0_2) = v2 c
          ∧ r.2.mem ((c.tc : Thread Cert.AdGluIdeal.nD Cert.AdGluIdeal.τ).loc Cert.AdGluIdeal.main_arg0) = m ((c.tc : Thread Cert.AdGluIdeal.nD Cert.AdGluIdeal.τ).loc Cert.AdGluIdeal.main_arg0)
          ∧ r.2.mem ((c.tc : Thread Cert.AdGluIdeal.nD Cert.AdGluIdeal.τ).loc Cert.AdGluIdeal.main_arg1) = m ((c.tc : Thread Cert.AdGluIdeal.nD Cert.AdGluIdeal.τ).loc Cert.AdGluIdeal.main_arg1)
          ∧ r.2.mem ((c.tc : Thread Cert.AdGluIdeal.nD Cert.AdGluIdeal.τ).loc Cert.AdGluIdeal.main_arg2) = m ((c.tc : Thread Cert.AdGluIdeal.nD Cert.AdGluIdeal.τ).loc Cert.AdGluIdeal.main_arg2)
          ∧ r.2.mem ((c.tc : Thread Cert.AdGluIdeal.nD Cert.AdGluIdeal.τ).loc Cert.AdGluIdeal.main_arg3) = m ((c.tc : Thread Cert.AdGluIdeal.nD Cert.AdGluIdeal.τ).loc Cert.AdGluIdeal.main_arg3))
      ∧ θ_run (Cert.AdGluRefIdeal.defs (F := Ideal)) (onTc (τ := Cert.AdGluRefIdeal.τ) (Cert.AdGluRefIdeal.main (F := Ideal))) ⟨m', fun _ => 0, g'⟩ (fun r => ∀ c : Dev Cert.AdGluRefIdeal.nD,
          r.2.mem ((c.tc : Thread Cert.AdGluRefIdeal.nD Cert.AdGluRefIdeal.τ).loc Cert.AdGluRefIdeal.main_v23) = v0 c
          ∧ r.2.mem ((c.tc : Thread Cert.AdGluRefIdeal.nD Cert.AdGluRefIdeal.τ).loc Cert.AdGluRefIdeal.main_v4) = v1 c
          ∧ r.2.mem ((c.tc : Thread Cert.AdGluRefIdeal.nD Cert.AdGluRefIdeal.τ).loc Cert.AdGluRefIdeal.main_v10) = v2 c
          ∧ r.2.mem ((c.tc : Thread Cert.AdGluRefIdeal.nD Cert.AdGluRefIdeal.τ).loc Cert.AdGluRefIdeal.main_arg0) = m' ((c.tc : Thread Cert.AdGluRefIdeal.nD Cert.AdGluRefIdeal.τ).loc Cert.AdGluRefIdeal.main_arg0)
          ∧ r.2.mem ((c.tc : Thread Cert.AdGluRefIdeal.nD Cert.AdGluRefIdeal.τ).loc Cert.AdGluRefIdeal.main_arg1) = m' ((c.tc : Thread Cert.AdGluRefIdeal.nD Cert.AdGluRefIdeal.τ).loc Cert.AdGluRefIdeal.main_arg1)
          ∧ r.2.mem ((c.tc : Thread Cert.AdGluRefIdeal.nD Cert.AdGluRefIdeal.τ).loc Cert.AdGluRefIdeal.main_arg2) = m' ((c.tc : Thread Cert.AdGluRefIdeal.nD Cert.AdGluRefIdeal.τ).loc Cert.AdGluRefIdeal.main_arg2)
          ∧ r.2.mem ((c.tc : Thread Cert.AdGluRefIdeal.nD Cert.AdGluRefIdeal.τ).loc Cert.AdGluRefIdeal.main_arg3) = m' ((c.tc : Thread Cert.AdGluRefIdeal.nD Cert.AdGluRefIdeal.τ).loc Cert.AdGluRefIdeal.main_arg3))

def preserves_AdBr_AdBrIdeal : Prop :=
  True

def algebraic_AdBrIdeal_AdBrRefIdeal [hAdBrIdeal : Cert.AdBrIdeal.Facts] [hAdBrRefIdeal : Cert.AdBrRefIdeal.Facts] : Prop :=
  ∀ (m : (ℓ : Loc Cert.AdBrIdeal.nD Cert.AdBrIdeal.τ Cert.AdBrIdeal.sig) → Buf (Elt Ideal) ℓ) (g : Dev Cert.AdBrIdeal.nD → PrngReg)
    (m' : (ℓ : Loc Cert.AdBrRefIdeal.nD Cert.AdBrRefIdeal.τ Cert.AdBrRefIdeal.sig) → Buf (Elt Ideal) ℓ) (g' : Dev Cert.AdBrRefIdeal.nD → PrngReg), Pre_AdBrIdeal m →
    (∀ c : Dev Cert.AdBrIdeal.nD,
      m' ((c.tc : Thread Cert.AdBrRefIdeal.nD Cert.AdBrRefIdeal.τ).loc Cert.AdBrRefIdeal.main_arg0) = m ((c.tc : Thread Cert.AdBrIdeal.nD Cert.AdBrIdeal.τ).loc Cert.AdBrIdeal.main_arg0)
      ∧ m' ((c.tc : Thread Cert.AdBrRefIdeal.nD Cert.AdBrRefIdeal.τ).loc Cert.AdBrRefIdeal.main_arg1) = m ((c.tc : Thread Cert.AdBrIdeal.nD Cert.AdBrIdeal.τ).loc Cert.AdBrIdeal.main_arg1)
      ∧ m' ((c.tc : Thread Cert.AdBrRefIdeal.nD Cert.AdBrRefIdeal.τ).loc Cert.AdBrRefIdeal.main_arg2) = m ((c.tc : Thread Cert.AdBrIdeal.nD Cert.AdBrIdeal.τ).loc Cert.AdBrIdeal.main_arg2)
      ∧ m' ((c.tc : Thread Cert.AdBrRefIdeal.nD Cert.AdBrRefIdeal.τ).loc Cert.AdBrRefIdeal.main_arg3) = m ((c.tc : Thread Cert.AdBrIdeal.nD Cert.AdBrIdeal.τ).loc Cert.AdBrIdeal.main_arg3)) →
    ∃ (v0 : (c : Dev Cert.AdBrIdeal.nD) → Buf (Elt Ideal) ((c.tc : Thread Cert.AdBrIdeal.nD Cert.AdBrIdeal.τ).loc Cert.AdBrIdeal.main_v0_0)) (v1 : (c : Dev Cert.AdBrIdeal.nD) → Buf (Elt Ideal) ((c.tc : Thread Cert.AdBrIdeal.nD Cert.AdBrIdeal.τ).loc Cert.AdBrIdeal.main_v0_1)) (v2 : (c : Dev Cert.AdBrIdeal.nD) → Buf (Elt Ideal) ((c.tc : Thread Cert.AdBrIdeal.nD Cert.AdBrIdeal.τ).loc Cert.AdBrIdeal.main_v0_2)),
      θ_run (Cert.AdBrIdeal.defs (F := Ideal)) (onTc (τ := Cert.AdBrIdeal.τ) (Cert.AdBrIdeal.main (F := Ideal))) ⟨m, fun _ => 0, g⟩ (fun r => ∀ c : Dev Cert.AdBrIdeal.nD,
          r.2.mem ((c.tc : Thread Cert.AdBrIdeal.nD Cert.AdBrIdeal.τ).loc Cert.AdBrIdeal.main_v0_0) = v0 c
          ∧ r.2.mem ((c.tc : Thread Cert.AdBrIdeal.nD Cert.AdBrIdeal.τ).loc Cert.AdBrIdeal.main_v0_1) = v1 c
          ∧ r.2.mem ((c.tc : Thread Cert.AdBrIdeal.nD Cert.AdBrIdeal.τ).loc Cert.AdBrIdeal.main_v0_2) = v2 c
          ∧ r.2.mem ((c.tc : Thread Cert.AdBrIdeal.nD Cert.AdBrIdeal.τ).loc Cert.AdBrIdeal.main_arg0) = m ((c.tc : Thread Cert.AdBrIdeal.nD Cert.AdBrIdeal.τ).loc Cert.AdBrIdeal.main_arg0)
          ∧ r.2.mem ((c.tc : Thread Cert.AdBrIdeal.nD Cert.AdBrIdeal.τ).loc Cert.AdBrIdeal.main_arg1) = m ((c.tc : Thread Cert.AdBrIdeal.nD Cert.AdBrIdeal.τ).loc Cert.AdBrIdeal.main_arg1)
          ∧ r.2.mem ((c.tc : Thread Cert.AdBrIdeal.nD Cert.AdBrIdeal.τ).loc Cert.AdBrIdeal.main_arg2) = m ((c.tc : Thread Cert.AdBrIdeal.nD Cert.AdBrIdeal.τ).loc Cert.AdBrIdeal.main_arg2)
          ∧ r.2.mem ((c.tc : Thread Cert.AdBrIdeal.nD Cert.AdBrIdeal.τ).loc Cert.AdBrIdeal.main_arg3) = m ((c.tc : Thread Cert.AdBrIdeal.nD Cert.AdBrIdeal.τ).loc Cert.AdBrIdeal.main_arg3))
      ∧ θ_run (Cert.AdBrRefIdeal.defs (F := Ideal)) (onTc (τ := Cert.AdBrRefIdeal.τ) (Cert.AdBrRefIdeal.main (F := Ideal))) ⟨m', fun _ => 0, g'⟩ (fun r => ∀ c : Dev Cert.AdBrRefIdeal.nD,
          r.2.mem ((c.tc : Thread Cert.AdBrRefIdeal.nD Cert.AdBrRefIdeal.τ).loc Cert.AdBrRefIdeal.main_v23) = v0 c
          ∧ r.2.mem ((c.tc : Thread Cert.AdBrRefIdeal.nD Cert.AdBrRefIdeal.τ).loc Cert.AdBrRefIdeal.main_v4) = v1 c
          ∧ r.2.mem ((c.tc : Thread Cert.AdBrRefIdeal.nD Cert.AdBrRefIdeal.τ).loc Cert.AdBrRefIdeal.main_v10) = v2 c
          ∧ r.2.mem ((c.tc : Thread Cert.AdBrRefIdeal.nD Cert.AdBrRefIdeal.τ).loc Cert.AdBrRefIdeal.main_arg0) = m' ((c.tc : Thread Cert.AdBrRefIdeal.nD Cert.AdBrRefIdeal.τ).loc Cert.AdBrRefIdeal.main_arg0)
          ∧ r.2.mem ((c.tc : Thread Cert.AdBrRefIdeal.nD Cert.AdBrRefIdeal.τ).loc Cert.AdBrRefIdeal.main_arg1) = m' ((c.tc : Thread Cert.AdBrRefIdeal.nD Cert.AdBrRefIdeal.τ).loc Cert.AdBrRefIdeal.main_arg1)
          ∧ r.2.mem ((c.tc : Thread Cert.AdBrRefIdeal.nD Cert.AdBrRefIdeal.τ).loc Cert.AdBrRefIdeal.main_arg2) = m' ((c.tc : Thread Cert.AdBrRefIdeal.nD Cert.AdBrRefIdeal.τ).loc Cert.AdBrRefIdeal.main_arg2)
          ∧ r.2.mem ((c.tc : Thread Cert.AdBrRefIdeal.nD Cert.AdBrRefIdeal.τ).loc Cert.AdBrRefIdeal.main_arg3) = m' ((c.tc : Thread Cert.AdBrRefIdeal.nD Cert.AdBrRefIdeal.τ).loc Cert.AdBrRefIdeal.main_arg3))

def preserves_AdFf_AdFfIdeal : Prop :=
  True

def algebraic_AdFfIdeal_AdFfRefIdeal [hAdFfIdeal : Cert.AdFfIdeal.Facts] [hAdFfRefIdeal : Cert.AdFfRefIdeal.Facts] : Prop :=
  ∀ (m : (ℓ : Loc Cert.AdFfIdeal.nD Cert.AdFfIdeal.τ Cert.AdFfIdeal.sig) → Buf (Elt Ideal) ℓ) (g : Dev Cert.AdFfIdeal.nD → PrngReg)
    (m' : (ℓ : Loc Cert.AdFfRefIdeal.nD Cert.AdFfRefIdeal.τ Cert.AdFfRefIdeal.sig) → Buf (Elt Ideal) ℓ) (g' : Dev Cert.AdFfRefIdeal.nD → PrngReg), Pre_AdFfIdeal m →
    (∀ c : Dev Cert.AdFfIdeal.nD,
      m' ((c.tc : Thread Cert.AdFfRefIdeal.nD Cert.AdFfRefIdeal.τ).loc Cert.AdFfRefIdeal.main_arg0) = m ((c.tc : Thread Cert.AdFfIdeal.nD Cert.AdFfIdeal.τ).loc Cert.AdFfIdeal.main_arg0)
      ∧ m' ((c.tc : Thread Cert.AdFfRefIdeal.nD Cert.AdFfRefIdeal.τ).loc Cert.AdFfRefIdeal.main_arg1) = m ((c.tc : Thread Cert.AdFfIdeal.nD Cert.AdFfIdeal.τ).loc Cert.AdFfIdeal.main_arg1)
      ∧ m' ((c.tc : Thread Cert.AdFfRefIdeal.nD Cert.AdFfRefIdeal.τ).loc Cert.AdFfRefIdeal.main_arg2) = m ((c.tc : Thread Cert.AdFfIdeal.nD Cert.AdFfIdeal.τ).loc Cert.AdFfIdeal.main_arg2)
      ∧ m' ((c.tc : Thread Cert.AdFfRefIdeal.nD Cert.AdFfRefIdeal.τ).loc Cert.AdFfRefIdeal.main_arg3) = m ((c.tc : Thread Cert.AdFfIdeal.nD Cert.AdFfIdeal.τ).loc Cert.AdFfIdeal.main_arg3)) →
    ∃ (v0 : (c : Dev Cert.AdFfIdeal.nD) → Buf (Elt Ideal) ((c.tc : Thread Cert.AdFfIdeal.nD Cert.AdFfIdeal.τ).loc Cert.AdFfIdeal.main_v0_0)) (v1 : (c : Dev Cert.AdFfIdeal.nD) → Buf (Elt Ideal) ((c.tc : Thread Cert.AdFfIdeal.nD Cert.AdFfIdeal.τ).loc Cert.AdFfIdeal.main_v0_1)) (v2 : (c : Dev Cert.AdFfIdeal.nD) → Buf (Elt Ideal) ((c.tc : Thread Cert.AdFfIdeal.nD Cert.AdFfIdeal.τ).loc Cert.AdFfIdeal.main_v0_2)),
      θ_run (Cert.AdFfIdeal.defs (F := Ideal)) (onTc (τ := Cert.AdFfIdeal.τ) (Cert.AdFfIdeal.main (F := Ideal))) ⟨m, fun _ => 0, g⟩ (fun r => ∀ c : Dev Cert.AdFfIdeal.nD,
          r.2.mem ((c.tc : Thread Cert.AdFfIdeal.nD Cert.AdFfIdeal.τ).loc Cert.AdFfIdeal.main_v0_0) = v0 c
          ∧ r.2.mem ((c.tc : Thread Cert.AdFfIdeal.nD Cert.AdFfIdeal.τ).loc Cert.AdFfIdeal.main_v0_1) = v1 c
          ∧ r.2.mem ((c.tc : Thread Cert.AdFfIdeal.nD Cert.AdFfIdeal.τ).loc Cert.AdFfIdeal.main_v0_2) = v2 c
          ∧ r.2.mem ((c.tc : Thread Cert.AdFfIdeal.nD Cert.AdFfIdeal.τ).loc Cert.AdFfIdeal.main_arg0) = m ((c.tc : Thread Cert.AdFfIdeal.nD Cert.AdFfIdeal.τ).loc Cert.AdFfIdeal.main_arg0)
          ∧ r.2.mem ((c.tc : Thread Cert.AdFfIdeal.nD Cert.AdFfIdeal.τ).loc Cert.AdFfIdeal.main_arg1) = m ((c.tc : Thread Cert.AdFfIdeal.nD Cert.AdFfIdeal.τ).loc Cert.AdFfIdeal.main_arg1)
          ∧ r.2.mem ((c.tc : Thread Cert.AdFfIdeal.nD Cert.AdFfIdeal.τ).loc Cert.AdFfIdeal.main_arg2) = m ((c.tc : Thread Cert.AdFfIdeal.nD Cert.AdFfIdeal.τ).loc Cert.AdFfIdeal.main_arg2)
          ∧ r.2.mem ((c.tc : Thread Cert.AdFfIdeal.nD Cert.AdFfIdeal.τ).loc Cert.AdFfIdeal.main_arg3) = m ((c.tc : Thread Cert.AdFfIdeal.nD Cert.AdFfIdeal.τ).loc Cert.AdFfIdeal.main_arg3))
      ∧ θ_run (Cert.AdFfRefIdeal.defs (F := Ideal)) (onTc (τ := Cert.AdFfRefIdeal.τ) (Cert.AdFfRefIdeal.main (F := Ideal))) ⟨m', fun _ => 0, g'⟩ (fun r => ∀ c : Dev Cert.AdFfRefIdeal.nD,
          r.2.mem ((c.tc : Thread Cert.AdFfRefIdeal.nD Cert.AdFfRefIdeal.τ).loc Cert.AdFfRefIdeal.main_v23) = v0 c
          ∧ r.2.mem ((c.tc : Thread Cert.AdFfRefIdeal.nD Cert.AdFfRefIdeal.τ).loc Cert.AdFfRefIdeal.main_v4) = v1 c
          ∧ r.2.mem ((c.tc : Thread Cert.AdFfRefIdeal.nD Cert.AdFfRefIdeal.τ).loc Cert.AdFfRefIdeal.main_v10) = v2 c
          ∧ r.2.mem ((c.tc : Thread Cert.AdFfRefIdeal.nD Cert.AdFfRefIdeal.τ).loc Cert.AdFfRefIdeal.main_arg0) = m' ((c.tc : Thread Cert.AdFfRefIdeal.nD Cert.AdFfRefIdeal.τ).loc Cert.AdFfRefIdeal.main_arg0)
          ∧ r.2.mem ((c.tc : Thread Cert.AdFfRefIdeal.nD Cert.AdFfRefIdeal.τ).loc Cert.AdFfRefIdeal.main_arg1) = m' ((c.tc : Thread Cert.AdFfRefIdeal.nD Cert.AdFfRefIdeal.τ).loc Cert.AdFfRefIdeal.main_arg1)
          ∧ r.2.mem ((c.tc : Thread Cert.AdFfRefIdeal.nD Cert.AdFfRefIdeal.τ).loc Cert.AdFfRefIdeal.main_arg2) = m' ((c.tc : Thread Cert.AdFfRefIdeal.nD Cert.AdFfRefIdeal.τ).loc Cert.AdFfRefIdeal.main_arg2)
          ∧ r.2.mem ((c.tc : Thread Cert.AdFfRefIdeal.nD Cert.AdFfRefIdeal.τ).loc Cert.AdFfRefIdeal.main_arg3) = m' ((c.tc : Thread Cert.AdFfRefIdeal.nD Cert.AdFfRefIdeal.τ).loc Cert.AdFfRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v23) = v0 c
          ∧ r.2.mem ((c.tc : Thread Cert.AdOutRefIdeal.nD Cert.AdOutRefIdeal.τ).loc Cert.AdOutRefIdeal.main_v4) = v1 c
          ∧ r.2.mem ((c.tc : Thread Cert.AdOutRefIdeal.nD Cert.AdOutRefIdeal.τ).loc Cert.AdOutRefIdeal.main_v10) = v2 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def Claim : Prop :=
  ∃ (hMergeB : Cert.MergeB.Facts) (hMergeBIdeal : Cert.MergeBIdeal.Facts) (hMergeBRefIdeal : Cert.MergeBRefIdeal.Facts) (hFf2B : Cert.Ff2B.Facts) (hFf2BIdeal : Cert.Ff2BIdeal.Facts) (hFf2BRefIdeal : Cert.Ff2BRefIdeal.Facts) (hFf2W : Cert.Ff2W.Facts) (hFf2WIdeal : Cert.Ff2WIdeal.Facts) (hFf2WRefIdeal : Cert.Ff2WRefIdeal.Facts) (hFf1B : Cert.Ff1B.Facts) (hFf1BIdeal : Cert.Ff1BIdeal.Facts) (hFf1BRefIdeal : Cert.Ff1BRefIdeal.Facts) (hFf1W : Cert.Ff1W.Facts) (hFf1WIdeal : Cert.Ff1WIdeal.Facts) (hFf1WRefIdeal : Cert.Ff1WRefIdeal.Facts) (hGateW : Cert.GateW.Facts) (hGateWIdeal : Cert.GateWIdeal.Facts) (hGateWRefIdeal : Cert.GateWRefIdeal.Facts) (hGateB : Cert.GateB.Facts) (hGateBIdeal : Cert.GateBIdeal.Facts) (hGateBRefIdeal : Cert.GateBRefIdeal.Facts) (hGmlpB : Cert.GmlpB.Facts) (hGmlpBIdeal : Cert.GmlpBIdeal.Facts) (hGmlpBRefIdeal : Cert.GmlpBRefIdeal.Facts) (hOutB : Cert.OutB.Facts) (hOutBIdeal : Cert.OutBIdeal.Facts) (hOutBRefIdeal : Cert.OutBRefIdeal.Facts) (hOutW : Cert.OutW.Facts) (hOutWIdeal : Cert.OutWIdeal.Facts) (hOutWRefIdeal : Cert.OutWRefIdeal.Facts) (hBranchB : Cert.BranchB.Facts) (hBranchBIdeal : Cert.BranchBIdeal.Facts) (hBranchBRefIdeal : Cert.BranchBRefIdeal.Facts) (hBranchW : Cert.BranchW.Facts) (hBranchWIdeal : Cert.BranchWIdeal.Facts) (hBranchWRefIdeal : Cert.BranchWRefIdeal.Facts) (hInB : Cert.InB.Facts) (hInBIdeal : Cert.InBIdeal.Facts) (hInBRefIdeal : Cert.InBRefIdeal.Facts) (hInW : Cert.InW.Facts) (hInWIdeal : Cert.InWIdeal.Facts) (hInWRefIdeal : Cert.InWRefIdeal.Facts) (hConvLnB : Cert.ConvLnB.Facts) (hConvLnBIdeal : Cert.ConvLnBIdeal.Facts) (hConvLnBRefIdeal : Cert.ConvLnBRefIdeal.Facts) (hS5GluB : Cert.S5GluB.Facts) (hS5GluBIdeal : Cert.S5GluBIdeal.Facts) (hS5GluBRefIdeal : Cert.S5GluBRefIdeal.Facts) (hS5ActB : Cert.S5ActB.Facts) (hS5ActBIdeal : Cert.S5ActBIdeal.Facts) (hS5ActBRefIdeal : Cert.S5ActBRefIdeal.Facts) (hInP : Cert.InP.Facts) (hInPIdeal : Cert.InPIdeal.Facts) (hInPRefIdeal : Cert.InPRefIdeal.Facts) (hGateP : Cert.GateP.Facts) (hGatePIdeal : Cert.GatePIdeal.Facts) (hGatePRefIdeal : Cert.GatePRefIdeal.Facts) (hBranchP : Cert.BranchP.Facts) (hBranchPIdeal : Cert.BranchPIdeal.Facts) (hBranchPRefIdeal : Cert.BranchPRefIdeal.Facts) (hOutP : Cert.OutP.Facts) (hOutPIdeal : Cert.OutPIdeal.Facts) (hOutPRefIdeal : Cert.OutPRefIdeal.Facts) (hFf1P : Cert.Ff1P.Facts) (hFf1PIdeal : Cert.Ff1PIdeal.Facts) (hFf1PRefIdeal : Cert.Ff1PRefIdeal.Facts) (hFf2P : Cert.Ff2P.Facts) (hFf2PIdeal : Cert.Ff2PIdeal.Facts) (hFf2PRefIdeal : Cert.Ff2PRefIdeal.Facts) (hGluP : Cert.GluP.Facts) (hGluPIdeal : Cert.GluPIdeal.Facts) (hGluPRefIdeal : Cert.GluPRefIdeal.Facts) (hGluPB : Cert.GluPB.Facts) (hGluPBIdeal : Cert.GluPBIdeal.Facts) (hGluPBRefIdeal : Cert.GluPBRefIdeal.Facts) (hGluPW : Cert.GluPW.Facts) (hGluPWIdeal : Cert.GluPWIdeal.Facts) (hGluPWRefIdeal : Cert.GluPWRefIdeal.Facts) (hMergeP : Cert.MergeP.Facts) (hMergePIdeal : Cert.MergePIdeal.Facts) (hMergePRefIdeal : Cert.MergePRefIdeal.Facts) (hS5ActP : Cert.S5ActP.Facts) (hS5ActPIdeal : Cert.S5ActPIdeal.Facts) (hS5ActPRefIdeal : Cert.S5ActPRefIdeal.Facts) (hS5GluP : Cert.S5GluP.Facts) (hS5GluPIdeal : Cert.S5GluPIdeal.Facts) (hS5GluPRefIdeal : Cert.S5GluPRefIdeal.Facts) (hNorm1P : Cert.Norm1P.Facts) (hNorm1PIdeal : Cert.Norm1PIdeal.Facts) (hNorm1PRefIdeal : Cert.Norm1PRefIdeal.Facts) (hResidP : Cert.ResidP.Facts) (hResidPIdeal : Cert.ResidPIdeal.Facts) (hResidPRefIdeal : Cert.ResidPRefIdeal.Facts) (hGmlpP : Cert.GmlpP.Facts) (hGmlpPIdeal : Cert.GmlpPIdeal.Facts) (hGmlpPRefIdeal : Cert.GmlpPRefIdeal.Facts) (hS5InP : Cert.S5InP.Facts) (hS5InPIdeal : Cert.S5InPIdeal.Facts) (hS5InPRefIdeal : Cert.S5InPRefIdeal.Facts) (hS5OutP : Cert.S5OutP.Facts) (hS5OutPIdeal : Cert.S5OutPIdeal.Facts) (hS5OutPRefIdeal : Cert.S5OutPRefIdeal.Facts) (hS5OutA : Cert.S5OutA.Facts) (hS5OutAIdeal : Cert.S5OutAIdeal.Facts) (hS5OutARefIdeal : Cert.S5OutARefIdeal.Facts) (hS5OutB : Cert.S5OutB.Facts) (hS5OutBIdeal : Cert.S5OutBIdeal.Facts) (hS5OutBRefIdeal : Cert.S5OutBRefIdeal.Facts) (hS5OutW : Cert.S5OutW.Facts) (hS5OutWIdeal : Cert.S5OutWIdeal.Facts) (hS5OutWRefIdeal : Cert.S5OutWRefIdeal.Facts) (hS5InB : Cert.S5InB.Facts) (hS5InBIdeal : Cert.S5InBIdeal.Facts) (hS5InBRefIdeal : Cert.S5InBRefIdeal.Facts) (hS5InW : Cert.S5InW.Facts) (hS5InWIdeal : Cert.S5InWIdeal.Facts) (hS5InWRefIdeal : Cert.S5InWRefIdeal.Facts) (hConvF : Cert.ConvF.Facts) (hConvFIdeal : Cert.ConvFIdeal.Facts) (hConvFRefIdeal : Cert.ConvFRefIdeal.Facts) (hSiluP : Cert.SiluP.Facts) (hSiluPIdeal : Cert.SiluPIdeal.Facts) (hSiluPRefIdeal : Cert.SiluPRefIdeal.Facts) (hModP : Cert.ModP.Facts) (hModPIdeal : Cert.ModPIdeal.Facts) (hModPRefIdeal : Cert.ModPRefIdeal.Facts) (hModW : Cert.ModW.Facts) (hModWIdeal : Cert.ModWIdeal.Facts) (hModWRefIdeal : Cert.ModWRefIdeal.Facts) (hModBG : Cert.ModBG.Facts) (hModBGIdeal : Cert.ModBGIdeal.Facts) (hModBGRefIdeal : Cert.ModBGRefIdeal.Facts) (hModB : Cert.ModB.Facts) (hModBIdeal : Cert.ModBIdeal.Facts) (hModBRefIdeal : Cert.ModBRefIdeal.Facts) (hModBA : Cert.ModBA.Facts) (hModBAIdeal : Cert.ModBAIdeal.Facts) (hModBARefIdeal : Cert.ModBARefIdeal.Facts) (hSiluB : Cert.SiluB.Facts) (hSiluBIdeal : Cert.SiluBIdeal.Facts) (hSiluBRefIdeal : Cert.SiluBRefIdeal.Facts) (hAdMod : Cert.AdMod.Facts) (hAdModIdeal : Cert.AdModIdeal.Facts) (hAdModRefIdeal : Cert.AdModRefIdeal.Facts) (hAdIn : Cert.AdIn.Facts) (hAdInIdeal : Cert.AdInIdeal.Facts) (hAdInRefIdeal : Cert.AdInRefIdeal.Facts) (hAdGlu : Cert.AdGlu.Facts) (hAdGluIdeal : Cert.AdGluIdeal.Facts) (hAdGluRefIdeal : Cert.AdGluRefIdeal.Facts) (hAdBr : Cert.AdBr.Facts) (hAdBrIdeal : Cert.AdBrIdeal.Facts) (hAdBrRefIdeal : Cert.AdBrRefIdeal.Facts) (hAdFf : Cert.AdFf.Facts) (hAdFfIdeal : Cert.AdFfIdeal.Facts) (hAdFfRefIdeal : Cert.AdFfRefIdeal.Facts) (hAdOut : Cert.AdOut.Facts) (hAdOutIdeal : Cert.AdOutIdeal.Facts) (hAdOutRefIdeal : Cert.AdOutRefIdeal.Facts),
    quiescent_MergeB (hMergeB := hMergeB)
    ∧ quiescent_MergeBIdeal (hMergeBIdeal := hMergeBIdeal)
    ∧ quiescent_MergeBRefIdeal (hMergeBRefIdeal := hMergeBRefIdeal)
    ∧ quiescent_Ff2B (hFf2B := hFf2B)
    ∧ quiescent_Ff2BIdeal (hFf2BIdeal := hFf2BIdeal)
    ∧ quiescent_Ff2BRefIdeal (hFf2BRefIdeal := hFf2BRefIdeal)
    ∧ quiescent_Ff2W (hFf2W := hFf2W)
    ∧ quiescent_Ff2WIdeal (hFf2WIdeal := hFf2WIdeal)
    ∧ quiescent_Ff2WRefIdeal (hFf2WRefIdeal := hFf2WRefIdeal)
    ∧ quiescent_Ff1B (hFf1B := hFf1B)
    ∧ quiescent_Ff1BIdeal (hFf1BIdeal := hFf1BIdeal)
    ∧ quiescent_Ff1BRefIdeal (hFf1BRefIdeal := hFf1BRefIdeal)
    ∧ quiescent_Ff1W (hFf1W := hFf1W)
    ∧ quiescent_Ff1WIdeal (hFf1WIdeal := hFf1WIdeal)
    ∧ quiescent_Ff1WRefIdeal (hFf1WRefIdeal := hFf1WRefIdeal)
    ∧ quiescent_GateW (hGateW := hGateW)
    ∧ quiescent_GateWIdeal (hGateWIdeal := hGateWIdeal)
    ∧ quiescent_GateWRefIdeal (hGateWRefIdeal := hGateWRefIdeal)
    ∧ quiescent_GateB (hGateB := hGateB)
    ∧ quiescent_GateBIdeal (hGateBIdeal := hGateBIdeal)
    ∧ quiescent_GateBRefIdeal (hGateBRefIdeal := hGateBRefIdeal)
    ∧ quiescent_GmlpB (hGmlpB := hGmlpB)
    ∧ quiescent_GmlpBIdeal (hGmlpBIdeal := hGmlpBIdeal)
    ∧ quiescent_GmlpBRefIdeal (hGmlpBRefIdeal := hGmlpBRefIdeal)
    ∧ quiescent_OutB (hOutB := hOutB)
    ∧ quiescent_OutBIdeal (hOutBIdeal := hOutBIdeal)
    ∧ quiescent_OutBRefIdeal (hOutBRefIdeal := hOutBRefIdeal)
    ∧ quiescent_OutW (hOutW := hOutW)
    ∧ quiescent_OutWIdeal (hOutWIdeal := hOutWIdeal)
    ∧ quiescent_OutWRefIdeal (hOutWRefIdeal := hOutWRefIdeal)
    ∧ quiescent_BranchB (hBranchB := hBranchB)
    ∧ quiescent_BranchBIdeal (hBranchBIdeal := hBranchBIdeal)
    ∧ quiescent_BranchBRefIdeal (hBranchBRefIdeal := hBranchBRefIdeal)
    ∧ quiescent_BranchW (hBranchW := hBranchW)
    ∧ quiescent_BranchWIdeal (hBranchWIdeal := hBranchWIdeal)
    ∧ quiescent_BranchWRefIdeal (hBranchWRefIdeal := hBranchWRefIdeal)
    ∧ quiescent_InB (hInB := hInB)
    ∧ quiescent_InBIdeal (hInBIdeal := hInBIdeal)
    ∧ quiescent_InBRefIdeal (hInBRefIdeal := hInBRefIdeal)
    ∧ quiescent_InW (hInW := hInW)
    ∧ quiescent_InWIdeal (hInWIdeal := hInWIdeal)
    ∧ quiescent_InWRefIdeal (hInWRefIdeal := hInWRefIdeal)
    ∧ quiescent_ConvLnB (hConvLnB := hConvLnB)
    ∧ quiescent_ConvLnBIdeal (hConvLnBIdeal := hConvLnBIdeal)
    ∧ quiescent_ConvLnBRefIdeal (hConvLnBRefIdeal := hConvLnBRefIdeal)
    ∧ quiescent_S5GluB (hS5GluB := hS5GluB)
    ∧ quiescent_S5GluBIdeal (hS5GluBIdeal := hS5GluBIdeal)
    ∧ quiescent_S5GluBRefIdeal (hS5GluBRefIdeal := hS5GluBRefIdeal)
    ∧ quiescent_S5ActB (hS5ActB := hS5ActB)
    ∧ quiescent_S5ActBIdeal (hS5ActBIdeal := hS5ActBIdeal)
    ∧ quiescent_S5ActBRefIdeal (hS5ActBRefIdeal := hS5ActBRefIdeal)
    ∧ quiescent_InP (hInP := hInP)
    ∧ quiescent_InPIdeal (hInPIdeal := hInPIdeal)
    ∧ quiescent_InPRefIdeal (hInPRefIdeal := hInPRefIdeal)
    ∧ quiescent_GateP (hGateP := hGateP)
    ∧ quiescent_GatePIdeal (hGatePIdeal := hGatePIdeal)
    ∧ quiescent_GatePRefIdeal (hGatePRefIdeal := hGatePRefIdeal)
    ∧ quiescent_BranchP (hBranchP := hBranchP)
    ∧ quiescent_BranchPIdeal (hBranchPIdeal := hBranchPIdeal)
    ∧ quiescent_BranchPRefIdeal (hBranchPRefIdeal := hBranchPRefIdeal)
    ∧ quiescent_OutP (hOutP := hOutP)
    ∧ quiescent_OutPIdeal (hOutPIdeal := hOutPIdeal)
    ∧ quiescent_OutPRefIdeal (hOutPRefIdeal := hOutPRefIdeal)
    ∧ quiescent_Ff1P (hFf1P := hFf1P)
    ∧ quiescent_Ff1PIdeal (hFf1PIdeal := hFf1PIdeal)
    ∧ quiescent_Ff1PRefIdeal (hFf1PRefIdeal := hFf1PRefIdeal)
    ∧ quiescent_Ff2P (hFf2P := hFf2P)
    ∧ quiescent_Ff2PIdeal (hFf2PIdeal := hFf2PIdeal)
    ∧ quiescent_Ff2PRefIdeal (hFf2PRefIdeal := hFf2PRefIdeal)
    ∧ quiescent_GluP (hGluP := hGluP)
    ∧ quiescent_GluPIdeal (hGluPIdeal := hGluPIdeal)
    ∧ quiescent_GluPRefIdeal (hGluPRefIdeal := hGluPRefIdeal)
    ∧ quiescent_GluPB (hGluPB := hGluPB)
    ∧ quiescent_GluPBIdeal (hGluPBIdeal := hGluPBIdeal)
    ∧ quiescent_GluPBRefIdeal (hGluPBRefIdeal := hGluPBRefIdeal)
    ∧ quiescent_GluPW (hGluPW := hGluPW)
    ∧ quiescent_GluPWIdeal (hGluPWIdeal := hGluPWIdeal)
    ∧ quiescent_GluPWRefIdeal (hGluPWRefIdeal := hGluPWRefIdeal)
    ∧ quiescent_MergeP (hMergeP := hMergeP)
    ∧ quiescent_MergePIdeal (hMergePIdeal := hMergePIdeal)
    ∧ quiescent_MergePRefIdeal (hMergePRefIdeal := hMergePRefIdeal)
    ∧ quiescent_S5ActP (hS5ActP := hS5ActP)
    ∧ quiescent_S5ActPIdeal (hS5ActPIdeal := hS5ActPIdeal)
    ∧ quiescent_S5ActPRefIdeal (hS5ActPRefIdeal := hS5ActPRefIdeal)
    ∧ quiescent_S5GluP (hS5GluP := hS5GluP)
    ∧ quiescent_S5GluPIdeal (hS5GluPIdeal := hS5GluPIdeal)
    ∧ quiescent_S5GluPRefIdeal (hS5GluPRefIdeal := hS5GluPRefIdeal)
    ∧ quiescent_Norm1P (hNorm1P := hNorm1P)
    ∧ quiescent_Norm1PIdeal (hNorm1PIdeal := hNorm1PIdeal)
    ∧ quiescent_Norm1PRefIdeal (hNorm1PRefIdeal := hNorm1PRefIdeal)
    ∧ quiescent_ResidP (hResidP := hResidP)
    ∧ quiescent_ResidPIdeal (hResidPIdeal := hResidPIdeal)
    ∧ quiescent_ResidPRefIdeal (hResidPRefIdeal := hResidPRefIdeal)
    ∧ quiescent_GmlpP (hGmlpP := hGmlpP)
    ∧ quiescent_GmlpPIdeal (hGmlpPIdeal := hGmlpPIdeal)
    ∧ quiescent_GmlpPRefIdeal (hGmlpPRefIdeal := hGmlpPRefIdeal)
    ∧ quiescent_S5InP (hS5InP := hS5InP)
    ∧ quiescent_S5InPIdeal (hS5InPIdeal := hS5InPIdeal)
    ∧ quiescent_S5InPRefIdeal (hS5InPRefIdeal := hS5InPRefIdeal)
    ∧ quiescent_S5OutP (hS5OutP := hS5OutP)
    ∧ quiescent_S5OutPIdeal (hS5OutPIdeal := hS5OutPIdeal)
    ∧ quiescent_S5OutPRefIdeal (hS5OutPRefIdeal := hS5OutPRefIdeal)
    ∧ quiescent_S5OutA (hS5OutA := hS5OutA)
    ∧ quiescent_S5OutAIdeal (hS5OutAIdeal := hS5OutAIdeal)
    ∧ quiescent_S5OutARefIdeal (hS5OutARefIdeal := hS5OutARefIdeal)
    ∧ quiescent_S5OutB (hS5OutB := hS5OutB)
    ∧ quiescent_S5OutBIdeal (hS5OutBIdeal := hS5OutBIdeal)
    ∧ quiescent_S5OutBRefIdeal (hS5OutBRefIdeal := hS5OutBRefIdeal)
    ∧ quiescent_S5OutW (hS5OutW := hS5OutW)
    ∧ quiescent_S5OutWIdeal (hS5OutWIdeal := hS5OutWIdeal)
    ∧ quiescent_S5OutWRefIdeal (hS5OutWRefIdeal := hS5OutWRefIdeal)
    ∧ quiescent_S5InB (hS5InB := hS5InB)
    ∧ quiescent_S5InBIdeal (hS5InBIdeal := hS5InBIdeal)
    ∧ quiescent_S5InBRefIdeal (hS5InBRefIdeal := hS5InBRefIdeal)
    ∧ quiescent_S5InW (hS5InW := hS5InW)
    ∧ quiescent_S5InWIdeal (hS5InWIdeal := hS5InWIdeal)
    ∧ quiescent_S5InWRefIdeal (hS5InWRefIdeal := hS5InWRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_SiluP (hSiluP := hSiluP)
    ∧ quiescent_SiluPIdeal (hSiluPIdeal := hSiluPIdeal)
    ∧ quiescent_SiluPRefIdeal (hSiluPRefIdeal := hSiluPRefIdeal)
    ∧ quiescent_ModP (hModP := hModP)
    ∧ quiescent_ModPIdeal (hModPIdeal := hModPIdeal)
    ∧ quiescent_ModPRefIdeal (hModPRefIdeal := hModPRefIdeal)
    ∧ quiescent_ModW (hModW := hModW)
    ∧ quiescent_ModWIdeal (hModWIdeal := hModWIdeal)
    ∧ quiescent_ModWRefIdeal (hModWRefIdeal := hModWRefIdeal)
    ∧ quiescent_ModBG (hModBG := hModBG)
    ∧ quiescent_ModBGIdeal (hModBGIdeal := hModBGIdeal)
    ∧ quiescent_ModBGRefIdeal (hModBGRefIdeal := hModBGRefIdeal)
    ∧ quiescent_ModB (hModB := hModB)
    ∧ quiescent_ModBIdeal (hModBIdeal := hModBIdeal)
    ∧ quiescent_ModBRefIdeal (hModBRefIdeal := hModBRefIdeal)
    ∧ quiescent_ModBA (hModBA := hModBA)
    ∧ quiescent_ModBAIdeal (hModBAIdeal := hModBAIdeal)
    ∧ quiescent_ModBARefIdeal (hModBARefIdeal := hModBARefIdeal)
    ∧ quiescent_SiluB (hSiluB := hSiluB)
    ∧ quiescent_SiluBIdeal (hSiluBIdeal := hSiluBIdeal)
    ∧ quiescent_SiluBRefIdeal (hSiluBRefIdeal := hSiluBRefIdeal)
    ∧ quiescent_AdMod (hAdMod := hAdMod)
    ∧ quiescent_AdModIdeal (hAdModIdeal := hAdModIdeal)
    ∧ quiescent_AdModRefIdeal (hAdModRefIdeal := hAdModRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdGlu (hAdGlu := hAdGlu)
    ∧ quiescent_AdGluIdeal (hAdGluIdeal := hAdGluIdeal)
    ∧ quiescent_AdGluRefIdeal (hAdGluRefIdeal := hAdGluRefIdeal)
    ∧ quiescent_AdBr (hAdBr := hAdBr)
    ∧ quiescent_AdBrIdeal (hAdBrIdeal := hAdBrIdeal)
    ∧ quiescent_AdBrRefIdeal (hAdBrRefIdeal := hAdBrRefIdeal)
    ∧ quiescent_AdFf (hAdFf := hAdFf)
    ∧ quiescent_AdFfIdeal (hAdFfIdeal := hAdFfIdeal)
    ∧ quiescent_AdFfRefIdeal (hAdFfRefIdeal := hAdFfRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ preserves_MergeB_MergeBIdeal
    ∧ algebraic_MergeBIdeal_MergeBRefIdeal (hMergeBIdeal := hMergeBIdeal) (hMergeBRefIdeal := hMergeBRefIdeal)
    ∧ preserves_Ff2B_Ff2BIdeal
    ∧ algebraic_Ff2BIdeal_Ff2BRefIdeal (hFf2BIdeal := hFf2BIdeal) (hFf2BRefIdeal := hFf2BRefIdeal)
    ∧ preserves_Ff2W_Ff2WIdeal
    ∧ algebraic_Ff2WIdeal_Ff2WRefIdeal (hFf2WIdeal := hFf2WIdeal) (hFf2WRefIdeal := hFf2WRefIdeal)
    ∧ preserves_Ff1B_Ff1BIdeal
    ∧ algebraic_Ff1BIdeal_Ff1BRefIdeal (hFf1BIdeal := hFf1BIdeal) (hFf1BRefIdeal := hFf1BRefIdeal)
    ∧ preserves_Ff1W_Ff1WIdeal
    ∧ algebraic_Ff1WIdeal_Ff1WRefIdeal (hFf1WIdeal := hFf1WIdeal) (hFf1WRefIdeal := hFf1WRefIdeal)
    ∧ preserves_GateW_GateWIdeal
    ∧ algebraic_GateWIdeal_GateWRefIdeal (hGateWIdeal := hGateWIdeal) (hGateWRefIdeal := hGateWRefIdeal)
    ∧ preserves_GateB_GateBIdeal
    ∧ algebraic_GateBIdeal_GateBRefIdeal (hGateBIdeal := hGateBIdeal) (hGateBRefIdeal := hGateBRefIdeal)
    ∧ preserves_GmlpB_GmlpBIdeal
    ∧ algebraic_GmlpBIdeal_GmlpBRefIdeal (hGmlpBIdeal := hGmlpBIdeal) (hGmlpBRefIdeal := hGmlpBRefIdeal)
    ∧ preserves_OutB_OutBIdeal
    ∧ algebraic_OutBIdeal_OutBRefIdeal (hOutBIdeal := hOutBIdeal) (hOutBRefIdeal := hOutBRefIdeal)
    ∧ preserves_OutW_OutWIdeal
    ∧ algebraic_OutWIdeal_OutWRefIdeal (hOutWIdeal := hOutWIdeal) (hOutWRefIdeal := hOutWRefIdeal)
    ∧ preserves_BranchB_BranchBIdeal
    ∧ algebraic_BranchBIdeal_BranchBRefIdeal (hBranchBIdeal := hBranchBIdeal) (hBranchBRefIdeal := hBranchBRefIdeal)
    ∧ preserves_BranchW_BranchWIdeal
    ∧ algebraic_BranchWIdeal_BranchWRefIdeal (hBranchWIdeal := hBranchWIdeal) (hBranchWRefIdeal := hBranchWRefIdeal)
    ∧ preserves_InB_InBIdeal
    ∧ algebraic_InBIdeal_InBRefIdeal (hInBIdeal := hInBIdeal) (hInBRefIdeal := hInBRefIdeal)
    ∧ preserves_InW_InWIdeal
    ∧ algebraic_InWIdeal_InWRefIdeal (hInWIdeal := hInWIdeal) (hInWRefIdeal := hInWRefIdeal)
    ∧ preserves_ConvLnB_ConvLnBIdeal
    ∧ algebraic_ConvLnBIdeal_ConvLnBRefIdeal (hConvLnBIdeal := hConvLnBIdeal) (hConvLnBRefIdeal := hConvLnBRefIdeal)
    ∧ preserves_S5GluB_S5GluBIdeal
    ∧ algebraic_S5GluBIdeal_S5GluBRefIdeal (hS5GluBIdeal := hS5GluBIdeal) (hS5GluBRefIdeal := hS5GluBRefIdeal)
    ∧ preserves_S5ActB_S5ActBIdeal
    ∧ algebraic_S5ActBIdeal_S5ActBRefIdeal (hS5ActBIdeal := hS5ActBIdeal) (hS5ActBRefIdeal := hS5ActBRefIdeal)
    ∧ preserves_InP_InPIdeal
    ∧ algebraic_InPIdeal_InPRefIdeal (hInPIdeal := hInPIdeal) (hInPRefIdeal := hInPRefIdeal)
    ∧ preserves_GateP_GatePIdeal
    ∧ algebraic_GatePIdeal_GatePRefIdeal (hGatePIdeal := hGatePIdeal) (hGatePRefIdeal := hGatePRefIdeal)
    ∧ preserves_BranchP_BranchPIdeal
    ∧ algebraic_BranchPIdeal_BranchPRefIdeal (hBranchPIdeal := hBranchPIdeal) (hBranchPRefIdeal := hBranchPRefIdeal)
    ∧ preserves_OutP_OutPIdeal
    ∧ algebraic_OutPIdeal_OutPRefIdeal (hOutPIdeal := hOutPIdeal) (hOutPRefIdeal := hOutPRefIdeal)
    ∧ preserves_Ff1P_Ff1PIdeal
    ∧ algebraic_Ff1PIdeal_Ff1PRefIdeal (hFf1PIdeal := hFf1PIdeal) (hFf1PRefIdeal := hFf1PRefIdeal)
    ∧ preserves_Ff2P_Ff2PIdeal
    ∧ algebraic_Ff2PIdeal_Ff2PRefIdeal (hFf2PIdeal := hFf2PIdeal) (hFf2PRefIdeal := hFf2PRefIdeal)
    ∧ preserves_GluP_GluPIdeal
    ∧ algebraic_GluPIdeal_GluPRefIdeal (hGluPIdeal := hGluPIdeal) (hGluPRefIdeal := hGluPRefIdeal)
    ∧ preserves_GluPB_GluPBIdeal
    ∧ algebraic_GluPBIdeal_GluPBRefIdeal (hGluPBIdeal := hGluPBIdeal) (hGluPBRefIdeal := hGluPBRefIdeal)
    ∧ preserves_GluPW_GluPWIdeal
    ∧ algebraic_GluPWIdeal_GluPWRefIdeal (hGluPWIdeal := hGluPWIdeal) (hGluPWRefIdeal := hGluPWRefIdeal)
    ∧ preserves_MergeP_MergePIdeal
    ∧ algebraic_MergePIdeal_MergePRefIdeal (hMergePIdeal := hMergePIdeal) (hMergePRefIdeal := hMergePRefIdeal)
    ∧ preserves_S5ActP_S5ActPIdeal
    ∧ algebraic_S5ActPIdeal_S5ActPRefIdeal (hS5ActPIdeal := hS5ActPIdeal) (hS5ActPRefIdeal := hS5ActPRefIdeal)
    ∧ preserves_S5GluP_S5GluPIdeal
    ∧ algebraic_S5GluPIdeal_S5GluPRefIdeal (hS5GluPIdeal := hS5GluPIdeal) (hS5GluPRefIdeal := hS5GluPRefIdeal)
    ∧ preserves_Norm1P_Norm1PIdeal
    ∧ algebraic_Norm1PIdeal_Norm1PRefIdeal (hNorm1PIdeal := hNorm1PIdeal) (hNorm1PRefIdeal := hNorm1PRefIdeal)
    ∧ preserves_ResidP_ResidPIdeal
    ∧ algebraic_ResidPIdeal_ResidPRefIdeal (hResidPIdeal := hResidPIdeal) (hResidPRefIdeal := hResidPRefIdeal)
    ∧ preserves_GmlpP_GmlpPIdeal
    ∧ algebraic_GmlpPIdeal_GmlpPRefIdeal (hGmlpPIdeal := hGmlpPIdeal) (hGmlpPRefIdeal := hGmlpPRefIdeal)
    ∧ preserves_S5InP_S5InPIdeal
    ∧ algebraic_S5InPIdeal_S5InPRefIdeal (hS5InPIdeal := hS5InPIdeal) (hS5InPRefIdeal := hS5InPRefIdeal)
    ∧ preserves_S5OutP_S5OutPIdeal
    ∧ algebraic_S5OutPIdeal_S5OutPRefIdeal (hS5OutPIdeal := hS5OutPIdeal) (hS5OutPRefIdeal := hS5OutPRefIdeal)
    ∧ preserves_S5OutA_S5OutAIdeal
    ∧ algebraic_S5OutAIdeal_S5OutARefIdeal (hS5OutAIdeal := hS5OutAIdeal) (hS5OutARefIdeal := hS5OutARefIdeal)
    ∧ preserves_S5OutB_S5OutBIdeal
    ∧ algebraic_S5OutBIdeal_S5OutBRefIdeal (hS5OutBIdeal := hS5OutBIdeal) (hS5OutBRefIdeal := hS5OutBRefIdeal)
    ∧ preserves_S5OutW_S5OutWIdeal
    ∧ algebraic_S5OutWIdeal_S5OutWRefIdeal (hS5OutWIdeal := hS5OutWIdeal) (hS5OutWRefIdeal := hS5OutWRefIdeal)
    ∧ preserves_S5InB_S5InBIdeal
    ∧ algebraic_S5InBIdeal_S5InBRefIdeal (hS5InBIdeal := hS5InBIdeal) (hS5InBRefIdeal := hS5InBRefIdeal)
    ∧ preserves_S5InW_S5InWIdeal
    ∧ algebraic_S5InWIdeal_S5InWRefIdeal (hS5InWIdeal := hS5InWIdeal) (hS5InWRefIdeal := hS5InWRefIdeal)
    ∧ preserves_ConvF_ConvFIdeal
    ∧ algebraic_ConvFIdeal_ConvFRefIdeal (hConvFIdeal := hConvFIdeal) (hConvFRefIdeal := hConvFRefIdeal)
    ∧ preserves_SiluP_SiluPIdeal
    ∧ algebraic_SiluPIdeal_SiluPRefIdeal (hSiluPIdeal := hSiluPIdeal) (hSiluPRefIdeal := hSiluPRefIdeal)
    ∧ preserves_ModP_ModPIdeal
    ∧ algebraic_ModPIdeal_ModPRefIdeal (hModPIdeal := hModPIdeal) (hModPRefIdeal := hModPRefIdeal)
    ∧ preserves_ModW_ModWIdeal
    ∧ algebraic_ModWIdeal_ModWRefIdeal (hModWIdeal := hModWIdeal) (hModWRefIdeal := hModWRefIdeal)
    ∧ preserves_ModBG_ModBGIdeal
    ∧ algebraic_ModBGIdeal_ModBGRefIdeal (hModBGIdeal := hModBGIdeal) (hModBGRefIdeal := hModBGRefIdeal)
    ∧ preserves_ModB_ModBIdeal
    ∧ algebraic_ModBIdeal_ModBRefIdeal (hModBIdeal := hModBIdeal) (hModBRefIdeal := hModBRefIdeal)
    ∧ preserves_ModBA_ModBAIdeal
    ∧ algebraic_ModBAIdeal_ModBARefIdeal (hModBAIdeal := hModBAIdeal) (hModBARefIdeal := hModBARefIdeal)
    ∧ preserves_SiluB_SiluBIdeal
    ∧ algebraic_SiluBIdeal_SiluBRefIdeal (hSiluBIdeal := hSiluBIdeal) (hSiluBRefIdeal := hSiluBRefIdeal)
    ∧ preserves_AdMod_AdModIdeal
    ∧ algebraic_AdModIdeal_AdModRefIdeal (hAdModIdeal := hAdModIdeal) (hAdModRefIdeal := hAdModRefIdeal)
    ∧ preserves_AdIn_AdInIdeal
    ∧ algebraic_AdInIdeal_AdInRefIdeal (hAdInIdeal := hAdInIdeal) (hAdInRefIdeal := hAdInRefIdeal)
    ∧ preserves_AdGlu_AdGluIdeal
    ∧ algebraic_AdGluIdeal_AdGluRefIdeal (hAdGluIdeal := hAdGluIdeal) (hAdGluRefIdeal := hAdGluRefIdeal)
    ∧ preserves_AdBr_AdBrIdeal
    ∧ algebraic_AdBrIdeal_AdBrRefIdeal (hAdBrIdeal := hAdBrIdeal) (hAdBrRefIdeal := hAdBrRefIdeal)
    ∧ preserves_AdFf_AdFfIdeal
    ∧ algebraic_AdFfIdeal_AdFfRefIdeal (hAdFfIdeal := hAdFfIdeal) (hAdFfRefIdeal := hAdFfRefIdeal)
    ∧ preserves_AdOut_AdOutIdeal
    ∧ algebraic_AdOutIdeal_AdOutRefIdeal (hAdOutIdeal := hAdOutIdeal) (hAdOutRefIdeal := hAdOutRefIdeal)
-- ==== MergeB.lean ====
abbrev S8448x8192 : Shape := ⟨2, ![8448, 8192]⟩
abbrev S8448x2048 : Shape := ⟨2, ![8448, 2048]⟩
abbrev S1x8192 : Shape := ⟨2, ![1, 8192]⟩
abbrev S64x8192 : Shape := ⟨2, ![64, 8192]⟩
abbrev S64x2048 : Shape := ⟨2, ![64, 2048]⟩
abbrev S64x6144 : Shape := ⟨2, ![64, 6144]⟩
abbrev S64x4096 : Shape := ⟨2, ![64, 4096]⟩
abbrev S8192 : Shape := ⟨1, ![8192]⟩

abbrev nBuf : Space → Nat
  | .hbm => 13
  | .vmem => 24
  | .smem => 0
  | _ => 0

abbrev bufTy : (tb : Table) → Fin (tcTables nBuf tb) → BufTy
  | .hbm, ⟨0, _⟩ => ⟨S8448x8192, .f32⟩
  | .hbm, ⟨1, _⟩ => ⟨S8448x2048, .f32⟩
  | .hbm, ⟨2, _⟩ => ⟨S8448x2048, .f32⟩
  | .hbm, ⟨3, _⟩ => ⟨S8448x2048, .f32⟩
  | .hbm, ⟨4, _⟩ => ⟨S8448x2048, .f32⟩
  | .hbm, ⟨5, _⟩ => ⟨S1x8192, .f32⟩
  | .hbm, ⟨6, _⟩ => ⟨S8448x2048, .f32⟩
  | .hbm, ⟨7, _⟩ => ⟨S8448x8192, .bf16⟩
  | .hbm, ⟨8, _⟩ => ⟨S8448x2048, .bf16⟩
  | .hbm, ⟨9, _⟩ => ⟨S8448x2048, .bf16⟩
  | .hbm, ⟨10, _⟩ => ⟨S8448x2048, .bf16⟩
  | .hbm, ⟨11, _⟩ => ⟨S8448x2048, .bf16⟩
  | .hbm, ⟨12, _⟩ => ⟨S1x8192, .f32⟩
  | .local _ .vmem, ⟨0, _⟩ => ⟨S64x8192, .f32⟩
  | .local _ .vmem, ⟨1, _⟩ => ⟨S64x8192, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S1x8192, .f32⟩
  | .local _ .vmem, ⟨11, _⟩ => ⟨S64x2048, .f32⟩
  | .local _ .vmem, ⟨12, _⟩ => ⟨S64x2048, .f32⟩
  | .local _ .vmem, ⟨13, _⟩ => ⟨S64x8192, .bf16⟩
  | .local _ .vmem, ⟨14, _⟩ => ⟨S64x8192, .bf16⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | .local _ .vmem, ⟨18, _⟩ => ⟨S64x2048, .bf16⟩
  | .local _ .vmem, ⟨19, _⟩ => ⟨S64x2048, .bf16⟩
  | .local _ .vmem, ⟨20, _⟩ => ⟨S64x2048, .bf16⟩
  | .local _ .vmem, ⟨21, _⟩ => ⟨S64x2048, .bf16⟩
  | .local _ .vmem, ⟨22, _⟩ => ⟨S64x2048, .bf16⟩
  | .local _ .vmem, ⟨23, _⟩ => ⟨S1x8192, .f32⟩
  | _, _ => ⟨S8448x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![132], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_28 : BitVec 32 := 0#32
  let v57 : BitVec 1 := Scalar.cmpi .ne v56 c0_i32_28
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeBRefIdeal.lean ====
abbrev S8448x8192 : Shape := ⟨2, ![8448, 8192]⟩
abbrev S8448x2048 : Shape := ⟨2, ![8448, 2048]⟩
abbrev S1x8192 : Shape := ⟨2, ![1, 8192]⟩
abbrev S_ : Shape := ⟨0, ![]⟩
abbrev S8448x4x2048 : Shape := ⟨3, ![8448, 4, 2048]⟩
abbrev S8448x1x2048 : Shape := ⟨3, ![8448, 1, 2048]⟩
abbrev S8192 : Shape := ⟨1, ![8192]⟩

abbrev nBuf : Space → Nat
  | .hbm => 51
  | .vmem => 0
  | .smem => 0
  | _ => 0

abbrev bufTy : (tb : Table) → Fin (tcTables nBuf tb) → BufTy
  | .hbm, ⟨0, _⟩ => ⟨S8448x8192, .f32⟩
  | .hbm, ⟨1, _⟩ => ⟨S8448x2048, .f32⟩
  | .hbm, ⟨2, _⟩ => ⟨S8448x2048, .f32⟩
  | .hbm, ⟨3, _⟩ => ⟨S8448x2048, .f32⟩
  | .hbm, ⟨4, _⟩ => ⟨S8448x2048, .f32⟩
  | .hbm, ⟨5, _⟩ => ⟨S1x8192, .f32⟩
  | .hbm, ⟨6, _⟩ => ⟨S8448x2048, .f32⟩
  | .hbm, ⟨7, _⟩ => ⟨S8448x8192, .f32⟩
  | .hbm, ⟨8, _⟩ => ⟨S8448x8192, .f32⟩
  | .hbm, ⟨9, _⟩ => ⟨S8448x8192, .f32⟩
  | .hbm, ⟨10, _⟩ => ⟨S8448x8192, .f32⟩
  | .hbm, ⟨11, _⟩ => ⟨S_, .f32⟩
  | .hbm, ⟨12, _⟩ => ⟨S8448x8192, .f32⟩
  | .hbm, ⟨13, _⟩ => ⟨S8448x8192, .f32⟩
  | .hbm, ⟨14, _⟩ => ⟨S_, .f32⟩
  | .hbm, ⟨15, _⟩ => ⟨S8448x8192, .f32⟩
  | .hbm, ⟨16, _⟩ => ⟨S8448x8192, .f32⟩
  | .hbm, ⟨17, _⟩ => ⟨S_, .f32⟩
  | .hbm, ⟨18, _⟩ => ⟨S8448x8192, .f32⟩
  | .hbm, ⟨19, _⟩ => ⟨S8448x8192, .f32⟩
  | .hbm, ⟨20, _⟩ => ⟨S8448x8192, .f32⟩
  | .hbm, ⟨21, _⟩ => ⟨S8448x4x2048, .f32⟩
  | .hbm, ⟨22, _⟩ => ⟨S8448x1x2048, .f32⟩
  | .hbm, ⟨23, _⟩ => ⟨S8448x1x2048, .f32⟩
  | .hbm, ⟨24, _⟩ => ⟨S8448x1x2048, .f32⟩
  | .hbm, ⟨25, _⟩ => ⟨S8448x1x2048, .f32⟩
  | .hbm, ⟨26, _⟩ => ⟨S8448x4x2048, .f32⟩
  | .hbm, ⟨27, _⟩ => ⟨S8448x4x2048, .f32⟩
  | .hbm, ⟨28, _⟩ => ⟨S_, .f32⟩
  | .hbm, ⟨29, _⟩ => ⟨S8448x2048, .f32⟩
  | .hbm, ⟨30, _⟩ => ⟨S8448x4x2048, .f32⟩
  | .hbm, ⟨31, _⟩ => ⟨S8448x4x2048, .f32⟩
  | .hbm, ⟨32, _⟩ => ⟨S8448x4x2048, .f32⟩
  | .hbm, ⟨33, _⟩ => ⟨S8448x1x2048, .f32⟩
  | .hbm, ⟨34, _⟩ => ⟨S8448x2048, .f32⟩
  | .hbm, ⟨35, _⟩ => ⟨S8448x1x2048, .f32⟩
  | .hbm, ⟨36, _⟩ => ⟨S8448x2048, .f32⟩
  | .hbm, ⟨37, _⟩ => ⟨S8448x1x2048, .f32⟩
  | .hbm, ⟨38, _⟩ => ⟨S8448x2048, .f32⟩
  | .hbm, ⟨39, _⟩ => ⟨S8448x1x2048, .f32⟩
  | .hbm, ⟨40, _⟩ => ⟨S8448x2048, .f32⟩
  | .hbm, ⟨41, _⟩ => ⟨S8448x8192, .f32⟩
  | .hbm, ⟨42, _⟩ => ⟨S8448x8192, .f32⟩
  | .hbm, ⟨43, _⟩ => ⟨S_, .f32⟩
  | .hbm, ⟨44, _⟩ => ⟨S8192, .f32⟩
  | .hbm, ⟨45, _⟩ => ⟨S1x8192, .f32⟩
  | .hbm, ⟨46, _⟩ => ⟨S8448x8192, .bf16⟩
  | .hbm, ⟨47, _⟩ => ⟨S8448x2048, .bf16⟩
  | .hbm, ⟨48, _⟩ => ⟨S8448x2048, .bf16⟩
  | .hbm, ⟨49, _⟩ => ⟨S8448x2048, .bf16⟩
  | .hbm, ⟨50, _⟩ => ⟨S8448x2048, .bf16⟩
  | _, _ => ⟨S8448x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Ff2B.lean ====
abbrev S8448x2048 : Shape := ⟨2, ![8448, 2048]⟩
abbrev S8192x2048 : Shape := ⟨2, ![8192, 2048]⟩
abbrev S8448x8192 : Shape := ⟨2, ![8448, 8192]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S8192x2048, .bf16⟩
  | .hbm, ⟨2, _⟩ => ⟨S8448x8192, .f32⟩
  | .hbm, ⟨3, _⟩ => ⟨S8448x8192, .bf16⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .bf16⟩
  | .local _ .vmem, ⟨7, _⟩ => ⟨S768x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2BRefIdeal.lean ====
abbrev S8448x2048 : Shape := ⟨2, ![8448, 2048]⟩
abbrev S8192x2048 : Shape := ⟨2, ![8192, 2048]⟩
abbrev S8448x8192 : Shape := ⟨2, ![8448, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8192x2048, .bf16⟩
  | .hbm, ⟨2, _⟩ => ⟨S8448x8192, .f32⟩
  | .hbm, ⟨3, _⟩ => ⟨S_, .f32⟩
  | .hbm, ⟨4, _⟩ => ⟨S8448x8192, .f32⟩
  | .hbm, ⟨5, _⟩ => ⟨S8448x8192, .f32⟩
  | .hbm, ⟨6, _⟩ => ⟨S_, .f32⟩
  | .hbm, ⟨7, _⟩ => ⟨S8448x8192, .f32⟩
  | .hbm, ⟨8, _⟩ => ⟨S8448x8192, .i1⟩
  | .hbm, ⟨9, _⟩ => ⟨S_, .f32⟩
  | .hbm, ⟨10, _⟩ => ⟨S8448x8192, .f32⟩
  | .hbm, ⟨11, _⟩ => ⟨S8448x8192, .f32⟩
  | .hbm, ⟨12, _⟩ => ⟨S_, .f32⟩
  | .hbm, ⟨13, _⟩ => ⟨S8448x8192, .f32⟩
  | .hbm, ⟨14, _⟩ => ⟨S8448x8192, .f32⟩
  | .hbm, ⟨15, _⟩ => ⟨S8192x2048, .f32⟩
  | .hbm, ⟨16, _⟩ => ⟨S8448x2048, .f32⟩
  | .hbm, ⟨17, _⟩ => ⟨S8448x2048, .f32⟩
  | .hbm, ⟨18, _⟩ => ⟨S8448x8192, .f32⟩
  | .hbm, ⟨19, _⟩ => ⟨S8448x8192, .f32⟩
  | .hbm, ⟨20, _⟩ => ⟨S_, .f32⟩
  | .hbm, ⟨21, _⟩ => ⟨S8448x8192, .f32⟩
  | .hbm, ⟨22, _⟩ => ⟨S8448x8192, .f32⟩
  | .hbm, ⟨23, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Ff2W.lean ====
abbrev S8448x8192 : Shape := ⟨2, ![8448, 8192]⟩
abbrev S8448x2048 : Shape := ⟨2, ![8448, 2048]⟩
abbrev S8192x2048 : Shape := ⟨2, ![8192, 2048]⟩
abbrev S1408x1024 : Shape := ⟨2, ![1408, 1024]⟩
abbrev S1408x2048 : Shape := ⟨2, ![1408, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S8448x2048, .bf16⟩
  | .hbm, ⟨2, _⟩ => ⟨S8192x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2WRefIdeal.lean ====
abbrev S8448x8192 : Shape := ⟨2, ![8448, 8192]⟩
abbrev S8448x2048 : Shape := ⟨2, ![8448, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S8448x2048, .bf16⟩
  | .hbm, ⟨2, _⟩ => ⟨S_, .f32⟩
  | .hbm, ⟨3, _⟩ => ⟨S8192x2048, .f32⟩
  | .hbm, ⟨4, _⟩ => ⟨S8448x8192, .f32⟩
  | .hbm, ⟨5, _⟩ => ⟨S8448x2048, .f32⟩
  | .hbm, ⟨6, _⟩ => ⟨S8448x2048, .f32⟩
  | .hbm, ⟨7, _⟩ => ⟨S2048x8192, .f32⟩
  | .hbm, ⟨8, _⟩ => ⟨S8192x2048, .f32⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1B.lean ====
abbrev S8448x8192 : Shape := ⟨2, ![8448, 8192]⟩
abbrev S4x2048x2048 : Shape := ⟨3, ![4, 2048, 2048]⟩
abbrev S8448x2048 : Shape := ⟨2, ![8448, 2048]⟩
abbrev S768x2048 : Shape := ⟨2, ![768, 2048]⟩
abbrev S1x1024x2048 : Shape := ⟨3, ![1, 1024, 2048]⟩
abbrev S768x1024 : Shape := ⟨2, ![768, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S4x2048x2048, .bf16⟩
  | .hbm, ⟨2, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1BRefIdeal.lean ====
abbrev S8448x8192 : Shape := ⟨2, ![8448, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S8448x2048 : Shape := ⟨2, ![8448, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S4x2048x2048, .bf16⟩
  | .hbm, ⟨2, _⟩ => ⟨S4x2048x2048, .f32⟩
  | .hbm, ⟨3, _⟩ => ⟨S2048x4x2048, .f32⟩
  | .hbm, ⟨4, _⟩ => ⟨S2048x8192, .f32⟩
  | .hbm, ⟨5, _⟩ => ⟨S_, .f32⟩
  | .hbm, ⟨6, _⟩ => ⟨S8448x2048, .f32⟩
  | .hbm, ⟨7, _⟩ => ⟨S8448x8192, .f32⟩
  | .hbm, ⟨8, _⟩ => ⟨S8448x8192, .f32⟩
  | .hbm, ⟨9, _⟩ => ⟨S8448x2048, .f32⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff1W.lean ====
abbrev S8448x2048 : Shape := ⟨2, ![8448, 2048]⟩
abbrev S8448x8192 : Shape := ⟨2, ![8448, 8192]⟩
abbrev S4x2048x2048 : Shape := ⟨3, ![4, 2048, 2048]⟩
abbrev S1408x1024 : Shape := ⟨2, ![1408, 1024]⟩
abbrev S1408x2048 : Shape := ⟨2, ![1408, 2048]⟩
abbrev S1x1024x2048 : Shape := ⟨3, ![1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .bf16⟩
  | .hbm, ⟨2, _⟩ => ⟨S4x2048x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1024x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1WRefIdeal.lean ====
abbrev S8448x2048 : Shape := ⟨2, ![8448, 2048]⟩
abbrev S8448x8192 : Shape := ⟨2, ![8448, 8192]⟩
abbrev S_ : Shape := ⟨0, ![]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .bf16⟩
  | .hbm, ⟨2, _⟩ => ⟨S_, .f32⟩
  | .hbm, ⟨3, _⟩ => ⟨S4x2048x2048, .f32⟩
  | .hbm, ⟨4, _⟩ => ⟨S8448x2048, .f32⟩
  | .hbm, ⟨5, _⟩ => ⟨S2048x4x2048, .f32⟩
  | .hbm, ⟨6, _⟩ => ⟨S2048x8192, .f32⟩
  | .hbm, ⟨7, _⟩ => ⟨S8448x8192, .f32⟩
  | .hbm, ⟨8, _⟩ => ⟨S8448x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GateW.lean ====
abbrev S8448x2048 : Shape := ⟨2, ![8448, 2048]⟩
abbrev S8448x8192 : Shape := ⟨2, ![8448, 8192]⟩
abbrev S4x4x512x2048 : Shape := ⟨4, ![4, 4, 512, 2048]⟩
abbrev S1408x512 : Shape := ⟨2, ![1408, 512]⟩
abbrev S1408x2048 : Shape := ⟨2, ![1408, 2048]⟩
abbrev S1x1x512x2048 : Shape := ⟨4, ![1, 1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .bf16⟩
  | .hbm, ⟨2, _⟩ => ⟨S4x4x512x2048, .f32⟩
  | .local _ .vmem, ⟨0, _⟩ => ⟨S1408x512, .bf16⟩
  | .local _ .vmem, ⟨1, _⟩ => ⟨S1408x512, .bf16⟩
  | .local _ .vmem, ⟨2, _⟩ => ⟨S1408x2048, .bf16⟩
  | .local _ .vmem, ⟨3, _⟩ => ⟨S1408x2048, .bf16⟩
  | .local _ .vmem, ⟨4, _⟩ => ⟨S1x1x512x2048, .f32⟩
  | .local _ .vmem, ⟨5, _⟩ => ⟨S1x1x512x2048, .f32⟩
  | .local _ .vmem, ⟨6, _⟩ => ⟨S512x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWRefIdeal.lean ====
abbrev S8448x2048 : Shape := ⟨2, ![8448, 2048]⟩
abbrev S8448x8192 : Shape := ⟨2, ![8448, 8192]⟩
abbrev S_ : Shape := ⟨0, ![]⟩
abbrev S4x4x512x2048 : Shape := ⟨4, ![4, 4, 512, 2048]⟩
abbrev S4x512x4x2048 : Shape := ⟨4, ![4, 512, 4, 2048]⟩
abbrev S2048x8192 : Shape := ⟨2, ![2048, 8192]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x8192, .bf16⟩
  | .hbm, ⟨2, _⟩ => ⟨S_, .f32⟩
  | .hbm, ⟨3, _⟩ => ⟨S4x4x512x2048, .f32⟩
  | .hbm, ⟨4, _⟩ => ⟨S8448x2048, .f32⟩
  | .hbm, ⟨5, _⟩ => ⟨S4x512x4x2048, .f32⟩
  | .hbm, ⟨6, _⟩ => ⟨S2048x8192, .f32⟩
  | .hbm, ⟨7, _⟩ => ⟨S8448x8192, .f32⟩
  | .hbm, ⟨8, _⟩ => ⟨S8448x8192, .f32⟩
  | .hbm, ⟨9, _⟩ => ⟨S8192x2048, .f32⟩
  | .hbm, ⟨10, _⟩ => ⟨S2048x8192, .f32⟩
  | .hbm, ⟨11, _⟩ => ⟨S4x512x4x2048, .f32⟩
  | .hbm, ⟨12, _⟩ => ⟨S4x4x512x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GateB.lean ====
abbrev S8448x8192 : Shape := ⟨2, ![8448, 8192]⟩
abbrev S4x4x512x2048 : Shape := ⟨4, ![4, 4, 512, 2048]⟩
abbrev S8448x2048 : Shape := ⟨2, ![8448, 2048]⟩
abbrev S768x2048 : Shape := ⟨2, ![768, 2048]⟩
abbrev S2x1x512x2048 : Shape := ⟨4, ![2, 1, 512, 2048]⟩
abbrev S768x1024 : Shape := ⟨2, ![768, 1024]⟩
abbrev S2x512x2048 : Shape := ⟨3, ![2, 512, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S4x4x512x2048, .bf16⟩
  | .hbm, ⟨2, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2x1x512x2048, .bf16⟩
  | .local _ .vmem, ⟨3, _⟩ => ⟨S2x1x512x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateBRefIdeal.lean ====
abbrev S8448x8192 : Shape := ⟨2, ![8448, 8192]⟩
abbrev S4x4x512x2048 : Shape := ⟨4, ![4, 4, 512, 2048]⟩
abbrev S4x512x4x2048 : Shape := ⟨4, ![4, 512, 4, 2048]⟩
abbrev S2048x8192 : Shape := ⟨2, ![2048, 8192]⟩
abbrev S_ : Shape := ⟨0, ![]⟩
abbrev S8448x2048 : Shape := ⟨2, ![8448, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S4x4x512x2048, .bf16⟩
  | .hbm, ⟨2, _⟩ => ⟨S4x4x512x2048, .f32⟩
  | .hbm, ⟨3, _⟩ => ⟨S4x512x4x2048, .f32⟩
  | .hbm, ⟨4, _⟩ => ⟨S2048x8192, .f32⟩
  | .hbm, ⟨5, _⟩ => ⟨S_, .f32⟩
  | .hbm, ⟨6, _⟩ => ⟨S8448x2048, .f32⟩
  | .hbm, ⟨7, _⟩ => ⟨S8448x8192, .f32⟩
  | .hbm, ⟨8, _⟩ => ⟨S8448x8192, .f32⟩
  | .hbm, ⟨9, _⟩ => ⟨S8448x2048, .f32⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GmlpB.lean ====
abbrev S8448x1024 : Shape := ⟨2, ![8448, 1024]⟩
abbrev S1x512 : Shape := ⟨2, ![1, 512]⟩
abbrev S4x128x128 : Shape := ⟨3, ![4, 128, 128]⟩
abbrev S128x512 : Shape := ⟨2, ![128, 512]⟩
abbrev S8448x512 : Shape := ⟨2, ![8448, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x384 : Shape := ⟨2, ![128, 384]⟩
abbrev S3x128x128 : Shape := ⟨3, ![3, 128, 128]⟩
abbrev S128x256 : Shape := ⟨2, ![128, 256]⟩
abbrev S2x128x128 : Shape := ⟨3, ![2, 128, 128]⟩
abbrev S512 : Shape := ⟨1, ![512]⟩

abbrev nBuf : Space → Nat
  | .hbm => 11
  | .vmem => 14
  | .smem => 0
  | _ => 0

abbrev bufTy : (tb : Table) → Fin (tcTables nBuf tb) → BufTy
  | .hbm, ⟨0, _⟩ => ⟨S8448x1024, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S128x512, .f32⟩
  | .hbm, ⟨5, _⟩ => ⟨S8448x512, .f32⟩
  | .hbm, ⟨6, _⟩ => ⟨S8448x1024, .f32⟩
  | .hbm, ⟨7, _⟩ => ⟨S1x512, .f32⟩
  | .hbm, ⟨8, _⟩ => ⟨S1x512, .f32⟩
  | .hbm, ⟨9, _⟩ => ⟨S4x128x128, .f32⟩
  | .hbm, ⟨10, _⟩ => ⟨S128x512, .f32⟩
  | .local _ .vmem, ⟨0, _⟩ => ⟨S256x1024, .f32⟩
  | .local _ .vmem, ⟨1, _⟩ => ⟨S256x1024, .f32⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S128x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v292 : BitVec 1 := Scalar.cmpi .eq arg0 c0_i32
  let v293 : BitVec 32 := Scalar.extui v292
  let c0_i32_82 : BitVec 32 := 0#32
  let v294 : BitVec 1 := Scalar.cmpi .ne v293 c0_i32_82
  v294

def k0_cond2 (i : grid0.Coords) : BitVec 1 :=
  let arg0 : BitVec 32 := BitVec.ofNat 32 (i 0).val
  let c0_i32 : BitVec 32 := 0#32
  let v292 : BitVec 1 := Scalar.cmpi .eq arg0 c0_i32
  let v_true : BitVec 1 := 1#1
  let v295 : BitVec 1 := Scalar.xori v292 v_true
  let v296 : BitVec 32 := Scalar.extui v295
  let c0_i32_83 : BitVec 32 := 0#32
  let v297 : BitVec 1 := Scalar.cmpi .ne v296 c0_i32_83
  v297

def k0_cond3 (i : grid0.Coords) : BitVec 1 :=
  let arg0 : BitVec 32 := BitVec.ofNat 32 (i 0).val
  let c0_i32_84 : BitVec 32 := 0#32
  let v298 : BitVec 1 := Scalar.cmpi .eq arg0 c0_i32_84
  let v299 : BitVec 32 := Scalar.extui v298
  let c0_i32_85 : BitVec 32 := 0#32
  let v300 : BitVec 1 := Scalar.cmpi .ne v299 c0_i32_85
  v300

def k0_cond4 (i : grid0.Coords) : BitVec 1 :=
  let arg0 : BitVec 32 := BitVec.ofNat 32 (i 0).val
  let c0_i32_84 : BitVec 32 := 0#32
  let v298 : BitVec 1 := Scalar.cmpi .eq arg0 c0_i32_84
  let true_86 : BitVec 1 := 1#1
  let v301 : BitVec 1 := Scalar.xori v298 true_86
  let v302 : BitVec 32 := Scalar.extui v301
  let c0_i32_87 : BitVec 32 := 0#32
  let v303 : BitVec 1 := Scalar.cmpi .ne v302 c0_i32_87
  v303

def k0_cond5 (i : grid0.Coords) : BitVec 1 :=
  let arg0 : BitVec 32 := BitVec.ofNat 32 (i 0).val
  let c0_i32_88 : BitVec 32 := 0#32
  let v304 : BitVec 1 := Scalar.cmpi .eq arg0 c0_i32_88
  let v305 : BitVec 32 := Scalar.extui v304
  let c0_i32_89 : BitVec 32 := 0#32
  let v306 : BitVec 1 := Scalar.cmpi .ne v305 c0_i32_89
  v306

def k0_cond6 (i : grid0.Coords) : BitVec 1 :=
  let arg0 : BitVec 32 := BitVec.ofNat 32 (i 0).val
  let c0_i32_88 : BitVec 32 := 0#32
  let v304 : BitVec 1 := Scalar.cmpi .eq arg0 c0_i32_88
  let true_90 : BitVec 1 := 1#1
  let v307 : BitVec 1 := Scalar.xori v304 true_90
  let v308 : BitVec 32 := Scalar.extui v307
  let c0_i32_91 : BitVec 32 := 0#32
  let v309 : BitVec 1 := Scalar.cmpi .ne v308 c0_i32_91
  v309

def k0_cond7 (i : grid0.Coords) : BitVec 1 :=
  let arg0 : BitVec 32 := BitVec.ofNat 32 (i 0).val
  let c0_i32_92 : BitVec 32 := 0#32
  let v310 : BitVec 1 := Scalar.cmpi .eq arg0 c0_i32_92
  let v311 : BitVec 32 := Scalar.extui v310
  let c0_i32_93 : BitVec 32 := 0#32
  let v312 : BitVec 1 := Scalar.cmpi .ne v311 c0_i32_93
  v312

def k0_cond8 (i : grid0.Coords) : BitVec 1 :=
  let arg0 : BitVec 32 := BitVec.ofNat 32 (i 0).val
  let c0_i32_92 : BitVec 32 := 0#32
  let v310 : BitVec 1 := Scalar.cmpi .eq arg0 c0_i32_92
  let true_94 : BitVec 1 := 1#1
  let v313 : BitVec 1 := Scalar.xori v310 true_94
  let v314 : BitVec 32 := Scalar.extui v313
  let c0_i32_95 : BitVec 32 := 0#32
  let v315 : BitVec 1 := Scalar.cmpi .ne v314 c0_i32_95
  v315

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpBRefIdeal.lean ====
abbrev S8448x1024 : Shape := ⟨2, ![8448, 1024]⟩
abbrev S1x512 : Shape := ⟨2, ![1, 512]⟩
abbrev S4x128x128 : Shape := ⟨3, ![4, 128, 128]⟩
abbrev S128x512 : Shape := ⟨2, ![128, 512]⟩
abbrev S8448x512 : Shape := ⟨2, ![8448, 512]⟩
abbrev S_ : Shape := ⟨0, ![]⟩
abbrev S8448 : Shape := ⟨1, ![8448]⟩
abbrev S8448x1 : Shape := ⟨2, ![8448, 1]⟩
abbrev S66x128x4x128 : Shape := ⟨4, ![66, 128, 4, 128]⟩
abbrev S4x66x128x128 : Shape := ⟨4, ![4, 66, 128, 128]⟩
abbrev S66x128x512 : Shape := ⟨3, ![66, 128, 512]⟩
abbrev S1x128x512 : Shape := ⟨3, ![1, 128, 512]⟩
abbrev S512 : Shape := ⟨1, ![512]⟩

abbrev nBuf : Space → Nat
  | .hbm => 141
  | .vmem => 0
  | .smem => 0
  | _ => 0

abbrev hbmTy0_0 (i : Nat) : BufTy := match i % 128 with
  | 0 => ⟨S8448x1024, .f32⟩
  | 1 => ⟨S1x512, .f32⟩
  | 2 => ⟨S1x512, .f32⟩
  | 3 => ⟨S4x128x128, .f32⟩
  | 4 => ⟨S128x512, .f32⟩
  | 5 => ⟨S8448x512, .f32⟩
  | 6 => ⟨S8448x1024, .f32⟩
  | 7 => ⟨S8448x1024, .f32⟩
  | 8 => ⟨S8448x1024, .f32⟩
  | 9 => ⟨S_, .f32⟩
  | 10 => ⟨S8448x1024, .f32⟩
  | 11 => ⟨S8448x1024, .f32⟩
  | 12 => ⟨S_, .f32⟩
  | 13 => ⟨S8448x1024, .f32⟩
  | 14 => ⟨S8448x1024, .f32⟩
  | 15 => ⟨S8448x1024, .f32⟩
  | 16 => ⟨S_, .f32⟩
  | 17 => ⟨S8448x1024, .f32⟩
  | 18 => ⟨S8448x1024, .f32⟩
  | 19 => ⟨S8448x1024, .f32⟩
  | 20 => ⟨S_, .f32⟩
  | 21 => ⟨S8448x1024, .f32⟩
  | 22 => ⟨S8448x1024, .f32⟩
  | 23 => ⟨S_, .f32⟩
  | 24 => ⟨S8448x1024, .f32⟩
  | 25 => ⟨S8448x1024, .f32⟩
  | 26 => ⟨S8448x1024, .f32⟩
  | 27 => ⟨S_, .f32⟩
  | 28 => ⟨S8448x1024, .f32⟩
  | 29 => ⟨S8448x1024, .f32⟩
  | 30 => ⟨S_, .f32⟩
  | 31 => ⟨S8448x1024, .f32⟩
  | 32 => ⟨S8448x1024, .f32⟩
  | 33 => ⟨S8448x1024, .f32⟩
  | 34 => ⟨S8448x512, .f32⟩
  | 35 => ⟨S8448x512, .f32⟩
  | 36 => ⟨S_, .f32⟩
  | 37 => ⟨S8448, .f32⟩
  | 38 => ⟨S8448x1, .f32⟩
  | 39 => ⟨S_, .f32⟩
  | 40 => ⟨S8448x1, .f32⟩
  | 41 => ⟨S8448x1, .f32⟩
  | 42 => ⟨S8448x512, .f32⟩
  | 43 => ⟨S8448x512, .f32⟩
  | 44 => ⟨S8448x512, .f32⟩
  | 45 => ⟨S_, .f32⟩
  | 46 => ⟨S8448, .f32⟩
  | 47 => ⟨S8448x1, .f32⟩
  | 48 => ⟨S_, .f32⟩
  | 49 => ⟨S8448x1, .f32⟩
  | 50 => ⟨S8448x1, .f32⟩
  | 51 => ⟨S_, .f32⟩
  | 52 => ⟨S8448x1, .f32⟩
  | 53 => ⟨S8448x1, .f32⟩
  | 54 => ⟨S8448x1, .f32⟩
  | 55 => ⟨S8448x1, .f32⟩
  | 56 => ⟨S_, .f32⟩
  | 57 => ⟨S8448x1, .f32⟩
  | 58 => ⟨S8448x1, .f32⟩
  | 59 => ⟨S8448x512, .f32⟩
  | 60 => ⟨S8448x512, .f32⟩
  | 61 => ⟨S8448x512, .f32⟩
  | 62 => ⟨S8448x512, .f32⟩
  | 63 => ⟨S8448x512, .f32⟩
  | 64 => ⟨S8448x512, .f32⟩
  | 65 => ⟨S66x128x4x128, .f32⟩
  | 66 => ⟨S4x66x128x128, .f32⟩
  | 67 => ⟨S66x128x4x128, .f32⟩
  | 68 => ⟨S66x128x512, .f32⟩
  | 69 => ⟨S1x128x512, .f32⟩
  | 70 => ⟨S66x128x512, .f32⟩
  | 71 => ⟨S66x128x512, .f32⟩
  | 72 => ⟨S8448x512, .f32⟩
  | 73 => ⟨S8448x512, .f32⟩
  | 74 => ⟨S8448x512, .f32⟩
  | 75 => ⟨S8448x512, .f32⟩
  | 76 => ⟨S66x128x512, .f32⟩
  | 77 => ⟨S_, .f32⟩
  | 78 => ⟨S128x512, .f32⟩
  | 79 => ⟨S1x128x512, .f32⟩
  | 80 => ⟨S_, .f32⟩
  | 81 => ⟨S128x512, .f32⟩
  | 82 => ⟨S66x128x4x128, .f32⟩
  | 83 => ⟨S4x66x128x128, .f32⟩
  | 84 => ⟨S4x128x128, .f32⟩
  | 85 => ⟨S4x66x128x128, .f32⟩
  | 86 => ⟨S66x128x4x128, .f32⟩
  | 87 => ⟨S8448x512, .f32⟩
  | 88 => ⟨S_, .f32⟩
  | 89 => ⟨S512, .f32⟩
  | 90 => ⟨S1x512, .f32⟩
  | 91 => ⟨S8448x512, .f32⟩
  | 92 => ⟨S_, .f32⟩
  | 93 => ⟨S512, .f32⟩
  | 94 => ⟨S1x512, .f32⟩
  | 95 => ⟨S8448x512, .f32⟩
  | 96 => ⟨S8448x512, .f32⟩
  | 97 => ⟨S8448x512, .f32⟩
  | 98 => ⟨S_, .f32⟩
  | 99 => ⟨S8448, .f32⟩
  | 100 => ⟨S8448x1, .f32⟩
  | 101 => ⟨S8448x512, .f32⟩
  | 102 => ⟨S8448x512, .f32⟩
  | 103 => ⟨S8448x1, .f32⟩
  | 104 => ⟨S_, .f32⟩
  | 105 => ⟨S8448x1, .f32⟩
  | 106 => ⟨S8448x1, .f32⟩
  | 107 => ⟨S_, .f32⟩
  | 108 => ⟨S8448, .f32⟩
  | 109 => ⟨S8448x512, .f32⟩
  | 110 => ⟨S8448x512, .f32⟩
  | 111 => ⟨S8448x512, .f32⟩
  | 112 => ⟨S8448x512, .f32⟩
  | 113 => ⟨S8448x512, .f32⟩
  | 114 => ⟨S8448x512, .f32⟩
  | 115 => ⟨S_, .f32⟩
  | 116 => ⟨S8448, .f32⟩
  | 117 => ⟨S8448x1, .f32⟩
  | 118 => ⟨S_, .f32⟩
  | 119 => ⟨S8448x1, .f32⟩
  | 120 => ⟨S8448x1, .f32⟩
  | 121 => ⟨S_, .f32⟩
  | 122 => ⟨S8448, .f32⟩
  | 123 => ⟨S8448x512, .f32⟩
  | 124 => ⟨S8448x512, .f32⟩
  | 125 => ⟨S8448x1024, .f32⟩
  | 126 => ⟨S8448x1024, .f32⟩
  | 127 => ⟨S8448x1024, .f32⟩
  | _ => ⟨S8448x1024, .f32⟩

abbrev hbmTy0_1 (i : Nat) : BufTy := match i % 128 with
  | 0 => ⟨S_, .f32⟩
  | 1 => ⟨S8448x1024, .f32⟩
  | 2 => ⟨S8448x1024, .f32⟩
  | 3 => ⟨S8448x1024, .f32⟩
  | 4 => ⟨S_, .f32⟩
  | 5 => ⟨S8448x1024, .f32⟩
  | 6 => ⟨S8448x1024, .f32⟩
  | 7 => ⟨S8448x1024, .f32⟩
  | 8 => ⟨S_, .f32⟩
  | 9 => ⟨S8448x1024, .f32⟩
  | 10 => ⟨S8448x1024, .f32⟩
  | 11 => ⟨S8448x1024, .f32⟩
  | 12 => ⟨S8448x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_cst_21 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_22 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_23 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_24 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== OutB.lean ====
abbrev S8448x2048 : Shape := ⟨2, ![8448, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .f32⟩
  | .local _ .vmem, ⟨5, _⟩ => ⟨S768x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBRefIdeal.lean ====
abbrev S8448x2048 : Shape := ⟨2, ![8448, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S_, .f32⟩
  | .hbm, ⟨3, _⟩ => ⟨S8448x2048, .f32⟩
  | .hbm, ⟨4, _⟩ => ⟨S2048x2048, .f32⟩
  | .hbm, ⟨5, _⟩ => ⟨S8448x2048, .f32⟩
  | .hbm, ⟨6, _⟩ => ⟨S8448x2048, .f32⟩
  | .hbm, ⟨7, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S8448x2048 : Shape := ⟨2, ![8448, 2048]⟩
abbrev S2048x2048 : Shape := ⟨2, ![2048, 2048]⟩
abbrev S1408x1024 : Shape := ⟨2, ![1408, 1024]⟩
abbrev S1408x2048 : Shape := ⟨2, ![1408, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S2048x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S8448x2048 : Shape := ⟨2, ![8448, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S_, .f32⟩
  | .hbm, ⟨3, _⟩ => ⟨S2048x2048, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S2048x2048, .f32⟩
  | .hbm, ⟨8, _⟩ => ⟨S2048x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchB.lean ====
abbrev S8448x2048 : Shape := ⟨2, ![8448, 2048]⟩
abbrev S512x2048 : Shape := ⟨2, ![512, 2048]⟩
abbrev S8448x512 : Shape := ⟨2, ![8448, 512]⟩
abbrev S768x2048 : Shape := ⟨2, ![768, 2048]⟩
abbrev S768x512 : Shape := ⟨2, ![768, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S512x2048, .bf16⟩
  | .hbm, ⟨2, _⟩ => ⟨S8448x512, .f32⟩
  | .local _ .vmem, ⟨0, _⟩ => ⟨S768x2048, .bf16⟩
  | .local _ .vmem, ⟨1, _⟩ => ⟨S768x2048, .bf16⟩
  | .local _ .vmem, ⟨2, _⟩ => ⟨S512x2048, .bf16⟩
  | .local _ .vmem, ⟨3, _⟩ => ⟨S768x512, .f32⟩
  | .local _ .vmem, ⟨4, _⟩ => ⟨S768x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBRefIdeal.lean ====
abbrev S8448x2048 : Shape := ⟨2, ![8448, 2048]⟩
abbrev S512x2048 : Shape := ⟨2, ![512, 2048]⟩
abbrev S_ : Shape := ⟨0, ![]⟩
abbrev S8448x512 : Shape := ⟨2, ![8448, 512]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S512x2048, .bf16⟩
  | .hbm, ⟨2, _⟩ => ⟨S_, .f32⟩
  | .hbm, ⟨3, _⟩ => ⟨S8448x512, .f32⟩
  | .hbm, ⟨4, _⟩ => ⟨S512x2048, .f32⟩
  | .hbm, ⟨5, _⟩ => ⟨S8448x2048, .f32⟩
  | .hbm, ⟨6, _⟩ => ⟨S8448x2048, .f32⟩
  | .hbm, ⟨7, _⟩ => ⟨S8448x512, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchW.lean ====
abbrev S8448x512 : Shape := ⟨2, ![8448, 512]⟩
abbrev S8448x2048 : Shape := ⟨2, ![8448, 2048]⟩
abbrev S512x2048 : Shape := ⟨2, ![512, 2048]⟩
abbrev S1408x512 : Shape := ⟨2, ![1408, 512]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S8448x2048, .bf16⟩
  | .hbm, ⟨2, _⟩ => ⟨S512x2048, .f32⟩
  | .local _ .vmem, ⟨0, _⟩ => ⟨S1408x512, .bf16⟩
  | .local _ .vmem, ⟨1, _⟩ => ⟨S1408x512, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchWRefIdeal.lean ====
abbrev S8448x512 : Shape := ⟨2, ![8448, 512]⟩
abbrev S8448x2048 : Shape := ⟨2, ![8448, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x2048, .bf16⟩
  | .hbm, ⟨2, _⟩ => ⟨S_, .f32⟩
  | .hbm, ⟨3, _⟩ => ⟨S512x2048, .f32⟩
  | .hbm, ⟨4, _⟩ => ⟨S8448x512, .f32⟩
  | .hbm, ⟨5, _⟩ => ⟨S8448x2048, .f32⟩
  | .hbm, ⟨6, _⟩ => ⟨S8448x2048, .f32⟩
  | .hbm, ⟨7, _⟩ => ⟨S2048x512, .f32⟩
  | .hbm, ⟨8, _⟩ => ⟨S512x2048, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InB.lean ====
abbrev S8448x3328 : Shape := ⟨2, ![8448, 3328]⟩
abbrev S2048x3328 : Shape := ⟨2, ![2048, 3328]⟩
abbrev S8448x2048 : Shape := ⟨2, ![8448, 2048]⟩
abbrev S768x1664 : Shape := ⟨2, ![768, 1664]⟩
abbrev S1024x1664 : Shape := ⟨2, ![1024, 1664]⟩
abbrev S768x1024 : Shape := ⟨2, ![768, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x3328, .bf16⟩
  | .hbm, ⟨1, _⟩ => ⟨S2048x3328, .bf16⟩
  | .hbm, ⟨2, _⟩ => ⟨S8448x2048, .f32⟩
  | .hbm, ⟨3, _⟩ => ⟨S8448x2048, .f32⟩
  | .local _ .vmem, ⟨0, _⟩ => ⟨S768x1664, .bf16⟩
  | .local _ .vmem, ⟨1, _⟩ => ⟨S768x1664, .bf16⟩
  | .local _ .vmem, ⟨2, _⟩ => ⟨S1024x1664, .bf16⟩
  | .local _ .vmem, ⟨3, _⟩ => ⟨S1024x1664, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | _, _ => ⟨S8448x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBRefIdeal.lean ====
abbrev S8448x3328 : Shape := ⟨2, ![8448, 3328]⟩
abbrev S2048x3328 : Shape := ⟨2, ![2048, 3328]⟩
abbrev S8448x2048 : Shape := ⟨2, ![8448, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8448x3328, .bf16⟩
  | .hbm, ⟨1, _⟩ => ⟨S2048x3328, .bf16⟩
  | .hbm, ⟨2, _⟩ => ⟨S8448x2048, .f32⟩
  | .hbm, ⟨3, _⟩ => ⟨S_, .f32⟩
  | .hbm, ⟨4, _⟩ => ⟨S8448x2048, .f32⟩
  | .hbm, ⟨5, _⟩ => ⟨S2048x3328, .f32⟩
  | .hbm, ⟨6, _⟩ => ⟨S8448x3328, .f32⟩
  | .hbm, ⟨7, _⟩ => ⟨S8448x3328, .f32⟩
  | .hbm, ⟨8, _⟩ => ⟨S8448x2048, .f32⟩
  | .hbm, ⟨9, _⟩ => ⟨S8448x2048, .f32⟩
  | _, _ => ⟨S8448x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InW.lean ====
abbrev S8448x2048 : Shape := ⟨2, ![8448, 2048]⟩
abbrev S8448x3328 : Shape := ⟨2, ![8448, 3328]⟩
abbrev S2048x3328 : Shape := ⟨2, ![2048, 3328]⟩
abbrev S1408x1024 : Shape := ⟨2, ![1408, 1024]⟩
abbrev S1408x1664 : Shape := ⟨2, ![1408, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x3328, .bf16⟩
  | .hbm, ⟨2, _⟩ => ⟨S2048x3328, .f32⟩
  | .local _ .vmem, ⟨0, _⟩ => ⟨S1408x1024, .bf16⟩
  | .local _ .vmem, ⟨1, _⟩ => ⟨S1408x1024, .bf16⟩
  | .local _ .vmem, ⟨2, _⟩ => ⟨S1408x1664, .bf16⟩
  | .local _ .vmem, ⟨3, _⟩ => ⟨S1408x1664, .bf16⟩
  | .local _ .vmem, ⟨4, _⟩ => ⟨S1024x1664, .f32⟩
  | .local _ .vmem, ⟨5, _⟩ => ⟨S1024x1664, .f32⟩
  | .local _ .vmem, ⟨6, _⟩ => ⟨S1024x1664, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8448x2048 : Shape := ⟨2, ![8448, 2048]⟩
abbrev S8448x3328 : Shape := ⟨2, ![8448, 3328]⟩
abbrev S_ : Shape := ⟨0, ![]⟩
abbrev S2048x3328 : Shape := ⟨2, ![2048, 3328]⟩
abbrev S3328x2048 : Shape := ⟨2, ![3328, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x3328, .bf16⟩
  | .hbm, ⟨2, _⟩ => ⟨S_, .f32⟩
  | .hbm, ⟨3, _⟩ => ⟨S2048x3328, .f32⟩
  | .hbm, ⟨4, _⟩ => ⟨S8448x2048, .f32⟩
  | .hbm, ⟨5, _⟩ => ⟨S8448x3328, .f32⟩
  | .hbm, ⟨6, _⟩ => ⟨S8448x3328, .f32⟩
  | .hbm, ⟨7, _⟩ => ⟨S3328x2048, .f32⟩
  | .hbm, ⟨8, _⟩ => ⟨S2048x3328, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvLnB.lean ====
abbrev S8448x512 : Shape := ⟨2, ![8448, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 7
  | .vmem => 10
  | .smem => 0
  | _ => 0

abbrev bufTy : (tb : Table) → Fin (tcTables nBuf tb) → BufTy
  | .hbm, ⟨0, _⟩ => ⟨S8448x512, .f32⟩
  | .hbm, ⟨1, _⟩ => ⟨S1x512, .f32⟩
  | .hbm, ⟨2, _⟩ => ⟨S1x512, .f32⟩
  | .hbm, ⟨3, _⟩ => ⟨S8448x512, .f32⟩
  | .hbm, ⟨4, _⟩ => ⟨S8448x512, .f32⟩
  | .hbm, ⟨5, _⟩ => ⟨S1x512, .f32⟩
  | .hbm, ⟨6, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_24 : BitVec 32 := 0#32
  let v70 : BitVec 1 := Scalar.cmpi .ne v69 c0_i32_24
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_25 : BitVec 32 := 0#32
  let v73 : BitVec 1 := Scalar.cmpi .ne v72 c0_i32_25
  v73

def k0_cond3 (i : grid0.Coords) : BitVec 1 :=
  let arg0 : BitVec 32 := BitVec.ofNat 32 (i 0).val
  let c0_i32_26 : BitVec 32 := 0#32
  let v74 : BitVec 1 := Scalar.cmpi .eq arg0 c0_i32_26
  let v75 : BitVec 32 := Scalar.extui v74
  let c0_i32_27 : BitVec 32 := 0#32
  let v76 : BitVec 1 := Scalar.cmpi .ne v75 c0_i32_27
  v76

def k0_cond4 (i : grid0.Coords) : BitVec 1 :=
  let arg0 : BitVec 32 := BitVec.ofNat 32 (i 0).val
  let c0_i32_26 : BitVec 32 := 0#32
  let v74 : BitVec 1 := Scalar.cmpi .eq arg0 c0_i32_26
  let true_28 : BitVec 1 := 1#1
  let v77 : BitVec 1 := Scalar.xori v74 true_28
  let v78 : BitVec 32 := Scalar.extui v77
  let c0_i32_29 : BitVec 32 := 0#32
  let v79 : BitVec 1 := Scalar.cmpi .ne v78 c0_i32_29
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvLnBRefIdeal.lean ====
abbrev S8448x512 : Shape := ⟨2, ![8448, 512]⟩
abbrev S1x512 : Shape := ⟨2, ![1, 512]⟩
abbrev S_ : Shape := ⟨0, ![]⟩
abbrev S8448 : Shape := ⟨1, ![8448]⟩
abbrev S8448x1 : Shape := ⟨2, ![8448, 1]⟩
abbrev S512 : Shape := ⟨1, ![512]⟩

abbrev nBuf : Space → Nat
  | .hbm => 87
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S1x512, .f32⟩
  | .hbm, ⟨2, _⟩ => ⟨S1x512, .f32⟩
  | .hbm, ⟨3, _⟩ => ⟨S8448x512, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S8448x512, .f32⟩
  | .hbm, ⟨11, _⟩ => ⟨S8448x512, .f32⟩
  | .hbm, ⟨12, _⟩ => ⟨S8448x512, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S8448x512, .f32⟩
  | .hbm, ⟨28, _⟩ => ⟨S8448x512, .f32⟩
  | .hbm, ⟨29, _⟩ => ⟨S8448x512, .f32⟩
  | .hbm, ⟨30, _⟩ => ⟨S8448x512, .f32⟩
  | .hbm, ⟨31, _⟩ => ⟨S8448x512, .f32⟩
  | .hbm, ⟨32, _⟩ => ⟨S8448x512, .f32⟩
  | .hbm, ⟨33, _⟩ => ⟨S8448x512, .f32⟩
  | .hbm, ⟨34, _⟩ => ⟨S8448x512, .f32⟩
  | .hbm, ⟨35, _⟩ => ⟨S_, .f32⟩
  | .hbm, ⟨36, _⟩ => ⟨S8448x512, .f32⟩
  | .hbm, ⟨37, _⟩ => ⟨S8448x512, .f32⟩
  | .hbm, ⟨38, _⟩ => ⟨S_, .f32⟩
  | .hbm, ⟨39, _⟩ => ⟨S8448x512, .f32⟩
  | .hbm, ⟨40, _⟩ => ⟨S8448x512, .f32⟩
  | .hbm, ⟨41, _⟩ => ⟨S_, .f32⟩
  | .hbm, ⟨42, _⟩ => ⟨S8448x512, .f32⟩
  | .hbm, ⟨43, _⟩ => ⟨S8448x512, .f32⟩
  | .hbm, ⟨44, _⟩ => ⟨S8448x512, .f32⟩
  | .hbm, ⟨45, _⟩ => ⟨S8448x512, .f32⟩
  | .hbm, ⟨46, _⟩ => ⟨S8448x512, .f32⟩
  | .hbm, ⟨47, _⟩ => ⟨S8448x512, .f32⟩
  | .hbm, ⟨48, _⟩ => ⟨S8448x512, .f32⟩
  | .hbm, ⟨49, _⟩ => ⟨S8448x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S8448x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S8448x512, .f32⟩
  | .hbm, ⟨58, _⟩ => ⟨S8448x512, .f32⟩
  | .hbm, ⟨59, _⟩ => ⟨S8448x512, .f32⟩
  | .hbm, ⟨60, _⟩ => ⟨S_, .f32⟩
  | .hbm, ⟨61, _⟩ => ⟨S8448, .f32⟩
  | .hbm, ⟨62, _⟩ => ⟨S8448x1, .f32⟩
  | .hbm, ⟨63, _⟩ => ⟨S8448x512, .f32⟩
  | .hbm, ⟨64, _⟩ => ⟨S8448x512, .f32⟩
  | .hbm, ⟨65, _⟩ => ⟨S8448x1, .f32⟩
  | .hbm, ⟨66, _⟩ => ⟨S_, .f32⟩
  | .hbm, ⟨67, _⟩ => ⟨S8448x1, .f32⟩
  | .hbm, ⟨68, _⟩ => ⟨S8448x1, .f32⟩
  | .hbm, ⟨69, _⟩ => ⟨S_, .f32⟩
  | .hbm, ⟨70, _⟩ => ⟨S8448, .f32⟩
  | .hbm, ⟨71, _⟩ => ⟨S8448x512, .f32⟩
  | .hbm, ⟨72, _⟩ => ⟨S8448x512, .f32⟩
  | .hbm, ⟨73, _⟩ => ⟨S8448x512, .f32⟩
  | .hbm, ⟨74, _⟩ => ⟨S8448x512, .f32⟩
  | .hbm, ⟨75, _⟩ => ⟨S8448x512, .f32⟩
  | .hbm, ⟨76, _⟩ => ⟨S8448x512, .f32⟩
  | .hbm, ⟨77, _⟩ => ⟨S_, .f32⟩
  | .hbm, ⟨78, _⟩ => ⟨S8448, .f32⟩
  | .hbm, ⟨79, _⟩ => ⟨S8448x1, .f32⟩
  | .hbm, ⟨80, _⟩ => ⟨S_, .f32⟩
  | .hbm, ⟨81, _⟩ => ⟨S8448x1, .f32⟩
  | .hbm, ⟨82, _⟩ => ⟨S8448x1, .f32⟩
  | .hbm, ⟨83, _⟩ => ⟨S_, .f32⟩
  | .hbm, ⟨84, _⟩ => ⟨S8448, .f32⟩
  | .hbm, ⟨85, _⟩ => ⟨S8448x512, .f32⟩
  | .hbm, ⟨86, _⟩ => ⟨S8448x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]
-- ==== S5GluB.lean ====
abbrev S8448x1024 : Shape := ⟨2, ![8448, 1024]⟩
abbrev S8448x512 : Shape := ⟨2, ![8448, 512]⟩
abbrev S256x1024 : Shape := ⟨2, ![256, 1024]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x1024, .bf16⟩
  | .local _ .vmem, ⟨5, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== S5GluBRefIdeal.lean ====
abbrev S8448x1024 : Shape := ⟨2, ![8448, 1024]⟩
abbrev S8448x512 : Shape := ⟨2, ![8448, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S_, .f32⟩
  | .hbm, ⟨7, _⟩ => ⟨S8448x512, .f32⟩
  | .hbm, ⟨8, _⟩ => ⟨S8448x512, .f32⟩
  | .hbm, ⟨9, _⟩ => ⟨S_, .f32⟩
  | .hbm, ⟨10, _⟩ => ⟨S8448x512, .f32⟩
  | .hbm, ⟨11, _⟩ => ⟨S8448x512, .f32⟩
  | .hbm, ⟨12, _⟩ => ⟨S_, .f32⟩
  | .hbm, ⟨13, _⟩ => ⟨S8448x512, .f32⟩
  | .hbm, ⟨14, _⟩ => ⟨S8448x512, .f32⟩
  | .hbm, ⟨15, _⟩ => ⟨S8448x512, .f32⟩
  | .hbm, ⟨16, _⟩ => ⟨S8448x512, .f32⟩
  | .hbm, ⟨17, _⟩ => ⟨S8448x512, .f32⟩
  | .hbm, ⟨18, _⟩ => ⟨S8448x512, .f32⟩
  | .hbm, ⟨19, _⟩ => ⟨S8448x512, .f32⟩
  | .hbm, ⟨20, _⟩ => ⟨S8448x1024, .f32⟩
  | .hbm, ⟨21, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== S5ActB.lean ====
abbrev S8448x512 : Shape := ⟨2, ![8448, 512]⟩
abbrev S1x512 : Shape := ⟨2, ![1, 512]⟩
abbrev S256x512 : Shape := ⟨2, ![256, 512]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S1x512, .f32⟩
  | .hbm, ⟨3, _⟩ => ⟨S8448x512, .f32⟩
  | .hbm, ⟨4, _⟩ => ⟨S8448x512, .bf16⟩
  | .hbm, ⟨5, _⟩ => ⟨S8448x512, .f32⟩
  | .hbm, ⟨6, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S1x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_21 : BitVec 32 := 0#32
  let v49 : BitVec 1 := Scalar.cmpi .ne v48 c0_i32_21
  v49

def k0_cond2 (i : grid0.Coords) : BitVec 1 :=
  let arg0 : BitVec 32 := BitVec.ofNat 32 (i 0).val
  let c0_i32 : BitVec 32 := 0#32
  let v47 : BitVec 1 := Scalar.cmpi .eq arg0 c0_i32
  let v_true : BitVec 1 := 1#1
  let v50 : BitVec 1 := Scalar.xori v47 v_true
  let v51 : BitVec 32 := Scalar.extui v50
  let c0_i32_22 : BitVec 32 := 0#32
  let v52 : BitVec 1 := Scalar.cmpi .ne v51 c0_i32_22
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== S5ActBRefIdeal.lean ====
abbrev S8448x512 : Shape := ⟨2, ![8448, 512]⟩
abbrev S1x512 : Shape := ⟨2, ![1, 512]⟩
abbrev S_ : Shape := ⟨0, ![]⟩
abbrev S512 : Shape := ⟨1, ![512]⟩

abbrev nBuf : Space → Nat
  | .hbm => 57
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S1x512, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S8448x512, .f32⟩
  | .hbm, ⟨9, _⟩ => ⟨S8448x512, .f32⟩
  | .hbm, ⟨10, _⟩ => ⟨S_, .f32⟩
  | .hbm, ⟨11, _⟩ => ⟨S8448x512, .f32⟩
  | .hbm, ⟨12, _⟩ => ⟨S8448x512, .f32⟩
  | .hbm, ⟨13, _⟩ => ⟨S_, .f32⟩
  | .hbm, ⟨14, _⟩ => ⟨S8448x512, .f32⟩
  | .hbm, ⟨15, _⟩ => ⟨S8448x512, .f32⟩
  | .hbm, ⟨16, _⟩ => ⟨S8448x512, .f32⟩
  | .hbm, ⟨17, _⟩ => ⟨S_, .f32⟩
  | .hbm, ⟨18, _⟩ => ⟨S8448x512, .f32⟩
  | .hbm, ⟨19, _⟩ => ⟨S8448x512, .f32⟩
  | .hbm, ⟨20, _⟩ => ⟨S8448x512, .f32⟩
  | .hbm, ⟨21, _⟩ => ⟨S_, .f32⟩
  | .hbm, ⟨22, _⟩ => ⟨S8448x512, .f32⟩
  | .hbm, ⟨23, _⟩ => ⟨S8448x512, .f32⟩
  | .hbm, ⟨24, _⟩ => ⟨S_, .f32⟩
  | .hbm, ⟨25, _⟩ => ⟨S8448x512, .f32⟩
  | .hbm, ⟨26, _⟩ => ⟨S8448x512, .f32⟩
  | .hbm, ⟨27, _⟩ => ⟨S8448x512, .f32⟩
  | .hbm, ⟨28, _⟩ => ⟨S_, .f32⟩
  | .hbm, ⟨29, _⟩ => ⟨S8448x512, .f32⟩
  | .hbm, ⟨30, _⟩ => ⟨S8448x512, .f32⟩
  | .hbm, ⟨31, _⟩ => ⟨S_, .f32⟩
  | .hbm, ⟨32, _⟩ => ⟨S8448x512, .f32⟩
  | .hbm, ⟨33, _⟩ => ⟨S8448x512, .f32⟩
  | .hbm, ⟨34, _⟩ => ⟨S8448x512, .f32⟩
  | .hbm, ⟨35, _⟩ => ⟨S8448x512, .f32⟩
  | .hbm, ⟨36, _⟩ => ⟨S8448x512, .f32⟩
  | .hbm, ⟨37, _⟩ => ⟨S_, .f32⟩
  | .hbm, ⟨38, _⟩ => ⟨S8448x512, .f32⟩
  | .hbm, ⟨39, _⟩ => ⟨S8448x512, .f32⟩
  | .hbm, ⟨40, _⟩ => ⟨S8448x512, .f32⟩
  | .hbm, ⟨41, _⟩ => ⟨S_, .f32⟩
  | .hbm, ⟨42, _⟩ => ⟨S8448x512, .f32⟩
  | .hbm, ⟨43, _⟩ => ⟨S8448x512, .f32⟩
  | .hbm, ⟨44, _⟩ => ⟨S8448x512, .f32⟩
  | .hbm, ⟨45, _⟩ => ⟨S_, .f32⟩
  | .hbm, ⟨46, _⟩ => ⟨S8448x512, .f32⟩
  | .hbm, ⟨47, _⟩ => ⟨S8448x512, .f32⟩
  | .hbm, ⟨48, _⟩ => ⟨S8448x512, .f32⟩
  | .hbm, ⟨49, _⟩ => ⟨S8448x512, .f32⟩
  | .hbm, ⟨50, _⟩ => ⟨S8448x512, .f32⟩
  | .hbm, ⟨51, _⟩ => ⟨S8448x512, .f32⟩
  | .hbm, ⟨52, _⟩ => ⟨S8448x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S8448x512, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== InP.lean ====
abbrev S8448x2048 : Shape := ⟨2, ![8448, 2048]⟩
abbrev S2048x3328 : Shape := ⟨2, ![2048, 3328]⟩
abbrev S8448x3328 : Shape := ⟨2, ![8448, 3328]⟩
abbrev S768x2048 : Shape := ⟨2, ![768, 2048]⟩
abbrev S2048x1664 : Shape := ⟨2, ![2048, 1664]⟩
abbrev S768x1664 : Shape := ⟨2, ![768, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x3328, .bf16⟩
  | .hbm, ⟨2, _⟩ => ⟨S8448x3328, .f32⟩
  | .local _ .vmem, ⟨0, _⟩ => ⟨S768x2048, .bf16⟩
  | .local _ .vmem, ⟨1, _⟩ => ⟨S768x2048, .bf16⟩
  | .local _ .vmem, ⟨2, _⟩ => ⟨S2048x1664, .bf16⟩
  | .local _ .vmem, ⟨3, _⟩ => ⟨S2048x1664, .bf16⟩
  | .local _ .vmem, ⟨4, _⟩ => ⟨S768x1664, .f32⟩
  | .local _ .vmem, ⟨5, _⟩ => ⟨S768x1664, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPRefIdeal.lean ====
abbrev S8448x2048 : Shape := ⟨2, ![8448, 2048]⟩
abbrev S2048x3328 : Shape := ⟨2, ![2048, 3328]⟩
abbrev S8448x3328 : Shape := ⟨2, ![8448, 3328]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x3328, .bf16⟩
  | .hbm, ⟨2, _⟩ => ⟨S8448x2048, .f32⟩
  | .hbm, ⟨3, _⟩ => ⟨S2048x3328, .f32⟩
  | .hbm, ⟨4, _⟩ => ⟨S8448x3328, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateP.lean ====
abbrev S8448x2048 : Shape := ⟨2, ![8448, 2048]⟩
abbrev S4x4x512x2048 : Shape := ⟨4, ![4, 4, 512, 2048]⟩
abbrev S8448x8192 : Shape := ⟨2, ![8448, 8192]⟩
abbrev S768x2048 : Shape := ⟨2, ![768, 2048]⟩
abbrev S4x1x512x1024 : Shape := ⟨4, ![4, 1, 512, 1024]⟩
abbrev S768x1024 : Shape := ⟨2, ![768, 1024]⟩
abbrev S4x512x1024 : Shape := ⟨3, ![4, 512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x4x512x2048, .bf16⟩
  | .hbm, ⟨2, _⟩ => ⟨S8448x8192, .f32⟩
  | .local _ .vmem, ⟨0, _⟩ => ⟨S768x2048, .bf16⟩
  | .local _ .vmem, ⟨1, _⟩ => ⟨S768x2048, .bf16⟩
  | .local _ .vmem, ⟨2, _⟩ => ⟨S4x1x512x1024, .bf16⟩
  | .local _ .vmem, ⟨3, _⟩ => ⟨S4x1x512x1024, .bf16⟩
  | .local _ .vmem, ⟨4, _⟩ => ⟨S768x1024, .f32⟩
  | .local _ .vmem, ⟨5, _⟩ => ⟨S768x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatePRefIdeal.lean ====
abbrev S8448x2048 : Shape := ⟨2, ![8448, 2048]⟩
abbrev S4x4x512x2048 : Shape := ⟨4, ![4, 4, 512, 2048]⟩
abbrev S4x512x4x2048 : Shape := ⟨4, ![4, 512, 4, 2048]⟩
abbrev S2048x8192 : Shape := ⟨2, ![2048, 8192]⟩
abbrev S8448x8192 : Shape := ⟨2, ![8448, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x4x512x2048, .bf16⟩
  | .hbm, ⟨2, _⟩ => ⟨S8448x2048, .f32⟩
  | .hbm, ⟨3, _⟩ => ⟨S4x4x512x2048, .f32⟩
  | .hbm, ⟨4, _⟩ => ⟨S4x512x4x2048, .f32⟩
  | .hbm, ⟨5, _⟩ => ⟨S2048x8192, .f32⟩
  | .hbm, ⟨6, _⟩ => ⟨S8448x8192, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BranchP.lean ====
abbrev S8448x512 : Shape := ⟨2, ![8448, 512]⟩
abbrev S512x2048 : Shape := ⟨2, ![512, 2048]⟩
abbrev S8448x2048 : Shape := ⟨2, ![8448, 2048]⟩
abbrev S768x512 : Shape := ⟨2, ![768, 512]⟩
abbrev S512x1024 : Shape := ⟨2, ![512, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S512x2048, .bf16⟩
  | .hbm, ⟨2, _⟩ => ⟨S8448x2048, .f32⟩
  | .local _ .vmem, ⟨0, _⟩ => ⟨S768x512, .bf16⟩
  | .local _ .vmem, ⟨1, _⟩ => ⟨S768x512, .bf16⟩
  | .local _ .vmem, ⟨2, _⟩ => ⟨S512x1024, .bf16⟩
  | .local _ .vmem, ⟨3, _⟩ => ⟨S512x1024, .bf16⟩
  | .local _ .vmem, ⟨4, _⟩ => ⟨S768x1024, .f32⟩
  | .local _ .vmem, ⟨5, _⟩ => ⟨S768x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchPRefIdeal.lean ====
abbrev S8448x512 : Shape := ⟨2, ![8448, 512]⟩
abbrev S512x2048 : Shape := ⟨2, ![512, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S512x2048, .bf16⟩
  | .hbm, ⟨2, _⟩ => ⟨S8448x512, .f32⟩
  | .hbm, ⟨3, _⟩ => ⟨S512x2048, .f32⟩
  | .hbm, ⟨4, _⟩ => ⟨S8448x2048, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutP.lean ====
abbrev S8448x2048 : Shape := ⟨2, ![8448, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutPRefIdeal.lean ====
abbrev S8448x2048 : Shape := ⟨2, ![8448, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2048x2048, .f32⟩
  | .hbm, ⟨4, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ff1P.lean ====
abbrev S8448x2048 : Shape := ⟨2, ![8448, 2048]⟩
abbrev S4x2048x2048 : Shape := ⟨3, ![4, 2048, 2048]⟩
abbrev S8448x8192 : Shape := ⟨2, ![8448, 8192]⟩
abbrev S768x2048 : Shape := ⟨2, ![768, 2048]⟩
abbrev S1x2048x1024 : Shape := ⟨3, ![1, 2048, 1024]⟩
abbrev S768x1024 : Shape := ⟨2, ![768, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .bf16⟩
  | .hbm, ⟨2, _⟩ => ⟨S8448x8192, .f32⟩
  | .hbm, ⟨3, _⟩ => ⟨S8448x8192, .bf16⟩
  | .local _ .vmem, ⟨0, _⟩ => ⟨S768x2048, .bf16⟩
  | .local _ .vmem, ⟨1, _⟩ => ⟨S768x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .bf16⟩
  | .local _ .vmem, ⟨7, _⟩ => ⟨S768x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1PRefIdeal.lean ====
abbrev S8448x2048 : Shape := ⟨2, ![8448, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8448x8192 : Shape := ⟨2, ![8448, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x2048, .bf16⟩
  | .hbm, ⟨2, _⟩ => ⟨S8448x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S8448x8192, .f32⟩
  | .hbm, ⟨7, _⟩ => ⟨S_, .f32⟩
  | .hbm, ⟨8, _⟩ => ⟨S8448x8192, .f32⟩
  | .hbm, ⟨9, _⟩ => ⟨S8448x8192, .f32⟩
  | .hbm, ⟨10, _⟩ => ⟨S8448x8192, .f32⟩
  | .hbm, ⟨11, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ff2P.lean ====
abbrev S8448x8192 : Shape := ⟨2, ![8448, 8192]⟩
abbrev S8192x2048 : Shape := ⟨2, ![8192, 2048]⟩
abbrev S8448x2048 : Shape := ⟨2, ![8448, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S8192x2048, .bf16⟩
  | .hbm, ⟨2, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2PRefIdeal.lean ====
abbrev S8448x8192 : Shape := ⟨2, ![8448, 8192]⟩
abbrev S8192x2048 : Shape := ⟨2, ![8192, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S8192x2048, .bf16⟩
  | .hbm, ⟨2, _⟩ => ⟨S8448x8192, .f32⟩
  | .hbm, ⟨3, _⟩ => ⟨S8192x2048, .f32⟩
  | .hbm, ⟨4, _⟩ => ⟨S8448x2048, .f32⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluP.lean ====
abbrev S8448x512 : Shape := ⟨2, ![8448, 512]⟩
abbrev S512x1024 : Shape := ⟨2, ![512, 1024]⟩
abbrev S8448x1024 : Shape := ⟨2, ![8448, 1024]⟩
abbrev S768x512 : Shape := ⟨2, ![768, 512]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x512, .bf16⟩
  | .hbm, ⟨1, _⟩ => ⟨S512x1024, .bf16⟩
  | .hbm, ⟨2, _⟩ => ⟨S8448x1024, .f32⟩
  | .local _ .vmem, ⟨0, _⟩ => ⟨S768x512, .bf16⟩
  | .local _ .vmem, ⟨1, _⟩ => ⟨S768x512, .bf16⟩
  | .local _ .vmem, ⟨2, _⟩ => ⟨S512x1024, .bf16⟩
  | .local _ .vmem, ⟨3, _⟩ => ⟨S768x1024, .f32⟩
  | .local _ .vmem, ⟨4, _⟩ => ⟨S768x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluPRefIdeal.lean ====
abbrev S8448x512 : Shape := ⟨2, ![8448, 512]⟩
abbrev S512x1024 : Shape := ⟨2, ![512, 1024]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S512x1024, .bf16⟩
  | .hbm, ⟨2, _⟩ => ⟨S8448x512, .f32⟩
  | .hbm, ⟨3, _⟩ => ⟨S512x1024, .f32⟩
  | .hbm, ⟨4, _⟩ => ⟨S8448x1024, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluPB.lean ====
abbrev S8448x1024 : Shape := ⟨2, ![8448, 1024]⟩
abbrev S512x1024 : Shape := ⟨2, ![512, 1024]⟩
abbrev S8448x512 : Shape := ⟨2, ![8448, 512]⟩
abbrev S768x1024 : Shape := ⟨2, ![768, 1024]⟩
abbrev S768x512 : Shape := ⟨2, ![768, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S8448x512, .f32⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S768x512, .f32⟩
  | .local _ .vmem, ⟨4, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluPBRefIdeal.lean ====
abbrev S8448x1024 : Shape := ⟨2, ![8448, 1024]⟩
abbrev S512x1024 : Shape := ⟨2, ![512, 1024]⟩
abbrev S_ : Shape := ⟨0, ![]⟩
abbrev S8448x512 : Shape := ⟨2, ![8448, 512]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S_, .f32⟩
  | .hbm, ⟨3, _⟩ => ⟨S8448x512, .f32⟩
  | .hbm, ⟨4, _⟩ => ⟨S512x1024, .f32⟩
  | .hbm, ⟨5, _⟩ => ⟨S8448x1024, .f32⟩
  | .hbm, ⟨6, _⟩ => ⟨S8448x1024, .f32⟩
  | .hbm, ⟨7, _⟩ => ⟨S8448x512, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluPW.lean ====
abbrev S8448x512 : Shape := ⟨2, ![8448, 512]⟩
abbrev S8448x1024 : Shape := ⟨2, ![8448, 1024]⟩
abbrev S512x1024 : Shape := ⟨2, ![512, 1024]⟩
abbrev S1408x512 : Shape := ⟨2, ![1408, 512]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S512x1024, .f32⟩
  | .local _ .vmem, ⟨0, _⟩ => ⟨S1408x512, .bf16⟩
  | .local _ .vmem, ⟨1, _⟩ => ⟨S1408x512, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluPWRefIdeal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S_, .f32⟩
  | .hbm, ⟨3, _⟩ => ⟨S512x1024, .f32⟩
  | .hbm, ⟨4, _⟩ => ⟨S8448x512, .f32⟩
  | .hbm, ⟨5, _⟩ => ⟨S8448x1024, .f32⟩
  | .hbm, ⟨6, _⟩ => ⟨S8448x1024, .f32⟩
  | .hbm, ⟨7, _⟩ => ⟨S1024x512, .f32⟩
  | .hbm, ⟨8, _⟩ => ⟨S512x1024, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeP.lean ====
abbrev S8448x8192 : Shape := ⟨2, ![8448, 8192]⟩
abbrev S8448x2048 : Shape := ⟨2, ![8448, 2048]⟩
abbrev S1x8192 : Shape := ⟨2, ![1, 8192]⟩
abbrev S128x8192 : Shape := ⟨2, ![128, 8192]⟩
abbrev S128x2048 : Shape := ⟨2, ![128, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8448x8192, .f32⟩
  | .hbm, ⟨1, _⟩ => ⟨S8448x2048, .f32⟩
  | .hbm, ⟨2, _⟩ => ⟨S8448x2048, .f32⟩
  | .hbm, ⟨3, _⟩ => ⟨S8448x2048, .f32⟩
  | .hbm, ⟨4, _⟩ => ⟨S8448x2048, .f32⟩
  | .hbm, ⟨5, _⟩ => ⟨S1x8192, .f32⟩
  | .hbm, ⟨6, _⟩ => ⟨S8448x2048, .bf16⟩
  | .local _ .vmem, ⟨0, _⟩ => ⟨S128x8192, .f32⟩
  | .local _ .vmem, ⟨1, _⟩ => ⟨S128x8192, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x8192, .f32⟩
  | .local _ .vmem, ⟨11, _⟩ => ⟨S128x2048, .bf16⟩
  | .local _ .vmem, ⟨12, _⟩ => ⟨S128x2048, .bf16⟩
  | _, _ => ⟨S8448x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergePRefIdeal.lean ====
abbrev S8448x8192 : Shape := ⟨2, ![8448, 8192]⟩
abbrev S8448x2048 : Shape := ⟨2, ![8448, 2048]⟩
abbrev S1x8192 : Shape := ⟨2, ![1, 8192]⟩
abbrev S_ : Shape := ⟨0, ![]⟩
abbrev S8448x4x2048 : Shape := ⟨3, ![8448, 4, 2048]⟩
abbrev S8448x1x2048 : Shape := ⟨3, ![8448, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8448x8192, .f32⟩
  | .hbm, ⟨1, _⟩ => ⟨S8448x2048, .f32⟩
  | .hbm, ⟨2, _⟩ => ⟨S8448x2048, .f32⟩
  | .hbm, ⟨3, _⟩ => ⟨S8448x2048, .f32⟩
  | .hbm, ⟨4, _⟩ => ⟨S8448x2048, .f32⟩
  | .hbm, ⟨5, _⟩ => ⟨S1x8192, .f32⟩
  | .hbm, ⟨6, _⟩ => ⟨S8448x8192, .f32⟩
  | .hbm, ⟨7, _⟩ => ⟨S8448x8192, .f32⟩
  | .hbm, ⟨8, _⟩ => ⟨S8448x8192, .f32⟩
  | .hbm, ⟨9, _⟩ => ⟨S8448x8192, .f32⟩
  | .hbm, ⟨10, _⟩ => ⟨S_, .f32⟩
  | .hbm, ⟨11, _⟩ => ⟨S8448x8192, .f32⟩
  | .hbm, ⟨12, _⟩ => ⟨S8448x8192, .f32⟩
  | .hbm, ⟨13, _⟩ => ⟨S_, .f32⟩
  | .hbm, ⟨14, _⟩ => ⟨S8448x8192, .f32⟩
  | .hbm, ⟨15, _⟩ => ⟨S8448x8192, .f32⟩
  | .hbm, ⟨16, _⟩ => ⟨S8448x4x2048, .f32⟩
  | .hbm, ⟨17, _⟩ => ⟨S8448x1x2048, .f32⟩
  | .hbm, ⟨18, _⟩ => ⟨S8448x1x2048, .f32⟩
  | .hbm, ⟨19, _⟩ => ⟨S8448x1x2048, .f32⟩
  | .hbm, ⟨20, _⟩ => ⟨S8448x1x2048, .f32⟩
  | .hbm, ⟨21, _⟩ => ⟨S8448x4x2048, .f32⟩
  | .hbm, ⟨22, _⟩ => ⟨S8448x4x2048, .f32⟩
  | .hbm, ⟨23, _⟩ => ⟨S_, .f32⟩
  | .hbm, ⟨24, _⟩ => ⟨S8448x2048, .f32⟩
  | .hbm, ⟨25, _⟩ => ⟨S8448x2048, .bf16⟩
  | _, _ => ⟨S8448x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== S5ActP.lean ====
abbrev S8448x512 : Shape := ⟨2, ![8448, 512]⟩
abbrev S1x512 : Shape := ⟨2, ![1, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S1x512, .f32⟩
  | .hbm, ⟨3, _⟩ => ⟨S8448x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== S5ActPRefIdeal.lean ====
abbrev S8448x512 : Shape := ⟨2, ![8448, 512]⟩
abbrev S1x512 : Shape := ⟨2, ![1, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S1x512, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S_, .f32⟩
  | .hbm, ⟨9, _⟩ => ⟨S8448x512, .f32⟩
  | .hbm, ⟨10, _⟩ => ⟨S8448x512, .f32⟩
  | .hbm, ⟨11, _⟩ => ⟨S8448x512, .f32⟩
  | .hbm, ⟨12, _⟩ => ⟨S_, .f32⟩
  | .hbm, ⟨13, _⟩ => ⟨S8448x512, .f32⟩
  | .hbm, ⟨14, _⟩ => ⟨S8448x512, .f32⟩
  | .hbm, ⟨15, _⟩ => ⟨S8448x512, .f32⟩
  | .hbm, ⟨16, _⟩ => ⟨S_, .f32⟩
  | .hbm, ⟨17, _⟩ => ⟨S8448x512, .f32⟩
  | .hbm, ⟨18, _⟩ => ⟨S8448x512, .f32⟩
  | .hbm, ⟨19, _⟩ => ⟨S_, .f32⟩
  | .hbm, ⟨20, _⟩ => ⟨S8448x512, .f32⟩
  | .hbm, ⟨21, _⟩ => ⟨S8448x512, .f32⟩
  | .hbm, ⟨22, _⟩ => ⟨S8448x512, .f32⟩
  | .hbm, ⟨23, _⟩ => ⟨S8448x512, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== S5GluP.lean ====
abbrev S8448x1024 : Shape := ⟨2, ![8448, 1024]⟩
abbrev S8448x512 : Shape := ⟨2, ![8448, 512]⟩
abbrev S256x1024 : Shape := ⟨2, ![256, 1024]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S8448x1024, .f32⟩
  | .hbm, ⟨1, _⟩ => ⟨S8448x512, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== S5GluPRefIdeal.lean ====
abbrev S8448x1024 : Shape := ⟨2, ![8448, 1024]⟩
abbrev S8448x512 : Shape := ⟨2, ![8448, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S_, .f32⟩
  | .hbm, ⟨6, _⟩ => ⟨S8448x512, .f32⟩
  | .hbm, ⟨7, _⟩ => ⟨S8448x512, .f32⟩
  | .hbm, ⟨8, _⟩ => ⟨S_, .f32⟩
  | .hbm, ⟨9, _⟩ => ⟨S8448x512, .f32⟩
  | .hbm, ⟨10, _⟩ => ⟨S8448x512, .f32⟩
  | .hbm, ⟨11, _⟩ => ⟨S8448x512, .f32⟩
  | .hbm, ⟨12, _⟩ => ⟨S8448x512, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Norm1P.lean ====
abbrev S8448x2048 : Shape := ⟨2, ![8448, 2048]⟩
abbrev S1x2048 : Shape := ⟨2, ![1, 2048]⟩
abbrev S2x1x2048 : Shape := ⟨3, ![2, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Norm1PRefIdeal.lean ====
abbrev S8448x2048 : Shape := ⟨2, ![8448, 2048]⟩
abbrev S1x2048 : Shape := ⟨2, ![1, 2048]⟩
abbrev S2x1x2048 : Shape := ⟨3, ![2, 1, 2048]⟩
abbrev S_ : Shape := ⟨0, ![]⟩
abbrev S8448 : Shape := ⟨1, ![8448]⟩
abbrev S8448x1 : Shape := ⟨2, ![8448, 1]⟩
abbrev S8192x2048 : Shape := ⟨2, ![8192, 2048]⟩
abbrev S1x1x2048 : Shape := ⟨3, ![1, 1, 2048]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S8448x2048, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x2048, .f32⟩
  | .hbm, ⟨16, _⟩ => ⟨S8448x2048, .f32⟩
  | .hbm, ⟨17, _⟩ => ⟨S8448x2048, .f32⟩
  | .hbm, ⟨18, _⟩ => ⟨S8448x2048, .f32⟩
  | .hbm, ⟨19, _⟩ => ⟨S8192x2048, .f32⟩
  | .hbm, ⟨20, _⟩ => ⟨S1x1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S256x2048, .f32⟩
  | .hbm, ⟨32, _⟩ => ⟨S1x1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S256x2048, .f32⟩
  | .hbm, ⟨38, _⟩ => ⟨S256x2048, .f32⟩
  | .hbm, ⟨39, _⟩ => ⟨S1x1x2048, .f32⟩
  | .hbm, ⟨40, _⟩ => ⟨S1x2048, .f32⟩
  | .hbm, ⟨41, _⟩ => ⟨S256x2048, .f32⟩
  | .hbm, ⟨42, _⟩ => ⟨S256x2048, .f32⟩
  | .hbm, ⟨43, _⟩ => ⟨S8448x2048, .f32⟩
  | .hbm, ⟨44, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== ResidP.lean ====
abbrev S8448x2048 : Shape := ⟨2, ![8448, 2048]⟩
abbrev S2x1x2048 : Shape := ⟨3, ![2, 1, 2048]⟩
abbrev S256x2048 : Shape := ⟨2, ![256, 2048]⟩
abbrev S1x1x2048 : Shape := ⟨3, ![1, 1, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2x1x2048, .f32⟩
  | .hbm, ⟨3, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidPRefIdeal.lean ====
abbrev S8448x2048 : Shape := ⟨2, ![8448, 2048]⟩
abbrev S2x1x2048 : Shape := ⟨3, ![2, 1, 2048]⟩
abbrev S8192x2048 : Shape := ⟨2, ![8192, 2048]⟩
abbrev S1x1x2048 : Shape := ⟨3, ![1, 1, 2048]⟩
abbrev S1x2048 : Shape := ⟨2, ![1, 2048]⟩
abbrev S256x2048 : Shape := ⟨2, ![256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2x1x2048, .f32⟩
  | .hbm, ⟨3, _⟩ => ⟨S8192x2048, .f32⟩
  | .hbm, ⟨4, _⟩ => ⟨S1x1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S256x2048, .f32⟩
  | .hbm, ⟨11, _⟩ => ⟨S1x1x2048, .f32⟩
  | .hbm, ⟨12, _⟩ => ⟨S1x2048, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== GmlpP.lean ====
abbrev S8448x1024 : Shape := ⟨2, ![8448, 1024]⟩
abbrev S1x512 : Shape := ⟨2, ![1, 512]⟩
abbrev S4x128x128 : Shape := ⟨3, ![4, 128, 128]⟩
abbrev S128x512 : Shape := ⟨2, ![128, 512]⟩
abbrev S8448x512 : Shape := ⟨2, ![8448, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 6
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S128x512, .f32⟩
  | .hbm, ⟨5, _⟩ => ⟨S8448x512, .bf16⟩
  | .local _ .vmem, ⟨0, _⟩ => ⟨S256x1024, .f32⟩
  | .local _ .vmem, ⟨1, _⟩ => ⟨S256x1024, .f32⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x512, .f32⟩
  | .local _ .vmem, ⟨6, _⟩ => ⟨S256x512, .bf16⟩
  | .local _ .vmem, ⟨7, _⟩ => ⟨S256x512, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpPRefIdeal.lean ====
abbrev S8448x1024 : Shape := ⟨2, ![8448, 1024]⟩
abbrev S1x512 : Shape := ⟨2, ![1, 512]⟩
abbrev S4x128x128 : Shape := ⟨3, ![4, 128, 128]⟩
abbrev S128x512 : Shape := ⟨2, ![128, 512]⟩
abbrev S_ : Shape := ⟨0, ![]⟩
abbrev S8448x512 : Shape := ⟨2, ![8448, 512]⟩
abbrev S8448 : Shape := ⟨1, ![8448]⟩
abbrev S8448x1 : Shape := ⟨2, ![8448, 1]⟩
abbrev S66x128x4x128 : Shape := ⟨4, ![66, 128, 4, 128]⟩
abbrev S4x66x128x128 : Shape := ⟨4, ![4, 66, 128, 128]⟩
abbrev S66x128x512 : Shape := ⟨3, ![66, 128, 512]⟩
abbrev S1x128x512 : Shape := ⟨3, ![1, 128, 512]⟩

abbrev nBuf : Space → Nat
  | .hbm => 59
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S128x512, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x512, .f32⟩
  | .hbm, ⟨23, _⟩ => ⟨S8448x512, .f32⟩
  | .hbm, ⟨24, _⟩ => ⟨S_, .f32⟩
  | .hbm, ⟨25, _⟩ => ⟨S8448, .f32⟩
  | .hbm, ⟨26, _⟩ => ⟨S8448x1, .f32⟩
  | .hbm, ⟨27, _⟩ => ⟨S_, .f32⟩
  | .hbm, ⟨28, _⟩ => ⟨S8448x1, .f32⟩
  | .hbm, ⟨29, _⟩ => ⟨S8448x1, .f32⟩
  | .hbm, ⟨30, _⟩ => ⟨S8448x512, .f32⟩
  | .hbm, ⟨31, _⟩ => ⟨S8448x512, .f32⟩
  | .hbm, ⟨32, _⟩ => ⟨S8448x512, .f32⟩
  | .hbm, ⟨33, _⟩ => ⟨S_, .f32⟩
  | .hbm, ⟨34, _⟩ => ⟨S8448, .f32⟩
  | .hbm, ⟨35, _⟩ => ⟨S8448x1, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S_, .f32⟩
  | .hbm, ⟨40, _⟩ => ⟨S8448x1, .f32⟩
  | .hbm, ⟨41, _⟩ => ⟨S8448x1, .f32⟩
  | .hbm, ⟨42, _⟩ => ⟨S8448x1, .f32⟩
  | .hbm, ⟨43, _⟩ => ⟨S8448x512, .f32⟩
  | .hbm, ⟨44, _⟩ => ⟨S8448x512, .f32⟩
  | .hbm, ⟨45, _⟩ => ⟨S8448x512, .f32⟩
  | .hbm, ⟨46, _⟩ => ⟨S8448x512, .f32⟩
  | .hbm, ⟨47, _⟩ => ⟨S8448x512, .f32⟩
  | .hbm, ⟨48, _⟩ => ⟨S8448x512, .f32⟩
  | .hbm, ⟨49, _⟩ => ⟨S66x128x4x128, .f32⟩
  | .hbm, ⟨50, _⟩ => ⟨S4x66x128x128, .f32⟩
  | .hbm, ⟨51, _⟩ => ⟨S66x128x4x128, .f32⟩
  | .hbm, ⟨52, _⟩ => ⟨S66x128x512, .f32⟩
  | .hbm, ⟨53, _⟩ => ⟨S1x128x512, .f32⟩
  | .hbm, ⟨54, _⟩ => ⟨S66x128x512, .f32⟩
  | .hbm, ⟨55, _⟩ => ⟨S66x128x512, .f32⟩
  | .hbm, ⟨56, _⟩ => ⟨S8448x512, .f32⟩
  | .hbm, ⟨57, _⟩ => ⟨S8448x512, .f32⟩
  | .hbm, ⟨58, _⟩ => ⟨S8448x512, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== S5InP.lean ====
abbrev S8448x512 : Shape := ⟨2, ![8448, 512]⟩
abbrev S512x4096 : Shape := ⟨2, ![512, 4096]⟩
abbrev S8448x4096 : Shape := ⟨2, ![8448, 4096]⟩
abbrev S768x512 : Shape := ⟨2, ![768, 512]⟩
abbrev S512x1024 : Shape := ⟨2, ![512, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .f32⟩
  | .hbm, ⟨1, _⟩ => ⟨S512x4096, .bf16⟩
  | .hbm, ⟨2, _⟩ => ⟨S8448x4096, .f32⟩
  | .local _ .vmem, ⟨0, _⟩ => ⟨S768x512, .f32⟩
  | .local _ .vmem, ⟨1, _⟩ => ⟨S768x512, .f32⟩
  | .local _ .vmem, ⟨2, _⟩ => ⟨S512x1024, .bf16⟩
  | .local _ .vmem, ⟨3, _⟩ => ⟨S512x1024, .bf16⟩
  | .local _ .vmem, ⟨4, _⟩ => ⟨S768x1024, .f32⟩
  | .local _ .vmem, ⟨5, _⟩ => ⟨S768x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5InPRefIdeal.lean ====
abbrev S8448x512 : Shape := ⟨2, ![8448, 512]⟩
abbrev S512x4096 : Shape := ⟨2, ![512, 4096]⟩
abbrev S8448x4096 : Shape := ⟨2, ![8448, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x4096, .bf16⟩
  | .hbm, ⟨2, _⟩ => ⟨S512x4096, .f32⟩
  | .hbm, ⟨3, _⟩ => ⟨S8448x4096, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== S5OutP.lean ====
abbrev S8448x4096 : Shape := ⟨2, ![8448, 4096]⟩
abbrev S4096x512 : Shape := ⟨2, ![4096, 512]⟩
abbrev S8448x512 : Shape := ⟨2, ![8448, 512]⟩
abbrev S768x2048 : Shape := ⟨2, ![768, 2048]⟩
abbrev S2048x512 : Shape := ⟨2, ![2048, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S4096x512, .bf16⟩
  | .hbm, ⟨2, _⟩ => ⟨S8448x512, .f32⟩
  | .local _ .vmem, ⟨0, _⟩ => ⟨S768x2048, .f32⟩
  | .local _ .vmem, ⟨1, _⟩ => ⟨S768x2048, .f32⟩
  | .local _ .vmem, ⟨2, _⟩ => ⟨S2048x512, .bf16⟩
  | .local _ .vmem, ⟨3, _⟩ => ⟨S2048x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5OutPRefIdeal.lean ====
abbrev S8448x4096 : Shape := ⟨2, ![8448, 4096]⟩
abbrev S4096x512 : Shape := ⟨2, ![4096, 512]⟩
abbrev S8448x512 : Shape := ⟨2, ![8448, 512]⟩

abbrev nBuf : Space → Nat
  | .hbm => 4
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096x512, .bf16⟩
  | .hbm, ⟨2, _⟩ => ⟨S4096x512, .f32⟩
  | .hbm, ⟨3, _⟩ => ⟨S8448x512, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== S5OutA.lean ====
abbrev S8448x4096 : Shape := ⟨2, ![8448, 4096]⟩
abbrev S4096x512 : Shape := ⟨2, ![4096, 512]⟩
abbrev S8448x512 : Shape := ⟨2, ![8448, 512]⟩
abbrev S768x2048 : Shape := ⟨2, ![768, 2048]⟩
abbrev S2048x512 : Shape := ⟨2, ![2048, 512]⟩
abbrev S768x512 : Shape := ⟨2, ![768, 512]⟩

abbrev nBuf : Space → Nat
  | .hbm => 4
  | .vmem => 9
  | .smem => 0
  | _ => 0

abbrev bufTy : (tb : Table) → Fin (tcTables nBuf tb) → BufTy
  | .hbm, ⟨0, _⟩ => ⟨S8448x4096, .f32⟩
  | .hbm, ⟨1, _⟩ => ⟨S4096x512, .bf16⟩
  | .hbm, ⟨2, _⟩ => ⟨S8448x512, .f32⟩
  | .hbm, ⟨3, _⟩ => ⟨S8448x512, .f32⟩
  | .local _ .vmem, ⟨0, _⟩ => ⟨S768x2048, .f32⟩
  | .local _ .vmem, ⟨1, _⟩ => ⟨S768x2048, .f32⟩
  | .local _ .vmem, ⟨2, _⟩ => ⟨S2048x512, .bf16⟩
  | .local _ .vmem, ⟨3, _⟩ => ⟨S2048x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S768x512, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== S5OutARefIdeal.lean ====
abbrev S8448x4096 : Shape := ⟨2, ![8448, 4096]⟩
abbrev S4096x512 : Shape := ⟨2, ![4096, 512]⟩
abbrev S8448x512 : Shape := ⟨2, ![8448, 512]⟩

abbrev nBuf : Space → Nat
  | .hbm => 6
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096x512, .bf16⟩
  | .hbm, ⟨2, _⟩ => ⟨S8448x512, .f32⟩
  | .hbm, ⟨3, _⟩ => ⟨S4096x512, .f32⟩
  | .hbm, ⟨4, _⟩ => ⟨S8448x512, .f32⟩
  | .hbm, ⟨5, _⟩ => ⟨S8448x512, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== S5OutB.lean ====
abbrev S8448x512 : Shape := ⟨2, ![8448, 512]⟩
abbrev S4096x512 : Shape := ⟨2, ![4096, 512]⟩
abbrev S8448x4096 : Shape := ⟨2, ![8448, 4096]⟩
abbrev S768x512 : Shape := ⟨2, ![768, 512]⟩
abbrev S1024x512 : Shape := ⟨2, ![1024, 512]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S4096x512, .bf16⟩
  | .hbm, ⟨2, _⟩ => ⟨S8448x4096, .f32⟩
  | .local _ .vmem, ⟨0, _⟩ => ⟨S768x512, .bf16⟩
  | .local _ .vmem, ⟨1, _⟩ => ⟨S768x512, .bf16⟩
  | .local _ .vmem, ⟨2, _⟩ => ⟨S1024x512, .bf16⟩
  | .local _ .vmem, ⟨3, _⟩ => ⟨S1024x512, .bf16⟩
  | .local _ .vmem, ⟨4, _⟩ => ⟨S768x1024, .f32⟩
  | .local _ .vmem, ⟨5, _⟩ => ⟨S768x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5OutBRefIdeal.lean ====
abbrev S8448x512 : Shape := ⟨2, ![8448, 512]⟩
abbrev S4096x512 : Shape := ⟨2, ![4096, 512]⟩
abbrev S_ : Shape := ⟨0, ![]⟩
abbrev S8448x4096 : Shape := ⟨2, ![8448, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S4096x512, .bf16⟩
  | .hbm, ⟨2, _⟩ => ⟨S_, .f32⟩
  | .hbm, ⟨3, _⟩ => ⟨S8448x4096, .f32⟩
  | .hbm, ⟨4, _⟩ => ⟨S4096x512, .f32⟩
  | .hbm, ⟨5, _⟩ => ⟨S8448x512, .f32⟩
  | .hbm, ⟨6, _⟩ => ⟨S8448x512, .f32⟩
  | .hbm, ⟨7, _⟩ => ⟨S8448x4096, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== S5OutW.lean ====
abbrev S8448x4096 : Shape := ⟨2, ![8448, 4096]⟩
abbrev S8448x512 : Shape := ⟨2, ![8448, 512]⟩
abbrev S4096x512 : Shape := ⟨2, ![4096, 512]⟩
abbrev S1408x1024 : Shape := ⟨2, ![1408, 1024]⟩
abbrev S1408x512 : Shape := ⟨2, ![1408, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S8448x512, .bf16⟩
  | .hbm, ⟨2, _⟩ => ⟨S4096x512, .f32⟩
  | .local _ .vmem, ⟨0, _⟩ => ⟨S1408x1024, .f32⟩
  | .local _ .vmem, ⟨1, _⟩ => ⟨S1408x1024, .f32⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5OutWRefIdeal.lean ====
abbrev S8448x4096 : Shape := ⟨2, ![8448, 4096]⟩
abbrev S8448x512 : Shape := ⟨2, ![8448, 512]⟩
abbrev S_ : Shape := ⟨0, ![]⟩
abbrev S4096x512 : Shape := ⟨2, ![4096, 512]⟩
abbrev S512x4096 : Shape := ⟨2, ![512, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x512, .bf16⟩
  | .hbm, ⟨2, _⟩ => ⟨S_, .f32⟩
  | .hbm, ⟨3, _⟩ => ⟨S4096x512, .f32⟩
  | .hbm, ⟨4, _⟩ => ⟨S8448x512, .f32⟩
  | .hbm, ⟨5, _⟩ => ⟨S8448x512, .f32⟩
  | .hbm, ⟨6, _⟩ => ⟨S512x4096, .f32⟩
  | .hbm, ⟨7, _⟩ => ⟨S4096x512, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== S5InB.lean ====
abbrev S8448x4096 : Shape := ⟨2, ![8448, 4096]⟩
abbrev S512x4096 : Shape := ⟨2, ![512, 4096]⟩
abbrev S8448x512 : Shape := ⟨2, ![8448, 512]⟩
abbrev S768x2048 : Shape := ⟨2, ![768, 2048]⟩
abbrev S512x2048 : Shape := ⟨2, ![512, 2048]⟩
abbrev S768x512 : Shape := ⟨2, ![768, 512]⟩

abbrev nBuf : Space → Nat
  | .hbm => 4
  | .vmem => 9
  | .smem => 0
  | _ => 0

abbrev bufTy : (tb : Table) → Fin (tcTables nBuf tb) → BufTy
  | .hbm, ⟨0, _⟩ => ⟨S8448x4096, .f32⟩
  | .hbm, ⟨1, _⟩ => ⟨S512x4096, .bf16⟩
  | .hbm, ⟨2, _⟩ => ⟨S8448x512, .f32⟩
  | .hbm, ⟨3, _⟩ => ⟨S8448x512, .f32⟩
  | .local _ .vmem, ⟨0, _⟩ => ⟨S768x2048, .f32⟩
  | .local _ .vmem, ⟨1, _⟩ => ⟨S768x2048, .f32⟩
  | .local _ .vmem, ⟨2, _⟩ => ⟨S512x2048, .bf16⟩
  | .local _ .vmem, ⟨3, _⟩ => ⟨S512x2048, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S768x512, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== S5InBRefIdeal.lean ====
abbrev S8448x4096 : Shape := ⟨2, ![8448, 4096]⟩
abbrev S512x4096 : Shape := ⟨2, ![512, 4096]⟩
abbrev S8448x512 : Shape := ⟨2, ![8448, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S512x4096, .bf16⟩
  | .hbm, ⟨2, _⟩ => ⟨S8448x512, .f32⟩
  | .hbm, ⟨3, _⟩ => ⟨S_, .f32⟩
  | .hbm, ⟨4, _⟩ => ⟨S8448x512, .f32⟩
  | .hbm, ⟨5, _⟩ => ⟨S512x4096, .f32⟩
  | .hbm, ⟨6, _⟩ => ⟨S8448x4096, .f32⟩
  | .hbm, ⟨7, _⟩ => ⟨S8448x512, .f32⟩
  | .hbm, ⟨8, _⟩ => ⟨S8448x512, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== S5InW.lean ====
abbrev S8448x512 : Shape := ⟨2, ![8448, 512]⟩
abbrev S8448x4096 : Shape := ⟨2, ![8448, 4096]⟩
abbrev S512x4096 : Shape := ⟨2, ![512, 4096]⟩
abbrev S1408x512 : Shape := ⟨2, ![1408, 512]⟩
abbrev S1408x2048 : Shape := ⟨2, ![1408, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S8448x4096, .f32⟩
  | .hbm, ⟨2, _⟩ => ⟨S512x4096, .f32⟩
  | .local _ .vmem, ⟨0, _⟩ => ⟨S1408x512, .f32⟩
  | .local _ .vmem, ⟨1, _⟩ => ⟨S1408x512, .f32⟩
  | .local _ .vmem, ⟨2, _⟩ => ⟨S1408x2048, .f32⟩
  | .local _ .vmem, ⟨3, _⟩ => ⟨S1408x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5InWRefIdeal.lean ====
abbrev S8448x512 : Shape := ⟨2, ![8448, 512]⟩
abbrev S8448x4096 : Shape := ⟨2, ![8448, 4096]⟩
abbrev S_ : Shape := ⟨0, ![]⟩
abbrev S512x4096 : Shape := ⟨2, ![512, 4096]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x4096, .f32⟩
  | .hbm, ⟨2, _⟩ => ⟨S_, .f32⟩
  | .hbm, ⟨3, _⟩ => ⟨S512x4096, .f32⟩
  | .hbm, ⟨4, _⟩ => ⟨S8448x4096, .f32⟩
  | .hbm, ⟨5, _⟩ => ⟨S4096x512, .f32⟩
  | .hbm, ⟨6, _⟩ => ⟨S512x4096, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvF.lean ====
abbrev S8448x1024 : Shape := ⟨2, ![8448, 1024]⟩
abbrev S31x512 : Shape := ⟨2, ![31, 512]⟩
abbrev S1x512 : Shape := ⟨2, ![1, 512]⟩
abbrev S8448x512 : Shape := ⟨2, ![8448, 512]⟩
abbrev S16x1024 : Shape := ⟨2, ![16, 1024]⟩
abbrev S256x1024 : Shape := ⟨2, ![256, 1024]⟩
abbrev S256x512 : Shape := ⟨2, ![256, 512]⟩
abbrev S16x512 : Shape := ⟨2, ![16, 512]⟩
abbrev S288x512 : Shape := ⟨2, ![288, 512]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8448x512, .bf16⟩
  | .hbm, ⟨6, _⟩ => ⟨S8448x512, .f32⟩
  | .hbm, ⟨7, _⟩ => ⟨S8448x512, .f32⟩
  | .local _ .vmem, ⟨0, _⟩ => ⟨S16x1024, .f32⟩
  | .local _ .vmem, ⟨1, _⟩ => ⟨S16x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvFRefIdeal.lean ====
abbrev S8448x1024 : Shape := ⟨2, ![8448, 1024]⟩
abbrev S31x512 : Shape := ⟨2, ![31, 512]⟩
abbrev S1x512 : Shape := ⟨2, ![1, 512]⟩
abbrev S8448x512 : Shape := ⟨2, ![8448, 512]⟩
abbrev S_ : Shape := ⟨0, ![]⟩
abbrev S15x512 : Shape := ⟨2, ![15, 512]⟩
abbrev S8192x512 : Shape := ⟨2, ![8192, 512]⟩
abbrev S256x512 : Shape := ⟨2, ![256, 512]⟩
abbrev S8493x512 : Shape := ⟨2, ![8493, 512]⟩
abbrev S8463x512 : Shape := ⟨2, ![8463, 512]⟩
abbrev S512 : Shape := ⟨1, ![512]⟩
abbrev S8448 : Shape := ⟨1, ![8448]⟩
abbrev S8448x1 : Shape := ⟨2, ![8448, 1]⟩

abbrev nBuf : Space → Nat
  | .hbm => 291
  | .vmem => 0
  | .smem => 0
  | _ => 0

abbrev hbmTy0_0 (i : Nat) : BufTy := match i % 128 with
  | 0 => ⟨S8448x1024, .f32⟩
  | 1 => ⟨S31x512, .f32⟩
  | 2 => ⟨S1x512, .f32⟩
  | 3 => ⟨S1x512, .f32⟩
  | 4 => ⟨S1x512, .f32⟩
  | 5 => ⟨S8448x512, .f32⟩
  | 6 => ⟨S8448x512, .f32⟩
  | 7 => ⟨S8448x512, .f32⟩
  | 8 => ⟨S8448x512, .f32⟩
  | 9 => ⟨S_, .f32⟩
  | 10 => ⟨S8448x512, .f32⟩
  | 11 => ⟨S8448x512, .f32⟩
  | 12 => ⟨S_, .f32⟩
  | 13 => ⟨S8448x512, .f32⟩
  | 14 => ⟨S8448x512, .f32⟩
  | 15 => ⟨S8448x512, .f32⟩
  | 16 => ⟨S8448x512, .f32⟩
  | 17 => ⟨S8448x512, .f32⟩
  | 18 => ⟨S8448x512, .f32⟩
  | 19 => ⟨S8448x512, .f32⟩
  | 20 => ⟨S_, .f32⟩
  | 21 => ⟨S8448x512, .f32⟩
  | 22 => ⟨S8448x512, .f32⟩
  | 23 => ⟨S_, .f32⟩
  | 24 => ⟨S8448x512, .f32⟩
  | 25 => ⟨S8448x512, .f32⟩
  | 26 => ⟨S8448x512, .f32⟩
  | 27 => ⟨S_, .f32⟩
  | 28 => ⟨S15x512, .f32⟩
  | 29 => ⟨S8192x512, .f32⟩
  | 30 => ⟨S256x512, .f32⟩
  | 31 => ⟨S8493x512, .f32⟩
  | 32 => ⟨S8463x512, .f32⟩
  | 33 => ⟨S1x512, .f32⟩
  | 34 => ⟨S512, .f32⟩
  | 35 => ⟨S1x512, .f32⟩
  | 36 => ⟨S8463x512, .f32⟩
  | 37 => ⟨S8463x512, .f32⟩
  | 38 => ⟨S_, .f32⟩
  | 39 => ⟨S8463x512, .f32⟩
  | 40 => ⟨S8463x512, .f32⟩
  | 41 => ⟨S8463x512, .f32⟩
  | 42 => ⟨S1x512, .f32⟩
  | 43 => ⟨S512, .f32⟩
  | 44 => ⟨S1x512, .f32⟩
  | 45 => ⟨S8463x512, .f32⟩
  | 46 => ⟨S8463x512, .f32⟩
  | 47 => ⟨S8463x512, .f32⟩
  | 48 => ⟨S8463x512, .f32⟩
  | 49 => ⟨S1x512, .f32⟩
  | 50 => ⟨S512, .f32⟩
  | 51 => ⟨S1x512, .f32⟩
  | 52 => ⟨S8463x512, .f32⟩
  | 53 => ⟨S8463x512, .f32⟩
  | 54 => ⟨S8463x512, .f32⟩
  | 55 => ⟨S8463x512, .f32⟩
  | 56 => ⟨S1x512, .f32⟩
  | 57 => ⟨S512, .f32⟩
  | 58 => ⟨S1x512, .f32⟩
  | 59 => ⟨S8463x512, .f32⟩
  | 60 => ⟨S8463x512, .f32⟩
  | 61 => ⟨S8463x512, .f32⟩
  | 62 => ⟨S8463x512, .f32⟩
  | 63 => ⟨S1x512, .f32⟩
  | 64 => ⟨S512, .f32⟩
  | 65 => ⟨S1x512, .f32⟩
  | 66 => ⟨S8463x512, .f32⟩
  | 67 => ⟨S8463x512, .f32⟩
  | 68 => ⟨S8463x512, .f32⟩
  | 69 => ⟨S8463x512, .f32⟩
  | 70 => ⟨S1x512, .f32⟩
  | 71 => ⟨S512, .f32⟩
  | 72 => ⟨S1x512, .f32⟩
  | 73 => ⟨S8463x512, .f32⟩
  | 74 => ⟨S8463x512, .f32⟩
  | 75 => ⟨S8463x512, .f32⟩
  | 76 => ⟨S8463x512, .f32⟩
  | 77 => ⟨S1x512, .f32⟩
  | 78 => ⟨S512, .f32⟩
  | 79 => ⟨S1x512, .f32⟩
  | 80 => ⟨S8463x512, .f32⟩
  | 81 => ⟨S8463x512, .f32⟩
  | 82 => ⟨S8463x512, .f32⟩
  | 83 => ⟨S8463x512, .f32⟩
  | 84 => ⟨S1x512, .f32⟩
  | 85 => ⟨S512, .f32⟩
  | 86 => ⟨S1x512, .f32⟩
  | 87 => ⟨S8463x512, .f32⟩
  | 88 => ⟨S8463x512, .f32⟩
  | 89 => ⟨S8463x512, .f32⟩
  | 90 => ⟨S8463x512, .f32⟩
  | 91 => ⟨S1x512, .f32⟩
  | 92 => ⟨S512, .f32⟩
  | 93 => ⟨S1x512, .f32⟩
  | 94 => ⟨S8463x512, .f32⟩
  | 95 => ⟨S8463x512, .f32⟩
  | 96 => ⟨S8463x512, .f32⟩
  | 97 => ⟨S8463x512, .f32⟩
  | 98 => ⟨S1x512, .f32⟩
  | 99 => ⟨S512, .f32⟩
  | 100 => ⟨S1x512, .f32⟩
  | 101 => ⟨S8463x512, .f32⟩
  | 102 => ⟨S8463x512, .f32⟩
  | 103 => ⟨S8463x512, .f32⟩
  | 104 => ⟨S8463x512, .f32⟩
  | 105 => ⟨S1x512, .f32⟩
  | 106 => ⟨S512, .f32⟩
  | 107 => ⟨S1x512, .f32⟩
  | 108 => ⟨S8463x512, .f32⟩
  | 109 => ⟨S8463x512, .f32⟩
  | 110 => ⟨S8463x512, .f32⟩
  | 111 => ⟨S8463x512, .f32⟩
  | 112 => ⟨S1x512, .f32⟩
  | 113 => ⟨S512, .f32⟩
  | 114 => ⟨S1x512, .f32⟩
  | 115 => ⟨S8463x512, .f32⟩
  | 116 => ⟨S8463x512, .f32⟩
  | 117 => ⟨S8463x512, .f32⟩
  | 118 => ⟨S8463x512, .f32⟩
  | 119 => ⟨S1x512, .f32⟩
  | 120 => ⟨S512, .f32⟩
  | 121 => ⟨S1x512, .f32⟩
  | 122 => ⟨S8463x512, .f32⟩
  | 123 => ⟨S8463x512, .f32⟩
  | 124 => ⟨S8463x512, .f32⟩
  | 125 => ⟨S8463x512, .f32⟩
  | 126 => ⟨S1x512, .f32⟩
  | 127 => ⟨S512, .f32⟩
  | _ => ⟨S8448x1024, .f32⟩

abbrev hbmTy0_1 (i : Nat) : BufTy := match i % 128 with
  | 0 => ⟨S1x512, .f32⟩
  | 1 => ⟨S8463x512, .f32⟩
  | 2 => ⟨S8463x512, .f32⟩
  | 3 => ⟨S8463x512, .f32⟩
  | 4 => ⟨S8463x512, .f32⟩
  | 5 => ⟨S1x512, .f32⟩
  | 6 => ⟨S512, .f32⟩
  | 7 => ⟨S1x512, .f32⟩
  | 8 => ⟨S8463x512, .f32⟩
  | 9 => ⟨S8463x512, .f32⟩
  | 10 => ⟨S8463x512, .f32⟩
  | 11 => ⟨S8463x512, .f32⟩
  | 12 => ⟨S1x512, .f32⟩
  | 13 => ⟨S512, .f32⟩
  | 14 => ⟨S1x512, .f32⟩
  | 15 => ⟨S8463x512, .f32⟩
  | 16 => ⟨S8463x512, .f32⟩
  | 17 => ⟨S8463x512, .f32⟩
  | 18 => ⟨S8463x512, .f32⟩
  | 19 => ⟨S1x512, .f32⟩
  | 20 => ⟨S512, .f32⟩
  | 21 => ⟨S1x512, .f32⟩
  | 22 => ⟨S8463x512, .f32⟩
  | 23 => ⟨S8463x512, .f32⟩
  | 24 => ⟨S8463x512, .f32⟩
  | 25 => ⟨S8463x512, .f32⟩
  | 26 => ⟨S1x512, .f32⟩
  | 27 => ⟨S512, .f32⟩
  | 28 => ⟨S1x512, .f32⟩
  | 29 => ⟨S8463x512, .f32⟩
  | 30 => ⟨S8463x512, .f32⟩
  | 31 => ⟨S8463x512, .f32⟩
  | 32 => ⟨S8463x512, .f32⟩
  | 33 => ⟨S1x512, .f32⟩
  | 34 => ⟨S512, .f32⟩
  | 35 => ⟨S1x512, .f32⟩
  | 36 => ⟨S8463x512, .f32⟩
  | 37 => ⟨S8463x512, .f32⟩
  | 38 => ⟨S8463x512, .f32⟩
  | 39 => ⟨S8463x512, .f32⟩
  | 40 => ⟨S1x512, .f32⟩
  | 41 => ⟨S512, .f32⟩
  | 42 => ⟨S1x512, .f32⟩
  | 43 => ⟨S8463x512, .f32⟩
  | 44 => ⟨S8463x512, .f32⟩
  | 45 => ⟨S8463x512, .f32⟩
  | 46 => ⟨S8463x512, .f32⟩
  | 47 => ⟨S1x512, .f32⟩
  | 48 => ⟨S512, .f32⟩
  | 49 => ⟨S1x512, .f32⟩
  | 50 => ⟨S8463x512, .f32⟩
  | 51 => ⟨S8463x512, .f32⟩
  | 52 => ⟨S8463x512, .f32⟩
  | 53 => ⟨S8463x512, .f32⟩
  | 54 => ⟨S1x512, .f32⟩
  | 55 => ⟨S512, .f32⟩
  | 56 => ⟨S1x512, .f32⟩
  | 57 => ⟨S8463x512, .f32⟩
  | 58 => ⟨S8463x512, .f32⟩
  | 59 => ⟨S8463x512, .f32⟩
  | 60 => ⟨S8463x512, .f32⟩
  | 61 => ⟨S1x512, .f32⟩
  | 62 => ⟨S512, .f32⟩
  | 63 => ⟨S1x512, .f32⟩
  | 64 => ⟨S8463x512, .f32⟩
  | 65 => ⟨S8463x512, .f32⟩
  | 66 => ⟨S8463x512, .f32⟩
  | 67 => ⟨S8463x512, .f32⟩
  | 68 => ⟨S1x512, .f32⟩
  | 69 => ⟨S512, .f32⟩
  | 70 => ⟨S1x512, .f32⟩
  | 71 => ⟨S8463x512, .f32⟩
  | 72 => ⟨S8463x512, .f32⟩
  | 73 => ⟨S8463x512, .f32⟩
  | 74 => ⟨S8463x512, .f32⟩
  | 75 => ⟨S1x512, .f32⟩
  | 76 => ⟨S512, .f32⟩
  | 77 => ⟨S1x512, .f32⟩
  | 78 => ⟨S8463x512, .f32⟩
  | 79 => ⟨S8463x512, .f32⟩
  | 80 => ⟨S8463x512, .f32⟩
  | 81 => ⟨S8463x512, .f32⟩
  | 82 => ⟨S1x512, .f32⟩
  | 83 => ⟨S512, .f32⟩
  | 84 => ⟨S1x512, .f32⟩
  | 85 => ⟨S8463x512, .f32⟩
  | 86 => ⟨S8463x512, .f32⟩
  | 87 => ⟨S8463x512, .f32⟩
  | 88 => ⟨S8463x512, .f32⟩
  | 89 => ⟨S1x512, .f32⟩
  | 90 => ⟨S512, .f32⟩
  | 91 => ⟨S1x512, .f32⟩
  | 92 => ⟨S8463x512, .f32⟩
  | 93 => ⟨S8463x512, .f32⟩
  | 94 => ⟨S8463x512, .f32⟩
  | 95 => ⟨S8463x512, .f32⟩
  | 96 => ⟨S1x512, .f32⟩
  | 97 => ⟨S512, .f32⟩
  | 98 => ⟨S1x512, .f32⟩
  | 99 => ⟨S8463x512, .f32⟩
  | 100 => ⟨S8463x512, .f32⟩
  | 101 => ⟨S8463x512, .f32⟩
  | 102 => ⟨S8463x512, .f32⟩
  | 103 => ⟨S1x512, .f32⟩
  | 104 => ⟨S512, .f32⟩
  | 105 => ⟨S1x512, .f32⟩
  | 106 => ⟨S8463x512, .f32⟩
  | 107 => ⟨S8463x512, .f32⟩
  | 108 => ⟨S8463x512, .f32⟩
  | 109 => ⟨S8463x512, .f32⟩
  | 110 => ⟨S1x512, .f32⟩
  | 111 => ⟨S512, .f32⟩
  | 112 => ⟨S1x512, .f32⟩
  | 113 => ⟨S8463x512, .f32⟩
  | 114 => ⟨S8463x512, .f32⟩
  | 115 => ⟨S8463x512, .f32⟩
  | 116 => ⟨S8463x512, .f32⟩
  | 117 => ⟨S1x512, .f32⟩
  | 118 => ⟨S512, .f32⟩
  | 119 => ⟨S1x512, .f32⟩
  | 120 => ⟨S8463x512, .f32⟩
  | 121 => ⟨S8463x512, .f32⟩
  | 122 => ⟨S8463x512, .f32⟩
  | 123 => ⟨S8463x512, .f32⟩
  | 124 => ⟨S8463x512, .f32⟩
  | 125 => ⟨S8192x512, .f32⟩
  | 126 => ⟨S256x512, .f32⟩
  | 127 => ⟨S8448x512, .f32⟩
  | _ => ⟨S8448x1024, .f32⟩

abbrev hbmTy0_2 (i : Nat) : BufTy := match i % 128 with
  | 0 => ⟨S_, .f32⟩
  | 1 => ⟨S8448, .f32⟩
  | 2 => ⟨S8448x1, .f32⟩
  | 3 => ⟨S_, .f32⟩
  | 4 => ⟨S8448x1, .f32⟩
  | 5 => ⟨S8448x1, .f32⟩
  | 6 => ⟨S8448x512, .f32⟩
  | 7 => ⟨S8448x512, .f32⟩
  | 8 => ⟨S8448x512, .f32⟩
  | 9 => ⟨S_, .f32⟩
  | 10 => ⟨S8448, .f32⟩
  | 11 => ⟨S8448x1, .f32⟩
  | 12 => ⟨S_, .f32⟩
  | 13 => ⟨S8448x1, .f32⟩
  | 14 => ⟨S8448x1, .f32⟩
  | 15 => ⟨S_, .f32⟩
  | 16 => ⟨S8448x1, .f32⟩
  | 17 => ⟨S8448x1, .f32⟩
  | 18 => ⟨S8448x1, .f32⟩
  | 19 => ⟨S8448x512, .f32⟩
  | 20 => ⟨S8448x512, .f32⟩
  | 21 => ⟨S8448x512, .f32⟩
  | 22 => ⟨S8448x512, .f32⟩
  | 23 => ⟨S8448x512, .f32⟩
  | 24 => ⟨S8448x512, .f32⟩
  | 25 => ⟨S8448x512, .f32⟩
  | 26 => ⟨S8448x512, .f32⟩
  | 27 => ⟨S_, .f32⟩
  | 28 => ⟨S8448x512, .f32⟩
  | 29 => ⟨S8448x512, .f32⟩
  | 30 => ⟨S_, .f32⟩
  | 31 => ⟨S8448x512, .f32⟩
  | 32 => ⟨S8448x512, .f32⟩
  | 33 => ⟨S8448x512, .f32⟩
  | 34 => ⟨S8448x512, .bf16⟩
  | _ => ⟨S8448x1024, .f32⟩

abbrev hbmTy (i : Nat) : BufTy := match i / 128 with
  | 0 => hbmTy0_0 i
  | 1 => hbmTy0_1 i
  | 2 => hbmTy0_2 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_cst_5 : Ref sig .tc := ⟨.hbm, 256, rfl⟩
abbrev main_v245 : Ref sig .tc := ⟨.hbm, 257, rfl⟩
abbrev main_v246 : Ref sig .tc := ⟨.hbm, 258, rfl⟩
abbrev main_cst_6 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_cst_7 : Ref sig .tc := ⟨.hbm, 265, rfl⟩
abbrev main_v252 : Ref sig .tc := ⟨.hbm, 266, rfl⟩
abbrev main_v253 : Ref sig .tc := ⟨.hbm, 267, rfl⟩
abbrev main_cst_8 : Ref sig .tc := ⟨.hbm, 268, rfl⟩
abbrev main_v254 : Ref sig .tc := ⟨.hbm, 269, rfl⟩
abbrev main_v255 : Ref sig .tc := ⟨.hbm, 270, rfl⟩
abbrev main_cst_9 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_call0_v0 : Ref sig .tc := ⟨.hbm, 281, rfl⟩
abbrev main_call0_v1 : Ref sig .tc := ⟨.hbm, 282, rfl⟩
abbrev main_call0_cst : Ref sig .tc := ⟨.hbm, 283, rfl⟩
abbrev main_call0_v2 : Ref sig .tc := ⟨.hbm, 284, rfl⟩
abbrev main_call0_v3 : Ref sig .tc := ⟨.hbm, 285, rfl⟩
abbrev main_call0_cst_0 : Ref sig .tc := ⟨.hbm, 286, rfl⟩
abbrev main_call0_v4 : Ref sig .tc := ⟨.hbm, 287, rfl⟩
abbrev main_call0_v5 : Ref sig .tc := ⟨.hbm, 288, rfl⟩
abbrev main_v265 : Ref sig .tc := ⟨.hbm, 289, rfl⟩
abbrev main_v266 : Ref sig .tc := ⟨.hbm, 290, rfl⟩

abbrev nD : Nat := 1
abbrev τ : Topo := Topo.v7x

variable {F : FTy → Type} [FloatOps F]
-- ==== SiluP.lean ====
abbrev S16x2048 : Shape := ⟨2, ![16, 2048]⟩

abbrev nBuf : Space → Nat
  | .hbm => 2
  | .vmem => 2
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .local _ .vmem, ⟨0, _⟩ => ⟨S16x2048, .f32⟩
  | .local _ .vmem, ⟨1, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SiluPRefIdeal.lean ====
abbrev S16x2048 : Shape := ⟨2, ![16, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S_, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== ModP.lean ====
abbrev S16x2048 : Shape := ⟨2, ![16, 2048]⟩
abbrev S2048x3072 : Shape := ⟨2, ![2048, 3072]⟩
abbrev S1x3072 : Shape := ⟨2, ![1, 3072]⟩
abbrev S16x3072 : Shape := ⟨2, ![16, 3072]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x3072, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ModPRefIdeal.lean ====
abbrev S16x2048 : Shape := ⟨2, ![16, 2048]⟩
abbrev S2048x3072 : Shape := ⟨2, ![2048, 3072]⟩
abbrev S1x3072 : Shape := ⟨2, ![1, 3072]⟩
abbrev S16x3072 : Shape := ⟨2, ![16, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x3072, .f32⟩
  | .hbm, ⟨4, _⟩ => ⟨S16x3072, .f32⟩
  | .hbm, ⟨5, _⟩ => ⟨S16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ModW.lean ====
abbrev S16x2048 : Shape := ⟨2, ![16, 2048]⟩
abbrev S16x3072 : Shape := ⟨2, ![16, 3072]⟩
abbrev S2048x3072 : Shape := ⟨2, ![2048, 3072]⟩
abbrev S16x1024 : Shape := ⟨2, ![16, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S2048x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .f32⟩
  | .local _ .vmem, ⟨5, _⟩ => ⟨S1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModWRefIdeal.lean ====
abbrev S16x2048 : Shape := ⟨2, ![16, 2048]⟩
abbrev S16x3072 : Shape := ⟨2, ![16, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S_, .f32⟩
  | .hbm, ⟨3, _⟩ => ⟨S2048x3072, .f32⟩
  | .hbm, ⟨4, _⟩ => ⟨S16x3072, .f32⟩
  | .hbm, ⟨5, _⟩ => ⟨S3072x2048, .f32⟩
  | .hbm, ⟨6, _⟩ => ⟨S2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModBG.lean ====
abbrev S16x12288 : Shape := ⟨2, ![16, 12288]⟩
abbrev S1x12288 : Shape := ⟨2, ![1, 12288]⟩
abbrev S12288 : Shape := ⟨1, ![12288]⟩

abbrev nBuf : Space → Nat
  | .hbm => 2
  | .vmem => 2
  | .smem => 0
  | _ => 0

abbrev bufTy : (tb : Table) → Fin (tcTables nBuf tb) → BufTy
  | .hbm, ⟨0, _⟩ => ⟨S16x12288, .f32⟩
  | .hbm, ⟨1, _⟩ => ⟨S1x12288, .f32⟩
  | .local _ .vmem, ⟨0, _⟩ => ⟨S16x12288, .f32⟩
  | .local _ .vmem, ⟨1, _⟩ => ⟨S1x12288, .f32⟩
  | _, _ => ⟨S16x12288, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ModBGRefIdeal.lean ====
abbrev S16x12288 : Shape := ⟨2, ![16, 12288]⟩
abbrev S_ : Shape := ⟨0, ![]⟩
abbrev S1x12288 : Shape := ⟨2, ![1, 12288]⟩
abbrev S12288 : Shape := ⟨1, ![12288]⟩

abbrev nBuf : Space → Nat
  | .hbm => 7
  | .vmem => 0
  | .smem => 0
  | _ => 0

abbrev bufTy : (tb : Table) → Fin (tcTables nBuf tb) → BufTy
  | .hbm, ⟨0, _⟩ => ⟨S16x12288, .f32⟩
  | .hbm, ⟨1, _⟩ => ⟨S_, .f32⟩
  | .hbm, ⟨2, _⟩ => ⟨S1x12288, .f32⟩
  | .hbm, ⟨3, _⟩ => ⟨S16x12288, .f32⟩
  | .hbm, ⟨4, _⟩ => ⟨S_, .f32⟩
  | .hbm, ⟨5, _⟩ => ⟨S12288, .f32⟩
  | .hbm, ⟨6, _⟩ => ⟨S1x12288, .f32⟩
  | _, _ => ⟨S16x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModB.lean ====
abbrev S16x3072 : Shape := ⟨2, ![16, 3072]⟩
abbrev S2048x3072 : Shape := ⟨2, ![2048, 3072]⟩
abbrev S16x2048 : Shape := ⟨2, ![16, 2048]⟩
abbrev S16x1024 : Shape := ⟨2, ![16, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16x3072, .f32⟩
  | .hbm, ⟨1, _⟩ => ⟨S2048x3072, .f32⟩
  | .hbm, ⟨2, _⟩ => ⟨S16x2048, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModBRefIdeal.lean ====
abbrev S16x3072 : Shape := ⟨2, ![16, 3072]⟩
abbrev S2048x3072 : Shape := ⟨2, ![2048, 3072]⟩
abbrev S_ : Shape := ⟨0, ![]⟩
abbrev S16x2048 : Shape := ⟨2, ![16, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S2048x3072, .f32⟩
  | .hbm, ⟨2, _⟩ => ⟨S_, .f32⟩
  | .hbm, ⟨3, _⟩ => ⟨S16x2048, .f32⟩
  | .hbm, ⟨4, _⟩ => ⟨S16x3072, .f32⟩
  | .hbm, ⟨5, _⟩ => ⟨S16x2048, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ModBA.lean ====
abbrev S16x3072 : Shape := ⟨2, ![16, 3072]⟩
abbrev S2048x3072 : Shape := ⟨2, ![2048, 3072]⟩
abbrev S16x2048 : Shape := ⟨2, ![16, 2048]⟩
abbrev S16x1024 : Shape := ⟨2, ![16, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16x3072, .f32⟩
  | .hbm, ⟨1, _⟩ => ⟨S2048x3072, .f32⟩
  | .hbm, ⟨2, _⟩ => ⟨S16x2048, .f32⟩
  | .hbm, ⟨3, _⟩ => ⟨S16x2048, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ModBARefIdeal.lean ====
abbrev S16x3072 : Shape := ⟨2, ![16, 3072]⟩
abbrev S2048x3072 : Shape := ⟨2, ![2048, 3072]⟩
abbrev S16x2048 : Shape := ⟨2, ![16, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S2048x3072, .f32⟩
  | .hbm, ⟨2, _⟩ => ⟨S16x2048, .f32⟩
  | .hbm, ⟨3, _⟩ => ⟨S_, .f32⟩
  | .hbm, ⟨4, _⟩ => ⟨S16x2048, .f32⟩
  | .hbm, ⟨5, _⟩ => ⟨S16x3072, .f32⟩
  | .hbm, ⟨6, _⟩ => ⟨S16x2048, .f32⟩
  | .hbm, ⟨7, _⟩ => ⟨S16x2048, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SiluB.lean ====
abbrev S16x2048 : Shape := ⟨2, ![16, 2048]⟩

abbrev nBuf : Space → Nat
  | .hbm => 3
  | .vmem => 3
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SiluBRefIdeal.lean ====
abbrev S16x2048 : Shape := ⟨2, ![16, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .hbm, ⟨18, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== AdMod.lean ====
abbrev S8192x3072 : Shape := ⟨2, ![8192, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdModIdeal.lean ====
abbrev S8192x3072 : Shape := ⟨2, ![8192, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdModRefIdeal.lean ====
abbrev S8192x3072 : Shape := ⟨2, ![8192, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S_, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdIn.lean ====
abbrev S8192x832 : Shape := ⟨2, ![8192, 832]⟩
abbrev S256x832 : Shape := ⟨2, ![256, 832]⟩

abbrev nBuf : Space → Nat
  | .hbm => 7
  | .vmem => 14
  | .smem => 0
  | _ => 0

abbrev bufTy : (tb : Table) → Fin (tcTables nBuf tb) → BufTy
  | .hbm, ⟨0, _⟩ => ⟨S8192x832, .f32⟩
  | .hbm, ⟨1, _⟩ => ⟨S8192x832, .f32⟩
  | .hbm, ⟨2, _⟩ => ⟨S8192x832, .f32⟩
  | .hbm, ⟨3, _⟩ => ⟨S8192x832, .f32⟩
  | .hbm, ⟨4, _⟩ => ⟨S8192x832, .f32⟩
  | .hbm, ⟨5, _⟩ => ⟨S8192x832, .f32⟩
  | .hbm, ⟨6, _⟩ => ⟨S8192x832, .f32⟩
  | .local _ .vmem, ⟨0, _⟩ => ⟨S256x832, .f32⟩
  | .local _ .vmem, ⟨1, _⟩ => ⟨S256x832, .f32⟩
  | .local _ .vmem, ⟨2, _⟩ => ⟨S256x832, .f32⟩
  | .local _ .vmem, ⟨3, _⟩ => ⟨S256x832, .f32⟩
  | .local _ .vmem, ⟨4, _⟩ => ⟨S256x832, .f32⟩
  | .local _ .vmem, ⟨5, _⟩ => ⟨S256x832, .f32⟩
  | .local _ .vmem, ⟨6, _⟩ => ⟨S256x832, .f32⟩
  | .local _ .vmem, ⟨7, _⟩ => ⟨S256x832, .f32⟩
  | .local _ .vmem, ⟨8, _⟩ => ⟨S256x832, .f32⟩
  | .local _ .vmem, ⟨9, _⟩ => ⟨S256x832, .f32⟩
  | .local _ .vmem, ⟨10, _⟩ => ⟨S256x832, .f32⟩
  | .local _ .vmem, ⟨11, _⟩ => ⟨S256x832, .f32⟩
  | .local _ .vmem, ⟨12, _⟩ => ⟨S256x832, .f32⟩
  | .local _ .vmem, ⟨13, _⟩ => ⟨S256x832, .f32⟩
  | _, _ => ⟨S8192x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInIdeal.lean ====
abbrev S8192x832 : Shape := ⟨2, ![8192, 832]⟩
abbrev S256x832 : Shape := ⟨2, ![256, 832]⟩

abbrev nBuf : Space → Nat
  | .hbm => 7
  | .vmem => 14
  | .smem => 0
  | _ => 0

abbrev bufTy : (tb : Table) → Fin (tcTables nBuf tb) → BufTy
  | .hbm, ⟨0, _⟩ => ⟨S8192x832, .f32⟩
  | .hbm, ⟨1, _⟩ => ⟨S8192x832, .f32⟩
  | .hbm, ⟨2, _⟩ => ⟨S8192x832, .f32⟩
  | .hbm, ⟨3, _⟩ => ⟨S8192x832, .f32⟩
  | .hbm, ⟨4, _⟩ => ⟨S8192x832, .f32⟩
  | .hbm, ⟨5, _⟩ => ⟨S8192x832, .f32⟩
  | .hbm, ⟨6, _⟩ => ⟨S8192x832, .f32⟩
  | .local _ .vmem, ⟨0, _⟩ => ⟨S256x832, .f32⟩
  | .local _ .vmem, ⟨1, _⟩ => ⟨S256x832, .f32⟩
  | .local _ .vmem, ⟨2, _⟩ => ⟨S256x832, .f32⟩
  | .local _ .vmem, ⟨3, _⟩ => ⟨S256x832, .f32⟩
  | .local _ .vmem, ⟨4, _⟩ => ⟨S256x832, .f32⟩
  | .local _ .vmem, ⟨5, _⟩ => ⟨S256x832, .f32⟩
  | .local _ .vmem, ⟨6, _⟩ => ⟨S256x832, .f32⟩
  | .local _ .vmem, ⟨7, _⟩ => ⟨S256x832, .f32⟩
  | .local _ .vmem, ⟨8, _⟩ => ⟨S256x832, .f32⟩
  | .local _ .vmem, ⟨9, _⟩ => ⟨S256x832, .f32⟩
  | .local _ .vmem, ⟨10, _⟩ => ⟨S256x832, .f32⟩
  | .local _ .vmem, ⟨11, _⟩ => ⟨S256x832, .f32⟩
  | .local _ .vmem, ⟨12, _⟩ => ⟨S256x832, .f32⟩
  | .local _ .vmem, ⟨13, _⟩ => ⟨S256x832, .f32⟩
  | _, _ => ⟨S8192x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInRefIdeal.lean ====
abbrev S8192x832 : Shape := ⟨2, ![8192, 832]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x832, .f32⟩
  | .hbm, ⟨1, _⟩ => ⟨S8192x832, .f32⟩
  | .hbm, ⟨2, _⟩ => ⟨S8192x832, .f32⟩
  | .hbm, ⟨3, _⟩ => ⟨S8192x832, .f32⟩
  | .hbm, ⟨4, _⟩ => ⟨S_, .f32⟩
  | .hbm, ⟨5, _⟩ => ⟨S8192x832, .f32⟩
  | .hbm, ⟨6, _⟩ => ⟨S8192x832, .f32⟩
  | .hbm, ⟨7, _⟩ => ⟨S_, .f32⟩
  | .hbm, ⟨8, _⟩ => ⟨S8192x832, .f32⟩
  | .hbm, ⟨9, _⟩ => ⟨S8192x832, .f32⟩
  | .hbm, ⟨10, _⟩ => ⟨S8192x832, .f32⟩
  | .hbm, ⟨11, _⟩ => ⟨S_, .f32⟩
  | .hbm, ⟨12, _⟩ => ⟨S8192x832, .f32⟩
  | .hbm, ⟨13, _⟩ => ⟨S8192x832, .f32⟩
  | .hbm, ⟨14, _⟩ => ⟨S8192x832, .f32⟩
  | .hbm, ⟨15, _⟩ => ⟨S_, .f32⟩
  | .hbm, ⟨16, _⟩ => ⟨S8192x832, .f32⟩
  | .hbm, ⟨17, _⟩ => ⟨S8192x832, .f32⟩
  | .hbm, ⟨18, _⟩ => ⟨S8192x832, .f32⟩
  | .hbm, ⟨19, _⟩ => ⟨S_, .f32⟩
  | .hbm, ⟨20, _⟩ => ⟨S8192x832, .f32⟩
  | .hbm, ⟨21, _⟩ => ⟨S8192x832, .f32⟩
  | .hbm, ⟨22, _⟩ => ⟨S_, .f32⟩
  | .hbm, ⟨23, _⟩ => ⟨S8192x832, .f32⟩
  | .hbm, ⟨24, _⟩ => ⟨S8192x832, .f32⟩
  | .hbm, ⟨25, _⟩ => ⟨S8192x832, .f32⟩
  | .hbm, ⟨26, _⟩ => ⟨S_, .f32⟩
  | .hbm, ⟨27, _⟩ => ⟨S8192x832, .f32⟩
  | .hbm, ⟨28, _⟩ => ⟨S8192x832, .f32⟩
  | .hbm, ⟨29, _⟩ => ⟨S8192x832, .f32⟩
  | .hbm, ⟨30, _⟩ => ⟨S_, .f32⟩
  | .hbm, ⟨31, _⟩ => ⟨S8192x832, .f32⟩
  | .hbm, ⟨32, _⟩ => ⟨S8192x832, .f32⟩
  | .hbm, ⟨33, _⟩ => ⟨S8192x832, .f32⟩
  | .hbm, ⟨34, _⟩ => ⟨S_, .f32⟩
  | .hbm, ⟨35, _⟩ => ⟨S8192x832, .f32⟩
  | .hbm, ⟨36, _⟩ => ⟨S8192x832, .f32⟩
  | _, _ => ⟨S8192x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGlu.lean ====
abbrev S2048x256 : Shape := ⟨2, ![2048, 256]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdGluIdeal.lean ====
abbrev S2048x256 : Shape := ⟨2, ![2048, 256]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdGluRefIdeal.lean ====
abbrev S2048x256 : Shape := ⟨2, ![2048, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdBr.lean ====
abbrev S8192x512 : Shape := ⟨2, ![8192, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdBrIdeal.lean ====
abbrev S8192x512 : Shape := ⟨2, ![8192, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdBrRefIdeal.lean ====
abbrev S8192x512 : Shape := ⟨2, ![8192, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFf.lean ====
abbrev S8192x2048 : Shape := ⟨2, ![8192, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdFfIdeal.lean ====
abbrev S8192x2048 : Shape := ⟨2, ![8192, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdFfRefIdeal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdOut.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdOutRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Frames.lean ====
/- The frames: every program runs to its end from any memory, leaves its arguments as they were and its semaphores at zero. -/
module

public import proofs.«01_k».proof.Defs
public import proofs.«01_k».proof.Proof.Gen.MergeB
public import proofs.«01_k».proof.Proof.Gen.MergeB.Frame
public import proofs.«01_k».proof.Proof.Gen.Ff2B
public import proofs.«01_k».proof.Proof.Gen.Ff2B.Frame
public import proofs.«01_k».proof.Proof.Gen.Ff2W
public import proofs.«01_k».proof.Proof.Gen.Ff2W.Frame
public import proofs.«01_k».proof.Proof.Gen.Ff1B
public import proofs.«01_k».proof.Proof.Gen.Ff1B.Frame
public import proofs.«01_k».proof.Proof.Gen.Ff1W
public import proofs.«01_k».proof.Proof.Gen.Ff1W.Frame
public import proofs.«01_k».proof.Proof.Gen.GateW
public import proofs.«01_k».proof.Proof.Gen.GateW.Frame
public import proofs.«01_k».proof.Proof.Gen.GateB
public import proofs.«01_k».proof.Proof.Gen.GateB.Frame
public import proofs.«01_k».proof.Proof.Gen.GmlpB
public import proofs.«01_k».proof.Proof.Gen.GmlpB.Frame
public import proofs.«01_k».proof.Proof.Gen.OutB
public import proofs.«01_k».proof.Proof.Gen.OutB.Frame
public import proofs.«01_k».proof.Proof.Gen.OutW
public import proofs.«01_k».proof.Proof.Gen.OutW.Frame
public import proofs.«01_k».proof.Proof.Gen.BranchB
public import proofs.«01_k».proof.Proof.Gen.BranchB.Frame
public import proofs.«01_k».proof.Proof.Gen.BranchW
public import proofs.«01_k».proof.Proof.Gen.BranchW.Frame
public import proofs.«01_k».proof.Proof.Gen.InB
public import proofs.«01_k».proof.Proof.Gen.InB.Frame
public import proofs.«01_k».proof.Proof.Gen.InW
public import proofs.«01_k».proof.Proof.Gen.InW.Frame
public import proofs.«01_k».proof.Proof.Gen.ConvLnB
public import proofs.«01_k».proof.Proof.Gen.ConvLnB.Frame
public import proofs.«01_k».proof.Proof.Gen.S5GluB
public import proofs.«01_k».proof.Proof.Gen.S5GluB.Frame
public import proofs.«01_k».proof.Proof.Gen.S5ActB
public import proofs.«01_k».proof.Proof.Gen.S5ActB.Frame
public import proofs.«01_k».proof.Proof.Gen.InP
public import proofs.«01_k».proof.Proof.Gen.InP.Frame
public import proofs.«01_k».proof.Proof.Gen.GateP
public import proofs.«01_k».proof.Proof.Gen.GateP.Frame
public import proofs.«01_k».proof.Proof.Gen.BranchP
public import proofs.«01_k».proof.Proof.Gen.BranchP.Frame
public import proofs.«01_k».proof.Proof.Gen.OutP
public import proofs.«01_k».proof.Proof.Gen.OutP.Frame
public import proofs.«01_k».proof.Proof.Gen.Ff1P
public import proofs.«01_k».proof.Proof.Gen.Ff1P.Frame
public import proofs.«01_k».proof.Proof.Gen.Ff2P
public import proofs.«01_k».proof.Proof.Gen.Ff2P.Frame
public import proofs.«01_k».proof.Proof.Gen.GluP
public import proofs.«01_k».proof.Proof.Gen.GluP.Frame
public import proofs.«01_k».proof.Proof.Gen.GluPB
public import proofs.«01_k».proof.Proof.Gen.GluPB.Frame
public import proofs.«01_k».proof.Proof.Gen.GluPW
public import proofs.«01_k».proof.Proof.Gen.GluPW.Frame
public import proofs.«01_k».proof.Proof.Gen.MergeP
public import proofs.«01_k».proof.Proof.Gen.MergeP.Frame
public import proofs.«01_k».proof.Proof.Gen.S5ActP
public import proofs.«01_k».proof.Proof.Gen.S5ActP.Frame
public import proofs.«01_k».proof.Proof.Gen.S5GluP
public import proofs.«01_k».proof.Proof.Gen.S5GluP.Frame
public import proofs.«01_k».proof.Proof.Gen.Norm1P
public import proofs.«01_k».proof.Proof.Gen.Norm1P.Frame
public import proofs.«01_k».proof.Proof.Gen.ResidP
public import proofs.«01_k».proof.Proof.Gen.ResidP.Frame
public import proofs.«01_k».proof.Proof.Gen.GmlpP
public import proofs.«01_k».proof.Proof.Gen.GmlpP.Frame
public import proofs.«01_k».proof.Proof.Gen.S5InP
public import proofs.«01_k».proof.Proof.Gen.S5InP.Frame
public import proofs.«01_k».proof.Proof.Gen.S5OutP
public import proofs.«01_k».proof.Proof.Gen.S5OutP.Frame
public import proofs.«01_k».proof.Proof.Gen.S5OutA
public import proofs.«01_k».proof.Proof.Gen.S5OutA.Frame
public import proofs.«01_k».proof.Proof.Gen.S5OutB
public import proofs.«01_k».proof.Proof.Gen.S5OutB.Frame
public import proofs.«01_k».proof.Proof.Gen.S5OutW
public import proofs.«01_k».proof.Proof.Gen.S5OutW.Frame
public import proofs.«01_k».proof.Proof.Gen.S5InB
public import proofs.«01_k».proof.Proof.Gen.S5InB.Frame
public import proofs.«01_k».proof.Proof.Gen.S5InW
public import proofs.«01_k».proof.Proof.Gen.S5InW.Frame
public import proofs.«01_k».proof.Proof.Gen.ConvF
public import proofs.«01_k».proof.Proof.Gen.ConvF.Frame
public import proofs.«01_k».proof.Proof.Gen.SiluP
public import proofs.«01_k».proof.Proof.Gen.SiluP.Frame
public import proofs.«01_k».proof.Proof.Gen.ModP
public import proofs.«01_k».proof.Proof.Gen.ModP.Frame
public import proofs.«01_k».proof.Proof.Gen.ModW
public import proofs.«01_k».proof.Proof.Gen.ModW.Frame
public import proofs.«01_k».proof.Proof.Gen.ModBG
public import proofs.«01_k».proof.Proof.Gen.ModBG.Frame
public import proofs.«01_k».proof.Proof.Gen.ModB
public import proofs.«01_k».proof.Proof.Gen.ModB.Frame
public import proofs.«01_k».proof.Proof.Gen.ModBA
public import proofs.«01_k».proof.Proof.Gen.ModBA.Frame
public import proofs.«01_k».proof.Proof.Gen.SiluB
public import proofs.«01_k».proof.Proof.Gen.SiluB.Frame
public import proofs.«01_k».proof.Proof.Gen.AdMod
public import proofs.«01_k».proof.Proof.Gen.AdMod.Frame
public import proofs.«01_k».proof.Proof.Gen.AdIn
public import proofs.«01_k».proof.Proof.Gen.AdIn.Frame
public import proofs.«01_k».proof.Proof.Gen.AdGlu
public import proofs.«01_k».proof.Proof.Gen.AdGlu.Frame
public import proofs.«01_k».proof.Proof.Gen.AdBr
public import proofs.«01_k».proof.Proof.Gen.AdBr.Frame
public import proofs.«01_k».proof.Proof.Gen.AdFf
public import proofs.«01_k».proof.Proof.Gen.AdFf.Frame
public import proofs.«01_k».proof.Proof.Gen.AdOut
public import proofs.«01_k».proof.Proof.Gen.AdOut.Frame
public import proofs.«01_k».proof.Proof.Gen.MergeBIdeal.Value
public import proofs.«01_k».proof.Proof.Gen.MergeBRefIdeal.Run
public import proofs.«01_k».proof.Proof.Gen.Ff2BIdeal.Value
public import proofs.«01_k».proof.Proof.Gen.Ff2BRefIdeal.Run
public import proofs.«01_k».proof.Proof.Gen.Ff2WIdeal.Value
public import proofs.«01_k».proof.Proof.Gen.Ff2WRefIdeal.Run
public import proofs.«01_k».proof.Proof.Gen.Ff1BIdeal.Value
public import proofs.«01_k».proof.Proof.Gen.Ff1BRefIdeal.Run
public import proofs.«01_k».proof.Proof.Gen.Ff1WIdeal.Value
public import proofs.«01_k».proof.Proof.Gen.Ff1WRefIdeal.Run
public import proofs.«01_k».proof.Proof.Gen.GateWIdeal.Value
public import proofs.«01_k».proof.Proof.Gen.GateWRefIdeal.Run
public import proofs.«01_k».proof.Proof.Gen.GateBIdeal.Value
public import proofs.«01_k».proof.Proof.Gen.GateBRefIdeal.Run
public import proofs.«01_k».proof.Proof.Gen.GmlpBIdeal.Value
public import proofs.«01_k».proof.Proof.Gen.GmlpBRefIdeal.Run
public import proofs.«01_k».proof.Proof.Gen.OutBIdeal.Value
public import proofs.«01_k».proof.Proof.Gen.OutBRefIdeal.Run
public import proofs.«01_k».proof.Proof.Gen.OutWIdeal.Value
public import proofs.«01_k».proof.Proof.Gen.OutWRefIdeal.Run
public import proofs.«01_k».proof.Proof.Gen.BranchBIdeal.Value
public import proofs.«01_k».proof.Proof.Gen.BranchBRefIdeal.Run
public import proofs.«01_k».proof.Proof.Gen.BranchWIdeal.Value
public import proofs.«01_k».proof.Proof.Gen.BranchWRefIdeal.Run
public import proofs.«01_k».proof.Proof.Gen.InBIdeal.Value
public import proofs.«01_k».proof.Proof.Gen.InBRefIdeal.Run
public import proofs.«01_k».proof.Proof.Gen.InWIdeal.Value
public import proofs.«01_k».proof.Proof.Gen.InWRefIdeal.Run
public import proofs.«01_k».proof.Proof.Gen.ConvLnBIdeal.Value
public import proofs.«01_k».proof.Proof.Gen.ConvLnBRefIdeal.Run
public import proofs.«01_k».proof.Proof.Gen.S5GluBIdeal.Value
public import proofs.«01_k».proof.Proof.Gen.S5GluBRefIdeal.Run
public import proofs.«01_k».proof.Proof.Gen.S5ActBIdeal.Value
public import proofs.«01_k».proof.Proof.Gen.S5ActBRefIdeal.Run
public import proofs.«01_k».proof.Proof.Gen.InPIdeal.Value
public import proofs.«01_k».proof.Proof.Gen.InPRefIdeal.Run
public import proofs.«01_k».proof.Proof.Gen.GatePIdeal.Value
public import proofs.«01_k».proof.Proof.Gen.GatePRefIdeal.Run
public import proofs.«01_k».proof.Proof.Gen.BranchPIdeal.Value
public import proofs.«01_k».proof.Proof.Gen.BranchPRefIdeal.Run
public import proofs.«01_k».proof.Proof.Gen.OutPIdeal.Value
public import proofs.«01_k».proof.Proof.Gen.OutPRefIdeal.Run
public import proofs.«01_k».proof.Proof.Gen.Ff1PIdeal.Value
public import proofs.«01_k».proof.Proof.Gen.Ff1PRefIdeal.Run
public import proofs.«01_k».proof.Proof.Gen.Ff2PIdeal.Value
public import proofs.«01_k».proof.Proof.Gen.Ff2PRefIdeal.Run
public import proofs.«01_k».proof.Proof.Gen.GluPIdeal.Value
public import proofs.«01_k».proof.Proof.Gen.GluPRefIdeal.Run
public import proofs.«01_k».proof.Proof.Gen.GluPBIdeal.Value
public import proofs.«01_k».proof.Proof.Gen.GluPBRefIdeal.Run
public import proofs.«01_k».proof.Proof.Gen.GluPWIdeal.Value
public import proofs.«01_k».proof.Proof.Gen.GluPWRefIdeal.Run
public import proofs.«01_k».proof.Proof.Gen.MergePIdeal.Value
public import proofs.«01_k».proof.Proof.Gen.MergePRefIdeal.Run
public import proofs.«01_k».proof.Proof.Gen.S5ActPIdeal.Value
public import proofs.«01_k».proof.Proof.Gen.S5ActPRefIdeal.Run
public import proofs.«01_k».proof.Proof.Gen.S5GluPIdeal.Value
public import proofs.«01_k».proof.Proof.Gen.S5GluPRefIdeal.Run
public import proofs.«01_k».proof.Proof.Gen.Norm1PIdeal.Value
public import proofs.«01_k».proof.Proof.Gen.Norm1PRefIdeal.Run
public import proofs.«01_k».proof.Proof.Gen.ResidPIdeal.Value
public import proofs.«01_k».proof.Proof.Gen.ResidPRefIdeal.Run
public import proofs.«01_k».proof.Proof.Gen.GmlpPIdeal.Value
public import proofs.«01_k».proof.Proof.Gen.GmlpPRefIdeal.Run
public import proofs.«01_k».proof.Proof.Gen.S5InPIdeal.Value
public import proofs.«01_k».proof.Proof.Gen.S5InPRefIdeal.Run
public import proofs.«01_k».proof.Proof.Gen.S5OutPIdeal.Value
public import proofs.«01_k».proof.Proof.Gen.S5OutPRefIdeal.Run
public import proofs.«01_k».proof.Proof.Gen.S5OutAIdeal.Value
public import proofs.«01_k».proof.Proof.Gen.S5OutARefIdeal.Run
public import proofs.«01_k».proof.Proof.Gen.S5OutBIdeal.Value
public import proofs.«01_k».proof.Proof.Gen.S5OutBRefIdeal.Run
public import proofs.«01_k».proof.Proof.Gen.S5OutWIdeal.Value
public import proofs.«01_k».proof.Proof.Gen.S5OutWRefIdeal.Run
public import proofs.«01_k».proof.Proof.Gen.S5InBIdeal.Value
public import proofs.«01_k».proof.Proof.Gen.S5InBRefIdeal.Run
public import proofs.«01_k».proof.Proof.Gen.S5InWIdeal.Value
public import proofs.«01_k».proof.Proof.Gen.S5InWRefIdeal.Run
public import proofs.«01_k».proof.Proof.Gen.ConvFIdeal.Value
public import proofs.«01_k».proof.Proof.Gen.ConvFRefIdeal.Run
public import proofs.«01_k».proof.Proof.Gen.SiluPIdeal.Value
public import proofs.«01_k».proof.Proof.Gen.SiluPRefIdeal.Run
public import proofs.«01_k».proof.Proof.Gen.ModPIdeal.Value
public import proofs.«01_k».proof.Proof.Gen.ModPRefIdeal.Run
public import proofs.«01_k».proof.Proof.Gen.ModWIdeal.Value
public import proofs.«01_k».proof.Proof.Gen.ModWRefIdeal.Run
public import proofs.«01_k».proof.Proof.Gen.ModBGIdeal.Value
public import proofs.«01_k».proof.Proof.Gen.ModBGRefIdeal.Run
public import proofs.«01_k».proof.Proof.Gen.ModBIdeal.Value
public import proofs.«01_k».proof.Proof.Gen.ModBRefIdeal.Run
public import proofs.«01_k».proof.Proof.Gen.ModBAIdeal.Value
public import proofs.«01_k».proof.Proof.Gen.ModBARefIdeal.Run
public import proofs.«01_k».proof.Proof.Gen.SiluBIdeal.Value
public import proofs.«01_k».proof.Proof.Gen.SiluBRefIdeal.Run
public import proofs.«01_k».proof.Proof.Gen.AdModIdeal.Value
public import proofs.«01_k».proof.Proof.Gen.AdModRefIdeal.Run
public import proofs.«01_k».proof.Proof.Gen.AdInIdeal.Value
public import proofs.«01_k».proof.Proof.Gen.AdInRefIdeal.Run
public import proofs.«01_k».proof.Proof.Gen.AdGluIdeal.Value
public import proofs.«01_k».proof.Proof.Gen.AdGluRefIdeal.Run
public import proofs.«01_k».proof.Proof.Gen.AdBrIdeal.Value
public import proofs.«01_k».proof.Proof.Gen.AdBrRefIdeal.Run
public import proofs.«01_k».proof.Proof.Gen.AdFfIdeal.Value
public import proofs.«01_k».proof.Proof.Gen.AdFfRefIdeal.Run
public import proofs.«01_k».proof.Proof.Gen.AdOutIdeal.Value
public import proofs.«01_k».proof.Proof.Gen.AdOutRefIdeal.Run

@[expose] public section

noncomputable section

namespace Cert

open Idealize.ShloMosaic Idealize.SL.Sem

theorem frame_merge_b : Cert.quiescent_MergeB := fun m ρ _ => Cert.MergeB.Gen.frame (F := Bits) m ρ

theorem frame_merge_b_ideal : Cert.quiescent_MergeBIdeal := fun m ρ _ => Cert.MergeBIdeal.Gen.frame (F := Ideal) m ρ

theorem frame_merge_b_ref : Cert.quiescent_MergeBRefIdeal := fun m ρ _ =>
  (θ_run Cert.MergeBRefIdeal.defs _ _).mono (fun r h => ⟨fun c => (h c).2.2.2.2.2.2, sem_eq_zero_of_no_sems (by decide) r.2⟩)
    (Cert.MergeBRefIdeal.Value.run (F := Ideal) m ρ)

theorem frame_ff2_b : Cert.quiescent_Ff2B := fun m ρ _ => Cert.Ff2B.Gen.frame (F := Bits) m ρ

theorem frame_ff2_b_ideal : Cert.quiescent_Ff2BIdeal := fun m ρ _ => Cert.Ff2BIdeal.Gen.frame (F := Ideal) m ρ

theorem frame_ff2_b_ref : Cert.quiescent_Ff2BRefIdeal := fun m ρ _ =>
  (θ_run Cert.Ff2BRefIdeal.defs _ _).mono (fun r h => ⟨fun c => (h c).2, sem_eq_zero_of_no_sems (by decide) r.2⟩)
    (Cert.Ff2BRefIdeal.Value.run (F := Ideal) m ρ)

theorem frame_ff2_w : Cert.quiescent_Ff2W := fun m ρ _ => Cert.Ff2W.Gen.frame (F := Bits) m ρ

theorem frame_ff2_w_ideal : Cert.quiescent_Ff2WIdeal := fun m ρ _ => Cert.Ff2WIdeal.Gen.frame (F := Ideal) m ρ

theorem frame_ff2_w_ref : Cert.quiescent_Ff2WRefIdeal := fun m ρ _ =>
  (θ_run Cert.Ff2WRefIdeal.defs _ _).mono (fun r h => ⟨fun c => (h c).2, sem_eq_zero_of_no_sems (by decide) r.2⟩)
    (Cert.Ff2WRefIdeal.Value.run (F := Ideal) m ρ)

theorem frame_ff1_b : Cert.quiescent_Ff1B := fun m ρ _ => Cert.Ff1B.Gen.frame (F := Bits) m ρ

theorem frame_ff1_b_ideal : Cert.quiescent_Ff1BIdeal := fun m ρ _ => Cert.Ff1BIdeal.Gen.frame (F := Ideal) m ρ

theorem frame_ff1_b_ref : Cert.quiescent_Ff1BRefIdeal := fun m ρ _ =>
  (θ_run Cert.Ff1BRefIdeal.defs _ _).mono (fun r h => ⟨fun c => (h c).2, sem_eq_zero_of_no_sems (by decide) r.2⟩)
    (Cert.Ff1BRefIdeal.Value.run (F := Ideal) m ρ)

theorem frame_ff1_w : Cert.quiescent_Ff1W := fun m ρ _ => Cert.Ff1W.Gen.frame (F := Bits) m ρ

theorem frame_ff1_w_ideal : Cert.quiescent_Ff1WIdeal := fun m ρ _ => Cert.Ff1WIdeal.Gen.frame (F := Ideal) m ρ

theorem frame_ff1_w_ref : Cert.quiescent_Ff1WRefIdeal := fun m ρ _ =>
  (θ_run Cert.Ff1WRefIdeal.defs _ _).mono (fun r h => ⟨fun c => (h c).2, sem_eq_zero_of_no_sems (by decide) r.2⟩)
    (Cert.Ff1WRefIdeal.Value.run (F := Ideal) m ρ)

theorem frame_gate_w : Cert.quiescent_GateW := fun m ρ _ => Cert.GateW.Gen.frame (F := Bits) m ρ

theorem frame_gate_w_ideal : Cert.quiescent_GateWIdeal := fun m ρ _ => Cert.GateWIdeal.Gen.frame (F := Ideal) m ρ

theorem frame_gate_w_ref : Cert.quiescent_GateWRefIdeal := fun m ρ _ =>
  (θ_run Cert.GateWRefIdeal.defs _ _).mono (fun r h => ⟨fun c => (h c).2, sem_eq_zero_of_no_sems (by decide) r.2⟩)
    (Cert.GateWRefIdeal.Value.run (F := Ideal) m ρ)

theorem frame_gate_b : Cert.quiescent_GateB := fun m ρ _ => Cert.GateB.Gen.frame (F := Bits) m ρ

theorem frame_gate_b_ideal : Cert.quiescent_GateBIdeal := fun m ρ _ => Cert.GateBIdeal.Gen.frame (F := Ideal) m ρ

theorem frame_gate_b_ref : Cert.quiescent_GateBRefIdeal := fun m ρ _ =>
  (θ_run Cert.GateBRefIdeal.defs _ _).mono (fun r h => ⟨fun c => (h c).2, sem_eq_zero_of_no_sems (by decide) r.2⟩)
    (Cert.GateBRefIdeal.Value.run (F := Ideal) m ρ)

theorem frame_gmlp_b : Cert.quiescent_GmlpB := fun m ρ _ => Cert.GmlpB.Gen.frame (F := Bits) m ρ

theorem frame_gmlp_b_ideal : Cert.quiescent_GmlpBIdeal := fun m ρ _ => Cert.GmlpBIdeal.Gen.frame (F := Ideal) m ρ

theorem frame_gmlp_b_ref : Cert.quiescent_GmlpBRefIdeal := fun m ρ _ =>
  (θ_run Cert.GmlpBRefIdeal.defs _ _).mono (fun r h => ⟨fun c => (h c).2.2.2.2.2, sem_eq_zero_of_no_sems (by decide) r.2⟩)
    (Cert.GmlpBRefIdeal.Value.run (F := Ideal) m ρ)

theorem frame_out_b : Cert.quiescent_OutB := fun m ρ _ => Cert.OutB.Gen.frame (F := Bits) m ρ

theorem frame_out_b_ideal : Cert.quiescent_OutBIdeal := fun m ρ _ => Cert.OutBIdeal.Gen.frame (F := Ideal) m ρ

theorem frame_out_b_ref : Cert.quiescent_OutBRefIdeal := fun m ρ _ =>
  (θ_run Cert.OutBRefIdeal.defs _ _).mono (fun r h => ⟨fun c => (h c).2, sem_eq_zero_of_no_sems (by decide) r.2⟩)
    (Cert.OutBRefIdeal.Value.run (F := Ideal) m ρ)

theorem frame_out_w : Cert.quiescent_OutW := fun m ρ _ => Cert.OutW.Gen.frame (F := Bits) m ρ

theorem frame_out_w_ideal : Cert.quiescent_OutWIdeal := fun m ρ _ => Cert.OutWIdeal.Gen.frame (F := Ideal) m ρ

theorem frame_out_w_ref : Cert.quiescent_OutWRefIdeal := fun m ρ _ =>
  (θ_run Cert.OutWRefIdeal.defs _ _).mono (fun r h => ⟨fun c => (h c).2, sem_eq_zero_of_no_sems (by decide) r.2⟩)
    (Cert.OutWRefIdeal.Value.run (F := Ideal) m ρ)

theorem frame_branch_b : Cert.quiescent_BranchB := fun m ρ _ => Cert.BranchB.Gen.frame (F := Bits) m ρ

theorem frame_branch_b_ideal : Cert.quiescent_BranchBIdeal := fun m ρ _ => Cert.BranchBIdeal.Gen.frame (F := Ideal) m ρ

theorem frame_branch_b_ref : Cert.quiescent_BranchBRefIdeal := fun m ρ _ =>
  (θ_run Cert.BranchBRefIdeal.defs _ _).mono (fun r h => ⟨fun c => (h c).2, sem_eq_zero_of_no_sems (by decide) r.2⟩)
    (Cert.BranchBRefIdeal.Value.run (F := Ideal) m ρ)

theorem frame_branch_w : Cert.quiescent_BranchW := fun m ρ _ => Cert.BranchW.Gen.frame (F := Bits) m ρ

theorem frame_branch_w_ideal : Cert.quiescent_BranchWIdeal := fun m ρ _ => Cert.BranchWIdeal.Gen.frame (F := Ideal) m ρ

theorem frame_branch_w_ref : Cert.quiescent_BranchWRefIdeal := fun m ρ _ =>
  (θ_run Cert.BranchWRefIdeal.defs _ _).mono (fun r h => ⟨fun c => (h c).2, sem_eq_zero_of_no_sems (by decide) r.2⟩)
    (Cert.BranchWRefIdeal.Value.run (F := Ideal) m ρ)

theorem frame_in_b : Cert.quiescent_InB := fun m ρ _ => Cert.InB.Gen.frame (F := Bits) m ρ

theorem frame_in_b_ideal : Cert.quiescent_InBIdeal := fun m ρ _ => Cert.InBIdeal.Gen.frame (F := Ideal) m ρ

theorem frame_in_b_ref : Cert.quiescent_InBRefIdeal := fun m ρ _ =>
  (θ_run Cert.InBRefIdeal.defs _ _).mono (fun r h => ⟨fun c => (h c).2, sem_eq_zero_of_no_sems (by decide) r.2⟩)
    (Cert.InBRefIdeal.Value.run (F := Ideal) m ρ)

theorem frame_in_w : Cert.quiescent_InW := fun m ρ _ => Cert.InW.Gen.frame (F := Bits) m ρ

theorem frame_in_w_ideal : Cert.quiescent_InWIdeal := fun m ρ _ => Cert.InWIdeal.Gen.frame (F := Ideal) m ρ

theorem frame_in_w_ref : Cert.quiescent_InWRefIdeal := fun m ρ _ =>
  (θ_run Cert.InWRefIdeal.defs _ _).mono (fun r h => ⟨fun c => (h c).2, sem_eq_zero_of_no_sems (by decide) r.2⟩)
    (Cert.InWRefIdeal.Value.run (F := Ideal) m ρ)

theorem frame_conv_ln_b : Cert.quiescent_ConvLnB := fun m ρ _ => Cert.ConvLnB.Gen.frame (F := Bits) m ρ

theorem frame_conv_ln_b_ideal : Cert.quiescent_ConvLnBIdeal := fun m ρ _ => Cert.ConvLnBIdeal.Gen.frame (F := Ideal) m ρ

theorem frame_conv_ln_b_ref : Cert.quiescent_ConvLnBRefIdeal := fun m ρ _ =>
  (θ_run Cert.ConvLnBRefIdeal.defs _ _).mono (fun r h => ⟨fun c => (h c).2.2.2, sem_eq_zero_of_no_sems (by decide) r.2⟩)
    (Cert.ConvLnBRefIdeal.Value.run (F := Ideal) m ρ)

theorem frame_s5_glu_b : Cert.quiescent_S5GluB := fun m ρ _ => Cert.S5GluB.Gen.frame (F := Bits) m ρ

theorem frame_s5_glu_b_ideal : Cert.quiescent_S5GluBIdeal := fun m ρ _ => Cert.S5GluBIdeal.Gen.frame (F := Ideal) m ρ

theorem frame_s5_glu_b_ref : Cert.quiescent_S5GluBRefIdeal := fun m ρ _ =>
  (θ_run Cert.S5GluBRefIdeal.defs _ _).mono (fun r h => ⟨fun c => (h c).2, sem_eq_zero_of_no_sems (by decide) r.2⟩)
    (Cert.S5GluBRefIdeal.Value.run (F := Ideal) m ρ)

theorem frame_s5_act_b : Cert.quiescent_S5ActB := fun m ρ _ => Cert.S5ActB.Gen.frame (F := Bits) m ρ

theorem frame_s5_act_b_ideal : Cert.quiescent_S5ActBIdeal := fun m ρ _ => Cert.S5ActBIdeal.Gen.frame (F := Ideal) m ρ

theorem frame_s5_act_b_ref : Cert.quiescent_S5ActBRefIdeal := fun m ρ _ =>
  (θ_run Cert.S5ActBRefIdeal.defs _ _).mono (fun r h => ⟨fun c => (h c).2.2.2, sem_eq_zero_of_no_sems (by decide) r.2⟩)
    (Cert.S5ActBRefIdeal.Value.run (F := Ideal) m ρ)

theorem frame_in_proj : Cert.quiescent_InP := fun m ρ _ => Cert.InP.Gen.frame (F := Bits) m ρ

theorem frame_in_proj_ideal : Cert.quiescent_InPIdeal := fun m ρ _ => Cert.InPIdeal.Gen.frame (F := Ideal) m ρ

theorem frame_in_proj_ref : Cert.quiescent_InPRefIdeal := fun m ρ _ =>
  (θ_run Cert.InPRefIdeal.defs _ _).mono (fun r h => ⟨fun c => (h c).2, sem_eq_zero_of_no_sems (by decide) r.2⟩)
    (Cert.InPRefIdeal.Value.run (F := Ideal) m ρ)

theorem frame_gate_proj : Cert.quiescent_GateP := fun m ρ _ => Cert.GateP.Gen.frame (F := Bits) m ρ

theorem frame_gate_proj_ideal : Cert.quiescent_GatePIdeal := fun m ρ _ => Cert.GatePIdeal.Gen.frame (F := Ideal) m ρ

theorem frame_gate_proj_ref : Cert.quiescent_GatePRefIdeal := fun m ρ _ =>
  (θ_run Cert.GatePRefIdeal.defs _ _).mono (fun r h => ⟨fun c => (h c).2, sem_eq_zero_of_no_sems (by decide) r.2⟩)
    (Cert.GatePRefIdeal.Value.run (F := Ideal) m ρ)

theorem frame_branch_proj : Cert.quiescent_BranchP := fun m ρ _ => Cert.BranchP.Gen.frame (F := Bits) m ρ

theorem frame_branch_proj_ideal : Cert.quiescent_BranchPIdeal := fun m ρ _ => Cert.BranchPIdeal.Gen.frame (F := Ideal) m ρ

theorem frame_branch_proj_ref : Cert.quiescent_BranchPRefIdeal := fun m ρ _ =>
  (θ_run Cert.BranchPRefIdeal.defs _ _).mono (fun r h => ⟨fun c => (h c).2, sem_eq_zero_of_no_sems (by decide) r.2⟩)
    (Cert.BranchPRefIdeal.Value.run (F := Ideal) m ρ)

theorem frame_out_proj : Cert.quiescent_OutP := fun m ρ _ => Cert.OutP.Gen.frame (F := Bits) m ρ

theorem frame_out_proj_ideal : Cert.quiescent_OutPIdeal := fun m ρ _ => Cert.OutPIdeal.Gen.frame (F := Ideal) m ρ

theorem frame_out_proj_ref : Cert.quiescent_OutPRefIdeal := fun m ρ _ =>
  (θ_run Cert.OutPRefIdeal.defs _ _).mono (fun r h => ⟨fun c => (h c).2, sem_eq_zero_of_no_sems (by decide) r.2⟩)
    (Cert.OutPRefIdeal.Value.run (F := Ideal) m ρ)

theorem frame_ff1 : Cert.quiescent_Ff1P := fun m ρ _ => Cert.Ff1P.Gen.frame (F := Bits) m ρ

theorem frame_ff1_ideal : Cert.quiescent_Ff1PIdeal := fun m ρ _ => Cert.Ff1PIdeal.Gen.frame (F := Ideal) m ρ

theorem frame_ff1_ref : Cert.quiescent_Ff1PRefIdeal := fun m ρ _ =>
  (θ_run Cert.Ff1PRefIdeal.defs _ _).mono (fun r h => ⟨fun c => (h c).2.2, sem_eq_zero_of_no_sems (by decide) r.2⟩)
    (Cert.Ff1PRefIdeal.Value.run (F := Ideal) m ρ)

theorem frame_ff2 : Cert.quiescent_Ff2P := fun m ρ _ => Cert.Ff2P.Gen.frame (F := Bits) m ρ

theorem frame_ff2_ideal : Cert.quiescent_Ff2PIdeal := fun m ρ _ => Cert.Ff2PIdeal.Gen.frame (F := Ideal) m ρ

theorem frame_ff2_ref : Cert.quiescent_Ff2PRefIdeal := fun m ρ _ =>
  (θ_run Cert.Ff2PRefIdeal.defs _ _).mono (fun r h => ⟨fun c => (h c).2, sem_eq_zero_of_no_sems (by decide) r.2⟩)
    (Cert.Ff2PRefIdeal.Value.run (F := Ideal) m ρ)

theorem frame_s5_glu_proj : Cert.quiescent_GluP := fun m ρ _ => Cert.GluP.Gen.frame (F := Bits) m ρ

theorem frame_s5_glu_proj_ideal : Cert.quiescent_GluPIdeal := fun m ρ _ => Cert.GluPIdeal.Gen.frame (F := Ideal) m ρ

theorem frame_s5_glu_proj_ref : Cert.quiescent_GluPRefIdeal := fun m ρ _ =>
  (θ_run Cert.GluPRefIdeal.defs _ _).mono (fun r h => ⟨fun c => (h c).2, sem_eq_zero_of_no_sems (by decide) r.2⟩)
    (Cert.GluPRefIdeal.Value.run (F := Ideal) m ρ)

theorem frame_s5_glu_proj_b : Cert.quiescent_GluPB := fun m ρ _ => Cert.GluPB.Gen.frame (F := Bits) m ρ

theorem frame_s5_glu_proj_b_ideal : Cert.quiescent_GluPBIdeal := fun m ρ _ => Cert.GluPBIdeal.Gen.frame (F := Ideal) m ρ

theorem frame_s5_glu_proj_b_ref : Cert.quiescent_GluPBRefIdeal := fun m ρ _ =>
  (θ_run Cert.GluPBRefIdeal.defs _ _).mono (fun r h => ⟨fun c => (h c).2, sem_eq_zero_of_no_sems (by decide) r.2⟩)
    (Cert.GluPBRefIdeal.Value.run (F := Ideal) m ρ)

theorem frame_s5_glu_proj_w : Cert.quiescent_GluPW := fun m ρ _ => Cert.GluPW.Gen.frame (F := Bits) m ρ

theorem frame_s5_glu_proj_w_ideal : Cert.quiescent_GluPWIdeal := fun m ρ _ => Cert.GluPWIdeal.Gen.frame (F := Ideal) m ρ

theorem frame_s5_glu_proj_w_ref : Cert.quiescent_GluPWRefIdeal := fun m ρ _ =>
  (θ_run Cert.GluPWRefIdeal.defs _ _).mono (fun r h => ⟨fun c => (h c).2, sem_eq_zero_of_no_sems (by decide) r.2⟩)
    (Cert.GluPWRefIdeal.Value.run (F := Ideal) m ρ)

theorem frame_merge : Cert.quiescent_MergeP := fun m ρ _ => Cert.MergeP.Gen.frame (F := Bits) m ρ

theorem frame_merge_ideal : Cert.quiescent_MergePIdeal := fun m ρ _ => Cert.MergePIdeal.Gen.frame (F := Ideal) m ρ

theorem frame_merge_ref : Cert.quiescent_MergePRefIdeal := fun m ρ _ =>
  (θ_run Cert.MergePRefIdeal.defs _ _).mono (fun r h => ⟨fun c => (h c).2, sem_eq_zero_of_no_sems (by decide) r.2⟩)
    (Cert.MergePRefIdeal.Value.run (F := Ideal) m ρ)

theorem frame_s5_act : Cert.quiescent_S5ActP := fun m ρ _ => Cert.S5ActP.Gen.frame (F := Bits) m ρ

theorem frame_s5_act_ideal : Cert.quiescent_S5ActPIdeal := fun m ρ _ => Cert.S5ActPIdeal.Gen.frame (F := Ideal) m ρ

theorem frame_s5_act_ref : Cert.quiescent_S5ActPRefIdeal := fun m ρ _ =>
  (θ_run Cert.S5ActPRefIdeal.defs _ _).mono (fun r h => ⟨fun c => (h c).2, sem_eq_zero_of_no_sems (by decide) r.2⟩)
    (Cert.S5ActPRefIdeal.Value.run (F := Ideal) m ρ)

theorem frame_s5_glu : Cert.quiescent_S5GluP := fun m ρ _ => Cert.S5GluP.Gen.frame (F := Bits) m ρ

theorem frame_s5_glu_ideal : Cert.quiescent_S5GluPIdeal := fun m ρ _ => Cert.S5GluPIdeal.Gen.frame (F := Ideal) m ρ

theorem frame_s5_glu_ref : Cert.quiescent_S5GluPRefIdeal := fun m ρ _ =>
  (θ_run Cert.S5GluPRefIdeal.defs _ _).mono (fun r h => ⟨fun c => (h c).2, sem_eq_zero_of_no_sems (by decide) r.2⟩)
    (Cert.S5GluPRefIdeal.Value.run (F := Ideal) m ρ)

theorem frame_norm1 : Cert.quiescent_Norm1P := fun m ρ _ => Cert.Norm1P.Gen.frame (F := Bits) m ρ

theorem frame_norm1_ideal : Cert.quiescent_Norm1PIdeal := fun m ρ _ => Cert.Norm1PIdeal.Gen.frame (F := Ideal) m ρ

theorem frame_norm1_ref : Cert.quiescent_Norm1PRefIdeal := fun m ρ _ =>
  (θ_run Cert.Norm1PRefIdeal.defs _ _).mono (fun r h => ⟨fun c => (h c).2, sem_eq_zero_of_no_sems (by decide) r.2⟩)
    (Cert.Norm1PRefIdeal.Value.run (F := Ideal) m ρ)

theorem frame_resid1 : Cert.quiescent_ResidP := fun m ρ _ => Cert.ResidP.Gen.frame (F := Bits) m ρ

theorem frame_resid1_ideal : Cert.quiescent_ResidPIdeal := fun m ρ _ => Cert.ResidPIdeal.Gen.frame (F := Ideal) m ρ

theorem frame_resid1_ref : Cert.quiescent_ResidPRefIdeal := fun m ρ _ =>
  (θ_run Cert.ResidPRefIdeal.defs _ _).mono (fun r h => ⟨fun c => (h c).2, sem_eq_zero_of_no_sems (by decide) r.2⟩)
    (Cert.ResidPRefIdeal.Value.run (F := Ideal) m ρ)

theorem frame_gmlp : Cert.quiescent_GmlpP := fun m ρ _ => Cert.GmlpP.Gen.frame (F := Bits) m ρ

theorem frame_gmlp_ideal : Cert.quiescent_GmlpPIdeal := fun m ρ _ => Cert.GmlpPIdeal.Gen.frame (F := Ideal) m ρ

theorem frame_gmlp_ref : Cert.quiescent_GmlpPRefIdeal := fun m ρ _ =>
  (θ_run Cert.GmlpPRefIdeal.defs _ _).mono (fun r h => ⟨fun c => (h c).2, sem_eq_zero_of_no_sems (by decide) r.2⟩)
    (Cert.GmlpPRefIdeal.Value.run (F := Ideal) m ρ)

theorem frame_s5_in : Cert.quiescent_S5InP := fun m ρ _ => Cert.S5InP.Gen.frame (F := Bits) m ρ

theorem frame_s5_in_ideal : Cert.quiescent_S5InPIdeal := fun m ρ _ => Cert.S5InPIdeal.Gen.frame (F := Ideal) m ρ

theorem frame_s5_in_ref : Cert.quiescent_S5InPRefIdeal := fun m ρ _ =>
  (θ_run Cert.S5InPRefIdeal.defs _ _).mono (fun r h => ⟨fun c => (h c).2, sem_eq_zero_of_no_sems (by decide) r.2⟩)
    (Cert.S5InPRefIdeal.Value.run (F := Ideal) m ρ)

theorem frame_s5_out : Cert.quiescent_S5OutP := fun m ρ _ => Cert.S5OutP.Gen.frame (F := Bits) m ρ

theorem frame_s5_out_ideal : Cert.quiescent_S5OutPIdeal := fun m ρ _ => Cert.S5OutPIdeal.Gen.frame (F := Ideal) m ρ

theorem frame_s5_out_ref : Cert.quiescent_S5OutPRefIdeal := fun m ρ _ =>
  (θ_run Cert.S5OutPRefIdeal.defs _ _).mono (fun r h => ⟨fun c => (h c).2, sem_eq_zero_of_no_sems (by decide) r.2⟩)
    (Cert.S5OutPRefIdeal.Value.run (F := Ideal) m ρ)

theorem frame_s5_out_add : Cert.quiescent_S5OutA := fun m ρ _ => Cert.S5OutA.Gen.frame (F := Bits) m ρ

theorem frame_s5_out_add_ideal : Cert.quiescent_S5OutAIdeal := fun m ρ _ => Cert.S5OutAIdeal.Gen.frame (F := Ideal) m ρ

theorem frame_s5_out_add_ref : Cert.quiescent_S5OutARefIdeal := fun m ρ _ =>
  (θ_run Cert.S5OutARefIdeal.defs _ _).mono (fun r h => ⟨fun c => (h c).2, sem_eq_zero_of_no_sems (by decide) r.2⟩)
    (Cert.S5OutARefIdeal.Value.run (F := Ideal) m ρ)

theorem frame_s5_out_b : Cert.quiescent_S5OutB := fun m ρ _ => Cert.S5OutB.Gen.frame (F := Bits) m ρ

theorem frame_s5_out_b_ideal : Cert.quiescent_S5OutBIdeal := fun m ρ _ => Cert.S5OutBIdeal.Gen.frame (F := Ideal) m ρ

theorem frame_s5_out_b_ref : Cert.quiescent_S5OutBRefIdeal := fun m ρ _ =>
  (θ_run Cert.S5OutBRefIdeal.defs _ _).mono (fun r h => ⟨fun c => (h c).2, sem_eq_zero_of_no_sems (by decide) r.2⟩)
    (Cert.S5OutBRefIdeal.Value.run (F := Ideal) m ρ)

theorem frame_s5_out_w : Cert.quiescent_S5OutW := fun m ρ _ => Cert.S5OutW.Gen.frame (F := Bits) m ρ

theorem frame_s5_out_w_ideal : Cert.quiescent_S5OutWIdeal := fun m ρ _ => Cert.S5OutWIdeal.Gen.frame (F := Ideal) m ρ

theorem frame_s5_out_w_ref : Cert.quiescent_S5OutWRefIdeal := fun m ρ _ =>
  (θ_run Cert.S5OutWRefIdeal.defs _ _).mono (fun r h => ⟨fun c => (h c).2, sem_eq_zero_of_no_sems (by decide) r.2⟩)
    (Cert.S5OutWRefIdeal.Value.run (F := Ideal) m ρ)

theorem frame_s5_in_b : Cert.quiescent_S5InB := fun m ρ _ => Cert.S5InB.Gen.frame (F := Bits) m ρ

theorem frame_s5_in_b_ideal : Cert.quiescent_S5InBIdeal := fun m ρ _ => Cert.S5InBIdeal.Gen.frame (F := Ideal) m ρ

theorem frame_s5_in_b_ref : Cert.quiescent_S5InBRefIdeal := fun m ρ _ =>
  (θ_run Cert.S5InBRefIdeal.defs _ _).mono (fun r h => ⟨fun c => (h c).2, sem_eq_zero_of_no_sems (by decide) r.2⟩)
    (Cert.S5InBRefIdeal.Value.run (F := Ideal) m ρ)

theorem frame_s5_in_w : Cert.quiescent_S5InW := fun m ρ _ => Cert.S5InW.Gen.frame (F := Bits) m ρ

theorem frame_s5_in_w_ideal : Cert.quiescent_S5InWIdeal := fun m ρ _ => Cert.S5InWIdeal.Gen.frame (F := Ideal) m ρ

theorem frame_s5_in_w_ref : Cert.quiescent_S5InWRefIdeal := fun m ρ _ =>
  (θ_run Cert.S5InWRefIdeal.defs _ _).mono (fun r h => ⟨fun c => (h c).2, sem_eq_zero_of_no_sems (by decide) r.2⟩)
    (Cert.S5InWRefIdeal.Value.run (F := Ideal) m ρ)

theorem frame_conv_f : Cert.quiescent_ConvF := fun m ρ _ => Cert.ConvF.Gen.frame (F := Bits) m ρ

theorem frame_conv_f_ideal : Cert.quiescent_ConvFIdeal := fun m ρ _ => Cert.ConvFIdeal.Gen.frame (F := Ideal) m ρ

theorem frame_conv_f_ref : Cert.quiescent_ConvFRefIdeal := fun m ρ _ =>
  (θ_run Cert.ConvFRefIdeal.defs _ _).mono (fun r h => ⟨fun c => (h c).2.2.2, sem_eq_zero_of_no_sems (by decide) r.2⟩)
    (Cert.ConvFRefIdeal.Value.run (F := Ideal) m ρ)

theorem frame_silu_c : Cert.quiescent_SiluP := fun m ρ _ => Cert.SiluP.Gen.frame (F := Bits) m ρ

theorem frame_silu_c_ideal : Cert.quiescent_SiluPIdeal := fun m ρ _ => Cert.SiluPIdeal.Gen.frame (F := Ideal) m ρ

theorem frame_silu_c_ref : Cert.quiescent_SiluPRefIdeal := fun m ρ _ =>
  (θ_run Cert.SiluPRefIdeal.defs _ _).mono (fun r h => ⟨fun c => (h c).2, sem_eq_zero_of_no_sems (by decide) r.2⟩)
    (Cert.SiluPRefIdeal.Value.run (F := Ideal) m ρ)

theorem frame_mod_proj : Cert.quiescent_ModP := fun m ρ _ => Cert.ModP.Gen.frame (F := Bits) m ρ

theorem frame_mod_proj_ideal : Cert.quiescent_ModPIdeal := fun m ρ _ => Cert.ModPIdeal.Gen.frame (F := Ideal) m ρ

theorem frame_mod_proj_ref : Cert.quiescent_ModPRefIdeal := fun m ρ _ =>
  (θ_run Cert.ModPRefIdeal.defs _ _).mono (fun r h => ⟨fun c => (h c).2, sem_eq_zero_of_no_sems (by decide) r.2⟩)
    (Cert.ModPRefIdeal.Value.run (F := Ideal) m ρ)

theorem frame_mod_w : Cert.quiescent_ModW := fun m ρ _ => Cert.ModW.Gen.frame (F := Bits) m ρ

theorem frame_mod_w_ideal : Cert.quiescent_ModWIdeal := fun m ρ _ => Cert.ModWIdeal.Gen.frame (F := Ideal) m ρ

theorem frame_mod_w_ref : Cert.quiescent_ModWRefIdeal := fun m ρ _ =>
  (θ_run Cert.ModWRefIdeal.defs _ _).mono (fun r h => ⟨fun c => (h c).2, sem_eq_zero_of_no_sems (by decide) r.2⟩)
    (Cert.ModWRefIdeal.Value.run (F := Ideal) m ρ)

theorem frame_mod_bias_g : Cert.quiescent_ModBG := fun m ρ _ => Cert.ModBG.Gen.frame (F := Bits) m ρ

theorem frame_mod_bias_g_ideal : Cert.quiescent_ModBGIdeal := fun m ρ _ => Cert.ModBGIdeal.Gen.frame (F := Ideal) m ρ

theorem frame_mod_bias_g_ref : Cert.quiescent_ModBGRefIdeal := fun m ρ _ =>
  (θ_run Cert.ModBGRefIdeal.defs _ _).mono (fun r h => ⟨fun c => (h c).2, sem_eq_zero_of_no_sems (by decide) r.2⟩)
    (Cert.ModBGRefIdeal.Value.run (F := Ideal) m ρ)

theorem frame_mod_b : Cert.quiescent_ModB := fun m ρ _ => Cert.ModB.Gen.frame (F := Bits) m ρ

theorem frame_mod_b_ideal : Cert.quiescent_ModBIdeal := fun m ρ _ => Cert.ModBIdeal.Gen.frame (F := Ideal) m ρ

theorem frame_mod_b_ref : Cert.quiescent_ModBRefIdeal := fun m ρ _ =>
  (θ_run Cert.ModBRefIdeal.defs _ _).mono (fun r h => ⟨fun c => (h c).2, sem_eq_zero_of_no_sems (by decide) r.2⟩)
    (Cert.ModBRefIdeal.Value.run (F := Ideal) m ρ)

theorem frame_mod_b_acc : Cert.quiescent_ModBA := fun m ρ _ => Cert.ModBA.Gen.frame (F := Bits) m ρ

theorem frame_mod_b_acc_ideal : Cert.quiescent_ModBAIdeal := fun m ρ _ => Cert.ModBAIdeal.Gen.frame (F := Ideal) m ρ

theorem frame_mod_b_acc_ref : Cert.quiescent_ModBARefIdeal := fun m ρ _ =>
  (θ_run Cert.ModBARefIdeal.defs _ _).mono (fun r h => ⟨fun c => (h c).2, sem_eq_zero_of_no_sems (by decide) r.2⟩)
    (Cert.ModBARefIdeal.Value.run (F := Ideal) m ρ)

theorem frame_silu_c_b : Cert.quiescent_SiluB := fun m ρ _ => Cert.SiluB.Gen.frame (F := Bits) m ρ

theorem frame_silu_c_b_ideal : Cert.quiescent_SiluBIdeal := fun m ρ _ => Cert.SiluBIdeal.Gen.frame (F := Ideal) m ρ

theorem frame_silu_c_b_ref : Cert.quiescent_SiluBRefIdeal := fun m ρ _ =>
  (θ_run Cert.SiluBRefIdeal.defs _ _).mono (fun r h => ⟨fun c => (h c).2, sem_eq_zero_of_no_sems (by decide) r.2⟩)
    (Cert.SiluBRefIdeal.Value.run (F := Ideal) m ρ)

theorem frame_adamw_mod : Cert.quiescent_AdMod := fun m ρ _ => Cert.AdMod.Gen.frame (F := Bits) m ρ

theorem frame_adamw_mod_ideal : Cert.quiescent_AdModIdeal := fun m ρ _ => Cert.AdModIdeal.Gen.frame (F := Ideal) m ρ

theorem frame_adamw_mod_ref : Cert.quiescent_AdModRefIdeal := fun m ρ _ =>
  (θ_run Cert.AdModRefIdeal.defs _ _).mono (fun r h => ⟨fun c => (h c).2.2.2, sem_eq_zero_of_no_sems (by decide) r.2⟩)
    (Cert.AdModRefIdeal.Value.run (F := Ideal) m ρ)

theorem frame_adamw_in : Cert.quiescent_AdIn := fun m ρ _ => Cert.AdIn.Gen.frame (F := Bits) m ρ

theorem frame_adamw_in_ideal : Cert.quiescent_AdInIdeal := fun m ρ _ => Cert.AdInIdeal.Gen.frame (F := Ideal) m ρ

theorem frame_adamw_in_ref : Cert.quiescent_AdInRefIdeal := fun m ρ _ =>
  (θ_run Cert.AdInRefIdeal.defs _ _).mono (fun r h => ⟨fun c => (h c).2.2.2, sem_eq_zero_of_no_sems (by decide) r.2⟩)
    (Cert.AdInRefIdeal.Value.run (F := Ideal) m ρ)

theorem frame_adamw_glu : Cert.quiescent_AdGlu := fun m ρ _ => Cert.AdGlu.Gen.frame (F := Bits) m ρ

theorem frame_adamw_glu_ideal : Cert.quiescent_AdGluIdeal := fun m ρ _ => Cert.AdGluIdeal.Gen.frame (F := Ideal) m ρ

theorem frame_adamw_glu_ref : Cert.quiescent_AdGluRefIdeal := fun m ρ _ =>
  (θ_run Cert.AdGluRefIdeal.defs _ _).mono (fun r h => ⟨fun c => (h c).2.2.2, sem_eq_zero_of_no_sems (by decide) r.2⟩)
    (Cert.AdGluRefIdeal.Value.run (F := Ideal) m ρ)

theorem frame_adamw_branch : Cert.quiescent_AdBr := fun m ρ _ => Cert.AdBr.Gen.frame (F := Bits) m ρ

theorem frame_adamw_branch_ideal : Cert.quiescent_AdBrIdeal := fun m ρ _ => Cert.AdBrIdeal.Gen.frame (F := Ideal) m ρ

theorem frame_adamw_branch_ref : Cert.quiescent_AdBrRefIdeal := fun m ρ _ =>
  (θ_run Cert.AdBrRefIdeal.defs _ _).mono (fun r h => ⟨fun c => (h c).2.2.2, sem_eq_zero_of_no_sems (by decide) r.2⟩)
    (Cert.AdBrRefIdeal.Value.run (F := Ideal) m ρ)

theorem frame_adamw_ff : Cert.quiescent_AdFf := fun m ρ _ => Cert.AdFf.Gen.frame (F := Bits) m ρ

theorem frame_adamw_ff_ideal : Cert.quiescent_AdFfIdeal := fun m ρ _ => Cert.AdFfIdeal.Gen.frame (F := Ideal) m ρ

theorem frame_adamw_ff_ref : Cert.quiescent_AdFfRefIdeal := fun m ρ _ =>
  (θ_run Cert.AdFfRefIdeal.defs _ _).mono (fun r h => ⟨fun c => (h c).2.2.2, sem_eq_zero_of_no_sems (by decide) r.2⟩)
    (Cert.AdFfRefIdeal.Value.run (F := Ideal) m ρ)

theorem frame_adamw_out : Cert.quiescent_AdOut := fun m ρ _ => Cert.AdOut.Gen.frame (F := Bits) m ρ

theorem frame_adamw_out_ideal : Cert.quiescent_AdOutIdeal := fun m ρ _ => Cert.AdOutIdeal.Gen.frame (F := Ideal) m ρ

theorem frame_adamw_out_ref : Cert.quiescent_AdOutRefIdeal := fun m ρ _ =>
  (θ_run Cert.AdOutRefIdeal.defs _ _).mono (fun r h => ⟨fun c => (h c).2.2.2, sem_eq_zero_of_no_sems (by decide) r.2⟩)
    (Cert.AdOutRefIdeal.Value.run (F := Ideal) m ρ)

end Cert

end
-- ==== Proof.Tiles.lean ====
/- Sums cut into tiles: what a product whose contraction is walked tile by tile, with a running sum kept between the
   grid's points, ends with. No program enters here. -/
module

public import Idealize.ShloMosaic.Lib.Pipeline.Value
public import Idealize.ShloMosaic.PureOps.Ideal.Laws

@[expose] public section

namespace Tiles

variable {M : Type*} [AddCommMonoid M]

theorem tile_lt {J TK K : ℕ} (hK : J * TK = K) {s k : ℕ} (hs : s < J) (hk : k < TK) : s * TK + k < K := by
  subst hK
  calc s * TK + k < s * TK + TK := by omega
    _ = (s + 1) * TK := by ring
    _ ≤ J * TK := Nat.mul_le_mul_right _ hs

/-- A sum over `J` tiles of the sums over each tile is the sum over everything. -/
theorem sum_tiles {J TK K : ℕ} (hK : J * TK = K) (f : Fin K → M) :
    ∑ s : Fin J, ∑ k : Fin TK, f ⟨s.val * TK + k.val, tile_lt hK s.isLt k.isLt⟩ = ∑ κ, f κ := by
  subst hK
  rw [← Equiv.sum_comp finProdFinEquiv f, Fintype.sum_prod_type]
  refine Finset.sum_congr rfl fun s _ => Finset.sum_congr rfl fun k _ => congrArg f (Fin.ext ?_)
  show s.val * TK + k.val = k.val + TK * s.val
  ring

/-- The running sum at one element. `S n` is what the scratch holds after point `n`, `o n` what is stored at the last
    point of a run of `J` points, `P n` the point's own part: the scratch starts at `P`, each later point adds its own. -/
theorem run_last {N J : ℕ} (hJ : 1 < J) (S o P : (n : ℕ) → n < N → M) (q : ℕ)
    (hA : ∀ (n : ℕ) (h : n < N), n % J = 0 → S n h = P n h)
    (hB : ∀ (n : ℕ) (h : n + 1 < N), (n + 1) % J ≠ 0 → (n + 1) % J ≠ J - 1 →
      S (n + 1) h = S n (Nat.lt_of_succ_lt h) + P (n + 1) h)
    (hC : ∀ (n : ℕ) (h : n + 1 < N), (n + 1) % J = J - 1 → o (n + 1) h = S n (Nat.lt_of_succ_lt h) + P (n + 1) h)
    (n : ℕ) (hn : n = J * q + (J - 1)) (h : n < N) :
    o n h = ∑ s : Fin J, P (J * q + s.val) (by have := s.isLt; omega) := by
  subst hn
  have mid : ∀ (s : ℕ) (hs : s + 1 < J) (hn : J * q + s < N),
      S (J * q + s) hn = ∑ r : Fin (s + 1), P (J * q + r.val) (by have := r.isLt; omega) := by
    intro s
    induction s with
    | zero =>
      intro _ hn
      rw [Fin.sum_univ_one]
      exact hA _ hn (by rw [Nat.add_zero, Nat.mul_mod_right])
    | succ s ih =>
      intro hs hn
      have e : (J * q + s + 1) % J = s + 1 := by
        rw [Nat.add_assoc, Nat.mul_add_mod, Nat.mod_eq_of_lt (by omega)]
      rw [Fin.sum_univ_castSucc]
      refine (hB (J * q + s) hn (by omega) (by omega)).trans ?_
      rw [ih (by omega) (by omega)]
      rfl
  obtain ⟨s, rfl⟩ : ∃ s, J = s + 2 := ⟨J - 2, by omega⟩
  rw [Fin.sum_univ_castSucc]
  have e : ((s + 2) * q + s + 1) % (s + 2) = s + 1 := by
    rw [Nat.add_assoc, Nat.mul_add_mod, Nat.mod_eq_of_lt (by omega)]
  refine (hC ((s + 2) * q + s) h (by omega)).trans ?_
  rw [mid s (by omega) (by omega)]
  rfl

/-- The same with every point's part the sum over its tile of `f`: the stored element is the whole sum of `f`. -/
theorem run_last_tiles {N J TK K : ℕ} (hJ : 1 < J) (hK : J * TK = K) (S o P : (n : ℕ) → n < N → M) (q : ℕ) (f : Fin K → M)
    (hA : ∀ (n : ℕ) (h : n < N), n % J = 0 → S n h = P n h)
    (hB : ∀ (n : ℕ) (h : n + 1 < N), (n + 1) % J ≠ 0 → (n + 1) % J ≠ J - 1 →
      S (n + 1) h = S n (Nat.lt_of_succ_lt h) + P (n + 1) h)
    (hC : ∀ (n : ℕ) (h : n + 1 < N), (n + 1) % J = J - 1 → o (n + 1) h = S n (Nat.lt_of_succ_lt h) + P (n + 1) h)
    (hP : ∀ (s : Fin J) (h : J * q + s.val < N),
      P (J * q + s.val) h = ∑ k : Fin TK, f ⟨s.val * TK + k.val, tile_lt hK s.isLt k.isLt⟩)
    (n : ℕ) (hn : n = J * q + (J - 1)) (h : n < N) : o n h = ∑ κ, f κ := by
  rw [run_last hJ S o P q hA hB hC n hn h, ← sum_tiles hK f]
  exact Finset.sum_congr rfl fun s _ => hP s _

end Tiles

end
-- ==== Proof.MergeB.lean ====
/- The gradient of the gates: what the merge of the four branches, each under a gate per channel, gives back. -/
module

public import proofs.«01_k».proof.Proof.Tiles
public import proofs.«01_k».proof.Defs
public import proofs.«01_k».proof.Proof.Gen.MergeBIdeal.Value
public import Idealize.ShloMosaic.Lib.Pointwise
public import Idealize.ShloMosaic.Lib.Pipeline.ValueKit

@[expose] public section

set_option maxRecDepth 16384

noncomputable section

namespace Cert.MergeBIdeal.Prod

open Cert.MergeBIdeal Cert.MergeBIdeal.Gen Idealize.ShloMosaic Idealize.ShloMosaic.TcCoe Idealize.SL.Sem
open Idealize.ShloMosaic.Pipeline (Dat)

/-! The gradients as functions of the seven arrays: the gates' pre-activations, the four branches, the bias of the
    gates and the gradient of the merged rows. `n` is the number of rows: a block's or the array's. -/

variable {n : ℕ} (g : (⟨2, ![n, 8192]⟩ : Shape).Idx → EReal) (p0 p1 p2 p3 : (⟨2, ![n, 2048]⟩ : Shape).Idx → EReal)
  (b : S1x8192.Idx → EReal) (d : (⟨2, ![n, 2048]⟩ : Shape).Idx → EReal)

/-- The gate at row `r` and gate channel `j`. -/
def gate (r : Fin n) (j : Fin 8192) : EReal := Ideal.logistic (g (ix2 r j) + b (ix2 0 j))

/-- The channel of the model that a gate channel gates. -/
def chan (j : Fin 8192) : Fin 2048 := ⟨j.val % 2048, Nat.mod_lt _ (by decide)⟩

/-- The branch that a gate channel gates, at that channel. -/
def branch (r : Fin n) (j : Fin 8192) : EReal :=
  if j.val < 2048 then p0 (ix2 r (chan j)) else if j.val < 4096 then p1 (ix2 r (chan j))
  else if j.val < 6144 then p2 (ix2 r (chan j)) else p3 (ix2 r (chan j))

/-- The gradient of the gates' pre-activations. -/
def dGate (r : Fin n) (j : Fin 8192) : EReal :=
  (d (ix2 r (chan j)) * branch p0 p1 p2 p3 r j) * (gate g b r j * (1 - gate g b r j))

/-- The gradient of branch `q`'s rows. -/
def dBranch (q : Fin 4) (r : Fin n) (j : Fin 2048) : EReal :=
  gate g b r ⟨q.val * 2048 + j.val, by omega⟩ * d (ix2 r j)

/-! What a point's payloads compute. -/

theorem pay_gate (x0 : Vec Ideal S64x8192 .f32) (x1 x2 x3 x4 x6 : Vec Ideal S64x2048 .f32) (x5 : Vec Ideal S1x8192 .f32) (y : S64x8192.Idx) :
    k0_pay1 (F := Ideal) (k0_pay10 x0 x5) (k0_pay16 x2 x3 x4 x6) (k0_pay18 x1 x6) (k0_pay19 (F := Ideal)) y
      = dGate (n := 64) x0 x1 x2 x3 x4 x5 x6 (y 0) (y 1) := by
  unfold k0_pay1 k0_pay10 k0_pay16 k0_pay18 k0_pay19 k0_pay12 k0_pay11 k0_pay9
  pointwise
  have hy : (y 1).val < 8192 := (y 1).isLt
  unfold dGate
  have e : y = ix2 (y 0) (y 1) := funext fun a => match a with | ⟨0, _⟩ => rfl | ⟨1, _⟩ => rfl
  refine congrArg₂ (· * ·) ?_ ?_
  · have hc : ∀ k : ℕ, ∀ h : (y 1).val - k < 2048, k % 2048 = 0 → k ≤ (y 1).val → (⟨(y 1).val - k, h⟩ : Fin 2048) = chan (y 1) := by
      intro k h hk hl
      apply Fin.ext
      show (y 1).val - k = (y 1).val % 2048
      omega
    unfold branch
    by_cases h1 : (y 1).val < 2048
    · have h2 : (y 1).val < 4096 := by omega
      have h3 : (y 1).val < 6144 := by omega
      simp only [dif_pos h1, dif_pos h2, dif_pos h3, if_pos h1, zero_add]
      rw [← hc 0 h1 rfl (by omega)]
      rfl
    · by_cases h2 : (y 1).val < 4096
      · have h3 : (y 1).val < 6144 := by omega
        simp only [dif_neg h1, dif_pos h2, dif_pos h3, if_neg h1, if_pos h2, zero_add, add_zero]
        rw [hc 2048 (by omega) rfl (by omega)]
      · by_cases h3 : (y 1).val < 6144
        · simp only [dif_neg h1, dif_neg h2, dif_pos h3, if_neg h1, if_neg h2, if_pos h3, zero_add, add_zero]
          rw [hc 4096 (by omega) rfl (by omega)]
        · simp only [dif_neg h1, dif_neg h2, dif_neg h3, if_neg h1, if_neg h2, if_neg h3, zero_add, add_zero]
          rw [hc 6144 (by omega) rfl (by omega)]
  · unfold gate
    have e0 : x0 y = x0 (ix2 (y 0) (y 1)) := congrArg x0 e
    rw [e0]

theorem pay_branch (x0 : Vec Ideal S64x8192 .f32) (x5 : Vec Ideal S1x8192 .f32) (x6 : Vec Ideal S64x2048 .f32) (y : S64x2048.Idx) :
    k0_pay17 (F := Ideal) x0 x5 x6 y = dBranch (n := 64) x0 x5 x6 0 (y 0) (y 1)
    ∧ k0_pay15 (F := Ideal) x0 x5 x6 y = dBranch (n := 64) x0 x5 x6 1 (y 0) (y 1)
    ∧ k0_pay14 (F := Ideal) x0 x5 x6 y = dBranch (n := 64) x0 x5 x6 2 (y 0) (y 1)
    ∧ k0_pay13 (F := Ideal) x0 x5 x6 y = dBranch (n := 64) x0 x5 x6 3 (y 0) (y 1) := by
  have e : y = ix2 (y 0) (y 1) := funext fun a => match a with | ⟨0, _⟩ => rfl | ⟨1, _⟩ => rfl
  refine ⟨?_, ?_, ?_, ?_⟩
  · unfold k0_pay17 k0_pay9 k0_pay11 dBranch gate
    pointwise
  · unfold k0_pay15 k0_pay9 k0_pay11 dBranch gate
    pointwise
  · unfold k0_pay14 k0_pay9 k0_pay11 dBranch gate
    pointwise
  · unfold k0_pay13 k0_pay9 k0_pay12 dBranch gate
    pointwise

/-- Gradients over blocks of rows that are rows of the whole arrays are the whole arrays' there. -/
theorem dGate_congr {n' : ℕ} (ρ : Fin n → Fin n') {g' : (⟨2, ![n', 8192]⟩ : Shape).Idx → EReal} {q0 q1 q2 q3 : (⟨2, ![n', 2048]⟩ : Shape).Idx → EReal}
    {b' : S1x8192.Idx → EReal} {d' : (⟨2, ![n', 2048]⟩ : Shape).Idx → EReal} (hg : ∀ r j, g (ix2 r j) = g' (ix2 (ρ r) j))
    (h0 : ∀ r j, p0 (ix2 r j) = q0 (ix2 (ρ r) j)) (h1 : ∀ r j, p1 (ix2 r j) = q1 (ix2 (ρ r) j))
    (h2 : ∀ r j, p2 (ix2 r j) = q2 (ix2 (ρ r) j)) (h3 : ∀ r j, p3 (ix2 r j) = q3 (ix2 (ρ r) j))
    (hb : ∀ j, b (ix2 0 j) = b' (ix2 0 j)) (hd : ∀ r j, d (ix2 r j) = d' (ix2 (ρ r) j)) (r : Fin n) (j : Fin 8192) :
    dGate g p0 p1 p2 p3 b d r j = dGate g' q0 q1 q2 q3 b' d' (ρ r) j := by
  unfold dGate branch gate
  simp only [hg, h0, h1, h2, h3, hb, hd]

theorem dBranch_congr {n' : ℕ} (ρ : Fin n → Fin n') {g' : (⟨2, ![n', 8192]⟩ : Shape).Idx → EReal}
    {b' : S1x8192.Idx → EReal} {d' : (⟨2, ![n', 2048]⟩ : Shape).Idx → EReal} (hg : ∀ r j, g (ix2 r j) = g' (ix2 (ρ r) j))
    (hb : ∀ j, b (ix2 0 j) = b' (ix2 0 j)) (hd : ∀ r j, d (ix2 r j) = d' (ix2 (ρ r) j)) (q : Fin 4) (r : Fin n) (j : Fin 2048) :
    dBranch g b d q r j = dBranch g' b' d' q (ρ r) j := by
  unfold dBranch gate
  simp only [hg, hb, hd]

theorem pay_bias (v12 v36 : FVec Ideal S64x8192 .f32) (v38 : FVec Ideal S64x2048 .f32) (v39 : FVec Ideal S64x6144 .f32) (y : S1x8192.Idx) :
    k0_pay2 v12 v36 v38 v39 y = ∑ r : Fin 64, k0_pay1 v12 v36 v38 v39 (ix2 r (y 1)) := by
  unfold k0_pay2
  pointwise

variable (m : (ℓ : Loc nD τ sig) → Buf (Elt Ideal) ℓ)

/-- The row of the array that a point's row is. -/
def row (t : Fin cfg0.N) (r : Fin 64) : Fin 8448 :=
  ⟨t.val * 64 + r.val, by have h : t.val < 132 := lt_of_lt_of_eq t.isLt N_0; omega⟩

/-- The operands, as arrays of extended reals. -/
abbrev arr0 (c : Dev nD) : S8448x8192.Idx → EReal := m ((c : Thread nD τ).loc main_arg0)
abbrev arr1 (c : Dev nD) : S8448x2048.Idx → EReal := m ((c : Thread nD τ).loc main_arg1)
abbrev arr2 (c : Dev nD) : S8448x2048.Idx → EReal := m ((c : Thread nD τ).loc main_arg2)
abbrev arr3 (c : Dev nD) : S8448x2048.Idx → EReal := m ((c : Thread nD τ).loc main_arg3)
abbrev arr4 (c : Dev nD) : S8448x2048.Idx → EReal := m ((c : Thread nD τ).loc main_arg4)
abbrev arr5 (c : Dev nD) : S1x8192.Idx → EReal := m ((c : Thread nD τ).loc main_arg5)
abbrev arr6 (c : Dev nD) : S8448x2048.Idx → EReal := m ((c : Thread nD τ).loc main_arg6)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

theorem idx7 : ∀ t : Fin cfg0.N, win0_7.index t (0 : Fin 2) = t.val ∧ win0_7.index t (1 : Fin 2) = 0 :=
  (by decide +kernel : ∀ t : Fin grid0.N, _)

theorem idx8 : ∀ t : Fin cfg0.N, win0_8.index t (0 : Fin 2) = t.val ∧ win0_8.index t (1 : Fin 2) = 0 :=
  (by decide +kernel : ∀ t : Fin grid0.N, _)

theorem idx9 : ∀ t : Fin cfg0.N, win0_9.index t (0 : Fin 2) = t.val ∧ win0_9.index t (1 : Fin 2) = 0 :=
  (by decide +kernel : ∀ t : Fin grid0.N, _)

theorem idx10 : ∀ t : Fin cfg0.N, win0_10.index t (0 : Fin 2) = t.val ∧ win0_10.index t (1 : Fin 2) = 0 :=
  (by decide +kernel : ∀ t : Fin grid0.N, _)

theorem idx11 : ∀ t : Fin cfg0.N, win0_11.index t (0 : Fin 2) = t.val ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem blk0 (c : Dev nD) (t : Fin cfg0.N) (r : Fin 64) (j : Fin 8192) :
    (iblk m c 0 t : Vec Ideal S64x8192 .f32) (ix2 r j) = arr0 m c (ix2 (row t r) j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 64 + 1 * r.val = t.val * 64 + r.val; rw [e0]; omega
  | ⟨1, _⟩ => show win0_0.index t 1 * 8192 + 1 * j.val = j.val; rw [e1]; omega

theorem blk1 (c : Dev nD) (t : Fin cfg0.N) (r : Fin 64) (j : Fin 2048) :
    (iblk m c 1 t : Vec Ideal S64x2048 .f32) (ix2 r j) = arr1 m c (ix2 (row t r) j) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 64 + 1 * r.val = t.val * 64 + r.val; rw [e0]; omega
  | ⟨1, _⟩ => show win0_1.index t 1 * 2048 + 1 * j.val = j.val; rw [e1]; omega

theorem blk2 (c : Dev nD) (t : Fin cfg0.N) (r : Fin 64) (j : Fin 2048) :
    (iblk m c 2 t : Vec Ideal S64x2048 .f32) (ix2 r j) = arr2 m c (ix2 (row t r) j) := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 64 + 1 * r.val = t.val * 64 + r.val; rw [e0]; omega
  | ⟨1, _⟩ => show win0_2.index t 1 * 2048 + 1 * j.val = j.val; rw [e1]; omega

theorem blk3 (c : Dev nD) (t : Fin cfg0.N) (r : Fin 64) (j : Fin 2048) :
    (iblk m c 3 t : Vec Ideal S64x2048 .f32) (ix2 r j) = arr3 m c (ix2 (row t r) j) := by
  obtain ⟨e0, e1⟩ := idx3 t
  unfold iblk
  rw [View.read_apply]
  show V m c main_arg3 _ = m (c.tc.loc main_arg3) _
  unfold V
  congr 1
  funext a
  apply Fin.ext
  match a with
  | ⟨0, _⟩ => show win0_3.index t 0 * 64 + 1 * r.val = t.val * 64 + r.val; rw [e0]; omega
  | ⟨1, _⟩ => show win0_3.index t 1 * 2048 + 1 * j.val = j.val; rw [e1]; omega

theorem blk4 (c : Dev nD) (t : Fin cfg0.N) (r : Fin 64) (j : Fin 2048) :
    (iblk m c 4 t : Vec Ideal S64x2048 .f32) (ix2 r j) = arr4 m c (ix2 (row t r) j) := by
  obtain ⟨e0, e1⟩ := idx4 t
  unfold iblk
  rw [View.read_apply]
  show V m c main_arg4 _ = m (c.tc.loc main_arg4) _
  unfold V
  congr 1
  funext a
  apply Fin.ext
  match a with
  | ⟨0, _⟩ => show win0_4.index t 0 * 64 + 1 * r.val = t.val * 64 + r.val; rw [e0]; omega
  | ⟨1, _⟩ => show win0_4.index t 1 * 2048 + 1 * j.val = j.val; rw [e1]; omega

theorem blk5 (c : Dev nD) (t : Fin cfg0.N) (j : Fin 8192) :
    (iblk m c 5 t : Vec Ideal S1x8192 .f32) (ix2 0 j) = arr5 m c (ix2 0 j) := by
  obtain ⟨e0, e1⟩ := idx5 t
  unfold iblk
  rw [View.read_apply]
  show V m c main_arg5 _ = m (c.tc.loc main_arg5) _
  unfold V
  congr 1
  funext a
  apply Fin.ext
  match a with
  | ⟨0, _⟩ => show win0_5.index t 0 * 1 + 1 * 0 = 0; rw [e0]
  | ⟨1, _⟩ => show win0_5.index t 1 * 8192 + 1 * j.val = j.val; rw [e1]; omega

theorem blk6 (c : Dev nD) (t : Fin cfg0.N) (r : Fin 64) (j : Fin 2048) :
    (iblk m c 6 t : Vec Ideal S64x2048 .f32) (ix2 r j) = arr6 m c (ix2 (row t r) j) := by
  obtain ⟨e0, e1⟩ := idx6 t
  unfold iblk
  rw [View.read_apply]
  show V m c main_arg6 _ = m (c.tc.loc main_arg6) _
  unfold V
  congr 1
  funext a
  apply Fin.ext
  match a with
  | ⟨0, _⟩ => show win0_6.index t 0 * 64 + 1 * r.val = t.val * 64 + r.val; rw [e0]; omega
  | ⟨1, _⟩ => show win0_6.index t 1 * 2048 + 1 * j.val = j.val; rw [e1]; omega

/-- The gradients over the whole arrays. -/
def gates (c : Dev nD) : Fin 8448 → Fin 8192 → EReal := dGate (n := 8448) (arr0 m c) (arr1 m c) (arr2 m c) (arr3 m c) (arr4 m c) (arr5 m c) (arr6 m c)
def branches (c : Dev nD) (q : Fin 4) : Fin 8448 → Fin 2048 → EReal := dBranch (n := 8448) (arr0 m c) (arr5 m c) (arr6 m c) q

/-- The five results by rows and the sixth, as functions of the arrays. -/
def GGate (c : Dev nD) (i : S8448x8192.Idx) : EReal :=
  gates m c (i 0) (i 1)

def GBranch (q : Fin 4) (c : Dev nD) (i : S8448x2048.Idx) : EReal :=
  branches m c q (i 0) (i 1)

def GBias (c : Dev nD) (i : S1x8192.Idx) : EReal :=
  ∑ r, gates m c r (i 1)

/-- The gates' gradient over a point's blocks. -/
abbrev gateBlock (c : Dev nD) (t : Fin cfg0.N) : FVec Ideal S64x8192 .f32 :=
  k0_pay1 (F := Ideal) (k0_pay10 (iblk m c 0 t) (iblk m c 5 t)) (k0_pay16 (iblk m c 2 t) (iblk m c 3 t) (iblk m c 4 t) (iblk m c 6 t))
    (k0_pay18 (iblk m c 1 t) (iblk m c 6 t)) (k0_pay19 (F := Ideal))

theorem gateBlock_apply (c : Dev nD) (t : Fin cfg0.N) (y : S64x8192.Idx) :
    gateBlock m c t y = gates m c (row t (y 0)) (y 1) :=
  (pay_gate _ _ _ _ _ _ _ y).trans (dGate_congr _ _ _ _ _ _ _ (row t) (blk0 m c t) (blk1 m c t) (blk2 m c t) (blk3 m c t) (blk4 m c t) (blk5 m c t) (blk6 m c t) _ _)

theorem after7 (c : Dev nD) (t : Fin cfg0.N) : (dats m 0 c).after 7 t = truncf (F := Ideal) .bf16 (gateBlock m c t) bitsLt_bf16_f32 := by
  have hN : t.val < 132 := lt_of_lt_of_eq t.isLt N_0
  rw [after0_7]
  by_cases h : t.val % 132 = 0
  · rw [outsAt0_A m c t h (by omega)]
    frame_out
    rfl
  · rw [outsAt0_B m c t h (by omega)]
    frame_out
    rfl

theorem result7 (c : Dev nD) : (dats m 0 c).arrAt 7 cfg0.N = GGate m c := by
  refine (dats m 0 c).arrAt_eq_of_covers 7 _ (by decide +kernel) fun t hf y => ?_
  blk_simp
  rw [after7]
  obtain ⟨e0, e1⟩ := idx7 t
  refine (gateBlock_apply m c t y).trans ?_
  exact congrArg₂ (gates m c)
    (Fin.ext (by show t.val * 64 + (y 0).val = win0_7.index t 0 * 64 + 1 * (y 0).val; rw [e0]; omega))
    (Fin.ext (by show (y 1).val = win0_7.index t 1 * 8192 + 1 * (y 1).val; rw [e1]; omega))

theorem after8 (c : Dev nD) (t : Fin cfg0.N) : (dats m 0 c).after 8 t = k0_pay4 (F := Ideal) (k0_pay17 (iblk m c 0 t) (iblk m c 5 t) (iblk m c 6 t)) := by
  have hN : t.val < 132 := lt_of_lt_of_eq t.isLt N_0
  rw [after0_8]
  by_cases h : t.val % 132 = 0
  · rw [outsAt0_A m c t h (by omega)]
    frame_out
  · rw [outsAt0_B m c t h (by omega)]
    frame_out

theorem result8 (c : Dev nD) : (dats m 0 c).arrAt 8 cfg0.N = GBranch m 0 c := by
  refine (dats m 0 c).arrAt_eq_of_covers 8 _ (by decide +kernel) fun t hf y => ?_
  blk_simp
  rw [after8]
  obtain ⟨e0, e1⟩ := idx8 t
  refine ((pay_branch _ _ _ y).1.trans (dBranch_congr _ _ _ (row t) (blk0 m c t) (blk5 m c t) (blk6 m c t) _ _ _)).trans ?_
  exact congrArg₂ (branches m c 0)
    (Fin.ext (by show t.val * 64 + (y 0).val = win0_8.index t 0 * 64 + 1 * (y 0).val; rw [e0]; omega))
    (Fin.ext (by show (y 1).val = win0_8.index t 1 * 2048 + 1 * (y 1).val; rw [e1]; omega))

theorem after9 (c : Dev nD) (t : Fin cfg0.N) : (dats m 0 c).after 9 t = k0_pay5 (F := Ideal) (k0_pay15 (iblk m c 0 t) (iblk m c 5 t) (iblk m c 6 t)) := by
  have hN : t.val < 132 := lt_of_lt_of_eq t.isLt N_0
  rw [after0_9]
  by_cases h : t.val % 132 = 0
  · rw [outsAt0_A m c t h (by omega)]
    frame_out
  · rw [outsAt0_B m c t h (by omega)]
    frame_out

theorem result9 (c : Dev nD) : (dats m 0 c).arrAt 9 cfg0.N = GBranch m 1 c := by
  refine (dats m 0 c).arrAt_eq_of_covers 9 _ (by decide +kernel) fun t hf y => ?_
  blk_simp
  rw [after9]
  obtain ⟨e0, e1⟩ := idx9 t
  refine ((pay_branch _ _ _ y).2.1.trans (dBranch_congr _ _ _ (row t) (blk0 m c t) (blk5 m c t) (blk6 m c t) _ _ _)).trans ?_
  exact congrArg₂ (branches m c 1)
    (Fin.ext (by show t.val * 64 + (y 0).val = win0_9.index t 0 * 64 + 1 * (y 0).val; rw [e0]; omega))
    (Fin.ext (by show (y 1).val = win0_9.index t 1 * 2048 + 1 * (y 1).val; rw [e1]; omega))

theorem after10 (c : Dev nD) (t : Fin cfg0.N) : (dats m 0 c).after 10 t = k0_pay6 (F := Ideal) (k0_pay14 (iblk m c 0 t) (iblk m c 5 t) (iblk m c 6 t)) := by
  have hN : t.val < 132 := lt_of_lt_of_eq t.isLt N_0
  rw [after0_10]
  by_cases h : t.val % 132 = 0
  · rw [outsAt0_A m c t h (by omega)]
    frame_out
  · rw [outsAt0_B m c t h (by omega)]
    frame_out

theorem result10 (c : Dev nD) : (dats m 0 c).arrAt 10 cfg0.N = GBranch m 2 c := by
  refine (dats m 0 c).arrAt_eq_of_covers 10 _ (by decide +kernel) fun t hf y => ?_
  blk_simp
  rw [after10]
  obtain ⟨e0, e1⟩ := idx10 t
  refine ((pay_branch _ _ _ y).2.2.1.trans (dBranch_congr _ _ _ (row t) (blk0 m c t) (blk5 m c t) (blk6 m c t) _ _ _)).trans ?_
  exact congrArg₂ (branches m c 2)
    (Fin.ext (by show t.val * 64 + (y 0).val = win0_10.index t 0 * 64 + 1 * (y 0).val; rw [e0]; omega))
    (Fin.ext (by show (y 1).val = win0_10.index t 1 * 2048 + 1 * (y 1).val; rw [e1]; omega))

theorem after11 (c : Dev nD) (t : Fin cfg0.N) : (dats m 0 c).after 11 t = k0_pay7 (F := Ideal) (k0_pay13 (iblk m c 0 t) (iblk m c 5 t) (iblk m c 6 t)) := by
  have hN : t.val < 132 := lt_of_lt_of_eq t.isLt N_0
  rw [after0_11]
  by_cases h : t.val % 132 = 0
  · rw [outsAt0_A m c t h (by omega)]
    frame_out
  · rw [outsAt0_B m c t h (by omega)]
    frame_out

theorem result11 (c : Dev nD) : (dats m 0 c).arrAt 11 cfg0.N = GBranch m 3 c := by
  refine (dats m 0 c).arrAt_eq_of_covers 11 _ (by decide +kernel) fun t hf y => ?_
  blk_simp
  rw [after11]
  obtain ⟨e0, e1⟩ := idx11 t
  refine ((pay_branch _ _ _ y).2.2.2.trans (dBranch_congr _ _ _ (row t) (blk0 m c t) (blk5 m c t) (blk6 m c t) _ _ _)).trans ?_
  exact congrArg₂ (branches m c 3)
    (Fin.ext (by show t.val * 64 + (y 0).val = win0_11.index t 0 * 64 + 1 * (y 0).val; rw [e0]; omega))
    (Fin.ext (by show (y 1).val = win0_11.index t 1 * 2048 + 1 * (y 1).val; rw [e1]; omega))

/-- A point's part of the bias's gradient. -/
def part (c : Dev nD) (t : Fin cfg0.N) : Vec Ideal S1x8192 .f32 :=
  k0_pay2 (F := Ideal) (k0_pay10 (iblk m c 0 t) (iblk m c 5 t)) (k0_pay16 (iblk m c 2 t) (iblk m c 3 t) (iblk m c 4 t) (iblk m c 6 t))
    (k0_pay18 (iblk m c 1 t) (iblk m c 6 t)) (k0_pay19 (F := Ideal))

theorem sum_A (c : Dev nD) (t : Fin cfg0.N) (h : t.val % 132 = 0) : (outsAt0 m c t.val t.isLt).2.2.2.2.2 = part m c t := by
  have hN : t.val < 132 := lt_of_lt_of_eq t.isLt N_0
  rw [outsAt0_A m c t h (by omega)]
  frame_out
  rfl

theorem sum_B (c : Dev nD) (n : ℕ) (hn : n + 1 < cfg0.N) (h : (n + 1) % 132 ≠ 0) :
    (outsAt0 m c (n + 1) hn).2.2.2.2.2 = addf (F := Ideal) (φ := .f32) (outsAt0 m c n (Nat.lt_of_succ_lt hn)).2.2.2.2.2 (part m c ⟨n + 1, hn⟩) := by
  rw [outsAt0_B m c ⟨n + 1, hn⟩ h (by show 1 ≤ n + 1; omega)]
  frame_out
  unfold k0_pay8
  simp only [shapeCast_self]
  rfl

theorem part_apply (c : Dev nD) (t : Fin cfg0.N) (y : S1x8192.Idx) :
    (part m c t y : EReal) = ∑ r : Fin 64, gates m c (row t r) (y 1) :=
  (pay_bias _ _ _ _ y).trans (Finset.sum_congr rfl fun r _ => gateBlock_apply m c t (ix2 r (y 1)))

theorem result12 (c : Dev nD) : (dats m 0 c).arrAt 12 cfg0.N = GBias m c := by
  refine (dats m 0 c).arrAt_eq_of_covers 12 _ (by decide +kernel) fun t hf y => ?_
  have hN : cfg0.N = 132 := N_0
  have ht : t.val = 131 := (by decide +kernel : ∀ t : Fin grid0.N, win0_12.flush t = true → t.val = 131) t hf
  blk_simp
  rw [after0_12]
  obtain ⟨e0, e1⟩ := idx12 t
  have hy : (((View.whole main_v0_5).slice (win0_12.rect t)).emb y) 1 = y 1 :=
    Fin.ext (by show win0_12.index t 1 * 8192 + 1 * (y 1).val = (y 1).val; rw [e1]; omega)
  unfold GBias
  rw [hy]
  exact Tiles.run_last_tiles (J := 132) (TK := 64) (K := 8448) (by decide) (by decide)
    (fun n h => (outsAt0 m c n h).2.2.2.2.2 y) (fun n h => (outsAt0 m c n h).2.2.2.2.2 y) (fun n h => part m c ⟨n, h⟩ y) 0
    (fun r => gates m c r (y 1)) (fun n h hn => congrFun (sum_A m c ⟨n, h⟩ hn) y) (fun n h h0 _ => congrFun (sum_B m c n h h0) y)
    (fun n h h5 => congrFun (sum_B m c n h (by omega)) y)
    (fun s h => (part_apply m c ⟨_, h⟩ y).trans (Finset.sum_congr rfl fun r _ => congrArg₂ (gates m c) (Fin.ext (by show (132 * 0 + s.val) * 64 + r.val = s.val * 64 + r.val; omega)) rfl))
    t.val (by omega) t.isLt

end Cert.MergeBIdeal.Prod

end
-- ==== Proof.MergeBRef.lean ====
/- The reference's gradient of the gates, and the claim that the kernel computes it. -/
module

public import proofs.«01_k».proof.Proof.MergeB
public import proofs.«01_k».proof.Proof.Gen.MergeBRefIdeal.Run
public import proofs.«01_k».proof.Proof.Gen.MergeBRefIdeal.Read

@[expose] public section

set_option maxRecDepth 16384

noncomputable section

namespace Cert.MergeBRefIdeal.Prod

open Cert.MergeBRefIdeal Cert.MergeBRefIdeal.Gen Idealize.ShloMosaic Idealize.ShloMosaic.TcCoe Idealize.SL.Sem
open Cert.MergeBIdeal.Prod (gate chan branch dGate dBranch)

variable (x0 : S8448x8192.Idx → EReal) (x1 x2 x3 x4 : S8448x2048.Idx → EReal) (x5 : S1x8192.Idx → EReal) (x6 : S8448x2048.Idx → EReal)

/-- The reference's sigmoid is the gate. -/
theorem sig (i : S8448x8192.Idx) : Read.val_main_v7 (F := Ideal) x0 x5 i = gate (n := 8448) x0 x5 (i 0) (i 1) := by
  rw [Read.val_main_v7_apply]
  simp only [Read.val_main_v6_apply, Read.val_main_cst_0_apply, Read.val_main_v5_apply, Read.val_main_v4_apply, Read.val_main_cst_apply,
    Read.val_main_v3_apply, Read.val_main_v2_apply, Read.val_main_v1_apply, Read.val_main_v0_apply]
  unfold gate Ideal.logistic
  pointwise
  have e : x0 i = x0 (ix2 (i 0) (i 1)) := congrArg x0 (funext fun a => match a with | ⟨0, _⟩ => rfl | ⟨1, _⟩ => rfl)
  have e5 : x5 (Read.idx_main_v0 i) = x5 (ix2 0 (i 1)) := congrArg x5 (funext fun a => match a with | ⟨0, _⟩ => rfl | ⟨1, _⟩ => rfl)
  rw [e, e5]

/-- The stacked branches. -/
theorem stack (i : S8448x4x2048.Idx) (j : Fin 8192) (h : j.val = (i 1).val * 2048 + (i 2).val) :
    Read.val_main_v16 (F := Ideal) x1 x2 x3 x4 i = branch (n := 8448) x1 x2 x3 x4 (i 0) j := by
  unfold Read.val_main_v16
  pointwise
  have h1 : (i 1).val < 4 := (i 1).isLt
  have h2 : (i 2).val < 2048 := (i 2).isLt
  have hc : ∀ z : S8448x1x2048.Idx, z 0 = i 0 → z 2 = i 2 → Read.idx_main_v12 z = ix2 (i 0) (chan j) := by
    intro z e0 e2
    funext a
    match a with
    | ⟨0, _⟩ => exact Fin.ext (congrArg Fin.val e0)
    | ⟨1, _⟩ =>
      apply Fin.ext
      show (z 2).val = j.val % 2048
      rw [e2]; omega
  unfold branch
  by_cases a1 : (i 1).val < 1
  · exact (dif_pos a1).trans (Eq.trans ((Read.val_main_v12_apply (F := Ideal) x1 _).trans (congrArg x1 (hc _ rfl rfl))) (if_pos (by omega)).symm)
  · refine (dif_neg a1).trans (Eq.trans ?_ (if_neg (by omega)).symm)
    by_cases a2 : (i 1).val - 1 < 1
    · exact (dif_pos a2).trans (Eq.trans ((Read.val_main_v13_apply (F := Ideal) x2 _).trans (congrArg x2 (hc _ rfl rfl))) (if_pos (by omega)).symm)
    · refine (dif_neg a2).trans (Eq.trans ?_ (if_neg (by omega)).symm)
      by_cases a3 : (i 1).val - 1 - 1 < 1
      · exact (dif_pos a3).trans (Eq.trans ((Read.val_main_v14_apply (F := Ideal) x3 _).trans (congrArg x3 (hc _ rfl rfl))) (if_pos (by omega)).symm)
      · exact (dif_neg a3).trans (Eq.trans ((Read.val_main_v15_apply (F := Ideal) x4 _).trans (congrArg x4 (hc _ rfl rfl))) (if_neg (by omega)).symm)

theorem gates (i : S8448x8192.Idx) : Read.val_main_v31 (F := Ideal) x0 x1 x2 x3 x4 x5 x6 i = dGate (n := 8448) x0 x1 x2 x3 x4 x5 x6 (i 0) (i 1) := by
  rw [Read.val_main_v31_apply, Read.val_main_v30_apply, Read.val_main_v21_apply, Read.val_main_v19_apply, Read.val_main_v10_apply,
    Read.val_main_v9_apply, Read.val_main_v8_apply, Read.val_main_cst_1_apply, sig]
  have h0 : (i 0).val < 8448 := (i 0).isLt
  have h1 : (i 1).val < 8192 := (i 1).isLt
  rw [stack x1 x2 x3 x4 _ (i 1) (by show (i 1).val = ((i 0).val * 8192 + (i 1).val) / 2048 % 4 * 2048 + ((i 0).val * 8192 + (i 1).val) % 2048; omega)]
  pointwise
  have e0 : Read.idx_main_v30 i 0 = i 0 := Fin.ext (by show ((i 0).val * 8192 + (i 1).val) / 8192 = (i 0).val; omega)
  have e6 : Read.idx_main_v19 (Read.idx_main_v30 i) = ix2 (i 0) (chan (i 1)) := by
    funext a
    match a with
    | ⟨0, _⟩ => exact e0
    | ⟨1, _⟩ => apply Fin.ext; show ((i 0).val * 8192 + (i 1).val) % 2048 = (i 1).val % 2048; omega
  unfold dGate
  rw [e0, e6]
  rfl

theorem result34 (i : S8448x8192.Idx) : Read.val_main_v34 (F := Ideal) x0 x1 x2 x3 x4 x5 x6 i = dGate (n := 8448) x0 x1 x2 x3 x4 x5 x6 (i 0) (i 1) := by
  rw [Read.val_main_v34_apply, gates]
  pointwise

theorem slices (i : S8448x4x2048.Idx) (q : Fin 4) (h : i 1 = q) :
    Read.val_main_v20 (F := Ideal) x0 x5 x6 i = dBranch (n := 8448) x0 x5 x6 q (i 0) (i 2) := by
  rw [Read.val_main_v20_apply, Read.val_main_v11_apply, Read.val_main_v19_apply, sig]
  have h0 : (i 0).val < 8448 := (i 0).isLt
  have h1 : (i 1).val < 4 := (i 1).isLt
  have h2 : (i 2).val < 2048 := (i 2).isLt
  have hq : (i 1).val = q.val := congrArg Fin.val h
  unfold dBranch
  refine congrArg₂ (· * ·) (congrArg₂ (gate (n := 8448) x0 x5) (Fin.ext ?_) (Fin.ext ?_)) (congrArg x6 ?_)
  · show (((i 0).val * 4 + (i 1).val) * 2048 + (i 2).val) / 8192 = (i 0).val
    omega
  · show (((i 0).val * 4 + (i 1).val) * 2048 + (i 2).val) % 8192 = q.val * 2048 + (i 2).val
    omega
  · exact funext fun a => match a with | ⟨0, _⟩ => rfl | ⟨1, _⟩ => rfl

theorem result35 (i : S8448x2048.Idx) : Read.val_main_v35 (F := Ideal) x0 x5 x6 i = dBranch (n := 8448) x0 x5 x6 0 (i 0) (i 1) := by
  have h0 : (i 0).val < 8448 := (i 0).isLt
  have h1 : (i 1).val < 2048 := (i 1).isLt
  rw [Read.val_main_v35_apply, Read.val_main_v23_apply, Read.val_main_v22_apply, slices x0 x5 x6 _ 0 rfl]
  pointwise
  refine congrArg₂ (dBranch (n := 8448) x0 x5 x6 0) (Fin.ext ?_) (Fin.ext ?_)
  · show ((i 0).val * 2048 + (i 1).val) / 2048 = (i 0).val
    omega
  · show ((i 0).val * 2048 + (i 1).val) % 2048 = (i 1).val
    omega

theorem result36 (i : S8448x2048.Idx) : Read.val_main_v36 (F := Ideal) x0 x5 x6 i = dBranch (n := 8448) x0 x5 x6 1 (i 0) (i 1) := by
  have h0 : (i 0).val < 8448 := (i 0).isLt
  have h1 : (i 1).val < 2048 := (i 1).isLt
  rw [Read.val_main_v36_apply, Read.val_main_v25_apply, Read.val_main_v24_apply, slices x0 x5 x6 _ 1 rfl]
  pointwise
  refine congrArg₂ (dBranch (n := 8448) x0 x5 x6 1) (Fin.ext ?_) (Fin.ext ?_)
  · show ((i 0).val * 2048 + (i 1).val) / 2048 = (i 0).val
    omega
  · show ((i 0).val * 2048 + (i 1).val) % 2048 = (i 1).val
    omega

theorem result37 (i : S8448x2048.Idx) : Read.val_main_v37 (F := Ideal) x0 x5 x6 i = dBranch (n := 8448) x0 x5 x6 2 (i 0) (i 1) := by
  have h0 : (i 0).val < 8448 := (i 0).isLt
  have h1 : (i 1).val < 2048 := (i 1).isLt
  rw [Read.val_main_v37_apply, Read.val_main_v27_apply, Read.val_main_v26_apply, slices x0 x5 x6 _ 2 rfl]
  pointwise
  refine congrArg₂ (dBranch (n := 8448) x0 x5 x6 2) (Fin.ext ?_) (Fin.ext ?_)
  · show ((i 0).val * 2048 + (i 1).val) / 2048 = (i 0).val
    omega
  · show ((i 0).val * 2048 + (i 1).val) % 2048 = (i 1).val
    omega

theorem result38 (i : S8448x2048.Idx) : Read.val_main_v38 (F := Ideal) x0 x5 x6 i = dBranch (n := 8448) x0 x5 x6 3 (i 0) (i 1) := by
  have h0 : (i 0).val < 8448 := (i 0).isLt
  have h1 : (i 1).val < 2048 := (i 1).isLt
  rw [Read.val_main_v38_apply, Read.val_main_v29_apply, Read.val_main_v28_apply, slices x0 x5 x6 _ 3 rfl]
  pointwise
  refine congrArg₂ (dBranch (n := 8448) x0 x5 x6 3) (Fin.ext ?_) (Fin.ext ?_)
  · show ((i 0).val * 2048 + (i 1).val) / 2048 = (i 0).val
    omega
  · show ((i 0).val * 2048 + (i 1).val) % 2048 = (i 1).val
    omega

theorem result33 (i : S1x8192.Idx) :
    Read.val_main_v33 (F := Ideal) x0 x1 x2 x3 x4 x5 x6 i = ∑ r, dGate (n := 8448) x0 x1 x2 x3 x4 x5 x6 r (i 1) := by
  rw [Read.val_main_v33_apply, Read.val_main_v32_apply, Read.val_main_cst_3_apply]
  pointwise
  have h0 : (i 0).val < 1 := (i 0).isLt
  refine Finset.sum_congr rfl fun r _ => (gates x0 x1 x2 x3 x4 x5 x6 _).trans ?_
  exact congrArg (dGate (n := 8448) x0 x1 x2 x3 x4 x5 x6 r) (Fin.ext (by show (i 0).val * 8192 + (i 1).val = (i 1).val; omega))

end Cert.MergeBRefIdeal.Prod

namespace Cert

open Idealize.ShloMosaic Idealize.ShloMosaic.TcCoe Idealize.SL.Sem

theorem algebraic_merge_b : Cert.algebraic_MergeBIdeal_MergeBRefIdeal := by
  intro m g m' g' _ hm
  refine ⟨Cert.MergeBIdeal.Prod.GGate m, Cert.MergeBIdeal.Prod.GBranch m 0, Cert.MergeBIdeal.Prod.GBranch m 1, Cert.MergeBIdeal.Prod.GBranch m 2,
    Cert.MergeBIdeal.Prod.GBranch m 3, Cert.MergeBIdeal.Prod.GBias m,
    (θ_run Cert.MergeBIdeal.defs _ _).mono (fun r h c => ⟨(h c).1.trans (Cert.MergeBIdeal.Prod.result7 m c),
      (h c).2.1.trans (Cert.MergeBIdeal.Prod.result8 m c), (h c).2.2.1.trans (Cert.MergeBIdeal.Prod.result9 m c),
      (h c).2.2.2.1.trans (Cert.MergeBIdeal.Prod.result10 m c), (h c).2.2.2.2.1.trans (Cert.MergeBIdeal.Prod.result11 m c),
      (h c).2.2.2.2.2.1.trans (Cert.MergeBIdeal.Prod.result12 m c), (h c).2.2.2.2.2.2⟩) (Cert.MergeBIdeal.Value.run_blocks (F := Ideal) m g), ?_⟩
  refine (θ_run Cert.MergeBRefIdeal.defs _ _).mono (fun r h c => ?_) (Cert.MergeBRefIdeal.Value.run (F := Ideal) m' g')
  have hr := h c
  rw [(hm c).1, (hm c).2.1, (hm c).2.2.1, (hm c).2.2.2.1, (hm c).2.2.2.2.1, (hm c).2.2.2.2.2.1, (hm c).2.2.2.2.2.2] at hr
  rw [(hm c).1, (hm c).2.1, (hm c).2.2.1, (hm c).2.2.2.1, (hm c).2.2.2.2.1, (hm c).2.2.2.2.2.1, (hm c).2.2.2.2.2.2]
  exact ⟨hr.1.trans (funext fun i => Cert.MergeBRefIdeal.Prod.result34 _ _ _ _ _ _ _ i),
    hr.2.1.trans (funext fun i => Cert.MergeBRefIdeal.Prod.result35 _ _ _ i),
    hr.2.2.1.trans (funext fun i => Cert.MergeBRefIdeal.Prod.result36 _ _ _ i),
    hr.2.2.2.1.trans (funext fun i => Cert.MergeBRefIdeal.Prod.result37 _ _ _ i),
    hr.2.2.2.2.1.trans (funext fun i => Cert.MergeBRefIdeal.Prod.result38 _ _ _ i),
    hr.2.2.2.2.2.1.trans (funext fun i => Cert.MergeBRefIdeal.Prod.result33 _ _ _ _ _ _ _ i), hr.2.2.2.2.2.2⟩

end Cert

end
-- ==== Proof.Ff2B.lean ====
/- The gradient of the channel mixer's hidden rows: the second product's input gradient, through the squared ReLU. -/
module

public import proofs.«01_k».proof.Defs
public import proofs.«01_k».proof.Proof.Gen.Ff2BIdeal.Value
public import proofs.«01_k».proof.Proof.Gen.Ff2BRefIdeal.Run
public import proofs.«01_k».proof.Proof.Gen.Ff2BRefIdeal.Read
public import Idealize.ShloMosaic.Lib.Pointwise
public import Idealize.ShloMosaic.Lib.Pipeline.ValueKit

@[expose] public section

set_option maxRecDepth 16384

noncomputable section

namespace Cert.Ff2BIdeal.Prod

open Cert.Ff2BIdeal Cert.Ff2BIdeal.Gen Idealize.ShloMosaic Idealize.ShloMosaic.TcCoe Idealize.SL.Sem
open Idealize.ShloMosaic.Pipeline (Dat)

/-- The gradient of a hidden entry `f` whose square's gradient is `d`. -/
def through (d f : EReal) : EReal := d * (Ideal.ofBits .f32 0x40000000#32 * max f 0)

theorem pay_apply (x0 : Vec Ideal S768x2048 .bf16) (x1 : Vec Ideal S1024x2048 .bf16) (x2 : Vec Ideal S768x1024 .f32) (j : S768x1024.Idx) :
    k0_pay1 x1 x0 x2 j = through (∑ k : Fin 2048, x0 (ix2 (j 0) k) * x1 (ix2 (j 1) k)) (x2 j) := by
  unfold k0_pay1
  pointwise
  rfl

variable (m : (ℓ : Loc nD τ sig) → Buf (Elt Ideal) ℓ)

/-- The three operands, as arrays of extended reals. -/
abbrev arr0 (c : Dev nD) : S8448x2048.Idx → EReal := m ((c : Thread nD τ).loc main_arg0)
abbrev arr1 (c : Dev nD) : S8192x2048.Idx → EReal := m ((c : Thread nD τ).loc main_arg1)
abbrev arr2 (c : Dev nD) : S8448x8192.Idx → EReal := m ((c : Thread nD τ).loc main_arg2)

/-- The whole result. -/
def G (x0 : S8448x2048.Idx → EReal) (x1 : S8192x2048.Idx → EReal) (x2 : S8448x8192.Idx → EReal) (i : S8448x8192.Idx) : EReal :=
  through (∑ k : Fin 2048, x0 (ix2 (i 0) k) * x1 (ix2 (i 1) k)) (x2 i)

theorem idx0 : ∀ t : Fin cfg0.N, win0_0.index t (0 : Fin 2) = win0_3.index t (0 : Fin 2) ∧ win0_0.index t (1 : Fin 2) = 0 :=
  (by decide +kernel : ∀ t : Fin grid0.N, _)

theorem idx1 : ∀ t : Fin cfg0.N, win0_1.index t (0 : Fin 2) = win0_3.index t (1 : Fin 2) ∧ win0_1.index t (1 : Fin 2) = 0 :=
  (by decide +kernel : ∀ t : Fin grid0.N, _)

/-- Where a point's block of the result lies in it. -/
abbrev at3 (t : Fin cfg0.N) (y : S768x1024.Idx) : S8448x8192.Idx := ((View.whole main_v0).slice (win0_3.rect t)).emb y

theorem blk0 (c : Dev nD) (t : Fin cfg0.N) (y : S768x1024.Idx) (k : Fin 2048) :
    (iblk m c 0 t : Vec Ideal S768x2048 .bf16) (ix2 (y 0) k) = arr0 m c (ix2 (at3 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_3.index t 0 * 768 + 1 * (y 0).val; rw [e0]
  | ⟨1, _⟩ => show win0_0.index t 1 * 2048 + 1 * k.val = k.val; rw [e1]; omega

theorem blk1 (c : Dev nD) (t : Fin cfg0.N) (y : S768x1024.Idx) (k : Fin 2048) :
    (iblk m c 1 t : Vec Ideal S1024x2048 .bf16) (ix2 (y 1) k) = arr1 m c (ix2 (at3 t y 1) k) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * (y 1).val = win0_3.index t 1 * 1024 + 1 * (y 1).val; rw [e0]
  | ⟨1, _⟩ => show win0_1.index t 1 * 2048 + 1 * k.val = k.val; rw [e1]; omega

theorem blk2 (c : Dev nD) (t : Fin cfg0.N) (y : S768x1024.Idx) :
    (iblk m c 2 t : Vec Ideal S768x1024 .f32) y = arr2 m c (at3 t y) := by
  unfold iblk
  rw [View.read_apply]
  rfl

theorem result (c : Dev nD) : (dats m 0 c).arrAt 3 cfg0.N = G (arr0 m c) (arr1 m c) (arr2 m c) := by
  refine (dats m 0 c).arrAt_eq_of_covers 3 _ (by decide +kernel) fun t hf y => ?_
  blk_simp
  rw [after0_3]
  frame_out
  refine (pay_apply _ _ _ _).trans (congrArg₂ through ?_ (blk2 m c t y))
  exact Finset.sum_congr rfl fun k _ => congrArg₂ (· * ·) (blk0 m c t y k) (blk1 m c t y k)

end Cert.Ff2BIdeal.Prod

namespace Cert.Ff2BRefIdeal.Prod

open Cert.Ff2BRefIdeal Cert.Ff2BRefIdeal.Gen Idealize.ShloMosaic Idealize.ShloMosaic.TcCoe Idealize.SL.Sem
open Cert.Ff2BIdeal.Prod (through G)

/-- Where the hidden entry is not positive its maximum with zero is zero, so that the product is zero too. -/
theorem through_eq (d f : EReal) : (if 0 < f then d * (Ideal.ofBits .f32 0x40000000#32 * max f 0) else 0) = through d f := by
  unfold through
  split
  · rfl
  · rename_i h
    rw [max_eq_right (not_lt.1 h), mul_zero, mul_zero]

/-- The reference's result: the derivative of the squared ReLU, a choice on the sign of the hidden entry, makes no difference. -/
theorem result (x0 : S8448x2048.Idx → EReal) (x1 : S8192x2048.Idx → EReal) (x2 : S8448x8192.Idx → EReal) (i : S8448x8192.Idx) :
    Read.val_main_v14 (F := Ideal) x0 x1 x2 i = G x0 x1 x2 i := by
  unfold G
  rw [Read.val_main_v14_apply, Read.val_main_v13_apply, Read.val_main_v11_apply, Read.val_main_v10_apply]
  simp only [Read.val_main_v2_apply, Read.val_main_v1_apply, Read.val_main_v6_apply, Read.val_main_v5_apply, Read.val_main_v0_apply, Read.val_main_v12_apply,
    Read.val_main_cst_apply, Read.val_main_cst_1_apply, Read.val_main_cst_2_apply, Read.val_main_call0_v0_apply, Read.val_main_call0_cst_apply,
    Read.val_main_v7_apply, Read.val_main_v9_apply]
  pointwise
  have hl : ∀ k : Fin 2048, Read.lidx_main_v10 i k = ix2 (i 0) k := fun k => funext fun a => match a with | ⟨0, _⟩ => rfl | ⟨1, _⟩ => rfl
  have hr : ∀ k : Fin 2048, Read.ridx_main_v10 i k = ix2 (i 1) k := fun k => funext fun a => match a with | ⟨0, _⟩ => rfl | ⟨1, _⟩ => rfl
  simp only [hl, hr]
  exact through_eq _ _

end Cert.Ff2BRefIdeal.Prod

namespace Cert

open Idealize.ShloMosaic Idealize.ShloMosaic.TcCoe Idealize.SL.Sem

theorem algebraic_ff2_b : Cert.algebraic_Ff2BIdeal_Ff2BRefIdeal := by
  intro m g m' g' _ hm
  refine ⟨fun c => Cert.Ff2BIdeal.Prod.G (m ((c.tc).loc Cert.Ff2BIdeal.main_arg0)) (m ((c.tc).loc Cert.Ff2BIdeal.main_arg1)) (m ((c.tc).loc Cert.Ff2BIdeal.main_arg2)),
    (θ_run Cert.Ff2BIdeal.defs _ _).mono (fun r h c => ⟨(h c).1.trans (Cert.Ff2BIdeal.Prod.result m c), (h c).2⟩) (Cert.Ff2BIdeal.Value.run_blocks (F := Ideal) m g), ?_⟩
  refine (θ_run Cert.Ff2BRefIdeal.defs _ _).mono (fun r h c => ⟨(h c).1.trans ?_, (h c).2⟩) (Cert.Ff2BRefIdeal.Value.run (F := Ideal) m' g')
  rw [(hm c).1, (hm c).2.1, (hm c).2.2]
  funext i
  exact Cert.Ff2BRefIdeal.Prod.result _ _ _ i

end Cert

end
-- ==== Proof.Ff2W.lean ====
/- The weight gradient of the channel mixer's second product. -/
module

public import proofs.«01_k».proof.Proof.Tiles
public import proofs.«01_k».proof.Defs
public import proofs.«01_k».proof.Proof.Gen.Ff2WIdeal.Value
public import proofs.«01_k».proof.Proof.Gen.Ff2WRefIdeal.Run
public import proofs.«01_k».proof.Proof.Gen.Ff2WRefIdeal.Read
public import Idealize.ShloMosaic.Lib.Pointwise

@[expose] public section

set_option maxRecDepth 16384

noncomputable section

namespace Cert.Ff2WIdeal.Prod

open Cert.Ff2WIdeal Cert.Ff2WIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S1408x1024 .bf16) (x1 : Vec Ideal S1408x2048 .bf16) (j : S1024x2048.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The products of the two arrays' columns `i 0` and `i 1`, row by row. -/
def term (x0 : S8448x8192.Idx → EReal) (x1 : S8448x2048.Idx → EReal) (i : S8192x2048.Idx) (κ : Fin 8448) : EReal :=
  x0 (ix2 κ (i 0)) * x1 (ix2 κ (i 1))

/-- The two operands, as arrays of extended reals. -/
abbrev arr0 (c : Dev nD) : S8448x8192.Idx → EReal := m ((c : Thread nD τ).loc main_arg0)
abbrev arr1 (c : Dev nD) : S8448x2048.Idx → EReal := m ((c : Thread nD τ).loc main_arg1)

theorem idx0 : ∀ t : Fin cfg0.N, win0_0.index t (0 : Fin 2) = t.val % 6 ∧ win0_0.index t (1 : Fin 2) = t.val / 6 :=
  (by decide +kernel : ∀ t : Fin grid0.N, _)

theorem idx1 : ∀ t : Fin cfg0.N, win0_1.index t (0 : Fin 2) = t.val % 6 ∧ win0_1.index t (1 : Fin 2) = 0 :=
  (by decide +kernel : ∀ t : Fin grid0.N, _)

theorem blk0 (c : Dev nD) (t : Fin cfg0.N) (k : Fin 1408) (r : Fin 1024) (κ : Fin 8448) (ρ : Fin 8192)
    (hk : κ.val = t.val % 6 * 1408 + k.val) (hr : ρ.val = t.val / 6 * 1024 + r.val) :
    (iblk m c 0 t : Vec Ideal S1408x1024 .bf16) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 1024 + 1 * r.val = ρ.val; rw [e1, hr]; omega

theorem blk1 (c : Dev nD) (t : Fin cfg0.N) (k : Fin 1408) (r : Fin 2048) (κ : Fin 8448) (ρ : Fin 2048)
    (hk : κ.val = t.val % 6 * 1408 + k.val) (hr : ρ.val = r.val) :
    (iblk m c 1 t : Vec Ideal S1408x2048 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 2048 + 1 * r.val = ρ.val; rw [e1, hr]; omega

/-- A point's part: the product of its two blocks. -/
def part (c : Dev nD) (t : Fin cfg0.N) : Vec Ideal S1024x2048 .f32 := k0_pay1 (F := Ideal) (iblk m c 1 t) (iblk m c 0 t)

theorem part_apply (c : Dev nD) (t : Fin cfg0.N) (y : S1024x2048.Idx) (i : S8192x2048.Idx) (s : ℕ) (hs : s < 6) (ht : t.val % 6 = s)
    (h0 : (i 0).val = t.val / 6 * 1024 + (y 0).val) (h1 : (i 1).val = (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (i 0) rfl h0) (blk1 m c t k (y 1) _ (i 1) rfl h1)

/-- The first point of a run leaves its part in the scratch. -/
theorem scratch_A (c : Dev nD) (t : Fin cfg0.N) (h : t.val % 6 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x1024) hz, View.ld_unit_zero (S := S1408x2048) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x1024) hz, View.ld_unit_zero (S := S1408x2048) hz, View.ld_unit_zero (S := S1024x2048) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S1024x2048) _ hz]
  unfold k0_pay3 part
  simp only [View.readAt_eq_ld, (hs0_0 _).read_unread, (hs0_1 _).read_unread, (Memref.isWhole_whole _).read_unread, View.ld_unit_zero (S := S1408x1024) hz, View.ld_unit_zero (S := S1408x2048) hz, View.ld_unit_zero (S := S1024x2048) hz, shapeCast_self]
  rfl

/-- The kernel's result: at every element the whole sum. -/
theorem result (c : Dev nD) (i : S8192x2048.Idx) :
    (Value.G2 m c : S8192x2048.Idx → EReal) i = ∑ κ, term (arr0 m c) (arr1 m c) i κ := by
  have b0 : (i 0).val < 8192 := (i 0).isLt
  have b1 : (i 1).val < 2048 := (i 1).isLt
  have hN : cfg0.N = 48 := N_0
  have hp : Value.pt2Of i = 6 * ((i 0).val / 1024) + (6 - 1) := by
    show 6 * (1 * ((i 0).val / 1024 - 0) + 1 * ((i 1).val / 2048 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (Value.loc2Of i)) (fun n h => (outsAt0 m c n h).1 (Value.loc2Of i))
    (fun n h => part m c ⟨n, h⟩ (Value.loc2Of i)) ((i 0).val / 1024) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (6 * ((i 0).val / 1024) + s.val) / 6 * 1024 + (i 0).val % 1024; omega)
      (by show (i 1).val = (i 1).val % 2048; omega)

end Cert.Ff2WIdeal.Prod

namespace Cert.Ff2WRefIdeal.Prod

open Cert.Ff2WRefIdeal Cert.Ff2WRefIdeal.Gen Idealize.ShloMosaic Idealize.ShloMosaic.TcCoe Idealize.SL.Sem

/-- The reference's result: the same sum. -/
theorem result (x0 : S8448x8192.Idx → EReal) (x1 : S8448x2048.Idx → EReal) (i : S8192x2048.Idx) :
    Read.val_main_v5 (F := Ideal) x0 x1 i = ∑ κ : Fin 8448, x0 (ix2 κ (i 0)) * x1 (ix2 κ (i 1)) := by
  rw [Read.val_main_v5_apply, Read.val_main_v4_apply]
  refine Finset.sum_congr rfl fun κ _ => ?_
  rw [mul_comm]
  refine congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.Ff2WRefIdeal.Prod

namespace Cert

open Idealize.ShloMosaic Idealize.ShloMosaic.TcCoe Idealize.SL.Sem

theorem algebraic_ff2_w : Cert.algebraic_Ff2WIdeal_Ff2WRefIdeal := by
  intro m g m' g' _ hm
  refine ⟨fun c => Cert.Ff2WIdeal.Value.G2 m c, Cert.Ff2WIdeal.Value.run m g, ?_⟩
  refine (θ_run Cert.Ff2WRefIdeal.defs _ _).mono (fun r h c => ⟨(h c).1.trans ?_, (h c).2⟩) (Cert.Ff2WRefIdeal.Value.run (F := Ideal) m' g')
  rw [(hm c).1, (hm c).2]
  funext i
  exact (Cert.Ff2WRefIdeal.Prod.result _ _ i).trans (Cert.Ff2WIdeal.Prod.result m c i).symm

end Cert

end
-- ==== Proof.Ff1B.lean ====
/- The gradient of the channel mixer's input: the product with the first weight, which lies in one block of columns per shard. -/
module

public import proofs.«01_k».proof.Proof.Tiles
public import proofs.«01_k».proof.Defs
public import proofs.«01_k».proof.Proof.Gen.Ff1BIdeal.Value
public import proofs.«01_k».proof.Proof.Gen.Ff1BRefIdeal.Run
public import proofs.«01_k».proof.Proof.Gen.Ff1BRefIdeal.Read
public import Idealize.ShloMosaic.Lib.Pointwise

@[expose] public section

set_option maxRecDepth 16384

noncomputable section

namespace Cert.Ff1BIdeal.Prod

open Cert.Ff1BIdeal Cert.Ff1BIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz3 : (![0, 0, 0] : Fin 3 → ℕ) = fun _ => 0 := by decide

theorem pay_apply (x0 : Vec Ideal S768x2048 .bf16) (x1 : Vec Ideal S1x1024x2048 .bf16) (j : S768x1024.Idx) :
    k0_pay1 x1 x0 j = ∑ k : Fin 2048, x0 (ix2 (j 0) k) * x1 (ix3 (0 : Fin 1) (j 1) k) := by
  unfold k0_pay1
  pointwise

variable (m : (ℓ : Loc nD τ sig) → Buf (Elt Ideal) ℓ)

/-- Where the whole weight's entry at row `r` and column `κ` lies in its layout of blocks. -/
def entry (r : Fin 2048) (κ : Fin 8192) : S4x2048x2048.Idx := ix3 (⟨κ.val / 2048, by omega⟩ : Fin 4) r (⟨κ.val % 2048, by omega⟩ : Fin 2048)

/-- The products of a row of the first array with a row of the weight, column by column. -/
def term (x0 : S8448x8192.Idx → EReal) (x1 : S4x2048x2048.Idx → EReal) (i : S8448x2048.Idx) (κ : Fin 8192) : EReal :=
  x0 (ix2 (i 0) κ) * x1 (entry (i 1) κ)

/-- The two operands, as arrays of extended reals. -/
abbrev arr0 (c : Dev nD) : S8448x8192.Idx → EReal := m ((c : Thread nD τ).loc main_arg0)
abbrev arr1 (c : Dev nD) : S4x2048x2048.Idx → EReal := m ((c : Thread nD τ).loc main_arg1)

theorem idx0 : ∀ t : Fin cfg0.N, win0_0.index t (0 : Fin 2) = t.val / 8 ∧ win0_0.index t (1 : Fin 2) = t.val % 4 :=
  (by decide +kernel : ∀ t : Fin grid0.N, _)

theorem idx1 : ∀ t : Fin cfg0.N, win0_1.index t (0 : Fin 3) = t.val % 4 ∧ win0_1.index t (1 : Fin 3) = t.val / 4 % 2 ∧ win0_1.index t (2 : Fin 3) = 0 :=
  (by decide +kernel : ∀ t : Fin grid0.N, _)

theorem blk0 (c : Dev nD) (t : Fin cfg0.N) (r : Fin 768) (k : Fin 2048) (ρ : Fin 8448) (κ : Fin 8192)
    (hr : ρ.val = t.val / 8 * 768 + r.val) (hk : κ.val = t.val % 4 * 2048 + k.val) :
    (iblk m c 0 t : Vec Ideal S768x2048 .bf16) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * r.val = ρ.val; rw [e0, hr]; omega
  | ⟨1, _⟩ => show win0_0.index t 1 * 2048 + 1 * k.val = κ.val; rw [e1, hk]; omega

theorem blk1 (c : Dev nD) (t : Fin cfg0.N) (r : Fin 1024) (k : Fin 2048) (ρ : Fin 2048) (κ : Fin 8192)
    (hr : ρ.val = t.val / 4 % 2 * 1024 + r.val) (hk : κ.val = t.val % 4 * 2048 + k.val) :
    (iblk m c 1 t : Vec Ideal S1x1024x2048 .bf16) (ix3 (0 : Fin 1) r k) = arr1 m c (entry ρ κ) := by
  obtain ⟨e0, e1, e2⟩ := idx1 t
  unfold iblk
  rw [View.read_apply]
  show V m c main_arg1 _ = m (c.tc.loc main_arg1) _
  unfold V
  congr 1
  have b2 : k.val < 2048 := k.isLt
  have b1 : r.val < 1024 := r.isLt
  funext a
  apply Fin.ext
  match a with
  | ⟨0, _⟩ => show win0_1.index t 0 * 1 + 1 * 0 = κ.val / 2048; rw [e0, hk]; omega
  | ⟨1, _⟩ => show win0_1.index t 1 * 1024 + 1 * r.val = ρ.val; rw [e1, hr]; omega
  | ⟨2, _⟩ => show win0_1.index t 2 * 2048 + 1 * k.val = κ.val % 2048; rw [e2, hk]; omega

/-- A point's part: the product of its two blocks. -/
def part (c : Dev nD) (t : Fin cfg0.N) : Vec Ideal S768x1024 .f32 := k0_pay1 (F := Ideal) (iblk m c 1 t) (iblk m c 0 t)

theorem part_apply (c : Dev nD) (t : Fin cfg0.N) (y : S768x1024.Idx) (i : S8448x2048.Idx) (s : ℕ) (hs : s < 4) (ht : t.val % 4 = s)
    (h0 : (i 0).val = t.val / 8 * 768 + (y 0).val) (h1 : (i 1).val = t.val / 4 % 2 * 1024 + (y 1).val) :
    (part m c t y : EReal) = ∑ k : Fin 2048, term (arr0 m c) (arr1 m c) i ⟨s * 2048 + k.val, Tiles.tile_lt (J := 4) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a run leaves its part in the scratch. -/
theorem scratch_A (c : Dev nD) (t : Fin cfg0.N) (h : t.val % 4 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S768x2048) hz, View.ld_unit_zero (S := S1x1024x2048) hz3, shapeCast_self]

/-- A point between adds its part to it. -/
theorem scratch_B (c : Dev nD) (n : ℕ) (hn : n + 1 < cfg0.N) (h : (n + 1) % 4 ≠ 0) (h5 : (n + 1) % 4 ≠ 4 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S768x2048) hz, View.ld_unit_zero (S := S1x1024x2048) hz3, View.ld_unit_zero (S := S768x1024) hz, shapeCast_self]
  rfl

/-- The last point of a run stores the scratch with its own part added. -/
theorem stored_C (c : Dev nD) (n : ℕ) (hn : n + 1 < cfg0.N) (h5 : (n + 1) % 4 = 4 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S768x1024) _ hz]
  unfold k0_pay3 part
  simp only [View.readAt_eq_ld, (hs0_0 _).read_unread, (hs0_1 _).read_unread, (Memref.isWhole_whole _).read_unread, View.ld_unit_zero (S := S768x2048) hz, View.ld_unit_zero (S := S1x1024x2048) hz3, View.ld_unit_zero (S := S768x1024) hz, shapeCast_self]
  rfl

/-- The kernel's result: at every element the whole sum. -/
theorem result (c : Dev nD) (i : S8448x2048.Idx) :
    (Value.G2 m c : S8448x2048.Idx → EReal) i = ∑ κ, term (arr0 m c) (arr1 m c) i κ := by
  have b0 : (i 0).val < 8448 := (i 0).isLt
  have b1 : (i 1).val < 2048 := (i 1).isLt
  have hN : cfg0.N = 88 := N_0
  have hp : Value.pt2Of i = 4 * (2 * ((i 0).val / 768) + (i 1).val / 1024) + (4 - 1) := by
    show 4 * (2 * ((i 0).val / 768 - 0) + 1 * ((i 1).val / 1024 - 0)) + 3 = _
    omega
  have hlt : Value.pt2Of i < cfg0.N := by omega
  unfold Value.G2
  rw [dif_pos hlt, ← Value.outsAt0_sweep m c _ hlt]
  refine Tiles.run_last_tiles (J := 4) (TK := 2048) (by decide) (by decide)
    (fun n h => (outsAt0 m c n h).2 (Value.loc2Of i)) (fun n h => (outsAt0 m c n h).1 (Value.loc2Of i))
    (fun n h => part m c ⟨n, h⟩ (Value.loc2Of i)) (2 * ((i 0).val / 768) + (i 1).val / 1024) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (4 * (2 * ((i 0).val / 768) + (i 1).val / 1024) + s.val) / 8 * 768 + (i 0).val % 768; omega)
      (by show (i 1).val = (4 * (2 * ((i 0).val / 768) + (i 1).val / 1024) + s.val) / 4 % 2 * 1024 + (i 1).val % 1024; omega)

end Cert.Ff1BIdeal.Prod

namespace Cert.Ff1BRefIdeal.Prod

open Cert.Ff1BRefIdeal Cert.Ff1BRefIdeal.Gen Idealize.ShloMosaic Idealize.ShloMosaic.TcCoe Idealize.SL.Sem

/-- The reference's result: the same sum. -/
theorem result (x0 : S8448x8192.Idx → EReal) (x1 : S4x2048x2048.Idx → EReal) (i : S8448x2048.Idx) :
    Read.val_main_v6 (F := Ideal) x0 x1 i = ∑ κ : Fin 8192, x0 (ix2 (i 0) κ) * x1 (Cert.Ff1BIdeal.Prod.entry (i 1) κ) := by
  rw [Read.val_main_v6_apply]
  refine Finset.sum_congr rfl fun κ _ => ?_
  rw [Read.val_main_v5_apply, Read.val_main_v2_apply, Read.val_main_v1_apply]
  have b1 : (i 1).val < 2048 := (i 1).isLt
  have b2 : κ.val < 8192 := κ.isLt
  refine congrArg₂ (· * ·) (congrArg x0 ?_) (congrArg x1 ?_)
  · funext a; match a with
    | ⟨0, _⟩ => rfl
    | ⟨1, _⟩ => rfl
  · funext a; match a with
    | ⟨0, _⟩ => apply Fin.ext; show ((((i 1).val * 8192 + κ.val) / 2048 % 4 : ℕ)) = κ.val / 2048; omega
    | ⟨1, _⟩ => apply Fin.ext; show ((((i 1).val * 8192 + κ.val) / 8192 : ℕ)) = (i 1).val; omega
    | ⟨2, _⟩ => apply Fin.ext; show ((((i 1).val * 8192 + κ.val) % 2048 : ℕ)) = κ.val % 2048; omega

end Cert.Ff1BRefIdeal.Prod

namespace Cert

open Idealize.ShloMosaic Idealize.ShloMosaic.TcCoe Idealize.SL.Sem

theorem algebraic_ff1_b : Cert.algebraic_Ff1BIdeal_Ff1BRefIdeal := by
  intro m g m' g' _ hm
  refine ⟨fun c => Cert.Ff1BIdeal.Value.G2 m c, Cert.Ff1BIdeal.Value.run m g, ?_⟩
  refine (θ_run Cert.Ff1BRefIdeal.defs _ _).mono (fun r h c => ⟨(h c).1.trans ?_, (h c).2⟩) (Cert.Ff1BRefIdeal.Value.run (F := Ideal) m' g')
  rw [(hm c).1, (hm c).2]
  funext i
  exact (Cert.Ff1BRefIdeal.Prod.result _ _ i).trans (Cert.Ff1BIdeal.Prod.result m c i).symm

end Cert

end
-- ==== Proof.Ff1W.lean ====
/- The weight gradient of the channel mixer's first product, left in one block of columns per shard. -/
module

public import proofs.«01_k».proof.Proof.Tiles
public import proofs.«01_k».proof.Defs
public import proofs.«01_k».proof.Proof.Gen.Ff1WIdeal.Value
public import proofs.«01_k».proof.Proof.Gen.Ff1WRefIdeal.Run
public import proofs.«01_k».proof.Proof.Gen.Ff1WRefIdeal.Read
public import Idealize.ShloMosaic.Lib.Pointwise

@[expose] public section

set_option maxRecDepth 16384

noncomputable section

namespace Cert.Ff1WIdeal.Prod

open Cert.Ff1WIdeal Cert.Ff1WIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz3 : (![0, 0, 0] : Fin 3 → ℕ) = fun _ => 0 := by decide

theorem pay_apply (x0 : Vec Ideal S1408x1024 .bf16) (x1 : Vec Ideal S1408x2048 .bf16) (j : S1024x2048.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The column of the whole weight that shard `i 0`'s column `i 2` is. -/
def col (i : S4x2048x2048.Idx) : Fin 8192 := ⟨(i 0).val * 2048 + (i 2).val, by
  have h0 : (i 0).val < 4 := (i 0).isLt
  have h2 : (i 2).val < 2048 := (i 2).isLt
  omega⟩

/-- The products of the two arrays' columns, row by row. -/
def term (x0 : S8448x2048.Idx → EReal) (x1 : S8448x8192.Idx → EReal) (i : S4x2048x2048.Idx) (κ : Fin 8448) : EReal :=
  x0 (ix2 κ (i 1)) * x1 (ix2 κ (col i))

/-- The two operands, as arrays of extended reals. -/
abbrev arr0 (c : Dev nD) : S8448x2048.Idx → EReal := m ((c : Thread nD τ).loc main_arg0)
abbrev arr1 (c : Dev nD) : S8448x8192.Idx → EReal := m ((c : Thread nD τ).loc main_arg1)

theorem idx0 : ∀ t : Fin cfg0.N, win0_0.index t (0 : Fin 2) = t.val % 6 ∧ win0_0.index t (1 : Fin 2) = t.val / 24 :=
  (by decide +kernel : ∀ t : Fin grid0.N, _)

theorem idx1 : ∀ t : Fin cfg0.N, win0_1.index t (0 : Fin 2) = t.val % 6 ∧ win0_1.index t (1 : Fin 2) = t.val / 6 % 4 :=
  (by decide +kernel : ∀ t : Fin grid0.N, _)

theorem blk0 (c : Dev nD) (t : Fin cfg0.N) (k : Fin 1408) (r : Fin 1024) (κ : Fin 8448) (ρ : Fin 2048)
    (hk : κ.val = t.val % 6 * 1408 + k.val) (hr : ρ.val = t.val / 24 * 1024 + r.val) :
    (iblk m c 0 t : Vec Ideal S1408x1024 .bf16) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 1024 + 1 * r.val = ρ.val; rw [e1, hr]; omega

theorem blk1 (c : Dev nD) (t : Fin cfg0.N) (k : Fin 1408) (r : Fin 2048) (κ : Fin 8448) (ρ : Fin 8192)
    (hk : κ.val = t.val % 6 * 1408 + k.val) (hr : ρ.val = t.val / 6 % 4 * 2048 + r.val) :
    (iblk m c 1 t : Vec Ideal S1408x2048 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 2048 + 1 * r.val = ρ.val; rw [e1, hr]; omega

/-- A point's part: the product of its two blocks. -/
def part (c : Dev nD) (t : Fin cfg0.N) : Vec Ideal S1024x2048 .f32 := k0_pay1 (F := Ideal) (iblk m c 1 t) (iblk m c 0 t)

theorem part_apply (c : Dev nD) (t : Fin cfg0.N) (y : S1024x2048.Idx) (i : S4x2048x2048.Idx) (s : ℕ) (hs : s < 6) (ht : t.val % 6 = s)
    (h0 : (i 1).val = t.val / 24 * 1024 + (y 0).val) (h1 : (col i).val = t.val / 6 % 4 * 2048 + (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (i 1) rfl h0) (blk1 m c t k (y 1) _ (col i) rfl h1)

/-- The first point of a run leaves its part in the scratch. -/
theorem scratch_A (c : Dev nD) (t : Fin cfg0.N) (h : t.val % 6 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x1024) hz, View.ld_unit_zero (S := S1408x2048) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x1024) hz, View.ld_unit_zero (S := S1408x2048) hz, View.ld_unit_zero (S := S1024x2048) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = k0_pay4 (F := Ideal) (addf (F := Ideal) (φ := .f32) (outsAt0 m c n (Nat.lt_of_succ_lt hn)).2 (part m c ⟨n + 1, hn⟩)) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz3, View.readCov_unit_zero (S := S1024x2048) _ hz]
  unfold k0_pay3 part
  simp only [View.readAt_eq_ld, (hs0_0 _).read_unread, (hs0_1 _).read_unread, (Memref.isWhole_whole _).read_unread, View.ld_unit_zero (S := S1408x1024) hz, View.ld_unit_zero (S := S1408x2048) hz, View.ld_unit_zero (S := S1024x2048) hz, shapeCast_self]
  rfl

/-- Where an element lies in the point's product. -/
def place (i : S4x2048x2048.Idx) : S1024x2048.Idx :=
  ix2 (⟨(i 1).val % 1024, Nat.mod_lt _ (by decide)⟩ : Fin 1024) (⟨(i 2).val % 2048, Nat.mod_lt _ (by decide)⟩ : Fin 2048)

/-- The stored block is the product with a leading axis of one. -/
theorem pay4_apply (v : Vec Ideal S1024x2048 .f32) (y : S1x1024x2048.Idx) (z : S1024x2048.Idx)
    (h0 : (z 0).val = (y 1).val) (h1 : (z 1).val = (y 2).val) : k0_pay4 v y = v z := by
  unfold k0_pay4
  have h : (y 0).val < 1 := (y 0).isLt
  exact shapeCast_apply v _ y z (by
    rewrite [Shape.rowMajor_val_two, Shape.rowMajor_val_three]
    show (z 0).val * 2048 + (z 1).val = ((y 0).val * 1024 + (y 1).val) * 2048 + (y 2).val
    omega)

/-- The kernel's result: at every element the whole sum. -/
theorem result (c : Dev nD) (i : S4x2048x2048.Idx) :
    (Value.G2 m c : S4x2048x2048.Idx → EReal) i = ∑ κ, term (arr0 m c) (arr1 m c) i κ := by
  have b0 : (i 0).val < 4 := (i 0).isLt
  have b1 : (i 1).val < 2048 := (i 1).isLt
  have b2 : (i 2).val < 2048 := (i 2).isLt
  have hN : cfg0.N = 48 := N_0
  have hp : Value.pt2Of i = 6 * ((i 0).val + 4 * ((i 1).val / 1024)) + (6 - 1) := by
    show 6 * (1 * ((i 0).val / 1 - 0) + 4 * ((i 1).val / 1024 - 0) + 8 * ((i 2).val / 2048 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (place i)) (fun n h => (outsAt0 m c n h).1 (Value.loc2Of i))
    (fun n h => part m c ⟨n, h⟩ (place i)) ((i 0).val + 4 * ((i 1).val / 1024)) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact (congrFun (stored_C m c n h h5) _).trans (pay4_apply _ _ (place i) rfl rfl)
  · intro s h
    have hs := s.isLt
    exact part_apply m c ⟨_, h⟩ (place i) i s.val s.isLt (by dsimp only; omega)
      (by show (i 1).val = (6 * ((i 0).val + 4 * ((i 1).val / 1024)) + s.val) / 24 * 1024 + (i 1).val % 1024; omega)
      (by show (i 0).val * 2048 + (i 2).val = (6 * ((i 0).val + 4 * ((i 1).val / 1024)) + s.val) / 6 % 4 * 2048 + (i 2).val % 2048; omega)

end Cert.Ff1WIdeal.Prod

namespace Cert.Ff1WRefIdeal.Prod

open Cert.Ff1WIdeal.Prod (col)
open Cert.Ff1WRefIdeal Cert.Ff1WRefIdeal.Gen Idealize.ShloMosaic Idealize.ShloMosaic.TcCoe Idealize.SL.Sem

/-- The reference's result: the same sum. -/
theorem result (x0 : S8448x2048.Idx → EReal) (x1 : S8448x8192.Idx → EReal) (i : S4x2048x2048.Idx) :
    Read.val_main_v9 (F := Ideal) x0 x1 i = ∑ κ : Fin 8448, x0 (ix2 κ (i 1)) * x1 (ix2 κ (col i)) := by
  rw [Read.val_main_v9_apply, Read.val_main_v8_apply, Read.val_main_v7_apply, Read.val_main_v6_apply]
  refine Finset.sum_congr rfl fun κ _ => ?_
  rw [mul_comm]
  have b0 : (i 0).val < 4 := (i 0).isLt
  have b1 : (i 1).val < 2048 := (i 1).isLt
  have b2 : (i 2).val < 2048 := (i 2).isLt
  refine congrArg₂ (· * ·) (congrArg x0 ?_) (congrArg x1 ?_)
  · funext a; match a with
    | ⟨0, _⟩ => rfl
    | ⟨1, _⟩ => apply Fin.ext; show ((((i 1).val * 4 + (i 0).val) * 2048 + (i 2).val) / 8192 : ℕ) = (i 1).val; omega
  · funext a; match a with
    | ⟨0, _⟩ => rfl
    | ⟨1, _⟩ => apply Fin.ext; show ((((i 1).val * 4 + (i 0).val) * 2048 + (i 2).val) % 8192 : ℕ) = (i 0).val * 2048 + (i 2).val; omega

end Cert.Ff1WRefIdeal.Prod

namespace Cert

open Idealize.ShloMosaic Idealize.ShloMosaic.TcCoe Idealize.SL.Sem

theorem algebraic_ff1_w : Cert.algebraic_Ff1WIdeal_Ff1WRefIdeal := by
  intro m g m' g' _ hm
  refine ⟨fun c => Cert.Ff1WIdeal.Value.G2 m c, Cert.Ff1WIdeal.Value.run m g, ?_⟩
  refine (θ_run Cert.Ff1WRefIdeal.defs _ _).mono (fun r h c => ⟨(h c).1.trans ?_, (h c).2⟩) (Cert.Ff1WRefIdeal.Value.run (F := Ideal) m' g')
  rw [(hm c).1, (hm c).2]
  funext i
  exact (Cert.Ff1WRefIdeal.Prod.result _ _ i).trans (Cert.Ff1WIdeal.Prod.result m c i).symm

end Cert

end
-- ==== Proof.GateW.lean ====
/- The weight gradient of the gates' product, left in one block of rows per shard and one block of columns per branch. -/
module

public import proofs.«01_k».proof.Proof.Tiles
public import proofs.«01_k».proof.Defs
public import proofs.«01_k».proof.Proof.Gen.GateWIdeal.Value
public import proofs.«01_k».proof.Proof.Gen.GateWRefIdeal.Run
public import proofs.«01_k».proof.Proof.Gen.GateWRefIdeal.Read
public import Idealize.ShloMosaic.Lib.Pointwise

@[expose] public section

set_option maxRecDepth 16384

noncomputable section

namespace Cert.GateWIdeal.Prod

open Cert.GateWIdeal Cert.GateWIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz4 : (![0, 0, 0, 0] : Fin 4 → ℕ) = fun _ => 0 := by decide

theorem pay_apply (x0 : Vec Ideal S1408x512 .bf16) (x1 : Vec Ideal S1408x2048 .bf16) (j : S512x2048.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The column of the whole weight that branch `i 1`'s column `i 3` is. -/
def col (i : S4x4x512x2048.Idx) : Fin 8192 := ⟨(i 1).val * 2048 + (i 3).val, by
  have h0 : (i 1).val < 4 := (i 1).isLt
  have h2 : (i 3).val < 2048 := (i 3).isLt
  omega⟩

/-- The row of the whole weight that shard `i 0`'s row `i 2` is. -/
def row (i : S4x4x512x2048.Idx) : Fin 2048 := ⟨(i 0).val * 512 + (i 2).val, by
  have h0 : (i 0).val < 4 := (i 0).isLt
  have h2 : (i 2).val < 512 := (i 2).isLt
  omega⟩

/-- The products of the two arrays' columns, row by row. -/
def term (x0 : S8448x2048.Idx → EReal) (x1 : S8448x8192.Idx → EReal) (i : S4x4x512x2048.Idx) (κ : Fin 8448) : EReal :=
  x0 (ix2 κ (row i)) * x1 (ix2 κ (col i))

/-- The two operands, as arrays of extended reals. -/
abbrev arr0 (c : Dev nD) : S8448x2048.Idx → EReal := m ((c : Thread nD τ).loc main_arg0)
abbrev arr1 (c : Dev nD) : S8448x8192.Idx → EReal := m ((c : Thread nD τ).loc main_arg1)

theorem idx0 : ∀ t : Fin cfg0.N, win0_0.index t (0 : Fin 2) = t.val % 6 ∧ win0_0.index t (1 : Fin 2) = t.val / 24 :=
  (by decide +kernel : ∀ t : Fin grid0.N, _)

theorem idx1 : ∀ t : Fin cfg0.N, win0_1.index t (0 : Fin 2) = t.val % 6 ∧ win0_1.index t (1 : Fin 2) = t.val / 6 % 4 :=
  (by decide +kernel : ∀ t : Fin grid0.N, _)

theorem blk0 (c : Dev nD) (t : Fin cfg0.N) (k : Fin 1408) (r : Fin 512) (κ : Fin 8448) (ρ : Fin 2048)
    (hk : κ.val = t.val % 6 * 1408 + k.val) (hr : ρ.val = t.val / 24 * 512 + r.val) :
    (iblk m c 0 t : Vec Ideal S1408x512 .bf16) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 512 + 1 * r.val = ρ.val; rw [e1, hr]; omega

theorem blk1 (c : Dev nD) (t : Fin cfg0.N) (k : Fin 1408) (r : Fin 2048) (κ : Fin 8448) (ρ : Fin 8192)
    (hk : κ.val = t.val % 6 * 1408 + k.val) (hr : ρ.val = t.val / 6 % 4 * 2048 + r.val) :
    (iblk m c 1 t : Vec Ideal S1408x2048 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 2048 + 1 * r.val = ρ.val; rw [e1, hr]; omega

/-- A point's part: the product of its two blocks. -/
def part (c : Dev nD) (t : Fin cfg0.N) : Vec Ideal S512x2048 .f32 := k0_pay1 (F := Ideal) (iblk m c 1 t) (iblk m c 0 t)

theorem part_apply (c : Dev nD) (t : Fin cfg0.N) (y : S512x2048.Idx) (i : S4x4x512x2048.Idx) (s : ℕ) (hs : s < 6) (ht : t.val % 6 = s)
    (h0 : (row i).val = t.val / 24 * 512 + (y 0).val) (h1 : (col i).val = t.val / 6 % 4 * 2048 + (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (row i) rfl h0) (blk1 m c t k (y 1) _ (col i) rfl h1)

/-- The first point of a run leaves its part in the scratch. -/
theorem scratch_A (c : Dev nD) (t : Fin cfg0.N) (h : t.val % 6 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x512) hz, View.ld_unit_zero (S := S1408x2048) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x512) hz, View.ld_unit_zero (S := S1408x2048) hz, View.ld_unit_zero (S := S512x2048) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = k0_pay4 (F := Ideal) (addf (F := Ideal) (φ := .f32) (outsAt0 m c n (Nat.lt_of_succ_lt hn)).2 (part m c ⟨n + 1, hn⟩)) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz4, View.readCov_unit_zero (S := S512x2048) _ hz]
  unfold k0_pay3 part
  simp only [View.readAt_eq_ld, (hs0_0 _).read_unread, (hs0_1 _).read_unread, (Memref.isWhole_whole _).read_unread, View.ld_unit_zero (S := S1408x512) hz, View.ld_unit_zero (S := S1408x2048) hz, View.ld_unit_zero (S := S512x2048) hz, shapeCast_self]
  rfl

/-- Where an element lies in the point's product. -/
def place (i : S4x4x512x2048.Idx) : S512x2048.Idx :=
  ix2 (⟨(i 2).val % 512, Nat.mod_lt _ (by decide)⟩ : Fin 512) (⟨(i 3).val % 2048, Nat.mod_lt _ (by decide)⟩ : Fin 2048)

/-- The stored block is the product with a leading axis of one. -/
theorem pay4_apply (v : Vec Ideal S512x2048 .f32) (y : S1x1x512x2048.Idx) (z : S512x2048.Idx)
    (h0 : (z 0).val = (y 2).val) (h1 : (z 1).val = (y 3).val) : k0_pay4 v y = v z := by
  unfold k0_pay4
  have h : (y 0).val < 1 := (y 0).isLt
  have h' : (y 1).val < 1 := (y 1).isLt
  exact shapeCast_apply v _ y z (by
    rewrite [Shape.rowMajor_val_two, Shape.rowMajor_val_four]
    show (z 0).val * 2048 + (z 1).val = (((y 0).val * 1 + (y 1).val) * 512 + (y 2).val) * 2048 + (y 3).val
    omega)

/-- The kernel's result: at every element the whole sum. -/
theorem result (c : Dev nD) (i : S4x4x512x2048.Idx) :
    (Value.G2 m c : S4x4x512x2048.Idx → EReal) i = ∑ κ, term (arr0 m c) (arr1 m c) i κ := by
  have b0 : (i 0).val < 4 := (i 0).isLt
  have b1 : (i 1).val < 4 := (i 1).isLt
  have b2 : (i 2).val < 512 := (i 2).isLt
  have b3 : (i 3).val < 2048 := (i 3).isLt
  have hN : cfg0.N = 96 := N_0
  have hp : Value.pt2Of i = 6 * (4 * (i 0).val + (i 1).val) + (6 - 1) := by
    show 6 * (4 * ((i 0).val / 1 - 0) + 1 * ((i 1).val / 1 - 0) + 1 * ((i 2).val / 512 - 0) + 1 * ((i 3).val / 2048 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (place i)) (fun n h => (outsAt0 m c n h).1 (Value.loc2Of i))
    (fun n h => part m c ⟨n, h⟩ (place i)) (4 * (i 0).val + (i 1).val) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact (congrFun (stored_C m c n h h5) _).trans (pay4_apply _ _ (place i) rfl rfl)
  · intro s h
    have hs := s.isLt
    exact part_apply m c ⟨_, h⟩ (place i) i s.val s.isLt (by dsimp only; omega)
      (by show (i 0).val * 512 + (i 2).val = (6 * (4 * (i 0).val + (i 1).val) + s.val) / 24 * 512 + (i 2).val % 512; omega)
      (by show (i 1).val * 2048 + (i 3).val = (6 * (4 * (i 0).val + (i 1).val) + s.val) / 6 % 4 * 2048 + (i 3).val % 2048; omega)

end Cert.GateWIdeal.Prod

namespace Cert.GateWRefIdeal.Prod

open Cert.GateWIdeal.Prod (col row)
open Cert.GateWRefIdeal Cert.GateWRefIdeal.Gen Idealize.ShloMosaic Idealize.ShloMosaic.TcCoe Idealize.SL.Sem

/-- The reference's result: the same sum. -/
theorem result (x0 : S8448x2048.Idx → EReal) (x1 : S8448x8192.Idx → EReal) (i : S4x4x512x2048.Idx) :
    Read.val_main_v9 (F := Ideal) x0 x1 i = ∑ κ : Fin 8448, x0 (ix2 κ (row i)) * x1 (ix2 κ (col i)) := by
  rw [Read.val_main_v9_apply, Read.val_main_v8_apply, Read.val_main_v7_apply, Read.val_main_v6_apply]
  refine Finset.sum_congr rfl fun κ _ => ?_
  rw [mul_comm]
  have b0 : (i 0).val < 4 := (i 0).isLt
  have b1 : (i 1).val < 4 := (i 1).isLt
  have b2 : (i 2).val < 512 := (i 2).isLt
  have b3 : (i 3).val < 2048 := (i 3).isLt
  refine congrArg₂ (· * ·) (congrArg x0 ?_) (congrArg x1 ?_)
  · funext a; match a with
    | ⟨0, _⟩ => rfl
    | ⟨1, _⟩ => apply Fin.ext; show (((((i 0).val * 512 + (i 2).val) * 4 + (i 1).val) * 2048 + (i 3).val) / 8192 : ℕ) = (i 0).val * 512 + (i 2).val; omega
  · funext a; match a with
    | ⟨0, _⟩ => rfl
    | ⟨1, _⟩ => apply Fin.ext; show (((((i 0).val * 512 + (i 2).val) * 4 + (i 1).val) * 2048 + (i 3).val) % 8192 : ℕ) = (i 1).val * 2048 + (i 3).val; omega

end Cert.GateWRefIdeal.Prod

namespace Cert

open Idealize.ShloMosaic Idealize.ShloMosaic.TcCoe Idealize.SL.Sem

theorem algebraic_gate_w : Cert.algebraic_GateWIdeal_GateWRefIdeal := by
  intro m g m' g' _ hm
  refine ⟨fun c => Cert.GateWIdeal.Value.G2 m c, Cert.GateWIdeal.Value.run m g, ?_⟩
  refine (θ_run Cert.GateWRefIdeal.defs _ _).mono (fun r h c => ⟨(h c).1.trans ?_, (h c).2⟩) (Cert.GateWRefIdeal.Value.run (F := Ideal) m' g')
  rw [(hm c).1, (hm c).2]
  funext i
  exact (Cert.GateWRefIdeal.Prod.result _ _ i).trans (Cert.GateWIdeal.Prod.result m c i).symm

end Cert

end
-- ==== Proof.GateB.lean ====
/- The gradient of the gates' input: the product with the gates' weight, which lies in one block of rows per shard and one block of columns per branch. -/
module

public import proofs.«01_k».proof.Proof.Tiles
public import proofs.«01_k».proof.Defs
public import proofs.«01_k».proof.Proof.Gen.GateBIdeal.Value
public import proofs.«01_k».proof.Proof.Gen.GateBRefIdeal.Run
public import proofs.«01_k».proof.Proof.Gen.GateBRefIdeal.Read
public import Idealize.ShloMosaic.Lib.Pointwise

@[expose] public section

set_option maxRecDepth 16384

noncomputable section

namespace Cert.GateBIdeal.Prod

open Cert.GateBIdeal Cert.GateBIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz4 : (![0, 0, 0, 0] : Fin 4 → ℕ) = fun _ => 0 := by decide

theorem pay_apply (x0 : Vec Ideal S768x2048 .bf16) (x1 : Vec Ideal S2x1x512x2048 .bf16) (j : S768x1024.Idx) :
    k0_pay1 x1 x0 j = ∑ k : Fin 2048, x0 (ix2 (j 0) k) * x1 (ix4 (⟨(j 1).val / 512, by have h : (j 1).val < 1024 := (j 1).isLt; omega⟩ : Fin 2) (0 : Fin 1) (⟨(j 1).val % 512, by omega⟩ : Fin 512) k) := by
  unfold k0_pay1
  pointwise

variable (m : (ℓ : Loc nD τ sig) → Buf (Elt Ideal) ℓ)

/-- Where the whole weight's entry at row `r` and column `κ` lies in its layout of blocks. -/
def entry (r : Fin 2048) (κ : Fin 8192) : S4x4x512x2048.Idx := ix4 (⟨r.val / 512, by omega⟩ : Fin 4) (⟨κ.val / 2048, by omega⟩ : Fin 4) (⟨r.val % 512, by omega⟩ : Fin 512) (⟨κ.val % 2048, by omega⟩ : Fin 2048)

/-- The products of a row of the first array with a row of the weight, column by column. -/
def term (x0 : S8448x8192.Idx → EReal) (x1 : S4x4x512x2048.Idx → EReal) (i : S8448x2048.Idx) (κ : Fin 8192) : EReal :=
  x0 (ix2 (i 0) κ) * x1 (entry (i 1) κ)

/-- The two operands, as arrays of extended reals. -/
abbrev arr0 (c : Dev nD) : S8448x8192.Idx → EReal := m ((c : Thread nD τ).loc main_arg0)
abbrev arr1 (c : Dev nD) : S4x4x512x2048.Idx → EReal := m ((c : Thread nD τ).loc main_arg1)

theorem idx0 : ∀ t : Fin cfg0.N, win0_0.index t (0 : Fin 2) = t.val / 8 ∧ win0_0.index t (1 : Fin 2) = t.val % 4 :=
  (by decide +kernel : ∀ t : Fin grid0.N, _)

theorem idx1 : ∀ t : Fin cfg0.N, win0_1.index t (0 : Fin 4) = t.val / 4 % 2 ∧ win0_1.index t (1 : Fin 4) = t.val % 4 ∧ win0_1.index t (2 : Fin 4) = 0 ∧ win0_1.index t (3 : Fin 4) = 0 :=
  (by decide +kernel : ∀ t : Fin grid0.N, _)

theorem blk0 (c : Dev nD) (t : Fin cfg0.N) (r : Fin 768) (k : Fin 2048) (ρ : Fin 8448) (κ : Fin 8192)
    (hr : ρ.val = t.val / 8 * 768 + r.val) (hk : κ.val = t.val % 4 * 2048 + k.val) :
    (iblk m c 0 t : Vec Ideal S768x2048 .bf16) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * r.val = ρ.val; rw [e0, hr]; omega
  | ⟨1, _⟩ => show win0_0.index t 1 * 2048 + 1 * k.val = κ.val; rw [e1, hk]; omega

theorem blk1 (c : Dev nD) (t : Fin cfg0.N) (r : Fin 1024) (k : Fin 2048) (ρ : Fin 2048) (κ : Fin 8192)
    (hr : ρ.val = t.val / 4 % 2 * 1024 + r.val) (hk : κ.val = t.val % 4 * 2048 + k.val) :
    (iblk m c 1 t : Vec Ideal S2x1x512x2048 .bf16) (ix4 (⟨r.val / 512, by omega⟩ : Fin 2) (0 : Fin 1) (⟨r.val % 512, by omega⟩ : Fin 512) k) = arr1 m c (entry ρ κ) := by
  obtain ⟨e0, e1, e2, e3⟩ := idx1 t
  unfold iblk
  rw [View.read_apply]
  show V m c main_arg1 _ = m (c.tc.loc main_arg1) _
  unfold V
  congr 1
  have b2 : k.val < 2048 := k.isLt
  have b1 : r.val < 1024 := r.isLt
  funext a
  apply Fin.ext
  match a with
  | ⟨0, _⟩ => show win0_1.index t 0 * 2 + 1 * (r.val / 512) = ρ.val / 512; rw [e0, hr]; omega
  | ⟨1, _⟩ => show win0_1.index t 1 * 1 + 1 * 0 = κ.val / 2048; rw [e1, hk]; omega
  | ⟨2, _⟩ => show win0_1.index t 2 * 512 + 1 * (r.val % 512) = ρ.val % 512; rw [e2, hr]; omega
  | ⟨3, _⟩ => show win0_1.index t 3 * 2048 + 1 * k.val = κ.val % 2048; rw [e3, hk]; omega

/-- A point's part: the product of its two blocks. -/
def part (c : Dev nD) (t : Fin cfg0.N) : Vec Ideal S768x1024 .f32 := k0_pay1 (F := Ideal) (iblk m c 1 t) (iblk m c 0 t)

theorem part_apply (c : Dev nD) (t : Fin cfg0.N) (y : S768x1024.Idx) (i : S8448x2048.Idx) (s : ℕ) (hs : s < 4) (ht : t.val % 4 = s)
    (h0 : (i 0).val = t.val / 8 * 768 + (y 0).val) (h1 : (i 1).val = t.val / 4 % 2 * 1024 + (y 1).val) :
    (part m c t y : EReal) = ∑ k : Fin 2048, term (arr0 m c) (arr1 m c) i ⟨s * 2048 + k.val, Tiles.tile_lt (J := 4) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a run leaves its part in the scratch. -/
theorem scratch_A (c : Dev nD) (t : Fin cfg0.N) (h : t.val % 4 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S768x2048) hz, View.ld_unit_zero (S := S2x1x512x2048) hz4, shapeCast_self]

/-- A point between adds its part to it. -/
theorem scratch_B (c : Dev nD) (n : ℕ) (hn : n + 1 < cfg0.N) (h : (n + 1) % 4 ≠ 0) (h5 : (n + 1) % 4 ≠ 4 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S768x2048) hz, View.ld_unit_zero (S := S2x1x512x2048) hz4, View.ld_unit_zero (S := S768x1024) hz, shapeCast_self]
  rfl

/-- The last point of a run stores the scratch with its own part added. -/
theorem stored_C (c : Dev nD) (n : ℕ) (hn : n + 1 < cfg0.N) (h5 : (n + 1) % 4 = 4 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S768x1024) _ hz]
  unfold k0_pay3 part
  simp only [View.readAt_eq_ld, (hs0_0 _).read_unread, (hs0_1 _).read_unread, (Memref.isWhole_whole _).read_unread, View.ld_unit_zero (S := S768x2048) hz, View.ld_unit_zero (S := S2x1x512x2048) hz4, View.ld_unit_zero (S := S768x1024) hz, shapeCast_self]
  rfl

/-- The kernel's result: at every element the whole sum. -/
theorem result (c : Dev nD) (i : S8448x2048.Idx) :
    (Value.G2 m c : S8448x2048.Idx → EReal) i = ∑ κ, term (arr0 m c) (arr1 m c) i κ := by
  have b0 : (i 0).val < 8448 := (i 0).isLt
  have b1 : (i 1).val < 2048 := (i 1).isLt
  have hN : cfg0.N = 88 := N_0
  have hp : Value.pt2Of i = 4 * (2 * ((i 0).val / 768) + (i 1).val / 1024) + (4 - 1) := by
    show 4 * (2 * ((i 0).val / 768 - 0) + 1 * ((i 1).val / 1024 - 0)) + 3 = _
    omega
  have hlt : Value.pt2Of i < cfg0.N := by omega
  unfold Value.G2
  rw [dif_pos hlt, ← Value.outsAt0_sweep m c _ hlt]
  refine Tiles.run_last_tiles (J := 4) (TK := 2048) (by decide) (by decide)
    (fun n h => (outsAt0 m c n h).2 (Value.loc2Of i)) (fun n h => (outsAt0 m c n h).1 (Value.loc2Of i))
    (fun n h => part m c ⟨n, h⟩ (Value.loc2Of i)) (2 * ((i 0).val / 768) + (i 1).val / 1024) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (4 * (2 * ((i 0).val / 768) + (i 1).val / 1024) + s.val) / 8 * 768 + (i 0).val % 768; omega)
      (by show (i 1).val = (4 * (2 * ((i 0).val / 768) + (i 1).val / 1024) + s.val) / 4 % 2 * 1024 + (i 1).val % 1024; omega)

end Cert.GateBIdeal.Prod

namespace Cert.GateBRefIdeal.Prod

open Cert.GateBRefIdeal Cert.GateBRefIdeal.Gen Idealize.ShloMosaic Idealize.ShloMosaic.TcCoe Idealize.SL.Sem

/-- The reference's result: the same sum. -/
theorem result (x0 : S8448x8192.Idx → EReal) (x1 : S4x4x512x2048.Idx → EReal) (i : S8448x2048.Idx) :
    Read.val_main_v6 (F := Ideal) x0 x1 i = ∑ κ : Fin 8192, x0 (ix2 (i 0) κ) * x1 (Cert.GateBIdeal.Prod.entry (i 1) κ) := by
  rw [Read.val_main_v6_apply]
  refine Finset.sum_congr rfl fun κ _ => ?_
  rw [Read.val_main_v5_apply, Read.val_main_v2_apply, Read.val_main_v1_apply]
  have b1 : (i 1).val < 2048 := (i 1).isLt
  have b2 : κ.val < 8192 := κ.isLt
  refine congrArg₂ (· * ·) (congrArg x0 ?_) (congrArg x1 ?_)
  · funext a; match a with
    | ⟨0, _⟩ => rfl
    | ⟨1, _⟩ => rfl
  · funext a; match a with
    | ⟨0, _⟩ => apply Fin.ext; show ((((i 1).val * 8192 + κ.val) / 4194304 : ℕ)) = (i 1).val / 512; omega
    | ⟨1, _⟩ => apply Fin.ext; show ((((i 1).val * 8192 + κ.val) / 2048 % 4 : ℕ)) = κ.val / 2048; omega
    | ⟨2, _⟩ => apply Fin.ext; show ((((i 1).val * 8192 + κ.val) / 8192 % 512 : ℕ)) = (i 1).val % 512; omega
    | ⟨3, _⟩ => apply Fin.ext; show ((((i 1).val * 8192 + κ.val) % 2048 : ℕ)) = κ.val % 2048; omega

end Cert.GateBRefIdeal.Prod

namespace Cert

open Idealize.ShloMosaic Idealize.ShloMosaic.TcCoe Idealize.SL.Sem

theorem algebraic_gate_b : Cert.algebraic_GateBIdeal_GateBRefIdeal := by
  intro m g m' g' _ hm
  refine ⟨fun c => Cert.GateBIdeal.Value.G2 m c, Cert.GateBIdeal.Value.run m g, ?_⟩
  refine (θ_run Cert.GateBRefIdeal.defs _ _).mono (fun r h c => ⟨(h c).1.trans ?_, (h c).2⟩) (Cert.GateBRefIdeal.Value.run (F := Ideal) m' g')
  rw [(hm c).1, (hm c).2]
  funext i
  exact (Cert.GateBRefIdeal.Prod.result _ _ i).trans (Cert.GateBIdeal.Prod.result m c i).symm

end Cert

end
-- ==== Proof.GmlpSpec.lean ====
/- The gradient of the gMLP chunk mixer as a function of one chunk of 128 rows. -/
module

public import proofs.«01_k».proof.Proof.Tiles
public import Idealize.ShloMosaic.Lib.Pointwise

@[expose] public section

noncomputable section

namespace Cert.Gmlp

open Idealize.ShloMosaic

/-! One element: the smooth activation `x * ½ (1 + tanh …)` and its derivative applied to a gradient. -/

/-- The hyperbolic tangent inside the activation. -/
def th (x : EReal) : EReal :=
  Ideal.tanh (Ideal.ofBits .f32 0x3F4C422A#32 * (x + Ideal.ofBits .f32 0x3D372713#32 * (x * (x * x))))

/-- The factor the activation multiplies its argument with. -/
def half (x : EReal) : EReal := Ideal.ofBits .f32 0x3F000000#32 * (1 + th x)

def act (x : EReal) : EReal := x * half x

/-- What the gradient gives back through the tangent. -/
def through (x ct : EReal) : EReal :=
  Ideal.ofBits .f32 0x3F4C422A#32 * (Ideal.ofBits .f32 0x3F000000#32 * (x * ct) * ((1 + th x) * (1 - th x)))

def dAct (x ct : EReal) : EReal :=
  ct * half x + through x ct + Ideal.ofBits .f32 0x3D372713#32 * through x ct * (Ideal.ofBits .f32 0x40400000#32 * (x * x))

/-! One row `z` of 1024 pre-activations: the left half is the gate's, the right half is normalised. -/

section Row

variable (z : Fin 1024 → EReal) (g b : Fin 512 → EReal)

def up (c : Fin 512) : EReal := act (z ⟨c.val, by omega⟩)

def value (c : Fin 512) : EReal := act (z ⟨512 + c.val, by omega⟩)

/-- The values with their mean taken off. -/
def centre (c : Fin 512) : EReal := value z c - Ideal.div (∑ x, value z x) (Ideal.ofBits .f32 0x44000000#32)

/-- The variance, kept off zero. -/
def spread : EReal := Ideal.div (∑ x, centre z x * centre z x) (Ideal.ofBits .f32 0x44000000#32) + Ideal.ofBits .f32 0x358637BD#32

def scale : EReal := Ideal.rsqrt (spread z)

def hat (c : Fin 512) : EReal := centre z c * scale z

def norm (c : Fin 512) : EReal := hat z c * g c + b c

/-- The variance's part of the gradient `w` of the normalised row. -/
def dSpread (w : Fin 512 → EReal) : EReal :=
  Ideal.div ((∑ x, centre z x * w x) * (Ideal.ofBits .f32 0xBF000000#32 * Ideal.div (scale z) (spread z))) (Ideal.ofBits .f32 0x44000000#32)

def dCentre (w : Fin 512 → EReal) (c : Fin 512) : EReal :=
  w c * scale z + centre z c * dSpread z w + dSpread z w * centre z c

def dValue (w : Fin 512 → EReal) (c : Fin 512) : EReal :=
  dCentre z w c + Ideal.div (∑ x, -dCentre z w x) (Ideal.ofBits .f32 0x44000000#32)

end Row

/-! One chunk: 128 rows `z` and the gradient `d` of what the mixer returns for them. -/

section Chunk

variable (z : Fin 128 → Fin 1024 → EReal) (g b : Fin 512 → EReal) (ws : (⟨3, ![4, 128, 128]⟩ : Shape).Idx → EReal)
  (bm : (⟨2, ![128, 512]⟩ : Shape).Idx → EReal) (d : Fin 128 → Fin 512 → EReal)

/-- The group of a channel. -/
def group (c : Fin 512) : Fin 4 := ⟨c.val / 128, by omega⟩

/-- The rows mixed within each group of channels. -/
def mixed (p : Fin 128) (c : Fin 512) : EReal := ∑ q, ws (ix3 (group c) p q) * norm (z q) g b c + bm (ix2 p c)

def dMixed (p : Fin 128) (c : Fin 512) : EReal := up (z p) c * d p c

/-- The gradient of the normalised rows. -/
def dNorm (p : Fin 128) (c : Fin 512) : EReal := ∑ q, ws (ix3 (group c) q p) * dMixed z d q c

/-- The gradient of the activated rows. -/
def dHalves (p : Fin 128) (j : Fin 1024) : EReal :=
  if h : j.val < 512 then d p ⟨j.val, h⟩ * mixed z g b ws bm p ⟨j.val, h⟩
  else dValue (z p) (fun c => dNorm z ws d p c * g c) ⟨j.val - 512, by omega⟩

def dRows (p : Fin 128) (j : Fin 1024) : EReal := dAct (z p j) (dHalves z g b ws bm d p j)

/-- The chunk's part of the gradient of the mixing weights. -/
def dWeights (k : Fin 4) (p q : Fin 128) : EReal :=
  ∑ x : Fin 128, dMixed z d p ⟨128 * k.val + x.val, by omega⟩ * norm (z q) g b ⟨128 * k.val + x.val, by omega⟩

end Chunk

/-- Chunk `k` of an array of `n` chunks. -/
def chunk {n N w : ℕ} (hN : n * 128 = N) (X : (⟨2, ![N, w]⟩ : Shape).Idx → EReal) (k : Fin n) (p : Fin 128) (j : Fin w) : EReal :=
  X (ix2 ⟨k.val * 128 + p.val, Tiles.tile_lt hN k.isLt p.isLt⟩ j)

/-- A vector stored as one row. -/
def vec (X : (⟨2, ![1, 512]⟩ : Shape).Idx → EReal) (c : Fin 512) : EReal := X (ix2 0 c)

/-! A row put together out of the four groups' pieces. -/

theorem group_eq {c : Fin 512} (k : Fin 4) (h : c.val / 128 = k.val) : group c = k := Fin.ext h

/-- The pieces side by side. -/
theorem joined (f : Fin 4 → Fin 512 → EReal) (c : Fin 512) :
    (if h : c.val < 128 then f 0 c else
      if h : c.val - 128 < 128 then f 1 ⟨128 + (c.val - 128), by omega⟩ else
        if h : c.val - 128 - 128 < 128 then f 2 ⟨256 + (c.val - 128 - 128), by omega⟩ else f 3 ⟨384 + (c.val - 128 - 128 - 128), by omega⟩)
      = f (group c) c := by
  by_cases h1 : c.val < 128
  · rw [dif_pos h1, group_eq 0 (by show c.val / 128 = 0; omega)]
  · rw [dif_neg h1]
    by_cases h2 : c.val - 128 < 128
    · rw [dif_pos h2, group_eq (c := c) 1 (by show c.val / 128 = 1; omega)]
      exact congrArg (f 1) (Fin.ext (by show 128 + (c.val - 128) = c.val; omega))
    · rw [dif_neg h2]
      by_cases h3 : c.val - 128 - 128 < 128
      · rw [dif_pos h3, group_eq (c := c) 2 (by show c.val / 128 = 2; omega)]
        exact congrArg (f 2) (Fin.ext (by show 256 + (c.val - 128 - 128) = c.val; omega))
      · rw [dif_neg h3, group_eq (c := c) 3 (by show c.val / 128 = 3; omega)]
        exact congrArg (f 3) (Fin.ext (by show 384 + (c.val - 128 - 128 - 128) = c.val; omega))

/-- The pieces each padded with zeros and added. -/
theorem padded (f : Fin 4 → Fin 512 → EReal) (c : Fin 512) :
    ((((if h : c.val < 384 then 0 else f 3 ⟨384 + (c.val - 384), by omega⟩)
      + (if h : c.val < 384 then if h : c.val < 256 then 0 else f 2 ⟨256 + (c.val - 256), by omega⟩ else 0))
      + (if h : c.val < 256 then if h : c.val < 128 then 0 else f 1 ⟨128 + (c.val - 128), by omega⟩ else 0))
      + (if h : c.val < 128 then f 0 ⟨c.val, c.isLt⟩ else 0)) = f (group c) c := by
  by_cases h1 : c.val < 128
  · simp only [dif_pos h1, dif_pos (show c.val < 256 by omega), dif_pos (show c.val < 384 by omega), zero_add]
    rw [group_eq 0 (by show c.val / 128 = 0; omega)]
  · by_cases h2 : c.val < 256
    · simp only [dif_neg h1, dif_pos h2, dif_pos (show c.val < 384 by omega), zero_add, add_zero]
      rw [group_eq (c := c) 1 (by show c.val / 128 = 1; omega)]
      exact congrArg (f 1) (Fin.ext (by show 128 + (c.val - 128) = c.val; omega))
    · by_cases h3 : c.val < 384
      · simp only [dif_neg h1, dif_neg h2, dif_pos h3, zero_add, add_zero]
        rw [group_eq (c := c) 2 (by show c.val / 128 = 2; omega)]
        exact congrArg (f 2) (Fin.ext (by show 256 + (c.val - 256) = c.val; omega))
      · simp only [dif_neg h1, dif_neg h2, dif_neg h3, add_zero]
        rw [group_eq (c := c) 3 (by show c.val / 128 = 3; omega)]
        exact congrArg (f 3) (Fin.ext (by show 384 + (c.val - 384) = c.val; omega))

/-- The same for the four groups' matrices, stacked and added to `r`. -/
theorem stacked (f : Fin 4 → EReal) (r : EReal) (k : Fin 4) :
    ((((r + if h : k.val < 3 then 0 else f 3) + (if h : k.val < 3 then if h : k.val < 2 then 0 else f 2 else 0))
      + (if h : k.val < 2 then if h : k.val < 1 then 0 else f 1 else 0)) + (if h : k.val < 1 then f 0 else 0)) = r + f k := by
  match k with
  | ⟨0, _⟩ => simp
  | ⟨1, _⟩ => simp
  | ⟨2, _⟩ => simp
  | ⟨3, _⟩ => simp

theorem stacked' (f : Fin 4 → EReal) (k : Fin 4) :
    ((((if h : k.val < 3 then 0 else f 3) + (if h : k.val < 3 then if h : k.val < 2 then 0 else f 2 else 0))
      + (if h : k.val < 2 then if h : k.val < 1 then 0 else f 1 else 0)) + (if h : k.val < 1 then f 0 else 0)) = f k := by
  have h := stacked f 0 k
  rwa [zero_add, zero_add] at h

/-! The five results as functions of the six arrays: the rows' pre-activations `x`, the layer norm's gain and shift, the
    mixing weights, their bias and the gradient `d` of the mixer's output. -/

section Results

variable (x : (⟨2, ![8448, 1024]⟩ : Shape).Idx → EReal) (g b : (⟨2, ![1, 512]⟩ : Shape).Idx → EReal)
  (ws : (⟨3, ![4, 128, 128]⟩ : Shape).Idx → EReal) (bm : (⟨2, ![128, 512]⟩ : Shape).Idx → EReal) (d : (⟨2, ![8448, 512]⟩ : Shape).Idx → EReal)

/-- The chunks of an array of 8448 rows. -/
abbrev rows {w : ℕ} (X : (⟨2, ![8448, w]⟩ : Shape).Idx → EReal) : Fin 66 → Fin 128 → Fin w → EReal := chunk (n := 66) (by decide) X

/-- The chunk of a row, and the row within it. -/
def chunkOf (r : Fin 8448) : Fin 66 := ⟨r.val / 128, by omega⟩
def within (r : Fin 8448) : Fin 128 := ⟨r.val % 128, by omega⟩

def gRows (r : Fin 8448) (j : Fin 1024) : EReal :=
  dRows (rows x (chunkOf r)) (vec g) (vec b) ws bm (rows d (chunkOf r)) (within r) j

def gGain (c : Fin 512) : EReal := ∑ k, ∑ p, hat (rows x k p) c * dNorm (rows x k) ws (rows d k) p c

def gShift (c : Fin 512) : EReal := ∑ k, ∑ p, dNorm (rows x k) ws (rows d k) p c

def gWeights (k : Fin 4) (p q : Fin 128) : EReal := ∑ n, dWeights (rows x n) (vec g) (vec b) (rows d n) k p q

def gBias (p : Fin 128) (c : Fin 512) : EReal := ∑ n, dMixed (rows x n) (rows d n) p c

end Results

end Cert.Gmlp

end
-- ==== Proof.GmlpB.lean ====
/- The gradient of the gMLP chunk mixer: what one tile of two chunks computes. -/
module

public import proofs.«01_k».proof.Proof.GmlpSpec
public import proofs.«01_k».proof.Defs
public import proofs.«01_k».proof.Proof.Gen.GmlpBIdeal.Value
public import Idealize.ShloMosaic.Lib.Pointwise
public import Idealize.ShloMosaic.Lib.Pipeline.ValueKit

@[expose] public section

set_option maxRecDepth 16384

noncomputable section

namespace Cert.GmlpBIdeal.Prod

open Cert.GmlpBIdeal Cert.GmlpBIdeal.Gen Idealize.ShloMosaic Idealize.ShloMosaic.TcCoe Idealize.SL.Sem
open Cert.Gmlp

variable (z : Vec Ideal S256x1024 .f32) (g b : Vec Ideal S1x512 .f32) (ws : Vec Ideal S4x128x128 .f32) (bm : Vec Ideal S128x512 .f32)
  (d : Vec Ideal S256x512 .f32)

/-- A row of the tile. -/
def rw' (r : Fin 256) (j : Fin 1024) : EReal := z (ix2 r j)

theorem pay_act (r : Fin 256) (j : Fin 1024) : k0_pay6 (F := Ideal) z (ix2 r j) = act (z (ix2 r j)) := by
  unfold k0_pay6 k0_pay5 k0_pay3 act half th
  pointwise

theorem pay_up (r : Fin 256) (c : Fin 512) : k0_pay7 (F := Ideal) z (ix2 r c) = up (rw' z r) c := by
  unfold k0_pay7
  pointwise
  exact pay_act z r _

theorem pay_centre (r : Fin 256) (c : Fin 512) : k0_pay8 (F := Ideal) z (ix2 r c) = centre (rw' z r) c := by
  unfold k0_pay8
  pointwise
  exact congrArg₂ (· - ·) (pay_act z r _) (congrArg₂ Ideal.div (Finset.sum_congr rfl fun x _ => pay_act z r _) rfl)

theorem pay_spread (r : Fin 256) : k0_pay10 (F := Ideal) (k0_pay9 z) (ix2 r 0) = spread (rw' z r) := by
  unfold k0_pay10 k0_pay9
  pointwise
  simp only [pay_centre]
  rfl

theorem pay_scale (r : Fin 256) : k0_pay11 (F := Ideal) (k0_pay9 z) (ix2 r 0) = scale (rw' z r) := by
  unfold k0_pay11
  pointwise
  rw [pay_spread]
  rfl

theorem pay_coef (r : Fin 256) : k0_pay12 (F := Ideal) (k0_pay9 z) (ix2 r 0)
    = Ideal.ofBits .f32 0xBF000000#32 * Ideal.div (scale (rw' z r)) (spread (rw' z r)) := by
  unfold k0_pay12
  pointwise
  rw [pay_spread, pay_scale]

theorem pay_hat (r : Fin 256) (c : Fin 512) : k0_pay13 (F := Ideal) (k0_pay8 z) (k0_pay9 z) (ix2 r c) = hat (rw' z r) c := by
  unfold k0_pay13
  pointwise
  rw [pay_centre, pay_scale]
  rfl

theorem pay_norm (r : Fin 256) (c : Fin 512) :
    k0_pay14 (F := Ideal) g b (k0_pay8 z) (k0_pay9 z) (ix2 r c) = norm (rw' z r) (vec g) (vec b) c := by
  unfold k0_pay14
  pointwise
  rw [pay_hat]
  rfl

/-- The two chunks of a tile. -/
abbrev ch (X : (⟨2, ![256, 1024]⟩ : Shape).Idx → EReal) : Fin 2 → Fin 128 → Fin 1024 → EReal := chunk (n := 2) (by decide) X
abbrev cd (X : (⟨2, ![256, 512]⟩ : Shape).Idx → EReal) : Fin 2 → Fin 128 → Fin 512 → EReal := chunk (n := 2) (by decide) X

theorem pay_norm0 (q : Fin 128) (c : Fin 512) :
    k0_pay15 (F := Ideal) g b (k0_pay8 z) (k0_pay9 z) (ix2 q c) = norm (ch z 0 q) (vec g) (vec b) c := by
  unfold k0_pay15
  pointwise
  rw [pay_norm]
  exact congrArg (fun r => norm (rw' z r) (vec g) (vec b) c) (Fin.ext (by show q.val = 0 * 128 + q.val; omega))

theorem pay_norm1 (q : Fin 128) (c : Fin 512) :
    k0_pay25 (F := Ideal) g b (k0_pay8 z) (k0_pay9 z) (ix2 q c) = norm (ch z 1 q) (vec g) (vec b) c := by
  unfold k0_pay25
  pointwise
  rw [pay_norm]
  exact congrArg (fun r => norm (rw' z r) (vec g) (vec b) c) (Fin.ext (by show 128 + q.val = 1 * 128 + q.val; omega))

theorem pay_mixed0 (p : Fin 128) (c : Fin 512) :
    k0_pay24 (F := Ideal) g b ws bm (k0_pay8 z) (k0_pay9 z) (ix2 p c) = mixed (ch z 0) (vec g) (vec b) ws bm p c := by
  unfold k0_pay24 k0_pay17 k0_pay19 k0_pay21 k0_pay23 k0_pay16 k0_pay18 k0_pay20 k0_pay22
  pointwise
  simp only [pay_norm0]
  exact congrArg₂ (· + ·) (joined (fun k c' => ∑ x, ws (ix3 k p x) * norm (ch z 0 x) (vec g) (vec b) c') c) rfl

/-- The gradient of the gate's half, by chunk and row. -/
theorem pay_dUp (k : Fin 2) (p : Fin 128) (c : Fin 512) (r : Fin 256) (hr : r.val = k.val * 128 + p.val) :
    k0_pay36 (F := Ideal) ws bm d (k0_pay24 g b ws bm (k0_pay8 z) (k0_pay9 z)) (k0_pay25 g b (k0_pay8 z) (k0_pay9 z))
      (k0_pay28 g b ws (k0_pay8 z) (k0_pay9 z)) (k0_pay29 ws) (ix2 r c)
      = cd d k p c * mixed (ch z k) (vec g) (vec b) ws bm p c := by
  unfold k0_pay36 k0_pay30 k0_pay32 k0_pay34 k0_pay28 k0_pay27 k0_pay26 k0_pay29 k0_pay31 k0_pay33
  pointwise
  simp only [pay_norm1]
  refine congrArg₂ (· * ·) (congrArg d (congrArg (fun r => ix2 r c) (Fin.ext hr))) ?_
  match k, hr with
  | ⟨0, _⟩, hr =>
    have h0 : r.val = p.val := by simpa using hr
    refine (dif_pos (by omega)).trans ((pay_mixed0 z g b ws bm _ c).trans ?_)
    exact congrArg (fun q => mixed (ch z 0) (vec g) (vec b) ws bm q c) (Fin.ext h0)
  | ⟨1, _⟩, hr =>
    have h0 : r.val = 128 + p.val := by simpa using hr
    refine (dif_neg (by omega)).trans ?_
    have e : (⟨r.val - 128, by omega⟩ : Fin 128) = p := Fin.ext (by show r.val - 128 = p.val; omega)
    simp only [e]
    exact congrArg₂ (· + ·) (joined (fun k c' => ∑ x, ws (ix3 k p x) * norm (ch z 1 x) (vec g) (vec b) c') c) rfl

theorem pay_dMixed0 (q : Fin 128) (c : Fin 512) :
    k0_pay37 (F := Ideal) d (k0_pay7 z) (ix2 q c) = dMixed (ch z 0) (cd d 0) q c := by
  unfold k0_pay37 k0_pay35
  pointwise
  rw [pay_up]
  have e : (⟨0 * 128 + q.val, by omega⟩ : Fin 256) = ⟨q.val, by omega⟩ := Fin.ext (by show 0 * 128 + q.val = q.val; omega)
  unfold dMixed
  exact congrArg₂ (· * ·) (congrArg (fun r => up (rw' z r) c) e.symm) (congrArg (fun r => d (ix2 r c)) e.symm)

theorem pay_dMixed1 (q : Fin 128) (c : Fin 512) :
    k0_pay38 (F := Ideal) d (k0_pay7 z) (ix2 q c) = dMixed (ch z 1) (cd d 1) q c := by
  unfold k0_pay38 k0_pay35
  pointwise
  rw [pay_up]
  have e : (⟨1 * 128 + q.val, by omega⟩ : Fin 256) = ⟨128 + q.val, by omega⟩ := Fin.ext (by show 1 * 128 + q.val = 128 + q.val; omega)
  unfold dMixed
  exact congrArg₂ (· * ·) (congrArg (fun r => up (rw' z r) c) e.symm) (congrArg (fun r => d (ix2 r c)) e.symm)

/-- The second chunk's gradient of the normalised rows, below zeros for the first. -/
abbrev tileB : FVec Ideal S256x512 .f32 :=
  k0_pay47 (F := Ideal) (k0_pay26 ws) (k0_pay29 ws) (k0_pay39 d (k0_pay7 z)) (k0_pay40 d (k0_pay7 z)) (k0_pay44 ws d (k0_pay7 z))

/-- The first chunk's, but for its first group. -/
abbrev tileA : FVec Ideal S128x512 .f32 :=
  k0_pay55 (F := Ideal) (k0_pay18 ws) (k0_pay20 ws) (k0_pay50 (k0_pay37 d (k0_pay7 z))) (k0_pay51 (k0_pay37 d (k0_pay7 z)))
    (k0_pay54 (k0_pay22 ws) (k0_pay37 d (k0_pay7 z)))

/-- … and its first group. -/
abbrev tileA0 : FVec Ideal S128x128 .f32 := k0_pay58 (F := Ideal) (k0_pay16 ws) (k0_pay49 (k0_pay37 d (k0_pay7 z)))

/-- The gradient of the normalised rows, by chunk and row. -/
theorem pay_dNorm (k : Fin 2) (p : Fin 128) (c : Fin 512) (r : Fin 256) (hr : r.val = k.val * 128 + p.val) :
    k0_pay61 (F := Ideal) (tileB z ws d) (tileA z ws d) (tileA0 z ws d) (k0_pay59 (F := Ideal)) (ix2 r c)
      = dNorm (ch z k) ws (cd d k) p c := by
  unfold k0_pay61 tileA tileB tileA0 k0_pay58 k0_pay55 k0_pay54 k0_pay47 k0_pay44 k0_pay39 k0_pay40 k0_pay41 k0_pay42 k0_pay49 k0_pay50 k0_pay51
    k0_pay52 k0_pay16 k0_pay18 k0_pay20 k0_pay22 k0_pay26 k0_pay29 k0_pay31 k0_pay33 k0_pay59
  pointwise
  simp only [pay_dMixed0, pay_dMixed1]
  match k, hr with
  | ⟨0, _⟩, hr =>
    have h0 : r.val = p.val := by simpa using hr
    have e : (⟨r.val, by omega⟩ : Fin 128) = p := Fin.ext h0
    have hl : r.val < 128 := by omega
    simp only [dif_pos hl, zero_add, e]
    exact padded (fun k c' => ∑ x, ws (ix3 k x p) * dMixed (ch z 0) (cd d 0) x c') c
  | ⟨1, _⟩, hr =>
    have h0 : r.val = 128 + p.val := by simpa using hr
    have e : (⟨r.val - 128, by omega⟩ : Fin 128) = p := Fin.ext (by show r.val - 128 = p.val; omega)
    have hl : ¬r.val < 128 := by omega
    simp only [dif_neg hl, add_zero, e]
    exact padded (fun k c' => ∑ x, ws (ix3 k x p) * dMixed (ch z 1) (cd d 1) x c') c

/-- The second chunk's part of the gradient of the mixing weights. -/
abbrev weightsB : FVec Ideal S4x128x128 .f32 :=
  k0_pay46 (F := Ideal) (k0_pay27 g b (k0_pay8 z) (k0_pay9 z)) (k0_pay30 (k0_pay25 g b (k0_pay8 z) (k0_pay9 z))) (k0_pay39 d (k0_pay7 z))
    (k0_pay40 d (k0_pay7 z)) (k0_pay43 d (k0_pay7 z) (k0_pay25 g b (k0_pay8 z) (k0_pay9 z))) (k0_pay45 d (k0_pay7 z) (k0_pay25 g b (k0_pay8 z) (k0_pay9 z)))

theorem pay_weightsB (k : Fin 4) (p q : Fin 128) :
    weightsB z g b d (ix3 k p q) = dWeights (ch z 1) (vec g) (vec b) (cd d 1) k p q := by
  unfold weightsB k0_pay46 k0_pay27 k0_pay30 k0_pay39 k0_pay40 k0_pay43 k0_pay45 k0_pay41 k0_pay42 k0_pay32 k0_pay34
  pointwise
  simp only [pay_dMixed1, pay_norm1]
  exact stacked' (fun k => dWeights (ch z 1) (vec g) (vec b) (cd d 1) k p q) k

/-- A tile's part of it. -/
abbrev weights : FVec Ideal S4x128x128 .f32 :=
  k0_pay60 (F := Ideal) (k0_pay56 (k0_pay19 g b (k0_pay8 z) (k0_pay9 z)) (k0_pay21 g b (k0_pay8 z) (k0_pay9 z)) (weightsB z g b d)
    (k0_pay50 (k0_pay37 d (k0_pay7 z))) (k0_pay51 (k0_pay37 d (k0_pay7 z)))
    (k0_pay53 (k0_pay23 g b (k0_pay8 z) (k0_pay9 z)) (k0_pay37 d (k0_pay7 z))))
    (k0_pay57 (k0_pay17 g b (k0_pay8 z) (k0_pay9 z)) (k0_pay49 (k0_pay37 d (k0_pay7 z))))

theorem pay_weights (k : Fin 4) (p q : Fin 128) :
    weights z g b d (ix3 k p q) = ∑ h : Fin 2, dWeights (ch z h) (vec g) (vec b) (cd d h) k p q := by
  unfold weights k0_pay60 k0_pay56 k0_pay50 k0_pay51 k0_pay53 k0_pay57 k0_pay49 k0_pay52 k0_pay17 k0_pay19 k0_pay21 k0_pay23
  pointwise
  simp only [pay_dMixed0, pay_norm0, pay_weightsB]
  rw [Fin.sum_univ_two, add_comm (dWeights (ch z 0) _ _ _ _ _ _)]
  exact stacked (fun k => dWeights (ch z 0) (vec g) (vec b) (cd d 0) k p q) _ k

theorem pay_bias (p : Fin 128) (c : Fin 512) :
    k0_pay48 (F := Ideal) (k0_pay37 d (k0_pay7 z)) (k0_pay38 d (k0_pay7 z)) (ix2 p c) = ∑ h : Fin 2, dMixed (ch z h) (cd d h) p c := by
  unfold k0_pay48
  pointwise
  rw [pay_dMixed0, pay_dMixed1, Fin.sum_univ_two, add_comm]

/-- The gradient of the normalised rows over a tile. -/
abbrev tile : FVec Ideal S256x512 .f32 := k0_pay61 (F := Ideal) (tileB z ws d) (tileA z ws d) (tileA0 z ws d) (k0_pay59 (F := Ideal))

theorem pay_shift (i : S1x512.Idx) :
    k0_pay62 (F := Ideal) (tileB z ws d) (tileA z ws d) (tileA0 z ws d) (k0_pay59 (F := Ideal)) i
      = ∑ h : Fin 2, ∑ p, dNorm (ch z h) ws (cd d h) p (i 1) := by
  unfold k0_pay62
  pointwise
  refine (Tiles.sum_tiles (J := 2) (TK := 128) (K := 256) (by decide) (fun r => tile z ws d (ix2 r (i 1)))).symm.trans ?_
  exact Finset.sum_congr rfl fun h _ => Finset.sum_congr rfl fun p _ => pay_dNorm z ws d h p (i 1) _ rfl

theorem pay_gain (i : S1x512.Idx) :
    k0_pay63 (F := Ideal) (k0_pay13 (k0_pay8 z) (k0_pay9 z)) (tileB z ws d) (tileA z ws d) (tileA0 z ws d) (k0_pay59 (F := Ideal)) i
      = ∑ h : Fin 2, ∑ p, hat (ch z h p) (i 1) * dNorm (ch z h) ws (cd d h) p (i 1) := by
  unfold k0_pay63
  pointwise
  refine (Tiles.sum_tiles (J := 2) (TK := 128) (K := 256) (by decide)
    (fun r => k0_pay13 (F := Ideal) (k0_pay8 z) (k0_pay9 z) (ix2 r (i 1)) * tile z ws d (ix2 r (i 1)))).symm.trans ?_
  exact Finset.sum_congr rfl fun h _ => Finset.sum_congr rfl fun p _ =>
    congrArg₂ (· * ·) (pay_hat z _ (i 1)) (pay_dNorm z ws d h p (i 1) _ rfl)

/-- The gradient of the activated rows over a tile. -/
abbrev halves : FVec Ideal S256x1024 .f32 :=
  k0_pay64 (F := Ideal) g (k0_pay8 z) (k0_pay11 (k0_pay9 z)) (k0_pay12 (k0_pay9 z))
    (k0_pay36 (F := Ideal) ws bm d (k0_pay24 g b ws bm (k0_pay8 z) (k0_pay9 z)) (k0_pay25 g b (k0_pay8 z) (k0_pay9 z))
      (k0_pay28 g b ws (k0_pay8 z) (k0_pay9 z)) (k0_pay29 ws))
    (tileB z ws d) (tileA z ws d) (tileA0 z ws d) (k0_pay59 (F := Ideal))

theorem pay_halves (k : Fin 2) (p : Fin 128) (j : Fin 1024) (r : Fin 256) (hr : r.val = k.val * 128 + p.val) :
    halves z g b ws bm d (ix2 r j) = dHalves (ch z k) (vec g) (vec b) ws bm (cd d k) p j := by
  have hrow : rw' z r = ch z k p := funext fun j => congrArg z (congrArg (fun r => ix2 r j) (Fin.ext hr))
  unfold halves k0_pay64
  pointwise
  simp only [pay_dNorm z ws d k p _ r hr, pay_centre, pay_scale, pay_coef, hrow]
  unfold dHalves
  by_cases h : j.val < 512
  · simp only [dif_pos h, zero_add]
    exact pay_dUp z g b ws bm d k p _ r hr
  · simp only [dif_neg h, add_zero]
    simp only [Fin.sum_univ_one, Fin.isValue, pay_coef, hrow, zero_sub]
    rfl

theorem pay_rows (k : Fin 2) (p : Fin 128) (j : Fin 1024) (r : Fin 256) (hr : r.val = k.val * 128 + p.val) :
    k0_pay66 (F := Ideal) (k0_pay2 z) (k0_pay4 z) (k0_pay5 z) (halves z g b ws bm d)
      (k0_pay65 z g (k0_pay8 z) (k0_pay11 (k0_pay9 z)) (k0_pay12 (k0_pay9 z))
        (k0_pay36 (F := Ideal) ws bm d (k0_pay24 g b ws bm (k0_pay8 z) (k0_pay9 z)) (k0_pay25 g b (k0_pay8 z) (k0_pay9 z))
          (k0_pay28 g b ws (k0_pay8 z) (k0_pay9 z)) (k0_pay29 ws))
        (tileB z ws d) (tileA z ws d) (tileA0 z ws d) (k0_pay59 (F := Ideal))) (ix2 r j)
      = dRows (ch z k) (vec g) (vec b) ws bm (cd d k) p j := by
  have hz : ch z k p j = z (ix2 r j) := congrArg z (congrArg (fun r => ix2 r j) (Fin.ext hr.symm))
  have hh := pay_halves z g b ws bm d k p j r hr
  unfold k0_pay66 k0_pay65 k0_pay2 k0_pay4 k0_pay5 k0_pay3
  unfold halves at hh ⊢
  pointwise
  rw [hh]
  unfold dRows dAct through half th
  rw [hz]

variable (m : (ℓ : Loc nD τ sig) → Buf (Elt Ideal) ℓ)

/-- The chunk of the arrays that a tile's chunk is. -/
def piece (t : Fin cfg0.N) (h : Fin 2) : Fin 66 :=
  ⟨t.val * 2 + h.val, by have h : t.val < 33 := lt_of_lt_of_eq t.isLt N_0; omega⟩

/-- The operands, as arrays of extended reals. -/
abbrev arr0 (c : Dev nD) : S8448x1024.Idx → EReal := m ((c : Thread nD τ).loc main_arg0)
abbrev arr1 (c : Dev nD) : S1x512.Idx → EReal := m ((c : Thread nD τ).loc main_arg1)
abbrev arr2 (c : Dev nD) : S1x512.Idx → EReal := m ((c : Thread nD τ).loc main_arg2)
abbrev arr3 (c : Dev nD) : S4x128x128.Idx → EReal := m ((c : Thread nD τ).loc main_arg3)
abbrev arr4 (c : Dev nD) : S128x512.Idx → EReal := m ((c : Thread nD τ).loc main_arg4)
abbrev arr5 (c : Dev nD) : S8448x512.Idx → EReal := m ((c : Thread nD τ).loc main_arg5)

theorem idx0 : ∀ t : Fin cfg0.N, win0_0.index t (0 : Fin 2) = t.val ∧ win0_0.index t (1 : Fin 2) = 0 :=
  (by decide +kernel : ∀ t : Fin grid0.N, _)

theorem blk0 (c : Dev nD) (t : Fin cfg0.N) (h : Fin 2) :
    chunk (n := 2) (w := 1024) (by decide) (iblk m c 0 t : Vec Ideal S256x1024 .f32) h = rows (arr0 m c) (piece t h) := by
  obtain ⟨e0, e1⟩ := idx0 t
  funext p j
  unfold rows chunk iblk
  rw [View.read_apply]
  show V m c main_arg0 _ = m (c.tc.loc main_arg0) _
  unfold V
  congr 1
  funext a
  apply Fin.ext
  match a with
  | ⟨0, _⟩ => show win0_0.index t 0 * 256 + 1 * (h.val * 128 + p.val) = (t.val * 2 + h.val) * 128 + p.val; rw [e0]; omega
  | ⟨1, _⟩ => show win0_0.index t 1 * 1024 + 1 * j.val = j.val; rw [e1]; omega

theorem idx5 : ∀ t : Fin cfg0.N, win0_5.index t (0 : Fin 2) = t.val ∧ win0_5.index t (1 : Fin 2) = 0 :=
  (by decide +kernel : ∀ t : Fin grid0.N, _)

theorem blk5 (c : Dev nD) (t : Fin cfg0.N) (h : Fin 2) :
    chunk (n := 2) (w := 512) (by decide) (iblk m c 5 t : Vec Ideal S256x512 .f32) h = rows (arr5 m c) (piece t h) := by
  obtain ⟨e0, e1⟩ := idx5 t
  funext p j
  unfold rows chunk iblk
  rw [View.read_apply]
  show V m c main_arg5 _ = m (c.tc.loc main_arg5) _
  unfold V
  congr 1
  funext a
  apply Fin.ext
  match a with
  | ⟨0, _⟩ => show win0_5.index t 0 * 256 + 1 * (h.val * 128 + p.val) = (t.val * 2 + h.val) * 128 + p.val; rw [e0]; omega
  | ⟨1, _⟩ => show win0_5.index t 1 * 512 + 1 * j.val = j.val; rw [e1]; omega

theorem idx1 : ∀ t : Fin cfg0.N, win0_1.index t (0 : Fin 2) = 0 ∧ win0_1.index t (1 : Fin 2) = 0 :=
  (by decide +kernel : ∀ t : Fin grid0.N, _)

theorem blk1 (c : Dev nD) (t : Fin cfg0.N) : (iblk m c 1 t : Vec Ideal S1x512 .f32) = arr1 m c := by
  obtain ⟨e0, e1⟩ := idx1 t
  funext i
  unfold iblk
  rw [View.read_apply]
  show V m c main_arg1 _ = m (c.tc.loc main_arg1) _
  unfold V
  congr 1
  funext a
  apply Fin.ext
  match a with
  | ⟨0, _⟩ => show win0_1.index t 0 * 1 + 1 * (i 0).val = (i 0).val; rw [e0]; omega
  | ⟨1, _⟩ => show win0_1.index t 1 * 512 + 1 * (i 1).val = (i 1).val; rw [e1]; omega

theorem idx2 : ∀ t : Fin cfg0.N, win0_2.index t (0 : Fin 2) = 0 ∧ win0_2.index t (1 : Fin 2) = 0 :=
  (by decide +kernel : ∀ t : Fin grid0.N, _)

theorem blk2 (c : Dev nD) (t : Fin cfg0.N) : (iblk m c 2 t : Vec Ideal S1x512 .f32) = arr2 m c := by
  obtain ⟨e0, e1⟩ := idx2 t
  funext i
  unfold iblk
  rw [View.read_apply]
  show V m c main_arg2 _ = m (c.tc.loc main_arg2) _
  unfold V
  congr 1
  funext a
  apply Fin.ext
  match a with
  | ⟨0, _⟩ => show win0_2.index t 0 * 1 + 1 * (i 0).val = (i 0).val; rw [e0]; omega
  | ⟨1, _⟩ => show win0_2.index t 1 * 512 + 1 * (i 1).val = (i 1).val; rw [e1]; omega

theorem idx4 : ∀ t : Fin cfg0.N, win0_4.index t (0 : Fin 2) = 0 ∧ win0_4.index t (1 : Fin 2) = 0 :=
  (by decide +kernel : ∀ t : Fin grid0.N, _)

theorem blk4 (c : Dev nD) (t : Fin cfg0.N) : (iblk m c 4 t : Vec Ideal S128x512 .f32) = arr4 m c := by
  obtain ⟨e0, e1⟩ := idx4 t
  funext i
  unfold iblk
  rw [View.read_apply]
  show V m c main_arg4 _ = m (c.tc.loc main_arg4) _
  unfold V
  congr 1
  funext a
  apply Fin.ext
  match a with
  | ⟨0, _⟩ => show win0_4.index t 0 * 128 + 1 * (i 0).val = (i 0).val; rw [e0]; omega
  | ⟨1, _⟩ => show win0_4.index t 1 * 512 + 1 * (i 1).val = (i 1).val; rw [e1]; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem blk3 (c : Dev nD) (t : Fin cfg0.N) : (iblk m c 3 t : Vec Ideal S4x128x128 .f32) = arr3 m c := by
  obtain ⟨e0, e1, e2⟩ := idx3 t
  funext i
  unfold iblk
  rw [View.read_apply]
  show V m c main_arg3 _ = m (c.tc.loc main_arg3) _
  unfold V
  congr 1
  funext a
  apply Fin.ext
  match a with
  | ⟨0, _⟩ => show win0_3.index t 0 * 4 + 1 * (i 0).val = (i 0).val; rw [e0]; omega
  | ⟨1, _⟩ => show win0_3.index t 1 * 128 + 1 * (i 1).val = (i 1).val; rw [e1]; omega
  | ⟨2, _⟩ => show win0_3.index t 2 * 128 + 1 * (i 2).val = (i 2).val; rw [e2]; omega

theorem idx6 : ∀ t : Fin cfg0.N, win0_6.index t (0 : Fin 2) = t.val ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

/-- The five results over the arrays. -/
def GRows (c : Dev nD) (i : S8448x1024.Idx) : EReal := gRows (arr0 m c) (arr1 m c) (arr2 m c) (arr3 m c) (arr4 m c) (arr5 m c) (i 0) (i 1)

def GGain (c : Dev nD) (i : S1x512.Idx) : EReal := gGain (arr0 m c) (arr3 m c) (arr5 m c) (i 1)

def GShift (c : Dev nD) (i : S1x512.Idx) : EReal := gShift (arr0 m c) (arr3 m c) (arr5 m c) (i 1)

def GWeights (c : Dev nD) (i : S4x128x128.Idx) : EReal := gWeights (arr0 m c) (arr1 m c) (arr2 m c) (arr5 m c) (i 0) (i 1) (i 2)

def GBias (c : Dev nD) (i : S128x512.Idx) : EReal := gBias (arr0 m c) (arr5 m c) (i 0) (i 1)

/-- What the tile at a point stores: the rows. -/
def rowsAt (c : Dev nD) (t : Fin cfg0.N) : Vec Ideal S256x1024 .f32 :=
  k0_pay66 (F := Ideal) (k0_pay2 (iblk m c 0 t)) (k0_pay4 (iblk m c 0 t)) (k0_pay5 (iblk m c 0 t))
    (halves (iblk m c 0 t) (iblk m c 1 t) (iblk m c 2 t) (iblk m c 3 t) (iblk m c 4 t) (iblk m c 5 t))
    (k0_pay65 (iblk m c 0 t) (iblk m c 1 t) (k0_pay8 (iblk m c 0 t)) (k0_pay11 (k0_pay9 (iblk m c 0 t))) (k0_pay12 (k0_pay9 (iblk m c 0 t)))
      (k0_pay36 (F := Ideal) (iblk m c 3 t) (iblk m c 4 t) (iblk m c 5 t)
        (k0_pay24 (iblk m c 1 t) (iblk m c 2 t) (iblk m c 3 t) (iblk m c 4 t) (k0_pay8 (iblk m c 0 t)) (k0_pay9 (iblk m c 0 t)))
        (k0_pay25 (iblk m c 1 t) (iblk m c 2 t) (k0_pay8 (iblk m c 0 t)) (k0_pay9 (iblk m c 0 t)))
        (k0_pay28 (iblk m c 1 t) (iblk m c 2 t) (iblk m c 3 t) (k0_pay8 (iblk m c 0 t)) (k0_pay9 (iblk m c 0 t))) (k0_pay29 (iblk m c 3 t)))
      (tileB (iblk m c 0 t) (iblk m c 3 t) (iblk m c 5 t)) (tileA (iblk m c 0 t) (iblk m c 3 t) (iblk m c 5 t))
      (tileA0 (iblk m c 0 t) (iblk m c 3 t) (iblk m c 5 t)) (k0_pay59 (F := Ideal)))

theorem after6 (c : Dev nD) (t : Fin cfg0.N) : (dats m 0 c).after 6 t = rowsAt m c t := by
  have hN : t.val < 33 := lt_of_lt_of_eq t.isLt N_0
  rw [after0_6]
  by_cases h : t.val % 33 = 0
  · have h' : ¬1 ≤ t.val := by omega
    rw [outsAt0_A m c t h h' h h' h h' h h']
    frame_out
    rfl
  · have h' : 1 ≤ t.val := by omega
    rw [outsAt0_B m c t h h' h h' h h' h h']
    frame_out
    rfl

theorem result6 (c : Dev nD) : (dats m 0 c).arrAt 6 cfg0.N = GRows m c := by
  refine (dats m 0 c).arrAt_eq_of_covers 6 _ (by decide +kernel) fun t hf y => ?_
  blk_simp
  rw [after6]
  obtain ⟨e0, e1⟩ := idx6 t
  have h0 : (y 0).val < 256 := (y 0).isLt
  have ht : t.val < 33 := lt_of_lt_of_eq t.isLt N_0
  have hk : piece t ⟨(y 0).val / 128, by omega⟩ = chunkOf (((View.whole main_v0_0).slice (win0_6.rect t)).emb y 0) :=
    Fin.ext (by show t.val * 2 + (y 0).val / 128 = (win0_6.index t 0 * 256 + 1 * (y 0).val) / 128; rw [e0]; omega)
  have hp : (⟨(y 0).val % 128, by omega⟩ : Fin 128) = within (((View.whole main_v0_0).slice (win0_6.rect t)).emb y 0) :=
    Fin.ext (by show (y 0).val % 128 = (win0_6.index t 0 * 256 + 1 * (y 0).val) % 128; rw [e0]; omega)
  have hj : y 1 = ((View.whole main_v0_0).slice (win0_6.rect t)).emb y 1 :=
    Fin.ext (by show (y 1).val = win0_6.index t 1 * 1024 + 1 * (y 1).val; rw [e1]; omega)
  have hy : y = ix2 (y 0) (y 1) := ValueIdx.eq_ix2 y
  refine (congrArg (rowsAt m c t) hy).trans ((pay_rows (iblk m c 0 t) (iblk m c 1 t) (iblk m c 2 t) (iblk m c 3 t) (iblk m c 4 t) (iblk m c 5 t)
    ⟨(y 0).val / 128, by omega⟩ ⟨(y 0).val % 128, by omega⟩ (y 1) (y 0) (by show (y 0).val = (y 0).val / 128 * 128 + (y 0).val % 128; omega)).trans ?_)
  unfold ch cd
  rw [blk0, blk1, blk2, blk3, blk4, blk5]
  unfold GRows gRows
  rw [← hk, ← hp, ← hj]

/-- A tile's part of the gain' gradient. -/
def gainAt (c : Dev nD) (t : Fin cfg0.N) : Vec Ideal S1x512 .f32 :=
  k0_pay63 (F := Ideal) (k0_pay13 (k0_pay8 (iblk m c 0 t)) (k0_pay9 (iblk m c 0 t))) (tileB (iblk m c 0 t) (iblk m c 3 t) (iblk m c 5 t)) (tileA (iblk m c 0 t) (iblk m c 3 t) (iblk m c 5 t)) (tileA0 (iblk m c 0 t) (iblk m c 3 t) (iblk m c 5 t)) (k0_pay59 (F := Ideal))

theorem gain_first (c : Dev nD) (t : Fin cfg0.N) (h : t.val % 33 = 0) : (outsAt0 m c t.val t.isLt).2.1 = gainAt m c t := by
  have hN : t.val < 33 := lt_of_lt_of_eq t.isLt N_0
  have h' : ¬1 ≤ t.val := by omega
  rw [outsAt0_A m c t h h' h h' h h' h h']
  frame_out
  rfl

theorem gain_next (c : Dev nD) (n : ℕ) (hn : n + 1 < cfg0.N) (h : (n + 1) % 33 ≠ 0) :
    (outsAt0 m c (n + 1) hn).2.1 = addf (F := Ideal) (φ := .f32) (outsAt0 m c n (Nat.lt_of_succ_lt hn)).2.1 (gainAt m c ⟨n + 1, hn⟩) := by
  have h' : 1 ≤ n + 1 := by omega
  rw [outsAt0_B m c ⟨n + 1, hn⟩ h h' h h' h h' h h']
  frame_out
  unfold k0_pay67
  simp only [shapeCast_self]
  rfl

theorem gainAt_apply (c : Dev nD) (t : Fin cfg0.N) (y : S1x512.Idx) :
    (gainAt m c t y : EReal) = ∑ h : Fin 2, (fun k : Fin 66 => ∑ p, hat (rows (arr0 m c) k p) (y 1) * dNorm (rows (arr0 m c) k) (arr3 m c) (rows (arr5 m c) k) p (y 1)) (piece t h) := by
  refine (pay_gain (iblk m c 0 t) (iblk m c 3 t) (iblk m c 5 t) y).trans (Finset.sum_congr rfl fun h _ => ?_)
  unfold ch cd
  simp only [blk0, blk1, blk2, blk3, blk5]

theorem result7 (c : Dev nD) : (dats m 0 c).arrAt 7 cfg0.N = GGain m c := by
  refine (dats m 0 c).arrAt_eq_of_covers 7 _ (by decide +kernel) fun t hf y => ?_
  have hN : cfg0.N = 33 := N_0
  have ht : t.val = 32 := (by decide +kernel : ∀ t : Fin grid0.N, win0_7.flush t = true → t.val = 32) t hf
  blk_simp
  rw [after0_7]
  obtain ⟨e0, e1⟩ := idx7 t
  have hy1 : (((View.whole main_v0_1).slice (win0_7.rect t)).emb y) 1 = y 1 :=
    Fin.ext (by show win0_7.index t 1 * 512 + 1 * (y 1).val = (y 1).val; rw [e1]; omega)
  unfold GGain
  rw [hy1]
  exact Tiles.run_last_tiles (J := 33) (TK := 2) (K := 66) (by decide) (by decide)
    (fun n h => (outsAt0 m c n h).2.1 y) (fun n h => (outsAt0 m c n h).2.1 y) (fun n h => gainAt m c ⟨n, h⟩ y) 0
    (fun k => ∑ p, hat (rows (arr0 m c) k p) (y 1) * dNorm (rows (arr0 m c) k) (arr3 m c) (rows (arr5 m c) k) p (y 1))
    (fun n h hn => congrFun (gain_first m c ⟨n, h⟩ hn) y) (fun n h h0 _ => congrFun (gain_next m c n h h0) y)
    (fun n h h5 => congrFun (gain_next m c n h (by omega)) y)
    (fun s h => (gainAt_apply m c ⟨_, h⟩ y).trans (Finset.sum_congr rfl fun r _ =>
      congrArg (fun k : Fin 66 => ∑ p, hat (rows (arr0 m c) k p) (y 1) * dNorm (rows (arr0 m c) k) (arr3 m c) (rows (arr5 m c) k) p (y 1)) (Fin.ext (by show (33 * 0 + s.val) * 2 + r.val = s.val * 2 + r.val; omega))))
    t.val (by omega) t.isLt

/-- A tile's part of the shift' gradient. -/
def shiftAt (c : Dev nD) (t : Fin cfg0.N) : Vec Ideal S1x512 .f32 :=
  k0_pay62 (F := Ideal) (tileB (iblk m c 0 t) (iblk m c 3 t) (iblk m c 5 t)) (tileA (iblk m c 0 t) (iblk m c 3 t) (iblk m c 5 t)) (tileA0 (iblk m c 0 t) (iblk m c 3 t) (iblk m c 5 t)) (k0_pay59 (F := Ideal))

theorem shift_first (c : Dev nD) (t : Fin cfg0.N) (h : t.val % 33 = 0) : (outsAt0 m c t.val t.isLt).2.2.1 = shiftAt m c t := by
  have hN : t.val < 33 := lt_of_lt_of_eq t.isLt N_0
  have h' : ¬1 ≤ t.val := by omega
  rw [outsAt0_A m c t h h' h h' h h' h h']
  frame_out
  rfl

theorem shift_next (c : Dev nD) (n : ℕ) (hn : n + 1 < cfg0.N) (h : (n + 1) % 33 ≠ 0) :
    (outsAt0 m c (n + 1) hn).2.2.1 = addf (F := Ideal) (φ := .f32) (outsAt0 m c n (Nat.lt_of_succ_lt hn)).2.2.1 (shiftAt m c ⟨n + 1, hn⟩) := by
  have h' : 1 ≤ n + 1 := by omega
  rw [outsAt0_B m c ⟨n + 1, hn⟩ h h' h h' h h' h h']
  frame_out
  unfold k0_pay68
  simp only [shapeCast_self]
  rfl

theorem shiftAt_apply (c : Dev nD) (t : Fin cfg0.N) (y : S1x512.Idx) :
    (shiftAt m c t y : EReal) = ∑ h : Fin 2, (fun k : Fin 66 => ∑ p, dNorm (rows (arr0 m c) k) (arr3 m c) (rows (arr5 m c) k) p (y 1)) (piece t h) := by
  refine (pay_shift (iblk m c 0 t) (iblk m c 3 t) (iblk m c 5 t) y).trans (Finset.sum_congr rfl fun h _ => ?_)
  unfold ch cd
  simp only [blk0, blk1, blk2, blk3, blk5]

theorem result8 (c : Dev nD) : (dats m 0 c).arrAt 8 cfg0.N = GShift m c := by
  refine (dats m 0 c).arrAt_eq_of_covers 8 _ (by decide +kernel) fun t hf y => ?_
  have hN : cfg0.N = 33 := N_0
  have ht : t.val = 32 := (by decide +kernel : ∀ t : Fin grid0.N, win0_8.flush t = true → t.val = 32) t hf
  blk_simp
  rw [after0_8]
  obtain ⟨e0, e1⟩ := idx8 t
  have hy1 : (((View.whole main_v0_2).slice (win0_8.rect t)).emb y) 1 = y 1 :=
    Fin.ext (by show win0_8.index t 1 * 512 + 1 * (y 1).val = (y 1).val; rw [e1]; omega)
  unfold GShift
  rw [hy1]
  exact Tiles.run_last_tiles (J := 33) (TK := 2) (K := 66) (by decide) (by decide)
    (fun n h => (outsAt0 m c n h).2.2.1 y) (fun n h => (outsAt0 m c n h).2.2.1 y) (fun n h => shiftAt m c ⟨n, h⟩ y) 0
    (fun k => ∑ p, dNorm (rows (arr0 m c) k) (arr3 m c) (rows (arr5 m c) k) p (y 1))
    (fun n h hn => congrFun (shift_first m c ⟨n, h⟩ hn) y) (fun n h h0 _ => congrFun (shift_next m c n h h0) y)
    (fun n h h5 => congrFun (shift_next m c n h (by omega)) y)
    (fun s h => (shiftAt_apply m c ⟨_, h⟩ y).trans (Finset.sum_congr rfl fun r _ =>
      congrArg (fun k : Fin 66 => ∑ p, dNorm (rows (arr0 m c) k) (arr3 m c) (rows (arr5 m c) k) p (y 1)) (Fin.ext (by show (33 * 0 + s.val) * 2 + r.val = s.val * 2 + r.val; omega))))
    t.val (by omega) t.isLt

/-- A tile's part of the weights' gradient. -/
def weightsAt (c : Dev nD) (t : Fin cfg0.N) : Vec Ideal S4x128x128 .f32 :=
  weights (iblk m c 0 t) (iblk m c 1 t) (iblk m c 2 t) (iblk m c 5 t)

theorem weights_first (c : Dev nD) (t : Fin cfg0.N) (h : t.val % 33 = 0) : (outsAt0 m c t.val t.isLt).2.2.2.1 = weightsAt m c t := by
  have hN : t.val < 33 := lt_of_lt_of_eq t.isLt N_0
  have h' : ¬1 ≤ t.val := by omega
  rw [outsAt0_A m c t h h' h h' h h' h h']
  frame_out
  rfl

theorem weights_next (c : Dev nD) (n : ℕ) (hn : n + 1 < cfg0.N) (h : (n + 1) % 33 ≠ 0) :
    (outsAt0 m c (n + 1) hn).2.2.2.1 = addf (F := Ideal) (φ := .f32) (outsAt0 m c n (Nat.lt_of_succ_lt hn)).2.2.2.1 (weightsAt m c ⟨n + 1, hn⟩) := by
  have h' : 1 ≤ n + 1 := by omega
  rw [outsAt0_B m c ⟨n + 1, hn⟩ h h' h h' h h' h h']
  frame_out
  unfold k0_pay69
  simp only [shapeCast_self]
  rfl

theorem weightsAt_apply (c : Dev nD) (t : Fin cfg0.N) (y : S4x128x128.Idx) :
    (weightsAt m c t y : EReal) = ∑ h : Fin 2, (fun k : Fin 66 => dWeights (rows (arr0 m c) k) (vec (arr1 m c)) (vec (arr2 m c)) (rows (arr5 m c) k) (y 0) (y 1) (y 2)) (piece t h) := by
  refine ((congrArg (weightsAt m c t) (ValueIdx.eq_ix3 y)).trans (pay_weights (iblk m c 0 t) (iblk m c 1 t) (iblk m c 2 t) (iblk m c 5 t) (y 0) (y 1) (y 2))).trans (Finset.sum_congr rfl fun h _ => ?_)
  unfold ch cd
  simp only [blk0, blk1, blk2, blk3, blk5]

theorem result9 (c : Dev nD) : (dats m 0 c).arrAt 9 cfg0.N = GWeights m c := by
  refine (dats m 0 c).arrAt_eq_of_covers 9 _ (by decide +kernel) fun t hf y => ?_
  have hN : cfg0.N = 33 := N_0
  have ht : t.val = 32 := (by decide +kernel : ∀ t : Fin grid0.N, win0_9.flush t = true → t.val = 32) t hf
  blk_simp
  rw [after0_9]
  obtain ⟨e0, e1, e2⟩ := idx9 t
  have hy0 : (((View.whole main_v0_3).slice (win0_9.rect t)).emb y) 0 = y 0 :=
    Fin.ext (by show win0_9.index t 0 * 4 + 1 * (y 0).val = (y 0).val; rw [e0]; omega)
  have hy1 : (((View.whole main_v0_3).slice (win0_9.rect t)).emb y) 1 = y 1 :=
    Fin.ext (by show win0_9.index t 1 * 128 + 1 * (y 1).val = (y 1).val; rw [e1]; omega)
  have hy2 : (((View.whole main_v0_3).slice (win0_9.rect t)).emb y) 2 = y 2 :=
    Fin.ext (by show win0_9.index t 2 * 128 + 1 * (y 2).val = (y 2).val; rw [e2]; omega)
  unfold GWeights
  rw [hy0, hy1, hy2]
  exact Tiles.run_last_tiles (J := 33) (TK := 2) (K := 66) (by decide) (by decide)
    (fun n h => (outsAt0 m c n h).2.2.2.1 y) (fun n h => (outsAt0 m c n h).2.2.2.1 y) (fun n h => weightsAt m c ⟨n, h⟩ y) 0
    (fun k => dWeights (rows (arr0 m c) k) (vec (arr1 m c)) (vec (arr2 m c)) (rows (arr5 m c) k) (y 0) (y 1) (y 2))
    (fun n h hn => congrFun (weights_first m c ⟨n, h⟩ hn) y) (fun n h h0 _ => congrFun (weights_next m c n h h0) y)
    (fun n h h5 => congrFun (weights_next m c n h (by omega)) y)
    (fun s h => (weightsAt_apply m c ⟨_, h⟩ y).trans (Finset.sum_congr rfl fun r _ =>
      congrArg (fun k : Fin 66 => dWeights (rows (arr0 m c) k) (vec (arr1 m c)) (vec (arr2 m c)) (rows (arr5 m c) k) (y 0) (y 1) (y 2)) (Fin.ext (by show (33 * 0 + s.val) * 2 + r.val = s.val * 2 + r.val; omega))))
    t.val (by omega) t.isLt

/-- A tile's part of the mixing bias' gradient. -/
def biasAt (c : Dev nD) (t : Fin cfg0.N) : Vec Ideal S128x512 .f32 :=
  k0_pay48 (F := Ideal) (k0_pay37 (iblk m c 5 t) (k0_pay7 (iblk m c 0 t))) (k0_pay38 (iblk m c 5 t) (k0_pay7 (iblk m c 0 t)))

theorem bias_first (c : Dev nD) (t : Fin cfg0.N) (h : t.val % 33 = 0) : (outsAt0 m c t.val t.isLt).2.2.2.2 = biasAt m c t := by
  have hN : t.val < 33 := lt_of_lt_of_eq t.isLt N_0
  have h' : ¬1 ≤ t.val := by omega
  rw [outsAt0_A m c t h h' h h' h h' h h']
  frame_out
  rfl

theorem bias_next (c : Dev nD) (n : ℕ) (hn : n + 1 < cfg0.N) (h : (n + 1) % 33 ≠ 0) :
    (outsAt0 m c (n + 1) hn).2.2.2.2 = addf (F := Ideal) (φ := .f32) (outsAt0 m c n (Nat.lt_of_succ_lt hn)).2.2.2.2 (biasAt m c ⟨n + 1, hn⟩) := by
  have h' : 1 ≤ n + 1 := by omega
  rw [outsAt0_B m c ⟨n + 1, hn⟩ h h' h h' h h' h h']
  frame_out
  unfold k0_pay1
  simp only [shapeCast_self]
  rfl

theorem biasAt_apply (c : Dev nD) (t : Fin cfg0.N) (y : S128x512.Idx) :
    (biasAt m c t y : EReal) = ∑ h : Fin 2, (fun k : Fin 66 => dMixed (rows (arr0 m c) k) (rows (arr5 m c) k) (y 0) (y 1)) (piece t h) := by
  refine ((congrArg (biasAt m c t) (ValueIdx.eq_ix2 y)).trans (pay_bias (iblk m c 0 t) (iblk m c 5 t) (y 0) (y 1))).trans (Finset.sum_congr rfl fun h _ => ?_)
  unfold ch cd
  simp only [blk0, blk1, blk2, blk3, blk5]

theorem result10 (c : Dev nD) : (dats m 0 c).arrAt 10 cfg0.N = GBias m c := by
  refine (dats m 0 c).arrAt_eq_of_covers 10 _ (by decide +kernel) fun t hf y => ?_
  have hN : cfg0.N = 33 := N_0
  have ht : t.val = 32 := (by decide +kernel : ∀ t : Fin grid0.N, win0_10.flush t = true → t.val = 32) t hf
  blk_simp
  rw [after0_10]
  obtain ⟨e0, e1⟩ := idx10 t
  have hy0 : (((View.whole main_v0_4).slice (win0_10.rect t)).emb y) 0 = y 0 :=
    Fin.ext (by show win0_10.index t 0 * 128 + 1 * (y 0).val = (y 0).val; rw [e0]; omega)
  have hy1 : (((View.whole main_v0_4).slice (win0_10.rect t)).emb y) 1 = y 1 :=
    Fin.ext (by show win0_10.index t 1 * 512 + 1 * (y 1).val = (y 1).val; rw [e1]; omega)
  unfold GBias
  rw [hy0, hy1]
  exact Tiles.run_last_tiles (J := 33) (TK := 2) (K := 66) (by decide) (by decide)
    (fun n h => (outsAt0 m c n h).2.2.2.2 y) (fun n h => (outsAt0 m c n h).2.2.2.2 y) (fun n h => biasAt m c ⟨n, h⟩ y) 0
    (fun k => dMixed (rows (arr0 m c) k) (rows (arr5 m c) k) (y 0) (y 1))
    (fun n h hn => congrFun (bias_first m c ⟨n, h⟩ hn) y) (fun n h h0 _ => congrFun (bias_next m c n h h0) y)
    (fun n h h5 => congrFun (bias_next m c n h (by omega)) y)
    (fun s h => (biasAt_apply m c ⟨_, h⟩ y).trans (Finset.sum_congr rfl fun r _ =>
      congrArg (fun k : Fin 66 => dMixed (rows (arr0 m c) k) (rows (arr5 m c) k) (y 0) (y 1)) (Fin.ext (by show (33 * 0 + s.val) * 2 + r.val = s.val * 2 + r.val; omega))))
    t.val (by omega) t.isLt

end Cert.GmlpBIdeal.Prod

end
-- ==== Proof.GmlpBRef.lean ====
/- The gradient of the gMLP chunk mixer: the reference computes the same results, and the claim. -/
module

public import proofs.«01_k».proof.Proof.GmlpB
public import proofs.«01_k».proof.Proof.Gen.GmlpBRefIdeal.Read

@[expose] public section

set_option maxRecDepth 16384

noncomputable section

namespace Cert.GmlpBRefIdeal.Prod

open Cert.GmlpBRefIdeal Cert.GmlpBRefIdeal.Gen Idealize.ShloMosaic Idealize.ShloMosaic.TcCoe Idealize.SL.Sem
open Cert.Gmlp

variable (x0 : S8448x1024.Idx → EReal) (x1 x2 : S1x512.Idx → EReal) (x3 : S4x128x128.Idx → EReal) (x4 : S128x512.Idx → EReal)
  (x5 : S8448x512.Idx → EReal)

/-- A row of the pre-activations. -/
def line (r : Fin 8448) (j : Fin 1024) : EReal := x0 (ix2 r j)

theorem line_eq (r : Fin 8448) : line x0 r = rows x0 (chunkOf r) (within r) :=
  funext fun j => congrArg x0 (congrArg (fun r => ix2 r j) (Fin.ext (by show r.val = r.val / 128 * 128 + r.val % 128; omega)))

theorem at_th (i : S8448x1024.Idx) : Read.val_main_v10 (F := Ideal) x0 i = th (x0 i) := by
  simp only [Read.val_main_v10_apply, Read.val_main_v9_apply, Read.val_main_v8_apply, Read.val_main_cst_1_apply, Read.val_main_v7_apply,
    Read.val_main_v6_apply, Read.val_main_v5_apply, Read.val_main_cst_0_apply, Read.val_main_v1_apply, Read.val_main_v0_apply]
  unfold th
  rw [mul_comm (x0 i) (x0 i * x0 i)]
  pointwise

theorem at_half (i : S8448x1024.Idx) : Read.val_main_v19 (F := Ideal) x0 i = half (x0 i) := by
  simp only [Read.val_main_v19_apply, Read.val_main_v18_apply, Read.val_main_cst_5_apply, Read.val_main_v17_apply, Read.val_main_v16_apply,
    Read.val_main_cst_4_apply, at_th]
  unfold half
  pointwise

theorem at_act (i : S8448x1024.Idx) : Read.val_main_v20 (F := Ideal) x0 i = act (x0 i) := by
  rw [Read.val_main_v20_apply, at_half]
  rfl

theorem at_up (i : S8448x512.Idx) : Read.val_main_v21 (F := Ideal) x0 i = up (line x0 (i 0)) (i 1) := by
  rw [Read.val_main_v21_apply, at_act]
  exact congrArg (fun k => act (x0 k)) (ValueIdx.eq_ix2 _)

theorem at_value (i : S8448x512.Idx) : Read.val_main_v22 (F := Ideal) x0 i = value (line x0 (i 0)) (i 1) := by
  rw [Read.val_main_v22_apply, at_act]
  exact congrArg (fun k => act (x0 k)) (ValueIdx.eq_ix2 _)

theorem at_centre (i : S8448x512.Idx) : Read.val_main_v28 (F := Ideal) x0 i = centre (line x0 (i 0)) (i 1) := by
  simp only [Read.val_main_v28_apply, Read.val_main_v27_apply, Read.val_main_v26_apply, Read.val_main_v25_apply, Read.val_main_cst_7_apply,
    Read.val_main_v24_apply, Read.val_main_v23_apply, Read.val_main_cst_6_apply, at_value]
  pointwise
  rfl

theorem at_spread (i : S8448x1.Idx) : Read.val_main_v35 (F := Ideal) x0 i = spread (line x0 (i 0)) := by
  simp only [Read.val_main_v35_apply, Read.val_main_v34_apply, Read.val_main_cst_10_apply, Read.val_main_v33_apply, Read.val_main_v32_apply,
    Read.val_main_cst_9_apply, Read.val_main_v31_apply, Read.val_main_v30_apply, Read.val_main_cst_8_apply, Read.val_main_v29_apply, at_centre]
  pointwise
  rfl

theorem at_scale (i : S8448x1.Idx) : Read.val_main_v36 (F := Ideal) x0 i = scale (line x0 (i 0)) := by
  rw [Read.val_main_v36_apply, at_spread]
  pointwise
  rfl

theorem at_coef (i : S8448x1.Idx) : Read.val_main_v39 (F := Ideal) x0 i
    = Ideal.ofBits .f32 0xBF000000#32 * Ideal.div (scale (line x0 (i 0))) (spread (line x0 (i 0))) := by
  simp only [Read.val_main_v39_apply, Read.val_main_v38_apply, Read.val_main_cst_11_apply, Read.val_main_v37_apply, at_scale, at_spread]
  pointwise

theorem at_hat (i : S8448x512.Idx) : Read.val_main_v41 (F := Ideal) x0 i = hat (line x0 (i 0)) (i 1) := by
  rw [Read.val_main_v41_apply, Read.val_main_v40_apply, at_centre, at_scale]
  rfl

theorem at_norm (i : S8448x512.Idx) : Read.val_main_v45 (F := Ideal) x0 x1 x2 i = norm (line x0 (i 0)) (vec x1) (vec x2) (i 1) := by
  rw [Read.val_main_v45_apply, Read.val_main_v44_apply, Read.val_main_v43_apply, Read.val_main_v42_apply, at_hat]
  exact congrArg₂ (· + ·) (congrArg₂ (· * ·) rfl (congrArg x1 (ValueIdx.eq_ix2 _))) (congrArg x2 (ValueIdx.eq_ix2 _))

/-- The normalised rows by chunk, row, group and channel of the group. -/
theorem at_normed (i : S66x128x4x128.Idx) (c : Fin 512) (hc : c.val = (i 2).val * 128 + (i 3).val) :
    Read.val_main_v46 (F := Ideal) x0 x1 x2 i = norm (rows x0 (i 0) (i 1)) (vec x1) (vec x2) c := by
  have h0 : (i 0).val < 66 := (i 0).isLt
  have h1 : (i 1).val < 128 := (i 1).isLt
  have h2 : (i 2).val < 4 := (i 2).isLt
  have h3 : (i 3).val < 128 := (i 3).isLt
  rw [Read.val_main_v46_apply, at_norm]
  have e0 : line x0 (Read.idx_main_v46 i 0) = rows x0 (i 0) (i 1) := funext fun j => congrArg x0 (congrArg (fun r => ix2 r j) (Fin.ext (by
    show ((((i 0).val * 128 + (i 1).val) * 4 + (i 2).val) * 128 + (i 3).val) / 512 = (i 0).val * 128 + (i 1).val
    omega)))
  have e1 : Read.idx_main_v46 i 1 = c := Fin.ext (by
    show ((((i 0).val * 128 + (i 1).val) * 4 + (i 2).val) * 128 + (i 3).val) % 512 = c.val
    omega)
  rw [e0, e1]

/-- The mixed rows by chunk, row and channel. -/
theorem at_mix (i : S66x128x512.Idx) :
    Read.val_main_v52 (F := Ideal) x0 x1 x2 x3 x4 i = mixed (rows x0 (i 0)) (vec x1) (vec x2) x3 x4 (i 1) (i 2) := by
  have h0 : (i 0).val < 66 := (i 0).isLt
  have h1 : (i 1).val < 128 := (i 1).isLt
  have h2 : (i 2).val < 512 := (i 2).isLt
  simp only [Read.val_main_v52_apply, Read.val_main_v51_apply, Read.val_main_v50_apply, Read.val_main_v49_apply,
    Read.val_main_v48_apply, Read.val_main_v47_apply]
  have a0 : (((i 0).val * 128 + (i 1).val) * 512 + (i 2).val) / 65536 = (i 0).val := by omega
  have a1 : (((i 0).val * 128 + (i 1).val) * 512 + (i 2).val) / 512 % 128 = (i 1).val := by omega
  have a2 : (((i 0).val * 128 + (i 1).val) * 512 + (i 2).val) / 128 % 4 = (i 2).val / 128 := by omega
  have a3 : (((i 0).val * 128 + (i 1).val) * 512 + (i 2).val) % 128 = (i 2).val % 128 := by omega
  unfold mixed
  refine congrArg₂ (· + ·) (Finset.sum_congr rfl fun q _ => (mul_comm _ _).trans (congrArg₂ (· * ·) (congrArg x3 ?_) ?_)) (congrArg x4 (ValueIdx.eq_ix2 _))
  · funext a
    match a with
    | ⟨0, _⟩ => exact Fin.ext a2
    | ⟨1, _⟩ => exact Fin.ext a1
    | ⟨2, _⟩ => rfl
  · rw [at_normed x0 x1 x2 _ (i 2) (by
      show (i 2).val = (((i 0).val * 128 + (i 1).val) * 512 + (i 2).val) / 128 % 4 * 128 + (((i 0).val * 128 + (i 1).val) * 512 + (i 2).val) % 128
      omega)]
    exact congrArg (fun k => norm (rows x0 k q) (vec x1) (vec x2) (i 2)) (Fin.ext a0)

theorem at_mixed (i : S8448x512.Idx) :
    Read.val_main_v53 (F := Ideal) x0 x1 x2 x3 x4 i = mixed (rows x0 (chunkOf (i 0))) (vec x1) (vec x2) x3 x4 (within (i 0)) (i 1) := by
  have h0 : (i 0).val < 8448 := (i 0).isLt
  have h1 : (i 1).val < 512 := (i 1).isLt
  rw [Read.val_main_v53_apply, at_mix]
  have e0 : Read.idx_main_v53 i 0 = chunkOf (i 0) := Fin.ext (by show ((i 0).val * 512 + (i 1).val) / 65536 = (i 0).val / 128; omega)
  have e1 : Read.idx_main_v53 i 1 = within (i 0) := Fin.ext (by show ((i 0).val * 512 + (i 1).val) / 512 % 128 = (i 0).val % 128; omega)
  have e2 : Read.idx_main_v53 i 2 = i 1 := Fin.ext (by show ((i 0).val * 512 + (i 1).val) % 512 = (i 1).val; omega)
  rw [e0, e1, e2]

/-- The gradient of the mixed rows by chunk, row and channel. -/
theorem at_dMixed (i : S66x128x512.Idx) : Read.val_main_v57 (F := Ideal) x0 x5 i = dMixed (rows x0 (i 0)) (rows x5 (i 0)) (i 1) (i 2) := by
  have h0 : (i 0).val < 66 := (i 0).isLt
  have h1 : (i 1).val < 128 := (i 1).isLt
  have h2 : (i 2).val < 512 := (i 2).isLt
  rw [Read.val_main_v57_apply, Read.val_main_v55_apply, at_up]
  have hl : (i 0).val * 128 + (i 1).val < 8448 := by omega
  have e0 : Read.idx_main_v57 i 0 = ⟨(i 0).val * 128 + (i 1).val, hl⟩ := Fin.ext (by
    show (((i 0).val * 128 + (i 1).val) * 512 + (i 2).val) / 512 = (i 0).val * 128 + (i 1).val; omega)
  have e1 : Read.idx_main_v57 i 1 = i 2 := Fin.ext (by show (((i 0).val * 128 + (i 1).val) * 512 + (i 2).val) % 512 = (i 2).val; omega)
  have e : Read.idx_main_v57 i = ix2 ⟨(i 0).val * 128 + (i 1).val, hl⟩ (i 2) :=
    (ValueIdx.eq_ix2 _).trans (congrArg₂ ix2 e0 e1)
  rw [e0, e1, e]
  rfl

theorem at_grouped (i : S4x66x128x128.Idx) (c : Fin 512) (hc : c.val = (i 0).val * 128 + (i 2).val) :
    Read.val_main_v62 (F := Ideal) x0 x5 i = dMixed (rows x0 (i 1)) (rows x5 (i 1)) (i 3) c := by
  have h0 : (i 0).val < 4 := (i 0).isLt
  have h1 : (i 1).val < 66 := (i 1).isLt
  have h2 : (i 2).val < 128 := (i 2).isLt
  have h3 : (i 3).val < 128 := (i 3).isLt
  rw [Read.val_main_v62_apply, Read.val_main_v61_apply, at_dMixed]
  have e0 : Read.idx_main_v61 (Read.idx_main_v62 i) 0 = i 1 := Fin.ext (by
    show ((((i 1).val * 128 + (i 3).val) * 4 + (i 0).val) * 128 + (i 2).val) / 65536 = (i 1).val; omega)
  have e1 : Read.idx_main_v61 (Read.idx_main_v62 i) 1 = i 3 := Fin.ext (by
    show ((((i 1).val * 128 + (i 3).val) * 4 + (i 0).val) * 128 + (i 2).val) / 512 % 128 = (i 3).val; omega)
  have e2 : Read.idx_main_v61 (Read.idx_main_v62 i) 2 = c := Fin.ext (by
    show ((((i 1).val * 128 + (i 3).val) * 4 + (i 0).val) * 128 + (i 2).val) % 512 = c.val; omega)
  rw [e0, e1, e2]

theorem at_dNorm (i : S8448x512.Idx) :
    Read.val_main_v66 (F := Ideal) x0 x3 x5 i = dNorm (rows x0 (chunkOf (i 0))) x3 (rows x5 (chunkOf (i 0))) (within (i 0)) (i 1) := by
  have h0 : (i 0).val < 8448 := (i 0).isLt
  have h1 : (i 1).val < 512 := (i 1).isLt
  rw [Read.val_main_v66_apply, Read.val_main_v65_apply, Read.val_main_v64_apply]
  have a0 : ((i 0).val * 512 + (i 1).val) / 65536 = (i 0).val / 128 := by omega
  have a1 : ((i 0).val * 512 + (i 1).val) / 512 % 128 = (i 0).val % 128 := by omega
  have a2 : ((i 0).val * 512 + (i 1).val) / 128 % 4 = (i 1).val / 128 := by omega
  unfold dNorm
  refine Finset.sum_congr rfl fun q _ => (mul_comm _ _).trans (congrArg₂ (· * ·) (congrArg x3 ?_) ?_)
  · funext a
    match a with
    | ⟨0, _⟩ => exact Fin.ext a2
    | ⟨1, _⟩ => rfl
    | ⟨2, _⟩ => exact Fin.ext a1
  · rw [at_grouped x0 x5 _ (i 1) (by
      show (i 1).val = ((i 0).val * 512 + (i 1).val) / 128 % 4 * 128 + ((i 0).val * 512 + (i 1).val) % 128
      omega)]
    exact congrArg (fun k => dMixed (rows x0 k) (rows x5 k) q (i 1)) (Fin.ext a0)

theorem at_dScaled (i : S8448x512.Idx) : Read.val_main_v73 (F := Ideal) x0 x1 x3 x5 i
    = dNorm (rows x0 (chunkOf (i 0))) x3 (rows x5 (chunkOf (i 0))) (within (i 0)) (i 1) * vec x1 (i 1) := by
  rw [Read.val_main_v73_apply, at_dNorm, Read.val_main_v72_apply]
  exact congrArg₂ (· * ·) rfl (congrArg x1 (ValueIdx.eq_ix2 _))

/-- The gradient of a normalised row times the gain. -/
def grad (r : Fin 8448) (c : Fin 512) : EReal := dNorm (rows x0 (chunkOf r)) x3 (rows x5 (chunkOf r)) (within r) c * vec x1 c

theorem at_dot (i : S8448x1.Idx) :
    Read.val_main_v76 (F := Ideal) x0 x1 x3 x5 i = ∑ x, centre (line x0 (i 0)) x * grad x0 x1 x3 x5 (i 0) x := by
  have h1 : (i 1).val < 1 := (i 1).isLt
  have e : Read.idx_main_v76 i 0 = i 0 := Fin.ext (by show (i 0).val * 1 + (i 1).val = (i 0).val; omega)
  simp only [Read.val_main_v76_apply, Read.val_main_v75_apply, Read.val_main_cst_16_apply, Read.val_main_v74_apply, at_dScaled, at_centre]
  pointwise
  exact congrArg (fun r => ∑ x, centre (line x0 r) x * grad x0 x1 x3 x5 r x) e

theorem at_dSpread (i : S8448x512.Idx) :
    Read.val_main_v83 (F := Ideal) x0 x1 x3 x5 i = dSpread (line x0 (i 0)) (grad x0 x1 x3 x5 (i 0)) := by
  simp only [Read.val_main_v83_apply, Read.val_main_v82_apply, Read.val_main_cst_18_apply, Read.val_main_v81_apply, Read.val_main_v80_apply,
    Read.val_main_cst_17_apply, Read.val_main_v79_apply, at_dot, at_coef, Fin.sum_univ_one]
  pointwise
  rfl

theorem at_dCentre (i : S8448x512.Idx) :
    Read.val_main_v87 (F := Ideal) x0 x1 x3 x5 i = dCentre (line x0 (i 0)) (grad x0 x1 x3 x5 (i 0)) (i 1) := by
  simp only [Read.val_main_v87_apply, Read.val_main_v86_apply, Read.val_main_v85_apply, Read.val_main_v84_apply, Read.val_main_v78_apply,
    Read.val_main_v77_apply, at_dSpread, at_dScaled, at_centre, at_scale]
  rfl

theorem at_total (i : S8448x1.Idx) :
    Read.val_main_v90 (F := Ideal) x0 x1 x3 x5 i = ∑ x, -dCentre (line x0 (i 0)) (grad x0 x1 x3 x5 (i 0)) x := by
  have h1 : (i 1).val < 1 := (i 1).isLt
  have e : Read.idx_main_v90 i 0 = i 0 := Fin.ext (by show (i 0).val * 1 + (i 1).val = (i 0).val; omega)
  simp only [Read.val_main_v90_apply, Read.val_main_v89_apply, Read.val_main_cst_19_apply, Read.val_main_v88_apply, at_dCentre]
  pointwise
  exact congrArg (fun r => ∑ x, -dCentre (line x0 r) (grad x0 x1 x3 x5 r) x) e

theorem at_dValue (i : S8448x512.Idx) :
    Read.val_main_v95 (F := Ideal) x0 x1 x3 x5 i = dValue (line x0 (i 0)) (grad x0 x1 x3 x5 (i 0)) (i 1) := by
  simp only [Read.val_main_v95_apply, Read.val_main_v94_apply, Read.val_main_v93_apply, Read.val_main_cst_21_apply, Read.val_main_v92_apply,
    Read.val_main_v91_apply, Read.val_main_cst_20_apply, at_total, at_dCentre, Fin.sum_univ_one]
  pointwise
  rfl

theorem at_dHalves (i : S8448x1024.Idx) : Read.val_main_v96 (F := Ideal) x0 x1 x2 x3 x4 x5 i
    = dHalves (rows x0 (chunkOf (i 0))) (vec x1) (vec x2) x3 x4 (rows x5 (chunkOf (i 0))) (within (i 0)) (i 1) := by
  unfold Read.val_main_v96 dHalves
  pointwise
  by_cases h : (i 1).val < 512
  · refine (dif_pos h).trans (Eq.trans ?_ (dif_pos h).symm)
    rw [Read.val_main_v56_apply, at_mixed]
    refine congrArg₂ (· * ·) (congrArg x5 (congrArg₂ ix2 (Fin.ext ?_) rfl)) rfl
    show (i 0).val = (i 0).val / 128 * 128 + (i 0).val % 128
    omega
  · refine (dif_neg h).trans (Eq.trans ?_ (dif_neg h).symm)
    rw [at_dValue]
    exact congrArg (fun k => dValue k (grad x0 x1 x3 x5 (i 0)) ⟨(i 1).val - 512, _⟩) (line_eq x0 (i 0))

theorem result108 (i : S8448x1024.Idx) : Read.val_main_v108 (F := Ideal) x0 x1 x2 x3 x4 x5 i = gRows x0 x1 x2 x3 x4 x5 (i 0) (i 1) := by
  have hx : x0 i = rows x0 (chunkOf (i 0)) (within (i 0)) (i 1) :=
    (congrArg x0 (ValueIdx.eq_ix2 i)).trans (congrFun (line_eq x0 (i 0)) (i 1))
  simp only [Read.val_main_v108_apply, Read.val_main_v107_apply, Read.val_main_v106_apply, Read.val_main_v105_apply, Read.val_main_cst_24_apply,
    Read.val_main_v104_apply, Read.val_main_v103_apply, Read.val_main_v102_apply, Read.val_main_cst_23_apply, Read.val_main_v101_apply,
    Read.val_main_v100_apply, Read.val_main_v99_apply, Read.val_main_cst_22_apply, Read.val_main_v98_apply, Read.val_main_v97_apply,
    Read.val_main_v15_apply, Read.val_main_v14_apply, Read.val_main_v13_apply, Read.val_main_cst_3_apply, Read.val_main_v12_apply,
    Read.val_main_v11_apply, Read.val_main_cst_2_apply, Read.val_main_v4_apply, Read.val_main_v3_apply, Read.val_main_cst_apply,
    Read.val_main_v2_apply, at_dHalves, at_half, at_th]
  pointwise
  unfold gRows dRows dAct through
  rw [← hx]

theorem result60 (i : S128x512.Idx) : Read.val_main_v60 (F := Ideal) x0 x5 i = gBias x0 x5 (i 0) (i 1) := by
  have h0 : (i 0).val < 128 := (i 0).isLt
  have h1 : (i 1).val < 512 := (i 1).isLt
  simp only [Read.val_main_v60_apply, Read.val_main_cst_13_apply, Read.val_main_v59_apply, Read.val_main_v58_apply, Read.val_main_cst_12_apply,
    at_dMixed, Fin.sum_univ_one]
  pointwise
  unfold gBias
  refine Finset.sum_congr rfl fun k _ => ?_
  refine congrArg₂ (dMixed (rows x0 k) (rows x5 k)) (Fin.ext ?_) (Fin.ext ?_)
  · show ((0 * 128 + (i 0).val) * 512 + (i 1).val) / 512 = (i 0).val
    omega
  · show ((0 * 128 + (i 0).val) * 512 + (i 1).val) % 512 = (i 1).val
    omega

theorem result63 (i : S4x128x128.Idx) : Read.val_main_v63 (F := Ideal) x0 x1 x2 x5 i = gWeights x0 x1 x2 x5 (i 0) (i 1) (i 2) := by
  have h0 : (i 0).val < 4 := (i 0).isLt
  unfold Read.val_main_v63
  simp only [Host.dotGeneral]
  pointwise
  unfold gWeights dWeights
  refine Finset.sum_congr rfl fun n _ => Finset.sum_congr rfl fun x _ => ?_
  rw [at_grouped x0 x5 _ ⟨128 * (i 0).val + x.val, by omega⟩ (by show 128 * (i 0).val + x.val = (i 0).val * 128 + x.val; omega),
    at_normed x0 x1 x2 _ ⟨128 * (i 0).val + x.val, by omega⟩ (by show 128 * (i 0).val + x.val = (i 0).val * 128 + x.val; omega)]
  rfl

/-- A sum over the rows, by chunks. -/
theorem by_chunks (f : Fin 66 → Fin 128 → EReal) : ∑ r : Fin 8448, f (chunkOf r) (within r) = ∑ k, ∑ p, f k p := by
  refine (Tiles.sum_tiles (J := 66) (TK := 128) (K := 8448) (by decide) (fun r => f (chunkOf r) (within r))).symm.trans ?_
  refine Finset.sum_congr rfl fun k _ => Finset.sum_congr rfl fun p _ => congrArg₂ f (Fin.ext ?_) (Fin.ext ?_)
  · show (k.val * 128 + p.val) / 128 = k.val
    omega
  · show (k.val * 128 + p.val) % 128 = p.val
    omega

theorem result68 (i : S1x512.Idx) : Read.val_main_v68 (F := Ideal) x0 x3 x5 i = gShift x0 x3 x5 (i 1) := by
  have h0 : (i 0).val < 1 := (i 0).isLt
  simp only [Read.val_main_v68_apply, Read.val_main_v67_apply, Read.val_main_cst_14_apply, at_dNorm]
  pointwise
  unfold gShift
  refine (by_chunks (fun k p => dNorm (rows x0 k) x3 (rows x5 k) p _)).trans ?_
  exact congrArg (gShift x0 x3 x5) (Fin.ext (by show (i 0).val * 512 + (i 1).val = (i 1).val; omega))

theorem at_gain (i : S8448x512.Idx) : Read.val_main_v69 (F := Ideal) x0 x3 x5 i
    = hat (rows x0 (chunkOf (i 0)) (within (i 0))) (i 1) * dNorm (rows x0 (chunkOf (i 0))) x3 (rows x5 (chunkOf (i 0))) (within (i 0)) (i 1) := by
  rw [Read.val_main_v69_apply, at_hat, at_dNorm]
  exact congrArg (fun k => hat k (i 1) * dNorm (rows x0 (chunkOf (i 0))) x3 (rows x5 (chunkOf (i 0))) (within (i 0)) (i 1)) (line_eq x0 (i 0))

theorem result71 (i : S1x512.Idx) : Read.val_main_v71 (F := Ideal) x0 x3 x5 i = gGain x0 x3 x5 (i 1) := by
  have h0 : (i 0).val < 1 := (i 0).isLt
  have e : Read.idx_main_v71 i 0 = i 1 := Fin.ext (by show (i 0).val * 512 + (i 1).val = (i 1).val; omega)
  rw [Read.val_main_v71_apply, Read.val_main_v70_apply, Read.val_main_cst_15_apply]
  simp only [at_gain]
  pointwise
  exact (by_chunks (fun k p => hat (rows x0 k p) (Read.idx_main_v71 i 0) * dNorm (rows x0 k) x3 (rows x5 k) p (Read.idx_main_v71 i 0))).trans
    (congrArg (gGain x0 x3 x5) e)

end Cert.GmlpBRefIdeal.Prod

namespace Cert

open Idealize.ShloMosaic Idealize.ShloMosaic.TcCoe Idealize.SL.Sem

theorem algebraic_gmlp_b : Cert.algebraic_GmlpBIdeal_GmlpBRefIdeal := by
  intro m g m' g' _ hm
  refine ⟨Cert.GmlpBIdeal.Prod.GRows m, Cert.GmlpBIdeal.Prod.GGain m, Cert.GmlpBIdeal.Prod.GShift m, Cert.GmlpBIdeal.Prod.GWeights m,
    Cert.GmlpBIdeal.Prod.GBias m,
    (θ_run Cert.GmlpBIdeal.defs _ _).mono (fun r h c => ⟨(h c).1.trans (Cert.GmlpBIdeal.Prod.result6 m c),
      (h c).2.1.trans (Cert.GmlpBIdeal.Prod.result7 m c), (h c).2.2.1.trans (Cert.GmlpBIdeal.Prod.result8 m c),
      (h c).2.2.2.1.trans (Cert.GmlpBIdeal.Prod.result9 m c), (h c).2.2.2.2.1.trans (Cert.GmlpBIdeal.Prod.result10 m c),
      (h c).2.2.2.2.2⟩) (Cert.GmlpBIdeal.Value.run_blocks (F := Ideal) m g), ?_⟩
  refine (θ_run Cert.GmlpBRefIdeal.defs _ _).mono (fun r h c => ?_) (Cert.GmlpBRefIdeal.Value.run (F := Ideal) m' g')
  have hr := h c
  have e108 := hr.1.trans ((Cert.GmlpBRefIdeal.Read.val_main_v108_eq (F := Ideal) (StableHlo.launchContents m' c)).trans (show _ = Cert.GmlpBRefIdeal.Read.val_main_v108 (F := Ideal)
    (m' ((c.tc : Thread Cert.GmlpBRefIdeal.nD Cert.GmlpBRefIdeal.τ).loc Cert.GmlpBRefIdeal.main_arg0))
    (m' ((c.tc : Thread Cert.GmlpBRefIdeal.nD Cert.GmlpBRefIdeal.τ).loc Cert.GmlpBRefIdeal.main_arg1))
    (m' ((c.tc : Thread Cert.GmlpBRefIdeal.nD Cert.GmlpBRefIdeal.τ).loc Cert.GmlpBRefIdeal.main_arg2))
    (m' ((c.tc : Thread Cert.GmlpBRefIdeal.nD Cert.GmlpBRefIdeal.τ).loc Cert.GmlpBRefIdeal.main_arg3))
    (m' ((c.tc : Thread Cert.GmlpBRefIdeal.nD Cert.GmlpBRefIdeal.τ).loc Cert.GmlpBRefIdeal.main_arg4))
    (m' ((c.tc : Thread Cert.GmlpBRefIdeal.nD Cert.GmlpBRefIdeal.τ).loc Cert.GmlpBRefIdeal.main_arg5)) from rfl))
  have e71 := hr.2.1.trans ((Cert.GmlpBRefIdeal.Read.val_main_v71_eq (F := Ideal) (StableHlo.launchContents m' c)).trans (show _ = Cert.GmlpBRefIdeal.Read.val_main_v71 (F := Ideal)
    (m' ((c.tc : Thread Cert.GmlpBRefIdeal.nD Cert.GmlpBRefIdeal.τ).loc Cert.GmlpBRefIdeal.main_arg0))
    (m' ((c.tc : Thread Cert.GmlpBRefIdeal.nD Cert.GmlpBRefIdeal.τ).loc Cert.GmlpBRefIdeal.main_arg3))
    (m' ((c.tc : Thread Cert.GmlpBRefIdeal.nD Cert.GmlpBRefIdeal.τ).loc Cert.GmlpBRefIdeal.main_arg5)) from rfl))
  have e68 := hr.2.2.1.trans ((Cert.GmlpBRefIdeal.Read.val_main_v68_eq (F := Ideal) (StableHlo.launchContents m' c)).trans (show _ = Cert.GmlpBRefIdeal.Read.val_main_v68 (F := Ideal)
    (m' ((c.tc : Thread Cert.GmlpBRefIdeal.nD Cert.GmlpBRefIdeal.τ).loc Cert.GmlpBRefIdeal.main_arg0))
    (m' ((c.tc : Thread Cert.GmlpBRefIdeal.nD Cert.GmlpBRefIdeal.τ).loc Cert.GmlpBRefIdeal.main_arg3))
    (m' ((c.tc : Thread Cert.GmlpBRefIdeal.nD Cert.GmlpBRefIdeal.τ).loc Cert.GmlpBRefIdeal.main_arg5)) from rfl))
  have e63 := hr.2.2.2.1.trans ((Cert.GmlpBRefIdeal.Read.val_main_v63_eq (F := Ideal) (StableHlo.launchContents m' c)).trans (show _ = Cert.GmlpBRefIdeal.Read.val_main_v63 (F := Ideal)
    (m' ((c.tc : Thread Cert.GmlpBRefIdeal.nD Cert.GmlpBRefIdeal.τ).loc Cert.GmlpBRefIdeal.main_arg0))
    (m' ((c.tc : Thread Cert.GmlpBRefIdeal.nD Cert.GmlpBRefIdeal.τ).loc Cert.GmlpBRefIdeal.main_arg1))
    (m' ((c.tc : Thread Cert.GmlpBRefIdeal.nD Cert.GmlpBRefIdeal.τ).loc Cert.GmlpBRefIdeal.main_arg2))
    (m' ((c.tc : Thread Cert.GmlpBRefIdeal.nD Cert.GmlpBRefIdeal.τ).loc Cert.GmlpBRefIdeal.main_arg5)) from rfl))
  have e60 := hr.2.2.2.2.1.trans ((Cert.GmlpBRefIdeal.Read.val_main_v60_eq (F := Ideal) (StableHlo.launchContents m' c)).trans (show _ = Cert.GmlpBRefIdeal.Read.val_main_v60 (F := Ideal)
    (m' ((c.tc : Thread Cert.GmlpBRefIdeal.nD Cert.GmlpBRefIdeal.τ).loc Cert.GmlpBRefIdeal.main_arg0))
    (m' ((c.tc : Thread Cert.GmlpBRefIdeal.nD Cert.GmlpBRefIdeal.τ).loc Cert.GmlpBRefIdeal.main_arg5)) from rfl))
  rw [(hm c).1, (hm c).2.1, (hm c).2.2.1, (hm c).2.2.2.1, (hm c).2.2.2.2.1, (hm c).2.2.2.2.2] at e108
  rw [(hm c).1, (hm c).2.2.2.1, (hm c).2.2.2.2.2] at e71
  rw [(hm c).1, (hm c).2.2.2.1, (hm c).2.2.2.2.2] at e68
  rw [(hm c).1, (hm c).2.1, (hm c).2.2.1, (hm c).2.2.2.2.2] at e63
  rw [(hm c).1, (hm c).2.2.2.2.2] at e60
  exact ⟨e108.trans (funext fun i => Cert.GmlpBRefIdeal.Prod.result108 _ _ _ _ _ _ i),
    e71.trans (funext fun i => Cert.GmlpBRefIdeal.Prod.result71 _ _ _ i),
    e68.trans (funext fun i => Cert.GmlpBRefIdeal.Prod.result68 _ _ _ i),
    e63.trans (funext fun i => Cert.GmlpBRefIdeal.Prod.result63 _ _ _ _ i),
    e60.trans (funext fun i => Cert.GmlpBRefIdeal.Prod.result60 _ _ i), hr.2.2.2.2.2⟩

end Cert

end
-- ==== Proof.OutB.lean ====
/- The gradient of the merged branches: the output product's input gradient. -/
module

public import proofs.«01_k».proof.Defs
public import proofs.«01_k».proof.Proof.Gen.OutBIdeal.Value
public import proofs.«01_k».proof.Proof.Gen.OutBRefIdeal.Run
public import proofs.«01_k».proof.Proof.Gen.OutBRefIdeal.Read
public import Idealize.ShloMosaic.Lib.Pointwise
public import Idealize.ShloMosaic.Lib.Pipeline.ValueKit

@[expose] public section

set_option maxRecDepth 16384

noncomputable section

namespace Cert.OutBIdeal.Prod

open Cert.OutBIdeal Cert.OutBIdeal.Gen Idealize.ShloMosaic Idealize.ShloMosaic.TcCoe Idealize.SL.Sem
open Idealize.ShloMosaic.Pipeline (Dat)

theorem pay_apply (x0 : Vec Ideal S768x2048 .bf16) (x1 : Vec Ideal S1024x2048 .bf16) (j : S768x1024.Idx) :
    k0_pay1 x1 x0 j = ∑ k : Fin 2048, x0 (ix2 (j 0) k) * x1 (ix2 (j 1) k) := by
  unfold k0_pay1
  pointwise

variable (m : (ℓ : Loc nD τ sig) → Buf (Elt Ideal) ℓ)

/-- The two operands, as arrays of extended reals. -/
abbrev arr0 (c : Dev nD) : S8448x2048.Idx → EReal := m ((c : Thread nD τ).loc main_arg0)
abbrev arr1 (c : Dev nD) : S2048x2048.Idx → EReal := m ((c : Thread nD τ).loc main_arg1)

/-- The whole result. -/
def G (x0 : S8448x2048.Idx → EReal) (x1 : S2048x2048.Idx → EReal) (i : S8448x2048.Idx) : EReal :=
  ∑ k : Fin 2048, x0 (ix2 (i 0) k) * x1 (ix2 (i 1) k)

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = win0_2.index t (1 : Fin 2) ∧ win0_1.index t (1 : Fin 2) = 0 :=
  (by decide +kernel : ∀ t : Fin grid0.N, _)

/-- Where a point's block of the result lies in it. -/
abbrev at2 (t : Fin cfg0.N) (y : S768x1024.Idx) : S8448x2048.Idx := ((View.whole main_v0).slice (win0_2.rect t)).emb y

theorem blk0 (c : Dev nD) (t : Fin cfg0.N) (y : S768x1024.Idx) (k : Fin 2048) :
    (iblk m c 0 t : Vec Ideal S768x2048 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 2048 + 1 * k.val = k.val; rw [e1]; omega

theorem blk1 (c : Dev nD) (t : Fin cfg0.N) (y : S768x1024.Idx) (k : Fin 2048) :
    (iblk m c 1 t : Vec Ideal S1024x2048 .bf16) (ix2 (y 1) k) = arr1 m c (ix2 (at2 t y 1) k) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * (y 1).val = win0_2.index t 1 * 1024 + 1 * (y 1).val; rw [e0]
  | ⟨1, _⟩ => show win0_1.index t 1 * 2048 + 1 * k.val = k.val; rw [e1]; omega

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.OutBIdeal.Prod

namespace Cert.OutBRefIdeal.Prod

open Cert.OutBRefIdeal Cert.OutBRefIdeal.Gen Idealize.ShloMosaic Idealize.ShloMosaic.TcCoe Idealize.SL.Sem
open Cert.OutBIdeal.Prod (G)

/-- The reference's result: the same sum. -/
theorem result (x0 : S8448x2048.Idx → EReal) (x1 : S2048x2048.Idx → EReal) (i : S8448x2048.Idx) :
    Read.val_main_v4 (F := Ideal) x0 x1 i = G x0 x1 i := by
  unfold G
  rw [Read.val_main_v4_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.OutBRefIdeal.Prod

namespace Cert

open Idealize.ShloMosaic Idealize.ShloMosaic.TcCoe Idealize.SL.Sem

theorem algebraic_out_b : Cert.algebraic_OutBIdeal_OutBRefIdeal := by
  intro m g m' g' _ hm
  refine ⟨fun c => Cert.OutBIdeal.Prod.G (m ((c.tc).loc Cert.OutBIdeal.main_arg0)) (m ((c.tc).loc Cert.OutBIdeal.main_arg1)),
    (θ_run Cert.OutBIdeal.defs _ _).mono (fun r h c => ⟨(h c).1.trans (Cert.OutBIdeal.Prod.result m c), (h c).2⟩) (Cert.OutBIdeal.Value.run_blocks (F := Ideal) m g), ?_⟩
  refine (θ_run Cert.OutBRefIdeal.defs _ _).mono (fun r h c => ⟨(h c).1.trans ?_, (h c).2⟩) (Cert.OutBRefIdeal.Value.run (F := Ideal) m' g')
  rw [(hm c).1, (hm c).2]
  funext i
  exact Cert.OutBRefIdeal.Prod.result _ _ i

end Cert

end
-- ==== Proof.OutW.lean ====
/- The weight gradient of the output product. -/
module

public import proofs.«01_k».proof.Proof.Tiles
public import proofs.«01_k».proof.Defs
public import proofs.«01_k».proof.Proof.Gen.OutWIdeal.Value
public import proofs.«01_k».proof.Proof.Gen.OutWRefIdeal.Run
public import proofs.«01_k».proof.Proof.Gen.OutWRefIdeal.Read
public import Idealize.ShloMosaic.Lib.Pointwise

@[expose] public section

set_option maxRecDepth 16384

noncomputable section

namespace Cert.OutWIdeal.Prod

open Cert.OutWIdeal Cert.OutWIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S1408x1024 .bf16) (x1 : Vec Ideal S1408x2048 .bf16) (j : S1024x2048.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The products of the two arrays' columns `i 0` and `i 1`, row by row. -/
def term (x0 : S8448x2048.Idx → EReal) (x1 : S8448x2048.Idx → EReal) (i : S2048x2048.Idx) (κ : Fin 8448) : EReal :=
  x0 (ix2 κ (i 0)) * x1 (ix2 κ (i 1))

/-- The two operands, as arrays of extended reals. -/
abbrev arr0 (c : Dev nD) : S8448x2048.Idx → EReal := m ((c : Thread nD τ).loc main_arg0)
abbrev arr1 (c : Dev nD) : S8448x2048.Idx → EReal := m ((c : Thread nD τ).loc main_arg1)

theorem idx0 : ∀ t : Fin cfg0.N, win0_0.index t (0 : Fin 2) = t.val % 6 ∧ win0_0.index t (1 : Fin 2) = t.val / 6 :=
  (by decide +kernel : ∀ t : Fin grid0.N, _)

theorem idx1 : ∀ t : Fin cfg0.N, win0_1.index t (0 : Fin 2) = t.val % 6 ∧ win0_1.index t (1 : Fin 2) = 0 :=
  (by decide +kernel : ∀ t : Fin grid0.N, _)

theorem blk0 (c : Dev nD) (t : Fin cfg0.N) (k : Fin 1408) (r : Fin 1024) (κ : Fin 8448) (ρ : Fin 2048)
    (hk : κ.val = t.val % 6 * 1408 + k.val) (hr : ρ.val = t.val / 6 * 1024 + r.val) :
    (iblk m c 0 t : Vec Ideal S1408x1024 .bf16) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 1024 + 1 * r.val = ρ.val; rw [e1, hr]; omega

theorem blk1 (c : Dev nD) (t : Fin cfg0.N) (k : Fin 1408) (r : Fin 2048) (κ : Fin 8448) (ρ : Fin 2048)
    (hk : κ.val = t.val % 6 * 1408 + k.val) (hr : ρ.val = r.val) :
    (iblk m c 1 t : Vec Ideal S1408x2048 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 2048 + 1 * r.val = ρ.val; rw [e1, hr]; omega

/-- A point's part: the product of its two blocks. -/
def part (c : Dev nD) (t : Fin cfg0.N) : Vec Ideal S1024x2048 .f32 := k0_pay1 (F := Ideal) (iblk m c 1 t) (iblk m c 0 t)

theorem part_apply (c : Dev nD) (t : Fin cfg0.N) (y : S1024x2048.Idx) (i : S2048x2048.Idx) (s : ℕ) (hs : s < 6) (ht : t.val % 6 = s)
    (h0 : (i 0).val = t.val / 6 * 1024 + (y 0).val) (h1 : (i 1).val = (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (i 0) rfl h0) (blk1 m c t k (y 1) _ (i 1) rfl h1)

/-- The first point of a run leaves its part in the scratch. -/
theorem scratch_A (c : Dev nD) (t : Fin cfg0.N) (h : t.val % 6 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x1024) hz, View.ld_unit_zero (S := S1408x2048) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x1024) hz, View.ld_unit_zero (S := S1408x2048) hz, View.ld_unit_zero (S := S1024x2048) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S1024x2048) _ hz]
  unfold k0_pay3 part
  simp only [View.readAt_eq_ld, (hs0_0 _).read_unread, (hs0_1 _).read_unread, (Memref.isWhole_whole _).read_unread, View.ld_unit_zero (S := S1408x1024) hz, View.ld_unit_zero (S := S1408x2048) hz, View.ld_unit_zero (S := S1024x2048) hz, shapeCast_self]
  rfl

/-- The kernel's result: at every element the whole sum. -/
theorem result (c : Dev nD) (i : S2048x2048.Idx) :
    (Value.G2 m c : S2048x2048.Idx → EReal) i = ∑ κ, term (arr0 m c) (arr1 m c) i κ := by
  have b0 : (i 0).val < 2048 := (i 0).isLt
  have b1 : (i 1).val < 2048 := (i 1).isLt
  have hN : cfg0.N = 12 := N_0
  have hp : Value.pt2Of i = 6 * ((i 0).val / 1024) + (6 - 1) := by
    show 6 * (1 * ((i 0).val / 1024 - 0) + 1 * ((i 1).val / 2048 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (Value.loc2Of i)) (fun n h => (outsAt0 m c n h).1 (Value.loc2Of i))
    (fun n h => part m c ⟨n, h⟩ (Value.loc2Of i)) ((i 0).val / 1024) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (6 * ((i 0).val / 1024) + s.val) / 6 * 1024 + (i 0).val % 1024; omega)
      (by show (i 1).val = (i 1).val % 2048; omega)

end Cert.OutWIdeal.Prod

namespace Cert.OutWRefIdeal.Prod

open Cert.OutWRefIdeal Cert.OutWRefIdeal.Gen Idealize.ShloMosaic Idealize.ShloMosaic.TcCoe Idealize.SL.Sem

/-- The reference's result: the same sum. -/
theorem result (x0 : S8448x2048.Idx → EReal) (x1 : S8448x2048.Idx → EReal) (i : S2048x2048.Idx) :
    Read.val_main_v5 (F := Ideal) x0 x1 i = ∑ κ : Fin 8448, x0 (ix2 κ (i 0)) * x1 (ix2 κ (i 1)) := by
  rw [Read.val_main_v5_apply, Read.val_main_v4_apply]
  refine Finset.sum_congr rfl fun κ _ => ?_
  rw [mul_comm]
  refine congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.OutWRefIdeal.Prod

namespace Cert

open Idealize.ShloMosaic Idealize.ShloMosaic.TcCoe Idealize.SL.Sem

theorem algebraic_out_w : Cert.algebraic_OutWIdeal_OutWRefIdeal := by
  intro m g m' g' _ hm
  refine ⟨fun c => Cert.OutWIdeal.Value.G2 m c, Cert.OutWIdeal.Value.run m g, ?_⟩
  refine (θ_run Cert.OutWRefIdeal.defs _ _).mono (fun r h c => ⟨(h c).1.trans ?_, (h c).2⟩) (Cert.OutWRefIdeal.Value.run (F := Ideal) m' g')
  rw [(hm c).1, (hm c).2]
  funext i
  exact (Cert.OutWRefIdeal.Prod.result _ _ i).trans (Cert.OutWIdeal.Prod.result m c i).symm

end Cert

end
-- ==== Proof.BranchB.lean ====
/- The gradient of a branch: its product's input gradient. -/
module

public import proofs.«01_k».proof.Defs
public import proofs.«01_k».proof.Proof.Gen.BranchBIdeal.Value
public import proofs.«01_k».proof.Proof.Gen.BranchBRefIdeal.Run
public import proofs.«01_k».proof.Proof.Gen.BranchBRefIdeal.Read
public import Idealize.ShloMosaic.Lib.Pointwise
public import Idealize.ShloMosaic.Lib.Pipeline.ValueKit

@[expose] public section

set_option maxRecDepth 16384

noncomputable section

namespace Cert.BranchBIdeal.Prod

open Cert.BranchBIdeal Cert.BranchBIdeal.Gen Idealize.ShloMosaic Idealize.ShloMosaic.TcCoe Idealize.SL.Sem
open Idealize.ShloMosaic.Pipeline (Dat)

theorem pay_apply (x0 : Vec Ideal S768x2048 .bf16) (x1 : Vec Ideal S512x2048 .bf16) (j : S768x512.Idx) :
    k0_pay1 x1 x0 j = ∑ k : Fin 2048, x0 (ix2 (j 0) k) * x1 (ix2 (j 1) k) := by
  unfold k0_pay1
  pointwise

variable (m : (ℓ : Loc nD τ sig) → Buf (Elt Ideal) ℓ)

/-- The two operands, as arrays of extended reals. -/
abbrev arr0 (c : Dev nD) : S8448x2048.Idx → EReal := m ((c : Thread nD τ).loc main_arg0)
abbrev arr1 (c : Dev nD) : S512x2048.Idx → EReal := m ((c : Thread nD τ).loc main_arg1)

/-- The whole result. -/
def G (x0 : S8448x2048.Idx → EReal) (x1 : S512x2048.Idx → EReal) (i : S8448x512.Idx) : EReal :=
  ∑ k : Fin 2048, x0 (ix2 (i 0) k) * x1 (ix2 (i 1) k)

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = win0_2.index t (1 : Fin 2) ∧ win0_1.index t (1 : Fin 2) = 0 :=
  (by decide +kernel : ∀ t : Fin grid0.N, _)

/-- Where a point's block of the result lies in it. -/
abbrev at2 (t : Fin cfg0.N) (y : S768x512.Idx) : S8448x512.Idx := ((View.whole main_v0).slice (win0_2.rect t)).emb y

theorem blk0 (c : Dev nD) (t : Fin cfg0.N) (y : S768x512.Idx) (k : Fin 2048) :
    (iblk m c 0 t : Vec Ideal S768x2048 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 2048 + 1 * k.val = k.val; rw [e1]; omega

theorem blk1 (c : Dev nD) (t : Fin cfg0.N) (y : S768x512.Idx) (k : Fin 2048) :
    (iblk m c 1 t : Vec Ideal S512x2048 .bf16) (ix2 (y 1) k) = arr1 m c (ix2 (at2 t y 1) k) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 512 + 1 * (y 1).val = win0_2.index t 1 * 512 + 1 * (y 1).val; rw [e0]
  | ⟨1, _⟩ => show win0_1.index t 1 * 2048 + 1 * k.val = k.val; rw [e1]; omega

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.BranchBIdeal.Prod

namespace Cert.BranchBRefIdeal.Prod

open Cert.BranchBRefIdeal Cert.BranchBRefIdeal.Gen Idealize.ShloMosaic Idealize.ShloMosaic.TcCoe Idealize.SL.Sem
open Cert.BranchBIdeal.Prod (G)

/-- The reference's result: the same sum. -/
theorem result (x0 : S8448x2048.Idx → EReal) (x1 : S512x2048.Idx → EReal) (i : S8448x512.Idx) :
    Read.val_main_v4 (F := Ideal) x0 x1 i = G x0 x1 i := by
  unfold G
  rw [Read.val_main_v4_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.BranchBRefIdeal.Prod

namespace Cert

open Idealize.ShloMosaic Idealize.ShloMosaic.TcCoe Idealize.SL.Sem

theorem algebraic_branch_b : Cert.algebraic_BranchBIdeal_BranchBRefIdeal := by
  intro m g m' g' _ hm
  refine ⟨fun c => Cert.BranchBIdeal.Prod.G (m ((c.tc).loc Cert.BranchBIdeal.main_arg0)) (m ((c.tc).loc Cert.BranchBIdeal.main_arg1)),
    (θ_run Cert.BranchBIdeal.defs _ _).mono (fun r h c => ⟨(h c).1.trans (Cert.BranchBIdeal.Prod.result m c), (h c).2⟩) (Cert.BranchBIdeal.Value.run_blocks (F := Ideal) m g), ?_⟩
  refine (θ_run Cert.BranchBRefIdeal.defs _ _).mono (fun r h c => ⟨(h c).1.trans ?_, (h c).2⟩) (Cert.BranchBRefIdeal.Value.run (F := Ideal) m' g')
  rw [(hm c).1, (hm c).2]
  funext i
  exact Cert.BranchBRefIdeal.Prod.result _ _ i

end Cert

end
-- ==== Proof.BranchW.lean ====
/- The weight gradient of a branch's product. -/
module

public import proofs.«01_k».proof.Proof.Tiles
public import proofs.«01_k».proof.Defs
public import proofs.«01_k».proof.Proof.Gen.BranchWIdeal.Value
public import proofs.«01_k».proof.Proof.Gen.BranchWRefIdeal.Run
public import proofs.«01_k».proof.Proof.Gen.BranchWRefIdeal.Read
public import Idealize.ShloMosaic.Lib.Pointwise

@[expose] public section

set_option maxRecDepth 16384

noncomputable section

namespace Cert.BranchWIdeal.Prod

open Cert.BranchWIdeal Cert.BranchWIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S1408x512 .bf16) (x1 : Vec Ideal S1408x2048 .bf16) (j : S512x2048.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The products of the two arrays' columns `i 0` and `i 1`, row by row. -/
def term (x0 : S8448x512.Idx → EReal) (x1 : S8448x2048.Idx → EReal) (i : S512x2048.Idx) (κ : Fin 8448) : EReal :=
  x0 (ix2 κ (i 0)) * x1 (ix2 κ (i 1))

/-- The two operands, as arrays of extended reals. -/
abbrev arr0 (c : Dev nD) : S8448x512.Idx → EReal := m ((c : Thread nD τ).loc main_arg0)
abbrev arr1 (c : Dev nD) : S8448x2048.Idx → EReal := m ((c : Thread nD τ).loc main_arg1)

theorem idx0 : ∀ t : Fin cfg0.N, win0_0.index t (0 : Fin 2) = t.val % 6 ∧ win0_0.index t (1 : Fin 2) = t.val / 6 :=
  (by decide +kernel : ∀ t : Fin grid0.N, _)

theorem idx1 : ∀ t : Fin cfg0.N, win0_1.index t (0 : Fin 2) = t.val % 6 ∧ win0_1.index t (1 : Fin 2) = 0 :=
  (by decide +kernel : ∀ t : Fin grid0.N, _)

theorem blk0 (c : Dev nD) (t : Fin cfg0.N) (k : Fin 1408) (r : Fin 512) (κ : Fin 8448) (ρ : Fin 512)
    (hk : κ.val = t.val % 6 * 1408 + k.val) (hr : ρ.val = t.val / 6 * 512 + r.val) :
    (iblk m c 0 t : Vec Ideal S1408x512 .bf16) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 512 + 1 * r.val = ρ.val; rw [e1, hr]; omega

theorem blk1 (c : Dev nD) (t : Fin cfg0.N) (k : Fin 1408) (r : Fin 2048) (κ : Fin 8448) (ρ : Fin 2048)
    (hk : κ.val = t.val % 6 * 1408 + k.val) (hr : ρ.val = r.val) :
    (iblk m c 1 t : Vec Ideal S1408x2048 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 2048 + 1 * r.val = ρ.val; rw [e1, hr]; omega

/-- A point's part: the product of its two blocks. -/
def part (c : Dev nD) (t : Fin cfg0.N) : Vec Ideal S512x2048 .f32 := k0_pay1 (F := Ideal) (iblk m c 1 t) (iblk m c 0 t)

theorem part_apply (c : Dev nD) (t : Fin cfg0.N) (y : S512x2048.Idx) (i : S512x2048.Idx) (s : ℕ) (hs : s < 6) (ht : t.val % 6 = s)
    (h0 : (i 0).val = t.val / 6 * 512 + (y 0).val) (h1 : (i 1).val = (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (i 0) rfl h0) (blk1 m c t k (y 1) _ (i 1) rfl h1)

/-- The first point of a run leaves its part in the scratch. -/
theorem scratch_A (c : Dev nD) (t : Fin cfg0.N) (h : t.val % 6 = 0) : (outsAt0 m c t.val t.isLt).2 = part m c t := by
  have hN : cfg0.N = 6 := N_0
  have ht := t.isLt
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x512) hz, View.ld_unit_zero (S := S1408x2048) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x512) hz, View.ld_unit_zero (S := S1408x2048) hz, View.ld_unit_zero (S := S512x2048) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S512x2048) _ hz]
  unfold k0_pay3 part
  simp only [View.readAt_eq_ld, (hs0_0 _).read_unread, (hs0_1 _).read_unread, (Memref.isWhole_whole _).read_unread, View.ld_unit_zero (S := S1408x512) hz, View.ld_unit_zero (S := S1408x2048) hz, View.ld_unit_zero (S := S512x2048) hz, shapeCast_self]
  rfl

/-- The kernel's result: at every element the whole sum. -/
theorem result (c : Dev nD) (i : S512x2048.Idx) :
    (Value.G2 m c : S512x2048.Idx → EReal) i = ∑ κ, term (arr0 m c) (arr1 m c) i κ := by
  have b0 : (i 0).val < 512 := (i 0).isLt
  have b1 : (i 1).val < 2048 := (i 1).isLt
  have hN : cfg0.N = 6 := N_0
  have hp : Value.pt2Of i = 6 * ((i 0).val / 512) + (6 - 1) := by
    show 6 * (1 * ((i 0).val / 512 - 0) + 1 * ((i 1).val / 2048 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (Value.loc2Of i)) (fun n h => (outsAt0 m c n h).1 (Value.loc2Of i))
    (fun n h => part m c ⟨n, h⟩ (Value.loc2Of i)) ((i 0).val / 512) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (6 * ((i 0).val / 512) + s.val) / 6 * 512 + (i 0).val % 512; omega)
      (by show (i 1).val = (i 1).val % 2048; omega)

end Cert.BranchWIdeal.Prod

namespace Cert.BranchWRefIdeal.Prod

open Cert.BranchWRefIdeal Cert.BranchWRefIdeal.Gen Idealize.ShloMosaic Idealize.ShloMosaic.TcCoe Idealize.SL.Sem

/-- The reference's result: the same sum. -/
theorem result (x0 : S8448x512.Idx → EReal) (x1 : S8448x2048.Idx → EReal) (i : S512x2048.Idx) :
    Read.val_main_v5 (F := Ideal) x0 x1 i = ∑ κ : Fin 8448, x0 (ix2 κ (i 0)) * x1 (ix2 κ (i 1)) := by
  rw [Read.val_main_v5_apply, Read.val_main_v4_apply]
  refine Finset.sum_congr rfl fun κ _ => ?_
  rw [mul_comm]
  refine congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.BranchWRefIdeal.Prod

namespace Cert

open Idealize.ShloMosaic Idealize.ShloMosaic.TcCoe Idealize.SL.Sem

theorem algebraic_branch_w : Cert.algebraic_BranchWIdeal_BranchWRefIdeal := by
  intro m g m' g' _ hm
  refine ⟨fun c => Cert.BranchWIdeal.Value.G2 m c, Cert.BranchWIdeal.Value.run m g, ?_⟩
  refine (θ_run Cert.BranchWRefIdeal.defs _ _).mono (fun r h c => ⟨(h c).1.trans ?_, (h c).2⟩) (Cert.BranchWRefIdeal.Value.run (F := Ideal) m' g')
  rw [(hm c).1, (hm c).2]
  funext i
  exact (Cert.BranchWRefIdeal.Prod.result _ _ i).trans (Cert.BranchWIdeal.Prod.result m c i).symm

end Cert

end
-- ==== Proof.InB.lean ====
/- The gradient of the normed rows: the input product's input gradient, added to what the gates send back. -/
module

public import proofs.«01_k».proof.Proof.Tiles
public import proofs.«01_k».proof.Defs
public import proofs.«01_k».proof.Proof.Gen.InBIdeal.Value
public import proofs.«01_k».proof.Proof.Gen.InBRefIdeal.Run
public import proofs.«01_k».proof.Proof.Gen.InBRefIdeal.Read
public import Idealize.ShloMosaic.Lib.Pointwise

@[expose] public section

set_option maxRecDepth 16384

noncomputable section

namespace Cert.InBIdeal.Prod

open Cert.InBIdeal Cert.InBIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S768x1664 .bf16) (x1 : Vec Ideal S1024x1664 .bf16) (j : S768x1024.Idx) :
    k0_pay1 x1 x0 j = ∑ k : Fin 1664, x0 (ix2 (j 0) k) * x1 (ix2 (j 1) k) := by
  unfold k0_pay1
  pointwise

variable (m : (ℓ : Loc nD τ sig) → Buf (Elt Ideal) ℓ)

/-- The products of the two arrays' rows `i 0` and `i 1`, column by column. -/
def term (x0 : S8448x3328.Idx → EReal) (x1 : S2048x3328.Idx → EReal) (i : S8448x2048.Idx) (κ : Fin 3328) : EReal :=
  x0 (ix2 (i 0) κ) * x1 (ix2 (i 1) κ)

/-- The three operands, as arrays of extended reals. -/
abbrev arr0 (c : Dev nD) : S8448x3328.Idx → EReal := m ((c : Thread nD τ).loc main_arg0)
abbrev arr1 (c : Dev nD) : S2048x3328.Idx → EReal := m ((c : Thread nD τ).loc main_arg1)
abbrev arr2 (c : Dev nD) : S8448x2048.Idx → EReal := m ((c : Thread nD τ).loc main_arg2)

theorem idx0 : ∀ t : Fin cfg0.N, win0_0.index t (0 : Fin 2) = t.val / 4 ∧ win0_0.index t (1 : Fin 2) = t.val % 2 :=
  (by decide +kernel : ∀ t : Fin grid0.N, _)

theorem idx1 : ∀ t : Fin cfg0.N, win0_1.index t (0 : Fin 2) = t.val / 2 % 2 ∧ win0_1.index t (1 : Fin 2) = t.val % 2 :=
  (by decide +kernel : ∀ t : Fin grid0.N, _)

theorem idx2 : ∀ t : Fin cfg0.N, win0_2.index t (0 : Fin 2) = t.val / 4 ∧ win0_2.index t (1 : Fin 2) = t.val / 2 % 2 :=
  (by decide +kernel : ∀ t : Fin grid0.N, _)

theorem blk0 (c : Dev nD) (t : Fin cfg0.N) (r : Fin 768) (k : Fin 1664) (ρ : Fin 8448) (κ : Fin 3328)
    (hr : ρ.val = t.val / 4 * 768 + r.val) (hk : κ.val = t.val % 2 * 1664 + k.val) :
    (iblk m c 0 t : Vec Ideal S768x1664 .bf16) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * r.val = ρ.val; rw [e0, hr]; omega
  | ⟨1, _⟩ => show win0_0.index t 1 * 1664 + 1 * k.val = κ.val; rw [e1, hk]; omega

theorem blk1 (c : Dev nD) (t : Fin cfg0.N) (r : Fin 1024) (k : Fin 1664) (ρ : Fin 2048) (κ : Fin 3328)
    (hr : ρ.val = t.val / 2 % 2 * 1024 + r.val) (hk : κ.val = t.val % 2 * 1664 + k.val) :
    (iblk m c 1 t : Vec Ideal S1024x1664 .bf16) (ix2 r k) = arr1 m c (ix2 ρ κ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * r.val = ρ.val; rw [e0, hr]; omega
  | ⟨1, _⟩ => show win0_1.index t 1 * 1664 + 1 * k.val = κ.val; rw [e1, hk]; omega

theorem blk2 (c : Dev nD) (t : Fin cfg0.N) (y : S768x1024.Idx) (i : S8448x2048.Idx)
    (h0 : (i 0).val = t.val / 4 * 768 + (y 0).val) (h1 : (i 1).val = t.val / 2 % 2 * 1024 + (y 1).val) :
    (iblk m c 2 t : Vec Ideal S768x1024 .f32) y = arr2 m c i := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 768 + 1 * (y 0).val = (i 0).val; rw [e0, h0]; omega
  | ⟨1, _⟩ => show win0_2.index t 1 * 1024 + 1 * (y 1).val = (i 1).val; rw [e1, h1]; omega

/-- A point's part: the product of its two blocks. -/
def part (c : Dev nD) (t : Fin cfg0.N) : Vec Ideal S768x1024 .f32 := k0_pay1 (F := Ideal) (iblk m c 1 t) (iblk m c 0 t)

theorem part_apply (c : Dev nD) (t : Fin cfg0.N) (y : S768x1024.Idx) (i : S8448x2048.Idx) (s : ℕ) (hs : s < 2) (ht : t.val % 2 = s)
    (h0 : (i 0).val = t.val / 4 * 768 + (y 0).val) (h1 : (i 1).val = t.val / 2 % 2 * 1024 + (y 1).val) :
    (part m c t y : EReal) = ∑ k : Fin 1664, term (arr0 m c) (arr1 m c) i ⟨s * 1664 + k.val, Tiles.tile_lt (J := 2) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a pair leaves its part in the scratch. -/
theorem scratch_A (c : Dev nD) (t : Fin cfg0.N) (h : t.val % 2 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S768x1664) hz, View.ld_unit_zero (S := S1024x1664) hz, shapeCast_self]

/-- The second stores the scratch with its own part added, and the block of the third operand. -/
theorem stored_B (c : Dev nD) (n : ℕ) (hn : n + 1 < cfg0.N) (h : (n + 1) % 2 = 1) :
    (outsAt0 m c (n + 1) hn).1 = addf (F := Ideal) (φ := .f32)
      (addf (F := Ideal) (φ := .f32) (outsAt0 m c n (Nat.lt_of_succ_lt hn)).2 (part m c ⟨n + 1, hn⟩)) (iblk m c 2 ⟨n + 1, hn⟩) := by
  rw [outsAt0_B m c ⟨n + 1, hn⟩ (by dsimp only; omega) h h]
  dsimp only
  unfold out0_B_3
  rw [View.read_writes_eq_canon _ _ _ (fun _ => cover0_B_3 ..)]
  unfold kernelRun0_B
  dsimp only
  sl_unfold_words
  rw [View.canon_unit_zero hz, View.readCov_unit_zero (S := S768x1024) _ hz]
  unfold k0_pay4 k0_pay3 part
  simp only [View.readAt_eq_ld, (hs0_0 _).read_unread, (hs0_1 _).read_unread, (hs0_2 _).read_unread, (Memref.isWhole_whole _).read_unread, View.ld_unit_zero (S := S768x1664) hz, View.ld_unit_zero (S := S1024x1664) hz, View.ld_unit_zero (S := S768x1024) hz, shapeCast_self]
  rfl

/-- The kernel's result: at every element the whole sum, and the third operand. -/
theorem result (c : Dev nD) (i : S8448x2048.Idx) :
    (Value.G3 m c : S8448x2048.Idx → EReal) i = (∑ κ, term (arr0 m c) (arr1 m c) i κ) + arr2 m c i := by
  have b0 : (i 0).val < 8448 := (i 0).isLt
  have b1 : (i 1).val < 2048 := (i 1).isLt
  have hN : cfg0.N = 44 := N_0
  obtain ⟨q, hq⟩ : ∃ q, q = 2 * ((i 0).val / 768) + (i 1).val / 1024 := ⟨_, rfl⟩
  have hp : Value.pt3Of i = 2 * q + 1 := by
    show 2 * (2 * ((i 0).val / 768 - 0) + 1 * ((i 1).val / 1024 - 0)) + 1 = _
    omega
  have hlt : 2 * q + 1 < cfg0.N := by omega
  have h0 : ∀ s, s < 2 → (i 0).val = (2 * q + s) / 4 * 768 + (Value.loc3Of i 0).val := fun s hs => by
    show (i 0).val = (2 * q + s) / 4 * 768 + (i 0).val % 768
    omega
  have h1 : ∀ s, s < 2 → (i 1).val = (2 * q + s) / 2 % 2 * 1024 + (Value.loc3Of i 1).val := fun s hs => by
    show (i 1).val = (2 * q + s) / 2 % 2 * 1024 + (i 1).val % 1024
    omega
  unfold Value.G3
  simp only [hp]
  rw [dif_pos hlt, ← Value.outsAt0_sweep m c _ hlt]
  refine (congrFun (stored_B m c (2 * q) hlt (by omega)) _).trans ?_
  refine congrArg₂ (· + ·) ?_ (blk2 m c ⟨2 * q + 1, hlt⟩ (Value.loc3Of i) i (h0 1 (by decide)) (h1 1 (by decide)))
  rw [← Tiles.sum_tiles (J := 2) (TK := 1664) (K := 3328) (by decide), Fin.sum_univ_two]
  refine congrArg₂ (· + ·) ?_ (part_apply m c ⟨2 * q + 1, hlt⟩ (Value.loc3Of i) i 1 (by decide) (by dsimp only; omega) (h0 1 (by decide)) (h1 1 (by decide)))
  exact (congrFun (scratch_A m c ⟨2 * q, by omega⟩ (by dsimp only; omega)) _).trans
    (part_apply m c ⟨2 * q, by omega⟩ (Value.loc3Of i) i 0 (by decide) (by dsimp only; omega) (h0 0 (by decide)) (h1 0 (by decide)))

end Cert.InBIdeal.Prod

namespace Cert.InBRefIdeal.Prod

open Cert.InBRefIdeal Cert.InBRefIdeal.Gen Idealize.ShloMosaic Idealize.ShloMosaic.TcCoe Idealize.SL.Sem

/-- The reference's result: the same sum. -/
theorem result (x0 : S8448x3328.Idx → EReal) (x1 : S2048x3328.Idx → EReal) (x2 : S8448x2048.Idx → EReal) (i : S8448x2048.Idx) :
    Read.val_main_v5 (F := Ideal) x0 x1 x2 i = (∑ κ : Fin 3328, x0 (ix2 (i 0) κ) * x1 (ix2 (i 1) κ)) + x2 i := by
  rw [Read.val_main_v5_apply, Read.val_main_v4_apply]
  refine (add_comm _ _).trans (congrArg (· + x2 i) ?_)
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.InBRefIdeal.Prod

namespace Cert

open Idealize.ShloMosaic Idealize.ShloMosaic.TcCoe Idealize.SL.Sem

theorem algebraic_in_b : Cert.algebraic_InBIdeal_InBRefIdeal := by
  intro m g m' g' _ hm
  refine ⟨fun c => Cert.InBIdeal.Value.G3 m c, Cert.InBIdeal.Value.run m g, ?_⟩
  refine (θ_run Cert.InBRefIdeal.defs _ _).mono (fun r h c => ⟨(h c).1.trans ?_, (h c).2⟩) (Cert.InBRefIdeal.Value.run (F := Ideal) m' g')
  rw [(hm c).1, (hm c).2.1, (hm c).2.2]
  funext i
  exact (Cert.InBRefIdeal.Prod.result _ _ _ i).trans (Cert.InBIdeal.Prod.result m c i).symm

end Cert

end
-- ==== Proof.InW.lean ====
/- The weight gradient of the input product. -/
module

public import proofs.«01_k».proof.Proof.Tiles
public import proofs.«01_k».proof.Defs
public import proofs.«01_k».proof.Proof.Gen.InWIdeal.Value
public import proofs.«01_k».proof.Proof.Gen.InWRefIdeal.Run
public import proofs.«01_k».proof.Proof.Gen.InWRefIdeal.Read
public import Idealize.ShloMosaic.Lib.Pointwise

@[expose] public section

set_option maxRecDepth 16384

noncomputable section

namespace Cert.InWIdeal.Prod

open Cert.InWIdeal Cert.InWIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S1408x1024 .bf16) (x1 : Vec Ideal S1408x1664 .bf16) (j : S1024x1664.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The products of the two arrays' columns `i 0` and `i 1`, row by row. -/
def term (x0 : S8448x2048.Idx → EReal) (x1 : S8448x3328.Idx → EReal) (i : S2048x3328.Idx) (κ : Fin 8448) : EReal :=
  x0 (ix2 κ (i 0)) * x1 (ix2 κ (i 1))

/-- The two operands, as arrays of extended reals. -/
abbrev arr0 (c : Dev nD) : S8448x2048.Idx → EReal := m ((c : Thread nD τ).loc main_arg0)
abbrev arr1 (c : Dev nD) : S8448x3328.Idx → EReal := m ((c : Thread nD τ).loc main_arg1)

theorem idx0 : ∀ t : Fin cfg0.N, win0_0.index t (0 : Fin 2) = t.val % 6 ∧ win0_0.index t (1 : Fin 2) = t.val / 12 :=
  (by decide +kernel : ∀ t : Fin grid0.N, _)

theorem idx1 : ∀ t : Fin cfg0.N, win0_1.index t (0 : Fin 2) = t.val % 6 ∧ win0_1.index t (1 : Fin 2) = t.val / 6 % 2 :=
  (by decide +kernel : ∀ t : Fin grid0.N, _)

theorem blk0 (c : Dev nD) (t : Fin cfg0.N) (k : Fin 1408) (r : Fin 1024) (κ : Fin 8448) (ρ : Fin 2048)
    (hk : κ.val = t.val % 6 * 1408 + k.val) (hr : ρ.val = t.val / 12 * 1024 + r.val) :
    (iblk m c 0 t : Vec Ideal S1408x1024 .bf16) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 1024 + 1 * r.val = ρ.val; rw [e1, hr]; omega

theorem blk1 (c : Dev nD) (t : Fin cfg0.N) (k : Fin 1408) (r : Fin 1664) (κ : Fin 8448) (ρ : Fin 3328)
    (hk : κ.val = t.val % 6 * 1408 + k.val) (hr : ρ.val = t.val / 6 % 2 * 1664 + r.val) :
    (iblk m c 1 t : Vec Ideal S1408x1664 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 1664 + 1 * r.val = ρ.val; rw [e1, hr]; omega

/-- A point's part: the product of its two blocks. -/
def part (c : Dev nD) (t : Fin cfg0.N) : Vec Ideal S1024x1664 .f32 := k0_pay1 (F := Ideal) (iblk m c 1 t) (iblk m c 0 t)

theorem part_apply (c : Dev nD) (t : Fin cfg0.N) (y : S1024x1664.Idx) (i : S2048x3328.Idx) (s : ℕ) (hs : s < 6) (ht : t.val % 6 = s)
    (h0 : (i 0).val = t.val / 12 * 1024 + (y 0).val) (h1 : (i 1).val = t.val / 6 % 2 * 1664 + (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (i 0) rfl h0) (blk1 m c t k (y 1) _ (i 1) rfl h1)

/-- The first point of a run leaves its part in the scratch. -/
theorem scratch_A (c : Dev nD) (t : Fin cfg0.N) (h : t.val % 6 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x1024) hz, View.ld_unit_zero (S := S1408x1664) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x1024) hz, View.ld_unit_zero (S := S1408x1664) hz, View.ld_unit_zero (S := S1024x1664) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S1024x1664) _ hz]
  unfold k0_pay3 part
  simp only [View.readAt_eq_ld, (hs0_0 _).read_unread, (hs0_1 _).read_unread, (Memref.isWhole_whole _).read_unread, View.ld_unit_zero (S := S1408x1024) hz, View.ld_unit_zero (S := S1408x1664) hz, View.ld_unit_zero (S := S1024x1664) hz, shapeCast_self]
  rfl

/-- The kernel's result: at every element the whole sum. -/
theorem result (c : Dev nD) (i : S2048x3328.Idx) :
    (Value.G2 m c : S2048x3328.Idx → EReal) i = ∑ κ, term (arr0 m c) (arr1 m c) i κ := by
  have b0 : (i 0).val < 2048 := (i 0).isLt
  have b1 : (i 1).val < 3328 := (i 1).isLt
  have hN : cfg0.N = 24 := N_0
  have hp : Value.pt2Of i = 6 * (2 * ((i 0).val / 1024) + (i 1).val / 1664) + (6 - 1) := by
    show 6 * (2 * ((i 0).val / 1024 - 0) + 1 * ((i 1).val / 1664 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (Value.loc2Of i)) (fun n h => (outsAt0 m c n h).1 (Value.loc2Of i))
    (fun n h => part m c ⟨n, h⟩ (Value.loc2Of i)) (2 * ((i 0).val / 1024) + (i 1).val / 1664) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (6 * (2 * ((i 0).val / 1024) + (i 1).val / 1664) + s.val) / 12 * 1024 + (i 0).val % 1024; omega)
      (by show (i 1).val = (6 * (2 * ((i 0).val / 1024) + (i 1).val / 1664) + s.val) / 6 % 2 * 1664 + (i 1).val % 1664; omega)

end Cert.InWIdeal.Prod

namespace Cert.InWRefIdeal.Prod

open Cert.InWRefIdeal Cert.InWRefIdeal.Gen Idealize.ShloMosaic Idealize.ShloMosaic.TcCoe Idealize.SL.Sem

/-- The reference's result: the same sum. -/
theorem result (x0 : S8448x2048.Idx → EReal) (x1 : S8448x3328.Idx → EReal) (i : S2048x3328.Idx) :
    Read.val_main_v5 (F := Ideal) x0 x1 i = ∑ κ : Fin 8448, x0 (ix2 κ (i 0)) * x1 (ix2 κ (i 1)) := by
  rw [Read.val_main_v5_apply, Read.val_main_v4_apply]
  refine Finset.sum_congr rfl fun κ _ => ?_
  rw [mul_comm]
  refine congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.InWRefIdeal.Prod

namespace Cert

open Idealize.ShloMosaic Idealize.ShloMosaic.TcCoe Idealize.SL.Sem

theorem algebraic_in_w : Cert.algebraic_InWIdeal_InWRefIdeal := by
  intro m g m' g' _ hm
  refine ⟨fun c => Cert.InWIdeal.Value.G2 m c, Cert.InWIdeal.Value.run m g, ?_⟩
  refine (θ_run Cert.InWRefIdeal.defs _ _).mono (fun r h c => ⟨(h c).1.trans ?_, (h c).2⟩) (Cert.InWRefIdeal.Value.run (F := Ideal) m' g')
  rw [(hm c).1, (hm c).2]
  funext i
  exact (Cert.InWRefIdeal.Prod.result _ _ i).trans (Cert.InWIdeal.Prod.result m c i).symm

end Cert

end
-- ==== Proof.ConvLnB.lean ====
/- The gradient of the convolution branch's layer norm and SiLU: what one tile of 256 rows computes. -/
module

public import proofs.«01_k».proof.Proof.Tiles
public import proofs.«01_k».proof.Defs
public import proofs.«01_k».proof.Proof.Gen.ConvLnBIdeal.Value
public import Idealize.ShloMosaic.Lib.Pointwise
public import Idealize.ShloMosaic.Lib.Pipeline.ValueKit

@[expose] public section

set_option maxRecDepth 16384

noncomputable section

namespace Cert.ConvLn

open Idealize.ShloMosaic

/-! One row `z` of 512 channels, the norm's gain `g` and shift `b`, and the row's gradient `d`. -/

variable (z g b d : Fin 512 → EReal)

/-- The row with its mean taken off. -/
def centre (j : Fin 512) : EReal := z j - Ideal.div (∑ x, z x) (Ideal.ofBits .f32 0x44000000#32)

/-- The variance, kept off zero. -/
def spread : EReal := Ideal.div (∑ x, centre z x * centre z x) (Ideal.ofBits .f32 0x44000000#32) + Ideal.ofBits .f32 0x358637BD#32

def scale : EReal := Ideal.rsqrt (spread z)

def hat (j : Fin 512) : EReal := centre z j * scale z

def norm (j : Fin 512) : EReal := hat z j * g j + b j

/-- The gradient of the normalised row: SiLU's derivative applied to `d`. -/
def dNorm (j : Fin 512) : EReal :=
  d j * Ideal.logistic (norm z g b j)
    + norm z g b j * d j * (Ideal.logistic (norm z g b j) * (1 - Ideal.logistic (norm z g b j)))

/-- The factor a gradient of the scale is multiplied with to give one of the variance. -/
def coef : EReal := Ideal.ofBits .f32 0xBF000000#32 * Ideal.div (scale z) (spread z)

/-- The variance's part of the gradient `w` of the scaled row. -/
def dSpread (w : Fin 512 → EReal) : EReal := Ideal.div ((∑ x, centre z x * w x) * coef z) (Ideal.ofBits .f32 0x44000000#32)

def dCentre (w : Fin 512 → EReal) (j : Fin 512) : EReal := w j * scale z + centre z j * dSpread z w + dSpread z w * centre z j

def dLine (w : Fin 512 → EReal) (j : Fin 512) : EReal :=
  dCentre z w j + Ideal.div (∑ x, -dCentre z w x) (Ideal.ofBits .f32 0x44000000#32)

/-- The gradient of the row. -/
def dRow (j : Fin 512) : EReal := dLine z (fun x => dNorm z g b d x * g x) j

/-- A row of an array. -/
def line {n : ℕ} (X : (⟨2, ![n, 512]⟩ : Shape).Idx → EReal) (r : Fin n) (j : Fin 512) : EReal := X (ix2 r j)

/-- The three results over arrays of `n` rows. -/
def rows {n : ℕ} (X D : (⟨2, ![n, 512]⟩ : Shape).Idx → EReal) (G B : (⟨2, ![1, 512]⟩ : Shape).Idx → EReal) (r : Fin n) (j : Fin 512) : EReal :=
  dRow (line X r) (line G 0) (line B 0) (line D r) j

def shifts {n : ℕ} (X D : (⟨2, ![n, 512]⟩ : Shape).Idx → EReal) (G B : (⟨2, ![1, 512]⟩ : Shape).Idx → EReal) (r : Fin n) (j : Fin 512) : EReal :=
  dNorm (line X r) (line G 0) (line B 0) (line D r) j

def gains {n : ℕ} (X D : (⟨2, ![n, 512]⟩ : Shape).Idx → EReal) (G B : (⟨2, ![1, 512]⟩ : Shape).Idx → EReal) (r : Fin n) (j : Fin 512) : EReal :=
  hat (line X r) j * shifts X D G B r j

/-- Each depends only on the rows it is of. -/
theorem of_lines {n n' : ℕ} {X D : (⟨2, ![n, 512]⟩ : Shape).Idx → EReal} {X' D' : (⟨2, ![n', 512]⟩ : Shape).Idx → EReal}
    {G B G' B' : (⟨2, ![1, 512]⟩ : Shape).Idx → EReal} {r : Fin n} {r' : Fin n'} (hX : line X r = line X' r') (hD : line D r = line D' r')
    (hG : line G 0 = line G' 0) (hB : line B 0 = line B' 0) (j : Fin 512) :
    rows X D G B r j = rows X' D' G' B' r' j ∧ shifts X D G B r j = shifts X' D' G' B' r' j ∧ gains X D G B r j = gains X' D' G' B' r' j := by
  unfold gains rows shifts
  rw [hX, hD, hG, hB]
  exact ⟨rfl, rfl, rfl⟩

end Cert.ConvLn

namespace Cert.ConvLnBIdeal.Prod

open Cert.ConvLnBIdeal Cert.ConvLnBIdeal.Gen Idealize.ShloMosaic Idealize.ShloMosaic.TcCoe Idealize.SL.Sem
open Cert.ConvLn

variable (z : Vec Ideal S256x512 .f32) (g b : Vec Ideal S1x512 .f32) (d : Vec Ideal S256x512 .f32)

theorem pay_centre (r : Fin 256) (j : Fin 512) : k0_pay1 (F := Ideal) z (ix2 r j) = centre (line z r) j := by
  unfold k0_pay1
  pointwise
  rfl

theorem pay_spread (r : Fin 256) : k0_pay2 (F := Ideal) z (ix2 r 0) = spread (line z r) := by
  unfold k0_pay2
  pointwise
  simp only [pay_centre]
  rfl

theorem pay_scale (r : Fin 256) : k0_pay3 (F := Ideal) z (ix2 r 0) = scale (line z r) := by
  unfold k0_pay3
  pointwise
  rw [pay_spread]
  rfl

theorem pay_coef (r : Fin 256) : k0_pay4 (F := Ideal) z (ix2 r 0) = coef (line z r) := by
  unfold k0_pay4
  pointwise
  rw [pay_spread, pay_scale]
  rfl

theorem pay_hat (r : Fin 256) (j : Fin 512) : k0_pay5 (F := Ideal) z (ix2 r j) = hat (line z r) j := by
  unfold k0_pay5
  pointwise
  rw [pay_centre, pay_scale]
  rfl

theorem pay_shifts (r : Fin 256) (j : Fin 512) : k0_pay6 (F := Ideal) z g b d (ix2 r j) = shifts (n := 256) z d g b r j := by
  unfold k0_pay6
  pointwise
  rw [pay_hat]
  rfl

theorem pay_shift (y : S1x512.Idx) : k0_pay7 (F := Ideal) z g b d y = ∑ r : Fin 256, shifts (n := 256) z d g b r (y 1) := by
  unfold k0_pay7
  pointwise
  exact Finset.sum_congr rfl fun r _ => pay_shifts z g b d r (y 1)

theorem pay_gain (y : S1x512.Idx) : k0_pay8 (F := Ideal) z g b d y = ∑ r : Fin 256, gains (n := 256) z d g b r (y 1) := by
  unfold k0_pay8
  pointwise
  exact Finset.sum_congr rfl fun r _ => congrArg₂ (· * ·) (pay_hat z r (y 1)) (pay_shifts z g b d r (y 1))

theorem pay_scaled (r : Fin 256) (j : Fin 512) :
    k0_pay9 (F := Ideal) z g b d (ix2 r j) = shifts (n := 256) z d g b r j * line (n := 1) g 0 j := by
  unfold k0_pay9
  pointwise
  rw [pay_shifts]
  rfl

theorem pay_rows (r : Fin 256) (j : Fin 512) :
    k0_pay10 (F := Ideal) (k0_pay1 z) (k0_pay3 z) (k0_pay4 z) (k0_pay9 z g b d) (ix2 r j) = rows (n := 256) z d g b r j := by
  unfold k0_pay10
  pointwise
  simp only [pay_scaled, pay_centre, pay_scale, pay_coef, Fin.sum_univ_one, Fin.isValue, zero_sub]
  rfl

variable (m : (ℓ : Loc nD τ sig) → Buf (Elt Ideal) ℓ)

/-- The row of the array that a point's row is. -/
def row (t : Fin cfg0.N) (r : Fin 256) : Fin 8448 :=
  ⟨t.val * 256 + r.val, by have h : t.val < 33 := lt_of_lt_of_eq t.isLt N_0; omega⟩

/-- The operands, as arrays of extended reals. -/
abbrev arr0 (c : Dev nD) : S8448x512.Idx → EReal := m ((c : Thread nD τ).loc main_arg0)
abbrev arr1 (c : Dev nD) : S1x512.Idx → EReal := m ((c : Thread nD τ).loc main_arg1)
abbrev arr2 (c : Dev nD) : S1x512.Idx → EReal := m ((c : Thread nD τ).loc main_arg2)
abbrev arr3 (c : Dev nD) : S8448x512.Idx → EReal := m ((c : Thread nD τ).loc main_arg3)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem blk0 (c : Dev nD) (t : Fin cfg0.N) (r : Fin 256) :
    line (n := 256) (iblk m c 0 t : Vec Ideal S256x512 .f32) r = line (arr0 m c) (row t r) := by
  obtain ⟨e0, e1⟩ := idx0 t
  funext j
  unfold line iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [e0]; omega
  | ⟨1, _⟩ => show win0_0.index t 1 * 512 + 1 * j.val = j.val; rw [e1]; omega

theorem blk1 (c : Dev nD) (t : Fin cfg0.N) :
    line (n := 1) (iblk m c 1 t : Vec Ideal S1x512 .f32) 0 = line (arr1 m c) 0 := by
  obtain ⟨e0, e1⟩ := idx1 t
  funext j
  unfold line iblk
  rw [View.read_apply]
  show V m c main_arg1 _ = m (c.tc.loc main_arg1) _
  unfold V
  congr 1
  funext a
  apply Fin.ext
  match a with
  | ⟨0, _⟩ => show win0_1.index t 0 * 1 + 1 * 0 = 0; rw [e0]
  | ⟨1, _⟩ => show win0_1.index t 1 * 512 + 1 * j.val = j.val; rw [e1]; omega

theorem blk2 (c : Dev nD) (t : Fin cfg0.N) :
    line (n := 1) (iblk m c 2 t : Vec Ideal S1x512 .f32) 0 = line (arr2 m c) 0 := by
  obtain ⟨e0, e1⟩ := idx2 t
  funext j
  unfold line iblk
  rw [View.read_apply]
  show V m c main_arg2 _ = m (c.tc.loc main_arg2) _
  unfold V
  congr 1
  funext a
  apply Fin.ext
  match a with
  | ⟨0, _⟩ => show win0_2.index t 0 * 1 + 1 * 0 = 0; rw [e0]
  | ⟨1, _⟩ => show win0_2.index t 1 * 512 + 1 * j.val = j.val; rw [e1]; omega

theorem blk3 (c : Dev nD) (t : Fin cfg0.N) (r : Fin 256) :
    line (n := 256) (iblk m c 3 t : Vec Ideal S256x512 .f32) r = line (arr3 m c) (row t r) := by
  obtain ⟨e0, e1⟩ := idx3 t
  funext j
  unfold line iblk
  rw [View.read_apply]
  show V m c main_arg3 _ = m (c.tc.loc main_arg3) _
  unfold V
  congr 1
  funext a
  apply Fin.ext
  match a with
  | ⟨0, _⟩ => show win0_3.index t 0 * 256 + 1 * r.val = t.val * 256 + r.val; rw [e0]; omega
  | ⟨1, _⟩ => show win0_3.index t 1 * 512 + 1 * j.val = j.val; rw [e1]; omega

/-- The three results over the arrays. -/
def GRows (c : Dev nD) (i : S8448x512.Idx) : EReal := rows (arr0 m c) (arr3 m c) (arr1 m c) (arr2 m c) (i 0) (i 1)

def GGain (c : Dev nD) (i : S1x512.Idx) : EReal := ∑ r, gains (arr0 m c) (arr3 m c) (arr1 m c) (arr2 m c) r (i 1)

def GShift (c : Dev nD) (i : S1x512.Idx) : EReal := ∑ r, shifts (arr0 m c) (arr3 m c) (arr1 m c) (arr2 m c) r (i 1)

/-- What the tile at a point stores: the rows. -/
def rowsAt (c : Dev nD) (t : Fin cfg0.N) : Vec Ideal S256x512 .f32 :=
  k0_pay10 (F := Ideal) (k0_pay1 (iblk m c 0 t)) (k0_pay3 (iblk m c 0 t)) (k0_pay4 (iblk m c 0 t))
    (k0_pay9 (iblk m c 0 t) (iblk m c 1 t) (iblk m c 2 t) (iblk m c 3 t))

theorem rowsAt_apply (c : Dev nD) (t : Fin cfg0.N) (y : S256x512.Idx) :
    (rowsAt m c t y : EReal) = rows (arr0 m c) (arr3 m c) (arr1 m c) (arr2 m c) (row t (y 0)) (y 1) := by
  refine (congrArg (rowsAt m c t) (ValueIdx.eq_ix2 y)).trans ((pay_rows _ _ _ _ (y 0) (y 1)).trans ?_)
  exact (of_lines (blk0 m c t (y 0)) (blk3 m c t (y 0)) (blk1 m c t) (blk2 m c t) (y 1)).1

theorem after4 (c : Dev nD) (t : Fin cfg0.N) : (dats m 0 c).after 4 t = rowsAt m c t := by
  have hN : t.val < 33 := lt_of_lt_of_eq t.isLt N_0
  rw [after0_4]
  by_cases h : t.val % 33 = 0
  · have h' : ¬1 ≤ t.val := by omega
    rw [outsAt0_A m c t h h' h h']
    frame_out
    rfl
  · have h' : 1 ≤ t.val := by omega
    rw [outsAt0_B m c t h h' h h']
    frame_out
    rfl

theorem result4 (c : Dev nD) : (dats m 0 c).arrAt 4 cfg0.N = GRows m c := by
  refine (dats m 0 c).arrAt_eq_of_covers 4 _ (by decide +kernel) fun t hf y => ?_
  blk_simp
  rw [after4]
  obtain ⟨e0, e1⟩ := idx4 t
  refine (rowsAt_apply m c t y).trans ?_
  exact congrArg₂ (rows (arr0 m c) (arr3 m c) (arr1 m c) (arr2 m c))
    (Fin.ext (by show t.val * 256 + (y 0).val = win0_4.index t 0 * 256 + 1 * (y 0).val; rw [e0]; omega))
    (Fin.ext (by show (y 1).val = win0_4.index t 1 * 512 + 1 * (y 1).val; rw [e1]; omega))

/-- A point's part of the gain's gradient. -/
def gainAt (c : Dev nD) (t : Fin cfg0.N) : Vec Ideal S1x512 .f32 :=
  k0_pay8 (F := Ideal) (iblk m c 0 t) (iblk m c 1 t) (iblk m c 2 t) (iblk m c 3 t)

theorem gain_first (c : Dev nD) (t : Fin cfg0.N) (h : t.val % 33 = 0) : (outsAt0 m c t.val t.isLt).2.1 = gainAt m c t := by
  have hN : t.val < 33 := lt_of_lt_of_eq t.isLt N_0
  have h' : ¬1 ≤ t.val := by omega
  rw [outsAt0_A m c t h h' h h']
  frame_out
  rfl

theorem gain_next (c : Dev nD) (n : ℕ) (hn : n + 1 < cfg0.N) (h : (n + 1) % 33 ≠ 0) :
    (outsAt0 m c (n + 1) hn).2.1 = addf (F := Ideal) (φ := .f32) (outsAt0 m c n (Nat.lt_of_succ_lt hn)).2.1 (gainAt m c ⟨n + 1, hn⟩) := by
  have h' : 1 ≤ n + 1 := by omega
  rw [outsAt0_B m c ⟨n + 1, hn⟩ h h' h h']
  frame_out
  unfold k0_pay11
  simp only [shapeCast_self]
  rfl

theorem gainAt_apply (c : Dev nD) (t : Fin cfg0.N) (y : S1x512.Idx) :
    (gainAt m c t y : EReal) = ∑ r : Fin 256, gains (arr0 m c) (arr3 m c) (arr1 m c) (arr2 m c) (row t r) (y 1) := by
  exact (pay_gain _ _ _ _ y).trans (Finset.sum_congr rfl fun r _ =>
    (of_lines (blk0 m c t r) (blk3 m c t r) (blk1 m c t) (blk2 m c t) (y 1)).2.2)

theorem result5 (c : Dev nD) : (dats m 0 c).arrAt 5 cfg0.N = GGain m c := by
  refine (dats m 0 c).arrAt_eq_of_covers 5 _ (by decide +kernel) fun t hf y => ?_
  have hN : cfg0.N = 33 := N_0
  have ht : t.val = 32 := (by decide +kernel : ∀ t : Fin grid0.N, win0_5.flush t = true → t.val = 32) t hf
  blk_simp
  rw [after0_5]
  obtain ⟨e0, e1⟩ := idx5 t
  have hy1 : (((View.whole main_v0_1).slice (win0_5.rect t)).emb y) 1 = y 1 :=
    Fin.ext (by show win0_5.index t 1 * 512 + 1 * (y 1).val = (y 1).val; rw [e1]; omega)
  unfold GGain
  rw [hy1]
  exact Tiles.run_last_tiles (J := 33) (TK := 256) (K := 8448) (by decide) (by decide)
    (fun n h => (outsAt0 m c n h).2.1 y) (fun n h => (outsAt0 m c n h).2.1 y) (fun n h => gainAt m c ⟨n, h⟩ y) 0
    (fun r => gains (arr0 m c) (arr3 m c) (arr1 m c) (arr2 m c) r (y 1))
    (fun n h hn => congrFun (gain_first m c ⟨n, h⟩ hn) y) (fun n h h0 _ => congrFun (gain_next m c n h h0) y)
    (fun n h h5 => congrFun (gain_next m c n h (by omega)) y)
    (fun s h => (gainAt_apply m c ⟨_, h⟩ y).trans (Finset.sum_congr rfl fun r _ =>
      congrArg (fun k => gains (arr0 m c) (arr3 m c) (arr1 m c) (arr2 m c) k (y 1)) (Fin.ext (by show (33 * 0 + s.val) * 256 + r.val = s.val * 256 + r.val; omega))))
    t.val (by omega) t.isLt

/-- A point's part of the shift's gradient. -/
def shiftAt (c : Dev nD) (t : Fin cfg0.N) : Vec Ideal S1x512 .f32 :=
  k0_pay7 (F := Ideal) (iblk m c 0 t) (iblk m c 1 t) (iblk m c 2 t) (iblk m c 3 t)

theorem shift_first (c : Dev nD) (t : Fin cfg0.N) (h : t.val % 33 = 0) : (outsAt0 m c t.val t.isLt).2.2 = shiftAt m c t := by
  have hN : t.val < 33 := lt_of_lt_of_eq t.isLt N_0
  have h' : ¬1 ≤ t.val := by omega
  rw [outsAt0_A m c t h h' h h']
  frame_out
  rfl

theorem shift_next (c : Dev nD) (n : ℕ) (hn : n + 1 < cfg0.N) (h : (n + 1) % 33 ≠ 0) :
    (outsAt0 m c (n + 1) hn).2.2 = addf (F := Ideal) (φ := .f32) (outsAt0 m c n (Nat.lt_of_succ_lt hn)).2.2 (shiftAt m c ⟨n + 1, hn⟩) := by
  have h' : 1 ≤ n + 1 := by omega
  rw [outsAt0_B m c ⟨n + 1, hn⟩ h h' h h']
  frame_out
  unfold k0_pay12
  simp only [shapeCast_self]
  rfl

theorem shiftAt_apply (c : Dev nD) (t : Fin cfg0.N) (y : S1x512.Idx) :
    (shiftAt m c t y : EReal) = ∑ r : Fin 256, shifts (arr0 m c) (arr3 m c) (arr1 m c) (arr2 m c) (row t r) (y 1) := by
  exact (pay_shift _ _ _ _ y).trans (Finset.sum_congr rfl fun r _ =>
    (of_lines (blk0 m c t r) (blk3 m c t r) (blk1 m c t) (blk2 m c t) (y 1)).2.1)

theorem result6 (c : Dev nD) : (dats m 0 c).arrAt 6 cfg0.N = GShift m c := by
  refine (dats m 0 c).arrAt_eq_of_covers 6 _ (by decide +kernel) fun t hf y => ?_
  have hN : cfg0.N = 33 := N_0
  have ht : t.val = 32 := (by decide +kernel : ∀ t : Fin grid0.N, win0_6.flush t = true → t.val = 32) t hf
  blk_simp
  rw [after0_6]
  obtain ⟨e0, e1⟩ := idx6 t
  have hy1 : (((View.whole main_v0_2).slice (win0_6.rect t)).emb y) 1 = y 1 :=
    Fin.ext (by show win0_6.index t 1 * 512 + 1 * (y 1).val = (y 1).val; rw [e1]; omega)
  unfold GShift
  rw [hy1]
  exact Tiles.run_last_tiles (J := 33) (TK := 256) (K := 8448) (by decide) (by decide)
    (fun n h => (outsAt0 m c n h).2.2 y) (fun n h => (outsAt0 m c n h).2.2 y) (fun n h => shiftAt m c ⟨n, h⟩ y) 0
    (fun r => shifts (arr0 m c) (arr3 m c) (arr1 m c) (arr2 m c) r (y 1))
    (fun n h hn => congrFun (shift_first m c ⟨n, h⟩ hn) y) (fun n h h0 _ => congrFun (shift_next m c n h h0) y)
    (fun n h h5 => congrFun (shift_next m c n h (by omega)) y)
    (fun s h => (shiftAt_apply m c ⟨_, h⟩ y).trans (Finset.sum_congr rfl fun r _ =>
      congrArg (fun k => shifts (arr0 m c) (arr3 m c) (arr1 m c) (arr2 m c) k (y 1)) (Fin.ext (by show (33 * 0 + s.val) * 256 + r.val = s.val * 256 + r.val; omega))))
    t.val (by omega) t.isLt

end Cert.ConvLnBIdeal.Prod

end
-- ==== Proof.ConvLnBRef.lean ====
/- The gradient of the convolution branch's layer norm and SiLU: the reference computes the same results, and the claim. -/
module

public import proofs.«01_k».proof.Proof.ConvLnB
public import proofs.«01_k».proof.Proof.Gen.ConvLnBRefIdeal.Run
public import proofs.«01_k».proof.Proof.Gen.ConvLnBRefIdeal.Read

@[expose] public section

set_option maxRecDepth 16384

noncomputable section

namespace Cert.ConvLnBRefIdeal.Prod

open Cert.ConvLnBRefIdeal Cert.ConvLnBRefIdeal.Gen Idealize.ShloMosaic Idealize.ShloMosaic.TcCoe Idealize.SL.Sem
open Cert.ConvLn

variable (x0 : S8448x512.Idx → EReal) (x1 x2 : S1x512.Idx → EReal) (x3 : S8448x512.Idx → EReal)

theorem at_centre (i : S8448x512.Idx) : Read.val_main_v5 (F := Ideal) x0 i = centre (line x0 (i 0)) (i 1) := by
  simp only [Read.val_main_v5_apply, Read.val_main_v4_apply, Read.val_main_v3_apply, Read.val_main_v2_apply, Read.val_main_cst_0_apply,
    Read.val_main_v1_apply, Read.val_main_v0_apply, Read.val_main_cst_apply]
  pointwise
  exact congrArg₂ (· - ·) (congrArg x0 (ValueIdx.eq_ix2 i))
    (congrArg₂ Ideal.div (Finset.sum_congr rfl fun k _ => congrArg x0 (ValueIdx.eq_ix2 _)) rfl)

theorem at_spread (i : S8448x1.Idx) : Read.val_main_v12 (F := Ideal) x0 i = spread (line x0 (i 0)) := by
  simp only [Read.val_main_v12_apply, Read.val_main_v11_apply, Read.val_main_cst_3_apply, Read.val_main_v10_apply, Read.val_main_v9_apply,
    Read.val_main_cst_2_apply, Read.val_main_v8_apply, Read.val_main_v7_apply, Read.val_main_cst_1_apply, Read.val_main_v6_apply, at_centre]
  pointwise
  rfl

theorem at_scale (i : S8448x1.Idx) : Read.val_main_v13 (F := Ideal) x0 i = scale (line x0 (i 0)) := by
  rw [Read.val_main_v13_apply, at_spread]
  pointwise
  rfl

theorem at_coef (i : S8448x1.Idx) : Read.val_main_v16 (F := Ideal) x0 i = coef (line x0 (i 0)) := by
  simp only [Read.val_main_v16_apply, Read.val_main_v15_apply, Read.val_main_cst_4_apply, Read.val_main_v14_apply, at_scale, at_spread]
  pointwise
  rfl

theorem at_hat (i : S8448x512.Idx) : Read.val_main_v18 (F := Ideal) x0 i = hat (line x0 (i 0)) (i 1) := by
  rw [Read.val_main_v18_apply, Read.val_main_v17_apply, at_centre, at_scale]
  rfl

theorem at_norm (i : S8448x512.Idx) : Read.val_main_v22 (F := Ideal) x0 x1 x2 i = norm (line x0 (i 0)) (line x1 0) (line x2 0) (i 1) := by
  rw [Read.val_main_v22_apply, Read.val_main_v21_apply, Read.val_main_v20_apply, Read.val_main_v19_apply, at_hat]
  exact congrArg₂ (· + ·) (congrArg₂ (· * ·) rfl (congrArg x1 (ValueIdx.eq_ix2 _))) (congrArg x2 (ValueIdx.eq_ix2 _))

theorem at_gate (i : S8448x512.Idx) :
    Read.val_main_v23_2 (F := Ideal) x0 x1 x2 i = Ideal.logistic (norm (line x0 (i 0)) (line x1 0) (line x2 0) (i 1)) := by
  simp only [Read.val_main_v23_2_apply, Read.val_main_call0_v4_apply, Read.val_main_call0_cst_0_apply, Read.val_main_call0_v3_apply,
    Read.val_main_call0_v2_apply, Read.val_main_call0_cst_apply, Read.val_main_call0_v1_apply, Read.val_main_call0_v0_apply, at_norm]
  unfold Ideal.logistic
  pointwise

theorem at_shifts (i : S8448x512.Idx) : Read.val_main_v24 (F := Ideal) x0 x1 x2 x3 i = shifts x0 x3 x1 x2 (i 0) (i 1) := by
  simp only [Read.val_main_v24_apply, Read.val_main_call1_v2_apply, Read.val_main_call1_v1_apply, Read.val_main_call1_v0_apply,
    Read.val_main_v23_1_apply, Read.val_main_call0_v7_apply, Read.val_main_call0_v6_apply, Read.val_main_call0_cst_1_apply, at_gate, at_norm]
  pointwise
  have e : x3 i = line x3 (i 0) (i 1) := congrArg x3 (ValueIdx.eq_ix2 i)
  rw [e]
  rfl

theorem at_gains (i : S8448x512.Idx) : Read.val_main_v27 (F := Ideal) x0 x1 x2 x3 i = gains x0 x3 x1 x2 (i 0) (i 1) := by
  rw [Read.val_main_v27_apply, at_hat, at_shifts]
  rfl

theorem result26 (i : S1x512.Idx) : Read.val_main_v26 (F := Ideal) x0 x1 x2 x3 i = ∑ r, shifts x0 x3 x1 x2 r (i 1) := by
  have h0 : (i 0).val < 1 := (i 0).isLt
  have e : Read.idx_main_v26 i 0 = i 1 := Fin.ext (by show (i 0).val * 512 + (i 1).val = (i 1).val; omega)
  rw [Read.val_main_v26_apply, Read.val_main_v25_apply, Read.val_main_cst_5_apply]
  simp only [at_shifts]
  pointwise
  exact congrArg (fun j => ∑ r, shifts x0 x3 x1 x2 r j) e

theorem result29 (i : S1x512.Idx) : Read.val_main_v29 (F := Ideal) x0 x1 x2 x3 i = ∑ r, gains x0 x3 x1 x2 r (i 1) := by
  have h0 : (i 0).val < 1 := (i 0).isLt
  have e : Read.idx_main_v29 i 0 = i 1 := Fin.ext (by show (i 0).val * 512 + (i 1).val = (i 1).val; omega)
  rw [Read.val_main_v29_apply, Read.val_main_v28_apply, Read.val_main_cst_6_apply]
  simp only [at_gains]
  pointwise
  exact congrArg (fun j => ∑ r, gains x0 x3 x1 x2 r j) e

/-- The gradient of the scaled row. -/
abbrev scaled (r : Fin 8448) (j : Fin 512) : EReal := shifts x0 x3 x1 x2 r j * line x1 0 j

theorem at_scaled (i : S8448x512.Idx) : Read.val_main_v31 (F := Ideal) x0 x1 x2 x3 i = scaled x0 x1 x2 x3 (i 0) (i 1) := by
  rw [Read.val_main_v31_apply, Read.val_main_v30_apply, at_shifts]
  exact congrArg₂ (· * ·) rfl (congrArg x1 (ValueIdx.eq_ix2 _))

theorem idx34 (i : S8448.Idx) : Read.idx_main_v34 (Read.idx_main_v40 i 0) = i :=
  funext fun a => match a with | ⟨0, _⟩ => Fin.ext (by show (i 0).val * 1 + 0 = (i 0).val; omega)

theorem idx48 (i : S8448.Idx) : Read.idx_main_v48 (Read.idx_main_v51 i 0) = i :=
  funext fun a => match a with | ⟨0, _⟩ => Fin.ext (by show (i 0).val * 1 + 0 = (i 0).val; omega)

theorem at_dSpread (i : S8448.Idx) :
    Read.val_main_v40 (F := Ideal) x0 x1 x2 x3 i = dSpread (line x0 (i 0)) (scaled x0 x1 x2 x3 (i 0)) := by
  simp only [Read.val_main_v40_apply, Read.val_main_cst_9_apply, Read.val_main_v39_apply, Read.val_main_v38_apply, Read.val_main_cst_8_apply,
    Read.val_main_v37_apply, Read.val_main_v34_apply, Read.val_main_v33_apply, Read.val_main_cst_7_apply, Read.val_main_v32_apply, at_coef,
    at_scaled, at_centre]
  pointwise
  simp only [Fin.sum_univ_one, Fin.isValue, idx34]
  rfl

theorem at_dCentre (i : S8448x512.Idx) :
    Read.val_main_v45 (F := Ideal) x0 x1 x2 x3 i = dCentre (line x0 (i 0)) (scaled x0 x1 x2 x3 (i 0)) (i 1) := by
  simp only [Read.val_main_v45_apply, Read.val_main_v44_apply, Read.val_main_v43_apply, Read.val_main_v42_apply, Read.val_main_v41_apply,
    Read.val_main_v36_apply, Read.val_main_v35_apply, at_scale, at_dSpread, at_scaled, at_centre]
  rfl

theorem result53 (i : S8448x512.Idx) : Read.val_main_v53 (F := Ideal) x0 x1 x2 x3 i = rows x0 x3 x1 x2 (i 0) (i 1) := by
  simp only [Read.val_main_v53_apply, Read.val_main_v52_apply, Read.val_main_v51_apply, Read.val_main_cst_12_apply, Read.val_main_v50_apply,
    Read.val_main_v49_apply, Read.val_main_cst_11_apply, Read.val_main_v48_apply, Read.val_main_v47_apply, Read.val_main_cst_10_apply,
    Read.val_main_v46_apply, at_dCentre]
  pointwise
  simp only [Fin.sum_univ_one, Fin.isValue, idx48]
  rfl

end Cert.ConvLnBRefIdeal.Prod

namespace Cert

open Idealize.ShloMosaic Idealize.ShloMosaic.TcCoe Idealize.SL.Sem

theorem algebraic_conv_ln_b : Cert.algebraic_ConvLnBIdeal_ConvLnBRefIdeal := by
  intro m g m' g' _ hm
  refine ⟨Cert.ConvLnBIdeal.Prod.GRows m, Cert.ConvLnBIdeal.Prod.GGain m, Cert.ConvLnBIdeal.Prod.GShift m,
    (θ_run Cert.ConvLnBIdeal.defs _ _).mono (fun r h c => ⟨(h c).1.trans (Cert.ConvLnBIdeal.Prod.result4 m c),
      (h c).2.1.trans (Cert.ConvLnBIdeal.Prod.result5 m c), (h c).2.2.1.trans (Cert.ConvLnBIdeal.Prod.result6 m c),
      (h c).2.2.2⟩) (Cert.ConvLnBIdeal.Value.run_blocks (F := Ideal) m g), ?_⟩
  refine (θ_run Cert.ConvLnBRefIdeal.defs _ _).mono (fun r h c => ?_) (Cert.ConvLnBRefIdeal.Value.run (F := Ideal) m' g')
  have hr := h c
  have e53 := hr.1.trans (Cert.ConvLnBRefIdeal.Read.val_main_v53_eq (F := Ideal) m' c)
  have e29 := hr.2.1.trans (Cert.ConvLnBRefIdeal.Read.val_main_v29_eq (F := Ideal) m' c)
  have e26 := hr.2.2.1.trans (Cert.ConvLnBRefIdeal.Read.val_main_v26_eq (F := Ideal) m' c)
  rw [(hm c).1, (hm c).2.1, (hm c).2.2.1, (hm c).2.2.2] at e53 e29 e26
  exact ⟨e53.trans (funext fun i => Cert.ConvLnBRefIdeal.Prod.result53 _ _ _ _ i),
    e29.trans (funext fun i => Cert.ConvLnBRefIdeal.Prod.result29 _ _ _ _ i),
    e26.trans (funext fun i => Cert.ConvLnBRefIdeal.Prod.result26 _ _ _ _ i), hr.2.2.2⟩

end Cert

end
-- ==== Proof.S5GluB.lean ====
/- The gradient of the gate that reads the recurrence's output: one half times the logistic of the other. -/
module

public import proofs.«01_k».proof.Proof.GmlpSpec
public import proofs.«01_k».proof.Defs
public import proofs.«01_k».proof.Proof.Gen.S5GluBIdeal.Value
public import proofs.«01_k».proof.Proof.Gen.S5GluBRefIdeal.Run
public import proofs.«01_k».proof.Proof.Gen.S5GluBRefIdeal.Read
public import Idealize.ShloMosaic.Lib.Pointwise
public import Idealize.ShloMosaic.Lib.Pipeline.ValueKit

@[expose] public section

set_option maxRecDepth 16384

noncomputable section

namespace Cert.S5Glu

open Idealize.ShloMosaic

/-- The gradient of a row of 1024: the left half is gated by the logistic of the right. -/
def dGate {n : ℕ} (z : (⟨2, ![n, 1024]⟩ : Shape).Idx → EReal) (d : (⟨2, ![n, 512]⟩ : Shape).Idx → EReal) (r : Fin n) (j : Fin 1024) : EReal :=
  if h : j.val < 512 then d (ix2 r ⟨j.val, h⟩) * Ideal.logistic (z (ix2 r ⟨512 + j.val, by omega⟩))
  else z (ix2 r ⟨j.val - 512, by omega⟩) * d (ix2 r ⟨j.val - 512, by omega⟩) * (Ideal.logistic (z (ix2 r j)) * (1 - Ideal.logistic (z (ix2 r j))))

end Cert.S5Glu

namespace Cert.S5GluBIdeal.Prod

open Cert.S5GluBIdeal Cert.S5GluBIdeal.Gen Idealize.ShloMosaic Idealize.ShloMosaic.TcCoe Idealize.SL.Sem

open Cert.S5Glu

theorem pay_rows (z : Vec Ideal S256x1024 .f32) (d : Vec Ideal S256x512 .f32) (r : Fin 256) (j : Fin 1024) :
    k0_pay1 (F := Ideal) z d (ix2 r j) = dGate (n := 256) z d r j := by
  unfold k0_pay1 dGate
  pointwise
  by_cases h : j.val < 512
  · simp only [dif_pos h, zero_add]
  · have e : (⟨512 + (j.val - 512), by omega⟩ : Fin 1024) = j := Fin.ext (by show 512 + (j.val - 512) = j.val; omega)
    simp only [dif_neg h, add_zero, e]

variable (m : (ℓ : Loc nD τ sig) → Buf (Elt Ideal) ℓ)

/-- The row of the array that a point's row is. -/
def row (t : Fin cfg0.N) (r : Fin 256) : Fin 8448 :=
  ⟨t.val * 256 + r.val, by have h : t.val < 33 := lt_of_lt_of_eq t.isLt N_0; omega⟩

/-- The operands, as arrays of extended reals. -/
abbrev arr0 (c : Dev nD) : S8448x1024.Idx → EReal := m ((c : Thread nD τ).loc main_arg0)
abbrev arr1 (c : Dev nD) : S8448x512.Idx → EReal := m ((c : Thread nD τ).loc main_arg1)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem blk0 (c : Dev nD) (t : Fin cfg0.N) (r : Fin 256) (j : Fin 1024) :
    (iblk m c 0 t : Vec Ideal S256x1024 .f32) (ix2 r j) = arr0 m c (ix2 (row t r) j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [e0]; omega
  | ⟨1, _⟩ => show win0_0.index t 1 * 1024 + 1 * j.val = j.val; rw [e1]; omega

theorem blk1 (c : Dev nD) (t : Fin cfg0.N) (r : Fin 256) (j : Fin 512) :
    (iblk m c 1 t : Vec Ideal S256x512 .f32) (ix2 r j) = arr1 m c (ix2 (row t r) j) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [e0]; omega
  | ⟨1, _⟩ => show win0_1.index t 1 * 512 + 1 * j.val = j.val; rw [e1]; omega

/-- The result over the arrays. -/
def G (c : Dev nD) (i : S8448x1024.Idx) : EReal := dGate (arr0 m c) (arr1 m c) (i 0) (i 1)

/-- What the tile at a point stores. -/
def rowsAt (c : Dev nD) (t : Fin cfg0.N) : Vec Ideal S256x1024 .bf16 := k0_pay1 (F := Ideal) (iblk m c 0 t) (iblk m c 1 t)

theorem gate_at (c : Dev nD) (t : Fin cfg0.N) (r : Fin 256) (j : Fin 1024) :
    dGate (n := 256) (iblk m c 0 t) (iblk m c 1 t) r j = dGate (arr0 m c) (arr1 m c) (row t r) j := by
  unfold dGate
  simp only [blk0 m c t, blk1 m c t]

theorem rowsAt_apply (c : Dev nD) (t : Fin cfg0.N) (y : S256x1024.Idx) :
    (rowsAt m c t y : EReal) = dGate (arr0 m c) (arr1 m c) (row t (y 0)) (y 1) := by
  exact (congrArg (rowsAt m c t) (ValueIdx.eq_ix2 y)).trans ((pay_rows _ _ (y 0) (y 1)).trans (gate_at m c t (y 0) (y 1)))

theorem after2 (c : Dev nD) (t : Fin cfg0.N) : (dats m 0 c).after 2 t = rowsAt m c t := by
  rw [after0_2]
  frame_out
  rfl

theorem result (c : Dev nD) : (dats m 0 c).arrAt 2 cfg0.N = G m c := by
  refine (dats m 0 c).arrAt_eq_of_covers 2 _ (by decide +kernel) fun t hf y => ?_
  blk_simp
  rw [after2]
  obtain ⟨e0, e1⟩ := idx2 t
  refine (rowsAt_apply m c t y).trans ?_
  exact congrArg₂ (dGate (arr0 m c) (arr1 m c))
    (Fin.ext (by show t.val * 256 + (y 0).val = win0_2.index t 0 * 256 + 1 * (y 0).val; rw [e0]; omega))
    (Fin.ext (by show (y 1).val = win0_2.index t 1 * 1024 + 1 * (y 1).val; rw [e1]; omega))

end Cert.S5GluBIdeal.Prod

namespace Cert.S5GluBRefIdeal.Prod

open Cert.S5GluBRefIdeal Cert.S5GluBRefIdeal.Gen Idealize.ShloMosaic Idealize.ShloMosaic.TcCoe Idealize.SL.Sem
open Cert.S5Glu

/-- The reference's result. -/
theorem result (x0 : S8448x1024.Idx → EReal) (x1 : S8448x512.Idx → EReal) (i : S8448x1024.Idx) :
    Read.val_main_v16 (F := Ideal) x0 x1 i = dGate x0 x1 (i 0) (i 1) := by
  unfold Read.val_main_v16 Read.val_main_v15 Read.val_main_v14 Read.val_main_v13 Read.val_main_v12 Read.val_main_v10 Read.val_main_v9
    Read.val_main_v8 Read.val_main_cst_1 Read.val_main_v7 Read.val_main_v6 Read.val_main_cst_0 Read.val_main_v5 Read.val_main_v4 Read.val_main_cst
    Read.val_main_v3 Read.val_main_v2 Read.val_main_v1 Read.val_main_v0 dGate Ideal.logistic
  pointwise
  by_cases h : (i 1).val < 512
  · simp only [dif_pos h]
  · have h1 : (i 1).val < 1024 := (i 1).isLt
    have e : (ix2 (i 0) ⟨512 + ((i 1).val - 512), by omega⟩ : S8448x1024.Idx) = i :=
      (congrArg (ix2 (i 0)) (Fin.ext (by show 512 + ((i 1).val - 512) = (i 1).val; omega))).trans (ValueIdx.eq_ix2 i).symm
    simp only [dif_neg h, e]

end Cert.S5GluBRefIdeal.Prod

namespace Cert

open Idealize.ShloMosaic Idealize.ShloMosaic.TcCoe Idealize.SL.Sem

theorem algebraic_s5_glu_b : Cert.algebraic_S5GluBIdeal_S5GluBRefIdeal := by
  intro m g m' g' _ hm
  refine ⟨Cert.S5GluBIdeal.Prod.G m,
    (θ_run Cert.S5GluBIdeal.defs _ _).mono (fun r h c => ⟨(h c).1.trans (Cert.S5GluBIdeal.Prod.result m c), (h c).2⟩)
      (Cert.S5GluBIdeal.Value.run_blocks (F := Ideal) m g), ?_⟩
  refine (θ_run Cert.S5GluBRefIdeal.defs _ _).mono (fun r h c => ⟨((h c).1.trans (Cert.S5GluBRefIdeal.Read.val_main_v16_eq (F := Ideal) _ _)).trans ?_, (h c).2⟩)
    (Cert.S5GluBRefIdeal.Value.run (F := Ideal) m' g')
  rw [(hm c).1, (hm c).2]
  exact funext fun i => Cert.S5GluBRefIdeal.Prod.result _ _ i

end Cert

end
-- ==== Proof.S5ActB.lean ====
/- The gradient of the recurrence's output activation: GELU of the states' readout plus the skipped input. -/
module

public import proofs.«01_k».proof.Proof.GmlpSpec
public import proofs.«01_k».proof.Defs
public import proofs.«01_k».proof.Proof.Gen.S5ActBIdeal.Value
public import proofs.«01_k».proof.Proof.Gen.S5ActBRefIdeal.Run
public import proofs.«01_k».proof.Proof.Gen.S5ActBRefIdeal.Read
public import Idealize.ShloMosaic.Lib.Pointwise
public import Idealize.ShloMosaic.Lib.Pipeline.ValueKit

@[expose] public section

set_option maxRecDepth 16384

noncomputable section

namespace Cert.S5Act

open Idealize.ShloMosaic

/-! Over arrays of `n` rows: the readout `y`, the input `u`, the gradient `d`, and the row `s` of the skip's factors. -/

variable {n : ℕ} (y u d : (⟨2, ![n, 512]⟩ : Shape).Idx → EReal) (s : (⟨2, ![1, 512]⟩ : Shape).Idx → EReal) (r : Fin n) (j : Fin 512)

/-- The gradient of the readout. -/
def back : EReal := Gmlp.dAct (y (ix2 r j) + s (ix2 0 j) * u (ix2 r j)) (d (ix2 r j))

/-- The input's part through the skip. -/
def skip : EReal := s (ix2 0 j) * back y u d s r j

/-- A row's part of the skip's gradient. -/
def factor : EReal := back y u d s r j * u (ix2 r j)

end Cert.S5Act

namespace Cert.S5ActBIdeal.Prod

open Cert.S5ActBIdeal Cert.S5ActBIdeal.Gen Idealize.ShloMosaic Idealize.ShloMosaic.TcCoe Idealize.SL.Sem

open Cert.S5Act

variable (y u : Vec Ideal S256x512 .f32) (s : Vec Ideal S1x512 .f32) (d : Vec Ideal S256x512 .f32)

theorem pay_back (r : Fin 256) (j : Fin 512) : k0_pay4 (F := Ideal) y u s d (ix2 r j) = back (n := 256) y u d s r j := by
  unfold k0_pay4 back Gmlp.dAct Gmlp.through Gmlp.half Gmlp.th
  pointwise

theorem pay_skip (r : Fin 256) (j : Fin 512) : k0_pay5 (F := Ideal) y u s d (ix2 r j) = skip (n := 256) y u d s r j := by
  unfold k0_pay5
  pointwise
  rw [pay_back]
  rfl

theorem pay_factor (i : S1x512.Idx) :
    k0_pay1 (F := Ideal) u (k0_pay4 y u s d) i = ∑ r : Fin 256, factor (n := 256) y u d s r (i 1) := by
  unfold k0_pay1
  pointwise
  exact Finset.sum_congr rfl fun r _ => congrArg₂ (· * ·) (pay_back y u s d r (i 1)) rfl

variable (m : (ℓ : Loc nD τ sig) → Buf (Elt Ideal) ℓ)

/-- The row of the array that a point's row is. -/
def row (t : Fin cfg0.N) (r : Fin 256) : Fin 8448 :=
  ⟨t.val * 256 + r.val, by have h : t.val < 33 := lt_of_lt_of_eq t.isLt N_0; omega⟩

/-- The operands, as arrays of extended reals. -/
abbrev arr0 (c : Dev nD) : S8448x512.Idx → EReal := m ((c : Thread nD τ).loc main_arg0)
abbrev arr1 (c : Dev nD) : S8448x512.Idx → EReal := m ((c : Thread nD τ).loc main_arg1)
abbrev arr2 (c : Dev nD) : S1x512.Idx → EReal := m ((c : Thread nD τ).loc main_arg2)
abbrev arr3 (c : Dev nD) : S8448x512.Idx → EReal := m ((c : Thread nD τ).loc main_arg3)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem blk0 (c : Dev nD) (t : Fin cfg0.N) (r : Fin 256) (j : Fin 512) :
    (iblk m c 0 t : Vec Ideal S256x512 .f32) (ix2 r j) = arr0 m c (ix2 (row t r) j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [e0]; omega
  | ⟨1, _⟩ => show win0_0.index t 1 * 512 + 1 * j.val = j.val; rw [e1]; omega

theorem blk1 (c : Dev nD) (t : Fin cfg0.N) (r : Fin 256) (j : Fin 512) :
    (iblk m c 1 t : Vec Ideal S256x512 .f32) (ix2 r j) = arr1 m c (ix2 (row t r) j) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [e0]; omega
  | ⟨1, _⟩ => show win0_1.index t 1 * 512 + 1 * j.val = j.val; rw [e1]; omega

theorem blk2 (c : Dev nD) (t : Fin cfg0.N) (j : Fin 512) :
    (iblk m c 2 t : Vec Ideal S1x512 .f32) (ix2 0 j) = arr2 m c (ix2 0 j) := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [e0]
  | ⟨1, _⟩ => show win0_2.index t 1 * 512 + 1 * j.val = j.val; rw [e1]; omega

theorem blk3 (c : Dev nD) (t : Fin cfg0.N) (r : Fin 256) (j : Fin 512) :
    (iblk m c 3 t : Vec Ideal S256x512 .f32) (ix2 r j) = arr3 m c (ix2 (row t r) j) := by
  obtain ⟨e0, e1⟩ := idx3 t
  unfold iblk
  rw [View.read_apply]
  show V m c main_arg3 _ = m (c.tc.loc main_arg3) _
  unfold V
  congr 1
  funext a
  apply Fin.ext
  match a with
  | ⟨0, _⟩ => show win0_3.index t 0 * 256 + 1 * r.val = t.val * 256 + r.val; rw [e0]; omega
  | ⟨1, _⟩ => show win0_3.index t 1 * 512 + 1 * j.val = j.val; rw [e1]; omega

theorem back_at (c : Dev nD) (t : Fin cfg0.N) (r : Fin 256) (j : Fin 512) :
    back (n := 256) (iblk m c 0 t) (iblk m c 1 t) (iblk m c 3 t) (iblk m c 2 t) r j
      = back (arr0 m c) (arr1 m c) (arr3 m c) (arr2 m c) (row t r) j := by
  unfold back
  exact congrArg₂ Gmlp.dAct (congrArg₂ (· + ·) (blk0 m c t r j) (congrArg₂ (· * ·) (blk2 m c t j) (blk1 m c t r j))) (blk3 m c t r j)

/-- The three results over the arrays. -/
def GBack (c : Dev nD) (i : S8448x512.Idx) : EReal := back (arr0 m c) (arr1 m c) (arr3 m c) (arr2 m c) (i 0) (i 1)

def GSkip (c : Dev nD) (i : S8448x512.Idx) : EReal := skip (arr0 m c) (arr1 m c) (arr3 m c) (arr2 m c) (i 0) (i 1)

def GFactor (c : Dev nD) (i : S1x512.Idx) : EReal := ∑ r, factor (arr0 m c) (arr1 m c) (arr3 m c) (arr2 m c) r (i 1)

/-- What the tile at a point stores by rows. -/
def backAt (c : Dev nD) (t : Fin cfg0.N) : Vec Ideal S256x512 .bf16 :=
  k0_pay2 (F := Ideal) (k0_pay4 (iblk m c 0 t) (iblk m c 1 t) (iblk m c 2 t) (iblk m c 3 t))

def skipAt (c : Dev nD) (t : Fin cfg0.N) : Vec Ideal S256x512 .f32 :=
  k0_pay5 (F := Ideal) (iblk m c 0 t) (iblk m c 1 t) (iblk m c 2 t) (iblk m c 3 t)

theorem backAt_apply (c : Dev nD) (t : Fin cfg0.N) (i : S256x512.Idx) :
    (backAt m c t i : EReal) = back (arr0 m c) (arr1 m c) (arr3 m c) (arr2 m c) (row t (i 0)) (i 1) :=
  (congrArg (backAt m c t) (ValueIdx.eq_ix2 i)).trans ((pay_back _ _ _ _ (i 0) (i 1)).trans (back_at m c t (i 0) (i 1)))

theorem skipAt_apply (c : Dev nD) (t : Fin cfg0.N) (i : S256x512.Idx) :
    (skipAt m c t i : EReal) = skip (arr0 m c) (arr1 m c) (arr3 m c) (arr2 m c) (row t (i 0)) (i 1) :=
  (congrArg (skipAt m c t) (ValueIdx.eq_ix2 i)).trans ((pay_skip _ _ _ _ (i 0) (i 1)).trans
    (congrArg₂ (· * ·) (blk2 m c t (i 1)) (back_at m c t (i 0) (i 1))))

theorem after4 (c : Dev nD) (t : Fin cfg0.N) : (dats m 0 c).after 4 t = backAt m c t := by
  have hN : t.val < 33 := lt_of_lt_of_eq t.isLt N_0
  rw [after0_4]
  by_cases h : t.val % 33 = 0
  · have h' : ¬1 ≤ t.val := by omega
    rw [outsAt0_A m c t h h']
    frame_out
    rfl
  · have h' : 1 ≤ t.val := by omega
    rw [outsAt0_B m c t h h']
    frame_out
    rfl

theorem result4 (c : Dev nD) : (dats m 0 c).arrAt 4 cfg0.N = GBack m c := by
  refine (dats m 0 c).arrAt_eq_of_covers 4 _ (by decide +kernel) fun t hf y => ?_
  blk_simp
  rw [after4]
  obtain ⟨e0, e1⟩ := idx4 t
  refine (backAt_apply m c t y).trans ?_
  exact congrArg₂ (back (arr0 m c) (arr1 m c) (arr3 m c) (arr2 m c))
    (Fin.ext (by show t.val * 256 + (y 0).val = win0_4.index t 0 * 256 + 1 * (y 0).val; rw [e0]; omega))
    (Fin.ext (by show (y 1).val = win0_4.index t 1 * 512 + 1 * (y 1).val; rw [e1]; omega))

theorem after5 (c : Dev nD) (t : Fin cfg0.N) : (dats m 0 c).after 5 t = skipAt m c t := by
  have hN : t.val < 33 := lt_of_lt_of_eq t.isLt N_0
  rw [after0_5]
  by_cases h : t.val % 33 = 0
  · have h' : ¬1 ≤ t.val := by omega
    rw [outsAt0_A m c t h h']
    frame_out
    rfl
  · have h' : 1 ≤ t.val := by omega
    rw [outsAt0_B m c t h h']
    frame_out
    rfl

theorem result5 (c : Dev nD) : (dats m 0 c).arrAt 5 cfg0.N = GSkip m c := by
  refine (dats m 0 c).arrAt_eq_of_covers 5 _ (by decide +kernel) fun t hf y => ?_
  blk_simp
  rw [after5]
  obtain ⟨e0, e1⟩ := idx5 t
  refine (skipAt_apply m c t y).trans ?_
  exact congrArg₂ (skip (arr0 m c) (arr1 m c) (arr3 m c) (arr2 m c))
    (Fin.ext (by show t.val * 256 + (y 0).val = win0_5.index t 0 * 256 + 1 * (y 0).val; rw [e0]; omega))
    (Fin.ext (by show (y 1).val = win0_5.index t 1 * 512 + 1 * (y 1).val; rw [e1]; omega))

/-- A point's part of the skip's gradient. -/
def factorAt (c : Dev nD) (t : Fin cfg0.N) : Vec Ideal S1x512 .f32 :=
  k0_pay1 (F := Ideal) (iblk m c 1 t) (k0_pay4 (iblk m c 0 t) (iblk m c 1 t) (iblk m c 2 t) (iblk m c 3 t))

theorem factor_first (c : Dev nD) (t : Fin cfg0.N) (h : t.val % 33 = 0) : (outsAt0 m c t.val t.isLt).2.2 = factorAt m c t := by
  have hN : t.val < 33 := lt_of_lt_of_eq t.isLt N_0
  have h' : ¬1 ≤ t.val := by omega
  rw [outsAt0_A m c t h h']
  frame_out
  rfl

theorem factor_next (c : Dev nD) (n : ℕ) (hn : n + 1 < cfg0.N) (h : (n + 1) % 33 ≠ 0) :
    (outsAt0 m c (n + 1) hn).2.2 = addf (F := Ideal) (φ := .f32) (outsAt0 m c n (Nat.lt_of_succ_lt hn)).2.2 (factorAt m c ⟨n + 1, hn⟩) := by
  have h' : 1 ≤ n + 1 := by omega
  rw [outsAt0_B m c ⟨n + 1, hn⟩ h h']
  frame_out
  unfold k0_pay3
  simp only [shapeCast_self]
  rfl

theorem factorAt_apply (c : Dev nD) (t : Fin cfg0.N) (i : S1x512.Idx) :
    (factorAt m c t i : EReal) = ∑ r : Fin 256, factor (arr0 m c) (arr1 m c) (arr3 m c) (arr2 m c) (row t r) (i 1) :=
  (pay_factor _ _ _ _ i).trans (Finset.sum_congr rfl fun r _ => congrArg₂ (· * ·) (back_at m c t r (i 1)) (blk1 m c t r (i 1)))

theorem result6 (c : Dev nD) : (dats m 0 c).arrAt 6 cfg0.N = GFactor m c := by
  refine (dats m 0 c).arrAt_eq_of_covers 6 _ (by decide +kernel) fun t hf y => ?_
  have hN : cfg0.N = 33 := N_0
  have ht : t.val = 32 := (by decide +kernel : ∀ t : Fin grid0.N, win0_6.flush t = true → t.val = 32) t hf
  blk_simp
  rw [after0_6]
  obtain ⟨e0, e1⟩ := idx6 t
  have hy1 : (((View.whole main_v0_2).slice (win0_6.rect t)).emb y) 1 = y 1 :=
    Fin.ext (by show win0_6.index t 1 * 512 + 1 * (y 1).val = (y 1).val; rw [e1]; omega)
  unfold GFactor
  rw [hy1]
  exact Tiles.run_last_tiles (J := 33) (TK := 256) (K := 8448) (by decide) (by decide)
    (fun n h => (outsAt0 m c n h).2.2 y) (fun n h => (outsAt0 m c n h).2.2 y) (fun n h => factorAt m c ⟨n, h⟩ y) 0
    (fun r => factor (arr0 m c) (arr1 m c) (arr3 m c) (arr2 m c) r (y 1))
    (fun n h hn => congrFun (factor_first m c ⟨n, h⟩ hn) y) (fun n h h0 _ => congrFun (factor_next m c n h h0) y)
    (fun n h h5 => congrFun (factor_next m c n h (by omega)) y)
    (fun s h => (factorAt_apply m c ⟨_, h⟩ y).trans (Finset.sum_congr rfl fun r _ =>
      congrArg (fun k => factor (arr0 m c) (arr1 m c) (arr3 m c) (arr2 m c) k (y 1)) (Fin.ext (by show (33 * 0 + s.val) * 256 + r.val = s.val * 256 + r.val; omega))))
    t.val (by omega) t.isLt

end Cert.S5ActBIdeal.Prod

namespace Cert.S5ActBRefIdeal.Prod

open Cert.S5ActBRefIdeal Cert.S5ActBRefIdeal.Gen Idealize.ShloMosaic Idealize.ShloMosaic.TcCoe Idealize.SL.Sem
open Cert.S5Act

variable (x0 x1 : S8448x512.Idx → EReal) (x2 : S1x512.Idx → EReal) (x3 : S8448x512.Idx → EReal)

theorem at_pre (i : S8448x512.Idx) : Read.val_main_v2 (F := Ideal) x0 x1 x2 i = x0 (ix2 (i 0) (i 1)) + x2 (ix2 0 (i 1)) * x1 (ix2 (i 0) (i 1)) := by
  rw [Read.val_main_v2_apply, Read.val_main_v1_apply, Read.val_main_v0_apply]
  exact congrArg₂ (· + ·) (congrArg x0 (ValueIdx.eq_ix2 i)) (congrArg₂ (· * ·) (congrArg x2 (ValueIdx.eq_ix2 _)) (congrArg x1 (ValueIdx.eq_ix2 i)))

theorem at_back (i : S8448x512.Idx) : Read.val_main_v35 (F := Ideal) x0 x1 x2 x3 i = back x0 x1 x3 x2 (i 0) (i 1) := by
  simp only [Read.val_main_v35_apply, Read.val_main_v34_apply, Read.val_main_v33_apply, Read.val_main_v32_apply, Read.val_main_cst_8_apply,
    Read.val_main_v31_apply, Read.val_main_v30_apply, Read.val_main_v29_apply, Read.val_main_cst_7_apply, Read.val_main_v28_apply,
    Read.val_main_v27_apply, Read.val_main_v26_apply, Read.val_main_cst_6_apply, Read.val_main_v25_apply, Read.val_main_v24_apply,
    Read.val_main_v22_apply, Read.val_main_v21_apply, Read.val_main_cst_5_apply, Read.val_main_v20_apply, Read.val_main_v19_apply,
    Read.val_main_cst_4_apply, Read.val_main_v18_apply, Read.val_main_v17_apply, Read.val_main_v16_apply, Read.val_main_cst_3_apply,
    Read.val_main_v15_apply, Read.val_main_v14_apply, Read.val_main_cst_2_apply, Read.val_main_v13_apply, Read.val_main_v12_apply,
    Read.val_main_v11_apply, Read.val_main_cst_1_apply, Read.val_main_v10_apply, Read.val_main_v9_apply, Read.val_main_v8_apply,
    Read.val_main_cst_0_apply, Read.val_main_v7_apply, Read.val_main_v6_apply, Read.val_main_cst_apply, Read.val_main_v5_apply,
    Read.val_main_v4_apply, Read.val_main_v3_apply, at_pre]
  have e : x3 i = x3 (ix2 (i 0) (i 1)) := congrArg x3 (ValueIdx.eq_ix2 i)
  rw [e]
  unfold back
  generalize x0 (ix2 (i 0) (i 1)) + x2 (ix2 0 (i 1)) * x1 (ix2 (i 0) (i 1)) = x
  unfold Gmlp.dAct Gmlp.through Gmlp.half Gmlp.th
  rw [mul_comm x (x * x)]
  pointwise

theorem result37 (i : S8448x512.Idx) : Read.val_main_v37 (F := Ideal) x0 x1 x2 x3 i = skip x0 x1 x3 x2 (i 0) (i 1) := by
  rw [Read.val_main_v37_apply, Read.val_main_v36_apply, at_back]
  exact congrArg₂ (· * ·) (congrArg x2 (ValueIdx.eq_ix2 _)) rfl

theorem result41 (i : S8448x512.Idx) : Read.val_main_v41 (F := Ideal) x0 x1 x2 x3 i = back x0 x1 x3 x2 (i 0) (i 1) :=
  at_back x0 x1 x2 x3 i

theorem at_factor (i : S8448x512.Idx) : Read.val_main_v38 (F := Ideal) x0 x1 x2 x3 i = factor x0 x1 x3 x2 (i 0) (i 1) := by
  rw [Read.val_main_v38_apply, at_back]
  exact congrArg₂ (· * ·) rfl (congrArg x1 (ValueIdx.eq_ix2 i))

theorem result40 (i : S1x512.Idx) : Read.val_main_v40 (F := Ideal) x0 x1 x2 x3 i = ∑ r, factor x0 x1 x3 x2 r (i 1) := by
  have h0 : (i 0).val < 1 := (i 0).isLt
  have e : Read.idx_main_v40 i 0 = i 1 := Fin.ext (by show (i 0).val * 512 + (i 1).val = (i 1).val; omega)
  rw [Read.val_main_v40_apply, Read.val_main_v39_apply, Read.val_main_cst_9_apply]
  simp only [at_factor]
  pointwise
  exact congrArg (fun j => ∑ r, factor x0 x1 x3 x2 r j) e

end Cert.S5ActBRefIdeal.Prod

namespace Cert

open Idealize.ShloMosaic Idealize.ShloMosaic.TcCoe Idealize.SL.Sem

theorem algebraic_s5_act_b : Cert.algebraic_S5ActBIdeal_S5ActBRefIdeal := by
  intro m g m' g' _ hm
  refine ⟨Cert.S5ActBIdeal.Prod.GBack m, Cert.S5ActBIdeal.Prod.GSkip m, Cert.S5ActBIdeal.Prod.GFactor m,
    (θ_run Cert.S5ActBIdeal.defs _ _).mono (fun r h c => ⟨(h c).1.trans (Cert.S5ActBIdeal.Prod.result4 m c),
      (h c).2.1.trans (Cert.S5ActBIdeal.Prod.result5 m c), (h c).2.2.1.trans (Cert.S5ActBIdeal.Prod.result6 m c),
      (h c).2.2.2⟩) (Cert.S5ActBIdeal.Value.run_blocks (F := Ideal) m g), ?_⟩
  refine (θ_run Cert.S5ActBRefIdeal.defs _ _).mono (fun r h c => ?_) (Cert.S5ActBRefIdeal.Value.run (F := Ideal) m' g')
  have hr := h c
  have e41 := hr.1.trans (Cert.S5ActBRefIdeal.Read.val_main_v41_eq (F := Ideal) m' c)
  have e37 := hr.2.1.trans (Cert.S5ActBRefIdeal.Read.val_main_v37_eq (F := Ideal) m' c)
  have e40 := hr.2.2.1.trans (Cert.S5ActBRefIdeal.Read.val_main_v40_eq (F := Ideal) m' c)
  rw [(hm c).1, (hm c).2.1, (hm c).2.2.1, (hm c).2.2.2] at e41 e37 e40
  exact ⟨e41.trans (funext fun i => Cert.S5ActBRefIdeal.Prod.result41 _ _ _ _ i),
    e37.trans (funext fun i => Cert.S5ActBRefIdeal.Prod.result37 _ _ _ _ i),
    e40.trans (funext fun i => Cert.S5ActBRefIdeal.Prod.result40 _ _ _ _ i), hr.2.2.2⟩

end Cert

end
-- ==== Proof.InP.lean ====
/- The input product. -/
module

public import proofs.«01_k».proof.Defs
public import proofs.«01_k».proof.Proof.Gen.InPIdeal.Value
public import proofs.«01_k».proof.Proof.Gen.InPRefIdeal.Run
public import proofs.«01_k».proof.Proof.Gen.InPRefIdeal.Read
public import Idealize.ShloMosaic.Lib.Pointwise
public import Idealize.ShloMosaic.Lib.Pipeline.ValueKit

@[expose] public section

set_option maxRecDepth 16384

noncomputable section

namespace Cert.InPIdeal.Prod

open Cert.InPIdeal Cert.InPIdeal.Gen Idealize.ShloMosaic Idealize.ShloMosaic.TcCoe Idealize.SL.Sem
open Idealize.ShloMosaic.Pipeline (Dat)

theorem pay_apply (x0 : Vec Ideal S768x2048 .bf16) (x1 : Vec Ideal S2048x1664 .bf16) (j : S768x1664.Idx) :
    k0_pay1 x1 x0 j = ∑ k : Fin 2048, x0 (ix2 (j 0) k) * x1 (ix2 k (j 1)) := by
  unfold k0_pay1
  pointwise

variable (m : (ℓ : Loc nD τ sig) → Buf (Elt Ideal) ℓ)

/-- The two operands, as arrays of extended reals. -/
abbrev arr0 (c : Dev nD) : S8448x2048.Idx → EReal := m ((c : Thread nD τ).loc main_arg0)
abbrev arr1 (c : Dev nD) : S2048x3328.Idx → EReal := m ((c : Thread nD τ).loc main_arg1)

/-- The whole result. -/
def G (x0 : S8448x2048.Idx → EReal) (x1 : S2048x3328.Idx → EReal) (i : S8448x3328.Idx) : EReal :=
  ∑ k : Fin 2048, x0 (ix2 (i 0) k) * x1 (ix2 k (i 1))

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = 0 ∧ win0_1.index t (1 : Fin 2) = win0_2.index t (1 : Fin 2) :=
  (by decide +kernel : ∀ t : Fin grid0.N, _)

/-- Where a point's block of the result lies in it. -/
abbrev at2 (t : Fin cfg0.N) (y : S768x1664.Idx) : S8448x3328.Idx := ((View.whole main_v0).slice (win0_2.rect t)).emb y

theorem blk0 (c : Dev nD) (t : Fin cfg0.N) (y : S768x1664.Idx) (k : Fin 2048) :
    (iblk m c 0 t : Vec Ideal S768x2048 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 2048 + 1 * k.val = k.val; rw [e1]; omega

theorem blk1 (c : Dev nD) (t : Fin cfg0.N) (y : S768x1664.Idx) (k : Fin 2048) :
    (iblk m c 1 t : Vec Ideal S2048x1664 .bf16) (ix2 k (y 1)) = arr1 m c (ix2 k (at2 t y 1)) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [e0]; omega
  | ⟨1, _⟩ => show win0_1.index t 1 * 1664 + 1 * (y 1).val = win0_2.index t 1 * 1664 + 1 * (y 1).val; rw [e1]

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.InPIdeal.Prod

namespace Cert.InPRefIdeal.Prod

open Cert.InPRefIdeal Cert.InPRefIdeal.Gen Idealize.ShloMosaic Idealize.ShloMosaic.TcCoe Idealize.SL.Sem
open Cert.InPIdeal.Prod (G)

/-- The reference's result: the same sum. -/
theorem result (x0 : S8448x2048.Idx → EReal) (x1 : S2048x3328.Idx → EReal) (i : S8448x3328.Idx) :
    Read.val_main_v2 (F := Ideal) x0 x1 i = G x0 x1 i := by
  unfold G
  rw [Read.val_main_v2_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.InPRefIdeal.Prod

namespace Cert

open Idealize.ShloMosaic Idealize.ShloMosaic.TcCoe Idealize.SL.Sem

theorem algebraic_in_proj : Cert.algebraic_InPIdeal_InPRefIdeal := by
  intro m g m' g' _ hm
  refine ⟨fun c => Cert.InPIdeal.Prod.G (m ((c.tc).loc Cert.InPIdeal.main_arg0)) (m ((c.tc).loc Cert.InPIdeal.main_arg1)),
    (θ_run Cert.InPIdeal.defs _ _).mono (fun r h c => ⟨(h c).1.trans (Cert.InPIdeal.Prod.result m c), (h c).2⟩) (Cert.InPIdeal.Value.run_blocks (F := Ideal) m g), ?_⟩
  refine (θ_run Cert.InPRefIdeal.defs _ _).mono (fun r h c => ⟨(h c).1.trans ?_, (h c).2⟩) (Cert.InPRefIdeal.Value.run (F := Ideal) m' g')
  rw [(hm c).1, (hm c).2]
  funext i
  exact Cert.InPRefIdeal.Prod.result _ _ i

end Cert

end
-- ==== Proof.GateP.lean ====
/- The gates' product: the weight lies in one block of rows per shard and one block of columns per branch. -/
module

public import proofs.«01_k».proof.Defs
public import proofs.«01_k».proof.Proof.Gen.GatePIdeal.Value
public import proofs.«01_k».proof.Proof.Gen.GatePRefIdeal.Run
public import proofs.«01_k».proof.Proof.Gen.GatePRefIdeal.Read
public import Idealize.ShloMosaic.Lib.Pointwise
public import Idealize.ShloMosaic.Lib.Pipeline.ValueKit

@[expose] public section

set_option maxRecDepth 16384

noncomputable section

namespace Cert.GatePIdeal.Prod

open Cert.GatePIdeal Cert.GatePIdeal.Gen Idealize.ShloMosaic Idealize.ShloMosaic.TcCoe Idealize.SL.Sem
open Idealize.ShloMosaic.Pipeline (Dat)

theorem pay_apply (x0 : Vec Ideal S768x2048 .bf16) (x1 : Vec Ideal S4x1x512x1024 .bf16) (j : S768x1024.Idx) :
    k0_pay1 x1 x0 j = ∑ k : Fin 2048, x0 (ix2 (j 0) k) * x1 (ix4 (⟨k.val / 512, by omega⟩ : Fin 4) (0 : Fin 1) (⟨k.val % 512, by omega⟩ : Fin 512) (j 1)) := by
  unfold k0_pay1
  pointwise

variable (m : (ℓ : Loc nD τ sig) → Buf (Elt Ideal) ℓ)

/-- The two operands, as arrays of extended reals. -/
abbrev arr0 (c : Dev nD) : S8448x2048.Idx → EReal := m ((c : Thread nD τ).loc main_arg0)
abbrev arr1 (c : Dev nD) : S4x4x512x2048.Idx → EReal := m ((c : Thread nD τ).loc main_arg1)

/-- Where the whole weight's entry at row `k` and column `j` lies in its layout of blocks. -/
def entry (k : Fin 2048) (j : Fin 8192) : S4x4x512x2048.Idx :=
  ix4 (⟨k.val / 512, by omega⟩ : Fin 4) (⟨j.val / 2048, by omega⟩ : Fin 4) (⟨k.val % 512, by omega⟩ : Fin 512) (⟨j.val % 2048, by omega⟩ : Fin 2048)

/-- The whole result. -/
def G (x0 : S8448x2048.Idx → EReal) (x1 : S4x4x512x2048.Idx → EReal) (i : S8448x8192.Idx) : EReal :=
  ∑ k : Fin 2048, x0 (ix2 (i 0) k) * x1 (entry k (i 1))

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 4) = 0 ∧ win0_1.index t (1 : Fin 4) = win0_2.index t (1 : Fin 2) / 2 ∧ win0_1.index t (2 : Fin 4) = 0 ∧ win0_1.index t (3 : Fin 4) = win0_2.index t (1 : Fin 2) % 2 :=
  (by decide +kernel : ∀ t : Fin grid0.N, _)

/-- Where a point's block of the result lies in it. -/
abbrev at2 (t : Fin cfg0.N) (y : S768x1024.Idx) : S8448x8192.Idx := ((View.whole main_v0).slice (win0_2.rect t)).emb y

theorem blk0 (c : Dev nD) (t : Fin cfg0.N) (y : S768x1024.Idx) (k : Fin 2048) :
    (iblk m c 0 t : Vec Ideal S768x2048 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 2048 + 1 * k.val = k.val; rw [e1]; omega

theorem blk1 (c : Dev nD) (t : Fin cfg0.N) (y : S768x1024.Idx) (k : Fin 2048) :
    (iblk m c 1 t : Vec Ideal S4x1x512x1024 .bf16) (ix4 (⟨k.val / 512, by omega⟩ : Fin 4) (0 : Fin 1) (⟨k.val % 512, by omega⟩ : Fin 512) (y 1)) = arr1 m c (entry k (at2 t y 1)) := by
  obtain ⟨e0, e1, e2, e3⟩ := idx1 t
  unfold iblk
  rw [View.read_apply]
  show V m c main_arg1 _ = m (c.tc.loc main_arg1) _
  unfold V
  congr 1
  have b1 : (y 1).val < 1024 := (y 1).isLt
  have b2 : k.val < 2048 := k.isLt
  funext a
  apply Fin.ext
  match a with
  | ⟨0, _⟩ => show win0_1.index t 0 * 4 + 1 * (k.val / 512) = k.val / 512; rw [e0]; omega
  | ⟨1, _⟩ => show win0_1.index t 1 * 1 + 1 * 0 = (win0_2.index t 1 * 1024 + 1 * (y 1).val) / 2048; rw [e1]; omega
  | ⟨2, _⟩ => show win0_1.index t 2 * 512 + 1 * (k.val % 512) = k.val % 512; rw [e2]; omega
  | ⟨3, _⟩ => show win0_1.index t 3 * 1024 + 1 * (y 1).val = (win0_2.index t 1 * 1024 + 1 * (y 1).val) % 2048; rw [e3]; omega

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.GatePIdeal.Prod

namespace Cert.GatePRefIdeal.Prod

open Cert.GatePRefIdeal Cert.GatePRefIdeal.Gen Idealize.ShloMosaic Idealize.ShloMosaic.TcCoe Idealize.SL.Sem
open Cert.GatePIdeal.Prod (G entry)

/-- The reference's result: the same sum. -/
theorem result (x0 : S8448x2048.Idx → EReal) (x1 : S4x4x512x2048.Idx → EReal) (i : S8448x8192.Idx) :
    Read.val_main_v4 (F := Ideal) x0 x1 i = G x0 x1 i := by
  unfold G
  rw [Read.val_main_v4_apply]
  refine Finset.sum_congr rfl fun κ _ => ?_
  rw [Read.val_main_v3_apply, Read.val_main_v2_apply]
  have b1 : (i 1).val < 8192 := (i 1).isLt
  have b2 : κ.val < 2048 := κ.isLt
  refine congrArg₂ (· * ·) (congrArg x0 ?_) (congrArg x1 ?_)
  · funext a; match a with
    | ⟨0, _⟩ => rfl
    | ⟨1, _⟩ => rfl
  · funext a; match a with
    | ⟨0, _⟩ => apply Fin.ext; show ((κ.val * 8192 + (i 1).val) / 4194304 : ℕ) = κ.val / 512; omega
    | ⟨1, _⟩ => apply Fin.ext; show ((κ.val * 8192 + (i 1).val) / 2048 % 4 : ℕ) = (i 1).val / 2048; omega
    | ⟨2, _⟩ => apply Fin.ext; show ((κ.val * 8192 + (i 1).val) / 8192 % 512 : ℕ) = κ.val % 512; omega
    | ⟨3, _⟩ => apply Fin.ext; show ((κ.val * 8192 + (i 1).val) % 2048 : ℕ) = (i 1).val % 2048; omega

end Cert.GatePRefIdeal.Prod

namespace Cert

open Idealize.ShloMosaic Idealize.ShloMosaic.TcCoe Idealize.SL.Sem

theorem algebraic_gate_proj : Cert.algebraic_GatePIdeal_GatePRefIdeal := by
  intro m g m' g' _ hm
  refine ⟨fun c => Cert.GatePIdeal.Prod.G (m ((c.tc).loc Cert.GatePIdeal.main_arg0)) (m ((c.tc).loc Cert.GatePIdeal.main_arg1)),
    (θ_run Cert.GatePIdeal.defs _ _).mono (fun r h c => ⟨(h c).1.trans (Cert.GatePIdeal.Prod.result m c), (h c).2⟩) (Cert.GatePIdeal.Value.run_blocks (F := Ideal) m g), ?_⟩
  refine (θ_run Cert.GatePRefIdeal.defs _ _).mono (fun r h c => ⟨(h c).1.trans ?_, (h c).2⟩) (Cert.GatePRefIdeal.Value.run (F := Ideal) m' g')
  rw [(hm c).1, (hm c).2]
  funext i
  exact Cert.GatePRefIdeal.Prod.result _ _ i

end Cert

end
-- ==== Proof.BranchP.lean ====
/- A branch's output product. -/
module

public import proofs.«01_k».proof.Defs
public import proofs.«01_k».proof.Proof.Gen.BranchPIdeal.Value
public import proofs.«01_k».proof.Proof.Gen.BranchPRefIdeal.Run
public import proofs.«01_k».proof.Proof.Gen.BranchPRefIdeal.Read
public import Idealize.ShloMosaic.Lib.Pointwise
public import Idealize.ShloMosaic.Lib.Pipeline.ValueKit

@[expose] public section

set_option maxRecDepth 16384

noncomputable section

namespace Cert.BranchPIdeal.Prod

open Cert.BranchPIdeal Cert.BranchPIdeal.Gen Idealize.ShloMosaic Idealize.ShloMosaic.TcCoe Idealize.SL.Sem
open Idealize.ShloMosaic.Pipeline (Dat)

theorem pay_apply (x0 : Vec Ideal S768x512 .bf16) (x1 : Vec Ideal S512x1024 .bf16) (j : S768x1024.Idx) :
    k0_pay1 x1 x0 j = ∑ k : Fin 512, x0 (ix2 (j 0) k) * x1 (ix2 k (j 1)) := by
  unfold k0_pay1
  pointwise

variable (m : (ℓ : Loc nD τ sig) → Buf (Elt Ideal) ℓ)

/-- The two operands, as arrays of extended reals. -/
abbrev arr0 (c : Dev nD) : S8448x512.Idx → EReal := m ((c : Thread nD τ).loc main_arg0)
abbrev arr1 (c : Dev nD) : S512x2048.Idx → EReal := m ((c : Thread nD τ).loc main_arg1)

/-- The whole result. -/
def G (x0 : S8448x512.Idx → EReal) (x1 : S512x2048.Idx → EReal) (i : S8448x2048.Idx) : EReal :=
  ∑ k : Fin 512, x0 (ix2 (i 0) k) * x1 (ix2 k (i 1))

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = 0 ∧ win0_1.index t (1 : Fin 2) = win0_2.index t (1 : Fin 2) :=
  (by decide +kernel : ∀ t : Fin grid0.N, _)

/-- Where a point's block of the result lies in it. -/
abbrev at2 (t : Fin cfg0.N) (y : S768x1024.Idx) : S8448x2048.Idx := ((View.whole main_v0).slice (win0_2.rect t)).emb y

theorem blk0 (c : Dev nD) (t : Fin cfg0.N) (y : S768x1024.Idx) (k : Fin 512) :
    (iblk m c 0 t : Vec Ideal S768x512 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 512 + 1 * k.val = k.val; rw [e1]; omega

theorem blk1 (c : Dev nD) (t : Fin cfg0.N) (y : S768x1024.Idx) (k : Fin 512) :
    (iblk m c 1 t : Vec Ideal S512x1024 .bf16) (ix2 k (y 1)) = arr1 m c (ix2 k (at2 t y 1)) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 512 + 1 * k.val = k.val; rw [e0]; omega
  | ⟨1, _⟩ => show win0_1.index t 1 * 1024 + 1 * (y 1).val = win0_2.index t 1 * 1024 + 1 * (y 1).val; rw [e1]

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.BranchPIdeal.Prod

namespace Cert.BranchPRefIdeal.Prod

open Cert.BranchPRefIdeal Cert.BranchPRefIdeal.Gen Idealize.ShloMosaic Idealize.ShloMosaic.TcCoe Idealize.SL.Sem
open Cert.BranchPIdeal.Prod (G)

/-- The reference's result: the same sum. -/
theorem result (x0 : S8448x512.Idx → EReal) (x1 : S512x2048.Idx → EReal) (i : S8448x2048.Idx) :
    Read.val_main_v2 (F := Ideal) x0 x1 i = G x0 x1 i := by
  unfold G
  rw [Read.val_main_v2_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.BranchPRefIdeal.Prod

namespace Cert

open Idealize.ShloMosaic Idealize.ShloMosaic.TcCoe Idealize.SL.Sem

theorem algebraic_branch_proj : Cert.algebraic_BranchPIdeal_BranchPRefIdeal := by
  intro m g m' g' _ hm
  refine ⟨fun c => Cert.BranchPIdeal.Prod.G (m ((c.tc).loc Cert.BranchPIdeal.main_arg0)) (m ((c.tc).loc Cert.BranchPIdeal.main_arg1)),
    (θ_run Cert.BranchPIdeal.defs _ _).mono (fun r h c => ⟨(h c).1.trans (Cert.BranchPIdeal.Prod.result m c), (h c).2⟩) (Cert.BranchPIdeal.Value.run_blocks (F := Ideal) m g), ?_⟩
  refine (θ_run Cert.BranchPRefIdeal.defs _ _).mono (fun r h c => ⟨(h c).1.trans ?_, (h c).2⟩) (Cert.BranchPRefIdeal.Value.run (F := Ideal) m' g')
  rw [(hm c).1, (hm c).2]
  funext i
  exact Cert.BranchPRefIdeal.Prod.result _ _ i

end Cert

end
-- ==== Proof.OutP.lean ====
/- The output product. -/
module

public import proofs.«01_k».proof.Defs
public import proofs.«01_k».proof.Proof.Gen.OutPIdeal.Value
public import proofs.«01_k».proof.Proof.Gen.OutPRefIdeal.Run
public import proofs.«01_k».proof.Proof.Gen.OutPRefIdeal.Read
public import Idealize.ShloMosaic.Lib.Pointwise
public import Idealize.ShloMosaic.Lib.Pipeline.ValueKit

@[expose] public section

set_option maxRecDepth 16384

noncomputable section

namespace Cert.OutPIdeal.Prod

open Cert.OutPIdeal Cert.OutPIdeal.Gen Idealize.ShloMosaic Idealize.ShloMosaic.TcCoe Idealize.SL.Sem
open Idealize.ShloMosaic.Pipeline (Dat)

theorem pay_apply (x0 : Vec Ideal S768x2048 .bf16) (x1 : Vec Ideal S2048x1024 .bf16) (j : S768x1024.Idx) :
    k0_pay1 x1 x0 j = ∑ k : Fin 2048, x0 (ix2 (j 0) k) * x1 (ix2 k (j 1)) := by
  unfold k0_pay1
  pointwise

variable (m : (ℓ : Loc nD τ sig) → Buf (Elt Ideal) ℓ)

/-- The two operands, as arrays of extended reals. -/
abbrev arr0 (c : Dev nD) : S8448x2048.Idx → EReal := m ((c : Thread nD τ).loc main_arg0)
abbrev arr1 (c : Dev nD) : S2048x2048.Idx → EReal := m ((c : Thread nD τ).loc main_arg1)

/-- The whole result. -/
def G (x0 : S8448x2048.Idx → EReal) (x1 : S2048x2048.Idx → EReal) (i : S8448x2048.Idx) : EReal :=
  ∑ k : Fin 2048, x0 (ix2 (i 0) k) * x1 (ix2 k (i 1))

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = 0 ∧ win0_1.index t (1 : Fin 2) = win0_2.index t (1 : Fin 2) :=
  (by decide +kernel : ∀ t : Fin grid0.N, _)

/-- Where a point's block of the result lies in it. -/
abbrev at2 (t : Fin cfg0.N) (y : S768x1024.Idx) : S8448x2048.Idx := ((View.whole main_v0).slice (win0_2.rect t)).emb y

theorem blk0 (c : Dev nD) (t : Fin cfg0.N) (y : S768x1024.Idx) (k : Fin 2048) :
    (iblk m c 0 t : Vec Ideal S768x2048 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 2048 + 1 * k.val = k.val; rw [e1]; omega

theorem blk1 (c : Dev nD) (t : Fin cfg0.N) (y : S768x1024.Idx) (k : Fin 2048) :
    (iblk m c 1 t : Vec Ideal S2048x1024 .bf16) (ix2 k (y 1)) = arr1 m c (ix2 k (at2 t y 1)) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [e0]; omega
  | ⟨1, _⟩ => show win0_1.index t 1 * 1024 + 1 * (y 1).val = win0_2.index t 1 * 1024 + 1 * (y 1).val; rw [e1]

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.OutPIdeal.Prod

namespace Cert.OutPRefIdeal.Prod

open Cert.OutPRefIdeal Cert.OutPRefIdeal.Gen Idealize.ShloMosaic Idealize.ShloMosaic.TcCoe Idealize.SL.Sem
open Cert.OutPIdeal.Prod (G)

/-- The reference's result: the same sum. -/
theorem result (x0 : S8448x2048.Idx → EReal) (x1 : S2048x2048.Idx → EReal) (i : S8448x2048.Idx) :
    Read.val_main_v2 (F := Ideal) x0 x1 i = G x0 x1 i := by
  unfold G
  rw [Read.val_main_v2_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.OutPRefIdeal.Prod

namespace Cert

open Idealize.ShloMosaic Idealize.ShloMosaic.TcCoe Idealize.SL.Sem

theorem algebraic_out_proj : Cert.algebraic_OutPIdeal_OutPRefIdeal := by
  intro m g m' g' _ hm
  refine ⟨fun c => Cert.OutPIdeal.Prod.G (m ((c.tc).loc Cert.OutPIdeal.main_arg0)) (m ((c.tc).loc Cert.OutPIdeal.main_arg1)),
    (θ_run Cert.OutPIdeal.defs _ _).mono (fun r h c => ⟨(h c).1.trans (Cert.OutPIdeal.Prod.result m c), (h c).2⟩) (Cert.OutPIdeal.Value.run_blocks (F := Ideal) m g), ?_⟩
  refine (θ_run Cert.OutPRefIdeal.defs _ _).mono (fun r h c => ⟨(h c).1.trans ?_, (h c).2⟩) (Cert.OutPRefIdeal.Value.run (F := Ideal) m' g')
  rw [(hm c).1, (hm c).2]
  funext i
  exact Cert.OutPRefIdeal.Prod.result _ _ i

end Cert

end
-- ==== Proof.Ff1P.lean ====
/- The channel mixer's first product and its squared ReLU: the weight lies in one block of columns per shard. -/
module

public import proofs.«01_k».proof.Defs
public import proofs.«01_k».proof.Proof.Gen.Ff1PIdeal.Value
public import proofs.«01_k».proof.Proof.Gen.Ff1PRefIdeal.Run
public import proofs.«01_k».proof.Proof.Gen.Ff1PRefIdeal.Read
public import Idealize.ShloMosaic.Lib.Pointwise
public import Idealize.ShloMosaic.Lib.Pipeline.ValueKit

@[expose] public section

set_option maxRecDepth 16384

noncomputable section

namespace Cert.Ff1PIdeal.Prod

open Cert.Ff1PIdeal Cert.Ff1PIdeal.Gen Idealize.ShloMosaic Idealize.ShloMosaic.TcCoe Idealize.SL.Sem
open Idealize.ShloMosaic.Pipeline (Dat)

theorem pay_apply (x0 : Vec Ideal S768x2048 .bf16) (x1 : Vec Ideal S1x2048x1024 .bf16) (j : S768x1024.Idx) :
    k0_pay1 x1 x0 j = ∑ k : Fin 2048, x0 (ix2 (j 0) k) * x1 (ix3 (0 : Fin 1) k (j 1)) := by
  unfold k0_pay1
  pointwise

/-- The squared ReLU. -/
def sqRelu (x : EReal) : EReal := max x 0 * max x 0

theorem pay2_apply (x0 : Vec Ideal S768x2048 .bf16) (x1 : Vec Ideal S1x2048x1024 .bf16) (j : S768x1024.Idx) :
    (k0_pay2 x1 x0 j : EReal) = sqRelu (k0_pay1 x1 x0 j) := by
  unfold k0_pay2 sqRelu
  pointwise

variable (m : (ℓ : Loc nD τ sig) → Buf (Elt Ideal) ℓ)

/-- The two operands, as arrays of extended reals. -/
abbrev arr0 (c : Dev nD) : S8448x2048.Idx → EReal := m ((c : Thread nD τ).loc main_arg0)
abbrev arr1 (c : Dev nD) : S4x2048x2048.Idx → EReal := m ((c : Thread nD τ).loc main_arg1)

/-- Where the whole weight's entry at row `k` and column `j` lies in its layout of shards. -/
def entry (k : Fin 2048) (j : Fin 8192) : S4x2048x2048.Idx :=
  ix3 (⟨j.val / 2048, by omega⟩ : Fin 4) k (⟨j.val % 2048, by omega⟩ : Fin 2048)

/-- The whole result. -/
def G (x0 : S8448x2048.Idx → EReal) (x1 : S4x2048x2048.Idx → EReal) (i : S8448x8192.Idx) : EReal :=
  ∑ k : Fin 2048, x0 (ix2 (i 0) k) * x1 (entry k (i 1))

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 3) = win0_2.index t (1 : Fin 2) / 2 ∧ win0_1.index t (1 : Fin 3) = 0 ∧ win0_1.index t (2 : Fin 3) = win0_2.index t (1 : Fin 2) % 2 :=
  (by decide +kernel : ∀ t : Fin grid0.N, _)

/-- Where a point's block of the result lies in it. -/
abbrev at2 (t : Fin cfg0.N) (y : S768x1024.Idx) : S8448x8192.Idx := ((View.whole main_v0_0).slice (win0_2.rect t)).emb y

theorem blk0 (c : Dev nD) (t : Fin cfg0.N) (y : S768x1024.Idx) (k : Fin 2048) :
    (iblk m c 0 t : Vec Ideal S768x2048 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 2048 + 1 * k.val = k.val; rw [e1]; omega

theorem blk1 (c : Dev nD) (t : Fin cfg0.N) (y : S768x1024.Idx) (k : Fin 2048) :
    (iblk m c 1 t : Vec Ideal S1x2048x1024 .bf16) (ix3 (0 : Fin 1) k (y 1)) = arr1 m c (entry k (at2 t y 1)) := by
  obtain ⟨e0, e1, e2⟩ := idx1 t
  unfold iblk
  rw [View.read_apply]
  show V m c main_arg1 _ = m (c.tc.loc main_arg1) _
  unfold V
  congr 1
  have b1 : (y 1).val < 1024 := (y 1).isLt
  have b2 : k.val < 2048 := k.isLt
  funext a
  apply Fin.ext
  match a with
  | ⟨0, _⟩ => show win0_1.index t 0 * 1 + 1 * 0 = (win0_2.index t 1 * 1024 + 1 * (y 1).val) / 2048; rw [e0]; omega
  | ⟨1, _⟩ => show win0_1.index t 1 * 2048 + 1 * k.val = k.val; rw [e1]; omega
  | ⟨2, _⟩ => show win0_1.index t 2 * 1024 + 1 * (y 1).val = (win0_2.index t 1 * 1024 + 1 * (y 1).val) % 2048; rw [e2]; omega

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

theorem idx3 : ∀ t : Fin cfg0.N, win0_3.index t (0 : Fin 2) = win0_2.index t (0 : Fin 2) ∧ win0_3.index t (1 : Fin 2) = win0_2.index t (1 : Fin 2) :=
  (by decide +kernel : ∀ t : Fin grid0.N, _)

theorem at3 (t : Fin cfg0.N) (y : S768x1024.Idx) : ((View.whole main_v0_1).slice (win0_3.rect t)).emb y = at2 t y := by
  obtain ⟨e0, e1⟩ := idx3 t
  funext a
  apply Fin.ext
  match a with
  | ⟨0, _⟩ => show win0_3.index t 0 * 768 + 1 * (y 0).val = win0_2.index t 0 * 768 + 1 * (y 0).val; rw [e0]
  | ⟨1, _⟩ => show win0_3.index t 1 * 1024 + 1 * (y 1).val = win0_2.index t 1 * 1024 + 1 * (y 1).val; rw [e1]

theorem result3 (c : Dev nD) : (dats m 0 c).arrAt 3 cfg0.N = fun i => sqRelu (G (arr0 m c) (arr1 m c) i) := by
  refine (dats m 0 c).arrAt_eq_of_covers 3 _ (by decide +kernel) fun t hf y => ?_
  blk_simp
  rw [after0_3, at3]
  frame_out
  refine (pay2_apply _ _ _).trans (congrArg sqRelu ((pay_apply _ _ _).trans ?_))
  exact Finset.sum_congr rfl fun k _ => congrArg₂ (· * ·) (blk0 m c t y k) (blk1 m c t y k)

end Cert.Ff1PIdeal.Prod

namespace Cert.Ff1PRefIdeal.Prod

open Cert.Ff1PRefIdeal Cert.Ff1PRefIdeal.Gen Idealize.ShloMosaic Idealize.ShloMosaic.TcCoe Idealize.SL.Sem
open Cert.Ff1PIdeal.Prod (G entry sqRelu)

/-- The reference's result: the same sum. -/
theorem result (x0 : S8448x2048.Idx → EReal) (x1 : S4x2048x2048.Idx → EReal) (i : S8448x8192.Idx) :
    Read.val_main_v4 (F := Ideal) x0 x1 i = G x0 x1 i := by
  unfold G
  rw [Read.val_main_v4_apply]
  refine Finset.sum_congr rfl fun κ _ => ?_
  rw [Read.val_main_v3_apply, Read.val_main_v2_apply]
  have b1 : (i 1).val < 8192 := (i 1).isLt
  have b2 : κ.val < 2048 := κ.isLt
  refine congrArg₂ (· * ·) (congrArg x0 ?_) (congrArg x1 ?_)
  · funext a; match a with
    | ⟨0, _⟩ => rfl
    | ⟨1, _⟩ => rfl
  · funext a; match a with
    | ⟨0, _⟩ => apply Fin.ext; show ((κ.val * 8192 + (i 1).val) / 2048 % 4 : ℕ) = (i 1).val / 2048; omega
    | ⟨1, _⟩ => apply Fin.ext; show ((κ.val * 8192 + (i 1).val) / 8192 : ℕ) = κ.val; omega
    | ⟨2, _⟩ => apply Fin.ext; show ((κ.val * 8192 + (i 1).val) % 2048 : ℕ) = (i 1).val % 2048; omega

theorem result7 (x0 : S8448x2048.Idx → EReal) (x1 : S4x2048x2048.Idx → EReal) (i : S8448x8192.Idx) :
    Read.val_main_v7 (F := Ideal) x0 x1 i = sqRelu (G x0 x1 i) := by
  rw [← result]
  unfold Read.val_main_v7 Read.val_main_v6 Read.val_main_v5 Read.val_main_call0_v0 Read.val_main_call0_cst sqRelu
  pointwise

end Cert.Ff1PRefIdeal.Prod

namespace Cert

open Idealize.ShloMosaic Idealize.ShloMosaic.TcCoe Idealize.SL.Sem

theorem algebraic_ff1 : Cert.algebraic_Ff1PIdeal_Ff1PRefIdeal := by
  intro m g m' g' _ hm
  refine ⟨fun c => Cert.Ff1PIdeal.Prod.G (m ((c.tc).loc Cert.Ff1PIdeal.main_arg0)) (m ((c.tc).loc Cert.Ff1PIdeal.main_arg1)),
    fun c i => Cert.Ff1PIdeal.Prod.sqRelu (Cert.Ff1PIdeal.Prod.G (m ((c.tc).loc Cert.Ff1PIdeal.main_arg0)) (m ((c.tc).loc Cert.Ff1PIdeal.main_arg1)) i),
    (θ_run Cert.Ff1PIdeal.defs _ _).mono (fun r h c => ⟨(h c).1.trans (Cert.Ff1PIdeal.Prod.result m c),
      (h c).2.1.trans (Cert.Ff1PIdeal.Prod.result3 m c), (h c).2.2⟩) (Cert.Ff1PIdeal.Value.run_blocks (F := Ideal) m g), ?_⟩
  refine (θ_run Cert.Ff1PRefIdeal.defs _ _).mono (fun r h c => ?_) (Cert.Ff1PRefIdeal.Value.run (F := Ideal) m' g')
  have hr := h c
  refine ⟨hr.1.trans ?_, hr.2.1.trans ?_, hr.2.2⟩
  · rw [(hm c).1, (hm c).2]
    exact funext fun i => Cert.Ff1PRefIdeal.Prod.result _ _ i
  · rw [(hm c).1, (hm c).2]
    exact funext fun i => Cert.Ff1PRefIdeal.Prod.result7 _ _ i

end Cert

end
-- ==== Proof.Ff2P.lean ====
/- The channel mixer's second product. -/
module

public import proofs.«01_k».proof.Proof.Tiles
public import proofs.«01_k».proof.Defs
public import proofs.«01_k».proof.Proof.Gen.Ff2PIdeal.Value
public import proofs.«01_k».proof.Proof.Gen.Ff2PRefIdeal.Run
public import proofs.«01_k».proof.Proof.Gen.Ff2PRefIdeal.Read
public import Idealize.ShloMosaic.Lib.Pointwise

@[expose] public section

set_option maxRecDepth 16384

noncomputable section

namespace Cert.Ff2PIdeal.Prod

open Cert.Ff2PIdeal Cert.Ff2PIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S768x2048 .bf16) (x1 : Vec Ideal S2048x1024 .bf16) (j : S768x1024.Idx) :
    k0_pay1 x1 x0 j = ∑ k : Fin 2048, x0 (ix2 (j 0) k) * x1 (ix2 k (j 1)) := by
  unfold k0_pay1
  pointwise

variable (m : (ℓ : Loc nD τ sig) → Buf (Elt Ideal) ℓ)

/-- The products of a row of the first array with a row of the weight, column by column. -/
def term (x0 : S8448x8192.Idx → EReal) (x1 : S8192x2048.Idx → EReal) (i : S8448x2048.Idx) (κ : Fin 8192) : EReal :=
  x0 (ix2 (i 0) κ) * x1 (ix2 κ (i 1))

/-- The two operands, as arrays of extended reals. -/
abbrev arr0 (c : Dev nD) : S8448x8192.Idx → EReal := m ((c : Thread nD τ).loc main_arg0)
abbrev arr1 (c : Dev nD) : S8192x2048.Idx → EReal := m ((c : Thread nD τ).loc main_arg1)

theorem idx0 : ∀ t : Fin cfg0.N, win0_0.index t (0 : Fin 2) = t.val / 8 ∧ win0_0.index t (1 : Fin 2) = t.val % 4 :=
  (by decide +kernel : ∀ t : Fin grid0.N, _)

theorem idx1 : ∀ t : Fin cfg0.N, win0_1.index t (0 : Fin 2) = t.val % 4 ∧ win0_1.index t (1 : Fin 2) = t.val / 4 % 2 :=
  (by decide +kernel : ∀ t : Fin grid0.N, _)

theorem blk0 (c : Dev nD) (t : Fin cfg0.N) (r : Fin 768) (k : Fin 2048) (ρ : Fin 8448) (κ : Fin 8192)
    (hr : ρ.val = t.val / 8 * 768 + r.val) (hk : κ.val = t.val % 4 * 2048 + k.val) :
    (iblk m c 0 t : Vec Ideal S768x2048 .bf16) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * r.val = ρ.val; rw [e0, hr]; omega
  | ⟨1, _⟩ => show win0_0.index t 1 * 2048 + 1 * k.val = κ.val; rw [e1, hk]; omega

theorem blk1 (c : Dev nD) (t : Fin cfg0.N) (r : Fin 1024) (k : Fin 2048) (ρ : Fin 2048) (κ : Fin 8192)
    (hr : ρ.val = t.val / 4 % 2 * 1024 + r.val) (hk : κ.val = t.val % 4 * 2048 + k.val) :
    (iblk m c 1 t : Vec Ideal S2048x1024 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 2048 + 1 * k.val = κ.val; rw [e0, hk]; omega
  | ⟨1, _⟩ => show win0_1.index t 1 * 1024 + 1 * r.val = ρ.val; rw [e1, hr]; omega

/-- A point's part: the product of its two blocks. -/
def part (c : Dev nD) (t : Fin cfg0.N) : Vec Ideal S768x1024 .f32 := k0_pay1 (F := Ideal) (iblk m c 1 t) (iblk m c 0 t)

theorem part_apply (c : Dev nD) (t : Fin cfg0.N) (y : S768x1024.Idx) (i : S8448x2048.Idx) (s : ℕ) (hs : s < 4) (ht : t.val % 4 = s)
    (h0 : (i 0).val = t.val / 8 * 768 + (y 0).val) (h1 : (i 1).val = t.val / 4 % 2 * 1024 + (y 1).val) :
    (part m c t y : EReal) = ∑ k : Fin 2048, term (arr0 m c) (arr1 m c) i ⟨s * 2048 + k.val, Tiles.tile_lt (J := 4) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a run leaves its part in the scratch. -/
theorem scratch_A (c : Dev nD) (t : Fin cfg0.N) (h : t.val % 4 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S768x2048) hz, View.ld_unit_zero (S := S2048x1024) hz, shapeCast_self]

/-- A point between adds its part to it. -/
theorem scratch_B (c : Dev nD) (n : ℕ) (hn : n + 1 < cfg0.N) (h : (n + 1) % 4 ≠ 0) (h5 : (n + 1) % 4 ≠ 4 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S768x2048) hz, View.ld_unit_zero (S := S2048x1024) hz, View.ld_unit_zero (S := S768x1024) hz, shapeCast_self]
  rfl

/-- The last point of a run stores the scratch with its own part added. -/
theorem stored_C (c : Dev nD) (n : ℕ) (hn : n + 1 < cfg0.N) (h5 : (n + 1) % 4 = 4 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S768x1024) _ hz]
  unfold k0_pay3 part
  simp only [View.readAt_eq_ld, (hs0_0 _).read_unread, (hs0_1 _).read_unread, (Memref.isWhole_whole _).read_unread, View.ld_unit_zero (S := S768x2048) hz, View.ld_unit_zero (S := S2048x1024) hz, View.ld_unit_zero (S := S768x1024) hz, shapeCast_self]
  rfl

/-- The kernel's result: at every element the whole sum. -/
theorem result (c : Dev nD) (i : S8448x2048.Idx) :
    (Value.G2 m c : S8448x2048.Idx → EReal) i = ∑ κ, term (arr0 m c) (arr1 m c) i κ := by
  have b0 : (i 0).val < 8448 := (i 0).isLt
  have b1 : (i 1).val < 2048 := (i 1).isLt
  have hN : cfg0.N = 88 := N_0
  have hp : Value.pt2Of i = 4 * (2 * ((i 0).val / 768) + (i 1).val / 1024) + (4 - 1) := by
    show 4 * (2 * ((i 0).val / 768 - 0) + 1 * ((i 1).val / 1024 - 0)) + 3 = _
    omega
  have hlt : Value.pt2Of i < cfg0.N := by omega
  unfold Value.G2
  rw [dif_pos hlt, ← Value.outsAt0_sweep m c _ hlt]
  refine Tiles.run_last_tiles (J := 4) (TK := 2048) (by decide) (by decide)
    (fun n h => (outsAt0 m c n h).2 (Value.loc2Of i)) (fun n h => (outsAt0 m c n h).1 (Value.loc2Of i))
    (fun n h => part m c ⟨n, h⟩ (Value.loc2Of i)) (2 * ((i 0).val / 768) + (i 1).val / 1024) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (4 * (2 * ((i 0).val / 768) + (i 1).val / 1024) + s.val) / 8 * 768 + (i 0).val % 768; omega)
      (by show (i 1).val = (4 * (2 * ((i 0).val / 768) + (i 1).val / 1024) + s.val) / 4 % 2 * 1024 + (i 1).val % 1024; omega)

end Cert.Ff2PIdeal.Prod

namespace Cert.Ff2PRefIdeal.Prod

open Cert.Ff2PRefIdeal Cert.Ff2PRefIdeal.Gen Idealize.ShloMosaic Idealize.ShloMosaic.TcCoe Idealize.SL.Sem

/-- The reference's result: the same sum. -/
theorem result (x0 : S8448x8192.Idx → EReal) (x1 : S8192x2048.Idx → EReal) (i : S8448x2048.Idx) :
    Read.val_main_v2 (F := Ideal) x0 x1 i = ∑ κ : Fin 8192, x0 (ix2 (i 0) κ) * x1 (ix2 κ (i 1)) := by
  rw [Read.val_main_v2_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.Ff2PRefIdeal.Prod

namespace Cert

open Idealize.ShloMosaic Idealize.ShloMosaic.TcCoe Idealize.SL.Sem

theorem algebraic_ff2 : Cert.algebraic_Ff2PIdeal_Ff2PRefIdeal := by
  intro m g m' g' _ hm
  refine ⟨fun c => Cert.Ff2PIdeal.Value.G2 m c, Cert.Ff2PIdeal.Value.run m g, ?_⟩
  refine (θ_run Cert.Ff2PRefIdeal.defs _ _).mono (fun r h c => ⟨(h c).1.trans ?_, (h c).2⟩) (Cert.Ff2PRefIdeal.Value.run (F := Ideal) m' g')
  rw [(hm c).1, (hm c).2]
  funext i
  exact (Cert.Ff2PRefIdeal.Prod.result _ _ i).trans (Cert.Ff2PIdeal.Prod.result m c i).symm

end Cert

end
-- ==== Proof.GluP.lean ====
/- The S5 branch's product into its gate's two halves. -/
module

public import proofs.«01_k».proof.Defs
public import proofs.«01_k».proof.Proof.Gen.GluPIdeal.Value
public import proofs.«01_k».proof.Proof.Gen.GluPRefIdeal.Run
public import proofs.«01_k».proof.Proof.Gen.GluPRefIdeal.Read
public import Idealize.ShloMosaic.Lib.Pointwise
public import Idealize.ShloMosaic.Lib.Pipeline.ValueKit

@[expose] public section

set_option maxRecDepth 16384

noncomputable section

namespace Cert.GluPIdeal.Prod

open Cert.GluPIdeal Cert.GluPIdeal.Gen Idealize.ShloMosaic Idealize.ShloMosaic.TcCoe Idealize.SL.Sem
open Idealize.ShloMosaic.Pipeline (Dat)

theorem pay_apply (x0 : Vec Ideal S768x512 .bf16) (x1 : Vec Ideal S512x1024 .bf16) (j : S768x1024.Idx) :
    k0_pay1 x1 x0 j = ∑ k : Fin 512, x0 (ix2 (j 0) k) * x1 (ix2 k (j 1)) := by
  unfold k0_pay1
  pointwise

variable (m : (ℓ : Loc nD τ sig) → Buf (Elt Ideal) ℓ)

/-- The two operands, as arrays of extended reals. -/
abbrev arr0 (c : Dev nD) : S8448x512.Idx → EReal := m ((c : Thread nD τ).loc main_arg0)
abbrev arr1 (c : Dev nD) : S512x1024.Idx → EReal := m ((c : Thread nD τ).loc main_arg1)

/-- The whole result. -/
def G (x0 : S8448x512.Idx → EReal) (x1 : S512x1024.Idx → EReal) (i : S8448x1024.Idx) : EReal :=
  ∑ k : Fin 512, x0 (ix2 (i 0) k) * x1 (ix2 k (i 1))

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = 0 ∧ win0_1.index t (1 : Fin 2) = win0_2.index t (1 : Fin 2) :=
  (by decide +kernel : ∀ t : Fin grid0.N, _)

/-- Where a point's block of the result lies in it. -/
abbrev at2 (t : Fin cfg0.N) (y : S768x1024.Idx) : S8448x1024.Idx := ((View.whole main_v0).slice (win0_2.rect t)).emb y

theorem blk0 (c : Dev nD) (t : Fin cfg0.N) (y : S768x1024.Idx) (k : Fin 512) :
    (iblk m c 0 t : Vec Ideal S768x512 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 512 + 1 * k.val = k.val; rw [e1]; omega

theorem blk1 (c : Dev nD) (t : Fin cfg0.N) (y : S768x1024.Idx) (k : Fin 512) :
    (iblk m c 1 t : Vec Ideal S512x1024 .bf16) (ix2 k (y 1)) = arr1 m c (ix2 k (at2 t y 1)) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 512 + 1 * k.val = k.val; rw [e0]; omega
  | ⟨1, _⟩ => show win0_1.index t 1 * 1024 + 1 * (y 1).val = win0_2.index t 1 * 1024 + 1 * (y 1).val; rw [e1]

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.GluPIdeal.Prod

namespace Cert.GluPRefIdeal.Prod

open Cert.GluPRefIdeal Cert.GluPRefIdeal.Gen Idealize.ShloMosaic Idealize.ShloMosaic.TcCoe Idealize.SL.Sem
open Cert.GluPIdeal.Prod (G)

/-- The reference's result: the same sum. -/
theorem result (x0 : S8448x512.Idx → EReal) (x1 : S512x1024.Idx → EReal) (i : S8448x1024.Idx) :
    Read.val_main_v2 (F := Ideal) x0 x1 i = G x0 x1 i := by
  unfold G
  rw [Read.val_main_v2_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.GluPRefIdeal.Prod

namespace Cert

open Idealize.ShloMosaic Idealize.ShloMosaic.TcCoe Idealize.SL.Sem

theorem algebraic_s5_glu_proj : Cert.algebraic_GluPIdeal_GluPRefIdeal := by
  intro m g m' g' _ hm
  refine ⟨fun c => Cert.GluPIdeal.Prod.G (m ((c.tc).loc Cert.GluPIdeal.main_arg0)) (m ((c.tc).loc Cert.GluPIdeal.main_arg1)),
    (θ_run Cert.GluPIdeal.defs _ _).mono (fun r h c => ⟨(h c).1.trans (Cert.GluPIdeal.Prod.result m c), (h c).2⟩) (Cert.GluPIdeal.Value.run_blocks (F := Ideal) m g), ?_⟩
  refine (θ_run Cert.GluPRefIdeal.defs _ _).mono (fun r h c => ⟨(h c).1.trans ?_, (h c).2⟩) (Cert.GluPRefIdeal.Value.run (F := Ideal) m' g')
  rw [(hm c).1, (hm c).2]
  funext i
  exact Cert.GluPRefIdeal.Prod.result _ _ i

end Cert

end
-- ==== Proof.GluPB.lean ====
/- The gradient of the S5 branch's activation: its product's input gradient. -/
module

public import proofs.«01_k».proof.Defs
public import proofs.«01_k».proof.Proof.Gen.GluPBIdeal.Value
public import proofs.«01_k».proof.Proof.Gen.GluPBRefIdeal.Run
public import proofs.«01_k».proof.Proof.Gen.GluPBRefIdeal.Read
public import Idealize.ShloMosaic.Lib.Pointwise
public import Idealize.ShloMosaic.Lib.Pipeline.ValueKit

@[expose] public section

set_option maxRecDepth 16384

noncomputable section

namespace Cert.GluPBIdeal.Prod

open Cert.GluPBIdeal Cert.GluPBIdeal.Gen Idealize.ShloMosaic Idealize.ShloMosaic.TcCoe Idealize.SL.Sem
open Idealize.ShloMosaic.Pipeline (Dat)

theorem pay_apply (x0 : Vec Ideal S768x1024 .bf16) (x1 : Vec Ideal S512x1024 .bf16) (j : S768x512.Idx) :
    k0_pay1 x1 x0 j = ∑ k : Fin 1024, x0 (ix2 (j 0) k) * x1 (ix2 (j 1) k) := by
  unfold k0_pay1
  pointwise

variable (m : (ℓ : Loc nD τ sig) → Buf (Elt Ideal) ℓ)

/-- The two operands, as arrays of extended reals. -/
abbrev arr0 (c : Dev nD) : S8448x1024.Idx → EReal := m ((c : Thread nD τ).loc main_arg0)
abbrev arr1 (c : Dev nD) : S512x1024.Idx → EReal := m ((c : Thread nD τ).loc main_arg1)

/-- The whole result. -/
def G (x0 : S8448x1024.Idx → EReal) (x1 : S512x1024.Idx → EReal) (i : S8448x512.Idx) : EReal :=
  ∑ k : Fin 1024, x0 (ix2 (i 0) k) * x1 (ix2 (i 1) k)

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = win0_2.index t (1 : Fin 2) ∧ win0_1.index t (1 : Fin 2) = 0 :=
  (by decide +kernel : ∀ t : Fin grid0.N, _)

/-- Where a point's block of the result lies in it. -/
abbrev at2 (t : Fin cfg0.N) (y : S768x512.Idx) : S8448x512.Idx := ((View.whole main_v0).slice (win0_2.rect t)).emb y

theorem blk0 (c : Dev nD) (t : Fin cfg0.N) (y : S768x512.Idx) (k : Fin 1024) :
    (iblk m c 0 t : Vec Ideal S768x1024 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 1024 + 1 * k.val = k.val; rw [e1]; omega

theorem blk1 (c : Dev nD) (t : Fin cfg0.N) (y : S768x512.Idx) (k : Fin 1024) :
    (iblk m c 1 t : Vec Ideal S512x1024 .bf16) (ix2 (y 1) k) = arr1 m c (ix2 (at2 t y 1) k) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 512 + 1 * (y 1).val = win0_2.index t 1 * 512 + 1 * (y 1).val; rw [e0]
  | ⟨1, _⟩ => show win0_1.index t 1 * 1024 + 1 * k.val = k.val; rw [e1]; omega

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.GluPBIdeal.Prod

namespace Cert.GluPBRefIdeal.Prod

open Cert.GluPBRefIdeal Cert.GluPBRefIdeal.Gen Idealize.ShloMosaic Idealize.ShloMosaic.TcCoe Idealize.SL.Sem
open Cert.GluPBIdeal.Prod (G)

/-- The reference's result: the same sum. -/
theorem result (x0 : S8448x1024.Idx → EReal) (x1 : S512x1024.Idx → EReal) (i : S8448x512.Idx) :
    Read.val_main_v4 (F := Ideal) x0 x1 i = G x0 x1 i := by
  unfold G
  rw [Read.val_main_v4_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.GluPBRefIdeal.Prod

namespace Cert

open Idealize.ShloMosaic Idealize.ShloMosaic.TcCoe Idealize.SL.Sem

theorem algebraic_s5_glu_proj_b : Cert.algebraic_GluPBIdeal_GluPBRefIdeal := by
  intro m g m' g' _ hm
  refine ⟨fun c => Cert.GluPBIdeal.Prod.G (m ((c.tc).loc Cert.GluPBIdeal.main_arg0)) (m ((c.tc).loc Cert.GluPBIdeal.main_arg1)),
    (θ_run Cert.GluPBIdeal.defs _ _).mono (fun r h c => ⟨(h c).1.trans (Cert.GluPBIdeal.Prod.result m c), (h c).2⟩) (Cert.GluPBIdeal.Value.run_blocks (F := Ideal) m g), ?_⟩
  refine (θ_run Cert.GluPBRefIdeal.defs _ _).mono (fun r h c => ⟨(h c).1.trans ?_, (h c).2⟩) (Cert.GluPBRefIdeal.Value.run (F := Ideal) m' g')
  rw [(hm c).1, (hm c).2]
  funext i
  exact Cert.GluPBRefIdeal.Prod.result _ _ i

end Cert

end
-- ==== Proof.GluPW.lean ====
/- The gradient of the weight of the S5 branch's product. -/
module

public import proofs.«01_k».proof.Proof.Tiles
public import proofs.«01_k».proof.Defs
public import proofs.«01_k».proof.Proof.Gen.GluPWIdeal.Value
public import proofs.«01_k».proof.Proof.Gen.GluPWRefIdeal.Run
public import proofs.«01_k».proof.Proof.Gen.GluPWRefIdeal.Read
public import Idealize.ShloMosaic.Lib.Pointwise

@[expose] public section

set_option maxRecDepth 16384

noncomputable section

namespace Cert.GluPWIdeal.Prod

open Cert.GluPWIdeal Cert.GluPWIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S1408x512 .bf16) (x1 : Vec Ideal S1408x1024 .bf16) (j : S512x1024.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The products of the two arrays' columns `i 0` and `i 1`, row by row. -/
def term (x0 : S8448x512.Idx → EReal) (x1 : S8448x1024.Idx → EReal) (i : S512x1024.Idx) (κ : Fin 8448) : EReal :=
  x0 (ix2 κ (i 0)) * x1 (ix2 κ (i 1))

/-- The two operands, as arrays of extended reals. -/
abbrev arr0 (c : Dev nD) : S8448x512.Idx → EReal := m ((c : Thread nD τ).loc main_arg0)
abbrev arr1 (c : Dev nD) : S8448x1024.Idx → EReal := m ((c : Thread nD τ).loc main_arg1)

theorem idx0 : ∀ t : Fin cfg0.N, win0_0.index t (0 : Fin 2) = t.val % 6 ∧ win0_0.index t (1 : Fin 2) = t.val / 6 :=
  (by decide +kernel : ∀ t : Fin grid0.N, _)

theorem idx1 : ∀ t : Fin cfg0.N, win0_1.index t (0 : Fin 2) = t.val % 6 ∧ win0_1.index t (1 : Fin 2) = 0 :=
  (by decide +kernel : ∀ t : Fin grid0.N, _)

theorem blk0 (c : Dev nD) (t : Fin cfg0.N) (k : Fin 1408) (r : Fin 512) (κ : Fin 8448) (ρ : Fin 512)
    (hk : κ.val = t.val % 6 * 1408 + k.val) (hr : ρ.val = t.val / 6 * 512 + r.val) :
    (iblk m c 0 t : Vec Ideal S1408x512 .bf16) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 512 + 1 * r.val = ρ.val; rw [e1, hr]; omega

theorem blk1 (c : Dev nD) (t : Fin cfg0.N) (k : Fin 1408) (r : Fin 1024) (κ : Fin 8448) (ρ : Fin 1024)
    (hk : κ.val = t.val % 6 * 1408 + k.val) (hr : ρ.val = r.val) :
    (iblk m c 1 t : Vec Ideal S1408x1024 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 1024 + 1 * r.val = ρ.val; rw [e1, hr]; omega

/-- A point's part: the product of its two blocks. -/
def part (c : Dev nD) (t : Fin cfg0.N) : Vec Ideal S512x1024 .f32 := k0_pay1 (F := Ideal) (iblk m c 1 t) (iblk m c 0 t)

theorem part_apply (c : Dev nD) (t : Fin cfg0.N) (y : S512x1024.Idx) (i : S512x1024.Idx) (s : ℕ) (hs : s < 6) (ht : t.val % 6 = s)
    (h0 : (i 0).val = t.val / 6 * 512 + (y 0).val) (h1 : (i 1).val = (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (i 0) rfl h0) (blk1 m c t k (y 1) _ (i 1) rfl h1)

/-- The first point of a run leaves its part in the scratch. -/
theorem scratch_A (c : Dev nD) (t : Fin cfg0.N) (h : t.val % 6 = 0) : (outsAt0 m c t.val t.isLt).2 = part m c t := by
  have hN : cfg0.N = 6 := N_0
  have ht := t.isLt
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x512) hz, View.ld_unit_zero (S := S1408x1024) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x512) hz, View.ld_unit_zero (S := S1408x1024) hz, View.ld_unit_zero (S := S512x1024) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S512x1024) _ hz]
  unfold k0_pay3 part
  simp only [View.readAt_eq_ld, (hs0_0 _).read_unread, (hs0_1 _).read_unread, (Memref.isWhole_whole _).read_unread, View.ld_unit_zero (S := S1408x512) hz, View.ld_unit_zero (S := S1408x1024) hz, View.ld_unit_zero (S := S512x1024) hz, shapeCast_self]
  rfl

/-- The kernel's result: at every element the whole sum. -/
theorem result (c : Dev nD) (i : S512x1024.Idx) :
    (Value.G2 m c : S512x1024.Idx → EReal) i = ∑ κ, term (arr0 m c) (arr1 m c) i κ := by
  have b0 : (i 0).val < 512 := (i 0).isLt
  have b1 : (i 1).val < 1024 := (i 1).isLt
  have hN : cfg0.N = 6 := N_0
  have hp : Value.pt2Of i = 6 * ((i 0).val / 512) + (6 - 1) := by
    show 6 * (1 * ((i 0).val / 512 - 0) + 1 * ((i 1).val / 1024 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (Value.loc2Of i)) (fun n h => (outsAt0 m c n h).1 (Value.loc2Of i))
    (fun n h => part m c ⟨n, h⟩ (Value.loc2Of i)) ((i 0).val / 512) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (6 * ((i 0).val / 512) + s.val) / 6 * 512 + (i 0).val % 512; omega)
      (by show (i 1).val = (i 1).val % 1024; omega)

end Cert.GluPWIdeal.Prod

namespace Cert.GluPWRefIdeal.Prod

open Cert.GluPWRefIdeal Cert.GluPWRefIdeal.Gen Idealize.ShloMosaic Idealize.ShloMosaic.TcCoe Idealize.SL.Sem

/-- The reference's result: the same sum. -/
theorem result (x0 : S8448x512.Idx → EReal) (x1 : S8448x1024.Idx → EReal) (i : S512x1024.Idx) :
    Read.val_main_v5 (F := Ideal) x0 x1 i = ∑ κ : Fin 8448, x0 (ix2 κ (i 0)) * x1 (ix2 κ (i 1)) := by
  rw [Read.val_main_v5_apply, Read.val_main_v4_apply]
  refine Finset.sum_congr rfl fun κ _ => ?_
  rw [mul_comm]
  refine congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.GluPWRefIdeal.Prod

namespace Cert

open Idealize.ShloMosaic Idealize.ShloMosaic.TcCoe Idealize.SL.Sem

theorem algebraic_s5_glu_proj_w : Cert.algebraic_GluPWIdeal_GluPWRefIdeal := by
  intro m g m' g' _ hm
  refine ⟨fun c => Cert.GluPWIdeal.Value.G2 m c, Cert.GluPWIdeal.Value.run m g, ?_⟩
  refine (θ_run Cert.GluPWRefIdeal.defs _ _).mono (fun r h c => ⟨(h c).1.trans ?_, (h c).2⟩) (Cert.GluPWRefIdeal.Value.run (F := Ideal) m' g')
  rw [(hm c).1, (hm c).2]
  funext i
  exact (Cert.GluPWRefIdeal.Prod.result _ _ i).trans (Cert.GluPWIdeal.Prod.result m c i).symm

end Cert

end
-- ==== Proof.MergeP.lean ====
/- The gated sum of the four branches. -/
module

public import proofs.«01_k».proof.Defs
public import proofs.«01_k».proof.Proof.Gen.MergePIdeal.Value
public import proofs.«01_k».proof.Proof.Gen.MergePRefIdeal.Run
public import proofs.«01_k».proof.Proof.Gen.MergePRefIdeal.Read
public import Idealize.ShloMosaic.Lib.Pointwise
public import Idealize.ShloMosaic.Lib.Pipeline.ValueKit

@[expose] public section

set_option maxRecDepth 16384

noncomputable section

namespace Cert.MergeF

open Idealize.ShloMosaic

variable {n : ℕ} (g : (⟨2, ![n, 8192]⟩ : Shape).Idx → EReal) (p0 p1 p2 p3 : (⟨2, ![n, 2048]⟩ : Shape).Idx → EReal)
  (b : (⟨2, ![1, 8192]⟩ : Shape).Idx → EReal) (r : Fin n)

/-- The gate of a row's channel. -/
def gate (κ : Fin 8192) : EReal := Ideal.logistic (g (ix2 r κ) + b (ix2 0 κ))

def rows (j : Fin 2048) : EReal :=
  gate g b r ⟨j.val, by omega⟩ * p0 (ix2 r j) + gate g b r ⟨2048 + j.val, by omega⟩ * p1 (ix2 r j)
    + gate g b r ⟨4096 + j.val, by omega⟩ * p2 (ix2 r j) + gate g b r ⟨6144 + j.val, by omega⟩ * p3 (ix2 r j)

end Cert.MergeF

namespace Cert.MergePIdeal.Prod

open Cert.MergePIdeal Cert.MergePIdeal.Gen Idealize.ShloMosaic Idealize.ShloMosaic.TcCoe Idealize.SL.Sem
open Cert.MergeF

theorem pay_rows (g : Vec Ideal S128x8192 .f32) (p0 p1 p2 p3 : Vec Ideal S128x2048 .f32) (b : Vec Ideal S1x8192 .f32) (r : Fin 128) (j : Fin 2048) :
    k0_pay1 (F := Ideal) g p0 p1 p2 p3 b (ix2 r j) = rows (n := 128) g p0 p1 p2 p3 b r j := by
  unfold k0_pay1 rows gate
  pointwise

variable (m : (ℓ : Loc nD τ sig) → Buf (Elt Ideal) ℓ)

/-- The row of the array that a point's row is. -/
def row (t : Fin cfg0.N) (r : Fin 128) : Fin 8448 :=
  ⟨t.val * 128 + r.val, by have h : t.val < 66 := lt_of_lt_of_eq t.isLt N_0; omega⟩

/-- The operands, as arrays of extended reals. -/
abbrev arr0 (c : Dev nD) : S8448x8192.Idx → EReal := m ((c : Thread nD τ).loc main_arg0)
abbrev arr1 (c : Dev nD) : S8448x2048.Idx → EReal := m ((c : Thread nD τ).loc main_arg1)
abbrev arr2 (c : Dev nD) : S8448x2048.Idx → EReal := m ((c : Thread nD τ).loc main_arg2)
abbrev arr3 (c : Dev nD) : S8448x2048.Idx → EReal := m ((c : Thread nD τ).loc main_arg3)
abbrev arr4 (c : Dev nD) : S8448x2048.Idx → EReal := m ((c : Thread nD τ).loc main_arg4)
abbrev arr5 (c : Dev nD) : S1x8192.Idx → EReal := m ((c : Thread nD τ).loc main_arg5)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

theorem blk0 (c : Dev nD) (t : Fin cfg0.N) (r : Fin 128) (j : Fin 8192) :
    (iblk m c 0 t : Vec Ideal S128x8192 .f32) (ix2 r j) = arr0 m c (ix2 (row t r) j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 128 + 1 * r.val = t.val * 128 + r.val; rw [e0]; omega
  | ⟨1, _⟩ => show win0_0.index t 1 * 8192 + 1 * j.val = j.val; rw [e1]; omega

theorem blk1 (c : Dev nD) (t : Fin cfg0.N) (r : Fin 128) (j : Fin 2048) :
    (iblk m c 1 t : Vec Ideal S128x2048 .f32) (ix2 r j) = arr1 m c (ix2 (row t r) j) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 128 + 1 * r.val = t.val * 128 + r.val; rw [e0]; omega
  | ⟨1, _⟩ => show win0_1.index t 1 * 2048 + 1 * j.val = j.val; rw [e1]; omega

theorem blk2 (c : Dev nD) (t : Fin cfg0.N) (r : Fin 128) (j : Fin 2048) :
    (iblk m c 2 t : Vec Ideal S128x2048 .f32) (ix2 r j) = arr2 m c (ix2 (row t r) j) := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 128 + 1 * r.val = t.val * 128 + r.val; rw [e0]; omega
  | ⟨1, _⟩ => show win0_2.index t 1 * 2048 + 1 * j.val = j.val; rw [e1]; omega

theorem blk3 (c : Dev nD) (t : Fin cfg0.N) (r : Fin 128) (j : Fin 2048) :
    (iblk m c 3 t : Vec Ideal S128x2048 .f32) (ix2 r j) = arr3 m c (ix2 (row t r) j) := by
  obtain ⟨e0, e1⟩ := idx3 t
  unfold iblk
  rw [View.read_apply]
  show V m c main_arg3 _ = m (c.tc.loc main_arg3) _
  unfold V
  congr 1
  funext a
  apply Fin.ext
  match a with
  | ⟨0, _⟩ => show win0_3.index t 0 * 128 + 1 * r.val = t.val * 128 + r.val; rw [e0]; omega
  | ⟨1, _⟩ => show win0_3.index t 1 * 2048 + 1 * j.val = j.val; rw [e1]; omega

theorem blk4 (c : Dev nD) (t : Fin cfg0.N) (r : Fin 128) (j : Fin 2048) :
    (iblk m c 4 t : Vec Ideal S128x2048 .f32) (ix2 r j) = arr4 m c (ix2 (row t r) j) := by
  obtain ⟨e0, e1⟩ := idx4 t
  unfold iblk
  rw [View.read_apply]
  show V m c main_arg4 _ = m (c.tc.loc main_arg4) _
  unfold V
  congr 1
  funext a
  apply Fin.ext
  match a with
  | ⟨0, _⟩ => show win0_4.index t 0 * 128 + 1 * r.val = t.val * 128 + r.val; rw [e0]; omega
  | ⟨1, _⟩ => show win0_4.index t 1 * 2048 + 1 * j.val = j.val; rw [e1]; omega

theorem blk5 (c : Dev nD) (t : Fin cfg0.N) (j : Fin 8192) :
    (iblk m c 5 t : Vec Ideal S1x8192 .f32) (ix2 0 j) = arr5 m c (ix2 0 j) := by
  obtain ⟨e0, e1⟩ := idx5 t
  unfold iblk
  rw [View.read_apply]
  show V m c main_arg5 _ = m (c.tc.loc main_arg5) _
  unfold V
  congr 1
  funext a
  apply Fin.ext
  match a with
  | ⟨0, _⟩ => show win0_5.index t 0 * 1 + 1 * 0 = 0; rw [e0]
  | ⟨1, _⟩ => show win0_5.index t 1 * 8192 + 1 * j.val = j.val; rw [e1]; omega

theorem rows_at (c : Dev nD) (t : Fin cfg0.N) (r : Fin 128) (j : Fin 2048) :
    rows (n := 128) (iblk m c 0 t) (iblk m c 1 t) (iblk m c 2 t) (iblk m c 3 t) (iblk m c 4 t) (iblk m c 5 t) r j = rows (arr0 m c) (arr1 m c) (arr2 m c) (arr3 m c) (arr4 m c) (arr5 m c) (row t r) j := by
  unfold rows gate
  simp only [blk0 m c t, blk1 m c t, blk2 m c t, blk3 m c t, blk4 m c t, blk5 m c t]

/-- The result over the arrays. -/
def G (c : Dev nD) (i : S8448x2048.Idx) : EReal := rows (arr0 m c) (arr1 m c) (arr2 m c) (arr3 m c) (arr4 m c) (arr5 m c) (i 0) (i 1)

/-- What the tile at a point stores. -/
def rowsAt (c : Dev nD) (t : Fin cfg0.N) : Vec Ideal S128x2048 .bf16 := k0_pay1 (F := Ideal) (iblk m c 0 t) (iblk m c 1 t) (iblk m c 2 t) (iblk m c 3 t) (iblk m c 4 t) (iblk m c 5 t)

theorem rowsAt_apply (c : Dev nD) (t : Fin cfg0.N) (y : S128x2048.Idx) :
    (rowsAt m c t y : EReal) = rows (arr0 m c) (arr1 m c) (arr2 m c) (arr3 m c) (arr4 m c) (arr5 m c) (row t (y 0)) (y 1) :=
  (congrArg (rowsAt m c t) (ValueIdx.eq_ix2 y)).trans ((pay_rows _ _ _ _ _ _ (y 0) (y 1)).trans (rows_at m c t (y 0) (y 1)))

theorem after (c : Dev nD) (t : Fin cfg0.N) : (dats m 0 c).after 6 t = rowsAt m c t := by
  rw [after0_6]
  frame_out
  rfl

theorem result (c : Dev nD) : (dats m 0 c).arrAt 6 cfg0.N = G m c := by
  refine (dats m 0 c).arrAt_eq_of_covers 6 _ (by decide +kernel) fun t hf y => ?_
  blk_simp
  rw [after]
  obtain ⟨e0, e1⟩ := idx6 t
  refine (rowsAt_apply m c t y).trans ?_
  exact congrArg₂ (fun r j => rows (arr0 m c) (arr1 m c) (arr2 m c) (arr3 m c) (arr4 m c) (arr5 m c) r j)
    (Fin.ext (by show t.val * 128 + (y 0).val = win0_6.index t 0 * 128 + 1 * (y 0).val; rw [e0]; omega))
    (Fin.ext (by show (y 1).val = win0_6.index t 1 * 2048 + 1 * (y 1).val; rw [e1]; omega))

end Cert.MergePIdeal.Prod

namespace Cert.MergePRefIdeal.Prod

open Cert.MergePRefIdeal Cert.MergePRefIdeal.Gen Idealize.ShloMosaic Idealize.ShloMosaic.TcCoe Idealize.SL.Sem
open Cert.MergeF

variable (x0 : S8448x8192.Idx → EReal) (x1 : S8448x2048.Idx → EReal) (x2 : S8448x2048.Idx → EReal) (x3 : S8448x2048.Idx → EReal) (x4 : S8448x2048.Idx → EReal) (x5 : S1x8192.Idx → EReal)

theorem at_gate (i : S8448x8192.Idx) : Read.val_main_v7 (F := Ideal) x0 x5 i = gate x0 x5 (i 0) (i 1) := by
  simp only [Read.val_main_v7_apply, Read.val_main_v6_apply, Read.val_main_cst_0_apply, Read.val_main_v5_apply, Read.val_main_v4_apply, Read.val_main_cst_apply, Read.val_main_v3_apply, Read.val_main_v2_apply, Read.val_main_v1_apply, Read.val_main_v0_apply]
  unfold gate Ideal.logistic
  pointwise
  rw [show x0 i = x0 (ix2 (i 0) (i 1)) from congrArg x0 (ValueIdx.eq_ix2 i), show x5 (Read.idx_main_v0 i) = x5 (ix2 0 (i 1)) from congrArg x5 (ValueIdx.eq_ix2 _)]

/-- One branch's gated part. -/
theorem at_part (r : Fin 8448) (q : Fin 4) (j : Fin 2048) (κ : Fin 8192) (p : S8448x2048.Idx → EReal) (hκ : κ.val = q.val * 2048 + j.val)
    (hp : Read.val_main_v13 (F := Ideal) x1 x2 x3 x4 (ix3 r q j) = p (ix2 r j)) :
    Read.val_main_v14 (F := Ideal) x0 x1 x2 x3 x4 x5 (ix3 r q j) = gate x0 x5 r κ * p (ix2 r j) := by
  rw [Read.val_main_v14_apply, Read.val_main_v8_apply, at_gate, hp]
  refine congrArg₂ (· * ·) (congrArg₂ (gate x0 x5) (Fin.ext ?_) (Fin.ext ?_)) rfl
  · show ((r.val * 4 + q.val) * 2048 + j.val) / 8192 = r.val
    omega
  · show ((r.val * 4 + q.val) * 2048 + j.val) % 8192 = κ.val
    omega

/-- The reference's result. -/
theorem result (i : S8448x2048.Idx) : Read.val_main_v16 (F := Ideal) x0 x1 x2 x3 x4 x5 i = rows x0 x1 x2 x3 x4 x5 (i 0) (i 1) := by
  rw [Read.val_main_v16_apply, Read.val_main_v15_apply, Read.val_main_cst_1_apply]
  have s0 : Read.val_main_v13 (F := Ideal) x1 x2 x3 x4 (ix3 (i 0) 0 (i 1)) = x1 (ix2 (i 0) (i 1)) := by
    unfold Read.val_main_v13
    pointwise
    exact (Read.val_main_v9_apply (F := Ideal) x1 _).trans (congrArg x1 ((ValueIdx.eq_ix2 _).trans (ValueIdx.eq_ix2 i).symm))
  have s1 : Read.val_main_v13 (F := Ideal) x1 x2 x3 x4 (ix3 (i 0) 1 (i 1)) = x2 (ix2 (i 0) (i 1)) := by
    unfold Read.val_main_v13
    pointwise
    exact (Read.val_main_v10_apply (F := Ideal) x2 _).trans (congrArg x2 ((ValueIdx.eq_ix2 _).trans (ValueIdx.eq_ix2 i).symm))
  have s2 : Read.val_main_v13 (F := Ideal) x1 x2 x3 x4 (ix3 (i 0) 2 (i 1)) = x3 (ix2 (i 0) (i 1)) := by
    unfold Read.val_main_v13
    pointwise
    exact (Read.val_main_v11_apply (F := Ideal) x3 _).trans (congrArg x3 ((ValueIdx.eq_ix2 _).trans (ValueIdx.eq_ix2 i).symm))
  have s3 : Read.val_main_v13 (F := Ideal) x1 x2 x3 x4 (ix3 (i 0) 3 (i 1)) = x4 (ix2 (i 0) (i 1)) := by
    unfold Read.val_main_v13
    pointwise
    exact (Read.val_main_v12_apply (F := Ideal) x4 _).trans (congrArg x4 ((ValueIdx.eq_ix2 _).trans (ValueIdx.eq_ix2 i).symm))
  have b : (i 1).val < 2048 := (i 1).isLt
  have h0 := at_part x0 x1 x2 x3 x4 x5 (i 0) 0 (i 1) ⟨(i 1).val, by omega⟩ x1 (by show (i 1).val = 0 * 2048 + (i 1).val; omega) s0
  have h1 := at_part x0 x1 x2 x3 x4 x5 (i 0) 1 (i 1) ⟨2048 + (i 1).val, by omega⟩ x2 (by show 2048 + (i 1).val = 1 * 2048 + (i 1).val; omega) s1
  have h2 := at_part x0 x1 x2 x3 x4 x5 (i 0) 2 (i 1) ⟨4096 + (i 1).val, by omega⟩ x3 (by show 4096 + (i 1).val = 2 * 2048 + (i 1).val; omega) s2
  have h3 := at_part x0 x1 x2 x3 x4 x5 (i 0) 3 (i 1) ⟨6144 + (i 1).val, by omega⟩ x4 (by show 6144 + (i 1).val = 3 * 2048 + (i 1).val; omega) s3
  pointwise
  have hq : ∀ q : Fin 4, Read.idx_main_v15 i q = ix3 (i 0) q (i 1) := fun q => funext fun a => match a with
    | ⟨0, _⟩ => rfl
    | ⟨1, _⟩ => rfl
    | ⟨2, _⟩ => rfl
  simp only [hq]
  rw [Fin.sum_univ_four]
  exact congrArg₂ (· + ·) (congrArg₂ (· + ·) (congrArg₂ (· + ·) h0 h1) h2) h3

end Cert.MergePRefIdeal.Prod

namespace Cert

open Idealize.ShloMosaic Idealize.ShloMosaic.TcCoe Idealize.SL.Sem

theorem algebraic_merge : Cert.algebraic_MergePIdeal_MergePRefIdeal := by
  intro m g m' g' _ hm
  refine ⟨Cert.MergePIdeal.Prod.G m,
    (θ_run Cert.MergePIdeal.defs _ _).mono (fun r h c => ⟨(h c).1.trans (Cert.MergePIdeal.Prod.result m c), (h c).2⟩)
      (Cert.MergePIdeal.Value.run_blocks (F := Ideal) m g), ?_⟩
  refine (θ_run Cert.MergePRefIdeal.defs _ _).mono (fun r h c => ?_) (Cert.MergePRefIdeal.Value.run (F := Ideal) m' g')
  have hr := h c
  have e := hr.1.trans (Cert.MergePRefIdeal.Read.val_main_v16_eq (F := Ideal) _ _ _ _ _ _)
  rw [(hm c).1, (hm c).2.1, (hm c).2.2.1, (hm c).2.2.2.1, (hm c).2.2.2.2.1, (hm c).2.2.2.2.2] at e
  exact ⟨e.trans (funext fun i => Cert.MergePRefIdeal.Prod.result _ _ _ _ _ _ i), hr.2⟩

end Cert

end
-- ==== Proof.S5ActP.lean ====
/- The recurrence's output activation: GELU of the states' readout plus the skipped input. -/
module

public import proofs.«01_k».proof.Proof.GmlpSpec
public import proofs.«01_k».proof.Defs
public import proofs.«01_k».proof.Proof.Gen.S5ActPIdeal.Value
public import proofs.«01_k».proof.Proof.Gen.S5ActPRefIdeal.Run
public import proofs.«01_k».proof.Proof.Gen.S5ActPRefIdeal.Read
public import Idealize.ShloMosaic.Lib.Pointwise
public import Idealize.ShloMosaic.Lib.Pipeline.ValueKit

@[expose] public section

set_option maxRecDepth 16384

noncomputable section

namespace Cert.S5ActF

open Idealize.ShloMosaic

/-- Over arrays of `n` rows: the readout `y`, the input `u`, and the row `s` of the skip's factors. -/
def rows {n : ℕ} (y u : (⟨2, ![n, 512]⟩ : Shape).Idx → EReal) (s : (⟨2, ![1, 512]⟩ : Shape).Idx → EReal) (r : Fin n) (j : Fin 512) : EReal :=
  Gmlp.act (y (ix2 r j) + s (ix2 0 j) * u (ix2 r j))

end Cert.S5ActF

namespace Cert.S5ActPIdeal.Prod

open Cert.S5ActPIdeal Cert.S5ActPIdeal.Gen Idealize.ShloMosaic Idealize.ShloMosaic.TcCoe Idealize.SL.Sem
open Cert.S5ActF

theorem pay_rows (y u : Vec Ideal S256x512 .f32) (s : Vec Ideal S1x512 .f32) (r : Fin 256) (j : Fin 512) :
    k0_pay1 (F := Ideal) y u s (ix2 r j) = rows (n := 256) y u s r j := by
  unfold k0_pay1 rows Gmlp.act Gmlp.half Gmlp.th
  pointwise

variable (m : (ℓ : Loc nD τ sig) → Buf (Elt Ideal) ℓ)

/-- The row of the array that a point's row is. -/
def row (t : Fin cfg0.N) (r : Fin 256) : Fin 8448 :=
  ⟨t.val * 256 + r.val, by have h : t.val < 33 := lt_of_lt_of_eq t.isLt N_0; omega⟩

/-- The operands, as arrays of extended reals. -/
abbrev arr0 (c : Dev nD) : S8448x512.Idx → EReal := m ((c : Thread nD τ).loc main_arg0)
abbrev arr1 (c : Dev nD) : S8448x512.Idx → EReal := m ((c : Thread nD τ).loc main_arg1)
abbrev arr2 (c : Dev nD) : S1x512.Idx → EReal := m ((c : Thread nD τ).loc main_arg2)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem blk0 (c : Dev nD) (t : Fin cfg0.N) (r : Fin 256) (j : Fin 512) :
    (iblk m c 0 t : Vec Ideal S256x512 .f32) (ix2 r j) = arr0 m c (ix2 (row t r) j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [e0]; omega
  | ⟨1, _⟩ => show win0_0.index t 1 * 512 + 1 * j.val = j.val; rw [e1]; omega

theorem blk1 (c : Dev nD) (t : Fin cfg0.N) (r : Fin 256) (j : Fin 512) :
    (iblk m c 1 t : Vec Ideal S256x512 .f32) (ix2 r j) = arr1 m c (ix2 (row t r) j) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [e0]; omega
  | ⟨1, _⟩ => show win0_1.index t 1 * 512 + 1 * j.val = j.val; rw [e1]; omega

theorem blk2 (c : Dev nD) (t : Fin cfg0.N) (j : Fin 512) :
    (iblk m c 2 t : Vec Ideal S1x512 .f32) (ix2 0 j) = arr2 m c (ix2 0 j) := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [e0]
  | ⟨1, _⟩ => show win0_2.index t 1 * 512 + 1 * j.val = j.val; rw [e1]; omega

theorem rows_at (c : Dev nD) (t : Fin cfg0.N) (r : Fin 256) (j : Fin 512) :
    rows (n := 256) (iblk m c 0 t) (iblk m c 1 t) (iblk m c 2 t) r j = rows (arr0 m c) (arr1 m c) (arr2 m c) (row t r) j := by
  unfold rows
  simp only [blk0 m c t, blk1 m c t, blk2 m c t]

/-- The result over the arrays. -/
def G (c : Dev nD) (i : S8448x512.Idx) : EReal := rows (arr0 m c) (arr1 m c) (arr2 m c) (i 0) (i 1)

/-- What the tile at a point stores. -/
def rowsAt (c : Dev nD) (t : Fin cfg0.N) : Vec Ideal S256x512 .bf16 := k0_pay1 (F := Ideal) (iblk m c 0 t) (iblk m c 1 t) (iblk m c 2 t)

theorem rowsAt_apply (c : Dev nD) (t : Fin cfg0.N) (y : S256x512.Idx) :
    (rowsAt m c t y : EReal) = rows (arr0 m c) (arr1 m c) (arr2 m c) (row t (y 0)) (y 1) :=
  (congrArg (rowsAt m c t) (ValueIdx.eq_ix2 y)).trans ((pay_rows _ _ _ (y 0) (y 1)).trans (rows_at m c t (y 0) (y 1)))

theorem after (c : Dev nD) (t : Fin cfg0.N) : (dats m 0 c).after 3 t = rowsAt m c t := by
  rw [after0_3]
  frame_out
  rfl

theorem result (c : Dev nD) : (dats m 0 c).arrAt 3 cfg0.N = G m c := by
  refine (dats m 0 c).arrAt_eq_of_covers 3 _ (by decide +kernel) fun t hf y => ?_
  blk_simp
  rw [after]
  obtain ⟨e0, e1⟩ := idx3 t
  refine (rowsAt_apply m c t y).trans ?_
  exact congrArg₂ (fun r j => rows (arr0 m c) (arr1 m c) (arr2 m c) r j)
    (Fin.ext (by show t.val * 256 + (y 0).val = win0_3.index t 0 * 256 + 1 * (y 0).val; rw [e0]; omega))
    (Fin.ext (by show (y 1).val = win0_3.index t 1 * 512 + 1 * (y 1).val; rw [e1]; omega))

end Cert.S5ActPIdeal.Prod

namespace Cert.S5ActPRefIdeal.Prod

open Cert.S5ActPRefIdeal Cert.S5ActPRefIdeal.Gen Idealize.ShloMosaic Idealize.ShloMosaic.TcCoe Idealize.SL.Sem
open Cert.S5ActF

variable (x0 : S8448x512.Idx → EReal) (x1 : S8448x512.Idx → EReal) (x2 : S1x512.Idx → EReal)

theorem at_pre (i : S8448x512.Idx) : Read.val_main_v2 (F := Ideal) x0 x1 x2 i = x0 (ix2 (i 0) (i 1)) + x2 (ix2 0 (i 1)) * x1 (ix2 (i 0) (i 1)) := by
  rw [Read.val_main_v2_apply, Read.val_main_v1_apply, Read.val_main_v0_apply]
  exact congrArg₂ (· + ·) (congrArg x0 (ValueIdx.eq_ix2 i)) (congrArg₂ (· * ·) (congrArg x2 (ValueIdx.eq_ix2 _)) (congrArg x1 (ValueIdx.eq_ix2 i)))

/-- The reference's result. -/
theorem result (i : S8448x512.Idx) : Read.val_main_v16 (F := Ideal) x0 x1 x2 i = rows x0 x1 x2 (i 0) (i 1) := by
  simp only [Read.val_main_v16_apply, Read.val_main_v15_apply, Read.val_main_v14_apply, Read.val_main_v13_apply, Read.val_main_cst_2_apply, Read.val_main_v12_apply, Read.val_main_v11_apply, Read.val_main_cst_1_apply, Read.val_main_v10_apply, Read.val_main_v9_apply, Read.val_main_v8_apply, Read.val_main_cst_0_apply, Read.val_main_v7_apply, Read.val_main_v6_apply, Read.val_main_v5_apply, Read.val_main_cst_apply, Read.val_main_v4_apply, Read.val_main_v3_apply, at_pre]
  unfold rows
  generalize x0 (ix2 (i 0) (i 1)) + x2 (ix2 0 (i 1)) * x1 (ix2 (i 0) (i 1)) = x
  unfold Gmlp.act Gmlp.half Gmlp.th
  rw [mul_comm x (x * x)]
  pointwise

end Cert.S5ActPRefIdeal.Prod

namespace Cert

open Idealize.ShloMosaic Idealize.ShloMosaic.TcCoe Idealize.SL.Sem

theorem algebraic_s5_act : Cert.algebraic_S5ActPIdeal_S5ActPRefIdeal := by
  intro m g m' g' _ hm
  refine ⟨Cert.S5ActPIdeal.Prod.G m,
    (θ_run Cert.S5ActPIdeal.defs _ _).mono (fun r h c => ⟨(h c).1.trans (Cert.S5ActPIdeal.Prod.result m c), (h c).2⟩)
      (Cert.S5ActPIdeal.Value.run_blocks (F := Ideal) m g), ?_⟩
  refine (θ_run Cert.S5ActPRefIdeal.defs _ _).mono (fun r h c => ?_) (Cert.S5ActPRefIdeal.Value.run (F := Ideal) m' g')
  have hr := h c
  have e := hr.1.trans (Cert.S5ActPRefIdeal.Read.val_main_v16_eq (F := Ideal) _ _ _)
  rw [(hm c).1, (hm c).2.1, (hm c).2.2] at e
  exact ⟨e.trans (funext fun i => Cert.S5ActPRefIdeal.Prod.result _ _ _ i), hr.2⟩

end Cert

end
-- ==== Proof.S5GluP.lean ====
/- The gate that reads the recurrence's output: one half times the logistic of the other. -/
module

public import proofs.«01_k».proof.Defs
public import proofs.«01_k».proof.Proof.Gen.S5GluPIdeal.Value
public import proofs.«01_k».proof.Proof.Gen.S5GluPRefIdeal.Run
public import proofs.«01_k».proof.Proof.Gen.S5GluPRefIdeal.Read
public import Idealize.ShloMosaic.Lib.Pointwise
public import Idealize.ShloMosaic.Lib.Pipeline.ValueKit

@[expose] public section

set_option maxRecDepth 16384

noncomputable section

namespace Cert.S5GluF

open Idealize.ShloMosaic

/-- Over an array of `n` rows of 1024. -/
def rows {n : ℕ} (z : (⟨2, ![n, 1024]⟩ : Shape).Idx → EReal) (r : Fin n) (j : Fin 512) : EReal :=
  z (ix2 r ⟨j.val, by omega⟩) * Ideal.logistic (z (ix2 r ⟨512 + j.val, by omega⟩))

end Cert.S5GluF

namespace Cert.S5GluPIdeal.Prod

open Cert.S5GluPIdeal Cert.S5GluPIdeal.Gen Idealize.ShloMosaic Idealize.ShloMosaic.TcCoe Idealize.SL.Sem
open Cert.S5GluF

theorem pay_rows (z : Vec Ideal S256x1024 .f32) (r : Fin 256) (j : Fin 512) : k0_pay1 (F := Ideal) z (ix2 r j) = rows (n := 256) z r j := by
  unfold k0_pay1 rows
  pointwise

variable (m : (ℓ : Loc nD τ sig) → Buf (Elt Ideal) ℓ)

/-- The row of the array that a point's row is. -/
def row (t : Fin cfg0.N) (r : Fin 256) : Fin 8448 :=
  ⟨t.val * 256 + r.val, by have h : t.val < 33 := lt_of_lt_of_eq t.isLt N_0; omega⟩

/-- The operands, as arrays of extended reals. -/
abbrev arr0 (c : Dev nD) : S8448x1024.Idx → EReal := m ((c : Thread nD τ).loc main_arg0)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem blk0 (c : Dev nD) (t : Fin cfg0.N) (r : Fin 256) (j : Fin 1024) :
    (iblk m c 0 t : Vec Ideal S256x1024 .f32) (ix2 r j) = arr0 m c (ix2 (row t r) j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [e0]; omega
  | ⟨1, _⟩ => show win0_0.index t 1 * 1024 + 1 * j.val = j.val; rw [e1]; omega

theorem rows_at (c : Dev nD) (t : Fin cfg0.N) (r : Fin 256) (j : Fin 512) :
    rows (n := 256) (iblk m c 0 t) r j = rows (arr0 m c) (row t r) j := by
  unfold rows
  simp only [blk0 m c t]

/-- The result over the arrays. -/
def G (c : Dev nD) (i : S8448x512.Idx) : EReal := rows (arr0 m c) (i 0) (i 1)

/-- What the tile at a point stores. -/
def rowsAt (c : Dev nD) (t : Fin cfg0.N) : Vec Ideal S256x512 .bf16 := k0_pay1 (F := Ideal) (iblk m c 0 t)

theorem rowsAt_apply (c : Dev nD) (t : Fin cfg0.N) (y : S256x512.Idx) :
    (rowsAt m c t y : EReal) = rows (arr0 m c) (row t (y 0)) (y 1) :=
  (congrArg (rowsAt m c t) (ValueIdx.eq_ix2 y)).trans ((pay_rows _ (y 0) (y 1)).trans (rows_at m c t (y 0) (y 1)))

theorem after (c : Dev nD) (t : Fin cfg0.N) : (dats m 0 c).after 1 t = rowsAt m c t := by
  rw [after0_1]
  frame_out
  rfl

theorem result (c : Dev nD) : (dats m 0 c).arrAt 1 cfg0.N = G m c := by
  refine (dats m 0 c).arrAt_eq_of_covers 1 _ (by decide +kernel) fun t hf y => ?_
  blk_simp
  rw [after]
  obtain ⟨e0, e1⟩ := idx1 t
  refine (rowsAt_apply m c t y).trans ?_
  exact congrArg₂ (fun r j => rows (arr0 m c) r j)
    (Fin.ext (by show t.val * 256 + (y 0).val = win0_1.index t 0 * 256 + 1 * (y 0).val; rw [e0]; omega))
    (Fin.ext (by show (y 1).val = win0_1.index t 1 * 512 + 1 * (y 1).val; rw [e1]; omega))

end Cert.S5GluPIdeal.Prod

namespace Cert.S5GluPRefIdeal.Prod

open Cert.S5GluPRefIdeal Cert.S5GluPRefIdeal.Gen Idealize.ShloMosaic Idealize.ShloMosaic.TcCoe Idealize.SL.Sem
open Cert.S5GluF

variable (x0 : S8448x1024.Idx → EReal)

/-- The reference's result. -/
theorem result (i : S8448x512.Idx) : Read.val_main_v9 (F := Ideal) x0 i = rows x0 (i 0) (i 1) := by
  unfold Read.val_main_v9 Read.val_main_v8 Read.val_main_v7 Read.val_main_v6 Read.val_main_cst_0 Read.val_main_v5 Read.val_main_v4 Read.val_main_cst Read.val_main_v3 Read.val_main_v2 Read.val_main_v1 Read.val_main_v0 rows Ideal.logistic
  pointwise

end Cert.S5GluPRefIdeal.Prod

namespace Cert

open Idealize.ShloMosaic Idealize.ShloMosaic.TcCoe Idealize.SL.Sem

theorem algebraic_s5_glu : Cert.algebraic_S5GluPIdeal_S5GluPRefIdeal := by
  intro m g m' g' _ hm
  refine ⟨Cert.S5GluPIdeal.Prod.G m,
    (θ_run Cert.S5GluPIdeal.defs _ _).mono (fun r h c => ⟨(h c).1.trans (Cert.S5GluPIdeal.Prod.result m c), (h c).2⟩)
      (Cert.S5GluPIdeal.Value.run_blocks (F := Ideal) m g), ?_⟩
  refine (θ_run Cert.S5GluPRefIdeal.defs _ _).mono (fun r h c => ?_) (Cert.S5GluPRefIdeal.Value.run (F := Ideal) m' g')
  have hr := h c
  have e := hr.1.trans (Cert.S5GluPRefIdeal.Read.val_main_v9_eq (F := Ideal) _)
  rw [hm c] at e
  exact ⟨e.trans (funext fun i => Cert.S5GluPRefIdeal.Prod.result _ i), hr.2⟩

end Cert

end
-- ==== Proof.Norm1P.lean ====
/- The normed and modulated rows. -/
module

public import proofs.«01_k».proof.Defs
public import proofs.«01_k».proof.Proof.Gen.Norm1PIdeal.Value
public import proofs.«01_k».proof.Proof.Gen.Norm1PRefIdeal.Run
public import proofs.«01_k».proof.Proof.Gen.Norm1PRefIdeal.Read
public import Idealize.ShloMosaic.Lib.Pointwise
public import Idealize.ShloMosaic.Lib.Pipeline.ValueKit

@[expose] public section

set_option maxRecDepth 16384

noncomputable section

namespace Cert.Norm1F

open Idealize.ShloMosaic

/-- A row's scale: the inverse root of its mean square. -/
def scale {n : ℕ} (x : (⟨2, ![n, 2048]⟩ : Shape).Idx → EReal) (r : Fin n) : EReal :=
  Ideal.rsqrt (Ideal.div (∑ k : Fin 2048, x (ix2 r k) * x (ix2 r k)) (Ideal.ofBits .f32 0x45000000#32) + Ideal.ofBits .f32 0x358637BD#32)

/-- Over arrays of `n` rows, with a scale and a shift for each of `k` streams. -/
def rows {n k : ℕ} (x : (⟨2, ![n, 2048]⟩ : Shape).Idx → EReal) (g : (⟨2, ![1, 2048]⟩ : Shape).Idx → EReal)
    (s h : (⟨3, ![k, 1, 2048]⟩ : Shape).Idx → EReal) (r : Fin n) (q : Fin k) (j : Fin 2048) : EReal :=
  x (ix2 r j) * scale x r * g (ix2 0 j) * (1 + s (ix3 q 0 j)) + h (ix3 q 0 j)

end Cert.Norm1F

namespace Cert.Norm1PIdeal.Prod

open Cert.Norm1PIdeal Cert.Norm1PIdeal.Gen Idealize.ShloMosaic Idealize.ShloMosaic.TcCoe Idealize.SL.Sem
open Cert.Norm1F

theorem pay_rows (x : Vec Ideal S256x2048 .f32) (g : Vec Ideal S1x2048 .f32) (s h : Vec Ideal S1x1x2048 .f32) (r : Fin 256) (j : Fin 2048) :
    k0_pay1 (F := Ideal) x g s h (ix2 r j) = rows (n := 256) (k := 1) x g s h r 0 j := by
  unfold k0_pay1 rows scale
  pointwise

variable (m : (ℓ : Loc nD τ sig) → Buf (Elt Ideal) ℓ)

/-- The row of the array that a point's row is. -/
def row (t : Fin cfg0.N) (r : Fin 256) : Fin 8448 :=
  ⟨t.val * 256 + r.val, by have h : t.val < 33 := lt_of_lt_of_eq t.isLt N_0; omega⟩

/-- A row's stream: the latent rows come first, the context rows after them. -/
def stream (r : Fin 8448) : Fin 2 := ⟨r.val / 8192, by omega⟩

/-- The operands, as arrays of extended reals. -/
abbrev arr0 (c : Dev nD) : S8448x2048.Idx → EReal := m ((c : Thread nD τ).loc main_arg0)
abbrev arr1 (c : Dev nD) : S1x2048.Idx → EReal := m ((c : Thread nD τ).loc main_arg1)
abbrev arr2 (c : Dev nD) : S2x1x2048.Idx → EReal := m ((c : Thread nD τ).loc main_arg2)
abbrev arr3 (c : Dev nD) : S2x1x2048.Idx → EReal := m ((c : Thread nD τ).loc main_arg3)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, _)

theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem blk0 (c : Dev nD) (t : Fin cfg0.N) (r : Fin 256) (j : Fin 2048) :
    (iblk m c 0 t : Vec Ideal S256x2048 .f32) (ix2 r j) = arr0 m c (ix2 (row t r) j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [e0]; omega
  | ⟨1, _⟩ => show win0_0.index t 1 * 2048 + 1 * j.val = j.val; rw [e1]; omega

theorem blk1 (c : Dev nD) (t : Fin cfg0.N) (j : Fin 2048) :
    (iblk m c 1 t : Vec Ideal S1x2048 .f32) (ix2 0 j) = arr1 m c (ix2 0 j) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; rw [e0]
  | ⟨1, _⟩ => show win0_1.index t 1 * 2048 + 1 * j.val = j.val; rw [e1]; omega

theorem blk2 (c : Dev nD) (t : Fin cfg0.N) (r : Fin 256) (j : Fin 2048) :
    (iblk m c 2 t : Vec Ideal S1x1x2048 .f32) (ix3 0 0 j) = arr2 m c (ix3 (stream (row t r)) 0 j) := by
  obtain ⟨e0, e1, e2⟩ := idx2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = (t.val * 256 + r.val) / 8192; rw [e0]; omega
  | ⟨1, _⟩ => show win0_2.index t 1 * 1 + 1 * 0 = 0; rw [e1]
  | ⟨2, _⟩ => show win0_2.index t 2 * 2048 + 1 * j.val = j.val; rw [e2]; omega

theorem blk3 (c : Dev nD) (t : Fin cfg0.N) (r : Fin 256) (j : Fin 2048) :
    (iblk m c 3 t : Vec Ideal S1x1x2048 .f32) (ix3 0 0 j) = arr3 m c (ix3 (stream (row t r)) 0 j) := by
  obtain ⟨e0, e1, e2⟩ := idx3 t
  unfold iblk
  rw [View.read_apply]
  show V m c main_arg3 _ = m (c.tc.loc main_arg3) _
  unfold V
  congr 1
  funext a
  apply Fin.ext
  match a with
  | ⟨0, _⟩ => show win0_3.index t 0 * 1 + 1 * 0 = (t.val * 256 + r.val) / 8192; rw [e0]; omega
  | ⟨1, _⟩ => show win0_3.index t 1 * 1 + 1 * 0 = 0; rw [e1]
  | ⟨2, _⟩ => show win0_3.index t 2 * 2048 + 1 * j.val = j.val; rw [e2]; omega

theorem rows_at (c : Dev nD) (t : Fin cfg0.N) (r : Fin 256) (j : Fin 2048) :
    rows (n := 256) (iblk m c 0 t) (iblk m c 1 t) (iblk m c 2 t) (iblk m c 3 t) r 0 j = rows (arr0 m c) (arr1 m c) (arr2 m c) (arr3 m c) (row t r) (stream (row t r)) j := by
  unfold rows scale
  simp only [blk0 m c t, blk1 m c t, blk2 m c t r, blk3 m c t r]

/-- The result over the arrays. -/
def G (c : Dev nD) (i : S8448x2048.Idx) : EReal := rows (arr0 m c) (arr1 m c) (arr2 m c) (arr3 m c) (i 0) (stream (i 0)) (i 1)

/-- What the tile at a point stores. -/
def rowsAt (c : Dev nD) (t : Fin cfg0.N) : Vec Ideal S256x2048 .bf16 := k0_pay1 (F := Ideal) (iblk m c 0 t) (iblk m c 1 t) (iblk m c 2 t) (iblk m c 3 t)

theorem rowsAt_apply (c : Dev nD) (t : Fin cfg0.N) (y : S256x2048.Idx) :
    (rowsAt m c t y : EReal) = rows (arr0 m c) (arr1 m c) (arr2 m c) (arr3 m c) (row t (y 0)) (stream (row t (y 0))) (y 1) :=
  (congrArg (rowsAt m c t) (ValueIdx.eq_ix2 y)).trans ((pay_rows _ _ _ _ (y 0) (y 1)).trans (rows_at m c t (y 0) (y 1)))

theorem after (c : Dev nD) (t : Fin cfg0.N) : (dats m 0 c).after 4 t = rowsAt m c t := by
  rw [after0_4]
  frame_out
  rfl

theorem result (c : Dev nD) : (dats m 0 c).arrAt 4 cfg0.N = G m c := by
  refine (dats m 0 c).arrAt_eq_of_covers 4 _ (by decide +kernel) fun t hf y => ?_
  blk_simp
  rw [after]
  obtain ⟨e0, e1⟩ := idx4 t
  refine (rowsAt_apply m c t y).trans ?_
  exact congrArg₂ (fun r j => rows (arr0 m c) (arr1 m c) (arr2 m c) (arr3 m c) r (stream r) j)
    (Fin.ext (by show t.val * 256 + (y 0).val = win0_4.index t 0 * 256 + 1 * (y 0).val; rw [e0]; omega))
    (Fin.ext (by show (y 1).val = win0_4.index t 1 * 2048 + 1 * (y 1).val; rw [e1]; omega))

end Cert.Norm1PIdeal.Prod

namespace Cert.Norm1PRefIdeal.Prod

open Cert.Norm1PRefIdeal Cert.Norm1PRefIdeal.Gen Idealize.ShloMosaic Idealize.ShloMosaic.TcCoe Idealize.SL.Sem
open Cert.Norm1F
open Cert.Norm1PIdeal.Prod (stream)
variable (x0 : S8448x2048.Idx → EReal) (x1 : S1x2048.Idx → EReal) (x2 : S2x1x2048.Idx → EReal) (x3 : S2x1x2048.Idx → EReal)

theorem at_line (i : S8448x2048.Idx) : Read.val_main_v11 (F := Ideal) x0 x1 i = x0 i * scale x0 (i 0) * x1 (ix2 0 (i 1)) := by
  simp only [Read.val_main_v11_apply, Read.val_main_v10_apply, Read.val_main_v9_apply, Read.val_main_v8_apply, Read.val_main_v7_apply, Read.val_main_v6_apply, Read.val_main_v5_apply, Read.val_main_cst_1_apply, Read.val_main_v4_apply, Read.val_main_v3_apply, Read.val_main_cst_0_apply, Read.val_main_v2_apply, Read.val_main_v1_apply, Read.val_main_cst_apply, Read.val_main_v0_apply]
  unfold scale
  pointwise
  have hx : ∀ k : Fin 2048, x0 (Read.idx_main_v1 (Read.idx_main_v2 (Read.idx_main_v8 i)) k) = x0 (ix2 (i 0) k) := fun k => congrArg x0 (ValueIdx.eq_ix2 _)
  have hg : x1 (Read.idx_main_v10 i) = x1 (ix2 0 (i 1)) := congrArg x1 (ValueIdx.eq_ix2 _)
  simp only [hx, hg]

/-- The reference's result. -/
theorem result (i : S8448x2048.Idx) : Read.val_main_v35 (F := Ideal) x0 x1 x2 x3 i = rows x0 x1 x2 x3 (i 0) (stream (i 0)) (i 1) := by
  have b : (i 0).val < 8448 := (i 0).isLt
  unfold Read.val_main_v35 Read.val_main_v34 rows stream
  pointwise
  by_cases h : (i 0).val < 8192
  · have e : (⟨(i 0).val / 8192, by omega⟩ : Fin 2) = 0 := Fin.ext (by show (i 0).val / 8192 = 0; omega)
    rw [e]
    refine (dif_pos h).trans ?_
    unfold Read.val_main_v22 Read.val_main_v18 Read.val_main_v12 Read.val_main_v17 Read.val_main_v16 Read.val_main_v15 Read.val_main_cst_2 Read.val_main_v14 Read.val_main_v13 Read.val_main_v21 Read.val_main_v20 Read.val_main_v19
    pointwise
    rw [at_line]
  · have e : (⟨(i 0).val / 8192, by omega⟩ : Fin 2) = 1 := Fin.ext (by show (i 0).val / 8192 = 1; omega)
    rw [e]
    refine (dif_neg h).trans ?_
    unfold Read.val_main_v33 Read.val_main_v29 Read.val_main_v23 Read.val_main_v28 Read.val_main_v27 Read.val_main_v26 Read.val_main_cst_3 Read.val_main_v25 Read.val_main_v24 Read.val_main_v32 Read.val_main_v31 Read.val_main_v30
    pointwise
    have hx : ∀ p, (ix2 (⟨8192 + ((i 0).val - 8192), p⟩ : Fin 8448) (i 1) : S8448x2048.Idx) = i := fun p =>
      (congrArg (fun r : Fin 8448 => (ix2 r (i 1) : S8448x2048.Idx)) (Fin.ext (by show 8192 + ((i 0).val - 8192) = (i 0).val; omega))).trans (ValueIdx.eq_ix2 i).symm
    rw [hx, at_line]

end Cert.Norm1PRefIdeal.Prod

namespace Cert

open Idealize.ShloMosaic Idealize.ShloMosaic.TcCoe Idealize.SL.Sem

theorem algebraic_norm1 : Cert.algebraic_Norm1PIdeal_Norm1PRefIdeal := by
  intro m g m' g' _ hm
  refine ⟨Cert.Norm1PIdeal.Prod.G m,
    (θ_run Cert.Norm1PIdeal.defs _ _).mono (fun r h c => ⟨(h c).1.trans (Cert.Norm1PIdeal.Prod.result m c), (h c).2⟩)
      (Cert.Norm1PIdeal.Value.run_blocks (F := Ideal) m g), ?_⟩
  refine (θ_run Cert.Norm1PRefIdeal.defs _ _).mono (fun r h c => ?_) (Cert.Norm1PRefIdeal.Value.run (F := Ideal) m' g')
  have hr := h c
  have e := hr.1.trans (Cert.Norm1PRefIdeal.Read.val_main_v35_eq (F := Ideal) _ _ _ _)
  rw [(hm c).1, (hm c).2.1, (hm c).2.2.1, (hm c).2.2.2] at e
  exact ⟨e.trans (funext fun i => Cert.Norm1PRefIdeal.Prod.result _ _ _ _ i), hr.2⟩

end Cert

end
-- ==== Proof.ResidP.lean ====
/- The gated residual sum: a stream's rows times its gate, added to what goes on. -/
module

public import proofs.«01_k».proof.Defs
public import proofs.«01_k».proof.Proof.Gen.ResidPIdeal.Value
public import proofs.«01_k».proof.Proof.Gen.ResidPRefIdeal.Run
public import proofs.«01_k».proof.Proof.Gen.ResidPRefIdeal.Read
public import Idealize.ShloMosaic.Lib.Pointwise
public import Idealize.ShloMosaic.Lib.Pipeline.ValueKit

@[expose] public section

set_option maxRecDepth 16384

noncomputable section

namespace Cert.ResidF

open Idealize.ShloMosaic

/-- Over arrays of `n` rows, with a gate for each of `k` streams. -/
def rows {n k : ℕ} (x o : (⟨2, ![n, 2048]⟩ : Shape).Idx → EReal) (g : (⟨3, ![k, 1, 2048]⟩ : Shape).Idx → EReal) (r : Fin n) (q : Fin k) (j : Fin 2048) : EReal :=
  x (ix2 r j) + g (ix3 q 0 j) * o (ix2 r j)

end Cert.ResidF

namespace Cert.ResidPIdeal.Prod

open Cert.ResidPIdeal Cert.ResidPIdeal.Gen Idealize.ShloMosaic Idealize.ShloMosaic.TcCoe Idealize.SL.Sem
open Cert.ResidF

theorem pay_rows (x o : Vec Ideal S256x2048 .f32) (g : Vec Ideal S1x1x2048 .f32) (r : Fin 256) (j : Fin 2048) :
    k0_pay1 (F := Ideal) x o g (ix2 r j) = rows (n := 256) (k := 1) x o g r 0 j := by
  unfold k0_pay1 rows
  pointwise

variable (m : (ℓ : Loc nD τ sig) → Buf (Elt Ideal) ℓ)

/-- The row of the array that a point's row is. -/
def row (t : Fin cfg0.N) (r : Fin 256) : Fin 8448 :=
  ⟨t.val * 256 + r.val, by have h : t.val < 33 := lt_of_lt_of_eq t.isLt N_0; omega⟩

/-- A row's stream: the latent rows come first, the context rows after them. -/
def stream (r : Fin 8448) : Fin 2 := ⟨r.val / 8192, by omega⟩

/-- The operands, as arrays of extended reals. -/
abbrev arr0 (c : Dev nD) : S8448x2048.Idx → EReal := m ((c : Thread nD τ).loc main_arg0)
abbrev arr1 (c : Dev nD) : S8448x2048.Idx → EReal := m ((c : Thread nD τ).loc main_arg1)
abbrev arr2 (c : Dev nD) : S2x1x2048.Idx → EReal := m ((c : Thread nD τ).loc main_arg2)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem blk0 (c : Dev nD) (t : Fin cfg0.N) (r : Fin 256) (j : Fin 2048) :
    (iblk m c 0 t : Vec Ideal S256x2048 .f32) (ix2 r j) = arr0 m c (ix2 (row t r) j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [e0]; omega
  | ⟨1, _⟩ => show win0_0.index t 1 * 2048 + 1 * j.val = j.val; rw [e1]; omega

theorem blk1 (c : Dev nD) (t : Fin cfg0.N) (r : Fin 256) (j : Fin 2048) :
    (iblk m c 1 t : Vec Ideal S256x2048 .f32) (ix2 r j) = arr1 m c (ix2 (row t r) j) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [e0]; omega
  | ⟨1, _⟩ => show win0_1.index t 1 * 2048 + 1 * j.val = j.val; rw [e1]; omega

theorem blk2 (c : Dev nD) (t : Fin cfg0.N) (r : Fin 256) (j : Fin 2048) :
    (iblk m c 2 t : Vec Ideal S1x1x2048 .f32) (ix3 0 0 j) = arr2 m c (ix3 (stream (row t r)) 0 j) := by
  obtain ⟨e0, e1, e2⟩ := idx2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = (t.val * 256 + r.val) / 8192; rw [e0]; omega
  | ⟨1, _⟩ => show win0_2.index t 1 * 1 + 1 * 0 = 0; rw [e1]
  | ⟨2, _⟩ => show win0_2.index t 2 * 2048 + 1 * j.val = j.val; rw [e2]; omega

theorem rows_at (c : Dev nD) (t : Fin cfg0.N) (r : Fin 256) (j : Fin 2048) :
    rows (n := 256) (iblk m c 0 t) (iblk m c 1 t) (iblk m c 2 t) r 0 j = rows (arr0 m c) (arr1 m c) (arr2 m c) (row t r) (stream (row t r)) j := by
  unfold rows
  simp only [blk0 m c t, blk1 m c t, blk2 m c t r]

/-- The result over the arrays. -/
def G (c : Dev nD) (i : S8448x2048.Idx) : EReal := rows (arr0 m c) (arr1 m c) (arr2 m c) (i 0) (stream (i 0)) (i 1)

/-- What the tile at a point stores. -/
def rowsAt (c : Dev nD) (t : Fin cfg0.N) : Vec Ideal S256x2048 .f32 := k0_pay1 (F := Ideal) (iblk m c 0 t) (iblk m c 1 t) (iblk m c 2 t)

theorem rowsAt_apply (c : Dev nD) (t : Fin cfg0.N) (y : S256x2048.Idx) :
    (rowsAt m c t y : EReal) = rows (arr0 m c) (arr1 m c) (arr2 m c) (row t (y 0)) (stream (row t (y 0))) (y 1) :=
  (congrArg (rowsAt m c t) (ValueIdx.eq_ix2 y)).trans ((pay_rows _ _ _ (y 0) (y 1)).trans (rows_at m c t (y 0) (y 1)))

theorem after (c : Dev nD) (t : Fin cfg0.N) : (dats m 0 c).after 3 t = rowsAt m c t := by
  rw [after0_3]
  frame_out
  rfl

theorem result (c : Dev nD) : (dats m 0 c).arrAt 3 cfg0.N = G m c := by
  refine (dats m 0 c).arrAt_eq_of_covers 3 _ (by decide +kernel) fun t hf y => ?_
  blk_simp
  rw [after]
  obtain ⟨e0, e1⟩ := idx3 t
  refine (rowsAt_apply m c t y).trans ?_
  exact congrArg₂ (fun r j => rows (arr0 m c) (arr1 m c) (arr2 m c) r (stream r) j)
    (Fin.ext (by show t.val * 256 + (y 0).val = win0_3.index t 0 * 256 + 1 * (y 0).val; rw [e0]; omega))
    (Fin.ext (by show (y 1).val = win0_3.index t 1 * 2048 + 1 * (y 1).val; rw [e1]; omega))

end Cert.ResidPIdeal.Prod

namespace Cert.ResidPRefIdeal.Prod

open Cert.ResidPRefIdeal Cert.ResidPRefIdeal.Gen Idealize.ShloMosaic Idealize.ShloMosaic.TcCoe Idealize.SL.Sem
open Cert.ResidF
open Cert.ResidPIdeal.Prod (stream)
variable (x0 : S8448x2048.Idx → EReal) (x1 : S8448x2048.Idx → EReal) (x2 : S2x1x2048.Idx → EReal)

/-- The reference's result. -/
theorem result (i : S8448x2048.Idx) : Read.val_main_v14 (F := Ideal) x0 x1 x2 i = rows x0 x1 x2 (i 0) (stream (i 0)) (i 1) := by
  have b : (i 0).val < 8448 := (i 0).isLt
  unfold Read.val_main_v14 rows stream
  pointwise
  by_cases h : (i 0).val < 8192
  · have e : (⟨(i 0).val / 8192, by omega⟩ : Fin 2) = 0 := Fin.ext (by show (i 0).val / 8192 = 0; omega)
    rw [e]
    refine (dif_pos h).trans ?_
    unfold Read.val_main_v6 Read.val_main_v0 Read.val_main_v5 Read.val_main_v4 Read.val_main_v2 Read.val_main_v1 Read.val_main_v3
    pointwise
  · have e : (⟨(i 0).val / 8192, by omega⟩ : Fin 2) = 1 := Fin.ext (by show (i 0).val / 8192 = 1; omega)
    rw [e]
    refine (dif_neg h).trans ?_
    unfold Read.val_main_v13 Read.val_main_v7 Read.val_main_v12 Read.val_main_v11 Read.val_main_v9 Read.val_main_v8 Read.val_main_v10
    pointwise
    have hx : ∀ p, (ix2 (⟨8192 + ((i 0).val - 8192), p⟩ : Fin 8448) (i 1) : S8448x2048.Idx) = i := fun p =>
      (congrArg (fun r : Fin 8448 => (ix2 r (i 1) : S8448x2048.Idx)) (Fin.ext (by show 8192 + ((i 0).val - 8192) = (i 0).val; omega))).trans (ValueIdx.eq_ix2 i).symm
    rw [hx]

end Cert.ResidPRefIdeal.Prod

namespace Cert

open Idealize.ShloMosaic Idealize.ShloMosaic.TcCoe Idealize.SL.Sem

theorem algebraic_resid1 : Cert.algebraic_ResidPIdeal_ResidPRefIdeal := by
  intro m g m' g' _ hm
  refine ⟨Cert.ResidPIdeal.Prod.G m,
    (θ_run Cert.ResidPIdeal.defs _ _).mono (fun r h c => ⟨(h c).1.trans (Cert.ResidPIdeal.Prod.result m c), (h c).2⟩)
      (Cert.ResidPIdeal.Value.run_blocks (F := Ideal) m g), ?_⟩
  refine (θ_run Cert.ResidPRefIdeal.defs _ _).mono (fun r h c => ?_) (Cert.ResidPRefIdeal.Value.run (F := Ideal) m' g')
  have hr := h c
  have e := hr.1.trans (Cert.ResidPRefIdeal.Read.val_main_v14_eq (F := Ideal) _ _ _)
  rw [(hm c).1, (hm c).2.1, (hm c).2.2] at e
  exact ⟨e.trans (funext fun i => Cert.ResidPRefIdeal.Prod.result _ _ _ i), hr.2⟩

end Cert

end
-- ==== Proof.GmlpP.lean ====
/- The gMLP chunk mixer: each chunk's rows mixed by the group's matrix and gated. -/
module

public import proofs.«01_k».proof.Proof.GmlpSpec
public import proofs.«01_k».proof.Defs
public import proofs.«01_k».proof.Proof.Gen.GmlpPIdeal.Value
public import proofs.«01_k».proof.Proof.Gen.GmlpPRefIdeal.Run
public import proofs.«01_k».proof.Proof.Gen.GmlpPRefIdeal.Read
public import Idealize.ShloMosaic.Lib.Pointwise
public import Idealize.ShloMosaic.Lib.Pipeline.ValueKit

@[expose] public section

set_option maxRecDepth 16384

noncomputable section

namespace Cert.Gmlp

open Idealize.ShloMosaic

/-- What the mixer gives for one row of a chunk. -/
def mixOut (z : Fin 128 → Fin 1024 → EReal) (g b : Fin 512 → EReal) (ws : (⟨3, ![4, 128, 128]⟩ : Shape).Idx → EReal)
    (bm : (⟨2, ![128, 512]⟩ : Shape).Idx → EReal) (p : Fin 128) (c : Fin 512) : EReal := up (z p) c * mixed z g b ws bm p c

end Cert.Gmlp

namespace Cert.GmlpPIdeal.Prod

open Cert.GmlpPIdeal Cert.GmlpPIdeal.Gen Idealize.ShloMosaic Idealize.ShloMosaic.TcCoe Idealize.SL.Sem
open Cert.Gmlp

section Pay

variable (z : Vec Ideal S256x1024 .f32) (g b : Vec Ideal S1x512 .f32) (ws : Vec Ideal S4x128x128 .f32) (bm : Vec Ideal S128x512 .f32)

/-- A row of the tile. -/
def rw' (r : Fin 256) (j : Fin 1024) : EReal := z (ix2 r j)

theorem pay_act (r : Fin 256) (j : Fin 1024) : k0_pay2 (F := Ideal) z (ix2 r j) = act (z (ix2 r j)) := by
  unfold k0_pay2 act half th
  pointwise

theorem pay_up (r : Fin 256) (c : Fin 512) : k0_pay3 (F := Ideal) z (ix2 r c) = up (rw' z r) c := by
  unfold k0_pay3
  pointwise
  exact pay_act z r _

theorem pay_norm (r : Fin 256) (c : Fin 512) :
    k0_pay6 (F := Ideal) (k0_pay4 z g) (k0_pay5 b) (ix2 r c) = norm (rw' z r) (vec g) (vec b) c := by
  unfold k0_pay6 k0_pay4 k0_pay5
  pointwise
  simp only [pay_act]
  rfl

/-- The two chunks of a tile. -/
abbrev ch (X : (⟨2, ![256, 1024]⟩ : Shape).Idx → EReal) : Fin 2 → Fin 128 → Fin 1024 → EReal := chunk (n := 2) (by decide) X

theorem pay_norm0 (q : Fin 128) (c : Fin 512) (h : q.val < 256) :
    k0_pay6 (F := Ideal) (k0_pay4 z g) (k0_pay5 b) (ix2 ⟨q.val, h⟩ c) = norm (ch z 0 q) (vec g) (vec b) c := by
  rw [pay_norm]
  exact congrArg (fun r => norm (rw' z r) (vec g) (vec b) c) (Fin.ext (by show q.val = 0 * 128 + q.val; omega))

theorem pay_norm1 (q : Fin 128) (c : Fin 512) :
    k0_pay8 (F := Ideal) (k0_pay4 z g) (k0_pay5 b) (ix2 q c) = norm (ch z 1 q) (vec g) (vec b) c := by
  unfold k0_pay8
  pointwise
  rw [pay_norm]
  exact congrArg (fun r => norm (rw' z r) (vec g) (vec b) c) (Fin.ext (by show 128 + q.val = 1 * 128 + q.val; omega))

theorem pay_mixed0 (p : Fin 128) (c : Fin 512) :
    k0_pay7 (F := Ideal) ws bm (k0_pay4 z g) (k0_pay5 b) (ix2 p c) = mixed (ch z 0) (vec g) (vec b) ws bm p c := by
  unfold k0_pay7
  pointwise
  simp only [pay_norm0]
  exact congrArg₂ (· + ·) (joined (fun k c' => ∑ x, ws (ix3 k p x) * norm (ch z 0 x) (vec g) (vec b) c') c) rfl

/-- What the tile stores, by chunk and row. -/
theorem pay_rows (k : Fin 2) (p : Fin 128) (c : Fin 512) (r : Fin 256) (hr : r.val = k.val * 128 + p.val) :
    k0_pay1 (F := Ideal) bm (k0_pay3 z) (k0_pay7 ws bm (k0_pay4 z g) (k0_pay5 b)) (k0_pay9 ws (k0_pay4 z g) (k0_pay5 b))
      (k0_pay10 ws (k0_pay4 z g) (k0_pay5 b)) (k0_pay11 ws (k0_pay4 z g) (k0_pay5 b)) (k0_pay12 ws) (k0_pay13 (k0_pay4 z g) (k0_pay5 b))
      (constant S128x128 .f32 0x00000000#32) (ix2 r c)
      = mixOut (ch z k) (vec g) (vec b) ws bm p c := by
  unfold k0_pay1 k0_pay9 k0_pay10 k0_pay11 k0_pay12 k0_pay13 mixOut
  pointwise
  simp only [pay_norm1, pay_up]
  refine congrArg₂ (· * ·) (congrArg (fun r => up (rw' z r) c) (Fin.ext hr)) ?_
  match k, hr with
  | ⟨0, _⟩, hr =>
    have h0 : r.val = p.val := by simpa using hr
    refine (dif_pos (by omega)).trans ((pay_mixed0 z g b ws bm _ c).trans ?_)
    exact congrArg (fun q => mixed (ch z 0) (vec g) (vec b) ws bm q c) (Fin.ext h0)
  | ⟨1, _⟩, hr =>
    have h0 : r.val = 128 + p.val := by simpa using hr
    refine (dif_neg (by omega)).trans ?_
    have e : (⟨r.val - 128, by omega⟩ : Fin 128) = p := Fin.ext (by show r.val - 128 = p.val; omega)
    simp only [e]
    exact congrArg₂ (· + ·) (joined (fun k c' => ∑ x, ws (ix3 k p x) * norm (ch z 1 x) (vec g) (vec b) c') c) rfl

end Pay

variable (m : (ℓ : Loc nD τ sig) → Buf (Elt Ideal) ℓ)

/-- The operands, as arrays of extended reals. -/
abbrev arr0 (c : Dev nD) : S8448x1024.Idx → EReal := m ((c : Thread nD τ).loc main_arg0)
abbrev arr1 (c : Dev nD) : S1x512.Idx → EReal := m ((c : Thread nD τ).loc main_arg1)
abbrev arr2 (c : Dev nD) : S1x512.Idx → EReal := m ((c : Thread nD τ).loc main_arg2)
abbrev arr3 (c : Dev nD) : S4x128x128.Idx → EReal := m ((c : Thread nD τ).loc main_arg3)
abbrev arr4 (c : Dev nD) : S128x512.Idx → EReal := m ((c : Thread nD τ).loc main_arg4)

/-- The chunk of the array that a chunk of a point's tile is. -/
def piece (t : Fin cfg0.N) (h : Fin 2) : Fin 66 := ⟨t.val * 2 + h.val, by have ht : t.val < 33 := lt_of_lt_of_eq t.isLt N_0; omega⟩

theorem idx0 : ∀ t : Fin cfg0.N, win0_0.index t (0 : Fin 2) = t.val ∧ win0_0.index t (1 : Fin 2) = 0 :=
  (by decide +kernel : ∀ t : Fin grid0.N, _)

theorem blk0 (c : Dev nD) (t : Fin cfg0.N) (h : Fin 2) :
    chunk (n := 2) (w := 1024) (by decide) (iblk m c 0 t : Vec Ideal S256x1024 .f32) h = rows (arr0 m c) (piece t h) := by
  obtain ⟨e0, e1⟩ := idx0 t
  funext p j
  unfold rows chunk iblk
  rw [View.read_apply]
  show V m c main_arg0 _ = m (c.tc.loc main_arg0) _
  unfold V
  congr 1
  funext a
  apply Fin.ext
  match a with
  | ⟨0, _⟩ => show win0_0.index t 0 * 256 + 1 * (h.val * 128 + p.val) = (t.val * 2 + h.val) * 128 + p.val; rw [e0]; omega
  | ⟨1, _⟩ => show win0_0.index t 1 * 1024 + 1 * j.val = j.val; rw [e1]; omega

theorem idx1 : ∀ t : Fin cfg0.N, win0_1.index t (0 : Fin 2) = 0 ∧ win0_1.index t (1 : Fin 2) = 0 :=
  (by decide +kernel : ∀ t : Fin grid0.N, _)

theorem blk1 (c : Dev nD) (t : Fin cfg0.N) : (iblk m c 1 t : Vec Ideal S1x512 .f32) = arr1 m c := by
  obtain ⟨e0, e1⟩ := idx1 t
  funext i
  unfold iblk
  rw [View.read_apply]
  show V m c main_arg1 _ = m (c.tc.loc main_arg1) _
  unfold V
  congr 1
  funext a
  apply Fin.ext
  match a with
  | ⟨0, _⟩ => show win0_1.index t 0 * 1 + 1 * (i 0).val = (i 0).val; rw [e0]; omega
  | ⟨1, _⟩ => show win0_1.index t 1 * 512 + 1 * (i 1).val = (i 1).val; rw [e1]; omega

theorem idx2 : ∀ t : Fin cfg0.N, win0_2.index t (0 : Fin 2) = 0 ∧ win0_2.index t (1 : Fin 2) = 0 :=
  (by decide +kernel : ∀ t : Fin grid0.N, _)

theorem blk2 (c : Dev nD) (t : Fin cfg0.N) : (iblk m c 2 t : Vec Ideal S1x512 .f32) = arr2 m c := by
  obtain ⟨e0, e1⟩ := idx2 t
  funext i
  unfold iblk
  rw [View.read_apply]
  show V m c main_arg2 _ = m (c.tc.loc main_arg2) _
  unfold V
  congr 1
  funext a
  apply Fin.ext
  match a with
  | ⟨0, _⟩ => show win0_2.index t 0 * 1 + 1 * (i 0).val = (i 0).val; rw [e0]; omega
  | ⟨1, _⟩ => show win0_2.index t 1 * 512 + 1 * (i 1).val = (i 1).val; rw [e1]; omega

theorem idx4 : ∀ t : Fin cfg0.N, win0_4.index t (0 : Fin 2) = 0 ∧ win0_4.index t (1 : Fin 2) = 0 :=
  (by decide +kernel : ∀ t : Fin grid0.N, _)

theorem blk4 (c : Dev nD) (t : Fin cfg0.N) : (iblk m c 4 t : Vec Ideal S128x512 .f32) = arr4 m c := by
  obtain ⟨e0, e1⟩ := idx4 t
  funext i
  unfold iblk
  rw [View.read_apply]
  show V m c main_arg4 _ = m (c.tc.loc main_arg4) _
  unfold V
  congr 1
  funext a
  apply Fin.ext
  match a with
  | ⟨0, _⟩ => show win0_4.index t 0 * 128 + 1 * (i 0).val = (i 0).val; rw [e0]; omega
  | ⟨1, _⟩ => show win0_4.index t 1 * 512 + 1 * (i 1).val = (i 1).val; rw [e1]; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem blk3 (c : Dev nD) (t : Fin cfg0.N) : (iblk m c 3 t : Vec Ideal S4x128x128 .f32) = arr3 m c := by
  obtain ⟨e0, e1, e2⟩ := idx3 t
  funext i
  unfold iblk
  rw [View.read_apply]
  show V m c main_arg3 _ = m (c.tc.loc main_arg3) _
  unfold V
  congr 1
  funext a
  apply Fin.ext
  match a with
  | ⟨0, _⟩ => show win0_3.index t 0 * 4 + 1 * (i 0).val = (i 0).val; rw [e0]; omega
  | ⟨1, _⟩ => show win0_3.index t 1 * 128 + 1 * (i 1).val = (i 1).val; rw [e1]; omega
  | ⟨2, _⟩ => show win0_3.index t 2 * 128 + 1 * (i 2).val = (i 2).val; rw [e2]; omega

theorem idx5 : ∀ t : Fin cfg0.N, win0_5.index t (0 : Fin 2) = t.val ∧ win0_5.index t (1 : Fin 2) = 0 :=
  (by decide +kernel : ∀ t : Fin grid0.N, _)

/-- The result over the arrays. -/
def G (c : Dev nD) (i : S8448x512.Idx) : EReal :=
  mixOut (rows (arr0 m c) (chunkOf (i 0))) (vec (arr1 m c)) (vec (arr2 m c)) (arr3 m c) (arr4 m c) (within (i 0)) (i 1)

/-- What the tile at a point stores. -/
def rowsAt (c : Dev nD) (t : Fin cfg0.N) : Vec Ideal S256x512 .bf16 :=
  k0_pay1 (F := Ideal) (iblk m c 4 t) (k0_pay3 (iblk m c 0 t)) (k0_pay7 (iblk m c 3 t) (iblk m c 4 t) (k0_pay4 (iblk m c 0 t) (iblk m c 1 t)) (k0_pay5 (iblk m c 2 t)))
    (k0_pay9 (iblk m c 3 t) (k0_pay4 (iblk m c 0 t) (iblk m c 1 t)) (k0_pay5 (iblk m c 2 t)))
    (k0_pay10 (iblk m c 3 t) (k0_pay4 (iblk m c 0 t) (iblk m c 1 t)) (k0_pay5 (iblk m c 2 t)))
    (k0_pay11 (iblk m c 3 t) (k0_pay4 (iblk m c 0 t) (iblk m c 1 t)) (k0_pay5 (iblk m c 2 t)))
    (k0_pay12 (iblk m c 3 t)) (k0_pay13 (k0_pay4 (iblk m c 0 t) (iblk m c 1 t)) (k0_pay5 (iblk m c 2 t)))
    (constant S128x128 .f32 0x00000000#32)

theorem rowsAt_apply (c : Dev nD) (t : Fin cfg0.N) (k : Fin 2) (p : Fin 128) (j : Fin 512) (r : Fin 256) (hr : r.val = k.val * 128 + p.val) :
    (rowsAt m c t (ix2 r j) : EReal)
      = mixOut (rows (arr0 m c) (piece t k)) (vec (arr1 m c)) (vec (arr2 m c)) (arr3 m c) (arr4 m c) p j := by
  refine (pay_rows (iblk m c 0 t) (iblk m c 1 t) (iblk m c 2 t) (iblk m c 3 t) (iblk m c 4 t) k p j r hr).trans ?_
  rw [← blk0 m c t k, ← blk1 m c t, ← blk2 m c t, ← blk3 m c t, ← blk4 m c t]

theorem after (c : Dev nD) (t : Fin cfg0.N) : (dats m 0 c).after 5 t = rowsAt m c t := by
  rw [after0_5]
  frame_out
  unfold k0_pay14 k0_pay15 rowsAt
  have e0 : ∀ X : S256x1024.Idx → Elt Ideal .f32, View.ld (Val := Elt Ideal) (e' := .f32) X r0_0 = X := fun X => View.ld_unit_lit _ X (fun a => match a with | ⟨0, _⟩ => rfl | ⟨1, _⟩ => rfl)
  have e1 : ∀ X : S1x512.Idx → Elt Ideal .f32, View.ld (Val := Elt Ideal) (e' := .f32) X r0_1 = X := fun X => View.ld_unit_lit _ X (fun a => match a with | ⟨0, _⟩ => rfl | ⟨1, _⟩ => rfl)
  rw [e0, e1, e1]

theorem result (c : Dev nD) : (dats m 0 c).arrAt 5 cfg0.N = G m c := by
  refine (dats m 0 c).arrAt_eq_of_covers 5 _ (by decide +kernel) fun t hf y => ?_
  blk_simp
  rw [after]
  obtain ⟨e0, e1⟩ := idx5 t
  have h0 : (y 0).val < 256 := (y 0).isLt
  have ht : t.val < 33 := lt_of_lt_of_eq t.isLt N_0
  have hk : piece t ⟨(y 0).val / 128, by omega⟩ = chunkOf (((View.whole main_v0).slice (win0_5.rect t)).emb y 0) :=
    Fin.ext (by show t.val * 2 + (y 0).val / 128 = (win0_5.index t 0 * 256 + 1 * (y 0).val) / 128; rw [e0]; omega)
  have hp : (⟨(y 0).val % 128, by omega⟩ : Fin 128) = within (((View.whole main_v0).slice (win0_5.rect t)).emb y 0) :=
    Fin.ext (by show (y 0).val % 128 = (win0_5.index t 0 * 256 + 1 * (y 0).val) % 128; rw [e0]; omega)
  have hj : y 1 = ((View.whole main_v0).slice (win0_5.rect t)).emb y 1 :=
    Fin.ext (by show (y 1).val = win0_5.index t 1 * 512 + 1 * (y 1).val; rw [e1]; omega)
  have hy : y = ix2 (y 0) (y 1) := ValueIdx.eq_ix2 y
  refine (congrArg (rowsAt m c t) hy).trans ((rowsAt_apply m c t ⟨(y 0).val / 128, by omega⟩ ⟨(y 0).val % 128, by omega⟩ (y 1) (y 0)
    (by show (y 0).val = (y 0).val / 128 * 128 + (y 0).val % 128; omega)).trans ?_)
  unfold G
  rw [← hk, ← hp, ← hj]

end Cert.GmlpPIdeal.Prod

namespace Cert.GmlpPRefIdeal.Prod

open Cert.GmlpPRefIdeal Cert.GmlpPRefIdeal.Gen Idealize.ShloMosaic Idealize.ShloMosaic.TcCoe Idealize.SL.Sem
open Cert.Gmlp

variable (x0 : S8448x1024.Idx → EReal) (x1 x2 : S1x512.Idx → EReal) (x3 : S4x128x128.Idx → EReal) (x4 : S128x512.Idx → EReal)

/-- A row of the pre-activations. -/
def line (r : Fin 8448) (j : Fin 1024) : EReal := x0 (ix2 r j)

theorem line_eq (r : Fin 8448) : line x0 r = rows x0 (chunkOf r) (within r) :=
  funext fun j => congrArg x0 (congrArg (fun r => ix2 r j) (Fin.ext (by show r.val = r.val / 128 * 128 + r.val % 128; omega)))

theorem at_act (i : S8448x1024.Idx) : Read.val_main_v12 (F := Ideal) x0 i = act (x0 i) := by
  simp only [Read.val_main_v12_apply, Read.val_main_v11_apply, Read.val_main_v10_apply, Read.val_main_cst_2_apply, Read.val_main_v9_apply, Read.val_main_v8_apply, Read.val_main_cst_1_apply, Read.val_main_v7_apply, Read.val_main_v6_apply, Read.val_main_v5_apply, Read.val_main_cst_0_apply, Read.val_main_v4_apply, Read.val_main_v3_apply, Read.val_main_v2_apply, Read.val_main_cst_apply, Read.val_main_v1_apply, Read.val_main_v0_apply]
  unfold act half th
  rw [mul_comm (x0 i) (x0 i * x0 i)]
  pointwise

theorem at_up (i : S8448x512.Idx) : Read.val_main_v13 (F := Ideal) x0 i = up (line x0 (i 0)) (i 1) := by
  rw [Read.val_main_v13_apply, at_act]
  exact congrArg (fun k => act (x0 k)) (ValueIdx.eq_ix2 _)

theorem at_value (i : S8448x512.Idx) : Read.val_main_v14 (F := Ideal) x0 i = value (line x0 (i 0)) (i 1) := by
  rw [Read.val_main_v14_apply, at_act]
  exact congrArg (fun k => act (x0 k)) (ValueIdx.eq_ix2 _)

theorem at_centre (i : S8448x512.Idx) : Read.val_main_v20 (F := Ideal) x0 i = centre (line x0 (i 0)) (i 1) := by
  simp only [Read.val_main_v20_apply, Read.val_main_v19_apply, Read.val_main_v18_apply, Read.val_main_v17_apply, Read.val_main_cst_4_apply, Read.val_main_v16_apply, Read.val_main_v15_apply, Read.val_main_cst_3_apply, at_value]
  pointwise
  rfl

theorem at_spread (i : S8448x1.Idx) : Read.val_main_v27 (F := Ideal) x0 i = spread (line x0 (i 0)) := by
  simp only [Read.val_main_v27_apply, Read.val_main_v26_apply, Read.val_main_cst_7_apply, Read.val_main_v25_apply, Read.val_main_v24_apply, Read.val_main_cst_6_apply, Read.val_main_v23_apply, Read.val_main_v22_apply, Read.val_main_cst_5_apply, Read.val_main_v21_apply, at_centre]
  pointwise
  rfl

theorem at_scale (i : S8448x1.Idx) : Read.val_main_v28 (F := Ideal) x0 i = scale (line x0 (i 0)) := by
  rw [Read.val_main_v28_apply, at_spread]
  pointwise
  rfl

theorem at_hat (i : S8448x512.Idx) : Read.val_main_v30 (F := Ideal) x0 i = hat (line x0 (i 0)) (i 1) := by
  rw [Read.val_main_v30_apply, Read.val_main_v29_apply, at_centre, at_scale]
  rfl

theorem at_norm (i : S8448x512.Idx) : Read.val_main_v34 (F := Ideal) x0 x1 x2 i = norm (line x0 (i 0)) (vec x1) (vec x2) (i 1) := by
  rw [Read.val_main_v34_apply, Read.val_main_v33_apply, Read.val_main_v32_apply, Read.val_main_v31_apply, at_hat]
  exact congrArg₂ (· + ·) (congrArg₂ (· * ·) rfl (congrArg x1 (ValueIdx.eq_ix2 _))) (congrArg x2 (ValueIdx.eq_ix2 _))

/-- The normalised rows by chunk, row, group and channel of the group. -/
theorem at_normed (i : S66x128x4x128.Idx) (c : Fin 512) (hc : c.val = (i 2).val * 128 + (i 3).val) :
    Read.val_main_v35 (F := Ideal) x0 x1 x2 i = norm (rows x0 (i 0) (i 1)) (vec x1) (vec x2) c := by
  have h0 : (i 0).val < 66 := (i 0).isLt
  have h1 : (i 1).val < 128 := (i 1).isLt
  have h2 : (i 2).val < 4 := (i 2).isLt
  have h3 : (i 3).val < 128 := (i 3).isLt
  rw [Read.val_main_v35_apply, at_norm]
  have e0 : line x0 (Read.idx_main_v35 i 0) = rows x0 (i 0) (i 1) := funext fun j => congrArg x0 (congrArg (fun r => ix2 r j) (Fin.ext (by
    show ((((i 0).val * 128 + (i 1).val) * 4 + (i 2).val) * 128 + (i 3).val) / 512 = (i 0).val * 128 + (i 1).val
    omega)))
  have e1 : Read.idx_main_v35 i 1 = c := Fin.ext (by
    show ((((i 0).val * 128 + (i 1).val) * 4 + (i 2).val) * 128 + (i 3).val) % 512 = c.val
    omega)
  rw [e0, e1]

/-- The mixed rows by chunk, row and channel. -/
theorem at_mix (i : S66x128x512.Idx) :
    Read.val_main_v41 (F := Ideal) x0 x1 x2 x3 x4 i = mixed (rows x0 (i 0)) (vec x1) (vec x2) x3 x4 (i 1) (i 2) := by
  have h0 : (i 0).val < 66 := (i 0).isLt
  have h1 : (i 1).val < 128 := (i 1).isLt
  have h2 : (i 2).val < 512 := (i 2).isLt
  simp only [Read.val_main_v41_apply, Read.val_main_v40_apply, Read.val_main_v39_apply, Read.val_main_v38_apply,
    Read.val_main_v37_apply, Read.val_main_v36_apply]
  have a0 : (((i 0).val * 128 + (i 1).val) * 512 + (i 2).val) / 65536 = (i 0).val := by omega
  have a1 : (((i 0).val * 128 + (i 1).val) * 512 + (i 2).val) / 512 % 128 = (i 1).val := by omega
  have a2 : (((i 0).val * 128 + (i 1).val) * 512 + (i 2).val) / 128 % 4 = (i 2).val / 128 := by omega
  have a3 : (((i 0).val * 128 + (i 1).val) * 512 + (i 2).val) % 128 = (i 2).val % 128 := by omega
  unfold mixed
  refine congrArg₂ (· + ·) (Finset.sum_congr rfl fun q _ => (mul_comm _ _).trans (congrArg₂ (· * ·) (congrArg x3 ?_) ?_)) (congrArg x4 (ValueIdx.eq_ix2 _))
  · funext a
    match a with
    | ⟨0, _⟩ => exact Fin.ext a2
    | ⟨1, _⟩ => exact Fin.ext a1
    | ⟨2, _⟩ => rfl
  · rw [at_normed x0 x1 x2 _ (i 2) (by
      show (i 2).val = (((i 0).val * 128 + (i 1).val) * 512 + (i 2).val) / 128 % 4 * 128 + (((i 0).val * 128 + (i 1).val) * 512 + (i 2).val) % 128
      omega)]
    exact congrArg (fun k => norm (rows x0 k q) (vec x1) (vec x2) (i 2)) (Fin.ext a0)

theorem at_mixed (i : S8448x512.Idx) :
    Read.val_main_v42 (F := Ideal) x0 x1 x2 x3 x4 i = mixed (rows x0 (chunkOf (i 0))) (vec x1) (vec x2) x3 x4 (within (i 0)) (i 1) := by
  have h0 : (i 0).val < 8448 := (i 0).isLt
  have h1 : (i 1).val < 512 := (i 1).isLt
  rw [Read.val_main_v42_apply, at_mix]
  have e0 : Read.idx_main_v42 i 0 = chunkOf (i 0) := Fin.ext (by show ((i 0).val * 512 + (i 1).val) / 65536 = (i 0).val / 128; omega)
  have e1 : Read.idx_main_v42 i 1 = within (i 0) := Fin.ext (by show ((i 0).val * 512 + (i 1).val) / 512 % 128 = (i 0).val % 128; omega)
  have e2 : Read.idx_main_v42 i 2 = i 1 := Fin.ext (by show ((i 0).val * 512 + (i 1).val) % 512 = (i 1).val; omega)
  rw [e0, e1, e2]

/-- The reference's result. -/
theorem result (i : S8448x512.Idx) :
    Read.val_main_v44 (F := Ideal) x0 x1 x2 x3 x4 i
      = mixOut (rows x0 (chunkOf (i 0))) (vec x1) (vec x2) x3 x4 (within (i 0)) (i 1) := by
  rw [Read.val_main_v44_apply, Read.val_main_v43_apply, at_up, at_mixed]
  exact congrArg₂ (· * ·) (congrArg (fun z => up z (i 1)) (line_eq x0 (i 0))) rfl

end Cert.GmlpPRefIdeal.Prod

namespace Cert

open Idealize.ShloMosaic Idealize.ShloMosaic.TcCoe Idealize.SL.Sem

theorem algebraic_gmlp : Cert.algebraic_GmlpPIdeal_GmlpPRefIdeal := by
  intro m g m' g' _ hm
  refine ⟨Cert.GmlpPIdeal.Prod.G m,
    (θ_run Cert.GmlpPIdeal.defs _ _).mono (fun r h c => ⟨(h c).1.trans (Cert.GmlpPIdeal.Prod.result m c), (h c).2⟩)
      (Cert.GmlpPIdeal.Value.run_blocks (F := Ideal) m g), ?_⟩
  refine (θ_run Cert.GmlpPRefIdeal.defs _ _).mono (fun r h c => ?_) (Cert.GmlpPRefIdeal.Value.run (F := Ideal) m' g')
  have hr := h c
  have e := hr.1.trans (Cert.GmlpPRefIdeal.Read.val_main_v44_eq (F := Ideal) m' c)
  rw [(hm c).1, (hm c).2.1, (hm c).2.2.1, (hm c).2.2.2.1, (hm c).2.2.2.2] at e
  exact ⟨e.trans (funext fun i => Cert.GmlpPRefIdeal.Prod.result _ _ _ _ _ i), hr.2⟩

end Cert

end
-- ==== Proof.S5InP.lean ====
/- The product that brings the channels into the recurrence's states. -/
module

public import proofs.«01_k».proof.Defs
public import proofs.«01_k».proof.Proof.Gen.S5InPIdeal.Value
public import proofs.«01_k».proof.Proof.Gen.S5InPRefIdeal.Run
public import proofs.«01_k».proof.Proof.Gen.S5InPRefIdeal.Read
public import Idealize.ShloMosaic.Lib.Pointwise
public import Idealize.ShloMosaic.Lib.Pipeline.ValueKit

@[expose] public section

set_option maxRecDepth 16384

noncomputable section

namespace Cert.S5InPIdeal.Prod

open Cert.S5InPIdeal Cert.S5InPIdeal.Gen Idealize.ShloMosaic Idealize.ShloMosaic.TcCoe Idealize.SL.Sem
open Idealize.ShloMosaic.Pipeline (Dat)

theorem pay_apply (x0 : Vec Ideal S768x512 .f32) (x1 : Vec Ideal S512x1024 .bf16) (j : S768x1024.Idx) :
    k0_pay1 x1 x0 j = ∑ k : Fin 512, x0 (ix2 (j 0) k) * x1 (ix2 k (j 1)) := by
  unfold k0_pay1
  pointwise

variable (m : (ℓ : Loc nD τ sig) → Buf (Elt Ideal) ℓ)

/-- The two operands, as arrays of extended reals. -/
abbrev arr0 (c : Dev nD) : S8448x512.Idx → EReal := m ((c : Thread nD τ).loc main_arg0)
abbrev arr1 (c : Dev nD) : S512x4096.Idx → EReal := m ((c : Thread nD τ).loc main_arg1)

/-- The whole result. -/
def G (x0 : S8448x512.Idx → EReal) (x1 : S512x4096.Idx → EReal) (i : S8448x4096.Idx) : EReal :=
  ∑ k : Fin 512, x0 (ix2 (i 0) k) * x1 (ix2 k (i 1))

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = 0 ∧ win0_1.index t (1 : Fin 2) = win0_2.index t (1 : Fin 2) :=
  (by decide +kernel : ∀ t : Fin grid0.N, _)

/-- Where a point's block of the result lies in it. -/
abbrev at2 (t : Fin cfg0.N) (y : S768x1024.Idx) : S8448x4096.Idx := ((View.whole main_v0).slice (win0_2.rect t)).emb y

theorem blk0 (c : Dev nD) (t : Fin cfg0.N) (y : S768x1024.Idx) (k : Fin 512) :
    (iblk m c 0 t : Vec Ideal S768x512 .f32) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 512 + 1 * k.val = k.val; rw [e1]; omega

theorem blk1 (c : Dev nD) (t : Fin cfg0.N) (y : S768x1024.Idx) (k : Fin 512) :
    (iblk m c 1 t : Vec Ideal S512x1024 .bf16) (ix2 k (y 1)) = arr1 m c (ix2 k (at2 t y 1)) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 512 + 1 * k.val = k.val; rw [e0]; omega
  | ⟨1, _⟩ => show win0_1.index t 1 * 1024 + 1 * (y 1).val = win0_2.index t 1 * 1024 + 1 * (y 1).val; rw [e1]

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.S5InPIdeal.Prod

namespace Cert.S5InPRefIdeal.Prod

open Cert.S5InPRefIdeal Cert.S5InPRefIdeal.Gen Idealize.ShloMosaic Idealize.ShloMosaic.TcCoe Idealize.SL.Sem
open Cert.S5InPIdeal.Prod (G)

/-- The reference's result: the same sum. -/
theorem result (x0 : S8448x512.Idx → EReal) (x1 : S512x4096.Idx → EReal) (i : S8448x4096.Idx) :
    Read.val_main_v1 (F := Ideal) x0 x1 i = G x0 x1 i := by
  unfold G
  rw [Read.val_main_v1_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.S5InPRefIdeal.Prod

namespace Cert

open Idealize.ShloMosaic Idealize.ShloMosaic.TcCoe Idealize.SL.Sem

theorem algebraic_s5_in : Cert.algebraic_S5InPIdeal_S5InPRefIdeal := by
  intro m g m' g' _ hm
  refine ⟨fun c => Cert.S5InPIdeal.Prod.G (m ((c.tc).loc Cert.S5InPIdeal.main_arg0)) (m ((c.tc).loc Cert.S5InPIdeal.main_arg1)),
    (θ_run Cert.S5InPIdeal.defs _ _).mono (fun r h c => ⟨(h c).1.trans (Cert.S5InPIdeal.Prod.result m c), (h c).2⟩) (Cert.S5InPIdeal.Value.run_blocks (F := Ideal) m g), ?_⟩
  refine (θ_run Cert.S5InPRefIdeal.defs _ _).mono (fun r h c => ⟨(h c).1.trans ?_, (h c).2⟩) (Cert.S5InPRefIdeal.Value.run (F := Ideal) m' g')
  rw [(hm c).1, (hm c).2]
  funext i
  exact Cert.S5InPRefIdeal.Prod.result _ _ i

end Cert

end
-- ==== Proof.S5OutP.lean ====
/- The readout product of the recurrence's states. -/
module

public import proofs.«01_k».proof.Proof.Tiles
public import proofs.«01_k».proof.Defs
public import proofs.«01_k».proof.Proof.Gen.S5OutPIdeal.Value
public import proofs.«01_k».proof.Proof.Gen.S5OutPRefIdeal.Run
public import proofs.«01_k».proof.Proof.Gen.S5OutPRefIdeal.Read
public import Idealize.ShloMosaic.Lib.Pointwise

@[expose] public section

set_option maxRecDepth 16384

noncomputable section

namespace Cert.S5OutPIdeal.Prod

open Cert.S5OutPIdeal Cert.S5OutPIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S768x2048 .f32) (x1 : Vec Ideal S2048x512 .bf16) (j : S768x512.Idx) :
    k0_pay1 x1 x0 j = ∑ k : Fin 2048, x0 (ix2 (j 0) k) * x1 (ix2 k (j 1)) := by
  unfold k0_pay1
  pointwise

variable (m : (ℓ : Loc nD τ sig) → Buf (Elt Ideal) ℓ)

/-- The products of the two arrays' rows `i 0` and `i 1`, column by column. -/
def term (x0 : S8448x4096.Idx → EReal) (x1 : S4096x512.Idx → EReal) (i : S8448x512.Idx) (κ : Fin 4096) : EReal :=
  x0 (ix2 (i 0) κ) * x1 (ix2 κ (i 1))

/-- The two operands, as arrays of extended reals. -/
abbrev arr0 (c : Dev nD) : S8448x4096.Idx → EReal := m ((c : Thread nD τ).loc main_arg0)
abbrev arr1 (c : Dev nD) : S4096x512.Idx → EReal := m ((c : Thread nD τ).loc main_arg1)

theorem idx0 : ∀ t : Fin cfg0.N, win0_0.index t (0 : Fin 2) = t.val / 2 ∧ win0_0.index t (1 : Fin 2) = t.val % 2 :=
  (by decide +kernel : ∀ t : Fin grid0.N, _)

theorem idx1 : ∀ t : Fin cfg0.N, win0_1.index t (0 : Fin 2) = t.val % 2 ∧ win0_1.index t (1 : Fin 2) = 0 :=
  (by decide +kernel : ∀ t : Fin grid0.N, _)

theorem blk0 (c : Dev nD) (t : Fin cfg0.N) (r : Fin 768) (k : Fin 2048) (ρ : Fin 8448) (κ : Fin 4096)
    (hr : ρ.val = t.val / 2 * 768 + r.val) (hk : κ.val = t.val % 2 * 2048 + k.val) :
    (iblk m c 0 t : Vec Ideal S768x2048 .f32) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * r.val = ρ.val; rw [e0, hr]; omega
  | ⟨1, _⟩ => show win0_0.index t 1 * 2048 + 1 * k.val = κ.val; rw [e1, hk]; omega

theorem blk1 (c : Dev nD) (t : Fin cfg0.N) (r : Fin 512) (k : Fin 2048) (ρ : Fin 512) (κ : Fin 4096)
    (hr : ρ.val = r.val) (hk : κ.val = t.val % 2 * 2048 + k.val) :
    (iblk m c 1 t : Vec Ideal S2048x512 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 2048 + 1 * k.val = κ.val; rw [e0, hk]; omega
  | ⟨1, _⟩ => show win0_1.index t 1 * 512 + 1 * r.val = ρ.val; rw [e1, hr]; omega

/-- A point's part: the product of its two blocks. -/
def part (c : Dev nD) (t : Fin cfg0.N) : Vec Ideal S768x512 .f32 := k0_pay1 (F := Ideal) (iblk m c 1 t) (iblk m c 0 t)

theorem part_apply (c : Dev nD) (t : Fin cfg0.N) (y : S768x512.Idx) (i : S8448x512.Idx) (s : ℕ) (hs : s < 2) (ht : t.val % 2 = s)
    (h0 : (i 0).val = t.val / 2 * 768 + (y 0).val) (h1 : (i 1).val = (y 1).val) :
    (part m c t y : EReal) = ∑ k : Fin 2048, term (arr0 m c) (arr1 m c) i ⟨s * 2048 + k.val, Tiles.tile_lt (J := 2) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a pair leaves its part in the scratch. -/
theorem scratch_A (c : Dev nD) (t : Fin cfg0.N) (h : t.val % 2 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S768x2048) hz, View.ld_unit_zero (S := S2048x512) hz, shapeCast_self]

/-- The second stores the scratch with its own part added. -/
theorem stored_B (c : Dev nD) (n : ℕ) (hn : n + 1 < cfg0.N) (h : (n + 1) % 2 = 1) :
    (outsAt0 m c (n + 1) hn).1 = addf (F := Ideal) (φ := .f32) (outsAt0 m c n (Nat.lt_of_succ_lt hn)).2 (part m c ⟨n + 1, hn⟩) := by
  rw [outsAt0_B m c ⟨n + 1, hn⟩ (by dsimp only; omega) h h]
  dsimp only
  unfold out0_B_2
  rw [View.read_writes_eq_canon _ _ _ (fun _ => cover0_B_2 ..)]
  unfold kernelRun0_B
  dsimp only
  sl_unfold_words
  rw [View.canon_unit_zero hz, View.readCov_unit_zero (S := S768x512) _ hz]
  unfold k0_pay3 part
  simp only [View.readAt_eq_ld, (hs0_0 _).read_unread, (hs0_1 _).read_unread, (Memref.isWhole_whole _).read_unread, View.ld_unit_zero (S := S768x2048) hz, View.ld_unit_zero (S := S2048x512) hz, View.ld_unit_zero (S := S768x512) hz, shapeCast_self]
  rfl

/-- The kernel's result: at every element the whole sum. -/
theorem result (c : Dev nD) (i : S8448x512.Idx) :
    (Value.G2 m c : S8448x512.Idx → EReal) i = ∑ κ, term (arr0 m c) (arr1 m c) i κ := by
  have b0 : (i 0).val < 8448 := (i 0).isLt
  have b1 : (i 1).val < 512 := (i 1).isLt
  have hN : cfg0.N = 22 := N_0
  obtain ⟨q, hq⟩ : ∃ q, q = (i 0).val / 768 := ⟨_, rfl⟩
  have hp : Value.pt2Of i = 2 * q + 1 := by
    show 2 * (1 * ((i 0).val / 768 - 0) + 1 * ((i 1).val / 512 - 0)) + 1 = _
    omega
  have hlt : 2 * q + 1 < cfg0.N := by omega
  have h0 : ∀ s, s < 2 → (i 0).val = (2 * q + s) / 2 * 768 + (Value.loc2Of i 0).val := fun s hs => by
    show (i 0).val = (2 * q + s) / 2 * 768 + (i 0).val % 768
    omega
  have h1 : ∀ s, s < 2 → (i 1).val = (Value.loc2Of i 1).val := fun s hs => by
    show (i 1).val = (i 1).val % 512
    omega
  unfold Value.G2
  simp only [hp]
  rw [dif_pos hlt, ← Value.outsAt0_sweep m c _ hlt]
  refine (congrFun (stored_B m c (2 * q) hlt (by omega)) _).trans ?_
  rw [← Tiles.sum_tiles (J := 2) (TK := 2048) (K := 4096) (by decide), Fin.sum_univ_two]
  refine congrArg₂ (· + ·) ?_ (part_apply m c ⟨2 * q + 1, hlt⟩ (Value.loc2Of i) i 1 (by decide) (by dsimp only; omega) (h0 1 (by decide)) (h1 1 (by decide)))
  exact (congrFun (scratch_A m c ⟨2 * q, by omega⟩ (by dsimp only; omega)) _).trans
    (part_apply m c ⟨2 * q, by omega⟩ (Value.loc2Of i) i 0 (by decide) (by dsimp only; omega) (h0 0 (by decide)) (h1 0 (by decide)))

end Cert.S5OutPIdeal.Prod

namespace Cert.S5OutPRefIdeal.Prod

open Cert.S5OutPRefIdeal Cert.S5OutPRefIdeal.Gen Idealize.ShloMosaic Idealize.ShloMosaic.TcCoe Idealize.SL.Sem

/-- The reference's result: the same sum. -/
theorem result (x0 : S8448x4096.Idx → EReal) (x1 : S4096x512.Idx → EReal) (i : S8448x512.Idx) :
    Read.val_main_v1 (F := Ideal) x0 x1 i = ∑ κ : Fin 4096, x0 (ix2 (i 0) κ) * x1 (ix2 κ (i 1)) := by
  rw [Read.val_main_v1_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.S5OutPRefIdeal.Prod

namespace Cert

open Idealize.ShloMosaic Idealize.ShloMosaic.TcCoe Idealize.SL.Sem

theorem algebraic_s5_out : Cert.algebraic_S5OutPIdeal_S5OutPRefIdeal := by
  intro m g m' g' _ hm
  refine ⟨fun c => Cert.S5OutPIdeal.Value.G2 m c, Cert.S5OutPIdeal.Value.run m g, ?_⟩
  refine (θ_run Cert.S5OutPRefIdeal.defs _ _).mono (fun r h c => ⟨(h c).1.trans ?_, (h c).2⟩) (Cert.S5OutPRefIdeal.Value.run (F := Ideal) m' g')
  rw [(hm c).1, (hm c).2]
  funext i
  exact (Cert.S5OutPRefIdeal.Prod.result _ _ i).trans (Cert.S5OutPIdeal.Prod.result m c i).symm

end Cert

end
-- ==== Proof.S5OutA.lean ====
/- The backward states' readout product, added to the forward states'. -/
module

public import proofs.«01_k».proof.Proof.Tiles
public import proofs.«01_k».proof.Defs
public import proofs.«01_k».proof.Proof.Gen.S5OutAIdeal.Value
public import proofs.«01_k».proof.Proof.Gen.S5OutARefIdeal.Run
public import proofs.«01_k».proof.Proof.Gen.S5OutARefIdeal.Read
public import Idealize.ShloMosaic.Lib.Pointwise

@[expose] public section

set_option maxRecDepth 16384

noncomputable section

namespace Cert.S5OutAIdeal.Prod

open Cert.S5OutAIdeal Cert.S5OutAIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S768x2048 .f32) (x1 : Vec Ideal S2048x512 .bf16) (j : S768x512.Idx) :
    k0_pay1 x1 x0 j = ∑ k : Fin 2048, x0 (ix2 (j 0) k) * x1 (ix2 k (j 1)) := by
  unfold k0_pay1
  pointwise

variable (m : (ℓ : Loc nD τ sig) → Buf (Elt Ideal) ℓ)

/-- The products of the two arrays' rows `i 0` and `i 1`, column by column. -/
def term (x0 : S8448x4096.Idx → EReal) (x1 : S4096x512.Idx → EReal) (i : S8448x512.Idx) (κ : Fin 4096) : EReal :=
  x0 (ix2 (i 0) κ) * x1 (ix2 κ (i 1))

/-- The three operands, as arrays of extended reals. -/
abbrev arr0 (c : Dev nD) : S8448x4096.Idx → EReal := m ((c : Thread nD τ).loc main_arg0)
abbrev arr1 (c : Dev nD) : S4096x512.Idx → EReal := m ((c : Thread nD τ).loc main_arg1)
abbrev arr2 (c : Dev nD) : S8448x512.Idx → EReal := m ((c : Thread nD τ).loc main_arg2)

theorem idx0 : ∀ t : Fin cfg0.N, win0_0.index t (0 : Fin 2) = t.val / 2 ∧ win0_0.index t (1 : Fin 2) = t.val % 2 :=
  (by decide +kernel : ∀ t : Fin grid0.N, _)

theorem idx1 : ∀ t : Fin cfg0.N, win0_1.index t (0 : Fin 2) = t.val % 2 ∧ win0_1.index t (1 : Fin 2) = 0 :=
  (by decide +kernel : ∀ t : Fin grid0.N, _)

theorem idx2 : ∀ t : Fin cfg0.N, win0_2.index t (0 : Fin 2) = t.val / 2 ∧ win0_2.index t (1 : Fin 2) = 0 :=
  (by decide +kernel : ∀ t : Fin grid0.N, _)

theorem blk0 (c : Dev nD) (t : Fin cfg0.N) (r : Fin 768) (k : Fin 2048) (ρ : Fin 8448) (κ : Fin 4096)
    (hr : ρ.val = t.val / 2 * 768 + r.val) (hk : κ.val = t.val % 2 * 2048 + k.val) :
    (iblk m c 0 t : Vec Ideal S768x2048 .f32) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * r.val = ρ.val; rw [e0, hr]; omega
  | ⟨1, _⟩ => show win0_0.index t 1 * 2048 + 1 * k.val = κ.val; rw [e1, hk]; omega

theorem blk1 (c : Dev nD) (t : Fin cfg0.N) (r : Fin 512) (k : Fin 2048) (ρ : Fin 512) (κ : Fin 4096)
    (hr : ρ.val = r.val) (hk : κ.val = t.val % 2 * 2048 + k.val) :
    (iblk m c 1 t : Vec Ideal S2048x512 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 2048 + 1 * k.val = κ.val; rw [e0, hk]; omega
  | ⟨1, _⟩ => show win0_1.index t 1 * 512 + 1 * r.val = ρ.val; rw [e1, hr]; omega

theorem blk2 (c : Dev nD) (t : Fin cfg0.N) (y : S768x512.Idx) (i : S8448x512.Idx)
    (h0 : (i 0).val = t.val / 2 * 768 + (y 0).val) (h1 : (i 1).val = (y 1).val) :
    (iblk m c 2 t : Vec Ideal S768x512 .f32) y = arr2 m c i := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 768 + 1 * (y 0).val = (i 0).val; rw [e0, h0]; omega
  | ⟨1, _⟩ => show win0_2.index t 1 * 512 + 1 * (y 1).val = (i 1).val; rw [e1, h1]; omega

/-- A point's part: the product of its two blocks. -/
def part (c : Dev nD) (t : Fin cfg0.N) : Vec Ideal S768x512 .f32 := k0_pay1 (F := Ideal) (iblk m c 1 t) (iblk m c 0 t)

theorem part_apply (c : Dev nD) (t : Fin cfg0.N) (y : S768x512.Idx) (i : S8448x512.Idx) (s : ℕ) (hs : s < 2) (ht : t.val % 2 = s)
    (h0 : (i 0).val = t.val / 2 * 768 + (y 0).val) (h1 : (i 1).val = (y 1).val) :
    (part m c t y : EReal) = ∑ k : Fin 2048, term (arr0 m c) (arr1 m c) i ⟨s * 2048 + k.val, Tiles.tile_lt (J := 2) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a pair leaves its part in the scratch. -/
theorem scratch_A (c : Dev nD) (t : Fin cfg0.N) (h : t.val % 2 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S768x2048) hz, View.ld_unit_zero (S := S2048x512) hz, shapeCast_self]

/-- The second stores the scratch with its own part added, and the block of the third operand. -/
theorem stored_B (c : Dev nD) (n : ℕ) (hn : n + 1 < cfg0.N) (h : (n + 1) % 2 = 1) :
    (outsAt0 m c (n + 1) hn).1 = addf (F := Ideal) (φ := .f32)
      (addf (F := Ideal) (φ := .f32) (outsAt0 m c n (Nat.lt_of_succ_lt hn)).2 (part m c ⟨n + 1, hn⟩)) (iblk m c 2 ⟨n + 1, hn⟩) := by
  rw [outsAt0_B m c ⟨n + 1, hn⟩ (by dsimp only; omega) h h]
  dsimp only
  unfold out0_B_3
  rw [View.read_writes_eq_canon _ _ _ (fun _ => cover0_B_3 ..)]
  unfold kernelRun0_B
  dsimp only
  sl_unfold_words
  rw [View.canon_unit_zero hz, View.readCov_unit_zero (S := S768x512) _ hz]
  unfold k0_pay4 k0_pay3 part
  simp only [View.readAt_eq_ld, (hs0_0 _).read_unread, (hs0_1 _).read_unread, (hs0_2 _).read_unread, (Memref.isWhole_whole _).read_unread, View.ld_unit_zero (S := S768x2048) hz, View.ld_unit_zero (S := S2048x512) hz, View.ld_unit_zero (S := S768x512) hz, shapeCast_self]
  rfl

/-- The kernel's result: at every element the whole sum, and the third operand. -/
theorem result (c : Dev nD) (i : S8448x512.Idx) :
    (Value.G3 m c : S8448x512.Idx → EReal) i = (∑ κ, term (arr0 m c) (arr1 m c) i κ) + arr2 m c i := by
  have b0 : (i 0).val < 8448 := (i 0).isLt
  have b1 : (i 1).val < 512 := (i 1).isLt
  have hN : cfg0.N = 22 := N_0
  obtain ⟨q, hq⟩ : ∃ q, q = (i 0).val / 768 := ⟨_, rfl⟩
  have hp : Value.pt3Of i = 2 * q + 1 := by
    show 2 * (1 * ((i 0).val / 768 - 0) + 1 * ((i 1).val / 512 - 0)) + 1 = _
    omega
  have hlt : 2 * q + 1 < cfg0.N := by omega
  have h0 : ∀ s, s < 2 → (i 0).val = (2 * q + s) / 2 * 768 + (Value.loc3Of i 0).val := fun s hs => by
    show (i 0).val = (2 * q + s) / 2 * 768 + (i 0).val % 768
    omega
  have h1 : ∀ s, s < 2 → (i 1).val = (Value.loc3Of i 1).val := fun s hs => by
    show (i 1).val = (i 1).val % 512
    omega
  unfold Value.G3
  simp only [hp]
  rw [dif_pos hlt, ← Value.outsAt0_sweep m c _ hlt]
  refine (congrFun (stored_B m c (2 * q) hlt (by omega)) _).trans ?_
  refine congrArg₂ (· + ·) ?_ (blk2 m c ⟨2 * q + 1, hlt⟩ (Value.loc3Of i) i (h0 1 (by decide)) (h1 1 (by decide)))
  rw [← Tiles.sum_tiles (J := 2) (TK := 2048) (K := 4096) (by decide), Fin.sum_univ_two]
  refine congrArg₂ (· + ·) ?_ (part_apply m c ⟨2 * q + 1, hlt⟩ (Value.loc3Of i) i 1 (by decide) (by dsimp only; omega) (h0 1 (by decide)) (h1 1 (by decide)))
  exact (congrFun (scratch_A m c ⟨2 * q, by omega⟩ (by dsimp only; omega)) _).trans
    (part_apply m c ⟨2 * q, by omega⟩ (Value.loc3Of i) i 0 (by decide) (by dsimp only; omega) (h0 0 (by decide)) (h1 0 (by decide)))

end Cert.S5OutAIdeal.Prod

namespace Cert.S5OutARefIdeal.Prod

open Cert.S5OutARefIdeal Cert.S5OutARefIdeal.Gen Idealize.ShloMosaic Idealize.ShloMosaic.TcCoe Idealize.SL.Sem

/-- The reference's result: the same sum. -/
theorem result (x0 : S8448x4096.Idx → EReal) (x1 : S4096x512.Idx → EReal) (x2 : S8448x512.Idx → EReal) (i : S8448x512.Idx) :
    Read.val_main_v2 (F := Ideal) x0 x1 x2 i = (∑ κ : Fin 4096, x0 (ix2 (i 0) κ) * x1 (ix2 κ (i 1))) + x2 i := by
  rw [Read.val_main_v2_apply, Read.val_main_v1_apply]
  refine (add_comm _ _).trans (congrArg (· + x2 i) ?_)
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.S5OutARefIdeal.Prod

namespace Cert

open Idealize.ShloMosaic Idealize.ShloMosaic.TcCoe Idealize.SL.Sem

theorem algebraic_s5_out_add : Cert.algebraic_S5OutAIdeal_S5OutARefIdeal := by
  intro m g m' g' _ hm
  refine ⟨fun c => Cert.S5OutAIdeal.Value.G3 m c, Cert.S5OutAIdeal.Value.run m g, ?_⟩
  refine (θ_run Cert.S5OutARefIdeal.defs _ _).mono (fun r h c => ⟨(h c).1.trans ?_, (h c).2⟩) (Cert.S5OutARefIdeal.Value.run (F := Ideal) m' g')
  rw [(hm c).1, (hm c).2.1, (hm c).2.2]
  funext i
  exact (Cert.S5OutARefIdeal.Prod.result _ _ _ i).trans (Cert.S5OutAIdeal.Prod.result m c i).symm

end Cert

end
-- ==== Proof.S5OutB.lean ====
/- The gradient of the recurrence's states: the readout product's input gradient. -/
module

public import proofs.«01_k».proof.Defs
public import proofs.«01_k».proof.Proof.Gen.S5OutBIdeal.Value
public import proofs.«01_k».proof.Proof.Gen.S5OutBRefIdeal.Run
public import proofs.«01_k».proof.Proof.Gen.S5OutBRefIdeal.Read
public import Idealize.ShloMosaic.Lib.Pointwise
public import Idealize.ShloMosaic.Lib.Pipeline.ValueKit

@[expose] public section

set_option maxRecDepth 16384

noncomputable section

namespace Cert.S5OutBIdeal.Prod

open Cert.S5OutBIdeal Cert.S5OutBIdeal.Gen Idealize.ShloMosaic Idealize.ShloMosaic.TcCoe Idealize.SL.Sem
open Idealize.ShloMosaic.Pipeline (Dat)

theorem pay_apply (x0 : Vec Ideal S768x512 .bf16) (x1 : Vec Ideal S1024x512 .bf16) (j : S768x1024.Idx) :
    k0_pay1 x1 x0 j = ∑ k : Fin 512, x0 (ix2 (j 0) k) * x1 (ix2 (j 1) k) := by
  unfold k0_pay1
  pointwise

variable (m : (ℓ : Loc nD τ sig) → Buf (Elt Ideal) ℓ)

/-- The two operands, as arrays of extended reals. -/
abbrev arr0 (c : Dev nD) : S8448x512.Idx → EReal := m ((c : Thread nD τ).loc main_arg0)
abbrev arr1 (c : Dev nD) : S4096x512.Idx → EReal := m ((c : Thread nD τ).loc main_arg1)

/-- The whole result. -/
def G (x0 : S8448x512.Idx → EReal) (x1 : S4096x512.Idx → EReal) (i : S8448x4096.Idx) : EReal :=
  ∑ k : Fin 512, x0 (ix2 (i 0) k) * x1 (ix2 (i 1) k)

theorem idx0 : ∀ t : Fin cfg0.N, win0_0.index t (0 : Fin 2) = win0_2.index t (0 : Fin 2) ∧ win0_0.index t (1 : Fin 2) = 0 :=
  (by decide +kernel : ∀ t : Fin grid0.N, _)

theorem idx1 : ∀ t : Fin cfg0.N, win0_1.index t (0 : Fin 2) = win0_2.index t (1 : Fin 2) ∧ win0_1.index t (1 : Fin 2) = 0 :=
  (by decide +kernel : ∀ t : Fin grid0.N, _)

/-- Where a point's block of the result lies in it. -/
abbrev at2 (t : Fin cfg0.N) (y : S768x1024.Idx) : S8448x4096.Idx := ((View.whole main_v0).slice (win0_2.rect t)).emb y

theorem blk0 (c : Dev nD) (t : Fin cfg0.N) (y : S768x1024.Idx) (k : Fin 512) :
    (iblk m c 0 t : Vec Ideal S768x512 .bf16) (ix2 (y 0) k) = arr0 m c (ix2 (at2 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * (y 0).val = win0_2.index t 0 * 768 + 1 * (y 0).val; rw [e0]
  | ⟨1, _⟩ => show win0_0.index t 1 * 512 + 1 * k.val = k.val; rw [e1]; omega

theorem blk1 (c : Dev nD) (t : Fin cfg0.N) (y : S768x1024.Idx) (k : Fin 512) :
    (iblk m c 1 t : Vec Ideal S1024x512 .bf16) (ix2 (y 1) k) = arr1 m c (ix2 (at2 t y 1) k) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * (y 1).val = win0_2.index t 1 * 1024 + 1 * (y 1).val; rw [e0]
  | ⟨1, _⟩ => show win0_1.index t 1 * 512 + 1 * k.val = k.val; rw [e1]; omega

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.S5OutBIdeal.Prod

namespace Cert.S5OutBRefIdeal.Prod

open Cert.S5OutBRefIdeal Cert.S5OutBRefIdeal.Gen Idealize.ShloMosaic Idealize.ShloMosaic.TcCoe Idealize.SL.Sem
open Cert.S5OutBIdeal.Prod (G)

/-- The reference's result: the same sum. -/
theorem result (x0 : S8448x512.Idx → EReal) (x1 : S4096x512.Idx → EReal) (i : S8448x4096.Idx) :
    Read.val_main_v4 (F := Ideal) x0 x1 i = G x0 x1 i := by
  unfold G
  rw [Read.val_main_v4_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.S5OutBRefIdeal.Prod

namespace Cert

open Idealize.ShloMosaic Idealize.ShloMosaic.TcCoe Idealize.SL.Sem

theorem algebraic_s5_out_b : Cert.algebraic_S5OutBIdeal_S5OutBRefIdeal := by
  intro m g m' g' _ hm
  refine ⟨fun c => Cert.S5OutBIdeal.Prod.G (m ((c.tc).loc Cert.S5OutBIdeal.main_arg0)) (m ((c.tc).loc Cert.S5OutBIdeal.main_arg1)),
    (θ_run Cert.S5OutBIdeal.defs _ _).mono (fun r h c => ⟨(h c).1.trans (Cert.S5OutBIdeal.Prod.result m c), (h c).2⟩) (Cert.S5OutBIdeal.Value.run_blocks (F := Ideal) m g), ?_⟩
  refine (θ_run Cert.S5OutBRefIdeal.defs _ _).mono (fun r h c => ⟨(h c).1.trans ?_, (h c).2⟩) (Cert.S5OutBRefIdeal.Value.run (F := Ideal) m' g')
  rw [(hm c).1, (hm c).2]
  funext i
  exact Cert.S5OutBRefIdeal.Prod.result _ _ i

end Cert

end
-- ==== Proof.S5OutW.lean ====
/- The weight gradient of the readout product of the recurrence. -/
module

public import proofs.«01_k».proof.Proof.Tiles
public import proofs.«01_k».proof.Defs
public import proofs.«01_k».proof.Proof.Gen.S5OutWIdeal.Value
public import proofs.«01_k».proof.Proof.Gen.S5OutWRefIdeal.Run
public import proofs.«01_k».proof.Proof.Gen.S5OutWRefIdeal.Read
public import Idealize.ShloMosaic.Lib.Pointwise

@[expose] public section

set_option maxRecDepth 16384

noncomputable section

namespace Cert.S5OutWIdeal.Prod

open Cert.S5OutWIdeal Cert.S5OutWIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S1408x1024 .f32) (x1 : Vec Ideal S1408x512 .bf16) (j : S1024x512.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The products of the two arrays' columns `i 0` and `i 1`, row by row. -/
def term (x0 : S8448x4096.Idx → EReal) (x1 : S8448x512.Idx → EReal) (i : S4096x512.Idx) (κ : Fin 8448) : EReal :=
  x0 (ix2 κ (i 0)) * x1 (ix2 κ (i 1))

/-- The two operands, as arrays of extended reals. -/
abbrev arr0 (c : Dev nD) : S8448x4096.Idx → EReal := m ((c : Thread nD τ).loc main_arg0)
abbrev arr1 (c : Dev nD) : S8448x512.Idx → EReal := m ((c : Thread nD τ).loc main_arg1)

theorem idx0 : ∀ t : Fin cfg0.N, win0_0.index t (0 : Fin 2) = t.val % 6 ∧ win0_0.index t (1 : Fin 2) = t.val / 6 :=
  (by decide +kernel : ∀ t : Fin grid0.N, _)

theorem idx1 : ∀ t : Fin cfg0.N, win0_1.index t (0 : Fin 2) = t.val % 6 ∧ win0_1.index t (1 : Fin 2) = 0 :=
  (by decide +kernel : ∀ t : Fin grid0.N, _)

theorem blk0 (c : Dev nD) (t : Fin cfg0.N) (k : Fin 1408) (r : Fin 1024) (κ : Fin 8448) (ρ : Fin 4096)
    (hk : κ.val = t.val % 6 * 1408 + k.val) (hr : ρ.val = t.val / 6 * 1024 + r.val) :
    (iblk m c 0 t : Vec Ideal S1408x1024 .f32) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 1024 + 1 * r.val = ρ.val; rw [e1, hr]; omega

theorem blk1 (c : Dev nD) (t : Fin cfg0.N) (k : Fin 1408) (r : Fin 512) (κ : Fin 8448) (ρ : Fin 512)
    (hk : κ.val = t.val % 6 * 1408 + k.val) (hr : ρ.val = r.val) :
    (iblk m c 1 t : Vec Ideal S1408x512 .bf16) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 512 + 1 * r.val = ρ.val; rw [e1, hr]; omega

/-- A point's part: the product of its two blocks. -/
def part (c : Dev nD) (t : Fin cfg0.N) : Vec Ideal S1024x512 .f32 := k0_pay1 (F := Ideal) (iblk m c 1 t) (iblk m c 0 t)

theorem part_apply (c : Dev nD) (t : Fin cfg0.N) (y : S1024x512.Idx) (i : S4096x512.Idx) (s : ℕ) (hs : s < 6) (ht : t.val % 6 = s)
    (h0 : (i 0).val = t.val / 6 * 1024 + (y 0).val) (h1 : (i 1).val = (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (i 0) rfl h0) (blk1 m c t k (y 1) _ (i 1) rfl h1)

/-- The first point of a run leaves its part in the scratch. -/
theorem scratch_A (c : Dev nD) (t : Fin cfg0.N) (h : t.val % 6 = 0) : (outsAt0 m c t.val t.isLt).2 = part m c t := by
  have hN : cfg0.N = 24 := N_0
  have ht := t.isLt
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x1024) hz, View.ld_unit_zero (S := S1408x512) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x1024) hz, View.ld_unit_zero (S := S1408x512) hz, View.ld_unit_zero (S := S1024x512) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S1024x512) _ hz]
  unfold k0_pay3 part
  simp only [View.readAt_eq_ld, (hs0_0 _).read_unread, (hs0_1 _).read_unread, (Memref.isWhole_whole _).read_unread, View.ld_unit_zero (S := S1408x1024) hz, View.ld_unit_zero (S := S1408x512) hz, View.ld_unit_zero (S := S1024x512) hz, shapeCast_self]
  rfl

/-- The kernel's result: at every element the whole sum. -/
theorem result (c : Dev nD) (i : S4096x512.Idx) :
    (Value.G2 m c : S4096x512.Idx → EReal) i = ∑ κ, term (arr0 m c) (arr1 m c) i κ := by
  have b0 : (i 0).val < 4096 := (i 0).isLt
  have b1 : (i 1).val < 512 := (i 1).isLt
  have hN : cfg0.N = 24 := N_0
  have hp : Value.pt2Of i = 6 * ((i 0).val / 1024) + (6 - 1) := by
    show 6 * (1 * ((i 0).val / 1024 - 0) + 1 * ((i 1).val / 512 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (Value.loc2Of i)) (fun n h => (outsAt0 m c n h).1 (Value.loc2Of i))
    (fun n h => part m c ⟨n, h⟩ (Value.loc2Of i)) ((i 0).val / 1024) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (6 * ((i 0).val / 1024) + s.val) / 6 * 1024 + (i 0).val % 1024; omega)
      (by show (i 1).val = (i 1).val % 512; omega)

end Cert.S5OutWIdeal.Prod

namespace Cert.S5OutWRefIdeal.Prod

open Cert.S5OutWRefIdeal Cert.S5OutWRefIdeal.Gen Idealize.ShloMosaic Idealize.ShloMosaic.TcCoe Idealize.SL.Sem

/-- The reference's result: the same sum. -/
theorem result (x0 : S8448x4096.Idx → EReal) (x1 : S8448x512.Idx → EReal) (i : S4096x512.Idx) :
    Read.val_main_v4 (F := Ideal) x0 x1 i = ∑ κ : Fin 8448, x0 (ix2 κ (i 0)) * x1 (ix2 κ (i 1)) := by
  rw [Read.val_main_v4_apply, Read.val_main_v3_apply]
  refine Finset.sum_congr rfl fun κ _ => ?_
  rw [mul_comm]
  refine congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.S5OutWRefIdeal.Prod

namespace Cert

open Idealize.ShloMosaic Idealize.ShloMosaic.TcCoe Idealize.SL.Sem

theorem algebraic_s5_out_w : Cert.algebraic_S5OutWIdeal_S5OutWRefIdeal := by
  intro m g m' g' _ hm
  refine ⟨fun c => Cert.S5OutWIdeal.Value.G2 m c, Cert.S5OutWIdeal.Value.run m g, ?_⟩
  refine (θ_run Cert.S5OutWRefIdeal.defs _ _).mono (fun r h c => ⟨(h c).1.trans ?_, (h c).2⟩) (Cert.S5OutWRefIdeal.Value.run (F := Ideal) m' g')
  rw [(hm c).1, (hm c).2]
  funext i
  exact (Cert.S5OutWRefIdeal.Prod.result _ _ i).trans (Cert.S5OutWIdeal.Prod.result m c i).symm

end Cert

end
-- ==== Proof.S5InB.lean ====
/- The gradient of the channels that go into the recurrence: the product's input gradient, added to what comes back from elsewhere. -/
module

public import proofs.«01_k».proof.Proof.Tiles
public import proofs.«01_k».proof.Defs
public import proofs.«01_k».proof.Proof.Gen.S5InBIdeal.Value
public import proofs.«01_k».proof.Proof.Gen.S5InBRefIdeal.Run
public import proofs.«01_k».proof.Proof.Gen.S5InBRefIdeal.Read
public import Idealize.ShloMosaic.Lib.Pointwise

@[expose] public section

set_option maxRecDepth 16384

noncomputable section

namespace Cert.S5InBIdeal.Prod

open Cert.S5InBIdeal Cert.S5InBIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S768x2048 .f32) (x1 : Vec Ideal S512x2048 .bf16) (j : S768x512.Idx) :
    k0_pay1 x1 x0 j = ∑ k : Fin 2048, x0 (ix2 (j 0) k) * x1 (ix2 (j 1) k) := by
  unfold k0_pay1
  pointwise

variable (m : (ℓ : Loc nD τ sig) → Buf (Elt Ideal) ℓ)

/-- The products of the two arrays' rows `i 0` and `i 1`, column by column. -/
def term (x0 : S8448x4096.Idx → EReal) (x1 : S512x4096.Idx → EReal) (i : S8448x512.Idx) (κ : Fin 4096) : EReal :=
  x0 (ix2 (i 0) κ) * x1 (ix2 (i 1) κ)

/-- The three operands, as arrays of extended reals. -/
abbrev arr0 (c : Dev nD) : S8448x4096.Idx → EReal := m ((c : Thread nD τ).loc main_arg0)
abbrev arr1 (c : Dev nD) : S512x4096.Idx → EReal := m ((c : Thread nD τ).loc main_arg1)
abbrev arr2 (c : Dev nD) : S8448x512.Idx → EReal := m ((c : Thread nD τ).loc main_arg2)

theorem idx0 : ∀ t : Fin cfg0.N, win0_0.index t (0 : Fin 2) = t.val / 2 ∧ win0_0.index t (1 : Fin 2) = t.val % 2 :=
  (by decide +kernel : ∀ t : Fin grid0.N, _)

theorem idx1 : ∀ t : Fin cfg0.N, win0_1.index t (0 : Fin 2) = 0 ∧ win0_1.index t (1 : Fin 2) = t.val % 2 :=
  (by decide +kernel : ∀ t : Fin grid0.N, _)

theorem idx2 : ∀ t : Fin cfg0.N, win0_2.index t (0 : Fin 2) = t.val / 2 ∧ win0_2.index t (1 : Fin 2) = 0 :=
  (by decide +kernel : ∀ t : Fin grid0.N, _)

theorem blk0 (c : Dev nD) (t : Fin cfg0.N) (r : Fin 768) (k : Fin 2048) (ρ : Fin 8448) (κ : Fin 4096)
    (hr : ρ.val = t.val / 2 * 768 + r.val) (hk : κ.val = t.val % 2 * 2048 + k.val) :
    (iblk m c 0 t : Vec Ideal S768x2048 .f32) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 768 + 1 * r.val = ρ.val; rw [e0, hr]; omega
  | ⟨1, _⟩ => show win0_0.index t 1 * 2048 + 1 * k.val = κ.val; rw [e1, hk]; omega

theorem blk1 (c : Dev nD) (t : Fin cfg0.N) (r : Fin 512) (k : Fin 2048) (ρ : Fin 512) (κ : Fin 4096)
    (hr : ρ.val = r.val) (hk : κ.val = t.val % 2 * 2048 + k.val) :
    (iblk m c 1 t : Vec Ideal S512x2048 .bf16) (ix2 r k) = arr1 m c (ix2 ρ κ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 512 + 1 * r.val = ρ.val; rw [e0, hr]; omega
  | ⟨1, _⟩ => show win0_1.index t 1 * 2048 + 1 * k.val = κ.val; rw [e1, hk]; omega

theorem blk2 (c : Dev nD) (t : Fin cfg0.N) (y : S768x512.Idx) (i : S8448x512.Idx)
    (h0 : (i 0).val = t.val / 2 * 768 + (y 0).val) (h1 : (i 1).val = (y 1).val) :
    (iblk m c 2 t : Vec Ideal S768x512 .f32) y = arr2 m c i := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 768 + 1 * (y 0).val = (i 0).val; rw [e0, h0]; omega
  | ⟨1, _⟩ => show win0_2.index t 1 * 512 + 1 * (y 1).val = (i 1).val; rw [e1, h1]; omega

/-- A point's part: the product of its two blocks. -/
def part (c : Dev nD) (t : Fin cfg0.N) : Vec Ideal S768x512 .f32 := k0_pay1 (F := Ideal) (iblk m c 1 t) (iblk m c 0 t)

theorem part_apply (c : Dev nD) (t : Fin cfg0.N) (y : S768x512.Idx) (i : S8448x512.Idx) (s : ℕ) (hs : s < 2) (ht : t.val % 2 = s)
    (h0 : (i 0).val = t.val / 2 * 768 + (y 0).val) (h1 : (i 1).val = (y 1).val) :
    (part m c t y : EReal) = ∑ k : Fin 2048, term (arr0 m c) (arr1 m c) i ⟨s * 2048 + k.val, Tiles.tile_lt (J := 2) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a pair leaves its part in the scratch. -/
theorem scratch_A (c : Dev nD) (t : Fin cfg0.N) (h : t.val % 2 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S768x2048) hz, View.ld_unit_zero (S := S512x2048) hz, shapeCast_self]

/-- The second stores the scratch with its own part added, and the block of the third operand. -/
theorem stored_B (c : Dev nD) (n : ℕ) (hn : n + 1 < cfg0.N) (h : (n + 1) % 2 = 1) :
    (outsAt0 m c (n + 1) hn).1 = addf (F := Ideal) (φ := .f32)
      (addf (F := Ideal) (φ := .f32) (outsAt0 m c n (Nat.lt_of_succ_lt hn)).2 (part m c ⟨n + 1, hn⟩)) (iblk m c 2 ⟨n + 1, hn⟩) := by
  rw [outsAt0_B m c ⟨n + 1, hn⟩ (by dsimp only; omega) h h]
  dsimp only
  unfold out0_B_3
  rw [View.read_writes_eq_canon _ _ _ (fun _ => cover0_B_3 ..)]
  unfold kernelRun0_B
  dsimp only
  sl_unfold_words
  rw [View.canon_unit_zero hz, View.readCov_unit_zero (S := S768x512) _ hz]
  unfold k0_pay4 k0_pay3 part
  simp only [View.readAt_eq_ld, (hs0_0 _).read_unread, (hs0_1 _).read_unread, (hs0_2 _).read_unread, (Memref.isWhole_whole _).read_unread, View.ld_unit_zero (S := S768x2048) hz, View.ld_unit_zero (S := S512x2048) hz, View.ld_unit_zero (S := S768x512) hz, shapeCast_self]
  rfl

/-- The kernel's result: at every element the whole sum, and the third operand. -/
theorem result (c : Dev nD) (i : S8448x512.Idx) :
    (Value.G3 m c : S8448x512.Idx → EReal) i = (∑ κ, term (arr0 m c) (arr1 m c) i κ) + arr2 m c i := by
  have b0 : (i 0).val < 8448 := (i 0).isLt
  have b1 : (i 1).val < 512 := (i 1).isLt
  have hN : cfg0.N = 22 := N_0
  obtain ⟨q, hq⟩ : ∃ q, q = (i 0).val / 768 := ⟨_, rfl⟩
  have hp : Value.pt3Of i = 2 * q + 1 := by
    show 2 * (1 * ((i 0).val / 768 - 0) + 1 * ((i 1).val / 512 - 0)) + 1 = _
    omega
  have hlt : 2 * q + 1 < cfg0.N := by omega
  have h0 : ∀ s, s < 2 → (i 0).val = (2 * q + s) / 2 * 768 + (Value.loc3Of i 0).val := fun s hs => by
    show (i 0).val = (2 * q + s) / 2 * 768 + (i 0).val % 768
    omega
  have h1 : ∀ s, s < 2 → (i 1).val = (Value.loc3Of i 1).val := fun s hs => by
    show (i 1).val = (i 1).val % 512
    omega
  unfold Value.G3
  simp only [hp]
  rw [dif_pos hlt, ← Value.outsAt0_sweep m c _ hlt]
  refine (congrFun (stored_B m c (2 * q) hlt (by omega)) _).trans ?_
  refine congrArg₂ (· + ·) ?_ (blk2 m c ⟨2 * q + 1, hlt⟩ (Value.loc3Of i) i (h0 1 (by decide)) (h1 1 (by decide)))
  rw [← Tiles.sum_tiles (J := 2) (TK := 2048) (K := 4096) (by decide), Fin.sum_univ_two]
  refine congrArg₂ (· + ·) ?_ (part_apply m c ⟨2 * q + 1, hlt⟩ (Value.loc3Of i) i 1 (by decide) (by dsimp only; omega) (h0 1 (by decide)) (h1 1 (by decide)))
  exact (congrFun (scratch_A m c ⟨2 * q, by omega⟩ (by dsimp only; omega)) _).trans
    (part_apply m c ⟨2 * q, by omega⟩ (Value.loc3Of i) i 0 (by decide) (by dsimp only; omega) (h0 0 (by decide)) (h1 0 (by decide)))

end Cert.S5InBIdeal.Prod

namespace Cert.S5InBRefIdeal.Prod

open Cert.S5InBRefIdeal Cert.S5InBRefIdeal.Gen Idealize.ShloMosaic Idealize.ShloMosaic.TcCoe Idealize.SL.Sem

/-- The reference's result: the same sum. -/
theorem result (x0 : S8448x4096.Idx → EReal) (x1 : S512x4096.Idx → EReal) (x2 : S8448x512.Idx → EReal) (i : S8448x512.Idx) :
    Read.val_main_v4 (F := Ideal) x0 x1 x2 i = (∑ κ : Fin 4096, x0 (ix2 (i 0) κ) * x1 (ix2 (i 1) κ)) + x2 i := by
  rw [Read.val_main_v4_apply, Read.val_main_v3_apply]
  refine (add_comm _ _).trans (congrArg (· + x2 i) ?_)
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.S5InBRefIdeal.Prod

namespace Cert

open Idealize.ShloMosaic Idealize.ShloMosaic.TcCoe Idealize.SL.Sem

theorem algebraic_s5_in_b : Cert.algebraic_S5InBIdeal_S5InBRefIdeal := by
  intro m g m' g' _ hm
  refine ⟨fun c => Cert.S5InBIdeal.Value.G3 m c, Cert.S5InBIdeal.Value.run m g, ?_⟩
  refine (θ_run Cert.S5InBRefIdeal.defs _ _).mono (fun r h c => ⟨(h c).1.trans ?_, (h c).2⟩) (Cert.S5InBRefIdeal.Value.run (F := Ideal) m' g')
  rw [(hm c).1, (hm c).2.1, (hm c).2.2]
  funext i
  exact (Cert.S5InBRefIdeal.Prod.result _ _ _ i).trans (Cert.S5InBIdeal.Prod.result m c i).symm

end Cert

end
-- ==== Proof.S5InW.lean ====
/- The weight gradient of the product into the recurrence. -/
module

public import proofs.«01_k».proof.Proof.Tiles
public import proofs.«01_k».proof.Defs
public import proofs.«01_k».proof.Proof.Gen.S5InWIdeal.Value
public import proofs.«01_k».proof.Proof.Gen.S5InWRefIdeal.Run
public import proofs.«01_k».proof.Proof.Gen.S5InWRefIdeal.Read
public import Idealize.ShloMosaic.Lib.Pointwise

@[expose] public section

set_option maxRecDepth 16384

noncomputable section

namespace Cert.S5InWIdeal.Prod

open Cert.S5InWIdeal Cert.S5InWIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S1408x512 .f32) (x1 : Vec Ideal S1408x2048 .f32) (j : S512x2048.Idx) :
    k0_pay1 x1 x0 j = ∑ k : Fin 1408, x0 (ix2 k (j 0)) * x1 (ix2 k (j 1)) := by
  unfold k0_pay1
  pointwise

variable (m : (ℓ : Loc nD τ sig) → Buf (Elt Ideal) ℓ)

/-- The products of the two arrays' columns `i 0` and `i 1`, row by row. -/
def term (x0 : S8448x512.Idx → EReal) (x1 : S8448x4096.Idx → EReal) (i : S512x4096.Idx) (κ : Fin 8448) : EReal :=
  x0 (ix2 κ (i 0)) * x1 (ix2 κ (i 1))

/-- The two operands, as arrays of extended reals. -/
abbrev arr0 (c : Dev nD) : S8448x512.Idx → EReal := m ((c : Thread nD τ).loc main_arg0)
abbrev arr1 (c : Dev nD) : S8448x4096.Idx → EReal := m ((c : Thread nD τ).loc main_arg1)

theorem idx0 : ∀ t : Fin cfg0.N, win0_0.index t (0 : Fin 2) = t.val % 6 ∧ win0_0.index t (1 : Fin 2) = 0 :=
  (by decide +kernel : ∀ t : Fin grid0.N, _)

theorem idx1 : ∀ t : Fin cfg0.N, win0_1.index t (0 : Fin 2) = t.val % 6 ∧ win0_1.index t (1 : Fin 2) = t.val / 6 :=
  (by decide +kernel : ∀ t : Fin grid0.N, _)

theorem blk0 (c : Dev nD) (t : Fin cfg0.N) (k : Fin 1408) (r : Fin 512) (κ : Fin 8448) (ρ : Fin 512)
    (hk : κ.val = t.val % 6 * 1408 + k.val) (hr : ρ.val = r.val) :
    (iblk m c 0 t : Vec Ideal S1408x512 .f32) (ix2 k r) = arr0 m c (ix2 κ ρ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 1408 + 1 * k.val = κ.val; rw [e0, hk]; omega
  | ⟨1, _⟩ => show win0_0.index t 1 * 512 + 1 * r.val = ρ.val; rw [e1, hr]; omega

theorem blk1 (c : Dev nD) (t : Fin cfg0.N) (k : Fin 1408) (r : Fin 2048) (κ : Fin 8448) (ρ : Fin 4096)
    (hk : κ.val = t.val % 6 * 1408 + k.val) (hr : ρ.val = t.val / 6 * 2048 + r.val) :
    (iblk m c 1 t : Vec Ideal S1408x2048 .f32) (ix2 k r) = arr1 m c (ix2 κ ρ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1408 + 1 * k.val = κ.val; rw [e0, hk]; omega
  | ⟨1, _⟩ => show win0_1.index t 1 * 2048 + 1 * r.val = ρ.val; rw [e1, hr]; omega

/-- A point's part: the product of its two blocks. -/
def part (c : Dev nD) (t : Fin cfg0.N) : Vec Ideal S512x2048 .f32 := k0_pay1 (F := Ideal) (iblk m c 1 t) (iblk m c 0 t)

theorem part_apply (c : Dev nD) (t : Fin cfg0.N) (y : S512x2048.Idx) (i : S512x4096.Idx) (s : ℕ) (hs : s < 6) (ht : t.val % 6 = s)
    (h0 : (i 0).val = (y 0).val) (h1 : (i 1).val = t.val / 6 * 2048 + (y 1).val) :
    (part m c t y : EReal) = ∑ k : Fin 1408, term (arr0 m c) (arr1 m c) i ⟨s * 1408 + k.val, Tiles.tile_lt (J := 6) (by decide) hs k.isLt⟩ := by
  unfold part
  rw [pay_apply]
  subst ht
  exact Finset.sum_congr rfl fun k _ => congrArg₂ (· * ·) (blk0 m c t k (y 0) _ (i 0) rfl h0) (blk1 m c t k (y 1) _ (i 1) rfl h1)

/-- The first point of a run leaves its part in the scratch. -/
theorem scratch_A (c : Dev nD) (t : Fin cfg0.N) (h : t.val % 6 = 0) : (outsAt0 m c t.val t.isLt).2 = part m c t := by
  have hN : cfg0.N = 12 := N_0
  have ht := t.isLt
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S1408x512) hz, View.ld_unit_zero (S := S1408x2048) hz, shapeCast_self]

/-- A point between adds its part to it. -/
theorem scratch_B (c : Dev nD) (n : ℕ) (hn : n + 1 < cfg0.N) (h : (n + 1) % 6 ≠ 0) (h5 : (n + 1) % 6 ≠ 6 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S1408x512) hz, View.ld_unit_zero (S := S1408x2048) hz, View.ld_unit_zero (S := S512x2048) hz, shapeCast_self]
  rfl

/-- The last point of a run stores the scratch with its own part added. -/
theorem stored_C (c : Dev nD) (n : ℕ) (hn : n + 1 < cfg0.N) (h5 : (n + 1) % 6 = 6 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S512x2048) _ hz]
  unfold k0_pay3 part
  simp only [View.readAt_eq_ld, (hs0_0 _).read_unread, (hs0_1 _).read_unread, (Memref.isWhole_whole _).read_unread, View.ld_unit_zero (S := S1408x512) hz, View.ld_unit_zero (S := S1408x2048) hz, View.ld_unit_zero (S := S512x2048) hz, shapeCast_self]
  rfl

/-- The kernel's result: at every element the whole sum. -/
theorem result (c : Dev nD) (i : S512x4096.Idx) :
    (Value.G2 m c : S512x4096.Idx → EReal) i = ∑ κ, term (arr0 m c) (arr1 m c) i κ := by
  have b0 : (i 0).val < 512 := (i 0).isLt
  have b1 : (i 1).val < 4096 := (i 1).isLt
  have hN : cfg0.N = 12 := N_0
  have hp : Value.pt2Of i = 6 * ((i 1).val / 2048) + (6 - 1) := by
    show 6 * (2 * ((i 0).val / 512 - 0) + 1 * ((i 1).val / 2048 - 0)) + 5 = _
    omega
  have hlt : Value.pt2Of i < cfg0.N := by omega
  unfold Value.G2
  rw [dif_pos hlt, ← Value.outsAt0_sweep m c _ hlt]
  refine Tiles.run_last_tiles (J := 6) (TK := 1408) (by decide) (by decide)
    (fun n h => (outsAt0 m c n h).2 (Value.loc2Of i)) (fun n h => (outsAt0 m c n h).1 (Value.loc2Of i))
    (fun n h => part m c ⟨n, h⟩ (Value.loc2Of i)) ((i 1).val / 2048) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (i 0).val % 512; omega)
      (by show (i 1).val = (6 * ((i 1).val / 2048) + s.val) / 6 * 2048 + (i 1).val % 2048; omega)

end Cert.S5InWIdeal.Prod

namespace Cert.S5InWRefIdeal.Prod

open Cert.S5InWRefIdeal Cert.S5InWRefIdeal.Gen Idealize.ShloMosaic Idealize.ShloMosaic.TcCoe Idealize.SL.Sem

/-- The reference's result: the same sum. -/
theorem result (x0 : S8448x512.Idx → EReal) (x1 : S8448x4096.Idx → EReal) (i : S512x4096.Idx) :
    Read.val_main_v3 (F := Ideal) x0 x1 i = ∑ κ : Fin 8448, x0 (ix2 κ (i 0)) * x1 (ix2 κ (i 1)) := by
  rw [Read.val_main_v3_apply, Read.val_main_v2_apply]
  refine Finset.sum_congr rfl fun κ _ => ?_
  rw [mul_comm]
  refine congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.S5InWRefIdeal.Prod

namespace Cert

open Idealize.ShloMosaic Idealize.ShloMosaic.TcCoe Idealize.SL.Sem

theorem algebraic_s5_in_w : Cert.algebraic_S5InWIdeal_S5InWRefIdeal := by
  intro m g m' g' _ hm
  refine ⟨fun c => Cert.S5InWIdeal.Value.G2 m c, Cert.S5InWIdeal.Value.run m g, ?_⟩
  refine (θ_run Cert.S5InWRefIdeal.defs _ _).mono (fun r h c => ⟨(h c).1.trans ?_, (h c).2⟩) (Cert.S5InWRefIdeal.Value.run (F := Ideal) m' g')
  rw [(hm c).1, (hm c).2]
  funext i
  exact (Cert.S5InWRefIdeal.Prod.result _ _ i).trans (Cert.S5InWIdeal.Prod.result m c i).symm

end Cert

end
-- ==== Proof.ConvF.lean ====
/- The convolution branch: a gate, a depthwise convolution along the rows, a layer norm and SiLU. -/
module

public import proofs.«01_k».proof.Defs
public import proofs.«01_k».proof.Proof.Gen.ConvFIdeal.Value
public import proofs.«01_k».proof.Proof.Gen.ConvFRefIdeal.Run
public import proofs.«01_k».proof.Proof.Gen.ConvFRefIdeal.Read
public import Idealize.ShloMosaic.Lib.Pointwise
public import Idealize.ShloMosaic.Lib.Pipeline.ValueKit

@[expose] public section

set_option maxRecDepth 16384

noncomputable section

namespace Cert.ConvF

open Idealize.ShloMosaic

/-- The gated rows: one half of the columns times the logistic of the other. -/
def glu {n : ℕ} (z : (⟨2, ![n, 1024]⟩ : Shape).Idx → EReal) (r : Fin n) (j : Fin 512) : EReal :=
  z (ix2 r ⟨j.val, by omega⟩) * Ideal.logistic (z (ix2 r ⟨512 + j.val, by omega⟩))

/-- The row that tap `k` of row `ρ` reads: fifteen before it for the first tap. Rows outside the array, and rows of the
    other of the two streams (the first 8192 rows and the rest), read as zero. -/
def tap (z : (⟨2, ![8448, 1024]⟩ : Shape).Idx → EReal) (ρ : Fin 8448) (k : Fin 31) (j : Fin 512) : EReal :=
  if h : 15 ≤ ρ.val + k.val ∧ ρ.val + k.val - 15 < 8448 ∧ (ρ.val + k.val - 15 < 8192 ↔ ρ.val < 8192) then
    glu z ⟨ρ.val + k.val - 15, h.2.1⟩ j else 0

theorem tap_pos (z : (⟨2, ![8448, 1024]⟩ : Shape).Idx → EReal) (ρ : Fin 8448) (k : Fin 31) (j : Fin 512) (q : Fin 8448)
    (hq : q.val + 15 = ρ.val + k.val) (hs : q.val < 8192 ↔ ρ.val < 8192) : tap z ρ k j = glu z q j := by
  have e : ρ.val + k.val - 15 = q.val := by omega
  unfold tap
  rw [dif_pos ⟨by omega, by have h := q.isLt; omega, by rw [e]; exact hs⟩]
  exact congrArg (fun r => glu z r j) (Fin.ext e)

theorem tap_neg (z : (⟨2, ![8448, 1024]⟩ : Shape).Idx → EReal) (ρ : Fin 8448) (k : Fin 31) (j : Fin 512)
    (h : ¬(15 ≤ ρ.val + k.val ∧ ρ.val + k.val - 15 < 8448 ∧ (ρ.val + k.val - 15 < 8192 ↔ ρ.val < 8192))) : tap z ρ k j = 0 := by
  unfold tap
  rw [dif_neg h]

/-- The sum of the first `n` of 31 terms on top of `a`, one after another. -/
def upto (f : Fin 31 → EReal) : (n : ℕ) → n ≤ 31 → EReal → EReal
  | 0, _, a => a
  | n + 1, h, a => upto f n (Nat.le_of_succ_le h) a + f ⟨n, h⟩

theorem upto_add (f : Fin 31 → EReal) (a b : EReal) : (n : ℕ) → (h : n ≤ 31) → upto f n h (a + b) = upto f n h a + b
  | 0, _ => rfl
  | n + 1, h => by
    show upto f n _ (a + b) + f ⟨n, h⟩ = upto f n _ a + f ⟨n, h⟩ + b
    rw [upto_add f a b n, add_right_comm]

/-- The convolution at a row, with its bias. -/
def line (z : (⟨2, ![8448, 1024]⟩ : Shape).Idx → EReal) (w : (⟨2, ![31, 512]⟩ : Shape).Idx → EReal) (b : (⟨2, ![1, 512]⟩ : Shape).Idx → EReal)
    (ρ : Fin 8448) (j : Fin 512) : EReal := upto (fun k => w (ix2 k j) * tap z ρ k j) 31 (by decide) 0 + b (ix2 0 j)

section Row

variable (v : Fin 512 → EReal)

/-- A row with its mean taken off. -/
def centre (j : Fin 512) : EReal := v j - Ideal.div (∑ x, v x) (Ideal.ofBits .f32 0x44000000#32)

/-- The variance, kept off zero. -/
def spread : EReal := Ideal.div (∑ x, centre v x * centre v x) (Ideal.ofBits .f32 0x44000000#32) + Ideal.ofBits .f32 0x358637BD#32

def hat (j : Fin 512) : EReal := centre v j * Ideal.rsqrt (spread v)

variable (g b : (⟨2, ![1, 512]⟩ : Shape).Idx → EReal)

def norm (j : Fin 512) : EReal := hat v j * g (ix2 0 j) + b (ix2 0 j)

/-- SiLU of the normed row. -/
def swish (j : Fin 512) : EReal := norm v g b j * Ideal.logistic (norm v g b j)

end Row

end Cert.ConvF

namespace Cert.ConvFIdeal.Prod

open Cert.ConvFIdeal Cert.ConvFIdeal.Gen Idealize.ShloMosaic Idealize.ShloMosaic.TcCoe Idealize.SL.Sem
open Cert.ConvF

section Pay

theorem pay_glu (z : Vec Ideal S256x1024 .f32) (r : Fin 256) (j : Fin 512) : k0_pay2 (F := Ideal) z (ix2 r j) = glu (n := 256) z r j := by
  unfold k0_pay2 glu
  pointwise

variable (y : FVec Ideal S288x512 .f32) (w : Vec Ideal S31x512 .f32) (b g s : Vec Ideal S1x512 .f32)

/-- The terms of the sum at a row of the tile, read from the rows with their neighbours. -/
def term (r : Fin 256) (j : Fin 512) (k : Fin 31) : EReal :=
  w (ix2 k j) * y (ix2 ⟨1 + k.val + r.val, by omega⟩ j)

theorem pay_two (i : grid0.Coords) (z : Vec Ideal S256x1024 .f32) (p q : Vec Ideal S16x1024 .f32) (r : Fin 256) (j : Fin 512) :
    k0_pay4 (F := Ideal) i z p q w b (ix2 r j) = upto (term (k0_pay3 (F := Ideal) i z p q) w r j) 2 (by decide) (0 + b (ix2 0 j)) := by
  unfold k0_pay4
  generalize k0_pay3 (F := Ideal) i z p q = y
  pointwise
  rfl

theorem pay_14 (v : FVec Ideal S256x512 .f32) (a : EReal) (r : Fin 256) (j : Fin 512) (hv : v (ix2 r j) = upto (term y w r j) 2 (by decide) a) :
    k0_pay6 (F := Ideal) y w v (k0_pay5 w) (ix2 r j) = upto (term y w r j) 14 (by decide) a := by
  unfold k0_pay6 k0_pay5
  pointwise
  rw [hv]
  rfl

theorem pay_26 (v : FVec Ideal S256x512 .f32) (a : EReal) (r : Fin 256) (j : Fin 512) (hv : v (ix2 r j) = upto (term y w r j) 14 (by decide) a) :
    k0_pay8 (F := Ideal) y w v (k0_pay7 w) (ix2 r j) = upto (term y w r j) 26 (by decide) a := by
  unfold k0_pay8 k0_pay7
  pointwise
  rw [hv]
  rfl

theorem pay_31 (v : FVec Ideal S256x512 .f32) (a : EReal) (r : Fin 256) (j : Fin 512) (hv : v (ix2 r j) = upto (term y w r j) 26 (by decide) a) :
    k0_pay10 (F := Ideal) y w v (k0_pay9 w) (ix2 r j) = upto (term y w r j) 31 (by decide) a := by
  unfold k0_pay10 k0_pay9
  pointwise
  rw [hv]
  rfl

theorem pay_hat (v : FVec Ideal S256x512 .f32) (u : FVec Ideal S1x512 .f32) (r : Fin 256) (j : Fin 512) :
    k0_pay11 (F := Ideal) y w v u (ix2 r j) = hat (fun x => k0_pay10 (F := Ideal) y w v u (ix2 r x)) j := by
  unfold k0_pay11
  generalize k0_pay10 (F := Ideal) y w v u = f
  pointwise
  rfl

theorem pay_swish (v : FVec Ideal S256x512 .f32) (u : FVec Ideal S1x512 .f32) (r : Fin 256) (j : Fin 512) :
    k0_pay1 (F := Ideal) s (k0_pay11 y w v u) (k0_pay12 g) (ix2 r j) = swish (fun x => k0_pay10 (F := Ideal) y w v u (ix2 r x)) g s j := by
  unfold k0_pay1 k0_pay12
  pointwise
  rw [pay_hat]
  rfl

end Pay

variable (m : (ℓ : Loc nD τ sig) → Buf (Elt Ideal) ℓ)

/-- The row of the array that a point's row is. -/
def row (t : Fin cfg0.N) (r : Fin 256) : Fin 8448 :=
  ⟨t.val * 256 + r.val, by have h : t.val < 33 := lt_of_lt_of_eq t.isLt N_0; omega⟩

/-- The operands, as arrays of extended reals. -/
abbrev arr0 (c : Dev nD) : S8448x1024.Idx → EReal := m ((c : Thread nD τ).loc main_arg0)
abbrev arr1 (c : Dev nD) : S31x512.Idx → EReal := m ((c : Thread nD τ).loc main_arg1)
abbrev arr2 (c : Dev nD) : S1x512.Idx → EReal := m ((c : Thread nD τ).loc main_arg2)
abbrev arr3 (c : Dev nD) : S1x512.Idx → EReal := m ((c : Thread nD τ).loc main_arg3)
abbrev arr4 (c : Dev nD) : S1x512.Idx → EReal := m ((c : Thread nD τ).loc main_arg4)

theorem idx0 : ∀ t : Fin cfg0.N, win0_0.index t (0 : Fin 2) = t.val * 16 - 1 ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = min (t.val * 16 + 16) 527 ∧ win0_2.index t (1 : Fin 2) = 0 :=
  (by decide +kernel : ∀ t : Fin grid0.N, _)

theorem blk0 (c : Dev nD) (t : Fin cfg0.N) (r : Fin 16) (j : Fin 1024) (q : Fin 8448) (hq : q.val = (t.val * 16 - 1) * 16 + r.val) :
    (iblk m c 0 t : Vec Ideal S16x1024 .f32) (ix2 r j) = arr0 m c (ix2 q j) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 16 + 1 * r.val = q.val; rw [e0, hq]; omega
  | ⟨1, _⟩ => show win0_0.index t 1 * 1024 + 1 * j.val = j.val; rw [e1]; omega

theorem blk1 (c : Dev nD) (t : Fin cfg0.N) (r : Fin 256) (j : Fin 1024) :
    (iblk m c 1 t : Vec Ideal S256x1024 .f32) (ix2 r j) = arr0 m c (ix2 (row t r) j) := by
  obtain ⟨e0, e1⟩ := idx1 t
  unfold iblk
  rw [View.read_apply]
  show V m c main_arg0 _ = m (c.tc.loc main_arg0) _
  unfold V
  congr 1
  funext a
  apply Fin.ext
  match a with
  | ⟨0, _⟩ => show win0_1.index t 0 * 256 + 1 * r.val = t.val * 256 + r.val; rw [e0]; omega
  | ⟨1, _⟩ => show win0_1.index t 1 * 1024 + 1 * j.val = j.val; rw [e1]; omega

theorem blk2 (c : Dev nD) (t : Fin cfg0.N) (r : Fin 16) (j : Fin 1024) (q : Fin 8448) (hq : q.val = min (t.val * 16 + 16) 527 * 16 + r.val) :
    (iblk m c 2 t : Vec Ideal S16x1024 .f32) (ix2 r j) = arr0 m c (ix2 q j) := by
  obtain ⟨e0, e1⟩ := idx2 t
  unfold iblk
  rw [View.read_apply]
  show V m c main_arg0 _ = m (c.tc.loc main_arg0) _
  unfold V
  congr 1
  funext a
  apply Fin.ext
  match a with
  | ⟨0, _⟩ => show win0_2.index t 0 * 16 + 1 * r.val = q.val; rw [e0, hq]; omega
  | ⟨1, _⟩ => show win0_2.index t 1 * 1024 + 1 * j.val = j.val; rw [e1]; omega

theorem idx3 : ∀ t : Fin cfg0.N, win0_3.index t (0 : Fin 2) = 0 ∧ win0_3.index t (1 : Fin 2) = 0 :=
  (by decide +kernel : ∀ t : Fin grid0.N, _)

theorem blk3 (c : Dev nD) (t : Fin cfg0.N) : (iblk m c 3 t : Vec Ideal S31x512 .f32) = arr1 m c := by
  obtain ⟨e0, e1⟩ := idx3 t
  funext i
  unfold iblk
  rw [View.read_apply]
  show V m c main_arg1 _ = m (c.tc.loc main_arg1) _
  unfold V
  congr 1
  funext a
  apply Fin.ext
  match a with
  | ⟨0, _⟩ => show win0_3.index t 0 * 31 + 1 * (i 0).val = (i 0).val; rw [e0]; omega
  | ⟨1, _⟩ => show win0_3.index t 1 * 512 + 1 * (i 1).val = (i 1).val; rw [e1]; omega

theorem idx4 : ∀ t : Fin cfg0.N, win0_4.index t (0 : Fin 2) = 0 ∧ win0_4.index t (1 : Fin 2) = 0 :=
  (by decide +kernel : ∀ t : Fin grid0.N, _)

theorem blk4 (c : Dev nD) (t : Fin cfg0.N) : (iblk m c 4 t : Vec Ideal S1x512 .f32) = arr2 m c := by
  obtain ⟨e0, e1⟩ := idx4 t
  funext i
  unfold iblk
  rw [View.read_apply]
  show V m c main_arg2 _ = m (c.tc.loc main_arg2) _
  unfold V
  congr 1
  funext a
  apply Fin.ext
  match a with
  | ⟨0, _⟩ => show win0_4.index t 0 * 1 + 1 * (i 0).val = (i 0).val; rw [e0]; omega
  | ⟨1, _⟩ => show win0_4.index t 1 * 512 + 1 * (i 1).val = (i 1).val; rw [e1]; omega

theorem idx5 : ∀ t : Fin cfg0.N, win0_5.index t (0 : Fin 2) = 0 ∧ win0_5.index t (1 : Fin 2) = 0 :=
  (by decide +kernel : ∀ t : Fin grid0.N, _)

theorem blk5 (c : Dev nD) (t : Fin cfg0.N) : (iblk m c 5 t : Vec Ideal S1x512 .f32) = arr3 m c := by
  obtain ⟨e0, e1⟩ := idx5 t
  funext i
  unfold iblk
  rw [View.read_apply]
  show V m c main_arg3 _ = m (c.tc.loc main_arg3) _
  unfold V
  congr 1
  funext a
  apply Fin.ext
  match a with
  | ⟨0, _⟩ => show win0_5.index t 0 * 1 + 1 * (i 0).val = (i 0).val; rw [e0]; omega
  | ⟨1, _⟩ => show win0_5.index t 1 * 512 + 1 * (i 1).val = (i 1).val; rw [e1]; omega

theorem idx6 : ∀ t : Fin cfg0.N, win0_6.index t (0 : Fin 2) = 0 ∧ win0_6.index t (1 : Fin 2) = 0 :=
  (by decide +kernel : ∀ t : Fin grid0.N, _)

theorem blk6 (c : Dev nD) (t : Fin cfg0.N) : (iblk m c 6 t : Vec Ideal S1x512 .f32) = arr4 m c := by
  obtain ⟨e0, e1⟩ := idx6 t
  funext i
  unfold iblk
  rw [View.read_apply]
  show V m c main_arg4 _ = m (c.tc.loc main_arg4) _
  unfold V
  congr 1
  funext a
  apply Fin.ext
  match a with
  | ⟨0, _⟩ => show win0_6.index t 0 * 1 + 1 * (i 0).val = (i 0).val; rw [e0]; omega
  | ⟨1, _⟩ => show win0_6.index t 1 * 512 + 1 * (i 1).val = (i 1).val; rw [e1]; omega

theorem idx7 : ∀ t : Fin cfg0.N, win0_7.index t (0 : Fin 2) = t.val ∧ win0_7.index t (1 : Fin 2) = 0 :=
  (by decide +kernel : ∀ t : Fin grid0.N, _)

theorem idx8 : ∀ t : Fin cfg0.N, win0_8.index t (0 : Fin 2) = t.val ∧ win0_8.index t (1 : Fin 2) = 0 :=
  (by decide +kernel : ∀ t : Fin grid0.N, _)

theorem idx9 : ∀ t : Fin cfg0.N, win0_9.index t (0 : Fin 2) = t.val ∧ win0_9.index t (1 : Fin 2) = 0 :=
  (by decide +kernel : ∀ t : Fin grid0.N, _)

/-- Whether the tile before a point's is of its stream: it is not for the first tile of either stream. -/
def before (t : Fin cfg0.N) : BitVec 1 :=
  Scalar.andi (Scalar.cmpi .ne (BitVec.ofNat 32 ((grid0.coords t) 0).val) 0#32) (Scalar.cmpi .ne (BitVec.ofNat 32 ((grid0.coords t) 0).val) 32#32)

/-- Whether the tile after it is: it is not for the last tile of either. -/
def behind (t : Fin cfg0.N) : BitVec 1 :=
  Scalar.andi (Scalar.cmpi .ne (BitVec.ofNat 32 ((grid0.coords t) 0).val) 31#32) (Scalar.cmpi .ne (BitVec.ofNat 32 ((grid0.coords t) 0).val) 32#32)

theorem before_eq : ∀ t : Fin cfg0.N, before t = if t.val = 0 ∨ t.val = 32 then 0#1 else 1#1 :=
  (by decide +kernel : ∀ t : Fin grid0.N, _)

theorem behind_eq : ∀ t : Fin cfg0.N, behind t = if t.val = 31 ∨ t.val = 32 then 0#1 else 1#1 :=
  (by decide +kernel : ∀ t : Fin grid0.N, _)

/-- A point's rows with sixteen on either side. -/
def around (c : Dev nD) (t : Fin cfg0.N) : FVec Ideal S288x512 .f32 :=
  k0_pay3 (F := Ideal) (grid0.coords t) (iblk m c 1 t) (iblk m c 0 t) (iblk m c 2 t)

theorem select_zero {α : Type} (a b : α) : Scalar.select 0#1 a b = b := rfl

theorem select_one {α : Type} (a b : α) : Scalar.select 1#1 a b = a := rfl

theorem around_apply (c : Dev nD) (t : Fin cfg0.N) (s : Fin 288) (j : Fin 512) :
    around m c t (ix2 s j) =
      if h : s.val < 16 then Scalar.select (before t) (glu (n := 16) (iblk m c 0 t) ⟨s.val, h⟩ j) 0
      else if h' : s.val - 16 < 256 then glu (n := 256) (iblk m c 1 t) ⟨s.val - 16, h'⟩ j
      else Scalar.select (behind t) (glu (n := 16) (iblk m c 2 t) ⟨s.val - 16 - 256, by omega⟩ j) 0 := by
  unfold around k0_pay3
  pointwise
  simp only [pay_glu]
  rfl

/-- A row of these is what a tap of a row reads. -/
theorem around_tap (c : Dev nD) (t : Fin cfg0.N) (r : Fin 256) (k : Fin 31) (j : Fin 512) (s : Fin 288) (hs : s.val = 1 + k.val + r.val) :
    around m c t (ix2 s j) = tap (arr0 m c) (row t r) k j := by
  have hN : t.val < 33 := lt_of_lt_of_eq t.isLt N_0
  have hk := k.isLt
  have hr' := r.isLt
  have hr : (row t r).val = t.val * 256 + r.val := rfl
  rw [around_apply]
  by_cases h : s.val < 16
  · rw [dif_pos h, before_eq t]
    by_cases ht : t.val = 0 ∨ t.val = 32
    · rw [if_pos ht, select_zero, tap_neg _ _ _ _ (by rw [hr]; omega)]
    · rw [if_neg ht, select_one]
      have hq : (t.val * 16 - 1) * 16 + s.val < 8448 := by omega
      rw [tap_pos _ _ _ _ ⟨(t.val * 16 - 1) * 16 + s.val, hq⟩ (by show (t.val * 16 - 1) * 16 + s.val + 15 = _; rw [hr]; omega)
        (by show (t.val * 16 - 1) * 16 + s.val < 8192 ↔ _; rw [hr]; omega)]
      exact congrArg₂ (fun x y => x * Ideal.logistic y) (blk0 m c t _ _ _ rfl) (blk0 m c t _ _ _ rfl)
  · rw [dif_neg h]
    by_cases h' : s.val - 16 < 256
    · rw [dif_pos h']
      rw [tap_pos _ _ _ _ (row t ⟨s.val - 16, h'⟩) (by show t.val * 256 + (s.val - 16) + 15 = _; rw [hr]; omega)
        (by show t.val * 256 + (s.val - 16) < 8192 ↔ _; rw [hr]; omega)]
      exact congrArg₂ (fun x y => x * Ideal.logistic y) (blk1 m c t _ _) (blk1 m c t _ _)
    · rw [dif_neg h', behind_eq t]
      by_cases ht : t.val = 31 ∨ t.val = 32
      · rw [if_pos ht, select_zero, tap_neg _ _ _ _ (by rw [hr]; omega)]
      · rw [if_neg ht, select_one]
        have hq : min (t.val * 16 + 16) 527 * 16 + (s.val - 16 - 256) < 8448 := by omega
        rw [tap_pos _ _ _ _ ⟨min (t.val * 16 + 16) 527 * 16 + (s.val - 16 - 256), hq⟩
          (by show min (t.val * 16 + 16) 527 * 16 + (s.val - 16 - 256) + 15 = _; rw [hr]; omega)
          (by show min (t.val * 16 + 16) 527 * 16 + (s.val - 16 - 256) < 8192 ↔ _; rw [hr]; omega)]
        exact congrArg₂ (fun x y => x * Ideal.logistic y) (blk2 m c t _ _ _ rfl) (blk2 m c t _ _ _ rfl)

/-- The three results over the arrays. -/
def GLine (c : Dev nD) (i : S8448x512.Idx) : EReal := line (arr0 m c) (arr1 m c) (arr2 m c) (i 0) (i 1)

def GGlu (c : Dev nD) (i : S8448x512.Idx) : EReal := glu (arr0 m c) (i 0) (i 1)

def GOut (c : Dev nD) (i : S8448x512.Idx) : EReal :=
  swish (fun x => line (arr0 m c) (arr1 m c) (arr2 m c) (i 0) x) (arr3 m c) (arr4 m c) (i 1)

/-- What the tile at a point stores: the sum after its first taps, and at the end. -/
def partAt (c : Dev nD) (t : Fin cfg0.N) : FVec Ideal S256x512 .f32 :=
  k0_pay8 (F := Ideal) (around m c t) (iblk m c 3 t)
    (k0_pay6 (around m c t) (iblk m c 3 t) (k0_pay4 (grid0.coords t) (iblk m c 1 t) (iblk m c 0 t) (iblk m c 2 t) (iblk m c 3 t) (iblk m c 4 t))
      (k0_pay5 (iblk m c 3 t))) (k0_pay7 (iblk m c 3 t))

def lineAt (c : Dev nD) (t : Fin cfg0.N) : Vec Ideal S256x512 .f32 :=
  k0_pay10 (F := Ideal) (around m c t) (iblk m c 3 t) (partAt m c t) (k0_pay9 (iblk m c 3 t))

def gluAt (c : Dev nD) (t : Fin cfg0.N) : Vec Ideal S256x512 .f32 := k0_pay2 (F := Ideal) (iblk m c 1 t)

def outAt (c : Dev nD) (t : Fin cfg0.N) : Vec Ideal S256x512 .bf16 :=
  k0_pay1 (F := Ideal) (iblk m c 6 t) (k0_pay11 (around m c t) (iblk m c 3 t) (partAt m c t) (k0_pay9 (iblk m c 3 t))) (k0_pay12 (iblk m c 5 t))

theorem line_at (c : Dev nD) (t : Fin cfg0.N) (r : Fin 256) (j : Fin 512) :
    (lineAt m c t (ix2 r j) : EReal) = line (arr0 m c) (arr1 m c) (arr2 m c) (row t r) j := by
  refine (pay_31 _ _ _ _ r j (pay_26 _ _ _ _ r j (pay_14 _ _ _ _ r j (pay_two _ _ _ _ _ _ r j)))).trans ?_
  rw [upto_add, blk4]
  unfold line
  refine congrArg (· + _) (congrArg (fun f => upto f 31 _ 0) (funext fun k => ?_))
  unfold term
  rw [blk3]
  exact congrArg (_ * ·) (around_tap m c t r k j _ rfl)

theorem lineAt_apply (c : Dev nD) (t : Fin cfg0.N) (y : S256x512.Idx) :
    (lineAt m c t y : EReal) = line (arr0 m c) (arr1 m c) (arr2 m c) (row t (y 0)) (y 1) :=
  (congrArg (lineAt m c t) (ValueIdx.eq_ix2 y)).trans (line_at m c t (y 0) (y 1))

theorem gluAt_apply (c : Dev nD) (t : Fin cfg0.N) (y : S256x512.Idx) : (gluAt m c t y : EReal) = glu (arr0 m c) (row t (y 0)) (y 1) :=
  (congrArg (gluAt m c t) (ValueIdx.eq_ix2 y)).trans ((pay_glu _ (y 0) (y 1)).trans
    (congrArg₂ (fun x y => x * Ideal.logistic y) (blk1 m c t _ _) (blk1 m c t _ _)))

theorem outAt_apply (c : Dev nD) (t : Fin cfg0.N) (y : S256x512.Idx) :
    (outAt m c t y : EReal) = swish (fun x => line (arr0 m c) (arr1 m c) (arr2 m c) (row t (y 0)) x) (arr3 m c) (arr4 m c) (y 1) := by
  refine (congrArg (outAt m c t) (ValueIdx.eq_ix2 y)).trans ((pay_swish _ _ _ _ _ _ (y 0) (y 1)).trans ?_)
  rw [blk5, blk6]
  exact congrArg (fun v => swish v (arr3 m c) (arr4 m c) (y 1)) (funext fun x => line_at m c t (y 0) x)

theorem ld0 (X : S256x1024.Idx → Elt Ideal .f32) : View.ld (Val := Elt Ideal) (e' := .f32) X r0_0 = X :=
  View.ld_unit_lit _ X (fun a => match a with | ⟨0, _⟩ => rfl | ⟨1, _⟩ => rfl)

theorem ld1 (X : S16x1024.Idx → Elt Ideal .f32) : View.ld (Val := Elt Ideal) (e' := .f32) X r0_1 = X :=
  View.ld_unit_lit _ X (fun a => match a with | ⟨0, _⟩ => rfl | ⟨1, _⟩ => rfl)

theorem ld2 (X : S31x512.Idx → Elt Ideal .f32) : View.ld (Val := Elt Ideal) (e' := .f32) X r0_2 = X :=
  View.ld_unit_lit _ X (fun a => match a with | ⟨0, _⟩ => rfl | ⟨1, _⟩ => rfl)

theorem ld3 (X : S1x512.Idx → Elt Ideal .f32) : View.ld (Val := Elt Ideal) (e' := .f32) X r0_3 = X :=
  View.ld_unit_lit _ X (fun a => match a with | ⟨0, _⟩ => rfl | ⟨1, _⟩ => rfl)

theorem after7 (c : Dev nD) (t : Fin cfg0.N) : (dats m 0 c).after 7 t = outAt m c t := by
  rw [after0_7]
  frame_out
  unfold k0_pay14 k0_pay15 k0_pay13
  rw [ld0, ld1, ld1, ld2, ld3]
  rfl

theorem result7 (c : Dev nD) : (dats m 0 c).arrAt 7 cfg0.N = GOut m c := by
  refine (dats m 0 c).arrAt_eq_of_covers 7 _ (by decide +kernel) fun t hf y => ?_
  blk_simp
  rw [after7]
  obtain ⟨e0, e1⟩ := idx7 t
  refine (outAt_apply m c t y).trans ?_
  exact congrArg₂ (fun r j => swish (fun x => line (arr0 m c) (arr1 m c) (arr2 m c) r x) (arr3 m c) (arr4 m c) j) (Fin.ext (by show t.val * 256 + (y 0).val = win0_7.index t 0 * 256 + 1 * (y 0).val; rw [e0]; omega))
    (Fin.ext (by show (y 1).val = win0_7.index t 1 * 512 + 1 * (y 1).val; rw [e1]; omega))

theorem after8 (c : Dev nD) (t : Fin cfg0.N) : (dats m 0 c).after 8 t = gluAt m c t := by
  rw [after0_8]
  frame_out
  rfl

theorem result8 (c : Dev nD) : (dats m 0 c).arrAt 8 cfg0.N = GGlu m c := by
  refine (dats m 0 c).arrAt_eq_of_covers 8 _ (by decide +kernel) fun t hf y => ?_
  blk_simp
  rw [after8]
  obtain ⟨e0, e1⟩ := idx8 t
  refine (gluAt_apply m c t y).trans ?_
  exact congrArg₂ (fun r j => glu (arr0 m c) r j) (Fin.ext (by show t.val * 256 + (y 0).val = win0_8.index t 0 * 256 + 1 * (y 0).val; rw [e0]; omega))
    (Fin.ext (by show (y 1).val = win0_8.index t 1 * 512 + 1 * (y 1).val; rw [e1]; omega))

theorem after9 (c : Dev nD) (t : Fin cfg0.N) : (dats m 0 c).after 9 t = lineAt m c t := by
  rw [after0_9]
  frame_out
  unfold k0_pay14 k0_pay15 k0_pay13
  rw [ld0, ld1, ld1, ld2, ld3]
  rfl

theorem result9 (c : Dev nD) : (dats m 0 c).arrAt 9 cfg0.N = GLine m c := by
  refine (dats m 0 c).arrAt_eq_of_covers 9 _ (by decide +kernel) fun t hf y => ?_
  blk_simp
  rw [after9]
  obtain ⟨e0, e1⟩ := idx9 t
  refine (lineAt_apply m c t y).trans ?_
  exact congrArg₂ (fun r j => line (arr0 m c) (arr1 m c) (arr2 m c) r j) (Fin.ext (by show t.val * 256 + (y 0).val = win0_9.index t 0 * 256 + 1 * (y 0).val; rw [e0]; omega))
    (Fin.ext (by show (y 1).val = win0_9.index t 1 * 512 + 1 * (y 1).val; rw [e1]; omega))

end Cert.ConvFIdeal.Prod

namespace Cert.ConvFRefIdeal.Prod

open Cert.ConvFRefIdeal Cert.ConvFRefIdeal.Gen Idealize.ShloMosaic Idealize.ShloMosaic.TcCoe Idealize.SL.Sem
open Cert.ConvF

variable (x0 : S8448x1024.Idx → EReal) (x1 : S31x512.Idx → EReal) (x2 x3 x4 : S1x512.Idx → EReal)

/-- The gated rows with zeros about either stream, at tap `k` of a row. -/
def padded (s : Fin 8463) (k : Fin 31) (c : Fin 512) : EReal :=
  Read.val_main_v21 (F := Ideal) x0 (ix2 ⟨k.val + s.val, by omega⟩ c)

theorem zero (s : Fin 8463) (c : Fin 512) : Read.val_main_v28 (F := Ideal) (ix2 s c) = (0 : EReal) := by
  unfold Read.val_main_v28 Read.val_main_cst_4
  pointwise

theorem tap0 (s : Fin 8463) (c : Fin 512) :
    Read.val_main_v27 (F := Ideal) x0 x1 (ix2 s c) = padded x0 s 0 c * x1 (ix2 0 c) := by
  unfold Read.val_main_v27 Read.val_main_v26 Read.val_main_v25 Read.val_main_v24 Read.val_main_v23 Read.val_main_v22 padded
  pointwise

theorem sum0 (s : Fin 8463) (c : Fin 512) :
    Read.val_main_v29 (F := Ideal) x0 x1 (ix2 s c) = upto (fun k => padded x0 s k c * x1 (ix2 k c)) 1 (by decide) 0 :=
  congrArg₂ (· + ·) (zero s c) (tap0 x0 x1 s c)

theorem tap1 (s : Fin 8463) (c : Fin 512) :
    Read.val_main_v35 (F := Ideal) x0 x1 (ix2 s c) = padded x0 s 1 c * x1 (ix2 1 c) := by
  unfold Read.val_main_v35 Read.val_main_v34 Read.val_main_v33 Read.val_main_v32 Read.val_main_v31 Read.val_main_v30 padded
  pointwise

theorem sum1 (s : Fin 8463) (c : Fin 512) :
    Read.val_main_v36 (F := Ideal) x0 x1 (ix2 s c) = upto (fun k => padded x0 s k c * x1 (ix2 k c)) 2 (by decide) 0 :=
  congrArg₂ (· + ·) (sum0 x0 x1 s c) (tap1 x0 x1 s c)

theorem tap2 (s : Fin 8463) (c : Fin 512) :
    Read.val_main_v42 (F := Ideal) x0 x1 (ix2 s c) = padded x0 s 2 c * x1 (ix2 2 c) := by
  unfold Read.val_main_v42 Read.val_main_v41 Read.val_main_v40 Read.val_main_v39 Read.val_main_v38 Read.val_main_v37 padded
  pointwise

theorem sum2 (s : Fin 8463) (c : Fin 512) :
    Read.val_main_v43 (F := Ideal) x0 x1 (ix2 s c) = upto (fun k => padded x0 s k c * x1 (ix2 k c)) 3 (by decide) 0 :=
  congrArg₂ (· + ·) (sum1 x0 x1 s c) (tap2 x0 x1 s c)

theorem tap3 (s : Fin 8463) (c : Fin 512) :
    Read.val_main_v49 (F := Ideal) x0 x1 (ix2 s c) = padded x0 s 3 c * x1 (ix2 3 c) := by
  unfold Read.val_main_v49 Read.val_main_v48 Read.val_main_v47 Read.val_main_v46 Read.val_main_v45 Read.val_main_v44 padded
  pointwise

theorem sum3 (s : Fin 8463) (c : Fin 512) :
    Read.val_main_v50 (F := Ideal) x0 x1 (ix2 s c) = upto (fun k => padded x0 s k c * x1 (ix2 k c)) 4 (by decide) 0 :=
  congrArg₂ (· + ·) (sum2 x0 x1 s c) (tap3 x0 x1 s c)

theorem tap4 (s : Fin 8463) (c : Fin 512) :
    Read.val_main_v56 (F := Ideal) x0 x1 (ix2 s c) = padded x0 s 4 c * x1 (ix2 4 c) := by
  unfold Read.val_main_v56 Read.val_main_v55 Read.val_main_v54 Read.val_main_v53 Read.val_main_v52 Read.val_main_v51 padded
  pointwise

theorem sum4 (s : Fin 8463) (c : Fin 512) :
    Read.val_main_v57 (F := Ideal) x0 x1 (ix2 s c) = upto (fun k => padded x0 s k c * x1 (ix2 k c)) 5 (by decide) 0 :=
  congrArg₂ (· + ·) (sum3 x0 x1 s c) (tap4 x0 x1 s c)

theorem tap5 (s : Fin 8463) (c : Fin 512) :
    Read.val_main_v63 (F := Ideal) x0 x1 (ix2 s c) = padded x0 s 5 c * x1 (ix2 5 c) := by
  unfold Read.val_main_v63 Read.val_main_v62 Read.val_main_v61 Read.val_main_v60 Read.val_main_v59 Read.val_main_v58 padded
  pointwise

theorem sum5 (s : Fin 8463) (c : Fin 512) :
    Read.val_main_v64 (F := Ideal) x0 x1 (ix2 s c) = upto (fun k => padded x0 s k c * x1 (ix2 k c)) 6 (by decide) 0 :=
  congrArg₂ (· + ·) (sum4 x0 x1 s c) (tap5 x0 x1 s c)

theorem tap6 (s : Fin 8463) (c : Fin 512) :
    Read.val_main_v70 (F := Ideal) x0 x1 (ix2 s c) = padded x0 s 6 c * x1 (ix2 6 c) := by
  unfold Read.val_main_v70 Read.val_main_v69 Read.val_main_v68 Read.val_main_v67 Read.val_main_v66 Read.val_main_v65 padded
  pointwise

theorem sum6 (s : Fin 8463) (c : Fin 512) :
    Read.val_main_v71 (F := Ideal) x0 x1 (ix2 s c) = upto (fun k => padded x0 s k c * x1 (ix2 k c)) 7 (by decide) 0 :=
  congrArg₂ (· + ·) (sum5 x0 x1 s c) (tap6 x0 x1 s c)

theorem tap7 (s : Fin 8463) (c : Fin 512) :
    Read.val_main_v77 (F := Ideal) x0 x1 (ix2 s c) = padded x0 s 7 c * x1 (ix2 7 c) := by
  unfold Read.val_main_v77 Read.val_main_v76 Read.val_main_v75 Read.val_main_v74 Read.val_main_v73 Read.val_main_v72 padded
  pointwise

theorem sum7 (s : Fin 8463) (c : Fin 512) :
    Read.val_main_v78 (F := Ideal) x0 x1 (ix2 s c) = upto (fun k => padded x0 s k c * x1 (ix2 k c)) 8 (by decide) 0 :=
  congrArg₂ (· + ·) (sum6 x0 x1 s c) (tap7 x0 x1 s c)

theorem tap8 (s : Fin 8463) (c : Fin 512) :
    Read.val_main_v84 (F := Ideal) x0 x1 (ix2 s c) = padded x0 s 8 c * x1 (ix2 8 c) := by
  unfold Read.val_main_v84 Read.val_main_v83 Read.val_main_v82 Read.val_main_v81 Read.val_main_v80 Read.val_main_v79 padded
  pointwise

theorem sum8 (s : Fin 8463) (c : Fin 512) :
    Read.val_main_v85 (F := Ideal) x0 x1 (ix2 s c) = upto (fun k => padded x0 s k c * x1 (ix2 k c)) 9 (by decide) 0 :=
  congrArg₂ (· + ·) (sum7 x0 x1 s c) (tap8 x0 x1 s c)

theorem tap9 (s : Fin 8463) (c : Fin 512) :
    Read.val_main_v91 (F := Ideal) x0 x1 (ix2 s c) = padded x0 s 9 c * x1 (ix2 9 c) := by
  unfold Read.val_main_v91 Read.val_main_v90 Read.val_main_v89 Read.val_main_v88 Read.val_main_v87 Read.val_main_v86 padded
  pointwise

theorem sum9 (s : Fin 8463) (c : Fin 512) :
    Read.val_main_v92 (F := Ideal) x0 x1 (ix2 s c) = upto (fun k => padded x0 s k c * x1 (ix2 k c)) 10 (by decide) 0 :=
  congrArg₂ (· + ·) (sum8 x0 x1 s c) (tap9 x0 x1 s c)

theorem tap10 (s : Fin 8463) (c : Fin 512) :
    Read.val_main_v98 (F := Ideal) x0 x1 (ix2 s c) = padded x0 s 10 c * x1 (ix2 10 c) := by
  unfold Read.val_main_v98 Read.val_main_v97 Read.val_main_v96 Read.val_main_v95 Read.val_main_v94 Read.val_main_v93 padded
  pointwise

theorem sum10 (s : Fin 8463) (c : Fin 512) :
    Read.val_main_v99 (F := Ideal) x0 x1 (ix2 s c) = upto (fun k => padded x0 s k c * x1 (ix2 k c)) 11 (by decide) 0 :=
  congrArg₂ (· + ·) (sum9 x0 x1 s c) (tap10 x0 x1 s c)

theorem tap11 (s : Fin 8463) (c : Fin 512) :
    Read.val_main_v105 (F := Ideal) x0 x1 (ix2 s c) = padded x0 s 11 c * x1 (ix2 11 c) := by
  unfold Read.val_main_v105 Read.val_main_v104 Read.val_main_v103 Read.val_main_v102 Read.val_main_v101 Read.val_main_v100 padded
  pointwise

theorem sum11 (s : Fin 8463) (c : Fin 512) :
    Read.val_main_v106 (F := Ideal) x0 x1 (ix2 s c) = upto (fun k => padded x0 s k c * x1 (ix2 k c)) 12 (by decide) 0 :=
  congrArg₂ (· + ·) (sum10 x0 x1 s c) (tap11 x0 x1 s c)

theorem tap12 (s : Fin 8463) (c : Fin 512) :
    Read.val_main_v112 (F := Ideal) x0 x1 (ix2 s c) = padded x0 s 12 c * x1 (ix2 12 c) := by
  unfold Read.val_main_v112 Read.val_main_v111 Read.val_main_v110 Read.val_main_v109 Read.val_main_v108 Read.val_main_v107 padded
  pointwise

theorem sum12 (s : Fin 8463) (c : Fin 512) :
    Read.val_main_v113 (F := Ideal) x0 x1 (ix2 s c) = upto (fun k => padded x0 s k c * x1 (ix2 k c)) 13 (by decide) 0 :=
  congrArg₂ (· + ·) (sum11 x0 x1 s c) (tap12 x0 x1 s c)

theorem tap13 (s : Fin 8463) (c : Fin 512) :
    Read.val_main_v119 (F := Ideal) x0 x1 (ix2 s c) = padded x0 s 13 c * x1 (ix2 13 c) := by
  unfold Read.val_main_v119 Read.val_main_v118 Read.val_main_v117 Read.val_main_v116 Read.val_main_v115 Read.val_main_v114 padded
  pointwise

theorem sum13 (s : Fin 8463) (c : Fin 512) :
    Read.val_main_v120 (F := Ideal) x0 x1 (ix2 s c) = upto (fun k => padded x0 s k c * x1 (ix2 k c)) 14 (by decide) 0 :=
  congrArg₂ (· + ·) (sum12 x0 x1 s c) (tap13 x0 x1 s c)

theorem tap14 (s : Fin 8463) (c : Fin 512) :
    Read.val_main_v126 (F := Ideal) x0 x1 (ix2 s c) = padded x0 s 14 c * x1 (ix2 14 c) := by
  unfold Read.val_main_v126 Read.val_main_v125 Read.val_main_v124 Read.val_main_v123 Read.val_main_v122 Read.val_main_v121 padded
  pointwise

theorem sum14 (s : Fin 8463) (c : Fin 512) :
    Read.val_main_v127 (F := Ideal) x0 x1 (ix2 s c) = upto (fun k => padded x0 s k c * x1 (ix2 k c)) 15 (by decide) 0 :=
  congrArg₂ (· + ·) (sum13 x0 x1 s c) (tap14 x0 x1 s c)

theorem tap15 (s : Fin 8463) (c : Fin 512) :
    Read.val_main_v133 (F := Ideal) x0 x1 (ix2 s c) = padded x0 s 15 c * x1 (ix2 15 c) := by
  unfold Read.val_main_v133 Read.val_main_v132 Read.val_main_v131 Read.val_main_v130 Read.val_main_v129 Read.val_main_v128 padded
  pointwise

theorem sum15 (s : Fin 8463) (c : Fin 512) :
    Read.val_main_v134 (F := Ideal) x0 x1 (ix2 s c) = upto (fun k => padded x0 s k c * x1 (ix2 k c)) 16 (by decide) 0 :=
  congrArg₂ (· + ·) (sum14 x0 x1 s c) (tap15 x0 x1 s c)

theorem tap16 (s : Fin 8463) (c : Fin 512) :
    Read.val_main_v140 (F := Ideal) x0 x1 (ix2 s c) = padded x0 s 16 c * x1 (ix2 16 c) := by
  unfold Read.val_main_v140 Read.val_main_v139 Read.val_main_v138 Read.val_main_v137 Read.val_main_v136 Read.val_main_v135 padded
  pointwise

theorem sum16 (s : Fin 8463) (c : Fin 512) :
    Read.val_main_v141 (F := Ideal) x0 x1 (ix2 s c) = upto (fun k => padded x0 s k c * x1 (ix2 k c)) 17 (by decide) 0 :=
  congrArg₂ (· + ·) (sum15 x0 x1 s c) (tap16 x0 x1 s c)

theorem tap17 (s : Fin 8463) (c : Fin 512) :
    Read.val_main_v147 (F := Ideal) x0 x1 (ix2 s c) = padded x0 s 17 c * x1 (ix2 17 c) := by
  unfold Read.val_main_v147 Read.val_main_v146 Read.val_main_v145 Read.val_main_v144 Read.val_main_v143 Read.val_main_v142 padded
  pointwise

theorem sum17 (s : Fin 8463) (c : Fin 512) :
    Read.val_main_v148 (F := Ideal) x0 x1 (ix2 s c) = upto (fun k => padded x0 s k c * x1 (ix2 k c)) 18 (by decide) 0 :=
  congrArg₂ (· + ·) (sum16 x0 x1 s c) (tap17 x0 x1 s c)

theorem tap18 (s : Fin 8463) (c : Fin 512) :
    Read.val_main_v154 (F := Ideal) x0 x1 (ix2 s c) = padded x0 s 18 c * x1 (ix2 18 c) := by
  unfold Read.val_main_v154 Read.val_main_v153 Read.val_main_v152 Read.val_main_v151 Read.val_main_v150 Read.val_main_v149 padded
  pointwise

theorem sum18 (s : Fin 8463) (c : Fin 512) :
    Read.val_main_v155 (F := Ideal) x0 x1 (ix2 s c) = upto (fun k => padded x0 s k c * x1 (ix2 k c)) 19 (by decide) 0 :=
  congrArg₂ (· + ·) (sum17 x0 x1 s c) (tap18 x0 x1 s c)

theorem tap19 (s : Fin 8463) (c : Fin 512) :
    Read.val_main_v161 (F := Ideal) x0 x1 (ix2 s c) = padded x0 s 19 c * x1 (ix2 19 c) := by
  unfold Read.val_main_v161 Read.val_main_v160 Read.val_main_v159 Read.val_main_v158 Read.val_main_v157 Read.val_main_v156 padded
  pointwise

theorem sum19 (s : Fin 8463) (c : Fin 512) :
    Read.val_main_v162 (F := Ideal) x0 x1 (ix2 s c) = upto (fun k => padded x0 s k c * x1 (ix2 k c)) 20 (by decide) 0 :=
  congrArg₂ (· + ·) (sum18 x0 x1 s c) (tap19 x0 x1 s c)

theorem tap20 (s : Fin 8463) (c : Fin 512) :
    Read.val_main_v168 (F := Ideal) x0 x1 (ix2 s c) = padded x0 s 20 c * x1 (ix2 20 c) := by
  unfold Read.val_main_v168 Read.val_main_v167 Read.val_main_v166 Read.val_main_v165 Read.val_main_v164 Read.val_main_v163 padded
  pointwise

theorem sum20 (s : Fin 8463) (c : Fin 512) :
    Read.val_main_v169 (F := Ideal) x0 x1 (ix2 s c) = upto (fun k => padded x0 s k c * x1 (ix2 k c)) 21 (by decide) 0 :=
  congrArg₂ (· + ·) (sum19 x0 x1 s c) (tap20 x0 x1 s c)

theorem tap21 (s : Fin 8463) (c : Fin 512) :
    Read.val_main_v175 (F := Ideal) x0 x1 (ix2 s c) = padded x0 s 21 c * x1 (ix2 21 c) := by
  unfold Read.val_main_v175 Read.val_main_v174 Read.val_main_v173 Read.val_main_v172 Read.val_main_v171 Read.val_main_v170 padded
  pointwise

theorem sum21 (s : Fin 8463) (c : Fin 512) :
    Read.val_main_v176 (F := Ideal) x0 x1 (ix2 s c) = upto (fun k => padded x0 s k c * x1 (ix2 k c)) 22 (by decide) 0 :=
  congrArg₂ (· + ·) (sum20 x0 x1 s c) (tap21 x0 x1 s c)

theorem tap22 (s : Fin 8463) (c : Fin 512) :
    Read.val_main_v182 (F := Ideal) x0 x1 (ix2 s c) = padded x0 s 22 c * x1 (ix2 22 c) := by
  unfold Read.val_main_v182 Read.val_main_v181 Read.val_main_v180 Read.val_main_v179 Read.val_main_v178 Read.val_main_v177 padded
  pointwise

theorem sum22 (s : Fin 8463) (c : Fin 512) :
    Read.val_main_v183 (F := Ideal) x0 x1 (ix2 s c) = upto (fun k => padded x0 s k c * x1 (ix2 k c)) 23 (by decide) 0 :=
  congrArg₂ (· + ·) (sum21 x0 x1 s c) (tap22 x0 x1 s c)

theorem tap23 (s : Fin 8463) (c : Fin 512) :
    Read.val_main_v189 (F := Ideal) x0 x1 (ix2 s c) = padded x0 s 23 c * x1 (ix2 23 c) := by
  unfold Read.val_main_v189 Read.val_main_v188 Read.val_main_v187 Read.val_main_v186 Read.val_main_v185 Read.val_main_v184 padded
  pointwise

theorem sum23 (s : Fin 8463) (c : Fin 512) :
    Read.val_main_v190 (F := Ideal) x0 x1 (ix2 s c) = upto (fun k => padded x0 s k c * x1 (ix2 k c)) 24 (by decide) 0 :=
  congrArg₂ (· + ·) (sum22 x0 x1 s c) (tap23 x0 x1 s c)

theorem tap24 (s : Fin 8463) (c : Fin 512) :
    Read.val_main_v196 (F := Ideal) x0 x1 (ix2 s c) = padded x0 s 24 c * x1 (ix2 24 c) := by
  unfold Read.val_main_v196 Read.val_main_v195 Read.val_main_v194 Read.val_main_v193 Read.val_main_v192 Read.val_main_v191 padded
  pointwise

theorem sum24 (s : Fin 8463) (c : Fin 512) :
    Read.val_main_v197 (F := Ideal) x0 x1 (ix2 s c) = upto (fun k => padded x0 s k c * x1 (ix2 k c)) 25 (by decide) 0 :=
  congrArg₂ (· + ·) (sum23 x0 x1 s c) (tap24 x0 x1 s c)

theorem tap25 (s : Fin 8463) (c : Fin 512) :
    Read.val_main_v203 (F := Ideal) x0 x1 (ix2 s c) = padded x0 s 25 c * x1 (ix2 25 c) := by
  unfold Read.val_main_v203 Read.val_main_v202 Read.val_main_v201 Read.val_main_v200 Read.val_main_v199 Read.val_main_v198 padded
  pointwise

theorem sum25 (s : Fin 8463) (c : Fin 512) :
    Read.val_main_v204 (F := Ideal) x0 x1 (ix2 s c) = upto (fun k => padded x0 s k c * x1 (ix2 k c)) 26 (by decide) 0 :=
  congrArg₂ (· + ·) (sum24 x0 x1 s c) (tap25 x0 x1 s c)

theorem tap26 (s : Fin 8463) (c : Fin 512) :
    Read.val_main_v210 (F := Ideal) x0 x1 (ix2 s c) = padded x0 s 26 c * x1 (ix2 26 c) := by
  unfold Read.val_main_v210 Read.val_main_v209 Read.val_main_v208 Read.val_main_v207 Read.val_main_v206 Read.val_main_v205 padded
  pointwise

theorem sum26 (s : Fin 8463) (c : Fin 512) :
    Read.val_main_v211 (F := Ideal) x0 x1 (ix2 s c) = upto (fun k => padded x0 s k c * x1 (ix2 k c)) 27 (by decide) 0 :=
  congrArg₂ (· + ·) (sum25 x0 x1 s c) (tap26 x0 x1 s c)

theorem tap27 (s : Fin 8463) (c : Fin 512) :
    Read.val_main_v217 (F := Ideal) x0 x1 (ix2 s c) = padded x0 s 27 c * x1 (ix2 27 c) := by
  unfold Read.val_main_v217 Read.val_main_v216 Read.val_main_v215 Read.val_main_v214 Read.val_main_v213 Read.val_main_v212 padded
  pointwise

theorem sum27 (s : Fin 8463) (c : Fin 512) :
    Read.val_main_v218 (F := Ideal) x0 x1 (ix2 s c) = upto (fun k => padded x0 s k c * x1 (ix2 k c)) 28 (by decide) 0 :=
  congrArg₂ (· + ·) (sum26 x0 x1 s c) (tap27 x0 x1 s c)

theorem tap28 (s : Fin 8463) (c : Fin 512) :
    Read.val_main_v224 (F := Ideal) x0 x1 (ix2 s c) = padded x0 s 28 c * x1 (ix2 28 c) := by
  unfold Read.val_main_v224 Read.val_main_v223 Read.val_main_v222 Read.val_main_v221 Read.val_main_v220 Read.val_main_v219 padded
  pointwise

theorem sum28 (s : Fin 8463) (c : Fin 512) :
    Read.val_main_v225 (F := Ideal) x0 x1 (ix2 s c) = upto (fun k => padded x0 s k c * x1 (ix2 k c)) 29 (by decide) 0 :=
  congrArg₂ (· + ·) (sum27 x0 x1 s c) (tap28 x0 x1 s c)

theorem tap29 (s : Fin 8463) (c : Fin 512) :
    Read.val_main_v231 (F := Ideal) x0 x1 (ix2 s c) = padded x0 s 29 c * x1 (ix2 29 c) := by
  unfold Read.val_main_v231 Read.val_main_v230 Read.val_main_v229 Read.val_main_v228 Read.val_main_v227 Read.val_main_v226 padded
  pointwise

theorem sum29 (s : Fin 8463) (c : Fin 512) :
    Read.val_main_v232 (F := Ideal) x0 x1 (ix2 s c) = upto (fun k => padded x0 s k c * x1 (ix2 k c)) 30 (by decide) 0 :=
  congrArg₂ (· + ·) (sum28 x0 x1 s c) (tap29 x0 x1 s c)

theorem tap30 (s : Fin 8463) (c : Fin 512) :
    Read.val_main_v238 (F := Ideal) x0 x1 (ix2 s c) = padded x0 s 30 c * x1 (ix2 30 c) := by
  unfold Read.val_main_v238 Read.val_main_v237 Read.val_main_v236 Read.val_main_v235 Read.val_main_v234 Read.val_main_v233 padded
  pointwise

theorem sum30 (s : Fin 8463) (c : Fin 512) :
    Read.val_main_v239 (F := Ideal) x0 x1 (ix2 s c) = upto (fun k => padded x0 s k c * x1 (ix2 k c)) 31 (by decide) 0 :=
  congrArg₂ (· + ·) (sum29 x0 x1 s c) (tap30 x0 x1 s c)

theorem edge (p : Fin 15) (j : Fin 512) : Read.val_main_v18 (F := Ideal) (ix2 p j) = (0 : EReal) := by
  unfold Read.val_main_v18 Read.val_main_cst_3
  pointwise

theorem gated (ρ : Fin 8448) (j : Fin 512) : Read.val_main_v17 (F := Ideal) x0 (ix2 ρ j) = glu x0 ρ j := by
  unfold Read.val_main_v17 Read.val_main_v16 Read.val_main_v15 Read.val_main_cst_2 Read.val_main_v14 Read.val_main_v13 Read.val_main_cst_1 Read.val_main_v12 Read.val_main_v11 Read.val_main_v10 Read.val_main_v9 glu Ideal.logistic
  pointwise

theorem first_rows (p : Fin 8192) (j : Fin 512) : Read.val_main_v19 (F := Ideal) x0 (ix2 p j) = glu x0 ⟨p.val, by omega⟩ j := by
  unfold Read.val_main_v19
  pointwise
  exact gated x0 _ j

theorem last_rows (p : Fin 256) (j : Fin 512) : Read.val_main_v20 (F := Ideal) x0 (ix2 p j) = glu x0 ⟨8192 + p.val, by omega⟩ j := by
  unfold Read.val_main_v20
  pointwise
  exact gated x0 _ j

/-- The padded rows: a tap of a row reads what the statement says. -/
theorem padded_tap (ρ : Fin 8448) (k : Fin 31) (j : Fin 512) (s : Fin 8463) (hs : s.val = if ρ.val < 8192 then ρ.val else ρ.val + 15) :
    padded x0 s k j = tap x0 ρ k j := by
  have hk := k.isLt
  have hρ := ρ.isLt
  unfold padded Read.val_main_v21
  pointwise
  split at hs
  · split
    · exact (edge _ _).trans (tap_neg _ _ _ _ (by omega)).symm
    · split
      · exact (first_rows x0 _ _).trans (tap_pos _ _ _ _ _ (by show k.val + s.val - 15 + 15 = _; omega) (by show k.val + s.val - 15 < 8192 ↔ _; omega)).symm
      · split
        · exact (edge _ _).trans (tap_neg _ _ _ _ (by omega)).symm
        · omega
  · split
    · omega
    · split
      · omega
      · split
        · exact (edge _ _).trans (tap_neg _ _ _ _ (by omega)).symm
        · split
          · exact (last_rows x0 _ _).trans (tap_pos _ _ _ _ _ (by show 8192 + (k.val + s.val - 15 - 8192 - 15) + 15 = _; omega)
              (by show 8192 + (k.val + s.val - 15 - 8192 - 15) < 8192 ↔ _; omega)).symm
          · exact (edge _ _).trans (tap_neg _ _ _ _ (by omega)).symm

theorem line_eq (ρ : Fin 8448) (j : Fin 512) : Read.val_main_v244 (F := Ideal) x0 x1 x2 (ix2 ρ j) = line x0 x1 x2 ρ j := by
  unfold Read.val_main_v244 Read.val_main_v242 Read.val_main_v243 Read.val_main_v241 Read.val_main_v240
  pointwise
  split
  · refine congrArg (· + x2 (ix2 0 j)) ((sum30 x0 x1 _ j).trans (congrArg (fun f => upto f 31 _ 0) (funext fun k => ?_)))
    rw [padded_tap x0 ρ k j _ (by rw [if_pos (by assumption)])]
    exact mul_comm _ _
  · refine congrArg (· + x2 (ix2 0 j)) ((sum30 x0 x1 _ j).trans (congrArg (fun f => upto f 31 _ 0) (funext fun k => ?_)))
    have hρ : 8207 + (ρ.val - 8192) = if ρ.val < 8192 then ρ.val else ρ.val + 15 := by
      rw [if_neg (by assumption)]
      omega
    have e := padded_tap x0 ρ k j ⟨8207 + (ρ.val - 8192), by omega⟩ hρ
    exact (congrArg (· * x1 (ix2 k j)) e).trans (mul_comm _ _)

theorem glu_eq (i : S8448x512.Idx) : Read.val_main_v8 (F := Ideal) x0 i = glu x0 (i 0) (i 1) := by
  unfold Read.val_main_v8 Read.val_main_v7 Read.val_main_v6 Read.val_main_cst_0 Read.val_main_v5 Read.val_main_v4 Read.val_main_cst Read.val_main_v3 Read.val_main_v2 Read.val_main_v1 Read.val_main_v0 glu Ideal.logistic
  pointwise

theorem out_eq (ρ : Fin 8448) (j : Fin 512) :
    Read.val_main_v266 (F := Ideal) x0 x1 x2 x3 x4 (ix2 ρ j) = swish (fun x => line x0 x1 x2 ρ x) x3 x4 j := by
  unfold Read.val_main_v266 Read.val_main_v265 Read.val_main_call0_v5 Read.val_main_call0_v4 Read.val_main_call0_cst_0 Read.val_main_call0_v3 Read.val_main_call0_v2 Read.val_main_call0_cst Read.val_main_call0_v1 Read.val_main_call0_v0 Read.val_main_v264 Read.val_main_v263 Read.val_main_v262 Read.val_main_v261 Read.val_main_v260 Read.val_main_v259 Read.val_main_v258 Read.val_main_v257 Read.val_main_v256 Read.val_main_cst_9 Read.val_main_v255 Read.val_main_v254 Read.val_main_cst_8 Read.val_main_v253 Read.val_main_v252 Read.val_main_cst_7 Read.val_main_v251 Read.val_main_v250 Read.val_main_v249 Read.val_main_v248 Read.val_main_v247 Read.val_main_cst_6 Read.val_main_v246 Read.val_main_v245 Read.val_main_cst_5
  pointwise
  simp only [line_eq]
  rfl

end Cert.ConvFRefIdeal.Prod

namespace Cert

open Idealize.ShloMosaic Idealize.ShloMosaic.TcCoe Idealize.SL.Sem

theorem algebraic_conv_f : Cert.algebraic_ConvFIdeal_ConvFRefIdeal := by
  intro m g m' g' _ hm
  refine ⟨Cert.ConvFIdeal.Prod.GOut m, Cert.ConvFIdeal.Prod.GGlu m, Cert.ConvFIdeal.Prod.GLine m,
    (θ_run Cert.ConvFIdeal.defs _ _).mono (fun r h c => ⟨(h c).1.trans (Cert.ConvFIdeal.Prod.result7 m c),
      (h c).2.1.trans (Cert.ConvFIdeal.Prod.result8 m c), (h c).2.2.1.trans (Cert.ConvFIdeal.Prod.result9 m c), (h c).2.2.2⟩)
      (Cert.ConvFIdeal.Value.run_blocks (F := Ideal) m g), ?_⟩
  refine (θ_run Cert.ConvFRefIdeal.defs _ _).mono (fun r h c => ?_) (Cert.ConvFRefIdeal.Value.run (F := Ideal) m' g')
  have hr := h c
  obtain ⟨h0, h1, h2, h3, h4⟩ := hm c
  refine ⟨?_, ?_, ?_, hr.2.2.2⟩
  · have e := hr.1.trans ((Cert.ConvFRefIdeal.Read.val_main_v266_eq (F := Ideal) (StableHlo.launchContents m' c)).trans (show _ = Cert.ConvFRefIdeal.Read.val_main_v266 (F := Ideal)
      (m' ((c.tc : Thread Cert.ConvFRefIdeal.nD Cert.ConvFRefIdeal.τ).loc Cert.ConvFRefIdeal.main_arg0)) (m' ((c.tc : Thread Cert.ConvFRefIdeal.nD Cert.ConvFRefIdeal.τ).loc Cert.ConvFRefIdeal.main_arg1)) (m' ((c.tc : Thread Cert.ConvFRefIdeal.nD Cert.ConvFRefIdeal.τ).loc Cert.ConvFRefIdeal.main_arg2)) (m' ((c.tc : Thread Cert.ConvFRefIdeal.nD Cert.ConvFRefIdeal.τ).loc Cert.ConvFRefIdeal.main_arg3)) (m' ((c.tc : Thread Cert.ConvFRefIdeal.nD Cert.ConvFRefIdeal.τ).loc Cert.ConvFRefIdeal.main_arg4)) from rfl))
    rw [h0, h1, h2, h3, h4] at e
    exact e.trans (funext fun i => (congrArg (Cert.ConvFRefIdeal.Read.val_main_v266 (F := Ideal) _ _ _ _ _) (ValueIdx.eq_ix2 i)).trans (Cert.ConvFRefIdeal.Prod.out_eq _ _ _ _ _ (i 0) (i 1)))
  · have e := hr.2.1.trans ((Cert.ConvFRefIdeal.Read.val_main_v8_eq (F := Ideal) (StableHlo.launchContents m' c)).trans (show _ = Cert.ConvFRefIdeal.Read.val_main_v8 (F := Ideal)
      (m' ((c.tc : Thread Cert.ConvFRefIdeal.nD Cert.ConvFRefIdeal.τ).loc Cert.ConvFRefIdeal.main_arg0)) from rfl))
    rw [h0] at e
    exact e.trans (funext fun i => Cert.ConvFRefIdeal.Prod.glu_eq _ i)
  · have e := hr.2.2.1.trans ((Cert.ConvFRefIdeal.Read.val_main_v244_eq (F := Ideal) (StableHlo.launchContents m' c)).trans (show _ = Cert.ConvFRefIdeal.Read.val_main_v244 (F := Ideal)
      (m' ((c.tc : Thread Cert.ConvFRefIdeal.nD Cert.ConvFRefIdeal.τ).loc Cert.ConvFRefIdeal.main_arg0)) (m' ((c.tc : Thread Cert.ConvFRefIdeal.nD Cert.ConvFRefIdeal.τ).loc Cert.ConvFRefIdeal.main_arg1)) (m' ((c.tc : Thread Cert.ConvFRefIdeal.nD Cert.ConvFRefIdeal.τ).loc Cert.ConvFRefIdeal.main_arg2)) from rfl))
    rw [h0, h1, h2] at e
    exact e.trans (funext fun i => (congrArg (Cert.ConvFRefIdeal.Read.val_main_v244 (F := Ideal) _ _ _) (ValueIdx.eq_ix2 i)).trans (Cert.ConvFRefIdeal.Prod.line_eq _ _ _ (i 0) (i 1)))

end Cert

end
-- ==== Proof.SiluP.lean ====
/- SiLU of the condition: each element times its logistic. -/
module

public import proofs.«01_k».proof.Defs
public import proofs.«01_k».proof.Proof.Gen.SiluPIdeal.Value
public import proofs.«01_k».proof.Proof.Gen.SiluPRefIdeal.Run
public import proofs.«01_k».proof.Proof.Gen.SiluPRefIdeal.Read
public import Idealize.ShloMosaic.Lib.Pointwise
public import Idealize.ShloMosaic.Lib.Pipeline.ValueKit

@[expose] public section

set_option maxRecDepth 16384

noncomputable section

namespace Cert.SiluPRefIdeal.Prod

open Cert.SiluPRefIdeal Cert.SiluPRefIdeal.Gen Idealize.ShloMosaic Idealize.ShloMosaic.TcCoe Idealize.SL.Sem

/-- The reference's quotient is the logistic function. -/
theorem sig (x : S16x2048.Idx → EReal) (i : S16x2048.Idx) : Read.val_main_call0_v5 (F := Ideal) x i = Ideal.logistic (x i) := by
  unfold Read.val_main_call0_v5 Read.val_main_call0_v4 Read.val_main_call0_cst_0 Read.val_main_call0_v3 Read.val_main_call0_v2 Read.val_main_call0_cst Read.val_main_call0_v1 Read.val_main_call0_v0 Ideal.logistic
  pointwise

theorem result (x : S16x2048.Idx → EReal) (i : S16x2048.Idx) : Read.val_main_v0 (F := Ideal) x i = Cert.SiluPIdeal.Value.G1 (F := Ideal) x i := by
  rw [Read.val_main_v0_apply, sig]
  rfl

end Cert.SiluPRefIdeal.Prod

namespace Cert

open Idealize.ShloMosaic Idealize.ShloMosaic.TcCoe Idealize.SL.Sem

theorem algebraic_silu_c : Cert.algebraic_SiluPIdeal_SiluPRefIdeal := by
  intro m g m' g' _ hm
  refine ⟨_, Cert.SiluPIdeal.Value.run (F := Ideal) m g, ?_⟩
  refine (θ_run Cert.SiluPRefIdeal.defs _ _).mono (fun r h c => ?_) (Cert.SiluPRefIdeal.Value.run (F := Ideal) m' g')
  have e := (h c).1.trans (Cert.SiluPRefIdeal.Read.val_main_v0_eq (F := Ideal) _)
  rw [hm c] at e
  exact ⟨e.trans (funext fun i => Cert.SiluPRefIdeal.Prod.result _ i), (h c).2⟩

end Cert

end
-- ==== Proof.ModP.lean ====
/- The modulation: the conditions times the weight, and the bias. -/
module

public import proofs.«01_k».proof.Defs
public import proofs.«01_k».proof.Proof.Gen.ModPIdeal.Value
public import proofs.«01_k».proof.Proof.Gen.ModPRefIdeal.Run
public import proofs.«01_k».proof.Proof.Gen.ModPRefIdeal.Read
public import Idealize.ShloMosaic.Lib.Pointwise
public import Idealize.ShloMosaic.Lib.Pipeline.ValueKit

@[expose] public section

set_option maxRecDepth 16384

noncomputable section

namespace Cert.ModPIdeal.Prod

open Cert.ModPIdeal Cert.ModPIdeal.Gen Idealize.ShloMosaic Idealize.ShloMosaic.TcCoe Idealize.SL.Sem

theorem pay_apply (x0 : Vec Ideal S16x2048 .f32) (x1 : Vec Ideal S2048x1024 .f32) (b : Vec Ideal S1x1024 .f32) (j : S16x1024.Idx) :
    k0_pay1 (F := Ideal) x1 x0 b j = (∑ k : Fin 2048, x0 (ix2 (j 0) k) * x1 (ix2 k (j 1))) + b (ix2 0 (j 1)) := by
  unfold k0_pay1
  pointwise

variable (m : (ℓ : Loc nD τ sig) → Buf (Elt Ideal) ℓ)

/-- The three operands, as arrays of extended reals. -/
abbrev arr0 (c : Dev nD) : S16x2048.Idx → EReal := m ((c : Thread nD τ).loc main_arg0)
abbrev arr1 (c : Dev nD) : S2048x3072.Idx → EReal := m ((c : Thread nD τ).loc main_arg1)
abbrev arr2 (c : Dev nD) : S1x3072.Idx → EReal := m ((c : Thread nD τ).loc main_arg2)

/-- The whole result. -/
def G (x0 : S16x2048.Idx → EReal) (x1 : S2048x3072.Idx → EReal) (b : S1x3072.Idx → EReal) (i : S16x3072.Idx) : EReal :=
  (∑ k : Fin 2048, x0 (ix2 (i 0) k) * x1 (ix2 k (i 1))) + b (ix2 0 (i 1))

theorem idx0 : ∀ t : Fin cfg0.N, win0_0.index t (0 : Fin 2) = win0_3.index t (0 : Fin 2) ∧ win0_0.index t (1 : Fin 2) = 0 :=
  (by decide +kernel : ∀ t : Fin grid0.N, _)

theorem idx1 : ∀ t : Fin cfg0.N, win0_1.index t (0 : Fin 2) = 0 ∧ win0_1.index t (1 : Fin 2) = win0_3.index t (1 : Fin 2) :=
  (by decide +kernel : ∀ t : Fin grid0.N, _)

theorem idx2 : ∀ t : Fin cfg0.N, win0_2.index t (0 : Fin 2) = 0 ∧ win0_2.index t (1 : Fin 2) = win0_3.index t (1 : Fin 2) :=
  (by decide +kernel : ∀ t : Fin grid0.N, _)

/-- Where a point's block of the result lies in it. -/
abbrev at3 (t : Fin cfg0.N) (y : S16x1024.Idx) : S16x3072.Idx := ((View.whole main_v0).slice (win0_3.rect t)).emb y

theorem blk0 (c : Dev nD) (t : Fin cfg0.N) (y : S16x1024.Idx) (k : Fin 2048) :
    (iblk m c 0 t : Vec Ideal S16x2048 .f32) (ix2 (y 0) k) = arr0 m c (ix2 (at3 t y 0) k) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 16 + 1 * (y 0).val = win0_3.index t 0 * 16 + 1 * (y 0).val; rw [e0]
  | ⟨1, _⟩ => show win0_0.index t 1 * 2048 + 1 * k.val = k.val; rw [e1]; omega

theorem blk1 (c : Dev nD) (t : Fin cfg0.N) (y : S16x1024.Idx) (k : Fin 2048) :
    (iblk m c 1 t : Vec Ideal S2048x1024 .f32) (ix2 k (y 1)) = arr1 m c (ix2 k (at3 t y 1)) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [e0]; omega
  | ⟨1, _⟩ => show win0_1.index t 1 * 1024 + 1 * (y 1).val = win0_3.index t 1 * 1024 + 1 * (y 1).val; rw [e1]

theorem blk2 (c : Dev nD) (t : Fin cfg0.N) (y : S16x1024.Idx) :
    (iblk m c 2 t : Vec Ideal S1x1024 .f32) (ix2 0 (y 1)) = arr2 m c (ix2 0 (at3 t y 1)) := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [e0]
  | ⟨1, _⟩ => show win0_2.index t 1 * 1024 + 1 * (y 1).val = win0_3.index t 1 * 1024 + 1 * (y 1).val; rw [e1]

theorem result (c : Dev nD) : (dats m 0 c).arrAt 3 cfg0.N = G (arr0 m c) (arr1 m c) (arr2 m c) := by
  refine (dats m 0 c).arrAt_eq_of_covers 3 _ (by decide +kernel) fun t hf y => ?_
  blk_simp
  rw [after0_3]
  frame_out
  refine (pay_apply _ _ _ _).trans ?_
  exact congrArg₂ (· + ·) (Finset.sum_congr rfl fun k _ => congrArg₂ (· * ·) (blk0 m c t y k) (blk1 m c t y k)) (blk2 m c t y)

end Cert.ModPIdeal.Prod

namespace Cert.ModPRefIdeal.Prod

open Cert.ModPRefIdeal Cert.ModPRefIdeal.Gen Idealize.ShloMosaic Idealize.ShloMosaic.TcCoe Idealize.SL.Sem
open Cert.ModPIdeal.Prod (G)

/-- The reference's result: the same sum. -/
theorem result (x0 : S16x2048.Idx → EReal) (x1 : S2048x3072.Idx → EReal) (b : S1x3072.Idx → EReal) (i : S16x3072.Idx) :
    Read.val_main_v2 (F := Ideal) x0 x1 b i = G x0 x1 b i := by
  unfold G
  rw [Read.val_main_v2_apply, Read.val_main_v1_apply, Read.val_main_v0_apply]
  refine congrArg₂ (· + ·) (Finset.sum_congr rfl fun k _ => congrArg₂ (· * ·) (congrArg x0 ?_) (congrArg x1 ?_)) (congrArg b ?_)
  · funext a; match a with
    | ⟨0, _⟩ => rfl
    | ⟨1, _⟩ => rfl
  · funext a; match a with
    | ⟨0, _⟩ => rfl
    | ⟨1, _⟩ => rfl
  · funext a; match a with
    | ⟨0, _⟩ => rfl
    | ⟨1, _⟩ => rfl

end Cert.ModPRefIdeal.Prod

namespace Cert

open Idealize.ShloMosaic Idealize.ShloMosaic.TcCoe Idealize.SL.Sem

theorem algebraic_mod_proj : Cert.algebraic_ModPIdeal_ModPRefIdeal := by
  intro m g m' g' _ hm
  refine ⟨fun c => Cert.ModPIdeal.Prod.G (m ((c.tc).loc Cert.ModPIdeal.main_arg0)) (m ((c.tc).loc Cert.ModPIdeal.main_arg1)) (m ((c.tc).loc Cert.ModPIdeal.main_arg2)),
    (θ_run Cert.ModPIdeal.defs _ _).mono (fun r h c => ⟨(h c).1.trans (Cert.ModPIdeal.Prod.result m c), (h c).2⟩) (Cert.ModPIdeal.Value.run_blocks (F := Ideal) m g), ?_⟩
  refine (θ_run Cert.ModPRefIdeal.defs _ _).mono (fun r h c => ⟨(h c).1.trans ?_, (h c).2⟩) (Cert.ModPRefIdeal.Value.run (F := Ideal) m' g')
  rw [(hm c).1, (hm c).2.1, (hm c).2.2]
  funext i
  exact Cert.ModPRefIdeal.Prod.result _ _ _ i

end Cert

end
-- ==== Proof.ModW.lean ====
/- The gradient of the modulation's weight: the sum over the sixteen conditions. -/
module

public import proofs.«01_k».proof.Defs
public import proofs.«01_k».proof.Proof.Gen.ModWIdeal.Value
public import proofs.«01_k».proof.Proof.Gen.ModWRefIdeal.Run
public import proofs.«01_k».proof.Proof.Gen.ModWRefIdeal.Read
public import Idealize.ShloMosaic.Lib.Pointwise
public import Idealize.ShloMosaic.Lib.Pipeline.ValueKit

@[expose] public section

set_option maxRecDepth 16384

noncomputable section

namespace Cert.ModWIdeal.Prod

open Cert.ModWIdeal Cert.ModWIdeal.Gen Idealize.ShloMosaic Idealize.ShloMosaic.TcCoe Idealize.SL.Sem

theorem pay_apply (x0 x1 : Vec Ideal S16x1024 .f32) (j : S1024x1024.Idx) :
    k0_pay1 (F := Ideal) x1 x0 j = ∑ k : Fin 16, x0 (ix2 k (j 0)) * x1 (ix2 k (j 1)) := by
  unfold k0_pay1
  pointwise

variable (m : (ℓ : Loc nD τ sig) → Buf (Elt Ideal) ℓ)

/-- The two operands, as arrays of extended reals. -/
abbrev arr0 (c : Dev nD) : S16x2048.Idx → EReal := m ((c : Thread nD τ).loc main_arg0)
abbrev arr1 (c : Dev nD) : S16x3072.Idx → EReal := m ((c : Thread nD τ).loc main_arg1)

/-- The whole result. -/
def G (x0 : S16x2048.Idx → EReal) (x1 : S16x3072.Idx → EReal) (i : S2048x3072.Idx) : EReal :=
  ∑ k : Fin 16, x0 (ix2 k (i 0)) * x1 (ix2 k (i 1))

theorem idx0 : ∀ t : Fin cfg0.N, win0_0.index t (0 : Fin 2) = 0 ∧ win0_0.index t (1 : Fin 2) = win0_2.index t (0 : Fin 2) :=
  (by decide +kernel : ∀ t : Fin grid0.N, _)

theorem idx1 : ∀ t : Fin cfg0.N, win0_1.index t (0 : Fin 2) = 0 ∧ win0_1.index t (1 : Fin 2) = win0_2.index t (1 : Fin 2) :=
  (by decide +kernel : ∀ t : Fin grid0.N, _)

/-- Where a point's block of the result lies in it. -/
abbrev at2 (t : Fin cfg0.N) (y : S1024x1024.Idx) : S2048x3072.Idx := ((View.whole main_v0).slice (win0_2.rect t)).emb y

theorem blk0 (c : Dev nD) (t : Fin cfg0.N) (y : S1024x1024.Idx) (k : Fin 16) :
    (iblk m c 0 t : Vec Ideal S16x1024 .f32) (ix2 k (y 0)) = arr0 m c (ix2 k (at2 t y 0)) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 16 + 1 * k.val = k.val; rw [e0]; omega
  | ⟨1, _⟩ => show win0_0.index t 1 * 1024 + 1 * (y 0).val = win0_2.index t 0 * 1024 + 1 * (y 0).val; rw [e1]

theorem blk1 (c : Dev nD) (t : Fin cfg0.N) (y : S1024x1024.Idx) (k : Fin 16) :
    (iblk m c 1 t : Vec Ideal S16x1024 .f32) (ix2 k (y 1)) = arr1 m c (ix2 k (at2 t y 1)) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 16 + 1 * k.val = k.val; rw [e0]; omega
  | ⟨1, _⟩ => show win0_1.index t 1 * 1024 + 1 * (y 1).val = win0_2.index t 1 * 1024 + 1 * (y 1).val; rw [e1]

theorem result (c : Dev nD) : (dats m 0 c).arrAt 2 cfg0.N = G (arr0 m c) (arr1 m c) := by
  refine (dats m 0 c).arrAt_eq_of_covers 2 _ (by decide +kernel) fun t hf y => ?_
  blk_simp
  rw [after0_2]
  frame_out
  refine (pay_apply _ _ _).trans ?_
  exact Finset.sum_congr rfl fun k _ => congrArg₂ (· * ·) (blk0 m c t y k) (blk1 m c t y k)

end Cert.ModWIdeal.Prod

namespace Cert.ModWRefIdeal.Prod

open Cert.ModWRefIdeal Cert.ModWRefIdeal.Gen Idealize.ShloMosaic Idealize.ShloMosaic.TcCoe Idealize.SL.Sem
open Cert.ModWIdeal.Prod (G)

/-- The reference's result: the same sum. -/
theorem result (x0 : S16x2048.Idx → EReal) (x1 : S16x3072.Idx → EReal) (i : S2048x3072.Idx) :
    Read.val_main_v3 (F := Ideal) x0 x1 i = G x0 x1 i := by
  unfold G
  rw [Read.val_main_v3_apply, Read.val_main_v2_apply]
  refine Finset.sum_congr rfl fun k _ => (mul_comm _ _).trans (congrArg₂ (· * ·) (congrArg x0 ?_) (congrArg x1 ?_))
  · funext a; match a with
    | ⟨0, _⟩ => rfl
    | ⟨1, _⟩ => rfl
  · funext a; match a with
    | ⟨0, _⟩ => rfl
    | ⟨1, _⟩ => rfl

end Cert.ModWRefIdeal.Prod

namespace Cert

open Idealize.ShloMosaic Idealize.ShloMosaic.TcCoe Idealize.SL.Sem

theorem algebraic_mod_w : Cert.algebraic_ModWIdeal_ModWRefIdeal := by
  intro m g m' g' _ hm
  refine ⟨fun c => Cert.ModWIdeal.Prod.G (m ((c.tc).loc Cert.ModWIdeal.main_arg0)) (m ((c.tc).loc Cert.ModWIdeal.main_arg1)),
    (θ_run Cert.ModWIdeal.defs _ _).mono (fun r h c => ⟨(h c).1.trans (Cert.ModWIdeal.Prod.result m c), (h c).2⟩) (Cert.ModWIdeal.Value.run_blocks (F := Ideal) m g), ?_⟩
  refine (θ_run Cert.ModWRefIdeal.defs _ _).mono (fun r h c => ⟨(h c).1.trans ?_, (h c).2⟩) (Cert.ModWRefIdeal.Value.run (F := Ideal) m' g')
  rw [(hm c).1, (hm c).2]
  funext i
  exact Cert.ModWRefIdeal.Prod.result _ _ i

end Cert

end
-- ==== Proof.ModBG.lean ====
/- The gradient of the modulation's bias: the sum of the rows. -/
module

public import proofs.«01_k».proof.Defs
public import proofs.«01_k».proof.Proof.Gen.ModBGIdeal.Value
public import proofs.«01_k».proof.Proof.Gen.ModBGRefIdeal.Run
public import proofs.«01_k».proof.Proof.Gen.ModBGRefIdeal.Read
public import Idealize.ShloMosaic.Lib.Pointwise
public import Idealize.ShloMosaic.Lib.Pipeline.ValueKit

@[expose] public section

set_option maxRecDepth 16384

noncomputable section

namespace Cert.ModBGIdeal.Prod

open Cert.ModBGIdeal Cert.ModBGIdeal.Gen Idealize.ShloMosaic Idealize.ShloMosaic.TcCoe Idealize.SL.Sem

theorem pay_apply (d : Vec Ideal S16x12288 .f32) (i : S1x12288.Idx) : k0_pay1 (F := Ideal) d i = ∑ r : Fin 16, d (ix2 r (i 1)) := by
  unfold k0_pay1
  pointwise

end Cert.ModBGIdeal.Prod

namespace Cert.ModBGRefIdeal.Prod

open Cert.ModBGRefIdeal Cert.ModBGRefIdeal.Gen Idealize.ShloMosaic Idealize.ShloMosaic.TcCoe Idealize.SL.Sem

/-- The reference's result: the same sum. -/
theorem result (d : S16x12288.Idx → EReal) (i : S1x12288.Idx) : Read.val_main_v3 (F := Ideal) d i = ∑ r : Fin 16, d (ix2 r (i 1)) := by
  rw [Read.val_main_v3_apply, Read.val_main_v2_apply, Read.val_main_cst_0_apply]
  refine (congrArg (· + _) (Ideal.ofBits_zero (φ := .f32))).trans ((zero_add _).trans ?_)
  refine Finset.sum_congr rfl fun k _ => congrArg d ?_
  funext a; match a with
    | ⟨0, _⟩ => rfl
    | ⟨1, _⟩ => rfl

end Cert.ModBGRefIdeal.Prod

namespace Cert

open Idealize.ShloMosaic Idealize.ShloMosaic.TcCoe Idealize.SL.Sem

theorem algebraic_mod_bias_g : Cert.algebraic_ModBGIdeal_ModBGRefIdeal := by
  intro m g m' g' _ hm
  refine ⟨_, Cert.ModBGIdeal.Value.run (F := Ideal) m g, ?_⟩
  refine (θ_run Cert.ModBGRefIdeal.defs _ _).mono (fun r h c => ⟨(h c).1.trans ?_, (h c).2⟩) (Cert.ModBGRefIdeal.Value.run (F := Ideal) m' g')
  rw [hm c]
  funext i
  exact (Cert.ModBGRefIdeal.Prod.result _ i).trans (Cert.ModBGIdeal.Prod.pay_apply _ i).symm

end Cert

end
-- ==== Proof.ModB.lean ====
/- The gradient of the modulation's product for the condition, with one layer alone. -/
module

public import proofs.«01_k».proof.Proof.Tiles
public import proofs.«01_k».proof.Defs
public import proofs.«01_k».proof.Proof.Gen.ModBIdeal.Value
public import proofs.«01_k».proof.Proof.Gen.ModBRefIdeal.Run
public import proofs.«01_k».proof.Proof.Gen.ModBRefIdeal.Read
public import Idealize.ShloMosaic.Lib.Pointwise

@[expose] public section

set_option maxRecDepth 16384

noncomputable section

namespace Cert.ModBIdeal.Prod

open Cert.ModBIdeal Cert.ModBIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S16x1024 .f32) (x1 : Vec Ideal S1024x1024 .f32) (j : S16x1024.Idx) :
    k0_pay1 x1 x0 j = ∑ k : Fin 1024, x0 (ix2 (j 0) k) * x1 (ix2 (j 1) k) := by
  unfold k0_pay1
  pointwise

variable (m : (ℓ : Loc nD τ sig) → Buf (Elt Ideal) ℓ)

/-- The products of a row of the first array with a row of the weight, column by column. -/
def term (x0 : S16x3072.Idx → EReal) (x1 : S2048x3072.Idx → EReal) (i : S16x2048.Idx) (κ : Fin 3072) : EReal :=
  x0 (ix2 (i 0) κ) * x1 (ix2 (i 1) κ)

/-- The two operands, as arrays of extended reals. -/
abbrev arr0 (c : Dev nD) : S16x3072.Idx → EReal := m ((c : Thread nD τ).loc main_arg0)
abbrev arr1 (c : Dev nD) : S2048x3072.Idx → EReal := m ((c : Thread nD τ).loc main_arg1)

theorem idx0 : ∀ t : Fin cfg0.N, win0_0.index t (0 : Fin 2) = 0 ∧ win0_0.index t (1 : Fin 2) = t.val % 3 :=
  (by decide +kernel : ∀ t : Fin grid0.N, _)

theorem idx1 : ∀ t : Fin cfg0.N, win0_1.index t (0 : Fin 2) = t.val / 3 ∧ win0_1.index t (1 : Fin 2) = t.val % 3 :=
  (by decide +kernel : ∀ t : Fin grid0.N, _)

theorem blk0 (c : Dev nD) (t : Fin cfg0.N) (r : Fin 16) (k : Fin 1024) (ρ : Fin 16) (κ : Fin 3072)
    (hr : ρ.val = r.val) (hk : κ.val = t.val % 3 * 1024 + k.val) :
    (iblk m c 0 t : Vec Ideal S16x1024 .f32) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 16 + 1 * r.val = ρ.val; rw [e0, hr]; omega
  | ⟨1, _⟩ => show win0_0.index t 1 * 1024 + 1 * k.val = κ.val; rw [e1, hk]; omega

theorem blk1 (c : Dev nD) (t : Fin cfg0.N) (r : Fin 1024) (k : Fin 1024) (ρ : Fin 2048) (κ : Fin 3072)
    (hr : ρ.val = t.val / 3 * 1024 + r.val) (hk : κ.val = t.val % 3 * 1024 + k.val) :
    (iblk m c 1 t : Vec Ideal S1024x1024 .f32) (ix2 r k) = arr1 m c (ix2 ρ κ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * r.val = ρ.val; rw [e0, hr]; omega
  | ⟨1, _⟩ => show win0_1.index t 1 * 1024 + 1 * k.val = κ.val; rw [e1, hk]; omega

/-- A point's part: the product of its two blocks. -/
def part (c : Dev nD) (t : Fin cfg0.N) : Vec Ideal S16x1024 .f32 := k0_pay1 (F := Ideal) (iblk m c 1 t) (iblk m c 0 t)

theorem part_apply (c : Dev nD) (t : Fin cfg0.N) (y : S16x1024.Idx) (i : S16x2048.Idx) (s : ℕ) (hs : s < 3) (ht : t.val % 3 = s)
    (h0 : (i 0).val = (y 0).val) (h1 : (i 1).val = t.val / 3 * 1024 + (y 1).val) :
    (part m c t y : EReal) = ∑ k : Fin 1024, term (arr0 m c) (arr1 m c) i ⟨s * 1024 + k.val, Tiles.tile_lt (J := 3) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a run leaves its part in the scratch. -/
theorem scratch_A (c : Dev nD) (t : Fin cfg0.N) (h : t.val % 3 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S16x1024) hz, View.ld_unit_zero (S := S1024x1024) hz, shapeCast_self]

/-- A point between adds its part to it. -/
theorem scratch_B (c : Dev nD) (n : ℕ) (hn : n + 1 < cfg0.N) (h : (n + 1) % 3 ≠ 0) (h5 : (n + 1) % 3 ≠ 3 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S16x1024) hz, View.ld_unit_zero (S := S1024x1024) hz, shapeCast_self]
  rfl

/-- The last point of a run stores the scratch with its own part added. -/
theorem stored_C (c : Dev nD) (n : ℕ) (hn : n + 1 < cfg0.N) (h5 : (n + 1) % 3 = 3 - 1) :
    (outsAt0 m c (n + 1) hn).1 = addf (F := Ideal) (φ := .f32) (outsAt0 m c n (Nat.lt_of_succ_lt hn)).2 (part m c ⟨n + 1, hn⟩) := by
  rw [outsAt0_C m c ⟨n + 1, hn⟩ (by dsimp only; omega) (by dsimp only; omega) h5]
  dsimp only
  unfold out0_C_2
  rw [View.read_writes_eq_canon _ _ _ (fun _ => cover0_C_2 ..)]
  unfold kernelRun0_C
  dsimp only
  sl_unfold_words
  rw [View.canon_unit_zero hz, View.readCov_unit_zero (S := S16x1024) _ hz]
  unfold k0_pay3 part
  simp only [View.readAt_eq_ld, (hs0_0 _).read_unread, (hs0_1 _).read_unread, (Memref.isWhole_whole _).read_unread, View.ld_unit_zero (S := S16x1024) hz, View.ld_unit_zero (S := S1024x1024) hz, shapeCast_self]
  rfl

/-- The kernel's result: at every element the whole sum. -/
theorem result (c : Dev nD) (i : S16x2048.Idx) :
    (Value.G2 m c : S16x2048.Idx → EReal) i = ∑ κ, term (arr0 m c) (arr1 m c) i κ := by
  have b0 : (i 0).val < 16 := (i 0).isLt
  have b1 : (i 1).val < 2048 := (i 1).isLt
  have hN : cfg0.N = 6 := N_0
  have hp : Value.pt2Of i = 3 * ((i 1).val / 1024) + (3 - 1) := by
    show 3 * (2 * ((i 0).val / 16 - 0) + 1 * ((i 1).val / 1024 - 0)) + 2 = _
    omega
  have hlt : Value.pt2Of i < cfg0.N := by omega
  unfold Value.G2
  rw [dif_pos hlt, ← Value.outsAt0_sweep m c _ hlt]
  refine Tiles.run_last_tiles (J := 3) (TK := 1024) (by decide) (by decide)
    (fun n h => (outsAt0 m c n h).2 (Value.loc2Of i)) (fun n h => (outsAt0 m c n h).1 (Value.loc2Of i))
    (fun n h => part m c ⟨n, h⟩ (Value.loc2Of i)) ((i 1).val / 1024) (term (arr0 m c) (arr1 m c) i) ?_ ?_ ?_ ?_ _ hp hlt
  · intro n h hn
    exact congrFun (scratch_A m c ⟨n, h⟩ hn) _
  · intro n h h0 h5
    exact congrFun (scratch_B m c n h h0 h5) _
  · intro n h h5
    exact congrFun (stored_C m c n h h5) _
  · intro s h
    have hs := s.isLt
    exact part_apply m c ⟨_, h⟩ (Value.loc2Of i) i s.val s.isLt (by dsimp only; omega)
      (by show (i 0).val = (i 0).val % 16; omega)
      (by show (i 1).val = (3 * ((i 1).val / 1024) + s.val) / 3 * 1024 + (i 1).val % 1024; omega)

end Cert.ModBIdeal.Prod

namespace Cert.ModBRefIdeal.Prod

open Cert.ModBRefIdeal Cert.ModBRefIdeal.Gen Idealize.ShloMosaic Idealize.ShloMosaic.TcCoe Idealize.SL.Sem

/-- The reference's result: the same sum. -/
theorem result (x0 : S16x3072.Idx → EReal) (x1 : S2048x3072.Idx → EReal) (i : S16x2048.Idx) :
    Read.val_main_v2 (F := Ideal) x0 x1 i = ∑ κ : Fin 3072, x0 (ix2 (i 0) κ) * x1 (ix2 (i 1) κ) := by
  rw [Read.val_main_v2_apply]
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.ModBRefIdeal.Prod

namespace Cert

open Idealize.ShloMosaic Idealize.ShloMosaic.TcCoe Idealize.SL.Sem

theorem algebraic_mod_b : Cert.algebraic_ModBIdeal_ModBRefIdeal := by
  intro m g m' g' _ hm
  refine ⟨fun c => Cert.ModBIdeal.Value.G2 m c, Cert.ModBIdeal.Value.run m g, ?_⟩
  refine (θ_run Cert.ModBRefIdeal.defs _ _).mono (fun r h c => ⟨(h c).1.trans ?_, (h c).2⟩) (Cert.ModBRefIdeal.Value.run (F := Ideal) m' g')
  rw [(hm c).1, (hm c).2]
  funext i
  exact (Cert.ModBRefIdeal.Prod.result _ _ i).trans (Cert.ModBIdeal.Prod.result m c i).symm

end Cert

end
-- ==== Proof.ModBA.lean ====
/- The gradient of the modulation's product for the condition, with what the other layers send back added. -/
module

public import proofs.«01_k».proof.Proof.Tiles
public import proofs.«01_k».proof.Defs
public import proofs.«01_k».proof.Proof.Gen.ModBAIdeal.Value
public import proofs.«01_k».proof.Proof.Gen.ModBARefIdeal.Run
public import proofs.«01_k».proof.Proof.Gen.ModBARefIdeal.Read
public import Idealize.ShloMosaic.Lib.Pointwise

@[expose] public section

set_option maxRecDepth 16384

noncomputable section

namespace Cert.ModBAIdeal.Prod

open Cert.ModBAIdeal Cert.ModBAIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem pay_apply (x0 : Vec Ideal S16x1024 .f32) (x1 : Vec Ideal S1024x1024 .f32) (j : S16x1024.Idx) :
    k0_pay1 x1 x0 j = ∑ k : Fin 1024, x0 (ix2 (j 0) k) * x1 (ix2 (j 1) k) := by
  unfold k0_pay1
  pointwise

variable (m : (ℓ : Loc nD τ sig) → Buf (Elt Ideal) ℓ)

/-- The products of a row of the first array with a row of the weight, column by column. -/
def term (x0 : S16x3072.Idx → EReal) (x1 : S2048x3072.Idx → EReal) (i : S16x2048.Idx) (κ : Fin 3072) : EReal :=
  x0 (ix2 (i 0) κ) * x1 (ix2 (i 1) κ)

/-- The three operands, as arrays of extended reals. -/
abbrev arr0 (c : Dev nD) : S16x3072.Idx → EReal := m ((c : Thread nD τ).loc main_arg0)
abbrev arr1 (c : Dev nD) : S2048x3072.Idx → EReal := m ((c : Thread nD τ).loc main_arg1)
abbrev arr2 (c : Dev nD) : S16x2048.Idx → EReal := m ((c : Thread nD τ).loc main_arg2)

theorem idx0 : ∀ t : Fin cfg0.N, win0_0.index t (0 : Fin 2) = 0 ∧ win0_0.index t (1 : Fin 2) = t.val % 3 :=
  (by decide +kernel : ∀ t : Fin grid0.N, _)

theorem idx1 : ∀ t : Fin cfg0.N, win0_1.index t (0 : Fin 2) = t.val / 3 ∧ win0_1.index t (1 : Fin 2) = t.val % 3 :=
  (by decide +kernel : ∀ t : Fin grid0.N, _)

theorem blk0 (c : Dev nD) (t : Fin cfg0.N) (r : Fin 16) (k : Fin 1024) (ρ : Fin 16) (κ : Fin 3072)
    (hr : ρ.val = r.val) (hk : κ.val = t.val % 3 * 1024 + k.val) :
    (iblk m c 0 t : Vec Ideal S16x1024 .f32) (ix2 r k) = arr0 m c (ix2 ρ κ) := by
  obtain ⟨e0, e1⟩ := idx0 t
  unfold iblk
  rw [View.read_apply]
  show V m c main_arg0 _ = m (c.tc.loc main_arg0) _
  unfold V
  congr 1
  funext a
  apply Fin.ext
  match a with
  | ⟨0, _⟩ => show win0_0.index t 0 * 16 + 1 * r.val = ρ.val; rw [e0, hr]; omega
  | ⟨1, _⟩ => show win0_0.index t 1 * 1024 + 1 * k.val = κ.val; rw [e1, hk]; omega

theorem blk1 (c : Dev nD) (t : Fin cfg0.N) (r : Fin 1024) (k : Fin 1024) (ρ : Fin 2048) (κ : Fin 3072)
    (hr : ρ.val = t.val / 3 * 1024 + r.val) (hk : κ.val = t.val % 3 * 1024 + k.val) :
    (iblk m c 1 t : Vec Ideal S1024x1024 .f32) (ix2 r k) = arr1 m c (ix2 ρ κ) := by
  obtain ⟨e0, e1⟩ := idx1 t
  unfold iblk
  rw [View.read_apply]
  show V m c main_arg1 _ = m (c.tc.loc main_arg1) _
  unfold V
  congr 1
  funext a
  apply Fin.ext
  match a with
  | ⟨0, _⟩ => show win0_1.index t 0 * 1024 + 1 * r.val = ρ.val; rw [e0, hr]; omega
  | ⟨1, _⟩ => show win0_1.index t 1 * 1024 + 1 * k.val = κ.val; rw [e1, hk]; omega

theorem idx2 : ∀ t : Fin cfg0.N, win0_2.index t (0 : Fin 2) = 0 ∧ win0_2.index t (1 : Fin 2) = t.val / 3 :=
  (by decide +kernel : ∀ t : Fin grid0.N, _)

theorem blk2 (c : Dev nD) (t : Fin cfg0.N) (y : S16x1024.Idx) (i : S16x2048.Idx)
    (h0 : (i 0).val = (y 0).val) (h1 : (i 1).val = t.val / 3 * 1024 + (y 1).val) :
    (iblk m c 2 t : Vec Ideal S16x1024 .f32) y = arr2 m c i := by
  obtain ⟨e0, e1⟩ := idx2 t
  unfold iblk
  rw [View.read_apply]
  show V m c main_arg2 _ = m (c.tc.loc main_arg2) _
  unfold V
  congr 1
  funext a
  apply Fin.ext
  match a with
  | ⟨0, _⟩ => show win0_2.index t 0 * 16 + 1 * (y 0).val = (i 0).val; rw [e0, h0]; omega
  | ⟨1, _⟩ => show win0_2.index t 1 * 1024 + 1 * (y 1).val = (i 1).val; rw [e1, h1]; omega

/-- A point's part: the product of its two blocks. -/
def part (c : Dev nD) (t : Fin cfg0.N) : Vec Ideal S16x1024 .f32 := k0_pay1 (F := Ideal) (iblk m c 1 t) (iblk m c 0 t)

theorem part_apply (c : Dev nD) (t : Fin cfg0.N) (y : S16x1024.Idx) (i : S16x2048.Idx) (s : ℕ) (hs : s < 3) (ht : t.val % 3 = s)
    (h0 : (i 0).val = (y 0).val) (h1 : (i 1).val = t.val / 3 * 1024 + (y 1).val) :
    (part m c t y : EReal) = ∑ k : Fin 1024, term (arr0 m c) (arr1 m c) i ⟨s * 1024 + k.val, Tiles.tile_lt (J := 3) (by decide) hs k.isLt⟩ := by
  unfold part
  rw [pay_apply]
  subst ht
  exact Finset.sum_congr rfl fun k _ => congrArg₂ (· * ·) (blk0 m c t (y 0) k (i 0) _ h0 rfl) (blk1 m c t (y 1) k (i 1) _ h1 rfl)

/-- The first point of a run leaves its part in the scratch. -/
theorem scratch_A (c : Dev nD) (t : Fin cfg0.N) (h : t.val % 3 = 0) : (outsAt0 m c t.val t.isLt).2 = part m c t := by
  rw [outsAt0_A m c t h (by omega) (by omega)]
  dsimp only
  unfold sout0_A_0
  rw [View.read_writes_eq_canon _ _ _ (fun _ => scover0_A_0 ..)]
  unfold kernelRun0_A
  dsimp only
  rw [View.canon_unit_zero hz]
  unfold k0_pay2 part
  simp only [View.readAt_eq_ld, (hs0_0 t).read_unread, (hs0_1 t).read_unread, View.ld_unit_zero (S := S16x1024) hz, View.ld_unit_zero (S := S1024x1024) hz, shapeCast_self]

/-- A point between adds its part to it. -/
theorem scratch_B (c : Dev nD) (n : ℕ) (hn : n + 1 < cfg0.N) (h : (n + 1) % 3 ≠ 0) (h5 : (n + 1) % 3 ≠ 3 - 1) :
    (outsAt0 m c (n + 1) hn).2 = addf (F := Ideal) (φ := .f32) (outsAt0 m c n (Nat.lt_of_succ_lt hn)).2 (part m c ⟨n + 1, hn⟩) := by
  rw [outsAt0_B m c ⟨n + 1, hn⟩ h (by dsimp only; omega) (by dsimp only; omega)]
  dsimp only
  unfold sout0_B_0
  rw [View.read_writes_eq_canon _ _ _ (fun _ => scover0_B_0 ..)]
  unfold kernelRun0_B
  dsimp only
  rw [View.canon_unit_zero hz]
  unfold k0_pay3 part
  simp only [View.readAt_eq_ld, (hs0_0 _).read_unread, (hs0_1 _).read_unread, (Memref.isWhole_whole _).read_unread, View.ld_unit_zero (S := S16x1024) hz, View.ld_unit_zero (S := S1024x1024) hz, shapeCast_self]
  rfl

/-- The last point of a run stores the scratch with its own part added, and the block of the third operand. -/
theorem stored_C (c : Dev nD) (n : ℕ) (hn : n + 1 < cfg0.N) (h5 : (n + 1) % 3 = 3 - 1) :
    (outsAt0 m c (n + 1) hn).1 = addf (F := Ideal) (φ := .f32)
      (addf (F := Ideal) (φ := .f32) (outsAt0 m c n (Nat.lt_of_succ_lt hn)).2 (part m c ⟨n + 1, hn⟩)) (iblk m c 2 ⟨n + 1, hn⟩) := by
  rw [outsAt0_C m c ⟨n + 1, hn⟩ (by dsimp only; omega) (by dsimp only; omega) h5]
  dsimp only
  unfold out0_C_3
  rw [View.read_writes_eq_canon _ _ _ (fun _ => cover0_C_3 ..)]
  unfold kernelRun0_C
  dsimp only
  sl_unfold_words
  rw [View.canon_unit_zero hz, View.readCov_unit_zero (S := S16x1024) _ hz]
  unfold k0_pay4 k0_pay3 part
  simp only [View.readAt_eq_ld, (hs0_0 _).read_unread, (hs0_1 _).read_unread, (hs0_2 _).read_unread, (Memref.isWhole_whole _).read_unread, View.ld_unit_zero (S := S16x1024) hz, View.ld_unit_zero (S := S1024x1024) hz, shapeCast_self]
  rfl

/-- The kernel's result: at every element the whole sum, and the third operand. -/
theorem result (c : Dev nD) (i : S16x2048.Idx) :
    (Value.G3 m c : S16x2048.Idx → EReal) i = (∑ κ, term (arr0 m c) (arr1 m c) i κ) + arr2 m c i := by
  have b0 : (i 0).val < 16 := (i 0).isLt
  have b1 : (i 1).val < 2048 := (i 1).isLt
  have hN : cfg0.N = 6 := N_0
  obtain ⟨q, hq⟩ : ∃ q, q = (i 1).val / 1024 := ⟨_, rfl⟩
  have hp : Value.pt3Of i = 3 * q + 2 := by
    show 3 * (2 * ((i 0).val / 16 - 0) + 1 * ((i 1).val / 1024 - 0)) + 2 = _
    omega
  have hlt : 3 * q + 2 < cfg0.N := by omega
  have h0 : (i 0).val = (Value.loc3Of i 0).val := by
    show (i 0).val = (i 0).val % 16
    omega
  have h1 : ∀ s, s < 3 → (i 1).val = (3 * q + s) / 3 * 1024 + (Value.loc3Of i 1).val := fun s hs => by
    show (i 1).val = (3 * q + s) / 3 * 1024 + (i 1).val % 1024
    omega
  unfold Value.G3
  simp only [hp]
  rw [dif_pos hlt, ← Value.outsAt0_sweep m c _ hlt]
  refine (congrFun (stored_C m c (3 * q + 1) hlt (by omega)) _).trans ?_
  refine congrArg₂ (· + ·) ?_ (blk2 m c ⟨3 * q + 2, hlt⟩ (Value.loc3Of i) i h0 (h1 2 (by decide)))
  rw [← Tiles.sum_tiles (J := 3) (TK := 1024) (K := 3072) (by decide), Fin.sum_univ_three]
  refine congrArg₂ (· + ·) ?_ (part_apply m c ⟨3 * q + 2, hlt⟩ (Value.loc3Of i) i 2 (by decide) (by dsimp only; omega) h0 (h1 2 (by decide)))
  refine (congrFun (scratch_B m c (3 * q) (by omega) (by omega) (by omega)) _).trans ?_
  refine congrArg₂ (· + ·) ?_ (part_apply m c ⟨3 * q + 1, by omega⟩ (Value.loc3Of i) i 1 (by decide) (by dsimp only; omega) h0 (h1 1 (by decide)))
  exact (congrFun (scratch_A m c ⟨3 * q, by omega⟩ (by dsimp only; omega)) _).trans
    (part_apply m c ⟨3 * q, by omega⟩ (Value.loc3Of i) i 0 (by decide) (by dsimp only; omega) h0 (h1 0 (by decide)))

end Cert.ModBAIdeal.Prod

namespace Cert.ModBARefIdeal.Prod

open Cert.ModBARefIdeal Cert.ModBARefIdeal.Gen Idealize.ShloMosaic Idealize.ShloMosaic.TcCoe Idealize.SL.Sem

/-- The reference's result: the same sum. -/
theorem result (x0 : S16x3072.Idx → EReal) (x1 : S2048x3072.Idx → EReal) (x2 : S16x2048.Idx → EReal) (i : S16x2048.Idx) :
    Read.val_main_v3 (F := Ideal) x0 x1 x2 i = (∑ κ : Fin 3072, x0 (ix2 (i 0) κ) * x1 (ix2 (i 1) κ)) + x2 i := by
  rw [Read.val_main_v3_apply, Read.val_main_v2_apply]
  refine (add_comm _ _).trans (congrArg (· + x2 i) ?_)
  refine Finset.sum_congr rfl fun k _ => congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

end Cert.ModBARefIdeal.Prod

namespace Cert

open Idealize.ShloMosaic Idealize.ShloMosaic.TcCoe Idealize.SL.Sem

theorem algebraic_mod_b_acc : Cert.algebraic_ModBAIdeal_ModBARefIdeal := by
  intro m g m' g' _ hm
  refine ⟨fun c => Cert.ModBAIdeal.Value.G3 m c, Cert.ModBAIdeal.Value.run m g, ?_⟩
  refine (θ_run Cert.ModBARefIdeal.defs _ _).mono (fun r h c => ⟨(h c).1.trans ?_, (h c).2⟩) (Cert.ModBARefIdeal.Value.run (F := Ideal) m' g')
  rw [(hm c).1, (hm c).2.1, (hm c).2.2]
  funext i
  exact (Cert.ModBARefIdeal.Prod.result _ _ _ i).trans (Cert.ModBAIdeal.Prod.result m c i).symm

end Cert

end
-- ==== Proof.SiluB.lean ====
/- The gradient of the condition's SiLU, element by element. -/
module

public import proofs.«01_k».proof.Defs
public import proofs.«01_k».proof.Proof.Gen.SiluBIdeal.Value
public import proofs.«01_k».proof.Proof.Gen.SiluBRefIdeal.Run
public import proofs.«01_k».proof.Proof.Gen.SiluBRefIdeal.Read
public import Idealize.ShloMosaic.Lib.Pointwise
public import Idealize.ShloMosaic.Lib.Pipeline.ValueKit

@[expose] public section

set_option maxRecDepth 16384

noncomputable section

namespace Cert.SiluBRefIdeal.Prod

open Cert.SiluBRefIdeal Cert.SiluBRefIdeal.Gen Idealize.ShloMosaic Idealize.ShloMosaic.TcCoe Idealize.SL.Sem

/-- The reference's quotient is the logistic function. -/
theorem sig (x : S16x2048.Idx → EReal) (i : S16x2048.Idx) : Read.val_main_v0_2 (F := Ideal) x i = Ideal.logistic (x i) := by
  unfold Read.val_main_v0_2 Read.val_main_call0_v4 Read.val_main_call0_cst_0 Read.val_main_call0_v3 Read.val_main_call0_v2 Read.val_main_call0_cst Read.val_main_call0_v1 Read.val_main_call0_v0 Ideal.logistic
  pointwise

theorem result (x d : S16x2048.Idx → EReal) (i : S16x2048.Idx) : Read.val_main_v1 (F := Ideal) x d i = Cert.SiluBIdeal.Value.G2 (F := Ideal) x d i := by
  rw [Read.val_main_v1_apply, Read.val_main_call1_v1_apply, Read.val_main_call1_v2_apply, Read.val_main_call1_v0_apply, Read.val_main_v0_1_apply,
    Read.val_main_call0_v7_apply, Read.val_main_call0_v6_apply, Read.val_main_call0_cst_1_apply, sig]
  rfl

end Cert.SiluBRefIdeal.Prod

namespace Cert

open Idealize.ShloMosaic Idealize.ShloMosaic.TcCoe Idealize.SL.Sem

theorem algebraic_silu_c_b : Cert.algebraic_SiluBIdeal_SiluBRefIdeal := by
  intro m g m' g' _ hm
  refine ⟨_, Cert.SiluBIdeal.Value.run (F := Ideal) m g, ?_⟩
  refine (θ_run Cert.SiluBRefIdeal.defs _ _).mono (fun r h c => ?_) (Cert.SiluBRefIdeal.Value.run (F := Ideal) m' g')
  have e := (h c).1.trans (Cert.SiluBRefIdeal.Read.val_main_v1_eq (F := Ideal) _ _)
  rw [(hm c).1, (hm c).2] at e
  exact ⟨e.trans (funext fun i => Cert.SiluBRefIdeal.Prod.result _ _ i), (h c).2⟩

end Cert

end
-- ==== Proof.AdMod.lean ====
/- The optimiser's step for w_mod: AdamW's update, first moment and second moment, element by element. -/
module

public import proofs.«01_k».proof.Defs
public import proofs.«01_k».proof.Proof.Gen.AdModIdeal.Value
public import proofs.«01_k».proof.Proof.Gen.AdModRefIdeal.Run
public import proofs.«01_k».proof.Proof.Gen.AdModRefIdeal.Read
public import Idealize.ShloMosaic.Lib.Pointwise

@[expose] public section

set_option maxRecDepth 16384

noncomputable section

namespace Cert.AdModRefIdeal.Prod

open Cert.AdModRefIdeal Cert.AdModRefIdeal.Gen Idealize.ShloMosaic Idealize.ShloMosaic.TcCoe Idealize.SL.Sem

variable (w g m v : S8192x3072.Idx → EReal)

/-- The reference's first moment is the kernel's. -/
theorem first (i : S8192x3072.Idx) : Read.val_main_v4 (F := Ideal) g m i = Cert.AdModIdeal.Value.G5 (F := Ideal) g m i := by
  simp only [Read.val_main_v4_apply, Read.val_main_v3_apply, Read.val_main_v2_apply, Read.val_main_cst_0_apply, Read.val_main_v1_apply, Read.val_main_v0_apply, Read.val_main_cst_apply]

/-- And so is the second. -/
theorem second (i : S8192x3072.Idx) : Read.val_main_v10 (F := Ideal) g v i = Cert.AdModIdeal.Value.G6 (F := Ideal) g v i := by
  simp only [Read.val_main_v10_apply, Read.val_main_v9_apply, Read.val_main_v8_apply, Read.val_main_cst_2_apply, Read.val_main_v7_apply, Read.val_main_v6_apply, Read.val_main_v5_apply, Read.val_main_cst_1_apply]

/-- And the update made of both. -/
theorem update (i : S8192x3072.Idx) : Read.val_main_v23 (F := Ideal) w g m v i = Cert.AdModIdeal.Value.G4 (F := Ideal) w g m v i := by
  simp only [Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, first, second, Read.val_main_cst_3_apply, Read.val_main_cst_4_apply, Read.val_main_cst_5_apply, Read.val_main_cst_6_apply, Read.val_main_cst_7_apply]
  rfl

end Cert.AdModRefIdeal.Prod

namespace Cert

open Idealize.ShloMosaic Idealize.ShloMosaic.TcCoe Idealize.SL.Sem

theorem algebraic_adamw_mod : Cert.algebraic_AdModIdeal_AdModRefIdeal := by
  intro m g m' g' _ hm
  refine ⟨_, _, _, Cert.AdModIdeal.Value.run (F := Ideal) m g, ?_⟩
  refine (θ_run Cert.AdModRefIdeal.defs _ _).mono (fun r h c => ?_) (Cert.AdModRefIdeal.Value.run (F := Ideal) m' g')
  obtain ⟨h0, h1, h2, h3⟩ := hm c
  have e4 := (h c).1.trans (Cert.AdModRefIdeal.Read.val_main_v23_eq (F := Ideal) _ _ _ _)
  have e5 := (h c).2.1.trans (Cert.AdModRefIdeal.Read.val_main_v4_eq (F := Ideal) _ _)
  have e6 := (h c).2.2.1.trans (Cert.AdModRefIdeal.Read.val_main_v10_eq (F := Ideal) _ _)
  rw [h0, h1, h2, h3] at e4
  rw [h1, h2] at e5
  rw [h1, h3] at e6
  exact ⟨e4.trans (funext fun i => Cert.AdModRefIdeal.Prod.update _ _ _ _ i), e5.trans (funext fun i => Cert.AdModRefIdeal.Prod.first _ _ i),
    e6.trans (funext fun i => Cert.AdModRefIdeal.Prod.second _ _ i), (h c).2.2.2⟩

end Cert

end
-- ==== Proof.AdIn.lean ====
/- The optimiser's step for w_in: AdamW's update, first moment and second moment, element by element. -/
module

public import proofs.«01_k».proof.Defs
public import proofs.«01_k».proof.Proof.Gen.AdInIdeal.Value
public import proofs.«01_k».proof.Proof.Gen.AdInRefIdeal.Run
public import proofs.«01_k».proof.Proof.Gen.AdInRefIdeal.Read
public import Idealize.ShloMosaic.Lib.Pointwise

@[expose] public section

set_option maxRecDepth 16384

noncomputable section

namespace Cert.AdInRefIdeal.Prod

open Cert.AdInRefIdeal Cert.AdInRefIdeal.Gen Idealize.ShloMosaic Idealize.ShloMosaic.TcCoe Idealize.SL.Sem

variable (w g m v : S8192x832.Idx → EReal)

/-- The reference's first moment is the kernel's. -/
theorem first (i : S8192x832.Idx) : Read.val_main_v4 (F := Ideal) g m i = Cert.AdInIdeal.Value.G5 (F := Ideal) g m i := by
  simp only [Read.val_main_v4_apply, Read.val_main_v3_apply, Read.val_main_v2_apply, Read.val_main_cst_0_apply, Read.val_main_v1_apply, Read.val_main_v0_apply, Read.val_main_cst_apply]

/-- And so is the second. -/
theorem second (i : S8192x832.Idx) : Read.val_main_v10 (F := Ideal) g v i = Cert.AdInIdeal.Value.G6 (F := Ideal) g v i := by
  simp only [Read.val_main_v10_apply, Read.val_main_v9_apply, Read.val_main_v8_apply, Read.val_main_cst_2_apply, Read.val_main_v7_apply, Read.val_main_v6_apply, Read.val_main_v5_apply, Read.val_main_cst_1_apply]

/-- And the update made of both. -/
theorem update (i : S8192x832.Idx) : Read.val_main_v23 (F := Ideal) w g m v i = Cert.AdInIdeal.Value.G4 (F := Ideal) w g m v i := by
  simp only [Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, first, second, Read.val_main_cst_3_apply, Read.val_main_cst_4_apply, Read.val_main_cst_5_apply, Read.val_main_cst_6_apply, Read.val_main_cst_7_apply]
  rfl

end Cert.AdInRefIdeal.Prod

namespace Cert

open Idealize.ShloMosaic Idealize.ShloMosaic.TcCoe Idealize.SL.Sem

theorem algebraic_adamw_in : Cert.algebraic_AdInIdeal_AdInRefIdeal := by
  intro m g m' g' _ hm
  refine ⟨_, _, _, Cert.AdInIdeal.Value.run (F := Ideal) m g, ?_⟩
  refine (θ_run Cert.AdInRefIdeal.defs _ _).mono (fun r h c => ?_) (Cert.AdInRefIdeal.Value.run (F := Ideal) m' g')
  obtain ⟨h0, h1, h2, h3⟩ := hm c
  have e4 := (h c).1.trans (Cert.AdInRefIdeal.Read.val_main_v23_eq (F := Ideal) _ _ _ _)
  have e5 := (h c).2.1.trans (Cert.AdInRefIdeal.Read.val_main_v4_eq (F := Ideal) _ _)
  have e6 := (h c).2.2.1.trans (Cert.AdInRefIdeal.Read.val_main_v10_eq (F := Ideal) _ _)
  rw [h0, h1, h2, h3] at e4
  rw [h1, h2] at e5
  rw [h1, h3] at e6
  exact ⟨e4.trans (funext fun i => Cert.AdInRefIdeal.Prod.update _ _ _ _ i), e5.trans (funext fun i => Cert.AdInRefIdeal.Prod.first _ _ i),
    e6.trans (funext fun i => Cert.AdInRefIdeal.Prod.second _ _ i), (h c).2.2.2⟩

end Cert

end
-- ==== Proof.AdGlu.lean ====
/- The optimiser's step for s5_w_glu: AdamW's update, first moment and second moment, element by element. -/
module

public import proofs.«01_k».proof.Defs
public import proofs.«01_k».proof.Proof.Gen.AdGluIdeal.Value
public import proofs.«01_k».proof.Proof.Gen.AdGluRefIdeal.Run
public import proofs.«01_k».proof.Proof.Gen.AdGluRefIdeal.Read
public import Idealize.ShloMosaic.Lib.Pointwise

@[expose] public section

set_option maxRecDepth 16384

noncomputable section

namespace Cert.AdGluRefIdeal.Prod

open Cert.AdGluRefIdeal Cert.AdGluRefIdeal.Gen Idealize.ShloMosaic Idealize.ShloMosaic.TcCoe Idealize.SL.Sem

variable (w g m v : S2048x256.Idx → EReal)

/-- The reference's first moment is the kernel's. -/
theorem first (i : S2048x256.Idx) : Read.val_main_v4 (F := Ideal) g m i = Cert.AdGluIdeal.Value.G5 (F := Ideal) g m i := by
  simp only [Read.val_main_v4_apply, Read.val_main_v3_apply, Read.val_main_v2_apply, Read.val_main_cst_0_apply, Read.val_main_v1_apply, Read.val_main_v0_apply, Read.val_main_cst_apply]

/-- And so is the second. -/
theorem second (i : S2048x256.Idx) : Read.val_main_v10 (F := Ideal) g v i = Cert.AdGluIdeal.Value.G6 (F := Ideal) g v i := by
  simp only [Read.val_main_v10_apply, Read.val_main_v9_apply, Read.val_main_v8_apply, Read.val_main_cst_2_apply, Read.val_main_v7_apply, Read.val_main_v6_apply, Read.val_main_v5_apply, Read.val_main_cst_1_apply]

/-- And the update made of both. -/
theorem update (i : S2048x256.Idx) : Read.val_main_v23 (F := Ideal) w g m v i = Cert.AdGluIdeal.Value.G4 (F := Ideal) w g m v i := by
  simp only [Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, first, second, Read.val_main_cst_3_apply, Read.val_main_cst_4_apply, Read.val_main_cst_5_apply, Read.val_main_cst_6_apply, Read.val_main_cst_7_apply]
  rfl

end Cert.AdGluRefIdeal.Prod

namespace Cert

open Idealize.ShloMosaic Idealize.ShloMosaic.TcCoe Idealize.SL.Sem

theorem algebraic_adamw_glu : Cert.algebraic_AdGluIdeal_AdGluRefIdeal := by
  intro m g m' g' _ hm
  refine ⟨_, _, _, Cert.AdGluIdeal.Value.run (F := Ideal) m g, ?_⟩
  refine (θ_run Cert.AdGluRefIdeal.defs _ _).mono (fun r h c => ?_) (Cert.AdGluRefIdeal.Value.run (F := Ideal) m' g')
  obtain ⟨h0, h1, h2, h3⟩ := hm c
  have e4 := (h c).1.trans (Cert.AdGluRefIdeal.Read.val_main_v23_eq (F := Ideal) _ _ _ _)
  have e5 := (h c).2.1.trans (Cert.AdGluRefIdeal.Read.val_main_v4_eq (F := Ideal) _ _)
  have e6 := (h c).2.2.1.trans (Cert.AdGluRefIdeal.Read.val_main_v10_eq (F := Ideal) _ _)
  rw [h0, h1, h2, h3] at e4
  rw [h1, h2] at e5
  rw [h1, h3] at e6
  exact ⟨e4.trans (funext fun i => Cert.AdGluRefIdeal.Prod.update _ _ _ _ i), e5.trans (funext fun i => Cert.AdGluRefIdeal.Prod.first _ _ i),
    e6.trans (funext fun i => Cert.AdGluRefIdeal.Prod.second _ _ i), (h c).2.2.2⟩

end Cert

end
-- ==== Proof.AdBr.lean ====
/- The optimiser's step for w_branch: AdamW's update, first moment and second moment, element by element. -/
module

public import proofs.«01_k».proof.Defs
public import proofs.«01_k».proof.Proof.Gen.AdBrIdeal.Value
public import proofs.«01_k».proof.Proof.Gen.AdBrRefIdeal.Run
public import proofs.«01_k».proof.Proof.Gen.AdBrRefIdeal.Read
public import Idealize.ShloMosaic.Lib.Pointwise

@[expose] public section

set_option maxRecDepth 16384

noncomputable section

namespace Cert.AdBrRefIdeal.Prod

open Cert.AdBrRefIdeal Cert.AdBrRefIdeal.Gen Idealize.ShloMosaic Idealize.ShloMosaic.TcCoe Idealize.SL.Sem

variable (w g m v : S8192x512.Idx → EReal)

/-- The reference's first moment is the kernel's. -/
theorem first (i : S8192x512.Idx) : Read.val_main_v4 (F := Ideal) g m i = Cert.AdBrIdeal.Value.G5 (F := Ideal) g m i := by
  simp only [Read.val_main_v4_apply, Read.val_main_v3_apply, Read.val_main_v2_apply, Read.val_main_cst_0_apply, Read.val_main_v1_apply, Read.val_main_v0_apply, Read.val_main_cst_apply]

/-- And so is the second. -/
theorem second (i : S8192x512.Idx) : Read.val_main_v10 (F := Ideal) g v i = Cert.AdBrIdeal.Value.G6 (F := Ideal) g v i := by
  simp only [Read.val_main_v10_apply, Read.val_main_v9_apply, Read.val_main_v8_apply, Read.val_main_cst_2_apply, Read.val_main_v7_apply, Read.val_main_v6_apply, Read.val_main_v5_apply, Read.val_main_cst_1_apply]

/-- And the update made of both. -/
theorem update (i : S8192x512.Idx) : Read.val_main_v23 (F := Ideal) w g m v i = Cert.AdBrIdeal.Value.G4 (F := Ideal) w g m v i := by
  simp only [Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, first, second, Read.val_main_cst_3_apply, Read.val_main_cst_4_apply, Read.val_main_cst_5_apply, Read.val_main_cst_6_apply, Read.val_main_cst_7_apply]
  rfl

end Cert.AdBrRefIdeal.Prod

namespace Cert

open Idealize.ShloMosaic Idealize.ShloMosaic.TcCoe Idealize.SL.Sem

theorem algebraic_adamw_branch : Cert.algebraic_AdBrIdeal_AdBrRefIdeal := by
  intro m g m' g' _ hm
  refine ⟨_, _, _, Cert.AdBrIdeal.Value.run (F := Ideal) m g, ?_⟩
  refine (θ_run Cert.AdBrRefIdeal.defs _ _).mono (fun r h c => ?_) (Cert.AdBrRefIdeal.Value.run (F := Ideal) m' g')
  obtain ⟨h0, h1, h2, h3⟩ := hm c
  have e4 := (h c).1.trans (Cert.AdBrRefIdeal.Read.val_main_v23_eq (F := Ideal) _ _ _ _)
  have e5 := (h c).2.1.trans (Cert.AdBrRefIdeal.Read.val_main_v4_eq (F := Ideal) _ _)
  have e6 := (h c).2.2.1.trans (Cert.AdBrRefIdeal.Read.val_main_v10_eq (F := Ideal) _ _)
  rw [h0, h1, h2, h3] at e4
  rw [h1, h2] at e5
  rw [h1, h3] at e6
  exact ⟨e4.trans (funext fun i => Cert.AdBrRefIdeal.Prod.update _ _ _ _ i), e5.trans (funext fun i => Cert.AdBrRefIdeal.Prod.first _ _ i),
    e6.trans (funext fun i => Cert.AdBrRefIdeal.Prod.second _ _ i), (h c).2.2.2⟩

end Cert

end
-- ==== Proof.AdFf.lean ====
/- The optimiser's step for w_gate, w_ff1 and w_ff2: AdamW's update, first moment and second moment, element by element. -/
module

public import proofs.«01_k».proof.Defs
public import proofs.«01_k».proof.Proof.Gen.AdFfIdeal.Value
public import proofs.«01_k».proof.Proof.Gen.AdFfRefIdeal.Run
public import proofs.«01_k».proof.Proof.Gen.AdFfRefIdeal.Read
public import Idealize.ShloMosaic.Lib.Pointwise

@[expose] public section

set_option maxRecDepth 16384

noncomputable section

namespace Cert.AdFfRefIdeal.Prod

open Cert.AdFfRefIdeal Cert.AdFfRefIdeal.Gen Idealize.ShloMosaic Idealize.ShloMosaic.TcCoe Idealize.SL.Sem

variable (w g m v : S8192x2048.Idx → EReal)

/-- The reference's first moment is the kernel's. -/
theorem first (i : S8192x2048.Idx) : Read.val_main_v4 (F := Ideal) g m i = Cert.AdFfIdeal.Value.G5 (F := Ideal) g m i := by
  simp only [Read.val_main_v4_apply, Read.val_main_v3_apply, Read.val_main_v2_apply, Read.val_main_cst_0_apply, Read.val_main_v1_apply, Read.val_main_v0_apply, Read.val_main_cst_apply]

/-- And so is the second. -/
theorem second (i : S8192x2048.Idx) : Read.val_main_v10 (F := Ideal) g v i = Cert.AdFfIdeal.Value.G6 (F := Ideal) g v i := by
  simp only [Read.val_main_v10_apply, Read.val_main_v9_apply, Read.val_main_v8_apply, Read.val_main_cst_2_apply, Read.val_main_v7_apply, Read.val_main_v6_apply, Read.val_main_v5_apply, Read.val_main_cst_1_apply]

/-- And the update made of both. -/
theorem update (i : S8192x2048.Idx) : Read.val_main_v23 (F := Ideal) w g m v i = Cert.AdFfIdeal.Value.G4 (F := Ideal) w g m v i := by
  simp only [Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, first, second, Read.val_main_cst_3_apply, Read.val_main_cst_4_apply, Read.val_main_cst_5_apply, Read.val_main_cst_6_apply, Read.val_main_cst_7_apply]
  rfl

end Cert.AdFfRefIdeal.Prod

namespace Cert

open Idealize.ShloMosaic Idealize.ShloMosaic.TcCoe Idealize.SL.Sem

theorem algebraic_adamw_ff : Cert.algebraic_AdFfIdeal_AdFfRefIdeal := by
  intro m g m' g' _ hm
  refine ⟨_, _, _, Cert.AdFfIdeal.Value.run (F := Ideal) m g, ?_⟩
  refine (θ_run Cert.AdFfRefIdeal.defs _ _).mono (fun r h c => ?_) (Cert.AdFfRefIdeal.Value.run (F := Ideal) m' g')
  obtain ⟨h0, h1, h2, h3⟩ := hm c
  have e4 := (h c).1.trans (Cert.AdFfRefIdeal.Read.val_main_v23_eq (F := Ideal) _ _ _ _)
  have e5 := (h c).2.1.trans (Cert.AdFfRefIdeal.Read.val_main_v4_eq (F := Ideal) _ _)
  have e6 := (h c).2.2.1.trans (Cert.AdFfRefIdeal.Read.val_main_v10_eq (F := Ideal) _ _)
  rw [h0, h1, h2, h3] at e4
  rw [h1, h2] at e5
  rw [h1, h3] at e6
  exact ⟨e4.trans (funext fun i => Cert.AdFfRefIdeal.Prod.update _ _ _ _ i), e5.trans (funext fun i => Cert.AdFfRefIdeal.Prod.first _ _ i),
    e6.trans (funext fun i => Cert.AdFfRefIdeal.Prod.second _ _ i), (h c).2.2.2⟩

end Cert

end
-- ==== Proof.AdOut.lean ====
/- The optimiser's step for w_out: AdamW's update, first moment and second moment, element by element. -/
module

public import proofs.«01_k».proof.Defs
public import proofs.«01_k».proof.Proof.Gen.AdOutIdeal.Value
public import proofs.«01_k».proof.Proof.Gen.AdOutRefIdeal.Run
public import proofs.«01_k».proof.Proof.Gen.AdOutRefIdeal.Read
public import Idealize.ShloMosaic.Lib.Pointwise

@[expose] public section

set_option maxRecDepth 16384

noncomputable section

namespace Cert.AdOutRefIdeal.Prod

open Cert.AdOutRefIdeal Cert.AdOutRefIdeal.Gen Idealize.ShloMosaic Idealize.ShloMosaic.TcCoe Idealize.SL.Sem

variable (w g m v : S2048x2048.Idx → EReal)

/-- The reference's first moment is the kernel's. -/
theorem first (i : S2048x2048.Idx) : Read.val_main_v4 (F := Ideal) g m i = Cert.AdOutIdeal.Value.G5 (F := Ideal) g m i := by
  simp only [Read.val_main_v4_apply, Read.val_main_v3_apply, Read.val_main_v2_apply, Read.val_main_cst_0_apply, Read.val_main_v1_apply, Read.val_main_v0_apply, Read.val_main_cst_apply]

/-- And so is the second. -/
theorem second (i : S2048x2048.Idx) : Read.val_main_v10 (F := Ideal) g v i = Cert.AdOutIdeal.Value.G6 (F := Ideal) g v i := by
  simp only [Read.val_main_v10_apply, Read.val_main_v9_apply, Read.val_main_v8_apply, Read.val_main_cst_2_apply, Read.val_main_v7_apply, Read.val_main_v6_apply, Read.val_main_v5_apply, Read.val_main_cst_1_apply]

/-- And the update made of both. -/
theorem update (i : S2048x2048.Idx) : Read.val_main_v23 (F := Ideal) w g m v i = Cert.AdOutIdeal.Value.G4 (F := Ideal) w g m v i := by
  simp only [Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, first, second, Read.val_main_cst_3_apply, Read.val_main_cst_4_apply, Read.val_main_cst_5_apply, Read.val_main_cst_6_apply, Read.val_main_cst_7_apply]
  rfl

end Cert.AdOutRefIdeal.Prod

namespace Cert

open Idealize.ShloMosaic Idealize.ShloMosaic.TcCoe Idealize.SL.Sem

theorem algebraic_adamw_out : Cert.algebraic_AdOutIdeal_AdOutRefIdeal := by
  intro m g m' g' _ hm
  refine ⟨_, _, _, Cert.AdOutIdeal.Value.run (F := Ideal) m g, ?_⟩
  refine (θ_run Cert.AdOutRefIdeal.defs _ _).mono (fun r h c => ?_) (Cert.AdOutRefIdeal.Value.run (F := Ideal) m' g')
  obtain ⟨h0, h1, h2, h3⟩ := hm c
  have e4 := (h c).1.trans (Cert.AdOutRefIdeal.Read.val_main_v23_eq (F := Ideal) _ _ _ _)
  have e5 := (h c).2.1.trans (Cert.AdOutRefIdeal.Read.val_main_v4_eq (F := Ideal) _ _)
  have e6 := (h c).2.2.1.trans (Cert.AdOutRefIdeal.Read.val_main_v10_eq (F := Ideal) _ _)
  rw [h0, h1, h2, h3] at e4
  rw [h1, h2] at e5
  rw [h1, h3] at e6
  exact ⟨e4.trans (funext fun i => Cert.AdOutRefIdeal.Prod.update _ _ _ _ i), e5.trans (funext fun i => Cert.AdOutRefIdeal.Prod.first _ _ i),
    e6.trans (funext fun i => Cert.AdOutRefIdeal.Prod.second _ _ i), (h c).2.2.2⟩

end Cert

end
-- ==== Proof.lean ====
module

public import proofs.«01_k».proof.Defs
public import proofs.«01_k».proof.Proof.Frames
public import proofs.«01_k».proof.Proof.MergeB
public import proofs.«01_k».proof.Proof.MergeBRef
public import proofs.«01_k».proof.Proof.Ff2B
public import proofs.«01_k».proof.Proof.Ff2W
public import proofs.«01_k».proof.Proof.Ff1B
public import proofs.«01_k».proof.Proof.Ff1W
public import proofs.«01_k».proof.Proof.GateW
public import proofs.«01_k».proof.Proof.GateB
public import proofs.«01_k».proof.Proof.GmlpBRef
public import proofs.«01_k».proof.Proof.OutB
public import proofs.«01_k».proof.Proof.OutW
public import proofs.«01_k».proof.Proof.BranchB
public import proofs.«01_k».proof.Proof.BranchW
public import proofs.«01_k».proof.Proof.InB
public import proofs.«01_k».proof.Proof.InW
public import proofs.«01_k».proof.Proof.ConvLnBRef
public import proofs.«01_k».proof.Proof.S5GluB
public import proofs.«01_k».proof.Proof.S5ActB
public import proofs.«01_k».proof.Proof.InP
public import proofs.«01_k».proof.Proof.GateP
public import proofs.«01_k».proof.Proof.BranchP
public import proofs.«01_k».proof.Proof.OutP
public import proofs.«01_k».proof.Proof.Ff1P
public import proofs.«01_k».proof.Proof.Ff2P
public import proofs.«01_k».proof.Proof.GluP
public import proofs.«01_k».proof.Proof.GluPB
public import proofs.«01_k».proof.Proof.GluPW
public import proofs.«01_k».proof.Proof.MergeP
public import proofs.«01_k».proof.Proof.S5ActP
public import proofs.«01_k».proof.Proof.S5GluP
public import proofs.«01_k».proof.Proof.Norm1P
public import proofs.«01_k».proof.Proof.ResidP
public import proofs.«01_k».proof.Proof.GmlpP
public import proofs.«01_k».proof.Proof.S5InP
public import proofs.«01_k».proof.Proof.S5OutP
public import proofs.«01_k».proof.Proof.S5OutA
public import proofs.«01_k».proof.Proof.S5OutB
public import proofs.«01_k».proof.Proof.S5OutW
public import proofs.«01_k».proof.Proof.S5InB
public import proofs.«01_k».proof.Proof.S5InW
public import proofs.«01_k».proof.Proof.ConvF
public import proofs.«01_k».proof.Proof.SiluP
public import proofs.«01_k».proof.Proof.ModP
public import proofs.«01_k».proof.Proof.ModW
public import proofs.«01_k».proof.Proof.ModBG
public import proofs.«01_k».proof.Proof.ModB
public import proofs.«01_k».proof.Proof.ModBA
public import proofs.«01_k».proof.Proof.SiluB
public import proofs.«01_k».proof.Proof.AdMod
public import proofs.«01_k».proof.Proof.AdIn
public import proofs.«01_k».proof.Proof.AdGlu
public import proofs.«01_k».proof.Proof.AdBr
public import proofs.«01_k».proof.Proof.AdFf
public import proofs.«01_k».proof.Proof.AdOut
public import proofs.«01_k».proof.Proof.Gen.MergeB
public import proofs.«01_k».proof.Proof.Gen.MergeB.Frame
public import proofs.«01_k».proof.Proof.Gen.Ff2B
public import proofs.«01_k».proof.Proof.Gen.Ff2B.Frame
public import proofs.«01_k».proof.Proof.Gen.Ff2W
public import proofs.«01_k».proof.Proof.Gen.Ff2W.Frame
public import proofs.«01_k».proof.Proof.Gen.Ff1B
public import proofs.«01_k».proof.Proof.Gen.Ff1B.Frame
public import proofs.«01_k».proof.Proof.Gen.Ff1W
public import proofs.«01_k».proof.Proof.Gen.Ff1W.Frame
public import proofs.«01_k».proof.Proof.Gen.GateW
public import proofs.«01_k».proof.Proof.Gen.GateW.Frame
public import proofs.«01_k».proof.Proof.Gen.GateB
public import proofs.«01_k».proof.Proof.Gen.GateB.Frame
public import proofs.«01_k».proof.Proof.Gen.GmlpB
public import proofs.«01_k».proof.Proof.Gen.GmlpB.Frame
public import proofs.«01_k».proof.Proof.Gen.OutB
public import proofs.«01_k».proof.Proof.Gen.OutB.Frame
public import proofs.«01_k».proof.Proof.Gen.OutW
public import proofs.«01_k».proof.Proof.Gen.OutW.Frame
public import proofs.«01_k».proof.Proof.Gen.BranchB
public import proofs.«01_k».proof.Proof.Gen.BranchB.Frame
public import proofs.«01_k».proof.Proof.Gen.BranchW
public import proofs.«01_k».proof.Proof.Gen.BranchW.Frame
public import proofs.«01_k».proof.Proof.Gen.InB
public import proofs.«01_k».proof.Proof.Gen.InB.Frame
public import proofs.«01_k».proof.Proof.Gen.InW
public import proofs.«01_k».proof.Proof.Gen.InW.Frame
public import proofs.«01_k».proof.Proof.Gen.ConvLnB
public import proofs.«01_k».proof.Proof.Gen.ConvLnB.Frame
public import proofs.«01_k».proof.Proof.Gen.S5GluB
public import proofs.«01_k».proof.Proof.Gen.S5GluB.Frame
public import proofs.«01_k».proof.Proof.Gen.S5ActB
public import proofs.«01_k».proof.Proof.Gen.S5ActB.Frame
public import proofs.«01_k».proof.Proof.Gen.InP
public import proofs.«01_k».proof.Proof.Gen.InP.Frame
public import proofs.«01_k».proof.Proof.Gen.GateP
public import proofs.«01_k».proof.Proof.Gen.GateP.Frame
public import proofs.«01_k».proof.Proof.Gen.BranchP
public import proofs.«01_k».proof.Proof.Gen.BranchP.Frame
public import proofs.«01_k».proof.Proof.Gen.OutP
public import proofs.«01_k».proof.Proof.Gen.OutP.Frame
public import proofs.«01_k».proof.Proof.Gen.Ff1P
public import proofs.«01_k».proof.Proof.Gen.Ff1P.Frame
public import proofs.«01_k».proof.Proof.Gen.Ff2P
public import proofs.«01_k».proof.Proof.Gen.Ff2P.Frame
public import proofs.«01_k».proof.Proof.Gen.GluP
public import proofs.«01_k».proof.Proof.Gen.GluP.Frame
public import proofs.«01_k».proof.Proof.Gen.GluPB
public import proofs.«01_k».proof.Proof.Gen.GluPB.Frame
public import proofs.«01_k».proof.Proof.Gen.GluPW
public import proofs.«01_k».proof.Proof.Gen.GluPW.Frame
public import proofs.«01_k».proof.Proof.Gen.MergeP
public import proofs.«01_k».proof.Proof.Gen.MergeP.Frame
public import proofs.«01_k».proof.Proof.Gen.S5ActP
public import proofs.«01_k».proof.Proof.Gen.S5ActP.Frame
public import proofs.«01_k».proof.Proof.Gen.S5GluP
public import proofs.«01_k».proof.Proof.Gen.S5GluP.Frame
public import proofs.«01_k».proof.Proof.Gen.Norm1P
public import proofs.«01_k».proof.Proof.Gen.Norm1P.Frame
public import proofs.«01_k».proof.Proof.Gen.ResidP
public import proofs.«01_k».proof.Proof.Gen.ResidP.Frame
public import proofs.«01_k».proof.Proof.Gen.GmlpP
public import proofs.«01_k».proof.Proof.Gen.GmlpP.Frame
public import proofs.«01_k».proof.Proof.Gen.S5InP
public import proofs.«01_k».proof.Proof.Gen.S5InP.Frame
public import proofs.«01_k».proof.Proof.Gen.S5OutP
public import proofs.«01_k».proof.Proof.Gen.S5OutP.Frame
public import proofs.«01_k».proof.Proof.Gen.S5OutA
public import proofs.«01_k».proof.Proof.Gen.S5OutA.Frame
public import proofs.«01_k».proof.Proof.Gen.S5OutB
public import proofs.«01_k».proof.Proof.Gen.S5OutB.Frame
public import proofs.«01_k».proof.Proof.Gen.S5OutW
public import proofs.«01_k».proof.Proof.Gen.S5OutW.Frame
public import proofs.«01_k».proof.Proof.Gen.S5InB
public import proofs.«01_k».proof.Proof.Gen.S5InB.Frame
public import proofs.«01_k».proof.Proof.Gen.S5InW
public import proofs.«01_k».proof.Proof.Gen.S5InW.Frame
public import proofs.«01_k».proof.Proof.Gen.ConvF
public import proofs.«01_k».proof.Proof.Gen.ConvF.Frame
public import proofs.«01_k».proof.Proof.Gen.SiluP
public import proofs.«01_k».proof.Proof.Gen.SiluP.Frame
public import proofs.«01_k».proof.Proof.Gen.ModP
public import proofs.«01_k».proof.Proof.Gen.ModP.Frame
public import proofs.«01_k».proof.Proof.Gen.ModW
public import proofs.«01_k».proof.Proof.Gen.ModW.Frame
public import proofs.«01_k».proof.Proof.Gen.ModBG
public import proofs.«01_k».proof.Proof.Gen.ModBG.Frame
public import proofs.«01_k».proof.Proof.Gen.ModB
public import proofs.«01_k».proof.Proof.Gen.ModB.Frame
public import proofs.«01_k».proof.Proof.Gen.ModBA
public import proofs.«01_k».proof.Proof.Gen.ModBA.Frame
public import proofs.«01_k».proof.Proof.Gen.SiluB
public import proofs.«01_k».proof.Proof.Gen.SiluB.Frame
public import proofs.«01_k».proof.Proof.Gen.AdMod
public import proofs.«01_k».proof.Proof.Gen.AdMod.Frame
public import proofs.«01_k».proof.Proof.Gen.AdIn
public import proofs.«01_k».proof.Proof.Gen.AdIn.Frame
public import proofs.«01_k».proof.Proof.Gen.AdGlu
public import proofs.«01_k».proof.Proof.Gen.AdGlu.Frame
public import proofs.«01_k».proof.Proof.Gen.AdBr
public import proofs.«01_k».proof.Proof.Gen.AdBr.Frame
public import proofs.«01_k».proof.Proof.Gen.AdFf
public import proofs.«01_k».proof.Proof.Gen.AdFf.Frame
public import proofs.«01_k».proof.Proof.Gen.AdOut
public import proofs.«01_k».proof.Proof.Gen.AdOut.Frame
public import proofs.«01_k».proof.Proof.Gen.MergeBIdeal.Value
public import proofs.«01_k».proof.Proof.Gen.MergeBRefIdeal.Run
public import proofs.«01_k».proof.Proof.Gen.MergeBRefIdeal.Read

public import proofs.«01_k».proof.Proof.Gen.Ff2BIdeal.Value
public import proofs.«01_k».proof.Proof.Gen.Ff2BRefIdeal.Run
public import proofs.«01_k».proof.Proof.Gen.Ff2BRefIdeal.Read

public import proofs.«01_k».proof.Proof.Gen.Ff2WIdeal.Value
public import proofs.«01_k».proof.Proof.Gen.Ff2WRefIdeal.Run
public import proofs.«01_k».proof.Proof.Gen.Ff2WRefIdeal.Read

public import proofs.«01_k».proof.Proof.Gen.Ff1BIdeal.Value
public import proofs.«01_k».proof.Proof.Gen.Ff1BRefIdeal.Run
public import proofs.«01_k».proof.Proof.Gen.Ff1BRefIdeal.Read

public import proofs.«01_k».proof.Proof.Gen.Ff1WIdeal.Value
public import proofs.«01_k».proof.Proof.Gen.Ff1WRefIdeal.Run
public import proofs.«01_k».proof.Proof.Gen.Ff1WRefIdeal.Read

public import proofs.«01_k».proof.Proof.Gen.GateWIdeal.Value
public import proofs.«01_k».proof.Proof.Gen.GateWRefIdeal.Run
public import proofs.«01_k».proof.Proof.Gen.GateWRefIdeal.Read

public import proofs.«01_k».proof.Proof.Gen.GateBIdeal.Value
public import proofs.«01_k».proof.Proof.Gen.GateBRefIdeal.Run
public import proofs.«01_k».proof.Proof.Gen.GateBRefIdeal.Read

public import proofs.«01_k».proof.Proof.Gen.GmlpBIdeal.Value
public import proofs.«01_k».proof.Proof.Gen.GmlpBRefIdeal.Run
public import proofs.«01_k».proof.Proof.Gen.GmlpBRefIdeal.Read

public import proofs.«01_k».proof.Proof.Gen.OutBIdeal.Value
public import proofs.«01_k».proof.Proof.Gen.OutBRefIdeal.Run
public import proofs.«01_k».proof.Proof.Gen.OutBRefIdeal.Read

public import proofs.«01_k».proof.Proof.Gen.OutWIdeal.Value
public import proofs.«01_k».proof.Proof.Gen.OutWRefIdeal.Run
public import proofs.«01_k».proof.Proof.Gen.OutWRefIdeal.Read

public import proofs.«01_k».proof.Proof.Gen.BranchBIdeal.Value
public import proofs.«01_k».proof.Proof.Gen.BranchBRefIdeal.Run
public import proofs.«01_k».proof.Proof.Gen.BranchBRefIdeal.Read

public import proofs.«01_k».proof.Proof.Gen.BranchWIdeal.Value
public import proofs.«01_k».proof.Proof.Gen.BranchWRefIdeal.Run
public import proofs.«01_k».proof.Proof.Gen.BranchWRefIdeal.Read

public import proofs.«01_k».proof.Proof.Gen.InBIdeal.Value
public import proofs.«01_k».proof.Proof.Gen.InBRefIdeal.Run
public import proofs.«01_k».proof.Proof.Gen.InBRefIdeal.Read

public import proofs.«01_k».proof.Proof.Gen.InWIdeal.Value
public import proofs.«01_k».proof.Proof.Gen.InWRefIdeal.Run
public import proofs.«01_k».proof.Proof.Gen.InWRefIdeal.Read

public import proofs.«01_k».proof.Proof.Gen.ConvLnBIdeal.Value
public import proofs.«01_k».proof.Proof.Gen.ConvLnBRefIdeal.Run
public import proofs.«01_k».proof.Proof.Gen.ConvLnBRefIdeal.Read

public import proofs.«01_k».proof.Proof.Gen.S5GluBIdeal.Value
public import proofs.«01_k».proof.Proof.Gen.S5GluBRefIdeal.Run
public import proofs.«01_k».proof.Proof.Gen.S5GluBRefIdeal.Read

public import proofs.«01_k».proof.Proof.Gen.S5ActBIdeal.Value
public import proofs.«01_k».proof.Proof.Gen.S5ActBRefIdeal.Run
public import proofs.«01_k».proof.Proof.Gen.S5ActBRefIdeal.Read

public import proofs.«01_k».proof.Proof.Gen.InPIdeal.Value
public import proofs.«01_k».proof.Proof.Gen.InPRefIdeal.Run
public import proofs.«01_k».proof.Proof.Gen.InPRefIdeal.Read

public import proofs.«01_k».proof.Proof.Gen.GatePIdeal.Value
public import proofs.«01_k».proof.Proof.Gen.GatePRefIdeal.Run
public import proofs.«01_k».proof.Proof.Gen.GatePRefIdeal.Read

public import proofs.«01_k».proof.Proof.Gen.BranchPIdeal.Value
public import proofs.«01_k».proof.Proof.Gen.BranchPRefIdeal.Run
public import proofs.«01_k».proof.Proof.Gen.BranchPRefIdeal.Read

public import proofs.«01_k».proof.Proof.Gen.OutPIdeal.Value
public import proofs.«01_k».proof.Proof.Gen.OutPRefIdeal.Run
public import proofs.«01_k».proof.Proof.Gen.OutPRefIdeal.Read

public import proofs.«01_k».proof.Proof.Gen.Ff1PIdeal.Value
public import proofs.«01_k».proof.Proof.Gen.Ff1PRefIdeal.Run
public import proofs.«01_k».proof.Proof.Gen.Ff1PRefIdeal.Read

public import proofs.«01_k».proof.Proof.Gen.Ff2PIdeal.Value
public import proofs.«01_k».proof.Proof.Gen.Ff2PRefIdeal.Run
public import proofs.«01_k».proof.Proof.Gen.Ff2PRefIdeal.Read

public import proofs.«01_k».proof.Proof.Gen.GluPIdeal.Value
public import proofs.«01_k».proof.Proof.Gen.GluPRefIdeal.Run
public import proofs.«01_k».proof.Proof.Gen.GluPRefIdeal.Read

public import proofs.«01_k».proof.Proof.Gen.GluPBIdeal.Value
public import proofs.«01_k».proof.Proof.Gen.GluPBRefIdeal.Run
public import proofs.«01_k».proof.Proof.Gen.GluPBRefIdeal.Read

public import proofs.«01_k».proof.Proof.Gen.GluPWIdeal.Value
public import proofs.«01_k».proof.Proof.Gen.GluPWRefIdeal.Run
public import proofs.«01_k».proof.Proof.Gen.GluPWRefIdeal.Read

public import proofs.«01_k».proof.Proof.Gen.MergePIdeal.Value
public import proofs.«01_k».proof.Proof.Gen.MergePRefIdeal.Run
public import proofs.«01_k».proof.Proof.Gen.MergePRefIdeal.Read

public import proofs.«01_k».proof.Proof.Gen.S5ActPIdeal.Value
public import proofs.«01_k».proof.Proof.Gen.S5ActPRefIdeal.Run
public import proofs.«01_k».proof.Proof.Gen.S5ActPRefIdeal.Read

public import proofs.«01_k».proof.Proof.Gen.S5GluPIdeal.Value
public import proofs.«01_k».proof.Proof.Gen.S5GluPRefIdeal.Run
public import proofs.«01_k».proof.Proof.Gen.S5GluPRefIdeal.Read

public import proofs.«01_k».proof.Proof.Gen.Norm1PIdeal.Value
public import proofs.«01_k».proof.Proof.Gen.Norm1PRefIdeal.Run
public import proofs.«01_k».proof.Proof.Gen.Norm1PRefIdeal.Read

public import proofs.«01_k».proof.Proof.Gen.ResidPIdeal.Value
public import proofs.«01_k».proof.Proof.Gen.ResidPRefIdeal.Run
public import proofs.«01_k».proof.Proof.Gen.ResidPRefIdeal.Read

public import proofs.«01_k».proof.Proof.Gen.GmlpPIdeal.Value
public import proofs.«01_k».proof.Proof.Gen.GmlpPRefIdeal.Run
public import proofs.«01_k».proof.Proof.Gen.GmlpPRefIdeal.Read

public import proofs.«01_k».proof.Proof.Gen.S5InPIdeal.Value
public import proofs.«01_k».proof.Proof.Gen.S5InPRefIdeal.Run
public import proofs.«01_k».proof.Proof.Gen.S5InPRefIdeal.Read

public import proofs.«01_k».proof.Proof.Gen.S5OutPIdeal.Value
public import proofs.«01_k».proof.Proof.Gen.S5OutPRefIdeal.Run
public import proofs.«01_k».proof.Proof.Gen.S5OutPRefIdeal.Read

public import proofs.«01_k».proof.Proof.Gen.S5OutAIdeal.Value
public import proofs.«01_k».proof.Proof.Gen.S5OutARefIdeal.Run
public import proofs.«01_k».proof.Proof.Gen.S5OutARefIdeal.Read

public import proofs.«01_k».proof.Proof.Gen.S5OutBIdeal.Value
public import proofs.«01_k».proof.Proof.Gen.S5OutBRefIdeal.Run
public import proofs.«01_k».proof.Proof.Gen.S5OutBRefIdeal.Read

public import proofs.«01_k».proof.Proof.Gen.S5OutWIdeal.Value
public import proofs.«01_k».proof.Proof.Gen.S5OutWRefIdeal.Run
public import proofs.«01_k».proof.Proof.Gen.S5OutWRefIdeal.Read

public import proofs.«01_k».proof.Proof.Gen.S5InBIdeal.Value
public import proofs.«01_k».proof.Proof.Gen.S5InBRefIdeal.Run
public import proofs.«01_k».proof.Proof.Gen.S5InBRefIdeal.Read

public import proofs.«01_k».proof.Proof.Gen.S5InWIdeal.Value
public import proofs.«01_k».proof.Proof.Gen.S5InWRefIdeal.Run
public import proofs.«01_k».proof.Proof.Gen.S5InWRefIdeal.Read

public import proofs.«01_k».proof.Proof.Gen.ConvFIdeal.Value
public import proofs.«01_k».proof.Proof.Gen.ConvFRefIdeal.Run
public import proofs.«01_k».proof.Proof.Gen.ConvFRefIdeal.Read

public import proofs.«01_k».proof.Proof.Gen.SiluPIdeal.Value
public import proofs.«01_k».proof.Proof.Gen.SiluPRefIdeal.Run
public import proofs.«01_k».proof.Proof.Gen.SiluPRefIdeal.Read

public import proofs.«01_k».proof.Proof.Gen.ModPIdeal.Value
public import proofs.«01_k».proof.Proof.Gen.ModPRefIdeal.Run
public import proofs.«01_k».proof.Proof.Gen.ModPRefIdeal.Read

public import proofs.«01_k».proof.Proof.Gen.ModWIdeal.Value
public import proofs.«01_k».proof.Proof.Gen.ModWRefIdeal.Run
public import proofs.«01_k».proof.Proof.Gen.ModWRefIdeal.Read

public import proofs.«01_k».proof.Proof.Gen.ModBGIdeal.Value
public import proofs.«01_k».proof.Proof.Gen.ModBGRefIdeal.Run
public import proofs.«01_k».proof.Proof.Gen.ModBGRefIdeal.Read

public import proofs.«01_k».proof.Proof.Gen.ModBIdeal.Value
public import proofs.«01_k».proof.Proof.Gen.ModBRefIdeal.Run
public import proofs.«01_k».proof.Proof.Gen.ModBRefIdeal.Read

public import proofs.«01_k».proof.Proof.Gen.ModBAIdeal.Value
public import proofs.«01_k».proof.Proof.Gen.ModBARefIdeal.Run
public import proofs.«01_k».proof.Proof.Gen.ModBARefIdeal.Read

public import proofs.«01_k».proof.Proof.Gen.SiluBIdeal.Value
public import proofs.«01_k».proof.Proof.Gen.SiluBRefIdeal.Run
public import proofs.«01_k».proof.Proof.Gen.SiluBRefIdeal.Read

public import proofs.«01_k».proof.Proof.Gen.AdModIdeal.Value
public import proofs.«01_k».proof.Proof.Gen.AdModRefIdeal.Run
public import proofs.«01_k».proof.Proof.Gen.AdModRefIdeal.Read

public import proofs.«01_k».proof.Proof.Gen.AdInIdeal.Value
public import proofs.«01_k».proof.Proof.Gen.AdInRefIdeal.Run
public import proofs.«01_k».proof.Proof.Gen.AdInRefIdeal.Read

public import proofs.«01_k».proof.Proof.Gen.AdGluIdeal.Value
public import proofs.«01_k».proof.Proof.Gen.AdGluRefIdeal.Run
public import proofs.«01_k».proof.Proof.Gen.AdGluRefIdeal.Read

public import proofs.«01_k».proof.Proof.Gen.AdBrIdeal.Value
public import proofs.«01_k».proof.Proof.Gen.AdBrRefIdeal.Run
public import proofs.«01_k».proof.Proof.Gen.AdBrRefIdeal.Read

public import proofs.«01_k».proof.Proof.Gen.AdFfIdeal.Value
public import proofs.«01_k».proof.Proof.Gen.AdFfRefIdeal.Run
public import proofs.«01_k».proof.Proof.Gen.AdFfRefIdeal.Read

public import proofs.«01_k».proof.Proof.Gen.AdOutIdeal.Value
public import proofs.«01_k».proof.Proof.Gen.AdOutRefIdeal.Run
public import proofs.«01_k».proof.Proof.Gen.AdOutRefIdeal.Read

@[expose] public section

noncomputable section

namespace Cert.Proof

theorem claim : Cert.Claim :=
  ⟨Cert.MergeB.Gen.facts, Cert.MergeBIdeal.Gen.facts, Cert.MergeBRefIdeal.Gen.facts, Cert.Ff2B.Gen.facts, Cert.Ff2BIdeal.Gen.facts, Cert.Ff2BRefIdeal.Gen.facts, Cert.Ff2W.Gen.facts, Cert.Ff2WIdeal.Gen.facts, Cert.Ff2WRefIdeal.Gen.facts, Cert.Ff1B.Gen.facts, Cert.Ff1BIdeal.Gen.facts, Cert.Ff1BRefIdeal.Gen.facts, Cert.Ff1W.Gen.facts, Cert.Ff1WIdeal.Gen.facts, Cert.Ff1WRefIdeal.Gen.facts, Cert.GateW.Gen.facts, Cert.GateWIdeal.Gen.facts, Cert.GateWRefIdeal.Gen.facts, Cert.GateB.Gen.facts, Cert.GateBIdeal.Gen.facts, Cert.GateBRefIdeal.Gen.facts, Cert.GmlpB.Gen.facts, Cert.GmlpBIdeal.Gen.facts, Cert.GmlpBRefIdeal.Gen.facts, Cert.OutB.Gen.facts, Cert.OutBIdeal.Gen.facts, Cert.OutBRefIdeal.Gen.facts, Cert.OutW.Gen.facts, Cert.OutWIdeal.Gen.facts, Cert.OutWRefIdeal.Gen.facts, Cert.BranchB.Gen.facts, Cert.BranchBIdeal.Gen.facts, Cert.BranchBRefIdeal.Gen.facts, Cert.BranchW.Gen.facts, Cert.BranchWIdeal.Gen.facts, Cert.BranchWRefIdeal.Gen.facts, Cert.InB.Gen.facts, Cert.InBIdeal.Gen.facts, Cert.InBRefIdeal.Gen.facts, Cert.InW.Gen.facts, Cert.InWIdeal.Gen.facts, Cert.InWRefIdeal.Gen.facts, Cert.ConvLnB.Gen.facts, Cert.ConvLnBIdeal.Gen.facts, Cert.ConvLnBRefIdeal.Gen.facts, Cert.S5GluB.Gen.facts, Cert.S5GluBIdeal.Gen.facts, Cert.S5GluBRefIdeal.Gen.facts, Cert.S5ActB.Gen.facts, Cert.S5ActBIdeal.Gen.facts, Cert.S5ActBRefIdeal.Gen.facts, Cert.InP.Gen.facts, Cert.InPIdeal.Gen.facts, Cert.InPRefIdeal.Gen.facts, Cert.GateP.Gen.facts, Cert.GatePIdeal.Gen.facts, Cert.GatePRefIdeal.Gen.facts, Cert.BranchP.Gen.facts, Cert.BranchPIdeal.Gen.facts, Cert.BranchPRefIdeal.Gen.facts, Cert.OutP.Gen.facts, Cert.OutPIdeal.Gen.facts, Cert.OutPRefIdeal.Gen.facts, Cert.Ff1P.Gen.facts, Cert.Ff1PIdeal.Gen.facts, Cert.Ff1PRefIdeal.Gen.facts, Cert.Ff2P.Gen.facts, Cert.Ff2PIdeal.Gen.facts, Cert.Ff2PRefIdeal.Gen.facts, Cert.GluP.Gen.facts, Cert.GluPIdeal.Gen.facts, Cert.GluPRefIdeal.Gen.facts, Cert.GluPB.Gen.facts, Cert.GluPBIdeal.Gen.facts, Cert.GluPBRefIdeal.Gen.facts, Cert.GluPW.Gen.facts, Cert.GluPWIdeal.Gen.facts, Cert.GluPWRefIdeal.Gen.facts, Cert.MergeP.Gen.facts, Cert.MergePIdeal.Gen.facts, Cert.MergePRefIdeal.Gen.facts, Cert.S5ActP.Gen.facts, Cert.S5ActPIdeal.Gen.facts, Cert.S5ActPRefIdeal.Gen.facts, Cert.S5GluP.Gen.facts, Cert.S5GluPIdeal.Gen.facts, Cert.S5GluPRefIdeal.Gen.facts, Cert.Norm1P.Gen.facts, Cert.Norm1PIdeal.Gen.facts, Cert.Norm1PRefIdeal.Gen.facts, Cert.ResidP.Gen.facts, Cert.ResidPIdeal.Gen.facts, Cert.ResidPRefIdeal.Gen.facts, Cert.GmlpP.Gen.facts, Cert.GmlpPIdeal.Gen.facts, Cert.GmlpPRefIdeal.Gen.facts, Cert.S5InP.Gen.facts, Cert.S5InPIdeal.Gen.facts, Cert.S5InPRefIdeal.Gen.facts, Cert.S5OutP.Gen.facts, Cert.S5OutPIdeal.Gen.facts, Cert.S5OutPRefIdeal.Gen.facts, Cert.S5OutA.Gen.facts, Cert.S5OutAIdeal.Gen.facts, Cert.S5OutARefIdeal.Gen.facts, Cert.S5OutB.Gen.facts, Cert.S5OutBIdeal.Gen.facts, Cert.S5OutBRefIdeal.Gen.facts, Cert.S5OutW.Gen.facts, Cert.S5OutWIdeal.Gen.facts, Cert.S5OutWRefIdeal.Gen.facts, Cert.S5InB.Gen.facts, Cert.S5InBIdeal.Gen.facts, Cert.S5InBRefIdeal.Gen.facts, Cert.S5InW.Gen.facts, Cert.S5InWIdeal.Gen.facts, Cert.S5InWRefIdeal.Gen.facts, Cert.ConvF.Gen.facts, Cert.ConvFIdeal.Gen.facts, Cert.ConvFRefIdeal.Gen.facts, Cert.SiluP.Gen.facts, Cert.SiluPIdeal.Gen.facts, Cert.SiluPRefIdeal.Gen.facts, Cert.ModP.Gen.facts, Cert.ModPIdeal.Gen.facts, Cert.ModPRefIdeal.Gen.facts, Cert.ModW.Gen.facts, Cert.ModWIdeal.Gen.facts, Cert.ModWRefIdeal.Gen.facts, Cert.ModBG.Gen.facts, Cert.ModBGIdeal.Gen.facts, Cert.ModBGRefIdeal.Gen.facts, Cert.ModB.Gen.facts, Cert.ModBIdeal.Gen.facts, Cert.ModBRefIdeal.Gen.facts, Cert.ModBA.Gen.facts, Cert.ModBAIdeal.Gen.facts, Cert.ModBARefIdeal.Gen.facts, Cert.SiluB.Gen.facts, Cert.SiluBIdeal.Gen.facts, Cert.SiluBRefIdeal.Gen.facts, Cert.AdMod.Gen.facts, Cert.AdModIdeal.Gen.facts, Cert.AdModRefIdeal.Gen.facts, Cert.AdIn.Gen.facts, Cert.AdInIdeal.Gen.facts, Cert.AdInRefIdeal.Gen.facts, Cert.AdGlu.Gen.facts, Cert.AdGluIdeal.Gen.facts, Cert.AdGluRefIdeal.Gen.facts, Cert.AdBr.Gen.facts, Cert.AdBrIdeal.Gen.facts, Cert.AdBrRefIdeal.Gen.facts, Cert.AdFf.Gen.facts, Cert.AdFfIdeal.Gen.facts, Cert.AdFfRefIdeal.Gen.facts, Cert.AdOut.Gen.facts, Cert.AdOutIdeal.Gen.facts, Cert.AdOutRefIdeal.Gen.facts,
    frame_merge_b, frame_merge_b_ideal, frame_merge_b_ref, frame_ff2_b, frame_ff2_b_ideal, frame_ff2_b_ref, frame_ff2_w, frame_ff2_w_ideal, frame_ff2_w_ref, frame_ff1_b, frame_ff1_b_ideal, frame_ff1_b_ref, frame_ff1_w, frame_ff1_w_ideal, frame_ff1_w_ref, frame_gate_w, frame_gate_w_ideal, frame_gate_w_ref, frame_gate_b, frame_gate_b_ideal, frame_gate_b_ref, frame_gmlp_b, frame_gmlp_b_ideal, frame_gmlp_b_ref, frame_out_b, frame_out_b_ideal, frame_out_b_ref, frame_out_w, frame_out_w_ideal, frame_out_w_ref, frame_branch_b, frame_branch_b_ideal, frame_branch_b_ref, frame_branch_w, frame_branch_w_ideal, frame_branch_w_ref, frame_in_b, frame_in_b_ideal, frame_in_b_ref, frame_in_w, frame_in_w_ideal, frame_in_w_ref, frame_conv_ln_b, frame_conv_ln_b_ideal, frame_conv_ln_b_ref, frame_s5_glu_b, frame_s5_glu_b_ideal, frame_s5_glu_b_ref, frame_s5_act_b, frame_s5_act_b_ideal, frame_s5_act_b_ref, frame_in_proj, frame_in_proj_ideal, frame_in_proj_ref, frame_gate_proj, frame_gate_proj_ideal, frame_gate_proj_ref, frame_branch_proj, frame_branch_proj_ideal, frame_branch_proj_ref, frame_out_proj, frame_out_proj_ideal, frame_out_proj_ref, frame_ff1, frame_ff1_ideal, frame_ff1_ref, frame_ff2, frame_ff2_ideal, frame_ff2_ref, frame_s5_glu_proj, frame_s5_glu_proj_ideal, frame_s5_glu_proj_ref, frame_s5_glu_proj_b, frame_s5_glu_proj_b_ideal, frame_s5_glu_proj_b_ref, frame_s5_glu_proj_w, frame_s5_glu_proj_w_ideal, frame_s5_glu_proj_w_ref, frame_merge, frame_merge_ideal, frame_merge_ref, frame_s5_act, frame_s5_act_ideal, frame_s5_act_ref, frame_s5_glu, frame_s5_glu_ideal, frame_s5_glu_ref, frame_norm1, frame_norm1_ideal, frame_norm1_ref, frame_resid1, frame_resid1_ideal, frame_resid1_ref, frame_gmlp, frame_gmlp_ideal, frame_gmlp_ref, frame_s5_in, frame_s5_in_ideal, frame_s5_in_ref, frame_s5_out, frame_s5_out_ideal, frame_s5_out_ref, frame_s5_out_add, frame_s5_out_add_ideal, frame_s5_out_add_ref, frame_s5_out_b, frame_s5_out_b_ideal, frame_s5_out_b_ref, frame_s5_out_w, frame_s5_out_w_ideal, frame_s5_out_w_ref, frame_s5_in_b, frame_s5_in_b_ideal, frame_s5_in_b_ref, frame_s5_in_w, frame_s5_in_w_ideal, frame_s5_in_w_ref, frame_conv_f, frame_conv_f_ideal, frame_conv_f_ref, frame_silu_c, frame_silu_c_ideal, frame_silu_c_ref, frame_mod_proj, frame_mod_proj_ideal, frame_mod_proj_ref, frame_mod_w, frame_mod_w_ideal, frame_mod_w_ref, frame_mod_bias_g, frame_mod_bias_g_ideal, frame_mod_bias_g_ref, frame_mod_b, frame_mod_b_ideal, frame_mod_b_ref, frame_mod_b_acc, frame_mod_b_acc_ideal, frame_mod_b_acc_ref, frame_silu_c_b, frame_silu_c_b_ideal, frame_silu_c_b_ref, frame_adamw_mod, frame_adamw_mod_ideal, frame_adamw_mod_ref, frame_adamw_in, frame_adamw_in_ideal, frame_adamw_in_ref, frame_adamw_glu, frame_adamw_glu_ideal, frame_adamw_glu_ref, frame_adamw_branch, frame_adamw_branch_ideal, frame_adamw_branch_ref, frame_adamw_ff, frame_adamw_ff_ideal, frame_adamw_ff_ref, frame_adamw_out, frame_adamw_out_ideal, frame_adamw_out_ref, trivial, algebraic_merge_b, trivial, algebraic_ff2_b, trivial, algebraic_ff2_w, trivial, algebraic_ff1_b, trivial, algebraic_ff1_w, trivial, algebraic_gate_w, trivial, algebraic_gate_b, trivial, algebraic_gmlp_b, trivial, algebraic_out_b, trivial, algebraic_out_w, trivial, algebraic_branch_b, trivial, algebraic_branch_w, trivial, algebraic_in_b, trivial, algebraic_in_w, trivial, algebraic_conv_ln_b, trivial, algebraic_s5_glu_b, trivial, algebraic_s5_act_b, trivial, algebraic_in_proj, trivial, algebraic_gate_proj, trivial, algebraic_branch_proj, trivial, algebraic_out_proj, trivial, algebraic_ff1, trivial, algebraic_ff2, trivial, algebraic_s5_glu_proj, trivial, algebraic_s5_glu_proj_b, trivial, algebraic_s5_glu_proj_w, trivial, algebraic_merge, trivial, algebraic_s5_act, trivial, algebraic_s5_glu, trivial, algebraic_norm1, trivial, algebraic_resid1, trivial, algebraic_gmlp, trivial, algebraic_s5_in, trivial, algebraic_s5_out, trivial, algebraic_s5_out_add, trivial, algebraic_s5_out_b, trivial, algebraic_s5_out_w, trivial, algebraic_s5_in_b, trivial, algebraic_s5_in_w, trivial, algebraic_conv_f, trivial, algebraic_silu_c, trivial, algebraic_mod_proj, trivial, algebraic_mod_w, trivial, algebraic_mod_bias_g, trivial, algebraic_mod_b, trivial, algebraic_mod_b_acc, trivial, algebraic_silu_c_b, trivial, algebraic_adamw_mod, trivial, algebraic_adamw_in, trivial, algebraic_adamw_glu, trivial, algebraic_adamw_branch, trivial, algebraic_adamw_ff, trivial, algebraic_adamw_out⟩

end Cert.Proof

end
